-- ==== Defs.lean ====
def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_finite_qk [hPre_finite_qk : Cert.Pre_finite_qk.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_finite_qk.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).1 = (fun _ => 1#1)
    ∧ (Cert.Pre_finite_qk.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).2.1 = (fun _ => 1#1)
    ∧ (Cert.Pre_finite_qk.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).2.2 = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_finite_qk [hPre_finite_qk : Cert.Pre_finite_qk.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_finite_qk.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2))).1 = (fun _ => 1#1)
    ∧ (Cert.Pre_finite_qk.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2))).2.1 = (fun _ => 1#1)
    ∧ (Cert.Pre_finite_qk.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2))).2.2 = (fun _ => 1#1)

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxIdeal_finite_gate [hPre_finite_gate : Cert.Pre_finite_gate.Facts] (m : (ℓ : Loc Cert.OutDxIdeal.nD Cert.OutDxIdeal.τ Cert.OutDxIdeal.sig) → Buf (Elt Ideal) ℓ) : Prop :=
  ∀ c : Dev Cert.OutDxIdeal.nD,
    (Cert.Pre_finite_gate.fn (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (m ((c.tc : Thread Cert.OutDxIdeal.nD Cert.OutDxIdeal.τ).loc Cert.OutDxIdeal.main_arg2)) (m ((c.tc : Thread Cert.OutDxIdeal.nD Cert.OutDxIdeal.τ).loc Cert.OutDxIdeal.main_arg3))).1 = (fun _ => 1#1)
    ∧ (Cert.Pre_finite_gate.fn (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (m ((c.tc : Thread Cert.OutDxIdeal.nD Cert.OutDxIdeal.τ).loc Cert.OutDxIdeal.main_arg2)) (m ((c.tc : Thread Cert.OutDxIdeal.nD Cert.OutDxIdeal.τ).loc Cert.OutDxIdeal.main_arg3))).2.1 = (fun _ => 1#1)
    ∧ (Cert.Pre_finite_gate.fn (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (m ((c.tc : Thread Cert.OutDxIdeal.nD Cert.OutDxIdeal.τ).loc Cert.OutDxIdeal.main_arg2)) (m ((c.tc : Thread Cert.OutDxIdeal.nD Cert.OutDxIdeal.τ).loc Cert.OutDxIdeal.main_arg3))).2.2 = (fun _ => 1#1)

def Pre_OutDxRefIdeal (m : (ℓ : Loc Cert.OutDxRefIdeal.nD Cert.OutDxRefIdeal.τ Cert.OutDxRefIdeal.sig) → Buf (Elt Ideal) ℓ) : Prop :=
  True

def Pre_OutDxRefIdeal_finite_gate [hPre_finite_gate : Cert.Pre_finite_gate.Facts] (m : (ℓ : Loc Cert.OutDxRefIdeal.nD Cert.OutDxRefIdeal.τ Cert.OutDxRefIdeal.sig) → Buf (Elt Ideal) ℓ) : Prop :=
  ∀ c : Dev Cert.OutDxRefIdeal.nD,
    (Cert.Pre_finite_gate.fn (F := Ideal) (m ((c.tc : Thread Cert.OutDxRefIdeal.nD Cert.OutDxRefIdeal.τ).loc Cert.OutDxRefIdeal.main_arg0)) (m ((c.tc : Thread Cert.OutDxRefIdeal.nD Cert.OutDxRefIdeal.τ).loc Cert.OutDxRefIdeal.main_arg1)) (m ((c.tc : Thread Cert.OutDxRefIdeal.nD Cert.OutDxRefIdeal.τ).loc Cert.OutDxRefIdeal.main_arg2)) (m ((c.tc : Thread Cert.OutDxRefIdeal.nD Cert.OutDxRefIdeal.τ).loc Cert.OutDxRefIdeal.main_arg3))).1 = (fun _ => 1#1)
    ∧ (Cert.Pre_finite_gate.fn (F := Ideal) (m ((c.tc : Thread Cert.OutDxRefIdeal.nD Cert.OutDxRefIdeal.τ).loc Cert.OutDxRefIdeal.main_arg0)) (m ((c.tc : Thread Cert.OutDxRefIdeal.nD Cert.OutDxRefIdeal.τ).loc Cert.OutDxRefIdeal.main_arg1)) (m ((c.tc : Thread Cert.OutDxRefIdeal.nD Cert.OutDxRefIdeal.τ).loc Cert.OutDxRefIdeal.main_arg2)) (m ((c.tc : Thread Cert.OutDxRefIdeal.nD Cert.OutDxRefIdeal.τ).loc Cert.OutDxRefIdeal.main_arg3))).2.1 = (fun _ => 1#1)
    ∧ (Cert.Pre_finite_gate.fn (F := Ideal) (m ((c.tc : Thread Cert.OutDxRefIdeal.nD Cert.OutDxRefIdeal.τ).loc Cert.OutDxRefIdeal.main_arg0)) (m ((c.tc : Thread Cert.OutDxRefIdeal.nD Cert.OutDxRefIdeal.τ).loc Cert.OutDxRefIdeal.main_arg1)) (m ((c.tc : Thread Cert.OutDxRefIdeal.nD Cert.OutDxRefIdeal.τ).loc Cert.OutDxRefIdeal.main_arg2)) (m ((c.tc : Thread Cert.OutDxRefIdeal.nD Cert.OutDxRefIdeal.τ).loc Cert.OutDxRefIdeal.main_arg3))).2.2 = (fun _ => 1#1)

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_SOutDx (m : (ℓ : Loc Cert.SOutDx.nD Cert.SOutDx.τ Cert.SOutDx.sig) → Buf (Elt Bits) ℓ) : Prop :=
  True

def Pre_SOutDxIdeal (m : (ℓ : Loc Cert.SOutDxIdeal.nD Cert.SOutDxIdeal.τ Cert.SOutDxIdeal.sig) → Buf (Elt Ideal) ℓ) : Prop :=
  True

def Pre_SOutDxRefIdeal (m : (ℓ : Loc Cert.SOutDxRefIdeal.nD Cert.SOutDxRefIdeal.τ Cert.SOutDxRefIdeal.sig) → Buf (Elt Ideal) ℓ) : Prop :=
  True

def Pre_SOutDw (m : (ℓ : Loc Cert.SOutDw.nD Cert.SOutDw.τ Cert.SOutDw.sig) → Buf (Elt Bits) ℓ) : Prop :=
  True

def Pre_SOutDwIdeal (m : (ℓ : Loc Cert.SOutDwIdeal.nD Cert.SOutDwIdeal.τ Cert.SOutDwIdeal.sig) → Buf (Elt Ideal) ℓ) : Prop :=
  True

def Pre_SOutDwRefIdeal (m : (ℓ : Loc Cert.SOutDwRefIdeal.nD Cert.SOutDwRefIdeal.τ Cert.SOutDwRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxIdeal_finite_glu [hPre_finite_glu : Cert.Pre_finite_glu.Facts] (m : (ℓ : Loc Cert.GluDxIdeal.nD Cert.GluDxIdeal.τ Cert.GluDxIdeal.sig) → Buf (Elt Ideal) ℓ) : Prop :=
  ∀ c : Dev Cert.GluDxIdeal.nD,
    (Cert.Pre_finite_glu.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2)) (m ((c.tc : Thread Cert.GluDxIdeal.nD Cert.GluDxIdeal.τ).loc Cert.GluDxIdeal.main_arg3))).1 = (fun _ => 1#1)
    ∧ (Cert.Pre_finite_glu.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2)) (m ((c.tc : Thread Cert.GluDxIdeal.nD Cert.GluDxIdeal.τ).loc Cert.GluDxIdeal.main_arg3))).2.1 = (fun _ => 1#1)
    ∧ (Cert.Pre_finite_glu.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2)) (m ((c.tc : Thread Cert.GluDxIdeal.nD Cert.GluDxIdeal.τ).loc Cert.GluDxIdeal.main_arg3))).2.2 = (fun _ => 1#1)

def Pre_GluDxRefIdeal (m : (ℓ : Loc Cert.GluDxRefIdeal.nD Cert.GluDxRefIdeal.τ Cert.GluDxRefIdeal.sig) → Buf (Elt Ideal) ℓ) : Prop :=
  True

def Pre_GluDxRefIdeal_finite_glu [hPre_finite_glu : Cert.Pre_finite_glu.Facts] (m : (ℓ : Loc Cert.GluDxRefIdeal.nD Cert.GluDxRefIdeal.τ Cert.GluDxRefIdeal.sig) → Buf (Elt Ideal) ℓ) : Prop :=
  ∀ c : Dev Cert.GluDxRefIdeal.nD,
    (Cert.Pre_finite_glu.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1)) (m ((c.tc : Thread Cert.GluDxRefIdeal.nD Cert.GluDxRefIdeal.τ).loc Cert.GluDxRefIdeal.main_arg2)) (m ((c.tc : Thread Cert.GluDxRefIdeal.nD Cert.GluDxRefIdeal.τ).loc Cert.GluDxRefIdeal.main_arg3))).1 = (fun _ => 1#1)
    ∧ (Cert.Pre_finite_glu.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1)) (m ((c.tc : Thread Cert.GluDxRefIdeal.nD Cert.GluDxRefIdeal.τ).loc Cert.GluDxRefIdeal.main_arg2)) (m ((c.tc : Thread Cert.GluDxRefIdeal.nD Cert.GluDxRefIdeal.τ).loc Cert.GluDxRefIdeal.main_arg3))).2.1 = (fun _ => 1#1)
    ∧ (Cert.Pre_finite_glu.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1)) (m ((c.tc : Thread Cert.GluDxRefIdeal.nD Cert.GluDxRefIdeal.τ).loc Cert.GluDxRefIdeal.main_arg2)) (m ((c.tc : Thread Cert.GluDxRefIdeal.nD Cert.GluDxRefIdeal.τ).loc Cert.GluDxRefIdeal.main_arg3))).2.2 = (fun _ => 1#1)

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_FDx (m : (ℓ : Loc Cert.FDx.nD Cert.FDx.τ Cert.FDx.sig) → Buf (Elt Bits) ℓ) : Prop :=
  True

def Pre_FDxIdeal (m : (ℓ : Loc Cert.FDxIdeal.nD Cert.FDxIdeal.τ Cert.FDxIdeal.sig) → Buf (Elt Ideal) ℓ) : Prop :=
  True

def Pre_FDxRefIdeal (m : (ℓ : Loc Cert.FDxRefIdeal.nD Cert.FDxRefIdeal.τ Cert.FDxRefIdeal.sig) → Buf (Elt Ideal) ℓ) : Prop :=
  True

def Pre_FDw (m : (ℓ : Loc Cert.FDw.nD Cert.FDw.τ Cert.FDw.sig) → Buf (Elt Bits) ℓ) : Prop :=
  True

def Pre_FDwIdeal (m : (ℓ : Loc Cert.FDwIdeal.nD Cert.FDwIdeal.τ Cert.FDwIdeal.sig) → Buf (Elt Ideal) ℓ) : Prop :=
  True

def Pre_FDwRefIdeal (m : (ℓ : Loc Cert.FDwRefIdeal.nD Cert.FDwRefIdeal.τ Cert.FDwRefIdeal.sig) → Buf (Elt Ideal) ℓ) : Prop :=
  True

def Pre_SIn (m : (ℓ : Loc Cert.SIn.nD Cert.SIn.τ Cert.SIn.sig) → Buf (Elt Bits) ℓ) : Prop :=
  True

def Pre_SInIdeal (m : (ℓ : Loc Cert.SInIdeal.nD Cert.SInIdeal.τ Cert.SInIdeal.sig) → Buf (Elt Ideal) ℓ) : Prop :=
  True

def Pre_SInRefIdeal (m : (ℓ : Loc Cert.SInRefIdeal.nD Cert.SInRefIdeal.τ Cert.SInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_SOut (m : (ℓ : Loc Cert.SOut.nD Cert.SOut.τ Cert.SOut.sig) → Buf (Elt Bits) ℓ) : Prop :=
  True

def Pre_SOutIdeal (m : (ℓ : Loc Cert.SOutIdeal.nD Cert.SOutIdeal.τ Cert.SOutIdeal.sig) → Buf (Elt Ideal) ℓ) : Prop :=
  True

def Pre_SOutRefIdeal (m : (ℓ : Loc Cert.SOutRefIdeal.nD Cert.SOutRefIdeal.τ Cert.SOutRefIdeal.sig) → Buf (Elt Ideal) ℓ) : Prop :=
  True

def Pre_FOut (m : (ℓ : Loc Cert.FOut.nD Cert.FOut.τ Cert.FOut.sig) → Buf (Elt Bits) ℓ) : Prop :=
  True

def Pre_FOutIdeal (m : (ℓ : Loc Cert.FOutIdeal.nD Cert.FOutIdeal.τ Cert.FOutIdeal.sig) → Buf (Elt Ideal) ℓ) : Prop :=
  True

def Pre_FOutRefIdeal (m : (ℓ : Loc Cert.FOutRefIdeal.nD Cert.FOutRefIdeal.τ Cert.FOutRefIdeal.sig) → Buf (Elt Ideal) ℓ) : Prop :=
  True

def Pre_FProj (m : (ℓ : Loc Cert.FProj.nD Cert.FProj.τ Cert.FProj.sig) → Buf (Elt Bits) ℓ) : Prop :=
  True

def Pre_FProjIdeal (m : (ℓ : Loc Cert.FProjIdeal.nD Cert.FProjIdeal.τ Cert.FProjIdeal.sig) → Buf (Elt Ideal) ℓ) : Prop :=
  True

def Pre_FProjRefIdeal (m : (ℓ : Loc Cert.FProjRefIdeal.nD Cert.FProjRefIdeal.τ Cert.FProjRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_s5_gate [hPre_finite_s5_gate : Cert.Pre_finite_s5_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_s5_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))).1 = (fun _ => 1#1)
    ∧ (Cert.Pre_finite_s5_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))).2 = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite_s5_gate [hPre_finite_s5_gate : Cert.Pre_finite_s5_gate.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite_s5_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))).1 = (fun _ => 1#1)
    ∧ (Cert.Pre_finite_s5_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))).2 = (fun _ => 1#1)

def Pre_CumBwd (m : (ℓ : Loc Cert.CumBwd.nD Cert.CumBwd.τ Cert.CumBwd.sig) → Buf (Elt Bits) ℓ) : Prop :=
  True

def Pre_CumBwdIdeal (m : (ℓ : Loc Cert.CumBwdIdeal.nD Cert.CumBwdIdeal.τ Cert.CumBwdIdeal.sig) → Buf (Elt Ideal) ℓ) : Prop :=
  True

def Pre_CumBwdIdeal_finite_dcum [hPre_finite_dcum : Cert.Pre_finite_dcum.Facts] (m : (ℓ : Loc Cert.CumBwdIdeal.nD Cert.CumBwdIdeal.τ Cert.CumBwdIdeal.sig) → Buf (Elt Ideal) ℓ) : Prop :=
  ∀ c : Dev Cert.CumBwdIdeal.nD,
    (Cert.Pre_finite_dcum.fn (F := Ideal) (m ((c.tc : Thread Cert.CumBwdIdeal.nD Cert.CumBwdIdeal.τ).loc Cert.CumBwdIdeal.main_arg0)) (m ((c.tc : Thread Cert.CumBwdIdeal.nD Cert.CumBwdIdeal.τ).loc Cert.CumBwdIdeal.main_arg1)) (m ((c.tc : Thread Cert.CumBwdIdeal.nD Cert.CumBwdIdeal.τ).loc Cert.CumBwdIdeal.main_arg2))) = (fun _ => 1#1)

def Pre_CumBwdRefIdeal (m : (ℓ : Loc Cert.CumBwdRefIdeal.nD Cert.CumBwdRefIdeal.τ Cert.CumBwdRefIdeal.sig) → Buf (Elt Ideal) ℓ) : Prop :=
  True

def Pre_CumBwdRefIdeal_finite_dcum [hPre_finite_dcum : Cert.Pre_finite_dcum.Facts] (m : (ℓ : Loc Cert.CumBwdRefIdeal.nD Cert.CumBwdRefIdeal.τ Cert.CumBwdRefIdeal.sig) → Buf (Elt Ideal) ℓ) : Prop :=
  ∀ c : Dev Cert.CumBwdRefIdeal.nD,
    (Cert.Pre_finite_dcum.fn (F := Ideal) (m ((c.tc : Thread Cert.CumBwdRefIdeal.nD Cert.CumBwdRefIdeal.τ).loc Cert.CumBwdRefIdeal.main_arg0)) (m ((c.tc : Thread Cert.CumBwdRefIdeal.nD Cert.CumBwdRefIdeal.τ).loc Cert.CumBwdRefIdeal.main_arg1)) (m ((c.tc : Thread Cert.CumBwdRefIdeal.nD Cert.CumBwdRefIdeal.τ).loc Cert.CumBwdRefIdeal.main_arg2))) = (fun _ => 1#1)

def Pre_CumFwd (m : (ℓ : Loc Cert.CumFwd.nD Cert.CumFwd.τ Cert.CumFwd.sig) → Buf (Elt Bits) ℓ) : Prop :=
  True

def Pre_CumFwdIdeal (m : (ℓ : Loc Cert.CumFwdIdeal.nD Cert.CumFwdIdeal.τ Cert.CumFwdIdeal.sig) → Buf (Elt Ideal) ℓ) : Prop :=
  True

def Pre_CumFwdRefIdeal (m : (ℓ : Loc Cert.CumFwdRefIdeal.nD Cert.CumFwdRefIdeal.τ Cert.CumFwdRefIdeal.sig) → Buf (Elt Ideal) ℓ) : Prop :=
  True

def Pre_MidNorms (m : (ℓ : Loc Cert.MidNorms.nD Cert.MidNorms.τ Cert.MidNorms.sig) → Buf (Elt Bits) ℓ) : Prop :=
  True

def Pre_MidNormsIdeal (m : (ℓ : Loc Cert.MidNormsIdeal.nD Cert.MidNormsIdeal.τ Cert.MidNormsIdeal.sig) → Buf (Elt Ideal) ℓ) : Prop :=
  True

def Pre_MidNormsRefIdeal (m : (ℓ : Loc Cert.MidNormsRefIdeal.nD Cert.MidNormsRefIdeal.τ Cert.MidNormsRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttFwdIdeal_pre_finite_qk [hAttFwdIdeal : Cert.AttFwdIdeal.Facts] [hPre_finite_qk : Cert.Pre_finite_qk.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_finite_qk m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2))
      ∧ r.2.sem = fun _ => 0)

def quiescent_AttFwdRefIdeal_pre_finite_qk [hAttFwdRefIdeal : Cert.AttFwdRefIdeal.Facts] [hPre_finite_qk : Cert.Pre_finite_qk.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_finite_qk m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxIdeal_pre_finite_gate [hOutDxIdeal : Cert.OutDxIdeal.Facts] [hPre_finite_gate : Cert.Pre_finite_gate.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal_finite_gate m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2)
      ∧ r.2.mem ((c.tc : Thread Cert.OutDxRefIdeal.nD Cert.OutDxRefIdeal.τ).loc Cert.OutDxRefIdeal.main_arg3) = m ((c.tc : Thread Cert.OutDxRefIdeal.nD Cert.OutDxRefIdeal.τ).loc Cert.OutDxRefIdeal.main_arg3))
      ∧ r.2.sem = fun _ => 0)

def quiescent_OutDxRefIdeal_pre_finite_gate [hOutDxRefIdeal : Cert.OutDxRefIdeal.Facts] [hPre_finite_gate : Cert.Pre_finite_gate.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal_finite_gate m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2)
      ∧ r.2.mem ((c.tc : Thread Cert.OutDxRefIdeal.nD Cert.OutDxRefIdeal.τ).loc Cert.OutDxRefIdeal.main_arg3) = m ((c.tc : Thread Cert.OutDxRefIdeal.nD Cert.OutDxRefIdeal.τ).loc Cert.OutDxRefIdeal.main_arg3))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2)
      ∧ r.2.mem ((c.tc : Thread Cert.KvDx.nD Cert.KvDx.τ).loc Cert.KvDx.main_arg3) = m ((c.tc : Thread Cert.KvDx.nD Cert.KvDx.τ).loc Cert.KvDx.main_arg3))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1)
      ∧ r.2.mem ((c.tc : Thread Cert.KvDw.nD Cert.KvDw.τ).loc Cert.KvDw.main_arg2) = m ((c.tc : Thread Cert.KvDw.nD Cert.KvDw.τ).loc Cert.KvDw.main_arg2))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
      ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1)
      ∧ r.2.mem ((c.tc : Thread Cert.KvDwRefIdeal.nD Cert.KvDwRefIdeal.τ).loc Cert.KvDwRefIdeal.main_arg2) = m ((c.tc : Thread Cert.KvDwRefIdeal.nD Cert.KvDwRefIdeal.τ).loc Cert.KvDwRefIdeal.main_arg2))
      ∧ r.2.sem = fun _ => 0)

def quiescent_SOutDx [hSOutDx : Cert.SOutDx.Facts] : Prop :=
  ∀ (m : (ℓ : Loc Cert.SOutDx.nD Cert.SOutDx.τ Cert.SOutDx.sig) → Buf (Elt Bits) ℓ) (g : Dev Cert.SOutDx.nD → PrngReg), Pre_SOutDx m →
    θ_run (Cert.SOutDx.defs (F := Bits)) (onTc (τ := Cert.SOutDx.τ) (Cert.SOutDx.main (F := Bits))) ⟨m, fun _ => 0, g⟩ (fun r => (∀ c : Dev Cert.SOutDx.nD,
      r.2.mem ((c.tc : Thread Cert.SOutDx.nD Cert.SOutDx.τ).loc Cert.SOutDx.main_arg0) = m ((c.tc : Thread Cert.SOutDx.nD Cert.SOutDx.τ).loc Cert.SOutDx.main_arg0)
      ∧ r.2.mem ((c.tc : Thread Cert.SOutDx.nD Cert.SOutDx.τ).loc Cert.SOutDx.main_arg1) = m ((c.tc : Thread Cert.SOutDx.nD Cert.SOutDx.τ).loc Cert.SOutDx.main_arg1))
      ∧ r.2.sem = fun _ => 0)

def quiescent_SOutDxIdeal [hSOutDxIdeal : Cert.SOutDxIdeal.Facts] : Prop :=
  ∀ (m : (ℓ : Loc Cert.SOutDxIdeal.nD Cert.SOutDxIdeal.τ Cert.SOutDxIdeal.sig) → Buf (Elt Ideal) ℓ) (g : Dev Cert.SOutDxIdeal.nD → PrngReg), Pre_SOutDxIdeal m →
    θ_run (Cert.SOutDxIdeal.defs (F := Ideal)) (onTc (τ := Cert.SOutDxIdeal.τ) (Cert.SOutDxIdeal.main (F := Ideal))) ⟨m, fun _ => 0, g⟩ (fun r => (∀ c : Dev Cert.SOutDxIdeal.nD,
      r.2.mem ((c.tc : Thread Cert.SOutDxIdeal.nD Cert.SOutDxIdeal.τ).loc Cert.SOutDxIdeal.main_arg0) = m ((c.tc : Thread Cert.SOutDxIdeal.nD Cert.SOutDxIdeal.τ).loc Cert.SOutDxIdeal.main_arg0)
      ∧ r.2.mem ((c.tc : Thread Cert.SOutDxIdeal.nD Cert.SOutDxIdeal.τ).loc Cert.SOutDxIdeal.main_arg1) = m ((c.tc : Thread Cert.SOutDxIdeal.nD Cert.SOutDxIdeal.τ).loc Cert.SOutDxIdeal.main_arg1))
      ∧ r.2.sem = fun _ => 0)

def quiescent_SOutDxRefIdeal [hSOutDxRefIdeal : Cert.SOutDxRefIdeal.Facts] : Prop :=
  ∀ (m : (ℓ : Loc Cert.SOutDxRefIdeal.nD Cert.SOutDxRefIdeal.τ Cert.SOutDxRefIdeal.sig) → Buf (Elt Ideal) ℓ) (g : Dev Cert.SOutDxRefIdeal.nD → PrngReg), Pre_SOutDxRefIdeal m →
    θ_run (Cert.SOutDxRefIdeal.defs (F := Ideal)) (onTc (τ := Cert.SOutDxRefIdeal.τ) (Cert.SOutDxRefIdeal.main (F := Ideal))) ⟨m, fun _ => 0, g⟩ (fun r => (∀ c : Dev Cert.SOutDxRefIdeal.nD,
      r.2.mem ((c.tc : Thread Cert.SOutDxRefIdeal.nD Cert.SOutDxRefIdeal.τ).loc Cert.SOutDxRefIdeal.main_arg0) = m ((c.tc : Thread Cert.SOutDxRefIdeal.nD Cert.SOutDxRefIdeal.τ).loc Cert.SOutDxRefIdeal.main_arg0)
      ∧ r.2.mem ((c.tc : Thread Cert.SOutDxRefIdeal.nD Cert.SOutDxRefIdeal.τ).loc Cert.SOutDxRefIdeal.main_arg1) = m ((c.tc : Thread Cert.SOutDxRefIdeal.nD Cert.SOutDxRefIdeal.τ).loc Cert.SOutDxRefIdeal.main_arg1))
      ∧ r.2.sem = fun _ => 0)

def quiescent_SOutDw [hSOutDw : Cert.SOutDw.Facts] : Prop :=
  ∀ (m : (ℓ : Loc Cert.SOutDw.nD Cert.SOutDw.τ Cert.SOutDw.sig) → Buf (Elt Bits) ℓ) (g : Dev Cert.SOutDw.nD → PrngReg), Pre_SOutDw m →
    θ_run (Cert.SOutDw.defs (F := Bits)) (onTc (τ := Cert.SOutDw.τ) (Cert.SOutDw.main (F := Bits))) ⟨m, fun _ => 0, g⟩ (fun r => (∀ c : Dev Cert.SOutDw.nD,
      r.2.mem ((c.tc : Thread Cert.SOutDw.nD Cert.SOutDw.τ).loc Cert.SOutDw.main_arg0) = m ((c.tc : Thread Cert.SOutDw.nD Cert.SOutDw.τ).loc Cert.SOutDw.main_arg0)
      ∧ r.2.mem ((c.tc : Thread Cert.SOutDw.nD Cert.SOutDw.τ).loc Cert.SOutDw.main_arg1) = m ((c.tc : Thread Cert.SOutDw.nD Cert.SOutDw.τ).loc Cert.SOutDw.main_arg1))
      ∧ r.2.sem = fun _ => 0)

def quiescent_SOutDwIdeal [hSOutDwIdeal : Cert.SOutDwIdeal.Facts] : Prop :=
  ∀ (m : (ℓ : Loc Cert.SOutDwIdeal.nD Cert.SOutDwIdeal.τ Cert.SOutDwIdeal.sig) → Buf (Elt Ideal) ℓ) (g : Dev Cert.SOutDwIdeal.nD → PrngReg), Pre_SOutDwIdeal m →
    θ_run (Cert.SOutDwIdeal.defs (F := Ideal)) (onTc (τ := Cert.SOutDwIdeal.τ) (Cert.SOutDwIdeal.main (F := Ideal))) ⟨m, fun _ => 0, g⟩ (fun r => (∀ c : Dev Cert.SOutDwIdeal.nD,
      r.2.mem ((c.tc : Thread Cert.SOutDwIdeal.nD Cert.SOutDwIdeal.τ).loc Cert.SOutDwIdeal.main_arg0) = m ((c.tc : Thread Cert.SOutDwIdeal.nD Cert.SOutDwIdeal.τ).loc Cert.SOutDwIdeal.main_arg0)
      ∧ r.2.mem ((c.tc : Thread Cert.SOutDwIdeal.nD Cert.SOutDwIdeal.τ).loc Cert.SOutDwIdeal.main_arg1) = m ((c.tc : Thread Cert.SOutDwIdeal.nD Cert.SOutDwIdeal.τ).loc Cert.SOutDwIdeal.main_arg1))
      ∧ r.2.sem = fun _ => 0)

def quiescent_SOutDwRefIdeal [hSOutDwRefIdeal : Cert.SOutDwRefIdeal.Facts] : Prop :=
  ∀ (m : (ℓ : Loc Cert.SOutDwRefIdeal.nD Cert.SOutDwRefIdeal.τ Cert.SOutDwRefIdeal.sig) → Buf (Elt Ideal) ℓ) (g : Dev Cert.SOutDwRefIdeal.nD → PrngReg), Pre_SOutDwRefIdeal m →
    θ_run (Cert.SOutDwRefIdeal.defs (F := Ideal)) (onTc (τ := Cert.SOutDwRefIdeal.τ) (Cert.SOutDwRefIdeal.main (F := Ideal))) ⟨m, fun _ => 0, g⟩ (fun r => (∀ c : Dev Cert.SOutDwRefIdeal.nD,
      r.2.mem ((c.tc : Thread Cert.SOutDwRefIdeal.nD Cert.SOutDwRefIdeal.τ).loc Cert.SOutDwRefIdeal.main_arg0) = m ((c.tc : Thread Cert.SOutDwRefIdeal.nD Cert.SOutDwRefIdeal.τ).loc Cert.SOutDwRefIdeal.main_arg0)
      ∧ r.2.mem ((c.tc : Thread Cert.SOutDwRefIdeal.nD Cert.SOutDwRefIdeal.τ).loc Cert.SOutDwRefIdeal.main_arg1) = m ((c.tc : Thread Cert.SOutDwRefIdeal.nD Cert.SOutDwRefIdeal.τ).loc Cert.SOutDwRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2)
      ∧ r.2.mem ((c.tc : Thread Cert.GluDx.nD Cert.GluDx.τ).loc Cert.GluDx.main_arg3) = m ((c.tc : Thread Cert.GluDx.nD Cert.GluDx.τ).loc Cert.GluDx.main_arg3))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
      ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3))
      ∧ r.2.sem = fun _ => 0)

def quiescent_GluDxIdeal_pre_finite_glu [hGluDxIdeal : Cert.GluDxIdeal.Facts] [hPre_finite_glu : Cert.Pre_finite_glu.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal_finite_glu m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
      ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2)
      ∧ r.2.mem ((c.tc : Thread Cert.GluDxRefIdeal.nD Cert.GluDxRefIdeal.τ).loc Cert.GluDxRefIdeal.main_arg3) = m ((c.tc : Thread Cert.GluDxRefIdeal.nD Cert.GluDxRefIdeal.τ).loc Cert.GluDxRefIdeal.main_arg3))
      ∧ r.2.sem = fun _ => 0)

def quiescent_GluDxRefIdeal_pre_finite_glu [hGluDxRefIdeal : Cert.GluDxRefIdeal.Facts] [hPre_finite_glu : Cert.Pre_finite_glu.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal_finite_glu m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2)
      ∧ r.2.mem ((c.tc : Thread Cert.GluDxRefIdeal.nD Cert.GluDxRefIdeal.τ).loc Cert.GluDxRefIdeal.main_arg3) = m ((c.tc : Thread Cert.GluDxRefIdeal.nD Cert.GluDxRefIdeal.τ).loc Cert.GluDxRefIdeal.main_arg3))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_FDx [hFDx : Cert.FDx.Facts] : Prop :=
  ∀ (m : (ℓ : Loc Cert.FDx.nD Cert.FDx.τ Cert.FDx.sig) → Buf (Elt Bits) ℓ) (g : Dev Cert.FDx.nD → PrngReg), Pre_FDx m →
    θ_run (Cert.FDx.defs (F := Bits)) (onTc (τ := Cert.FDx.τ) (Cert.FDx.main (F := Bits))) ⟨m, fun _ => 0, g⟩ (fun r => (∀ c : Dev Cert.FDx.nD,
      r.2.mem ((c.tc : Thread Cert.FDx.nD Cert.FDx.τ).loc Cert.FDx.main_arg0) = m ((c.tc : Thread Cert.FDx.nD Cert.FDx.τ).loc Cert.FDx.main_arg0)
      ∧ r.2.mem ((c.tc : Thread Cert.FDx.nD Cert.FDx.τ).loc Cert.FDx.main_arg1) = m ((c.tc : Thread Cert.FDx.nD Cert.FDx.τ).loc Cert.FDx.main_arg1))
      ∧ r.2.sem = fun _ => 0)

def quiescent_FDxIdeal [hFDxIdeal : Cert.FDxIdeal.Facts] : Prop :=
  ∀ (m : (ℓ : Loc Cert.FDxIdeal.nD Cert.FDxIdeal.τ Cert.FDxIdeal.sig) → Buf (Elt Ideal) ℓ) (g : Dev Cert.FDxIdeal.nD → PrngReg), Pre_FDxIdeal m →
    θ_run (Cert.FDxIdeal.defs (F := Ideal)) (onTc (τ := Cert.FDxIdeal.τ) (Cert.FDxIdeal.main (F := Ideal))) ⟨m, fun _ => 0, g⟩ (fun r => (∀ c : Dev Cert.FDxIdeal.nD,
      r.2.mem ((c.tc : Thread Cert.FDxIdeal.nD Cert.FDxIdeal.τ).loc Cert.FDxIdeal.main_arg0) = m ((c.tc : Thread Cert.FDxIdeal.nD Cert.FDxIdeal.τ).loc Cert.FDxIdeal.main_arg0)
      ∧ r.2.mem ((c.tc : Thread Cert.FDxIdeal.nD Cert.FDxIdeal.τ).loc Cert.FDxIdeal.main_arg1) = m ((c.tc : Thread Cert.FDxIdeal.nD Cert.FDxIdeal.τ).loc Cert.FDxIdeal.main_arg1))
      ∧ r.2.sem = fun _ => 0)

def quiescent_FDxRefIdeal [hFDxRefIdeal : Cert.FDxRefIdeal.Facts] : Prop :=
  ∀ (m : (ℓ : Loc Cert.FDxRefIdeal.nD Cert.FDxRefIdeal.τ Cert.FDxRefIdeal.sig) → Buf (Elt Ideal) ℓ) (g : Dev Cert.FDxRefIdeal.nD → PrngReg), Pre_FDxRefIdeal m →
    θ_run (Cert.FDxRefIdeal.defs (F := Ideal)) (onTc (τ := Cert.FDxRefIdeal.τ) (Cert.FDxRefIdeal.main (F := Ideal))) ⟨m, fun _ => 0, g⟩ (fun r => (∀ c : Dev Cert.FDxRefIdeal.nD,
      r.2.mem ((c.tc : Thread Cert.FDxRefIdeal.nD Cert.FDxRefIdeal.τ).loc Cert.FDxRefIdeal.main_arg0) = m ((c.tc : Thread Cert.FDxRefIdeal.nD Cert.FDxRefIdeal.τ).loc Cert.FDxRefIdeal.main_arg0)
      ∧ r.2.mem ((c.tc : Thread Cert.FDxRefIdeal.nD Cert.FDxRefIdeal.τ).loc Cert.FDxRefIdeal.main_arg1) = m ((c.tc : Thread Cert.FDxRefIdeal.nD Cert.FDxRefIdeal.τ).loc Cert.FDxRefIdeal.main_arg1))
      ∧ r.2.sem = fun _ => 0)

def quiescent_FDw [hFDw : Cert.FDw.Facts] : Prop :=
  ∀ (m : (ℓ : Loc Cert.FDw.nD Cert.FDw.τ Cert.FDw.sig) → Buf (Elt Bits) ℓ) (g : Dev Cert.FDw.nD → PrngReg), Pre_FDw m →
    θ_run (Cert.FDw.defs (F := Bits)) (onTc (τ := Cert.FDw.τ) (Cert.FDw.main (F := Bits))) ⟨m, fun _ => 0, g⟩ (fun r => (∀ c : Dev Cert.FDw.nD,
      r.2.mem ((c.tc : Thread Cert.FDw.nD Cert.FDw.τ).loc Cert.FDw.main_arg0) = m ((c.tc : Thread Cert.FDw.nD Cert.FDw.τ).loc Cert.FDw.main_arg0)
      ∧ r.2.mem ((c.tc : Thread Cert.FDw.nD Cert.FDw.τ).loc Cert.FDw.main_arg1) = m ((c.tc : Thread Cert.FDw.nD Cert.FDw.τ).loc Cert.FDw.main_arg1))
      ∧ r.2.sem = fun _ => 0)

def quiescent_FDwIdeal [hFDwIdeal : Cert.FDwIdeal.Facts] : Prop :=
  ∀ (m : (ℓ : Loc Cert.FDwIdeal.nD Cert.FDwIdeal.τ Cert.FDwIdeal.sig) → Buf (Elt Ideal) ℓ) (g : Dev Cert.FDwIdeal.nD → PrngReg), Pre_FDwIdeal m →
    θ_run (Cert.FDwIdeal.defs (F := Ideal)) (onTc (τ := Cert.FDwIdeal.τ) (Cert.FDwIdeal.main (F := Ideal))) ⟨m, fun _ => 0, g⟩ (fun r => (∀ c : Dev Cert.FDwIdeal.nD,
      r.2.mem ((c.tc : Thread Cert.FDwIdeal.nD Cert.FDwIdeal.τ).loc Cert.FDwIdeal.main_arg0) = m ((c.tc : Thread Cert.FDwIdeal.nD Cert.FDwIdeal.τ).loc Cert.FDwIdeal.main_arg0)
      ∧ r.2.mem ((c.tc : Thread Cert.FDwIdeal.nD Cert.FDwIdeal.τ).loc Cert.FDwIdeal.main_arg1) = m ((c.tc : Thread Cert.FDwIdeal.nD Cert.FDwIdeal.τ).loc Cert.FDwIdeal.main_arg1))
      ∧ r.2.sem = fun _ => 0)

def quiescent_FDwRefIdeal [hFDwRefIdeal : Cert.FDwRefIdeal.Facts] : Prop :=
  ∀ (m : (ℓ : Loc Cert.FDwRefIdeal.nD Cert.FDwRefIdeal.τ Cert.FDwRefIdeal.sig) → Buf (Elt Ideal) ℓ) (g : Dev Cert.FDwRefIdeal.nD → PrngReg), Pre_FDwRefIdeal m →
    θ_run (Cert.FDwRefIdeal.defs (F := Ideal)) (onTc (τ := Cert.FDwRefIdeal.τ) (Cert.FDwRefIdeal.main (F := Ideal))) ⟨m, fun _ => 0, g⟩ (fun r => (∀ c : Dev Cert.FDwRefIdeal.nD,
      r.2.mem ((c.tc : Thread Cert.FDwRefIdeal.nD Cert.FDwRefIdeal.τ).loc Cert.FDwRefIdeal.main_arg0) = m ((c.tc : Thread Cert.FDwRefIdeal.nD Cert.FDwRefIdeal.τ).loc Cert.FDwRefIdeal.main_arg0)
      ∧ r.2.mem ((c.tc : Thread Cert.FDwRefIdeal.nD Cert.FDwRefIdeal.τ).loc Cert.FDwRefIdeal.main_arg1) = m ((c.tc : Thread Cert.FDwRefIdeal.nD Cert.FDwRefIdeal.τ).loc Cert.FDwRefIdeal.main_arg1))
      ∧ r.2.sem = fun _ => 0)

def quiescent_SIn [hSIn : Cert.SIn.Facts] : Prop :=
  ∀ (m : (ℓ : Loc Cert.SIn.nD Cert.SIn.τ Cert.SIn.sig) → Buf (Elt Bits) ℓ) (g : Dev Cert.SIn.nD → PrngReg), Pre_SIn m →
    θ_run (Cert.SIn.defs (F := Bits)) (onTc (τ := Cert.SIn.τ) (Cert.SIn.main (F := Bits))) ⟨m, fun _ => 0, g⟩ (fun r => (∀ c : Dev Cert.SIn.nD,
      r.2.mem ((c.tc : Thread Cert.SIn.nD Cert.SIn.τ).loc Cert.SIn.main_arg0) = m ((c.tc : Thread Cert.SIn.nD Cert.SIn.τ).loc Cert.SIn.main_arg0)
      ∧ r.2.mem ((c.tc : Thread Cert.SIn.nD Cert.SIn.τ).loc Cert.SIn.main_arg1) = m ((c.tc : Thread Cert.SIn.nD Cert.SIn.τ).loc Cert.SIn.main_arg1))
      ∧ r.2.sem = fun _ => 0)

def quiescent_SInIdeal [hSInIdeal : Cert.SInIdeal.Facts] : Prop :=
  ∀ (m : (ℓ : Loc Cert.SInIdeal.nD Cert.SInIdeal.τ Cert.SInIdeal.sig) → Buf (Elt Ideal) ℓ) (g : Dev Cert.SInIdeal.nD → PrngReg), Pre_SInIdeal m →
    θ_run (Cert.SInIdeal.defs (F := Ideal)) (onTc (τ := Cert.SInIdeal.τ) (Cert.SInIdeal.main (F := Ideal))) ⟨m, fun _ => 0, g⟩ (fun r => (∀ c : Dev Cert.SInIdeal.nD,
      r.2.mem ((c.tc : Thread Cert.SInIdeal.nD Cert.SInIdeal.τ).loc Cert.SInIdeal.main_arg0) = m ((c.tc : Thread Cert.SInIdeal.nD Cert.SInIdeal.τ).loc Cert.SInIdeal.main_arg0)
      ∧ r.2.mem ((c.tc : Thread Cert.SInIdeal.nD Cert.SInIdeal.τ).loc Cert.SInIdeal.main_arg1) = m ((c.tc : Thread Cert.SInIdeal.nD Cert.SInIdeal.τ).loc Cert.SInIdeal.main_arg1))
      ∧ r.2.sem = fun _ => 0)

def quiescent_SInRefIdeal [hSInRefIdeal : Cert.SInRefIdeal.Facts] : Prop :=
  ∀ (m : (ℓ : Loc Cert.SInRefIdeal.nD Cert.SInRefIdeal.τ Cert.SInRefIdeal.sig) → Buf (Elt Ideal) ℓ) (g : Dev Cert.SInRefIdeal.nD → PrngReg), Pre_SInRefIdeal m →
    θ_run (Cert.SInRefIdeal.defs (F := Ideal)) (onTc (τ := Cert.SInRefIdeal.τ) (Cert.SInRefIdeal.main (F := Ideal))) ⟨m, fun _ => 0, g⟩ (fun r => (∀ c : Dev Cert.SInRefIdeal.nD,
      r.2.mem ((c.tc : Thread Cert.SInRefIdeal.nD Cert.SInRefIdeal.τ).loc Cert.SInRefIdeal.main_arg0) = m ((c.tc : Thread Cert.SInRefIdeal.nD Cert.SInRefIdeal.τ).loc Cert.SInRefIdeal.main_arg0)
      ∧ r.2.mem ((c.tc : Thread Cert.SInRefIdeal.nD Cert.SInRefIdeal.τ).loc Cert.SInRefIdeal.main_arg1) = m ((c.tc : Thread Cert.SInRefIdeal.nD Cert.SInRefIdeal.τ).loc Cert.SInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_SOut [hSOut : Cert.SOut.Facts] : Prop :=
  ∀ (m : (ℓ : Loc Cert.SOut.nD Cert.SOut.τ Cert.SOut.sig) → Buf (Elt Bits) ℓ) (g : Dev Cert.SOut.nD → PrngReg), Pre_SOut m →
    θ_run (Cert.SOut.defs (F := Bits)) (onTc (τ := Cert.SOut.τ) (Cert.SOut.main (F := Bits))) ⟨m, fun _ => 0, g⟩ (fun r => (∀ c : Dev Cert.SOut.nD,
      r.2.mem ((c.tc : Thread Cert.SOut.nD Cert.SOut.τ).loc Cert.SOut.main_arg0) = m ((c.tc : Thread Cert.SOut.nD Cert.SOut.τ).loc Cert.SOut.main_arg0)
      ∧ r.2.mem ((c.tc : Thread Cert.SOut.nD Cert.SOut.τ).loc Cert.SOut.main_arg1) = m ((c.tc : Thread Cert.SOut.nD Cert.SOut.τ).loc Cert.SOut.main_arg1))
      ∧ r.2.sem = fun _ => 0)

def quiescent_SOutIdeal [hSOutIdeal : Cert.SOutIdeal.Facts] : Prop :=
  ∀ (m : (ℓ : Loc Cert.SOutIdeal.nD Cert.SOutIdeal.τ Cert.SOutIdeal.sig) → Buf (Elt Ideal) ℓ) (g : Dev Cert.SOutIdeal.nD → PrngReg), Pre_SOutIdeal m →
    θ_run (Cert.SOutIdeal.defs (F := Ideal)) (onTc (τ := Cert.SOutIdeal.τ) (Cert.SOutIdeal.main (F := Ideal))) ⟨m, fun _ => 0, g⟩ (fun r => (∀ c : Dev Cert.SOutIdeal.nD,
      r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
      ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1))
      ∧ r.2.sem = fun _ => 0)

def quiescent_SOutRefIdeal [hSOutRefIdeal : Cert.SOutRefIdeal.Facts] : Prop :=
  ∀ (m : (ℓ : Loc Cert.SOutRefIdeal.nD Cert.SOutRefIdeal.τ Cert.SOutRefIdeal.sig) → Buf (Elt Ideal) ℓ) (g : Dev Cert.SOutRefIdeal.nD → PrngReg), Pre_SOutRefIdeal m →
    θ_run (Cert.SOutRefIdeal.defs (F := Ideal)) (onTc (τ := Cert.SOutRefIdeal.τ) (Cert.SOutRefIdeal.main (F := Ideal))) ⟨m, fun _ => 0, g⟩ (fun r => (∀ c : Dev Cert.SOutRefIdeal.nD,
      r.2.mem ((c.tc : Thread Cert.SOutRefIdeal.nD Cert.SOutRefIdeal.τ).loc Cert.SOutRefIdeal.main_arg0) = m ((c.tc : Thread Cert.SOutRefIdeal.nD Cert.SOutRefIdeal.τ).loc Cert.SOutRefIdeal.main_arg0)
      ∧ r.2.mem ((c.tc : Thread Cert.SOutRefIdeal.nD Cert.SOutRefIdeal.τ).loc Cert.SOutRefIdeal.main_arg1) = m ((c.tc : Thread Cert.SOutRefIdeal.nD Cert.SOutRefIdeal.τ).loc Cert.SOutRefIdeal.main_arg1))
      ∧ r.2.sem = fun _ => 0)

def quiescent_FOut [hFOut : Cert.FOut.Facts] : Prop :=
  ∀ (m : (ℓ : Loc Cert.FOut.nD Cert.FOut.τ Cert.FOut.sig) → Buf (Elt Bits) ℓ) (g : Dev Cert.FOut.nD → PrngReg), Pre_FOut m →
    θ_run (Cert.FOut.defs (F := Bits)) (onTc (τ := Cert.FOut.τ) (Cert.FOut.main (F := Bits))) ⟨m, fun _ => 0, g⟩ (fun r => (∀ c : Dev Cert.FOut.nD,
      r.2.mem ((c.tc : Thread Cert.FOut.nD Cert.FOut.τ).loc Cert.FOut.main_arg0) = m ((c.tc : Thread Cert.FOut.nD Cert.FOut.τ).loc Cert.FOut.main_arg0)
      ∧ r.2.mem ((c.tc : Thread Cert.FOut.nD Cert.FOut.τ).loc Cert.FOut.main_arg1) = m ((c.tc : Thread Cert.FOut.nD Cert.FOut.τ).loc Cert.FOut.main_arg1))
      ∧ r.2.sem = fun _ => 0)

def quiescent_FOutIdeal [hFOutIdeal : Cert.FOutIdeal.Facts] : Prop :=
  ∀ (m : (ℓ : Loc Cert.FOutIdeal.nD Cert.FOutIdeal.τ Cert.FOutIdeal.sig) → Buf (Elt Ideal) ℓ) (g : Dev Cert.FOutIdeal.nD → PrngReg), Pre_FOutIdeal m →
    θ_run (Cert.FOutIdeal.defs (F := Ideal)) (onTc (τ := Cert.FOutIdeal.τ) (Cert.FOutIdeal.main (F := Ideal))) ⟨m, fun _ => 0, g⟩ (fun r => (∀ c : Dev Cert.FOutIdeal.nD,
      r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
      ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1))
      ∧ r.2.sem = fun _ => 0)

def quiescent_FOutRefIdeal [hFOutRefIdeal : Cert.FOutRefIdeal.Facts] : Prop :=
  ∀ (m : (ℓ : Loc Cert.FOutRefIdeal.nD Cert.FOutRefIdeal.τ Cert.FOutRefIdeal.sig) → Buf (Elt Ideal) ℓ) (g : Dev Cert.FOutRefIdeal.nD → PrngReg), Pre_FOutRefIdeal m →
    θ_run (Cert.FOutRefIdeal.defs (F := Ideal)) (onTc (τ := Cert.FOutRefIdeal.τ) (Cert.FOutRefIdeal.main (F := Ideal))) ⟨m, fun _ => 0, g⟩ (fun r => (∀ c : Dev Cert.FOutRefIdeal.nD,
      r.2.mem ((c.tc : Thread Cert.FOutRefIdeal.nD Cert.FOutRefIdeal.τ).loc Cert.FOutRefIdeal.main_arg0) = m ((c.tc : Thread Cert.FOutRefIdeal.nD Cert.FOutRefIdeal.τ).loc Cert.FOutRefIdeal.main_arg0)
      ∧ r.2.mem ((c.tc : Thread Cert.FOutRefIdeal.nD Cert.FOutRefIdeal.τ).loc Cert.FOutRefIdeal.main_arg1) = m ((c.tc : Thread Cert.FOutRefIdeal.nD Cert.FOutRefIdeal.τ).loc Cert.FOutRefIdeal.main_arg1))
      ∧ r.2.sem = fun _ => 0)

def quiescent_FProj [hFProj : Cert.FProj.Facts] : Prop :=
  ∀ (m : (ℓ : Loc Cert.FProj.nD Cert.FProj.τ Cert.FProj.sig) → Buf (Elt Bits) ℓ) (g : Dev Cert.FProj.nD → PrngReg), Pre_FProj m →
    θ_run (Cert.FProj.defs (F := Bits)) (onTc (τ := Cert.FProj.τ) (Cert.FProj.main (F := Bits))) ⟨m, fun _ => 0, g⟩ (fun r => (∀ c : Dev Cert.FProj.nD,
      r.2.mem ((c.tc : Thread Cert.FProj.nD Cert.FProj.τ).loc Cert.FProj.main_arg0) = m ((c.tc : Thread Cert.FProj.nD Cert.FProj.τ).loc Cert.FProj.main_arg0)
      ∧ r.2.mem ((c.tc : Thread Cert.FProj.nD Cert.FProj.τ).loc Cert.FProj.main_arg1) = m ((c.tc : Thread Cert.FProj.nD Cert.FProj.τ).loc Cert.FProj.main_arg1))
      ∧ r.2.sem = fun _ => 0)

def quiescent_FProjIdeal [hFProjIdeal : Cert.FProjIdeal.Facts] : Prop :=
  ∀ (m : (ℓ : Loc Cert.FProjIdeal.nD Cert.FProjIdeal.τ Cert.FProjIdeal.sig) → Buf (Elt Ideal) ℓ) (g : Dev Cert.FProjIdeal.nD → PrngReg), Pre_FProjIdeal m →
    θ_run (Cert.FProjIdeal.defs (F := Ideal)) (onTc (τ := Cert.FProjIdeal.τ) (Cert.FProjIdeal.main (F := Ideal))) ⟨m, fun _ => 0, g⟩ (fun r => (∀ c : Dev Cert.FProjIdeal.nD,
      r.2.mem ((c.tc : Thread Cert.FProjIdeal.nD Cert.FProjIdeal.τ).loc Cert.FProjIdeal.main_arg0) = m ((c.tc : Thread Cert.FProjIdeal.nD Cert.FProjIdeal.τ).loc Cert.FProjIdeal.main_arg0)
      ∧ r.2.mem ((c.tc : Thread Cert.FProjIdeal.nD Cert.FProjIdeal.τ).loc Cert.FProjIdeal.main_arg1) = m ((c.tc : Thread Cert.FProjIdeal.nD Cert.FProjIdeal.τ).loc Cert.FProjIdeal.main_arg1))
      ∧ r.2.sem = fun _ => 0)

def quiescent_FProjRefIdeal [hFProjRefIdeal : Cert.FProjRefIdeal.Facts] : Prop :=
  ∀ (m : (ℓ : Loc Cert.FProjRefIdeal.nD Cert.FProjRefIdeal.τ Cert.FProjRefIdeal.sig) → Buf (Elt Ideal) ℓ) (g : Dev Cert.FProjRefIdeal.nD → PrngReg), Pre_FProjRefIdeal m →
    θ_run (Cert.FProjRefIdeal.defs (F := Ideal)) (onTc (τ := Cert.FProjRefIdeal.τ) (Cert.FProjRefIdeal.main (F := Ideal))) ⟨m, fun _ => 0, g⟩ (fun r => (∀ c : Dev Cert.FProjRefIdeal.nD,
      r.2.mem ((c.tc : Thread Cert.FProjRefIdeal.nD Cert.FProjRefIdeal.τ).loc Cert.FProjRefIdeal.main_arg0) = m ((c.tc : Thread Cert.FProjRefIdeal.nD Cert.FProjRefIdeal.τ).loc Cert.FProjRefIdeal.main_arg0)
      ∧ r.2.mem ((c.tc : Thread Cert.FProjRefIdeal.nD Cert.FProjRefIdeal.τ).loc Cert.FProjRefIdeal.main_arg1) = m ((c.tc : Thread Cert.FProjRefIdeal.nD Cert.FProjRefIdeal.τ).loc Cert.FProjRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdIdeal_pre_finite_s5_gate [hGateBwdIdeal : Cert.GateBwdIdeal.Facts] [hPre_finite_s5_gate : Cert.Pre_finite_s5_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_s5_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_GateBwdRefIdeal_pre_finite_s5_gate [hGateBwdRefIdeal : Cert.GateBwdRefIdeal.Facts] [hPre_finite_s5_gate : Cert.Pre_finite_s5_gate.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite_s5_gate m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_CumBwd [hCumBwd : Cert.CumBwd.Facts] : Prop :=
  ∀ (m : (ℓ : Loc Cert.CumBwd.nD Cert.CumBwd.τ Cert.CumBwd.sig) → Buf (Elt Bits) ℓ) (g : Dev Cert.CumBwd.nD → PrngReg), Pre_CumBwd m →
    θ_run (Cert.CumBwd.defs (F := Bits)) (onTc (τ := Cert.CumBwd.τ) (Cert.CumBwd.main (F := Bits))) ⟨m, fun _ => 0, g⟩ (fun r => (∀ c : Dev Cert.CumBwd.nD,
      r.2.mem ((c.tc : Thread Cert.CumBwd.nD Cert.CumBwd.τ).loc Cert.CumBwd.main_arg0) = m ((c.tc : Thread Cert.CumBwd.nD Cert.CumBwd.τ).loc Cert.CumBwd.main_arg0)
      ∧ r.2.mem ((c.tc : Thread Cert.CumBwd.nD Cert.CumBwd.τ).loc Cert.CumBwd.main_arg1) = m ((c.tc : Thread Cert.CumBwd.nD Cert.CumBwd.τ).loc Cert.CumBwd.main_arg1)
      ∧ r.2.mem ((c.tc : Thread Cert.CumBwd.nD Cert.CumBwd.τ).loc Cert.CumBwd.main_arg2) = m ((c.tc : Thread Cert.CumBwd.nD Cert.CumBwd.τ).loc Cert.CumBwd.main_arg2))
      ∧ r.2.sem = fun _ => 0)

def quiescent_CumBwdIdeal [hCumBwdIdeal : Cert.CumBwdIdeal.Facts] : Prop :=
  ∀ (m : (ℓ : Loc Cert.CumBwdIdeal.nD Cert.CumBwdIdeal.τ Cert.CumBwdIdeal.sig) → Buf (Elt Ideal) ℓ) (g : Dev Cert.CumBwdIdeal.nD → PrngReg), Pre_CumBwdIdeal m →
    θ_run (Cert.CumBwdIdeal.defs (F := Ideal)) (onTc (τ := Cert.CumBwdIdeal.τ) (Cert.CumBwdIdeal.main (F := Ideal))) ⟨m, fun _ => 0, g⟩ (fun r => (∀ c : Dev Cert.CumBwdIdeal.nD,
      r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
      ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
      ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ r.2.sem = fun _ => 0)

def quiescent_CumBwdIdeal_pre_finite_dcum [hCumBwdIdeal : Cert.CumBwdIdeal.Facts] [hPre_finite_dcum : Cert.Pre_finite_dcum.Facts] : Prop :=
  ∀ (m : (ℓ : Loc Cert.CumBwdIdeal.nD Cert.CumBwdIdeal.τ Cert.CumBwdIdeal.sig) → Buf (Elt Ideal) ℓ) (g : Dev Cert.CumBwdIdeal.nD → PrngReg), Pre_CumBwdIdeal_finite_dcum m →
    θ_run (Cert.CumBwdIdeal.defs (F := Ideal)) (onTc (τ := Cert.CumBwdIdeal.τ) (Cert.CumBwdIdeal.main (F := Ideal))) ⟨m, fun _ => 0, g⟩ (fun r => (∀ c : Dev Cert.CumBwdIdeal.nD,
      r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
      ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
      ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ r.2.sem = fun _ => 0)

def quiescent_CumBwdRefIdeal [hCumBwdRefIdeal : Cert.CumBwdRefIdeal.Facts] : Prop :=
  ∀ (m : (ℓ : Loc Cert.CumBwdRefIdeal.nD Cert.CumBwdRefIdeal.τ Cert.CumBwdRefIdeal.sig) → Buf (Elt Ideal) ℓ) (g : Dev Cert.CumBwdRefIdeal.nD → PrngReg), Pre_CumBwdRefIdeal m →
    θ_run (Cert.CumBwdRefIdeal.defs (F := Ideal)) (onTc (τ := Cert.CumBwdRefIdeal.τ) (Cert.CumBwdRefIdeal.main (F := Ideal))) ⟨m, fun _ => 0, g⟩ (fun r => (∀ c : Dev Cert.CumBwdRefIdeal.nD,
      r.2.mem ((c.tc : Thread Cert.CumBwdRefIdeal.nD Cert.CumBwdRefIdeal.τ).loc Cert.CumBwdRefIdeal.main_arg0) = m ((c.tc : Thread Cert.CumBwdRefIdeal.nD Cert.CumBwdRefIdeal.τ).loc Cert.CumBwdRefIdeal.main_arg0)
      ∧ r.2.mem ((c.tc : Thread Cert.CumBwdRefIdeal.nD Cert.CumBwdRefIdeal.τ).loc Cert.CumBwdRefIdeal.main_arg1) = m ((c.tc : Thread Cert.CumBwdRefIdeal.nD Cert.CumBwdRefIdeal.τ).loc Cert.CumBwdRefIdeal.main_arg1)
      ∧ r.2.mem ((c.tc : Thread Cert.CumBwdRefIdeal.nD Cert.CumBwdRefIdeal.τ).loc Cert.CumBwdRefIdeal.main_arg2) = m ((c.tc : Thread Cert.CumBwdRefIdeal.nD Cert.CumBwdRefIdeal.τ).loc Cert.CumBwdRefIdeal.main_arg2))
      ∧ r.2.sem = fun _ => 0)

def quiescent_CumBwdRefIdeal_pre_finite_dcum [hCumBwdRefIdeal : Cert.CumBwdRefIdeal.Facts] [hPre_finite_dcum : Cert.Pre_finite_dcum.Facts] : Prop :=
  ∀ (m : (ℓ : Loc Cert.CumBwdRefIdeal.nD Cert.CumBwdRefIdeal.τ Cert.CumBwdRefIdeal.sig) → Buf (Elt Ideal) ℓ) (g : Dev Cert.CumBwdRefIdeal.nD → PrngReg), Pre_CumBwdRefIdeal_finite_dcum m →
    θ_run (Cert.CumBwdRefIdeal.defs (F := Ideal)) (onTc (τ := Cert.CumBwdRefIdeal.τ) (Cert.CumBwdRefIdeal.main (F := Ideal))) ⟨m, fun _ => 0, g⟩ (fun r => (∀ c : Dev Cert.CumBwdRefIdeal.nD,
      r.2.mem ((c.tc : Thread Cert.CumBwdRefIdeal.nD Cert.CumBwdRefIdeal.τ).loc Cert.CumBwdRefIdeal.main_arg0) = m ((c.tc : Thread Cert.CumBwdRefIdeal.nD Cert.CumBwdRefIdeal.τ).loc Cert.CumBwdRefIdeal.main_arg0)
      ∧ r.2.mem ((c.tc : Thread Cert.CumBwdRefIdeal.nD Cert.CumBwdRefIdeal.τ).loc Cert.CumBwdRefIdeal.main_arg1) = m ((c.tc : Thread Cert.CumBwdRefIdeal.nD Cert.CumBwdRefIdeal.τ).loc Cert.CumBwdRefIdeal.main_arg1)
      ∧ r.2.mem ((c.tc : Thread Cert.CumBwdRefIdeal.nD Cert.CumBwdRefIdeal.τ).loc Cert.CumBwdRefIdeal.main_arg2) = m ((c.tc : Thread Cert.CumBwdRefIdeal.nD Cert.CumBwdRefIdeal.τ).loc Cert.CumBwdRefIdeal.main_arg2))
      ∧ r.2.sem = fun _ => 0)

def quiescent_CumFwd [hCumFwd : Cert.CumFwd.Facts] : Prop :=
  ∀ (m : (ℓ : Loc Cert.CumFwd.nD Cert.CumFwd.τ Cert.CumFwd.sig) → Buf (Elt Bits) ℓ) (g : Dev Cert.CumFwd.nD → PrngReg), Pre_CumFwd m →
    θ_run (Cert.CumFwd.defs (F := Bits)) (onTc (τ := Cert.CumFwd.τ) (Cert.CumFwd.main (F := Bits))) ⟨m, fun _ => 0, g⟩ (fun r => (∀ c : Dev Cert.CumFwd.nD,
      r.2.mem ((c.tc : Thread Cert.CumFwd.nD Cert.CumFwd.τ).loc Cert.CumFwd.main_arg0) = m ((c.tc : Thread Cert.CumFwd.nD Cert.CumFwd.τ).loc Cert.CumFwd.main_arg0)
      ∧ r.2.mem ((c.tc : Thread Cert.CumFwd.nD Cert.CumFwd.τ).loc Cert.CumFwd.main_arg1) = m ((c.tc : Thread Cert.CumFwd.nD Cert.CumFwd.τ).loc Cert.CumFwd.main_arg1))
      ∧ r.2.sem = fun _ => 0)

def quiescent_CumFwdIdeal [hCumFwdIdeal : Cert.CumFwdIdeal.Facts] : Prop :=
  ∀ (m : (ℓ : Loc Cert.CumFwdIdeal.nD Cert.CumFwdIdeal.τ Cert.CumFwdIdeal.sig) → Buf (Elt Ideal) ℓ) (g : Dev Cert.CumFwdIdeal.nD → PrngReg), Pre_CumFwdIdeal m →
    θ_run (Cert.CumFwdIdeal.defs (F := Ideal)) (onTc (τ := Cert.CumFwdIdeal.τ) (Cert.CumFwdIdeal.main (F := Ideal))) ⟨m, fun _ => 0, g⟩ (fun r => (∀ c : Dev Cert.CumFwdIdeal.nD,
      r.2.mem ((c.tc : Thread Cert.CumFwdIdeal.nD Cert.CumFwdIdeal.τ).loc Cert.CumFwdIdeal.main_arg0) = m ((c.tc : Thread Cert.CumFwdIdeal.nD Cert.CumFwdIdeal.τ).loc Cert.CumFwdIdeal.main_arg0)
      ∧ r.2.mem ((c.tc : Thread Cert.CumFwdIdeal.nD Cert.CumFwdIdeal.τ).loc Cert.CumFwdIdeal.main_arg1) = m ((c.tc : Thread Cert.CumFwdIdeal.nD Cert.CumFwdIdeal.τ).loc Cert.CumFwdIdeal.main_arg1))
      ∧ r.2.sem = fun _ => 0)

def quiescent_CumFwdRefIdeal [hCumFwdRefIdeal : Cert.CumFwdRefIdeal.Facts] : Prop :=
  ∀ (m : (ℓ : Loc Cert.CumFwdRefIdeal.nD Cert.CumFwdRefIdeal.τ Cert.CumFwdRefIdeal.sig) → Buf (Elt Ideal) ℓ) (g : Dev Cert.CumFwdRefIdeal.nD → PrngReg), Pre_CumFwdRefIdeal m →
    θ_run (Cert.CumFwdRefIdeal.defs (F := Ideal)) (onTc (τ := Cert.CumFwdRefIdeal.τ) (Cert.CumFwdRefIdeal.main (F := Ideal))) ⟨m, fun _ => 0, g⟩ (fun r => (∀ c : Dev Cert.CumFwdRefIdeal.nD,
      r.2.mem ((c.tc : Thread Cert.CumFwdRefIdeal.nD Cert.CumFwdRefIdeal.τ).loc Cert.CumFwdRefIdeal.main_arg0) = m ((c.tc : Thread Cert.CumFwdRefIdeal.nD Cert.CumFwdRefIdeal.τ).loc Cert.CumFwdRefIdeal.main_arg0)
      ∧ r.2.mem ((c.tc : Thread Cert.CumFwdRefIdeal.nD Cert.CumFwdRefIdeal.τ).loc Cert.CumFwdRefIdeal.main_arg1) = m ((c.tc : Thread Cert.CumFwdRefIdeal.nD Cert.CumFwdRefIdeal.τ).loc Cert.CumFwdRefIdeal.main_arg1))
      ∧ r.2.sem = fun _ => 0)

def quiescent_MidNorms [hMidNorms : Cert.MidNorms.Facts] : Prop :=
  ∀ (m : (ℓ : Loc Cert.MidNorms.nD Cert.MidNorms.τ Cert.MidNorms.sig) → Buf (Elt Bits) ℓ) (g : Dev Cert.MidNorms.nD → PrngReg), Pre_MidNorms m →
    θ_run (Cert.MidNorms.defs (F := Bits)) (onTc (τ := Cert.MidNorms.τ) (Cert.MidNorms.main (F := Bits))) ⟨m, fun _ => 0, g⟩ (fun r => (∀ c : Dev Cert.MidNorms.nD,
      r.2.mem ((c.tc : Thread Cert.MidNorms.nD Cert.MidNorms.τ).loc Cert.MidNorms.main_arg0) = m ((c.tc : Thread Cert.MidNorms.nD Cert.MidNorms.τ).loc Cert.MidNorms.main_arg0)
      ∧ r.2.mem ((c.tc : Thread Cert.MidNorms.nD Cert.MidNorms.τ).loc Cert.MidNorms.main_arg1) = m ((c.tc : Thread Cert.MidNorms.nD Cert.MidNorms.τ).loc Cert.MidNorms.main_arg1)
      ∧ r.2.mem ((c.tc : Thread Cert.MidNorms.nD Cert.MidNorms.τ).loc Cert.MidNorms.main_arg2) = m ((c.tc : Thread Cert.MidNorms.nD Cert.MidNorms.τ).loc Cert.MidNorms.main_arg2)
      ∧ r.2.mem ((c.tc : Thread Cert.MidNorms.nD Cert.MidNorms.τ).loc Cert.MidNorms.main_arg3) = m ((c.tc : Thread Cert.MidNorms.nD Cert.MidNorms.τ).loc Cert.MidNorms.main_arg3)
      ∧ r.2.mem ((c.tc : Thread Cert.MidNorms.nD Cert.MidNorms.τ).loc Cert.MidNorms.main_arg4) = m ((c.tc : Thread Cert.MidNorms.nD Cert.MidNorms.τ).loc Cert.MidNorms.main_arg4))
      ∧ r.2.sem = fun _ => 0)

def quiescent_MidNormsIdeal [hMidNormsIdeal : Cert.MidNormsIdeal.Facts] : Prop :=
  ∀ (m : (ℓ : Loc Cert.MidNormsIdeal.nD Cert.MidNormsIdeal.τ Cert.MidNormsIdeal.sig) → Buf (Elt Ideal) ℓ) (g : Dev Cert.MidNormsIdeal.nD → PrngReg), Pre_MidNormsIdeal m →
    θ_run (Cert.MidNormsIdeal.defs (F := Ideal)) (onTc (τ := Cert.MidNormsIdeal.τ) (Cert.MidNormsIdeal.main (F := Ideal))) ⟨m, fun _ => 0, g⟩ (fun r => (∀ c : Dev Cert.MidNormsIdeal.nD,
      r.2.mem ((c.tc : Thread Cert.MidNormsIdeal.nD Cert.MidNormsIdeal.τ).loc Cert.MidNormsIdeal.main_arg0) = m ((c.tc : Thread Cert.MidNormsIdeal.nD Cert.MidNormsIdeal.τ).loc Cert.MidNormsIdeal.main_arg0)
      ∧ r.2.mem ((c.tc : Thread Cert.MidNormsIdeal.nD Cert.MidNormsIdeal.τ).loc Cert.MidNormsIdeal.main_arg1) = m ((c.tc : Thread Cert.MidNormsIdeal.nD Cert.MidNormsIdeal.τ).loc Cert.MidNormsIdeal.main_arg1)
      ∧ r.2.mem ((c.tc : Thread Cert.MidNormsIdeal.nD Cert.MidNormsIdeal.τ).loc Cert.MidNormsIdeal.main_arg2) = m ((c.tc : Thread Cert.MidNormsIdeal.nD Cert.MidNormsIdeal.τ).loc Cert.MidNormsIdeal.main_arg2)
      ∧ r.2.mem ((c.tc : Thread Cert.MidNormsIdeal.nD Cert.MidNormsIdeal.τ).loc Cert.MidNormsIdeal.main_arg3) = m ((c.tc : Thread Cert.MidNormsIdeal.nD Cert.MidNormsIdeal.τ).loc Cert.MidNormsIdeal.main_arg3)
      ∧ r.2.mem ((c.tc : Thread Cert.MidNormsIdeal.nD Cert.MidNormsIdeal.τ).loc Cert.MidNormsIdeal.main_arg4) = m ((c.tc : Thread Cert.MidNormsIdeal.nD Cert.MidNormsIdeal.τ).loc Cert.MidNormsIdeal.main_arg4))
      ∧ r.2.sem = fun _ => 0)

def quiescent_MidNormsRefIdeal [hMidNormsRefIdeal : Cert.MidNormsRefIdeal.Facts] : Prop :=
  ∀ (m : (ℓ : Loc Cert.MidNormsRefIdeal.nD Cert.MidNormsRefIdeal.τ Cert.MidNormsRefIdeal.sig) → Buf (Elt Ideal) ℓ) (g : Dev Cert.MidNormsRefIdeal.nD → PrngReg), Pre_MidNormsRefIdeal m →
    θ_run (Cert.MidNormsRefIdeal.defs (F := Ideal)) (onTc (τ := Cert.MidNormsRefIdeal.τ) (Cert.MidNormsRefIdeal.main (F := Ideal))) ⟨m, fun _ => 0, g⟩ (fun r => (∀ c : Dev Cert.MidNormsRefIdeal.nD,
      r.2.mem ((c.tc : Thread Cert.MidNormsRefIdeal.nD Cert.MidNormsRefIdeal.τ).loc Cert.MidNormsRefIdeal.main_arg0) = m ((c.tc : Thread Cert.MidNormsRefIdeal.nD Cert.MidNormsRefIdeal.τ).loc Cert.MidNormsRefIdeal.main_arg0)
      ∧ r.2.mem ((c.tc : Thread Cert.MidNormsRefIdeal.nD Cert.MidNormsRefIdeal.τ).loc Cert.MidNormsRefIdeal.main_arg1) = m ((c.tc : Thread Cert.MidNormsRefIdeal.nD Cert.MidNormsRefIdeal.τ).loc Cert.MidNormsRefIdeal.main_arg1)
      ∧ r.2.mem ((c.tc : Thread Cert.MidNormsRefIdeal.nD Cert.MidNormsRefIdeal.τ).loc Cert.MidNormsRefIdeal.main_arg2) = m ((c.tc : Thread Cert.MidNormsRefIdeal.nD Cert.MidNormsRefIdeal.τ).loc Cert.MidNormsRefIdeal.main_arg2)
      ∧ r.2.mem ((c.tc : Thread Cert.MidNormsRefIdeal.nD Cert.MidNormsRefIdeal.τ).loc Cert.MidNormsRefIdeal.main_arg3) = m ((c.tc : Thread Cert.MidNormsRefIdeal.nD Cert.MidNormsRefIdeal.τ).loc Cert.MidNormsRefIdeal.main_arg3)
      ∧ r.2.mem ((c.tc : Thread Cert.MidNormsRefIdeal.nD Cert.MidNormsRefIdeal.τ).loc Cert.MidNormsRefIdeal.main_arg4) = m ((c.tc : Thread Cert.MidNormsRefIdeal.nD Cert.MidNormsRefIdeal.τ).loc Cert.MidNormsRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_AttFwd_AttFwdIdeal : Prop :=
  IdealRules.named_const.Statement Cert.AttFwdIdeal.κ "mask" .f32 0xF149F2CA#32 ⊥

def algebraic_AttFwdIdeal_AttFwdRefIdeal_pre_finite_qk [hAttFwdIdeal : Cert.AttFwdIdeal.Facts] [hAttFwdRefIdeal : Cert.AttFwdRefIdeal.Facts] [hPre_finite_qk : Cert.Pre_finite_qk.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_finite_qk m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)
      ∧ m' ((c.tc : Thread Cert.AttFwdRefIdeal.nD Cert.AttFwdRefIdeal.τ).loc Cert.AttFwdRefIdeal.main_arg2) = m ((c.tc : Thread Cert.AttFwdIdeal.nD Cert.AttFwdIdeal.τ).loc Cert.AttFwdIdeal.main_arg2)) →
    ∃ (v0 : (c : Dev Cert.AttFwdIdeal.nD) → Buf (Elt Ideal) ((c.tc : Thread Cert.AttFwdIdeal.nD Cert.AttFwdIdeal.τ).loc Cert.AttFwdIdeal.main_v2_0)) (v1 : (c : Dev Cert.AttFwdIdeal.nD) → Buf (Elt Ideal) ((c.tc : Thread Cert.AttFwdIdeal.nD Cert.AttFwdIdeal.τ).loc Cert.AttFwdIdeal.main_v2_1)) (v2 : (c : Dev Cert.AttFwdIdeal.nD) → Buf (Elt Ideal) ((c.tc : Thread Cert.AttFwdIdeal.nD Cert.AttFwdIdeal.τ).loc Cert.AttFwdIdeal.main_v2_2)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v2_0) = v0 c
          ∧ r.2.mem ((c.tc : Thread Cert.AttFwdIdeal.nD Cert.AttFwdIdeal.τ).loc Cert.AttFwdIdeal.main_v2_1) = v1 c
          ∧ r.2.mem ((c.tc : Thread Cert.AttFwdIdeal.nD Cert.AttFwdIdeal.τ).loc Cert.AttFwdIdeal.main_v2_2) = v2 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v38) = v0 c
          ∧ r.2.mem ((c.tc : Thread Cert.AttFwdRefIdeal.nD Cert.AttFwdRefIdeal.τ).loc Cert.AttFwdRefIdeal.main_v63) = v1 c
          ∧ r.2.mem ((c.tc : Thread Cert.AttFwdRefIdeal.nD Cert.AttFwdRefIdeal.τ).loc Cert.AttFwdRefIdeal.main_v70) = v2 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1)
          ∧ r.2.mem ((c.tc : Thread Cert.AttFwdRefIdeal.nD Cert.AttFwdRefIdeal.τ).loc Cert.AttFwdRefIdeal.main_arg2) = m' ((c.tc : Thread Cert.AttFwdRefIdeal.nD Cert.AttFwdRefIdeal.τ).loc Cert.AttFwdRefIdeal.main_arg2))

def preserves_OutDx_OutDxIdeal : Prop :=
  True

def algebraic_OutDxIdeal_OutDxRefIdeal_pre_finite_gate [hOutDxIdeal : Cert.OutDxIdeal.Facts] [hOutDxRefIdeal : Cert.OutDxRefIdeal.Facts] [hPre_finite_gate : Cert.Pre_finite_gate.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal_finite_gate m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)
      ∧ m' ((c.tc : Thread Cert.OutDxRefIdeal.nD Cert.OutDxRefIdeal.τ).loc Cert.OutDxRefIdeal.main_arg3) = m ((c.tc : Thread Cert.OutDxIdeal.nD Cert.OutDxIdeal.τ).loc Cert.OutDxIdeal.main_arg3)) →
    ∃ (v0 : (c : Dev Cert.OutDxIdeal.nD) → Buf (Elt Ideal) ((c.tc : Thread Cert.OutDxIdeal.nD Cert.OutDxIdeal.τ).loc Cert.OutDxIdeal.main_v1_0)) (v1 : (c : Dev Cert.OutDxIdeal.nD) → Buf (Elt Ideal) ((c.tc : Thread Cert.OutDxIdeal.nD Cert.OutDxIdeal.τ).loc Cert.OutDxIdeal.main_v1_1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1_0) = v0 c
          ∧ r.2.mem ((c.tc : Thread Cert.OutDxIdeal.nD Cert.OutDxIdeal.τ).loc Cert.OutDxIdeal.main_v1_1) = v1 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v7) = v0 c
          ∧ r.2.mem ((c.tc : Thread Cert.OutDxRefIdeal.nD Cert.OutDxRefIdeal.τ).loc Cert.OutDxRefIdeal.main_v9) = v1 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2)
          ∧ r.2.mem ((c.tc : Thread Cert.OutDxRefIdeal.nD Cert.OutDxRefIdeal.τ).loc Cert.OutDxRefIdeal.main_arg3) = m' ((c.tc : Thread Cert.OutDxRefIdeal.nD Cert.OutDxRefIdeal.τ).loc Cert.OutDxRefIdeal.main_arg3))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v4)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v4) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v15) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)
      ∧ m' ((c.tc : Thread Cert.KvDxRefIdeal.nD Cert.KvDxRefIdeal.τ).loc Cert.KvDxRefIdeal.main_arg3) = m ((c.tc : Thread Cert.KvDxIdeal.nD Cert.KvDxIdeal.τ).loc Cert.KvDxIdeal.main_arg3)) →
    ∃ (v0 : (c : Dev Cert.KvDxIdeal.nD) → Buf (Elt Ideal) ((c.tc : Thread Cert.KvDxIdeal.nD Cert.KvDxIdeal.τ).loc Cert.KvDxIdeal.main_v1)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v1) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
          ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v6) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2)
          ∧ r.2.mem ((c.tc : Thread Cert.KvDxRefIdeal.nD Cert.KvDxRefIdeal.τ).loc Cert.KvDxRefIdeal.main_arg3) = m' ((c.tc : Thread Cert.KvDxRefIdeal.nD Cert.KvDxRefIdeal.τ).loc Cert.KvDxRefIdeal.main_arg3))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)
      ∧ m' ((c.tc : Thread Cert.KvDwRefIdeal.nD Cert.KvDwRefIdeal.τ).loc Cert.KvDwRefIdeal.main_arg2) = m ((c.tc : Thread Cert.KvDwIdeal.nD Cert.KvDwIdeal.τ).loc Cert.KvDwIdeal.main_arg2)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
          ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1)
          ∧ r.2.mem ((c.tc : Thread Cert.KvDwRefIdeal.nD Cert.KvDwRefIdeal.τ).loc Cert.KvDwRefIdeal.main_arg2) = m' ((c.tc : Thread Cert.KvDwRefIdeal.nD Cert.KvDwRefIdeal.τ).loc Cert.KvDwRefIdeal.main_arg2))

def preserves_SOutDx_SOutDxIdeal : Prop :=
  True

def algebraic_SOutDxIdeal_SOutDxRefIdeal [hSOutDxIdeal : Cert.SOutDxIdeal.Facts] [hSOutDxRefIdeal : Cert.SOutDxRefIdeal.Facts] : Prop :=
  ∀ (m : (ℓ : Loc Cert.SOutDxIdeal.nD Cert.SOutDxIdeal.τ Cert.SOutDxIdeal.sig) → Buf (Elt Ideal) ℓ) (g : Dev Cert.SOutDxIdeal.nD → PrngReg)
    (m' : (ℓ : Loc Cert.SOutDxRefIdeal.nD Cert.SOutDxRefIdeal.τ Cert.SOutDxRefIdeal.sig) → Buf (Elt Ideal) ℓ) (g' : Dev Cert.SOutDxRefIdeal.nD → PrngReg), Pre_SOutDxIdeal m →
    (∀ c : Dev Cert.SOutDxIdeal.nD,
      m' ((c.tc : Thread Cert.SOutDxRefIdeal.nD Cert.SOutDxRefIdeal.τ).loc Cert.SOutDxRefIdeal.main_arg0) = m ((c.tc : Thread Cert.SOutDxIdeal.nD Cert.SOutDxIdeal.τ).loc Cert.SOutDxIdeal.main_arg0)
      ∧ m' ((c.tc : Thread Cert.SOutDxRefIdeal.nD Cert.SOutDxRefIdeal.τ).loc Cert.SOutDxRefIdeal.main_arg1) = m ((c.tc : Thread Cert.SOutDxIdeal.nD Cert.SOutDxIdeal.τ).loc Cert.SOutDxIdeal.main_arg1)) →
    ∃ (v0 : (c : Dev Cert.SOutDxIdeal.nD) → Buf (Elt Ideal) ((c.tc : Thread Cert.SOutDxIdeal.nD Cert.SOutDxIdeal.τ).loc Cert.SOutDxIdeal.main_v1)),
      θ_run (Cert.SOutDxIdeal.defs (F := Ideal)) (onTc (τ := Cert.SOutDxIdeal.τ) (Cert.SOutDxIdeal.main (F := Ideal))) ⟨m, fun _ => 0, g⟩ (fun r => ∀ c : Dev Cert.SOutDxIdeal.nD,
          r.2.mem ((c.tc : Thread Cert.SOutDxIdeal.nD Cert.SOutDxIdeal.τ).loc Cert.SOutDxIdeal.main_v1) = v0 c
          ∧ r.2.mem ((c.tc : Thread Cert.SOutDxIdeal.nD Cert.SOutDxIdeal.τ).loc Cert.SOutDxIdeal.main_arg0) = m ((c.tc : Thread Cert.SOutDxIdeal.nD Cert.SOutDxIdeal.τ).loc Cert.SOutDxIdeal.main_arg0)
          ∧ r.2.mem ((c.tc : Thread Cert.SOutDxIdeal.nD Cert.SOutDxIdeal.τ).loc Cert.SOutDxIdeal.main_arg1) = m ((c.tc : Thread Cert.SOutDxIdeal.nD Cert.SOutDxIdeal.τ).loc Cert.SOutDxIdeal.main_arg1))
      ∧ θ_run (Cert.SOutDxRefIdeal.defs (F := Ideal)) (onTc (τ := Cert.SOutDxRefIdeal.τ) (Cert.SOutDxRefIdeal.main (F := Ideal))) ⟨m', fun _ => 0, g'⟩ (fun r => ∀ c : Dev Cert.SOutDxRefIdeal.nD,
          r.2.mem ((c.tc : Thread Cert.SOutDxRefIdeal.nD Cert.SOutDxRefIdeal.τ).loc Cert.SOutDxRefIdeal.main_v3) = v0 c
          ∧ r.2.mem ((c.tc : Thread Cert.SOutDxRefIdeal.nD Cert.SOutDxRefIdeal.τ).loc Cert.SOutDxRefIdeal.main_arg0) = m' ((c.tc : Thread Cert.SOutDxRefIdeal.nD Cert.SOutDxRefIdeal.τ).loc Cert.SOutDxRefIdeal.main_arg0)
          ∧ r.2.mem ((c.tc : Thread Cert.SOutDxRefIdeal.nD Cert.SOutDxRefIdeal.τ).loc Cert.SOutDxRefIdeal.main_arg1) = m' ((c.tc : Thread Cert.SOutDxRefIdeal.nD Cert.SOutDxRefIdeal.τ).loc Cert.SOutDxRefIdeal.main_arg1))

def preserves_SOutDw_SOutDwIdeal : Prop :=
  True

def algebraic_SOutDwIdeal_SOutDwRefIdeal [hSOutDwIdeal : Cert.SOutDwIdeal.Facts] [hSOutDwRefIdeal : Cert.SOutDwRefIdeal.Facts] : Prop :=
  ∀ (m : (ℓ : Loc Cert.SOutDwIdeal.nD Cert.SOutDwIdeal.τ Cert.SOutDwIdeal.sig) → Buf (Elt Ideal) ℓ) (g : Dev Cert.SOutDwIdeal.nD → PrngReg)
    (m' : (ℓ : Loc Cert.SOutDwRefIdeal.nD Cert.SOutDwRefIdeal.τ Cert.SOutDwRefIdeal.sig) → Buf (Elt Ideal) ℓ) (g' : Dev Cert.SOutDwRefIdeal.nD → PrngReg), Pre_SOutDwIdeal m →
    (∀ c : Dev Cert.SOutDwIdeal.nD,
      m' ((c.tc : Thread Cert.SOutDwRefIdeal.nD Cert.SOutDwRefIdeal.τ).loc Cert.SOutDwRefIdeal.main_arg0) = m ((c.tc : Thread Cert.SOutDwIdeal.nD Cert.SOutDwIdeal.τ).loc Cert.SOutDwIdeal.main_arg0)
      ∧ m' ((c.tc : Thread Cert.SOutDwRefIdeal.nD Cert.SOutDwRefIdeal.τ).loc Cert.SOutDwRefIdeal.main_arg1) = m ((c.tc : Thread Cert.SOutDwIdeal.nD Cert.SOutDwIdeal.τ).loc Cert.SOutDwIdeal.main_arg1)) →
    ∃ (v0 : (c : Dev Cert.SOutDwIdeal.nD) → Buf (Elt Ideal) ((c.tc : Thread Cert.SOutDwIdeal.nD Cert.SOutDwIdeal.τ).loc Cert.SOutDwIdeal.main_v0)),
      θ_run (Cert.SOutDwIdeal.defs (F := Ideal)) (onTc (τ := Cert.SOutDwIdeal.τ) (Cert.SOutDwIdeal.main (F := Ideal))) ⟨m, fun _ => 0, g⟩ (fun r => ∀ c : Dev Cert.SOutDwIdeal.nD,
          r.2.mem ((c.tc : Thread Cert.SOutDwIdeal.nD Cert.SOutDwIdeal.τ).loc Cert.SOutDwIdeal.main_v0) = v0 c
          ∧ r.2.mem ((c.tc : Thread Cert.SOutDwIdeal.nD Cert.SOutDwIdeal.τ).loc Cert.SOutDwIdeal.main_arg0) = m ((c.tc : Thread Cert.SOutDwIdeal.nD Cert.SOutDwIdeal.τ).loc Cert.SOutDwIdeal.main_arg0)
          ∧ r.2.mem ((c.tc : Thread Cert.SOutDwIdeal.nD Cert.SOutDwIdeal.τ).loc Cert.SOutDwIdeal.main_arg1) = m ((c.tc : Thread Cert.SOutDwIdeal.nD Cert.SOutDwIdeal.τ).loc Cert.SOutDwIdeal.main_arg1))
      ∧ θ_run (Cert.SOutDwRefIdeal.defs (F := Ideal)) (onTc (τ := Cert.SOutDwRefIdeal.τ) (Cert.SOutDwRefIdeal.main (F := Ideal))) ⟨m', fun _ => 0, g'⟩ (fun r => ∀ c : Dev Cert.SOutDwRefIdeal.nD,
          r.2.mem ((c.tc : Thread Cert.SOutDwRefIdeal.nD Cert.SOutDwRefIdeal.τ).loc Cert.SOutDwRefIdeal.main_v5) = v0 c
          ∧ r.2.mem ((c.tc : Thread Cert.SOutDwRefIdeal.nD Cert.SOutDwRefIdeal.τ).loc Cert.SOutDwRefIdeal.main_arg0) = m' ((c.tc : Thread Cert.SOutDwRefIdeal.nD Cert.SOutDwRefIdeal.τ).loc Cert.SOutDwRefIdeal.main_arg0)
          ∧ r.2.mem ((c.tc : Thread Cert.SOutDwRefIdeal.nD Cert.SOutDwRefIdeal.τ).loc Cert.SOutDwRefIdeal.main_arg1) = m' ((c.tc : Thread Cert.SOutDwRefIdeal.nD Cert.SOutDwRefIdeal.τ).loc Cert.SOutDwRefIdeal.main_arg1))

def preserves_GluDx_GluDxIdeal : Prop :=
  IdealRules.named_const.Statement Cert.GluDxIdeal.κ "cubic" .f32 0x3D372713#32 ((8943 / 200000 : ℝ) : EReal)
  ∧ IdealRules.named_const.Statement Cert.GluDxIdeal.κ "slope" .f32 0x3E095D4F#32 ((26829 / 200000 : ℝ) : EReal)

def algebraic_GluDxIdeal_GluDxRefIdeal_pre_finite_glu [hGluDxIdeal : Cert.GluDxIdeal.Facts] [hGluDxRefIdeal : Cert.GluDxRefIdeal.Facts] [hPre_finite_glu : Cert.Pre_finite_glu.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal_finite_glu m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)
      ∧ m' ((c.tc : Thread Cert.GluDxRefIdeal.nD Cert.GluDxRefIdeal.τ).loc Cert.GluDxRefIdeal.main_arg3) = m ((c.tc : Thread Cert.GluDxIdeal.nD Cert.GluDxIdeal.τ).loc Cert.GluDxIdeal.main_arg3)) →
    ∃ (v0 : (c : Dev Cert.GluDxIdeal.nD) → Buf (Elt Ideal) ((c.tc : Thread Cert.GluDxIdeal.nD Cert.GluDxIdeal.τ).loc Cert.GluDxIdeal.main_v1)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v1) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
          ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v40) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2)
          ∧ r.2.mem ((c.tc : Thread Cert.GluDxRefIdeal.nD Cert.GluDxRefIdeal.τ).loc Cert.GluDxRefIdeal.main_arg3) = m' ((c.tc : Thread Cert.GluDxRefIdeal.nD Cert.GluDxRefIdeal.τ).loc Cert.GluDxRefIdeal.main_arg3))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v5) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_FDx_FDxIdeal : Prop :=
  True

def algebraic_FDxIdeal_FDxRefIdeal [hFDxIdeal : Cert.FDxIdeal.Facts] [hFDxRefIdeal : Cert.FDxRefIdeal.Facts] : Prop :=
  ∀ (m : (ℓ : Loc Cert.FDxIdeal.nD Cert.FDxIdeal.τ Cert.FDxIdeal.sig) → Buf (Elt Ideal) ℓ) (g : Dev Cert.FDxIdeal.nD → PrngReg)
    (m' : (ℓ : Loc Cert.FDxRefIdeal.nD Cert.FDxRefIdeal.τ Cert.FDxRefIdeal.sig) → Buf (Elt Ideal) ℓ) (g' : Dev Cert.FDxRefIdeal.nD → PrngReg), Pre_FDxIdeal m →
    (∀ c : Dev Cert.FDxIdeal.nD,
      m' ((c.tc : Thread Cert.FDxRefIdeal.nD Cert.FDxRefIdeal.τ).loc Cert.FDxRefIdeal.main_arg0) = m ((c.tc : Thread Cert.FDxIdeal.nD Cert.FDxIdeal.τ).loc Cert.FDxIdeal.main_arg0)
      ∧ m' ((c.tc : Thread Cert.FDxRefIdeal.nD Cert.FDxRefIdeal.τ).loc Cert.FDxRefIdeal.main_arg1) = m ((c.tc : Thread Cert.FDxIdeal.nD Cert.FDxIdeal.τ).loc Cert.FDxIdeal.main_arg1)) →
    ∃ (v0 : (c : Dev Cert.FDxIdeal.nD) → Buf (Elt Ideal) ((c.tc : Thread Cert.FDxIdeal.nD Cert.FDxIdeal.τ).loc Cert.FDxIdeal.main_v3)),
      θ_run (Cert.FDxIdeal.defs (F := Ideal)) (onTc (τ := Cert.FDxIdeal.τ) (Cert.FDxIdeal.main (F := Ideal))) ⟨m, fun _ => 0, g⟩ (fun r => ∀ c : Dev Cert.FDxIdeal.nD,
          r.2.mem ((c.tc : Thread Cert.FDxIdeal.nD Cert.FDxIdeal.τ).loc Cert.FDxIdeal.main_v3) = v0 c
          ∧ r.2.mem ((c.tc : Thread Cert.FDxIdeal.nD Cert.FDxIdeal.τ).loc Cert.FDxIdeal.main_arg0) = m ((c.tc : Thread Cert.FDxIdeal.nD Cert.FDxIdeal.τ).loc Cert.FDxIdeal.main_arg0)
          ∧ r.2.mem ((c.tc : Thread Cert.FDxIdeal.nD Cert.FDxIdeal.τ).loc Cert.FDxIdeal.main_arg1) = m ((c.tc : Thread Cert.FDxIdeal.nD Cert.FDxIdeal.τ).loc Cert.FDxIdeal.main_arg1))
      ∧ θ_run (Cert.FDxRefIdeal.defs (F := Ideal)) (onTc (τ := Cert.FDxRefIdeal.τ) (Cert.FDxRefIdeal.main (F := Ideal))) ⟨m', fun _ => 0, g'⟩ (fun r => ∀ c : Dev Cert.FDxRefIdeal.nD,
          r.2.mem ((c.tc : Thread Cert.FDxRefIdeal.nD Cert.FDxRefIdeal.τ).loc Cert.FDxRefIdeal.main_v4) = v0 c
          ∧ r.2.mem ((c.tc : Thread Cert.FDxRefIdeal.nD Cert.FDxRefIdeal.τ).loc Cert.FDxRefIdeal.main_arg0) = m' ((c.tc : Thread Cert.FDxRefIdeal.nD Cert.FDxRefIdeal.τ).loc Cert.FDxRefIdeal.main_arg0)
          ∧ r.2.mem ((c.tc : Thread Cert.FDxRefIdeal.nD Cert.FDxRefIdeal.τ).loc Cert.FDxRefIdeal.main_arg1) = m' ((c.tc : Thread Cert.FDxRefIdeal.nD Cert.FDxRefIdeal.τ).loc Cert.FDxRefIdeal.main_arg1))

def preserves_FDw_FDwIdeal : Prop :=
  True

def algebraic_FDwIdeal_FDwRefIdeal [hFDwIdeal : Cert.FDwIdeal.Facts] [hFDwRefIdeal : Cert.FDwRefIdeal.Facts] : Prop :=
  ∀ (m : (ℓ : Loc Cert.FDwIdeal.nD Cert.FDwIdeal.τ Cert.FDwIdeal.sig) → Buf (Elt Ideal) ℓ) (g : Dev Cert.FDwIdeal.nD → PrngReg)
    (m' : (ℓ : Loc Cert.FDwRefIdeal.nD Cert.FDwRefIdeal.τ Cert.FDwRefIdeal.sig) → Buf (Elt Ideal) ℓ) (g' : Dev Cert.FDwRefIdeal.nD → PrngReg), Pre_FDwIdeal m →
    (∀ c : Dev Cert.FDwIdeal.nD,
      m' ((c.tc : Thread Cert.FDwRefIdeal.nD Cert.FDwRefIdeal.τ).loc Cert.FDwRefIdeal.main_arg0) = m ((c.tc : Thread Cert.FDwIdeal.nD Cert.FDwIdeal.τ).loc Cert.FDwIdeal.main_arg0)
      ∧ m' ((c.tc : Thread Cert.FDwRefIdeal.nD Cert.FDwRefIdeal.τ).loc Cert.FDwRefIdeal.main_arg1) = m ((c.tc : Thread Cert.FDwIdeal.nD Cert.FDwIdeal.τ).loc Cert.FDwIdeal.main_arg1)) →
    ∃ (v0 : (c : Dev Cert.FDwIdeal.nD) → Buf (Elt Ideal) ((c.tc : Thread Cert.FDwIdeal.nD Cert.FDwIdeal.τ).loc Cert.FDwIdeal.main_v0)),
      θ_run (Cert.FDwIdeal.defs (F := Ideal)) (onTc (τ := Cert.FDwIdeal.τ) (Cert.FDwIdeal.main (F := Ideal))) ⟨m, fun _ => 0, g⟩ (fun r => ∀ c : Dev Cert.FDwIdeal.nD,
          r.2.mem ((c.tc : Thread Cert.FDwIdeal.nD Cert.FDwIdeal.τ).loc Cert.FDwIdeal.main_v0) = v0 c
          ∧ r.2.mem ((c.tc : Thread Cert.FDwIdeal.nD Cert.FDwIdeal.τ).loc Cert.FDwIdeal.main_arg0) = m ((c.tc : Thread Cert.FDwIdeal.nD Cert.FDwIdeal.τ).loc Cert.FDwIdeal.main_arg0)
          ∧ r.2.mem ((c.tc : Thread Cert.FDwIdeal.nD Cert.FDwIdeal.τ).loc Cert.FDwIdeal.main_arg1) = m ((c.tc : Thread Cert.FDwIdeal.nD Cert.FDwIdeal.τ).loc Cert.FDwIdeal.main_arg1))
      ∧ θ_run (Cert.FDwRefIdeal.defs (F := Ideal)) (onTc (τ := Cert.FDwRefIdeal.τ) (Cert.FDwRefIdeal.main (F := Ideal))) ⟨m', fun _ => 0, g'⟩ (fun r => ∀ c : Dev Cert.FDwRefIdeal.nD,
          r.2.mem ((c.tc : Thread Cert.FDwRefIdeal.nD Cert.FDwRefIdeal.τ).loc Cert.FDwRefIdeal.main_v4) = v0 c
          ∧ r.2.mem ((c.tc : Thread Cert.FDwRefIdeal.nD Cert.FDwRefIdeal.τ).loc Cert.FDwRefIdeal.main_arg0) = m' ((c.tc : Thread Cert.FDwRefIdeal.nD Cert.FDwRefIdeal.τ).loc Cert.FDwRefIdeal.main_arg0)
          ∧ r.2.mem ((c.tc : Thread Cert.FDwRefIdeal.nD Cert.FDwRefIdeal.τ).loc Cert.FDwRefIdeal.main_arg1) = m' ((c.tc : Thread Cert.FDwRefIdeal.nD Cert.FDwRefIdeal.τ).loc Cert.FDwRefIdeal.main_arg1))

def preserves_SIn_SInIdeal : Prop :=
  True

def algebraic_SInIdeal_SInRefIdeal [hSInIdeal : Cert.SInIdeal.Facts] [hSInRefIdeal : Cert.SInRefIdeal.Facts] : Prop :=
  ∀ (m : (ℓ : Loc Cert.SInIdeal.nD Cert.SInIdeal.τ Cert.SInIdeal.sig) → Buf (Elt Ideal) ℓ) (g : Dev Cert.SInIdeal.nD → PrngReg)
    (m' : (ℓ : Loc Cert.SInRefIdeal.nD Cert.SInRefIdeal.τ Cert.SInRefIdeal.sig) → Buf (Elt Ideal) ℓ) (g' : Dev Cert.SInRefIdeal.nD → PrngReg), Pre_SInIdeal m →
    (∀ c : Dev Cert.SInIdeal.nD,
      m' ((c.tc : Thread Cert.SInRefIdeal.nD Cert.SInRefIdeal.τ).loc Cert.SInRefIdeal.main_arg0) = m ((c.tc : Thread Cert.SInIdeal.nD Cert.SInIdeal.τ).loc Cert.SInIdeal.main_arg0)
      ∧ m' ((c.tc : Thread Cert.SInRefIdeal.nD Cert.SInRefIdeal.τ).loc Cert.SInRefIdeal.main_arg1) = m ((c.tc : Thread Cert.SInIdeal.nD Cert.SInIdeal.τ).loc Cert.SInIdeal.main_arg1)) →
    ∃ (v0 : (c : Dev Cert.SInIdeal.nD) → Buf (Elt Ideal) ((c.tc : Thread Cert.SInIdeal.nD Cert.SInIdeal.τ).loc Cert.SInIdeal.main_v3)),
      θ_run (Cert.SInIdeal.defs (F := Ideal)) (onTc (τ := Cert.SInIdeal.τ) (Cert.SInIdeal.main (F := Ideal))) ⟨m, fun _ => 0, g⟩ (fun r => ∀ c : Dev Cert.SInIdeal.nD,
          r.2.mem ((c.tc : Thread Cert.SInIdeal.nD Cert.SInIdeal.τ).loc Cert.SInIdeal.main_v3) = v0 c
          ∧ r.2.mem ((c.tc : Thread Cert.SInIdeal.nD Cert.SInIdeal.τ).loc Cert.SInIdeal.main_arg0) = m ((c.tc : Thread Cert.SInIdeal.nD Cert.SInIdeal.τ).loc Cert.SInIdeal.main_arg0)
          ∧ r.2.mem ((c.tc : Thread Cert.SInIdeal.nD Cert.SInIdeal.τ).loc Cert.SInIdeal.main_arg1) = m ((c.tc : Thread Cert.SInIdeal.nD Cert.SInIdeal.τ).loc Cert.SInIdeal.main_arg1))
      ∧ θ_run (Cert.SInRefIdeal.defs (F := Ideal)) (onTc (τ := Cert.SInRefIdeal.τ) (Cert.SInRefIdeal.main (F := Ideal))) ⟨m', fun _ => 0, g'⟩ (fun r => ∀ c : Dev Cert.SInRefIdeal.nD,
          r.2.mem ((c.tc : Thread Cert.SInRefIdeal.nD Cert.SInRefIdeal.τ).loc Cert.SInRefIdeal.main_v1) = v0 c
          ∧ r.2.mem ((c.tc : Thread Cert.SInRefIdeal.nD Cert.SInRefIdeal.τ).loc Cert.SInRefIdeal.main_arg0) = m' ((c.tc : Thread Cert.SInRefIdeal.nD Cert.SInRefIdeal.τ).loc Cert.SInRefIdeal.main_arg0)
          ∧ r.2.mem ((c.tc : Thread Cert.SInRefIdeal.nD Cert.SInRefIdeal.τ).loc Cert.SInRefIdeal.main_arg1) = m' ((c.tc : Thread Cert.SInRefIdeal.nD Cert.SInRefIdeal.τ).loc Cert.SInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v15_0)) (v1 : (c : Dev Cert.GluIdeal.nD) → Buf (Elt Ideal) ((c.tc : Thread Cert.GluIdeal.nD Cert.GluIdeal.τ).loc Cert.GluIdeal.main_v15_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v15_0) = v0 c
          ∧ r.2.mem ((c.tc : Thread Cert.GluIdeal.nD Cert.GluIdeal.τ).loc Cert.GluIdeal.main_v15_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v13) = v0 c
          ∧ r.2.mem ((c.tc : Thread Cert.GluRefIdeal.nD Cert.GluRefIdeal.τ).loc Cert.GluRefIdeal.main_v26) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_SOut_SOutIdeal : Prop :=
  True

def algebraic_SOutIdeal_SOutRefIdeal [hSOutIdeal : Cert.SOutIdeal.Facts] [hSOutRefIdeal : Cert.SOutRefIdeal.Facts] : Prop :=
  ∀ (m : (ℓ : Loc Cert.SOutIdeal.nD Cert.SOutIdeal.τ Cert.SOutIdeal.sig) → Buf (Elt Ideal) ℓ) (g : Dev Cert.SOutIdeal.nD → PrngReg)
    (m' : (ℓ : Loc Cert.SOutRefIdeal.nD Cert.SOutRefIdeal.τ Cert.SOutRefIdeal.sig) → Buf (Elt Ideal) ℓ) (g' : Dev Cert.SOutRefIdeal.nD → PrngReg), Pre_SOutIdeal m →
    (∀ c : Dev Cert.SOutIdeal.nD,
      m' ((c.tc : Thread Cert.SOutRefIdeal.nD Cert.SOutRefIdeal.τ).loc Cert.SOutRefIdeal.main_arg0) = m ((c.tc : Thread Cert.SOutIdeal.nD Cert.SOutIdeal.τ).loc Cert.SOutIdeal.main_arg0)
      ∧ m' ((c.tc : Thread Cert.SOutRefIdeal.nD Cert.SOutRefIdeal.τ).loc Cert.SOutRefIdeal.main_arg1) = m ((c.tc : Thread Cert.SOutIdeal.nD Cert.SOutIdeal.τ).loc Cert.SOutIdeal.main_arg1)) →
    ∃ (v0 : (c : Dev Cert.SOutIdeal.nD) → Buf (Elt Ideal) ((c.tc : Thread Cert.SOutIdeal.nD Cert.SOutIdeal.τ).loc Cert.SOutIdeal.main_v1)),
      θ_run (Cert.SOutIdeal.defs (F := Ideal)) (onTc (τ := Cert.SOutIdeal.τ) (Cert.SOutIdeal.main (F := Ideal))) ⟨m, fun _ => 0, g⟩ (fun r => ∀ c : Dev Cert.SOutIdeal.nD,
          r.2.mem ((c.tc : Thread Cert.SOutIdeal.nD Cert.SOutIdeal.τ).loc Cert.SOutIdeal.main_v1) = v0 c
          ∧ r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
          ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1))
      ∧ θ_run (Cert.SOutRefIdeal.defs (F := Ideal)) (onTc (τ := Cert.SOutRefIdeal.τ) (Cert.SOutRefIdeal.main (F := Ideal))) ⟨m', fun _ => 0, g'⟩ (fun r => ∀ c : Dev Cert.SOutRefIdeal.nD,
          r.2.mem ((c.tc : Thread Cert.SOutRefIdeal.nD Cert.SOutRefIdeal.τ).loc Cert.SOutRefIdeal.main_v1) = v0 c
          ∧ r.2.mem ((c.tc : Thread Cert.SOutRefIdeal.nD Cert.SOutRefIdeal.τ).loc Cert.SOutRefIdeal.main_arg0) = m' ((c.tc : Thread Cert.SOutRefIdeal.nD Cert.SOutRefIdeal.τ).loc Cert.SOutRefIdeal.main_arg0)
          ∧ r.2.mem ((c.tc : Thread Cert.SOutRefIdeal.nD Cert.SOutRefIdeal.τ).loc Cert.SOutRefIdeal.main_arg1) = m' ((c.tc : Thread Cert.SOutRefIdeal.nD Cert.SOutRefIdeal.τ).loc Cert.SOutRefIdeal.main_arg1))

def preserves_FOut_FOutIdeal : Prop :=
  True

def algebraic_FOutIdeal_FOutRefIdeal [hFOutIdeal : Cert.FOutIdeal.Facts] [hFOutRefIdeal : Cert.FOutRefIdeal.Facts] : Prop :=
  ∀ (m : (ℓ : Loc Cert.FOutIdeal.nD Cert.FOutIdeal.τ Cert.FOutIdeal.sig) → Buf (Elt Ideal) ℓ) (g : Dev Cert.FOutIdeal.nD → PrngReg)
    (m' : (ℓ : Loc Cert.FOutRefIdeal.nD Cert.FOutRefIdeal.τ Cert.FOutRefIdeal.sig) → Buf (Elt Ideal) ℓ) (g' : Dev Cert.FOutRefIdeal.nD → PrngReg), Pre_FOutIdeal m →
    (∀ c : Dev Cert.FOutIdeal.nD,
      m' ((c.tc : Thread Cert.FOutRefIdeal.nD Cert.FOutRefIdeal.τ).loc Cert.FOutRefIdeal.main_arg0) = m ((c.tc : Thread Cert.FOutIdeal.nD Cert.FOutIdeal.τ).loc Cert.FOutIdeal.main_arg0)
      ∧ m' ((c.tc : Thread Cert.FOutRefIdeal.nD Cert.FOutRefIdeal.τ).loc Cert.FOutRefIdeal.main_arg1) = m ((c.tc : Thread Cert.FOutIdeal.nD Cert.FOutIdeal.τ).loc Cert.FOutIdeal.main_arg1)) →
    ∃ (v0 : (c : Dev Cert.FOutIdeal.nD) → Buf (Elt Ideal) ((c.tc : Thread Cert.FOutIdeal.nD Cert.FOutIdeal.τ).loc Cert.FOutIdeal.main_v1)),
      θ_run (Cert.FOutIdeal.defs (F := Ideal)) (onTc (τ := Cert.FOutIdeal.τ) (Cert.FOutIdeal.main (F := Ideal))) ⟨m, fun _ => 0, g⟩ (fun r => ∀ c : Dev Cert.FOutIdeal.nD,
          r.2.mem ((c.tc : Thread Cert.FOutIdeal.nD Cert.FOutIdeal.τ).loc Cert.FOutIdeal.main_v1) = v0 c
          ∧ r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
          ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1))
      ∧ θ_run (Cert.FOutRefIdeal.defs (F := Ideal)) (onTc (τ := Cert.FOutRefIdeal.τ) (Cert.FOutRefIdeal.main (F := Ideal))) ⟨m', fun _ => 0, g'⟩ (fun r => ∀ c : Dev Cert.FOutRefIdeal.nD,
          r.2.mem ((c.tc : Thread Cert.FOutRefIdeal.nD Cert.FOutRefIdeal.τ).loc Cert.FOutRefIdeal.main_v1) = v0 c
          ∧ r.2.mem ((c.tc : Thread Cert.FOutRefIdeal.nD Cert.FOutRefIdeal.τ).loc Cert.FOutRefIdeal.main_arg0) = m' ((c.tc : Thread Cert.FOutRefIdeal.nD Cert.FOutRefIdeal.τ).loc Cert.FOutRefIdeal.main_arg0)
          ∧ r.2.mem ((c.tc : Thread Cert.FOutRefIdeal.nD Cert.FOutRefIdeal.τ).loc Cert.FOutRefIdeal.main_arg1) = m' ((c.tc : Thread Cert.FOutRefIdeal.nD Cert.FOutRefIdeal.τ).loc Cert.FOutRefIdeal.main_arg1))

def preserves_FProj_FProjIdeal : Prop :=
  True

def algebraic_FProjIdeal_FProjRefIdeal [hFProjIdeal : Cert.FProjIdeal.Facts] [hFProjRefIdeal : Cert.FProjRefIdeal.Facts] : Prop :=
  ∀ (m : (ℓ : Loc Cert.FProjIdeal.nD Cert.FProjIdeal.τ Cert.FProjIdeal.sig) → Buf (Elt Ideal) ℓ) (g : Dev Cert.FProjIdeal.nD → PrngReg)
    (m' : (ℓ : Loc Cert.FProjRefIdeal.nD Cert.FProjRefIdeal.τ Cert.FProjRefIdeal.sig) → Buf (Elt Ideal) ℓ) (g' : Dev Cert.FProjRefIdeal.nD → PrngReg), Pre_FProjIdeal m →
    (∀ c : Dev Cert.FProjIdeal.nD,
      m' ((c.tc : Thread Cert.FProjRefIdeal.nD Cert.FProjRefIdeal.τ).loc Cert.FProjRefIdeal.main_arg0) = m ((c.tc : Thread Cert.FProjIdeal.nD Cert.FProjIdeal.τ).loc Cert.FProjIdeal.main_arg0)
      ∧ m' ((c.tc : Thread Cert.FProjRefIdeal.nD Cert.FProjRefIdeal.τ).loc Cert.FProjRefIdeal.main_arg1) = m ((c.tc : Thread Cert.FProjIdeal.nD Cert.FProjIdeal.τ).loc Cert.FProjIdeal.main_arg1)) →
    ∃ (v0 : (c : Dev Cert.FProjIdeal.nD) → Buf (Elt Ideal) ((c.tc : Thread Cert.FProjIdeal.nD Cert.FProjIdeal.τ).loc Cert.FProjIdeal.main_v3)),
      θ_run (Cert.FProjIdeal.defs (F := Ideal)) (onTc (τ := Cert.FProjIdeal.τ) (Cert.FProjIdeal.main (F := Ideal))) ⟨m, fun _ => 0, g⟩ (fun r => ∀ c : Dev Cert.FProjIdeal.nD,
          r.2.mem ((c.tc : Thread Cert.FProjIdeal.nD Cert.FProjIdeal.τ).loc Cert.FProjIdeal.main_v3) = v0 c
          ∧ r.2.mem ((c.tc : Thread Cert.FProjIdeal.nD Cert.FProjIdeal.τ).loc Cert.FProjIdeal.main_arg0) = m ((c.tc : Thread Cert.FProjIdeal.nD Cert.FProjIdeal.τ).loc Cert.FProjIdeal.main_arg0)
          ∧ r.2.mem ((c.tc : Thread Cert.FProjIdeal.nD Cert.FProjIdeal.τ).loc Cert.FProjIdeal.main_arg1) = m ((c.tc : Thread Cert.FProjIdeal.nD Cert.FProjIdeal.τ).loc Cert.FProjIdeal.main_arg1))
      ∧ θ_run (Cert.FProjRefIdeal.defs (F := Ideal)) (onTc (τ := Cert.FProjRefIdeal.τ) (Cert.FProjRefIdeal.main (F := Ideal))) ⟨m', fun _ => 0, g'⟩ (fun r => ∀ c : Dev Cert.FProjRefIdeal.nD,
          r.2.mem ((c.tc : Thread Cert.FProjRefIdeal.nD Cert.FProjRefIdeal.τ).loc Cert.FProjRefIdeal.main_v3) = v0 c
          ∧ r.2.mem ((c.tc : Thread Cert.FProjRefIdeal.nD Cert.FProjRefIdeal.τ).loc Cert.FProjRefIdeal.main_arg0) = m' ((c.tc : Thread Cert.FProjRefIdeal.nD Cert.FProjRefIdeal.τ).loc Cert.FProjRefIdeal.main_arg0)
          ∧ r.2.mem ((c.tc : Thread Cert.FProjRefIdeal.nD Cert.FProjRefIdeal.τ).loc Cert.FProjRefIdeal.main_arg1) = m' ((c.tc : Thread Cert.FProjRefIdeal.nD Cert.FProjRefIdeal.τ).loc Cert.FProjRefIdeal.main_arg1))

def preserves_GateBwd_GateBwdIdeal : Prop :=
  True

def algebraic_GateBwdIdeal_GateBwdRefIdeal_pre_finite_s5_gate [hGateBwdIdeal : Cert.GateBwdIdeal.Facts] [hGateBwdRefIdeal : Cert.GateBwdRefIdeal.Facts] [hPre_finite_s5_gate : Cert.Pre_finite_s5_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite_s5_gate m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v32) = v0 c
          ∧ r.2.mem ((c.tc : Thread Cert.GateBwdRefIdeal.nD Cert.GateBwdRefIdeal.τ).loc Cert.GateBwdRefIdeal.main_v36) = v1 c
          ∧ r.2.mem ((c.tc : Thread Cert.GateBwdRefIdeal.nD Cert.GateBwdRefIdeal.τ).loc Cert.GateBwdRefIdeal.main_v37) = v2 c
          ∧ r.2.mem ((c.tc : Thread Cert.GateBwdRefIdeal.nD Cert.GateBwdRefIdeal.τ).loc Cert.GateBwdRefIdeal.main_v35) = v3 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4))

def preserves_CumBwd_CumBwdIdeal : Prop :=
  True

def algebraic_CumBwdIdeal_CumBwdRefIdeal_pre_finite_dcum [hCumBwdIdeal : Cert.CumBwdIdeal.Facts] [hCumBwdRefIdeal : Cert.CumBwdRefIdeal.Facts] [hPre_finite_dcum : Cert.Pre_finite_dcum.Facts] : Prop :=
  ∀ (m : (ℓ : Loc Cert.CumBwdIdeal.nD Cert.CumBwdIdeal.τ Cert.CumBwdIdeal.sig) → Buf (Elt Ideal) ℓ) (g : Dev Cert.CumBwdIdeal.nD → PrngReg)
    (m' : (ℓ : Loc Cert.CumBwdRefIdeal.nD Cert.CumBwdRefIdeal.τ Cert.CumBwdRefIdeal.sig) → Buf (Elt Ideal) ℓ) (g' : Dev Cert.CumBwdRefIdeal.nD → PrngReg), Pre_CumBwdIdeal_finite_dcum m →
    (∀ c : Dev Cert.CumBwdIdeal.nD,
      m' ((c.tc : Thread Cert.CumBwdRefIdeal.nD Cert.CumBwdRefIdeal.τ).loc Cert.CumBwdRefIdeal.main_arg0) = m ((c.tc : Thread Cert.CumBwdIdeal.nD Cert.CumBwdIdeal.τ).loc Cert.CumBwdIdeal.main_arg0)
      ∧ m' ((c.tc : Thread Cert.CumBwdRefIdeal.nD Cert.CumBwdRefIdeal.τ).loc Cert.CumBwdRefIdeal.main_arg1) = m ((c.tc : Thread Cert.CumBwdIdeal.nD Cert.CumBwdIdeal.τ).loc Cert.CumBwdIdeal.main_arg1)
      ∧ m' ((c.tc : Thread Cert.CumBwdRefIdeal.nD Cert.CumBwdRefIdeal.τ).loc Cert.CumBwdRefIdeal.main_arg2) = m ((c.tc : Thread Cert.CumBwdIdeal.nD Cert.CumBwdIdeal.τ).loc Cert.CumBwdIdeal.main_arg2)) →
    ∃ (v0 : (c : Dev Cert.CumBwdIdeal.nD) → Buf (Elt Ideal) ((c.tc : Thread Cert.CumBwdIdeal.nD Cert.CumBwdIdeal.τ).loc Cert.CumBwdIdeal.main_v5_0)) (v1 : (c : Dev Cert.CumBwdIdeal.nD) → Buf (Elt Ideal) ((c.tc : Thread Cert.CumBwdIdeal.nD Cert.CumBwdIdeal.τ).loc Cert.CumBwdIdeal.main_v5_1)),
      θ_run (Cert.CumBwdIdeal.defs (F := Ideal)) (onTc (τ := Cert.CumBwdIdeal.τ) (Cert.CumBwdIdeal.main (F := Ideal))) ⟨m, fun _ => 0, g⟩ (fun r => ∀ c : Dev Cert.CumBwdIdeal.nD,
          r.2.mem ((c.tc : Thread Cert.CumBwdIdeal.nD Cert.CumBwdIdeal.τ).loc Cert.CumBwdIdeal.main_v5_0) = v0 c
          ∧ r.2.mem ((c.tc : Thread Cert.CumBwdIdeal.nD Cert.CumBwdIdeal.τ).loc Cert.CumBwdIdeal.main_v5_1) = v1 c
          ∧ r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
          ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
          ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ θ_run (Cert.CumBwdRefIdeal.defs (F := Ideal)) (onTc (τ := Cert.CumBwdRefIdeal.τ) (Cert.CumBwdRefIdeal.main (F := Ideal))) ⟨m', fun _ => 0, g'⟩ (fun r => ∀ c : Dev Cert.CumBwdRefIdeal.nD,
          r.2.mem ((c.tc : Thread Cert.CumBwdRefIdeal.nD Cert.CumBwdRefIdeal.τ).loc Cert.CumBwdRefIdeal.main_v13) = v0 c
          ∧ r.2.mem ((c.tc : Thread Cert.CumBwdRefIdeal.nD Cert.CumBwdRefIdeal.τ).loc Cert.CumBwdRefIdeal.main_v15) = v1 c
          ∧ r.2.mem ((c.tc : Thread Cert.CumBwdRefIdeal.nD Cert.CumBwdRefIdeal.τ).loc Cert.CumBwdRefIdeal.main_arg0) = m' ((c.tc : Thread Cert.CumBwdRefIdeal.nD Cert.CumBwdRefIdeal.τ).loc Cert.CumBwdRefIdeal.main_arg0)
          ∧ r.2.mem ((c.tc : Thread Cert.CumBwdRefIdeal.nD Cert.CumBwdRefIdeal.τ).loc Cert.CumBwdRefIdeal.main_arg1) = m' ((c.tc : Thread Cert.CumBwdRefIdeal.nD Cert.CumBwdRefIdeal.τ).loc Cert.CumBwdRefIdeal.main_arg1)
          ∧ r.2.mem ((c.tc : Thread Cert.CumBwdRefIdeal.nD Cert.CumBwdRefIdeal.τ).loc Cert.CumBwdRefIdeal.main_arg2) = m' ((c.tc : Thread Cert.CumBwdRefIdeal.nD Cert.CumBwdRefIdeal.τ).loc Cert.CumBwdRefIdeal.main_arg2))

def preserves_CumFwd_CumFwdIdeal : Prop :=
  True

def algebraic_CumFwdIdeal_CumFwdRefIdeal [hCumFwdIdeal : Cert.CumFwdIdeal.Facts] [hCumFwdRefIdeal : Cert.CumFwdRefIdeal.Facts] : Prop :=
  ∀ (m : (ℓ : Loc Cert.CumFwdIdeal.nD Cert.CumFwdIdeal.τ Cert.CumFwdIdeal.sig) → Buf (Elt Ideal) ℓ) (g : Dev Cert.CumFwdIdeal.nD → PrngReg)
    (m' : (ℓ : Loc Cert.CumFwdRefIdeal.nD Cert.CumFwdRefIdeal.τ Cert.CumFwdRefIdeal.sig) → Buf (Elt Ideal) ℓ) (g' : Dev Cert.CumFwdRefIdeal.nD → PrngReg), Pre_CumFwdIdeal m →
    (∀ c : Dev Cert.CumFwdIdeal.nD,
      m' ((c.tc : Thread Cert.CumFwdRefIdeal.nD Cert.CumFwdRefIdeal.τ).loc Cert.CumFwdRefIdeal.main_arg0) = m ((c.tc : Thread Cert.CumFwdIdeal.nD Cert.CumFwdIdeal.τ).loc Cert.CumFwdIdeal.main_arg0)
      ∧ m' ((c.tc : Thread Cert.CumFwdRefIdeal.nD Cert.CumFwdRefIdeal.τ).loc Cert.CumFwdRefIdeal.main_arg1) = m ((c.tc : Thread Cert.CumFwdIdeal.nD Cert.CumFwdIdeal.τ).loc Cert.CumFwdIdeal.main_arg1)) →
    ∃ (v0 : (c : Dev Cert.CumFwdIdeal.nD) → Buf (Elt Ideal) ((c.tc : Thread Cert.CumFwdIdeal.nD Cert.CumFwdIdeal.τ).loc Cert.CumFwdIdeal.main_v2)),
      θ_run (Cert.CumFwdIdeal.defs (F := Ideal)) (onTc (τ := Cert.CumFwdIdeal.τ) (Cert.CumFwdIdeal.main (F := Ideal))) ⟨m, fun _ => 0, g⟩ (fun r => ∀ c : Dev Cert.CumFwdIdeal.nD,
          r.2.mem ((c.tc : Thread Cert.CumFwdIdeal.nD Cert.CumFwdIdeal.τ).loc Cert.CumFwdIdeal.main_v2) = v0 c
          ∧ r.2.mem ((c.tc : Thread Cert.CumFwdIdeal.nD Cert.CumFwdIdeal.τ).loc Cert.CumFwdIdeal.main_arg0) = m ((c.tc : Thread Cert.CumFwdIdeal.nD Cert.CumFwdIdeal.τ).loc Cert.CumFwdIdeal.main_arg0)
          ∧ r.2.mem ((c.tc : Thread Cert.CumFwdIdeal.nD Cert.CumFwdIdeal.τ).loc Cert.CumFwdIdeal.main_arg1) = m ((c.tc : Thread Cert.CumFwdIdeal.nD Cert.CumFwdIdeal.τ).loc Cert.CumFwdIdeal.main_arg1))
      ∧ θ_run (Cert.CumFwdRefIdeal.defs (F := Ideal)) (onTc (τ := Cert.CumFwdRefIdeal.τ) (Cert.CumFwdRefIdeal.main (F := Ideal))) ⟨m', fun _ => 0, g'⟩ (fun r => ∀ c : Dev Cert.CumFwdRefIdeal.nD,
          r.2.mem ((c.tc : Thread Cert.CumFwdRefIdeal.nD Cert.CumFwdRefIdeal.τ).loc Cert.CumFwdRefIdeal.main_v5) = v0 c
          ∧ r.2.mem ((c.tc : Thread Cert.CumFwdRefIdeal.nD Cert.CumFwdRefIdeal.τ).loc Cert.CumFwdRefIdeal.main_arg0) = m' ((c.tc : Thread Cert.CumFwdRefIdeal.nD Cert.CumFwdRefIdeal.τ).loc Cert.CumFwdRefIdeal.main_arg0)
          ∧ r.2.mem ((c.tc : Thread Cert.CumFwdRefIdeal.nD Cert.CumFwdRefIdeal.τ).loc Cert.CumFwdRefIdeal.main_arg1) = m' ((c.tc : Thread Cert.CumFwdRefIdeal.nD Cert.CumFwdRefIdeal.τ).loc Cert.CumFwdRefIdeal.main_arg1))

def preserves_MidNorms_MidNormsIdeal : Prop :=
  True

def algebraic_MidNormsIdeal_MidNormsRefIdeal [hMidNormsIdeal : Cert.MidNormsIdeal.Facts] [hMidNormsRefIdeal : Cert.MidNormsRefIdeal.Facts] : Prop :=
  ∀ (m : (ℓ : Loc Cert.MidNormsIdeal.nD Cert.MidNormsIdeal.τ Cert.MidNormsIdeal.sig) → Buf (Elt Ideal) ℓ) (g : Dev Cert.MidNormsIdeal.nD → PrngReg)
    (m' : (ℓ : Loc Cert.MidNormsRefIdeal.nD Cert.MidNormsRefIdeal.τ Cert.MidNormsRefIdeal.sig) → Buf (Elt Ideal) ℓ) (g' : Dev Cert.MidNormsRefIdeal.nD → PrngReg), Pre_MidNormsIdeal m →
    (∀ c : Dev Cert.MidNormsIdeal.nD,
      m' ((c.tc : Thread Cert.MidNormsRefIdeal.nD Cert.MidNormsRefIdeal.τ).loc Cert.MidNormsRefIdeal.main_arg0) = m ((c.tc : Thread Cert.MidNormsIdeal.nD Cert.MidNormsIdeal.τ).loc Cert.MidNormsIdeal.main_arg0)
      ∧ m' ((c.tc : Thread Cert.MidNormsRefIdeal.nD Cert.MidNormsRefIdeal.τ).loc Cert.MidNormsRefIdeal.main_arg1) = m ((c.tc : Thread Cert.MidNormsIdeal.nD Cert.MidNormsIdeal.τ).loc Cert.MidNormsIdeal.main_arg1)
      ∧ m' ((c.tc : Thread Cert.MidNormsRefIdeal.nD Cert.MidNormsRefIdeal.τ).loc Cert.MidNormsRefIdeal.main_arg2) = m ((c.tc : Thread Cert.MidNormsIdeal.nD Cert.MidNormsIdeal.τ).loc Cert.MidNormsIdeal.main_arg2)
      ∧ m' ((c.tc : Thread Cert.MidNormsRefIdeal.nD Cert.MidNormsRefIdeal.τ).loc Cert.MidNormsRefIdeal.main_arg3) = m ((c.tc : Thread Cert.MidNormsIdeal.nD Cert.MidNormsIdeal.τ).loc Cert.MidNormsIdeal.main_arg3)
      ∧ m' ((c.tc : Thread Cert.MidNormsRefIdeal.nD Cert.MidNormsRefIdeal.τ).loc Cert.MidNormsRefIdeal.main_arg4) = m ((c.tc : Thread Cert.MidNormsIdeal.nD Cert.MidNormsIdeal.τ).loc Cert.MidNormsIdeal.main_arg4)) →
    ∃ (v0 : (c : Dev Cert.MidNormsIdeal.nD) → Buf (Elt Ideal) ((c.tc : Thread Cert.MidNormsIdeal.nD Cert.MidNormsIdeal.τ).loc Cert.MidNormsIdeal.main_v0_0)) (v1 : (c : Dev Cert.MidNormsIdeal.nD) → Buf (Elt Ideal) ((c.tc : Thread Cert.MidNormsIdeal.nD Cert.MidNormsIdeal.τ).loc Cert.MidNormsIdeal.main_v0_1)) (v2 : (c : Dev Cert.MidNormsIdeal.nD) → Buf (Elt Ideal) ((c.tc : Thread Cert.MidNormsIdeal.nD Cert.MidNormsIdeal.τ).loc Cert.MidNormsIdeal.main_v0_2)),
      θ_run (Cert.MidNormsIdeal.defs (F := Ideal)) (onTc (τ := Cert.MidNormsIdeal.τ) (Cert.MidNormsIdeal.main (F := Ideal))) ⟨m, fun _ => 0, g⟩ (fun r => ∀ c : Dev Cert.MidNormsIdeal.nD,
          r.2.mem ((c.tc : Thread Cert.MidNormsIdeal.nD Cert.MidNormsIdeal.τ).loc Cert.MidNormsIdeal.main_v0_0) = v0 c
          ∧ r.2.mem ((c.tc : Thread Cert.MidNormsIdeal.nD Cert.MidNormsIdeal.τ).loc Cert.MidNormsIdeal.main_v0_1) = v1 c
          ∧ r.2.mem ((c.tc : Thread Cert.MidNormsIdeal.nD Cert.MidNormsIdeal.τ).loc Cert.MidNormsIdeal.main_v0_2) = v2 c
          ∧ r.2.mem ((c.tc : Thread Cert.MidNormsIdeal.nD Cert.MidNormsIdeal.τ).loc Cert.MidNormsIdeal.main_arg0) = m ((c.tc : Thread Cert.MidNormsIdeal.nD Cert.MidNormsIdeal.τ).loc Cert.MidNormsIdeal.main_arg0)
          ∧ r.2.mem ((c.tc : Thread Cert.MidNormsIdeal.nD Cert.MidNormsIdeal.τ).loc Cert.MidNormsIdeal.main_arg1) = m ((c.tc : Thread Cert.MidNormsIdeal.nD Cert.MidNormsIdeal.τ).loc Cert.MidNormsIdeal.main_arg1)
          ∧ r.2.mem ((c.tc : Thread Cert.MidNormsIdeal.nD Cert.MidNormsIdeal.τ).loc Cert.MidNormsIdeal.main_arg2) = m ((c.tc : Thread Cert.MidNormsIdeal.nD Cert.MidNormsIdeal.τ).loc Cert.MidNormsIdeal.main_arg2)
          ∧ r.2.mem ((c.tc : Thread Cert.MidNormsIdeal.nD Cert.MidNormsIdeal.τ).loc Cert.MidNormsIdeal.main_arg3) = m ((c.tc : Thread Cert.MidNormsIdeal.nD Cert.MidNormsIdeal.τ).loc Cert.MidNormsIdeal.main_arg3)
          ∧ r.2.mem ((c.tc : Thread Cert.MidNormsIdeal.nD Cert.MidNormsIdeal.τ).loc Cert.MidNormsIdeal.main_arg4) = m ((c.tc : Thread Cert.MidNormsIdeal.nD Cert.MidNormsIdeal.τ).loc Cert.MidNormsIdeal.main_arg4))
      ∧ θ_run (Cert.MidNormsRefIdeal.defs (F := Ideal)) (onTc (τ := Cert.MidNormsRefIdeal.τ) (Cert.MidNormsRefIdeal.main (F := Ideal))) ⟨m', fun _ => 0, g'⟩ (fun r => ∀ c : Dev Cert.MidNormsRefIdeal.nD,
          r.2.mem ((c.tc : Thread Cert.MidNormsRefIdeal.nD Cert.MidNormsRefIdeal.τ).loc Cert.MidNormsRefIdeal.main_v12) = v0 c
          ∧ r.2.mem ((c.tc : Thread Cert.MidNormsRefIdeal.nD Cert.MidNormsRefIdeal.τ).loc Cert.MidNormsRefIdeal.main_v25) = v1 c
          ∧ r.2.mem ((c.tc : Thread Cert.MidNormsRefIdeal.nD Cert.MidNormsRefIdeal.τ).loc Cert.MidNormsRefIdeal.main_v38) = v2 c
          ∧ r.2.mem ((c.tc : Thread Cert.MidNormsRefIdeal.nD Cert.MidNormsRefIdeal.τ).loc Cert.MidNormsRefIdeal.main_arg0) = m' ((c.tc : Thread Cert.MidNormsRefIdeal.nD Cert.MidNormsRefIdeal.τ).loc Cert.MidNormsRefIdeal.main_arg0)
          ∧ r.2.mem ((c.tc : Thread Cert.MidNormsRefIdeal.nD Cert.MidNormsRefIdeal.τ).loc Cert.MidNormsRefIdeal.main_arg1) = m' ((c.tc : Thread Cert.MidNormsRefIdeal.nD Cert.MidNormsRefIdeal.τ).loc Cert.MidNormsRefIdeal.main_arg1)
          ∧ r.2.mem ((c.tc : Thread Cert.MidNormsRefIdeal.nD Cert.MidNormsRefIdeal.τ).loc Cert.MidNormsRefIdeal.main_arg2) = m' ((c.tc : Thread Cert.MidNormsRefIdeal.nD Cert.MidNormsRefIdeal.τ).loc Cert.MidNormsRefIdeal.main_arg2)
          ∧ r.2.mem ((c.tc : Thread Cert.MidNormsRefIdeal.nD Cert.MidNormsRefIdeal.τ).loc Cert.MidNormsRefIdeal.main_arg3) = m' ((c.tc : Thread Cert.MidNormsRefIdeal.nD Cert.MidNormsRefIdeal.τ).loc Cert.MidNormsRefIdeal.main_arg3)
          ∧ r.2.mem ((c.tc : Thread Cert.MidNormsRefIdeal.nD Cert.MidNormsRefIdeal.τ).loc Cert.MidNormsRefIdeal.main_arg4) = m' ((c.tc : Thread Cert.MidNormsRefIdeal.nD Cert.MidNormsRefIdeal.τ).loc Cert.MidNormsRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v30) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v51) = v2 c
          ∧ r.2.mem ((c.tc : Thread Cert.LossHeadRefIdeal.nD Cert.LossHeadRefIdeal.τ).loc Cert.LossHeadRefIdeal.main_v33) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hAttFwd : Cert.AttFwd.Facts) (hAttFwdIdeal : Cert.AttFwdIdeal.Facts) (hAttFwdRefIdeal : Cert.AttFwdRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hSOutDx : Cert.SOutDx.Facts) (hSOutDxIdeal : Cert.SOutDxIdeal.Facts) (hSOutDxRefIdeal : Cert.SOutDxRefIdeal.Facts) (hSOutDw : Cert.SOutDw.Facts) (hSOutDwIdeal : Cert.SOutDwIdeal.Facts) (hSOutDwRefIdeal : Cert.SOutDwRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hFDx : Cert.FDx.Facts) (hFDxIdeal : Cert.FDxIdeal.Facts) (hFDxRefIdeal : Cert.FDxRefIdeal.Facts) (hFDw : Cert.FDw.Facts) (hFDwIdeal : Cert.FDwIdeal.Facts) (hFDwRefIdeal : Cert.FDwRefIdeal.Facts) (hSIn : Cert.SIn.Facts) (hSInIdeal : Cert.SInIdeal.Facts) (hSInRefIdeal : Cert.SInRefIdeal.Facts) (hGlu : Cert.Glu.Facts) (hGluIdeal : Cert.GluIdeal.Facts) (hGluRefIdeal : Cert.GluRefIdeal.Facts) (hSOut : Cert.SOut.Facts) (hSOutIdeal : Cert.SOutIdeal.Facts) (hSOutRefIdeal : Cert.SOutRefIdeal.Facts) (hFOut : Cert.FOut.Facts) (hFOutIdeal : Cert.FOutIdeal.Facts) (hFOutRefIdeal : Cert.FOutRefIdeal.Facts) (hFProj : Cert.FProj.Facts) (hFProjIdeal : Cert.FProjIdeal.Facts) (hFProjRefIdeal : Cert.FProjRefIdeal.Facts) (hGateBwd : Cert.GateBwd.Facts) (hGateBwdIdeal : Cert.GateBwdIdeal.Facts) (hGateBwdRefIdeal : Cert.GateBwdRefIdeal.Facts) (hCumBwd : Cert.CumBwd.Facts) (hCumBwdIdeal : Cert.CumBwdIdeal.Facts) (hCumBwdRefIdeal : Cert.CumBwdRefIdeal.Facts) (hCumFwd : Cert.CumFwd.Facts) (hCumFwdIdeal : Cert.CumFwdIdeal.Facts) (hCumFwdRefIdeal : Cert.CumFwdRefIdeal.Facts) (hMidNorms : Cert.MidNorms.Facts) (hMidNormsIdeal : Cert.MidNormsIdeal.Facts) (hMidNormsRefIdeal : Cert.MidNormsRefIdeal.Facts) (hLossHead : Cert.LossHead.Facts) (hLossHeadIdeal : Cert.LossHeadIdeal.Facts) (hLossHeadRefIdeal : Cert.LossHeadRefIdeal.Facts) (hKernel : Cert.Kernel.Facts) (hKernelIdeal : Cert.KernelIdeal.Facts) (hReferenceIdeal : Cert.ReferenceIdeal.Facts) (hPre_finite_qk : Cert.Pre_finite_qk.Facts) (hPre_finite_gate : Cert.Pre_finite_gate.Facts) (hPre_finite_glu : Cert.Pre_finite_glu.Facts) (hPre_finite_s5_gate : Cert.Pre_finite_s5_gate.Facts) (hPre_finite_dcum : Cert.Pre_finite_dcum.Facts) (hPre_finite : Cert.Pre_finite.Facts),
    quiescent_AttFwd (hAttFwd := hAttFwd)
    ∧ quiescent_AttFwdIdeal (hAttFwdIdeal := hAttFwdIdeal)
    ∧ quiescent_AttFwdIdeal_pre_finite_qk (hAttFwdIdeal := hAttFwdIdeal) (hPre_finite_qk := hPre_finite_qk)
    ∧ quiescent_AttFwdRefIdeal (hAttFwdRefIdeal := hAttFwdRefIdeal)
    ∧ quiescent_AttFwdRefIdeal_pre_finite_qk (hAttFwdRefIdeal := hAttFwdRefIdeal) (hPre_finite_qk := hPre_finite_qk)
    ∧ quiescent_OutDx (hOutDx := hOutDx)
    ∧ quiescent_OutDxIdeal (hOutDxIdeal := hOutDxIdeal)
    ∧ quiescent_OutDxIdeal_pre_finite_gate (hOutDxIdeal := hOutDxIdeal) (hPre_finite_gate := hPre_finite_gate)
    ∧ quiescent_OutDxRefIdeal (hOutDxRefIdeal := hOutDxRefIdeal)
    ∧ quiescent_OutDxRefIdeal_pre_finite_gate (hOutDxRefIdeal := hOutDxRefIdeal) (hPre_finite_gate := hPre_finite_gate)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_SOutDx (hSOutDx := hSOutDx)
    ∧ quiescent_SOutDxIdeal (hSOutDxIdeal := hSOutDxIdeal)
    ∧ quiescent_SOutDxRefIdeal (hSOutDxRefIdeal := hSOutDxRefIdeal)
    ∧ quiescent_SOutDw (hSOutDw := hSOutDw)
    ∧ quiescent_SOutDwIdeal (hSOutDwIdeal := hSOutDwIdeal)
    ∧ quiescent_SOutDwRefIdeal (hSOutDwRefIdeal := hSOutDwRefIdeal)
    ∧ quiescent_GluDx (hGluDx := hGluDx)
    ∧ quiescent_GluDxIdeal (hGluDxIdeal := hGluDxIdeal)
    ∧ quiescent_GluDxIdeal_pre_finite_glu (hGluDxIdeal := hGluDxIdeal) (hPre_finite_glu := hPre_finite_glu)
    ∧ quiescent_GluDxRefIdeal (hGluDxRefIdeal := hGluDxRefIdeal)
    ∧ quiescent_GluDxRefIdeal_pre_finite_glu (hGluDxRefIdeal := hGluDxRefIdeal) (hPre_finite_glu := hPre_finite_glu)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_FDx (hFDx := hFDx)
    ∧ quiescent_FDxIdeal (hFDxIdeal := hFDxIdeal)
    ∧ quiescent_FDxRefIdeal (hFDxRefIdeal := hFDxRefIdeal)
    ∧ quiescent_FDw (hFDw := hFDw)
    ∧ quiescent_FDwIdeal (hFDwIdeal := hFDwIdeal)
    ∧ quiescent_FDwRefIdeal (hFDwRefIdeal := hFDwRefIdeal)
    ∧ quiescent_SIn (hSIn := hSIn)
    ∧ quiescent_SInIdeal (hSInIdeal := hSInIdeal)
    ∧ quiescent_SInRefIdeal (hSInRefIdeal := hSInRefIdeal)
    ∧ quiescent_Glu (hGlu := hGlu)
    ∧ quiescent_GluIdeal (hGluIdeal := hGluIdeal)
    ∧ quiescent_GluRefIdeal (hGluRefIdeal := hGluRefIdeal)
    ∧ quiescent_SOut (hSOut := hSOut)
    ∧ quiescent_SOutIdeal (hSOutIdeal := hSOutIdeal)
    ∧ quiescent_SOutRefIdeal (hSOutRefIdeal := hSOutRefIdeal)
    ∧ quiescent_FOut (hFOut := hFOut)
    ∧ quiescent_FOutIdeal (hFOutIdeal := hFOutIdeal)
    ∧ quiescent_FOutRefIdeal (hFOutRefIdeal := hFOutRefIdeal)
    ∧ quiescent_FProj (hFProj := hFProj)
    ∧ quiescent_FProjIdeal (hFProjIdeal := hFProjIdeal)
    ∧ quiescent_FProjRefIdeal (hFProjRefIdeal := hFProjRefIdeal)
    ∧ quiescent_GateBwd (hGateBwd := hGateBwd)
    ∧ quiescent_GateBwdIdeal (hGateBwdIdeal := hGateBwdIdeal)
    ∧ quiescent_GateBwdIdeal_pre_finite_s5_gate (hGateBwdIdeal := hGateBwdIdeal) (hPre_finite_s5_gate := hPre_finite_s5_gate)
    ∧ quiescent_GateBwdRefIdeal (hGateBwdRefIdeal := hGateBwdRefIdeal)
    ∧ quiescent_GateBwdRefIdeal_pre_finite_s5_gate (hGateBwdRefIdeal := hGateBwdRefIdeal) (hPre_finite_s5_gate := hPre_finite_s5_gate)
    ∧ quiescent_CumBwd (hCumBwd := hCumBwd)
    ∧ quiescent_CumBwdIdeal (hCumBwdIdeal := hCumBwdIdeal)
    ∧ quiescent_CumBwdIdeal_pre_finite_dcum (hCumBwdIdeal := hCumBwdIdeal) (hPre_finite_dcum := hPre_finite_dcum)
    ∧ quiescent_CumBwdRefIdeal (hCumBwdRefIdeal := hCumBwdRefIdeal)
    ∧ quiescent_CumBwdRefIdeal_pre_finite_dcum (hCumBwdRefIdeal := hCumBwdRefIdeal) (hPre_finite_dcum := hPre_finite_dcum)
    ∧ quiescent_CumFwd (hCumFwd := hCumFwd)
    ∧ quiescent_CumFwdIdeal (hCumFwdIdeal := hCumFwdIdeal)
    ∧ quiescent_CumFwdRefIdeal (hCumFwdRefIdeal := hCumFwdRefIdeal)
    ∧ quiescent_MidNorms (hMidNorms := hMidNorms)
    ∧ quiescent_MidNormsIdeal (hMidNormsIdeal := hMidNormsIdeal)
    ∧ quiescent_MidNormsRefIdeal (hMidNormsRefIdeal := hMidNormsRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_AttFwd_AttFwdIdeal
    ∧ algebraic_AttFwdIdeal_AttFwdRefIdeal_pre_finite_qk (hAttFwdIdeal := hAttFwdIdeal) (hAttFwdRefIdeal := hAttFwdRefIdeal) (hPre_finite_qk := hPre_finite_qk)
    ∧ preserves_OutDx_OutDxIdeal
    ∧ algebraic_OutDxIdeal_OutDxRefIdeal_pre_finite_gate (hOutDxIdeal := hOutDxIdeal) (hOutDxRefIdeal := hOutDxRefIdeal) (hPre_finite_gate := hPre_finite_gate)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
    ∧ preserves_SOutDx_SOutDxIdeal
    ∧ algebraic_SOutDxIdeal_SOutDxRefIdeal (hSOutDxIdeal := hSOutDxIdeal) (hSOutDxRefIdeal := hSOutDxRefIdeal)
    ∧ preserves_SOutDw_SOutDwIdeal
    ∧ algebraic_SOutDwIdeal_SOutDwRefIdeal (hSOutDwIdeal := hSOutDwIdeal) (hSOutDwRefIdeal := hSOutDwRefIdeal)
    ∧ preserves_GluDx_GluDxIdeal
    ∧ algebraic_GluDxIdeal_GluDxRefIdeal_pre_finite_glu (hGluDxIdeal := hGluDxIdeal) (hGluDxRefIdeal := hGluDxRefIdeal) (hPre_finite_glu := hPre_finite_glu)
    ∧ preserves_GluDw_GluDwIdeal
    ∧ algebraic_GluDwIdeal_GluDwRefIdeal (hGluDwIdeal := hGluDwIdeal) (hGluDwRefIdeal := hGluDwRefIdeal)
    ∧ preserves_FDx_FDxIdeal
    ∧ algebraic_FDxIdeal_FDxRefIdeal (hFDxIdeal := hFDxIdeal) (hFDxRefIdeal := hFDxRefIdeal)
    ∧ preserves_FDw_FDwIdeal
    ∧ algebraic_FDwIdeal_FDwRefIdeal (hFDwIdeal := hFDwIdeal) (hFDwRefIdeal := hFDwRefIdeal)
    ∧ preserves_SIn_SInIdeal
    ∧ algebraic_SInIdeal_SInRefIdeal (hSInIdeal := hSInIdeal) (hSInRefIdeal := hSInRefIdeal)
    ∧ preserves_Glu_GluIdeal
    ∧ algebraic_GluIdeal_GluRefIdeal (hGluIdeal := hGluIdeal) (hGluRefIdeal := hGluRefIdeal)
    ∧ preserves_SOut_SOutIdeal
    ∧ algebraic_SOutIdeal_SOutRefIdeal (hSOutIdeal := hSOutIdeal) (hSOutRefIdeal := hSOutRefIdeal)
    ∧ preserves_FOut_FOutIdeal
    ∧ algebraic_FOutIdeal_FOutRefIdeal (hFOutIdeal := hFOutIdeal) (hFOutRefIdeal := hFOutRefIdeal)
    ∧ preserves_FProj_FProjIdeal
    ∧ algebraic_FProjIdeal_FProjRefIdeal (hFProjIdeal := hFProjIdeal) (hFProjRefIdeal := hFProjRefIdeal)
    ∧ preserves_GateBwd_GateBwdIdeal
    ∧ algebraic_GateBwdIdeal_GateBwdRefIdeal_pre_finite_s5_gate (hGateBwdIdeal := hGateBwdIdeal) (hGateBwdRefIdeal := hGateBwdRefIdeal) (hPre_finite_s5_gate := hPre_finite_s5_gate)
    ∧ preserves_CumBwd_CumBwdIdeal
    ∧ algebraic_CumBwdIdeal_CumBwdRefIdeal_pre_finite_dcum (hCumBwdIdeal := hCumBwdIdeal) (hCumBwdRefIdeal := hCumBwdRefIdeal) (hPre_finite_dcum := hPre_finite_dcum)
    ∧ preserves_CumFwd_CumFwdIdeal
    ∧ algebraic_CumFwdIdeal_CumFwdRefIdeal (hCumFwdIdeal := hCumFwdIdeal) (hCumFwdRefIdeal := hCumFwdRefIdeal)
    ∧ preserves_MidNorms_MidNormsIdeal
    ∧ algebraic_MidNormsIdeal_MidNormsRefIdeal (hMidNormsIdeal := hMidNormsIdeal) (hMidNormsRefIdeal := hMidNormsRefIdeal)
    ∧ preserves_LossHead_LossHeadIdeal
    ∧ algebraic_LossHeadIdeal_LossHeadRefIdeal (hLossHeadIdeal := hLossHeadIdeal) (hLossHeadRefIdeal := hLossHeadRefIdeal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096 : Shape := ⟨2, ![4096, 4096]⟩
abbrev S16x4096 : Shape := ⟨2, ![16, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  bcast_S_S16x4096 : S_.BroadcastsInDim S16x4096 (![] : Fin 0 → Fin S16x4096.rank)
  bcast_S_S4096x2048 : S_.BroadcastsInDim S4096x2048 (![] : Fin 0 → Fin S4096x2048.rank)

variable [Facts]

def fn {F : FTy → Type} [FloatOps F] (main_arg0 : FVec F S4096x4096 .f32) (main_arg1 : FVec F S4096x4096 .f32) (main_arg2 : FVec F S16x4096 .f32) (main_arg3 : FVec F S4096x2048 .f32) : IVec S4096x4096 1 × IVec S4096x4096 1 × IVec S16x4096 1 × IVec S4096x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S16x4096 .f32 := Host.absf main_arg2
  let main_cst_1 : FVec F S_ .f32 := constant S_ .f32 0x7F800000#32
  let main_v7 : FVec F S16x4096 .f32 := broadcastInDim S16x4096 ![] bcast_S_S16x4096 main_cst_1
  let main_v8 : IVec S16x4096 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_finite_dcum.lean ====
abbrev S16x8x1x512 : Shape := ⟨4, ![16, 8, 1, 512]⟩
abbrev S4096x128 : Shape := ⟨2, ![4096, 128]⟩
abbrev S16 : Shape := ⟨1, ![16]⟩
abbrev S_ : Shape := ⟨0, ![]⟩

class Facts : Prop where
  bcast_S_S16x8x1x512 : S_.BroadcastsInDim S16x8x1x512 (![] : Fin 0 → Fin S16x8x1x512.rank)

variable [Facts]

def fn {F : FTy → Type} [FloatOps F] (main_arg0 : FVec F S16x8x1x512 .f32) (main_arg1 : FVec F S4096x128 .f32) (main_arg2 : FVec F S16 .f32) : IVec S16x8x1x512 1 :=
  let main_v0 : FVec F S16x8x1x512 .f32 := Host.absf main_arg0
  let main_cst : FVec F S_ .f32 := constant S_ .f32 0x7F800000#32
  let main_v1 : FVec F S16x8x1x512 .f32 := broadcastInDim S16x8x1x512 ![] bcast_S_S16x8x1x512 main_cst
  let main_v2 : IVec S16x8x1x512 1 := cmpf .olt main_v0 main_v1
  main_v2
-- ==== Pre_finite_gate.lean ====
abbrev S4096x2048 : Shape := ⟨2, ![4096, 2048]⟩
abbrev S2048x2048 : Shape := ⟨2, ![2048, 2048]⟩
abbrev S4096x4096 : Shape := ⟨2, ![4096, 4096]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S2048x2048 : S_.BroadcastsInDim S2048x2048 (![] : Fin 0 → Fin S2048x2048.rank)

variable [Facts]

def fn {F : FTy → Type} [FloatOps F] (main_arg0 : FVec F S4096x2048 .bf16) (main_arg1 : FVec F S2048x2048 .f32) (main_arg2 : FVec F S4096x2048 .f32) (main_arg3 : FVec F S4096x4096 .f32) : IVec S4096x2048 1 × IVec S2048x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_v7 : FVec F S4096x2048 .f32 := Host.absf main_arg2
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  (main_v3, main_v6, main_v9)
-- ==== Pre_finite_glu.lean ====
abbrev S4096x2048 : Shape := ⟨2, ![4096, 2048]⟩
abbrev S2048x2048 : Shape := ⟨2, ![2048, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S2048x2048 : S_.BroadcastsInDim S2048x2048 (![] : Fin 0 → Fin S2048x2048.rank)

variable [Facts]

def fn {F : FTy → Type} [FloatOps F] (main_arg0 : FVec F S4096x2048 .bf16) (main_arg1 : FVec F S2048x2048 .f32) (main_arg2 : FVec F S4096x2048 .f32) (main_arg3 : FVec F S4096x2048 .f32) : IVec S4096x2048 1 × IVec S2048x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_v7 : FVec F S4096x2048 .f32 := Host.absf main_arg2
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  (main_v3, main_v6, main_v9)
-- ==== Pre_finite_qk.lean ====
abbrev S4096x4096 : Shape := ⟨2, ![4096, 4096]⟩
abbrev S16x4096 : Shape := ⟨2, ![16, 4096]⟩
abbrev S4096x2048 : Shape := ⟨2, ![4096, 2048]⟩
abbrev S_ : Shape := ⟨0, ![]⟩

class Facts : Prop where
  slices_S4096x4096_S4096x2048_0_0 : S4096x4096.Slices ![0, 0] S4096x2048
  bcast_S_S4096x2048 : S_.BroadcastsInDim S4096x2048 (![] : Fin 0 → Fin S4096x2048.rank)
  bcast_S_S16x4096 : S_.BroadcastsInDim S16x4096 (![] : Fin 0 → Fin S16x4096.rank)

variable [Facts]

def fn {F : FTy → Type} [FloatOps F] (main_arg0 : FVec F S4096x4096 .f32) (main_arg1 : FVec F S4096x4096 .f32) (main_arg2 : FVec F S16x4096 .f32) : IVec S4096x2048 1 × IVec S4096x2048 1 × IVec S16x4096 1 :=
  let main_v0 : FVec F S4096x2048 .f32 := (extractStridedSlice S4096x2048 ![0, 0] · slices_S4096x4096_S4096x2048_0_0) main_arg0
  let main_v1 : FVec F S4096x2048 .f32 := (extractStridedSlice S4096x2048 ![0, 0] · slices_S4096x4096_S4096x2048_0_0) main_arg1
  let main_v2 : FVec F S4096x2048 .f32 := Host.absf main_v0
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S4096x2048 .f32 := Host.absf main_v1
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S16x4096 .f32 := Host.absf main_arg2
  let main_cst_1 : FVec F S_ .f32 := constant S_ .f32 0x7F800000#32
  let main_v9 : FVec F S16x4096 .f32 := broadcastInDim S16x4096 ![] bcast_S_S16x4096 main_cst_1
  let main_v10 : IVec S16x4096 1 := cmpf .olt main_v8 main_v9
  (main_v4, main_v7, main_v10)
-- ==== Pre_finite_s5_gate.lean ====
abbrev S4096x2048 : Shape := ⟨2, ![4096, 2048]⟩
abbrev S4096x4096 : Shape := ⟨2, ![4096, 4096]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) (main_arg2 : FVec F S4096x2048 .f32) (main_arg3 : FVec F S4096x4096 .f32) (main_arg4 : FVec F S1x2048 .f32) : IVec S4096x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== AttFwd.lean ====
abbrev S4096x4096 : Shape := ⟨2, ![4096, 4096]⟩
abbrev S16x4096 : Shape := ⟨2, ![16, 4096]⟩
abbrev S16x8x1x512 : Shape := ⟨4, ![16, 8, 1, 512]⟩
abbrev S4096x2048 : Shape := ⟨2, ![4096, 2048]⟩
abbrev S16x4096x1 : Shape := ⟨3, ![16, 4096, 1]⟩
abbrev S512x128 : Shape := ⟨2, ![512, 128]⟩
abbrev S4096x128 : Shape := ⟨2, ![4096, 128]⟩
abbrev S1x8x1x512 : Shape := ⟨4, ![1, 8, 1, 512]⟩
abbrev S1x512x1 : Shape := ⟨3, ![1, 512, 1]⟩
abbrev S512x1 : Shape := ⟨2, ![512, 1]⟩
abbrev S1x1x1x512 : Shape := ⟨4, ![1, 1, 1, 512]⟩
abbrev S1x512 : Shape := ⟨2, ![1, 512]⟩
abbrev S512x512 : Shape := ⟨2, ![512, 512]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S16x4096, .f32⟩
  | .hbm, ⟨3, _⟩ => ⟨S16x8x1x512, .f32⟩
  | .hbm, ⟨4, _⟩ => ⟨S4096x4096, .bf16⟩
  | .hbm, ⟨5, _⟩ => ⟨S4096x2048, .f32⟩
  | .hbm, ⟨6, _⟩ => ⟨S4096x2048, .bf16⟩
  | .hbm, ⟨7, _⟩ => ⟨S16x4096x1, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x8x1x512, .f32⟩
  | .local _ .vmem, ⟨9, _⟩ => ⟨S1x8x1x512, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S1x512x1, .f32⟩
  | .local _ .vmem, ⟨15, _⟩ => ⟨S1x512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_17 : BitVec 32 := 1#32
  ⟨c0_i32_15, v40, c1_i32_17⟩
def k0_mult1 (i : grid0.Coords) (k0_t1 : Fin (k0_t1_loop i).trips) : BitVec 32 :=
  let c0_i32_43 : BitVec 32 := 0#32
  let c2_i32_42 : BitVec 32 := 2#32
  let c0_i32_15 : BitVec 32 := 0#32
  let c1_i32_17 : BitVec 32 := 1#32
  let arg10 : BitVec 32 := Scf.iv c0_i32_15 c1_i32_17 k0_t1
  let v80 : BitVec 32 := Scalar.muli c2_i32_42 arg10
  let v81 : BitVec 32 := Scalar.addi c0_i32_43 v80
  let c512_i32 : BitVec 32 := 512#32
  let v82 : BitVec 32 := Scalar.muli v81 c512_i32
  v82
def k0_off1 (i : grid0.Coords) (k0_t1 : Fin (k0_t1_loop i).trips) : Fin 2 → Nat :=
  let c0_i32_43 : BitVec 32 := 0#32
  let c2_i32_42 : BitVec 32 := 2#32
  let c0_i32_15 : BitVec 32 := 0#32
  let c1_i32_17 : BitVec 32 := 1#32
  let arg10 : BitVec 32 := Scf.iv c0_i32_15 c1_i32_17 k0_t1
  let v80 : BitVec 32 := Scalar.muli c2_i32_42 arg10
  let v81 : BitVec 32 := Scalar.addi c0_i32_43 v80
  let c512_i32 : BitVec 32 := 512#32
  let v82 : BitVec 32 := Scalar.muli v81 c512_i32
  let v83 : BitVec 32 := v82
  let v84 : Index := Scalar.indexCast v83
  let c0_44 : Index := 0#32
  ![v84.toNat, 0]
def k0_off2 (i : grid0.Coords) (k0_t1 : Fin (k0_t1_loop i).trips) : Fin 4 → Nat :=
  let c0_45 : Index := 0#32
  let c0_i32_43 : BitVec 32 := 0#32
  let c2_i32_42 : BitVec 32 := 2#32
  let c0_i32_15 : BitVec 32 := 0#32
  let c1_i32_17 : BitVec 32 := 1#32
  let arg10 : BitVec 32 := Scf.iv c0_i32_15 c1_i32_17 k0_t1
  let v80 : BitVec 32 := Scalar.muli c2_i32_42 arg10
  let v81 : BitVec 32 := Scalar.addi c0_i32_43 v80
  let v87 : Index := Scalar.indexCast v81
  let c0_46 : Index := 0#32
  let c0_47 : Index := 0#32
  ![0, v87.toNat, 0, 0]
def k0_mult2 (i : grid0.Coords) (k0_t1 : Fin (k0_t1_loop i).trips) : BitVec 32 :=
  let c0_i32_40 : BitVec 32 := 0#32
  let c2_i32_39 : BitVec 32 := 2#32
  let c0_i32_15 : BitVec 32 := 0#32
  let c1_i32_17 : BitVec 32 := 1#32
  let arg10 : BitVec 32 := Scf.iv c0_i32_15 c1_i32_17 k0_t1
  let v77 : BitVec 32 := Scalar.muli c2_i32_39 arg10
  let v78 : BitVec 32 := Scalar.addi c0_i32_40 v77
  let c1_i32_41 : BitVec 32 := 1#32
  let v79 : BitVec 32 := Scalar.addi v78 c1_i32_41
  let c512_i32_56 : BitVec 32 := 512#32
  let v120 : BitVec 32 := Scalar.muli v79 c512_i32_56
  v120
def k0_off3 (i : grid0.Coords) (k0_t1 : Fin (k0_t1_loop i).trips) : Fin 2 → Nat :=
  let c0_i32_40 : BitVec 32 := 0#32
  let c2_i32_39 : BitVec 32 := 2#32
  let c0_i32_15 : BitVec 32 := 0#32
  let c1_i32_17 : BitVec 32 := 1#32
  let arg10 : BitVec 32 := Scf.iv c0_i32_15 c1_i32_17 k0_t1
  let v77 : BitVec 32 := Scalar.muli c2_i32_39 arg10
  let v78 : BitVec 32 := Scalar.addi c0_i32_40 v77
  let c1_i32_41 : BitVec 32 := 1#32
  let v79 : BitVec 32 := Scalar.addi v78 c1_i32_41
  let c512_i32_56 : BitVec 32 := 512#32
  let v120 : BitVec 32 := Scalar.muli v79 c512_i32_56
  let v121 : BitVec 32 := v120
  let v122 : Index := Scalar.indexCast v121
  let c0_57 : Index := 0#32
  ![v122.toNat, 0]
def k0_off4 (i : grid0.Coords) (k0_t1 : Fin (k0_t1_loop i).trips) : Fin 4 → Nat :=
  let c0_58 : Index := 0#32
  let c0_i32_40 : BitVec 32 := 0#32
  let c2_i32_39 : BitVec 32 := 2#32
  let c0_i32_15 : BitVec 32 := 0#32
  let c1_i32_17 : BitVec 32 := 1#32
  let arg10 : BitVec 32 := Scf.iv c0_i32_15 c1_i32_17 k0_t1
  let v77 : BitVec 32 := Scalar.muli c2_i32_39 arg10
  let v78 : BitVec 32 := Scalar.addi c0_i32_40 v77
  let c1_i32_41 : BitVec 32 := 1#32
  let v79 : BitVec 32 := Scalar.addi v78 c1_i32_41
  let v125 : Index := Scalar.indexCast v79
  let c0_59 : Index := 0#32
  let c0_60 : Index := 0#32
  ![0, v125.toNat, 0, 0]
@[reducible] def k0_t2_loop (i : grid0.Coords) : Scf.Loop 32 :=
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let v37 : BitVec 32 := Scalar.addi c0_i32_15 v36
  let c1_i32_18 : BitVec 32 := 1#32
  ⟨v40, v37, c1_i32_18⟩
def k0_mult3 (i : grid0.Coords) (k0_t2 : Fin (k0_t2_loop i).trips) : BitVec 32 :=
  let c0_i32_43 : BitVec 32 := 0#32
  let c2_i32_42 : BitVec 32 := 2#32
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg10 : BitVec 32 := Scf.iv v40 c1_i32_18 k0_t2
  let v80 : BitVec 32 := Scalar.muli c2_i32_42 arg10
  let v81 : BitVec 32 := Scalar.addi c0_i32_43 v80
  let c512_i32 : BitVec 32 := 512#32
  let v82 : BitVec 32 := Scalar.muli v81 c512_i32
  v82
def k0_off5 (i : grid0.Coords) (k0_t2 : Fin (k0_t2_loop i).trips) : Fin 2 → Nat :=
  let c0_i32_43 : BitVec 32 := 0#32
  let c2_i32_42 : BitVec 32 := 2#32
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg10 : BitVec 32 := Scf.iv v40 c1_i32_18 k0_t2
  let v80 : BitVec 32 := Scalar.muli c2_i32_42 arg10
  let v81 : BitVec 32 := Scalar.addi c0_i32_43 v80
  let c512_i32 : BitVec 32 := 512#32
  let v82 : BitVec 32 := Scalar.muli v81 c512_i32
  let v83 : BitVec 32 := v82
  let v84 : Index := Scalar.indexCast v83
  let c0_44 : Index := 0#32
  ![v84.toNat, 0]
def k0_off6 (i : grid0.Coords) (k0_t2 : Fin (k0_t2_loop i).trips) : Fin 4 → Nat :=
  let c0_45 : Index := 0#32
  let c0_i32_43 : BitVec 32 := 0#32
  let c2_i32_42 : BitVec 32 := 2#32
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg10 : BitVec 32 := Scf.iv v40 c1_i32_18 k0_t2
  let v80 : BitVec 32 := Scalar.muli c2_i32_42 arg10
  let v81 : BitVec 32 := Scalar.addi c0_i32_43 v80
  let v87 : Index := Scalar.indexCast v81
  let c0_46 : Index := 0#32
  let c0_47 : Index := 0#32
  ![0, v87.toNat, 0, 0]
def k0_mult4 (i : grid0.Coords) (k0_t2 : Fin (k0_t2_loop i).trips) : BitVec 32 :=
  let c0_i32_40 : BitVec 32 := 0#32
  let c2_i32_39 : BitVec 32 := 2#32
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg10 : BitVec 32 := Scf.iv v40 c1_i32_18 k0_t2
  let v77 : BitVec 32 := Scalar.muli c2_i32_39 arg10
  let v78 : BitVec 32 := Scalar.addi c0_i32_40 v77
  let c1_i32_41 : BitVec 32 := 1#32
  let v79 : BitVec 32 := Scalar.addi v78 c1_i32_41
  let c512_i32_56 : BitVec 32 := 512#32
  let v120 : BitVec 32 := Scalar.muli v79 c512_i32_56
  v120
def k0_off7 (i : grid0.Coords) (k0_t2 : Fin (k0_t2_loop i).trips) : Fin 2 → Nat :=
  let c0_i32_40 : BitVec 32 := 0#32
  let c2_i32_39 : BitVec 32 := 2#32
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg10 : BitVec 32 := Scf.iv v40 c1_i32_18 k0_t2
  let v77 : BitVec 32 := Scalar.muli c2_i32_39 arg10
  let v78 : BitVec 32 := Scalar.addi c0_i32_40 v77
  let c1_i32_41 : BitVec 32 := 1#32
  let v79 : BitVec 32 := Scalar.addi v78 c1_i32_41
  let c512_i32_56 : BitVec 32 := 512#32
  let v120 : BitVec 32 := Scalar.muli v79 c512_i32_56
  let v121 : BitVec 32 := v120
  let v122 : Index := Scalar.indexCast v121
  let c0_57 : Index := 0#32
  ![v122.toNat, 0]
def k0_off8 (i : grid0.Coords) (k0_t2 : Fin (k0_t2_loop i).trips) : Fin 4 → Nat :=
  let c0_58 : Index := 0#32
  let c0_i32_40 : BitVec 32 := 0#32
  let c2_i32_39 : BitVec 32 := 2#32
  let c0_i32_15 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : BitVec 32 := Scalar.subi arg1 v16
  let c0_i32_7 : BitVec 32 := 0#32
  let v18 : BitVec 32 := Scalar.subi v17 c0_i32_7
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v18 c2_i32_8
  let c0_i32_13 : BitVec 32 := 0#32
  let v32 : BitVec 1 := Scalar.cmpi .ne v31 c0_i32_13
  let v33 : BitVec 1 := Scalar.andi v30 v32
  let v19 : BitVec 32 := Scalar.divsi v18 c2_i32_8
  let c1_i32_14 : BitVec 32 := 1#32
  let v34 : BitVec 32 := Scalar.subi v19 c1_i32_14
  let v35 : BitVec 32 := Scalar.select v33 v34 v19
  let v36 : BitVec 32 := Scalar.subi v35 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg10 : BitVec 32 := Scf.iv v40 c1_i32_18 k0_t2
  let v77 : BitVec 32 := Scalar.muli c2_i32_39 arg10
  let v78 : BitVec 32 := Scalar.addi c0_i32_40 v77
  let c1_i32_41 : BitVec 32 := 1#32
  let v79 : BitVec 32 := Scalar.addi v78 c1_i32_41
  let v125 : Index := Scalar.indexCast v79
  let c0_59 : Index := 0#32
  let c0_60 : Index := 0#32
  ![0, v125.toNat, 0, 0]
def k0_cond1 (i : grid0.Coords) : BitVec 1 :=
  let arg1 : BitVec 32 := BitVec.ofNat 32 (i 1).val
  let c2_i32_19 : BitVec 32 := 2#32
  let c0_i32_20 : BitVec 32 := 0#32
  let v43 : BitVec 1 := Scalar.cmpi .eq c2_i32_19 c0_i32_20
  let c1_i32_21 : BitVec 32 := 1#32
  let v44 : BitVec 32 := Scalar.select v43 c1_i32_21 c2_i32_19
  let v45 : BitVec 32 := Scalar.remsi arg1 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  let c1_i32_25 : BitVec 32 := 1#32
  let v53 : BitVec 1 := Scalar.cmpi .eq v52 c1_i32_25
  let v54 : BitVec 32 := Scalar.extui v53
  let c0_i32_26 : BitVec 32 := 0#32
  let v55 : BitVec 1 := Scalar.cmpi .ne v54 c0_i32_26
  v55

def k0_mult5 (i : grid0.Coords) : BitVec 32 :=
  let arg1 : BitVec 32 := BitVec.ofNat 32 (i 1).val
  let c1_i32_39 : BitVec 32 := 1#32
  let v77 : BitVec 32 := Scalar.subi arg1 c1_i32_39
  let c512_i32 : BitVec 32 := 512#32
  let v78 : BitVec 32 := Scalar.muli v77 c512_i32
  v78
def k0_off9 (i : grid0.Coords) : Fin 2 → Nat :=
  let arg1 : BitVec 32 := BitVec.ofNat 32 (i 1).val
  let c1_i32_39 : BitVec 32 := 1#32
  let v77 : BitVec 32 := Scalar.subi arg1 c1_i32_39
  let c512_i32 : BitVec 32 := 512#32
  let v78 : BitVec 32 := Scalar.muli v77 c512_i32
  let v79 : BitVec 32 := v78
  let v80 : Index := Scalar.indexCast v79
  let c0_40 : Index := 0#32
  ![v80.toNat, 0]
def k0_off10 (i : grid0.Coords) : Fin 4 → Nat :=
  let c0_41 : Index := 0#32
  let arg1 : BitVec 32 := BitVec.ofNat 32 (i 1).val
  let c1_i32_39 : BitVec 32 := 1#32
  let v77 : BitVec 32 := Scalar.subi arg1 c1_i32_39
  let v83 : Index := Scalar.indexCast v77
  let c0_42 : Index := 0#32
  let c0_43 : Index := 0#32
  ![0, v83.toNat, 0, 0]
def k0_mult6 (i : grid0.Coords) : BitVec 32 :=
  let arg1 : BitVec 32 := BitVec.ofNat 32 (i 1).val
  let c512_i32_50 : BitVec 32 := 512#32
  let v114 : BitVec 32 := Scalar.muli arg1 c512_i32_50
  v114
def k0_off11 (i : grid0.Coords) : Fin 2 → Nat :=
  let arg1 : BitVec 32 := BitVec.ofNat 32 (i 1).val
  let c512_i32_50 : BitVec 32 := 512#32
  let v114 : BitVec 32 := Scalar.muli arg1 c512_i32_50
  let v115 : BitVec 32 := v114
  let v116 : Index := Scalar.indexCast v115
  let c0_51 : Index := 0#32
  ![v116.toNat, 0]
def k0_off12 (i : grid0.Coords) : Fin 4 → Nat :=
  let c0_52 : Index := 0#32
  let arg1 : BitVec 32 := BitVec.ofNat 32 (i 1).val
  let v119 : Index := Scalar.indexCast arg1
  let c0_53 : Index := 0#32
  let c0_54 : Index := 0#32
  ![0, v119.toNat, 0, 0]
def k0_mult7 (i : grid0.Coords) : BitVec 32 :=
  let arg1 : BitVec 32 := BitVec.ofNat 32 (i 1).val
  let c512_i32 : BitVec 32 := 512#32
  let v77 : BitVec 32 := Scalar.muli arg1 c512_i32
  v77
def k0_off13 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v79 : Index := Scalar.indexCast v78
  let c0_39 : Index := 0#32
  ![v79.toNat, 0]
def k0_off14 (i : grid0.Coords) : Fin 4 → Nat :=
  let c0_40 : Index := 0#32
  let arg1 : BitVec 32 := BitVec.ofNat 32 (i 1).val
  let v82 : Index := Scalar.indexCast arg1
  let c0_41 : Index := 0#32
  let c0_42 : Index := 0#32
  ![0, v82.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttFwdIdeal.lean ====
variable {F : FTy → Type} [FloatOps F] [Named F]
def κ : String → Option EReal := fun
  | "mask" => some ⊥
  | _ => none
-- ==== AttFwdRefIdeal.lean ====
abbrev S4096x4096 : Shape := ⟨2, ![4096, 4096]⟩
abbrev S16x4096 : Shape := ⟨2, ![16, 4096]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S16x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S16x4096x128, .f32⟩
  | .hbm, ⟨8, _⟩ => ⟨S4096x16x128, .f32⟩
  | .hbm, ⟨9, _⟩ => ⟨S16x4096x128, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S16x4096x1, .f32⟩
  | .hbm, ⟨15, _⟩ => ⟨S16x4096x4096, .f32⟩
  | .hbm, ⟨16, _⟩ => ⟨S16x4096x4096, .f32⟩
  | .hbm, ⟨17, _⟩ => ⟨S16x1x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096, .f32⟩
  | .hbm, ⟨33, _⟩ => ⟨S_, .f32⟩
  | .hbm, ⟨34, _⟩ => ⟨S16x4096, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S4096x16x128, .f32⟩
  | .hbm, ⟨46, _⟩ => ⟨S16x4096x128, .f32⟩
  | .hbm, ⟨47, _⟩ => ⟨S16x4096x128, .f32⟩
  | .hbm, ⟨48, _⟩ => ⟨S4096x16x128, .f32⟩
  | .hbm, ⟨49, _⟩ => ⟨S4096x2048, .f32⟩
  | .hbm, ⟨50, _⟩ => ⟨S4096x2048, .f32⟩
  | .hbm, ⟨51, _⟩ => ⟨S4096x16x128, .f32⟩
  | .hbm, ⟨52, _⟩ => ⟨S16x4096x128, .f32⟩
  | .hbm, ⟨53, _⟩ => ⟨S4096x2048, .f32⟩
  | .hbm, ⟨54, _⟩ => ⟨S4096x16x128, .f32⟩
  | .hbm, ⟨55, _⟩ => ⟨S16x4096x128, .f32⟩
  | .hbm, ⟨56, _⟩ => ⟨S16x4096x4096, .f32⟩
  | .hbm, ⟨57, _⟩ => ⟨S_, .f32⟩
  | .hbm, ⟨58, _⟩ => ⟨S16x4096x4096, .f32⟩
  | .hbm, ⟨59, _⟩ => ⟨S16x4096x4096, .f32⟩
  | .hbm, ⟨60, _⟩ => ⟨S16x1x4096, .f32⟩
  | .hbm, ⟨61, _⟩ => ⟨S16x4096x4096, .f32⟩
  | .hbm, ⟨62, _⟩ => ⟨S16x4096x4096, .f32⟩
  | .hbm, ⟨63, _⟩ => ⟨S4096, .i32⟩
  | .hbm, ⟨64, _⟩ => ⟨S1x4096, .i32⟩
  | .hbm, ⟨65, _⟩ => ⟨S4096x1, .i32⟩
  | .hbm, ⟨66, _⟩ => ⟨S4096x4096, .i32⟩
  | .hbm, ⟨67, _⟩ => ⟨S4096x4096, .i32⟩
  | .hbm, ⟨68, _⟩ => ⟨S4096x4096, .i1⟩
  | .hbm, ⟨69, _⟩ => ⟨S_, .f32⟩
  | .hbm, ⟨70, _⟩ => ⟨S_, .f32⟩
  | .hbm, ⟨71, _⟩ => ⟨S16x4096x4096, .i1⟩
  | .hbm, ⟨72, _⟩ => ⟨S16x4096x4096, .f32⟩
  | .hbm, ⟨73, _⟩ => ⟨S16x4096x4096, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .bf16⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x1, .f32⟩
  | .hbm, ⟨96, _⟩ => ⟨S16x4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x4096, .f32⟩
  | .hbm, ⟨4, _⟩ => ⟨S2048x2048, .bf16⟩
  | .hbm, ⟨5, _⟩ => ⟨S4096x2048, .f32⟩
  | .hbm, ⟨6, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutDxRefIdeal.lean ====
abbrev S4096x2048 : Shape := ⟨2, ![4096, 2048]⟩
abbrev S2048x2048 : Shape := ⟨2, ![2048, 2048]⟩
abbrev S4096x4096 : Shape := ⟨2, ![4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== OutDw.lean ====
abbrev S4096x2048 : Shape := ⟨2, ![4096, 2048]⟩
abbrev S4096x4096 : Shape := ⟨2, ![4096, 4096]⟩
abbrev S_ : Shape := ⟨0, ![]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | .hbm, ⟨15, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S4096x4096 : Shape := ⟨2, ![4096, 4096]⟩
abbrev S_ : Shape := ⟨0, ![]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x2048, .f32⟩
  | .hbm, ⟨19, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== InDx.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .f32⟩
  | .hbm, ⟨3, _⟩ => ⟨S2048x4096, .bf16⟩
  | .hbm, ⟨4, _⟩ => ⟨S2048x4x1024, .bf16⟩
  | .hbm, ⟨5, _⟩ => ⟨S4x2048x1024, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond4 (i : grid0.Coords) : BitVec 1 :=
  let arg2 : BitVec 32 := BitVec.ofNat 32 (i 2).val
  let c3_i32_23 : BitVec 32 := 3#32
  let v52 : BitVec 1 := Scalar.cmpi .eq arg2 c3_i32_23
  let v53 : BitVec 32 := Scalar.extui v52
  let c0_i32_24 : BitVec 32 := 0#32
  let v54 : BitVec 1 := Scalar.cmpi .ne v53 c0_i32_24
  v54

def k0_cond5 (i : grid0.Coords) : BitVec 1 :=
  let arg2 : BitVec 32 := BitVec.ofNat 32 (i 2).val
  let c0_i32_7 : BitVec 32 := 0#32
  let v21 : BitVec 1 := Scalar.cmpi .sgt arg2 c0_i32_7
  let v22 : BitVec 32 := Scalar.extui v21
  let c0_i32_8 : BitVec 32 := 0#32
  let v23 : BitVec 1 := Scalar.cmpi .slt arg2 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg2 c2_i32_6
  let c0_i32_11 : BitVec 32 := 0#32
  let v33 : BitVec 1 := Scalar.cmpi .ne v32 c0_i32_11
  let v34 : BitVec 1 := Scalar.andi v31 v33
  let v20 : BitVec 32 := Scalar.divsi arg2 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond8 (i : grid0.Coords) : BitVec 1 :=
  let arg2 : BitVec 32 := BitVec.ofNat 32 (i 2).val
  let c3_i32_23 : BitVec 32 := 3#32
  let v52 : BitVec 1 := Scalar.cmpi .eq arg2 c3_i32_23
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxRefIdeal.lean ====
abbrev S4096x2048 : Shape := ⟨2, ![4096, 2048]⟩
abbrev S2048x4096 : Shape := ⟨2, ![2048, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .f32⟩
  | .hbm, ⟨3, _⟩ => ⟨S4096x4096, .bf16⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InDw.lean ====
abbrev S4096x2048 : Shape := ⟨2, ![4096, 2048]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond4 (i : grid0.Coords) : BitVec 1 :=
  let arg2 : BitVec 32 := BitVec.ofNat 32 (i 2).val
  let c1_i32_23 : BitVec 32 := 1#32
  let v51 : BitVec 1 := Scalar.cmpi .eq arg2 c1_i32_23
  let v52 : BitVec 32 := Scalar.extui v51
  let c0_i32_24 : BitVec 32 := 0#32
  let v53 : BitVec 1 := Scalar.cmpi .ne v52 c0_i32_24
  v53

def k0_cond5 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond8 (i : grid0.Coords) : BitVec 1 :=
  let arg2 : BitVec 32 := BitVec.ofNat 32 (i 2).val
  let c1_i32_23 : BitVec 32 := 1#32
  let v51 : BitVec 1 := Scalar.cmpi .eq arg2 c1_i32_23
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x1024 : Shape := ⟨2, ![2048, 1024]⟩
abbrev S1x2048x1024 : Shape := ⟨3, ![1, 2048, 1024]⟩
abbrev S4x2048x1024 : Shape := ⟨3, ![4, 2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x4096, .bf16⟩
  | .hbm, ⟨4, _⟩ => ⟨S_, .f32⟩
  | .hbm, ⟨5, _⟩ => ⟨S2048x4096, .f32⟩
  | .hbm, ⟨6, _⟩ => ⟨S4096x2048, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S4x2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KvDx.lean ====
abbrev S4096x2048 : Shape := ⟨2, ![4096, 2048]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S2048x4096, .f32⟩
  | .hbm, ⟨4, _⟩ => ⟨S2048x4096, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond4 (i : grid0.Coords) : BitVec 1 :=
  let arg2 : BitVec 32 := BitVec.ofNat 32 (i 2).val
  let c1_i32_24 : BitVec 32 := 1#32
  let v52 : BitVec 1 := Scalar.cmpi .eq arg2 c1_i32_24
  let v53 : BitVec 32 := Scalar.extui v52
  let c0_i32_25 : BitVec 32 := 0#32
  let v54 : BitVec 1 := Scalar.cmpi .ne v53 c0_i32_25
  v54

def k0_cond5 (i : grid0.Coords) : BitVec 1 :=
  let arg2 : BitVec 32 := BitVec.ofNat 32 (i 2).val
  let c0_i32_8 : BitVec 32 := 0#32
  let v21 : BitVec 1 := Scalar.cmpi .sgt arg2 c0_i32_8
  let v22 : BitVec 32 := Scalar.extui v21
  let c0_i32_9 : BitVec 32 := 0#32
  let v23 : BitVec 1 := Scalar.cmpi .slt arg2 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg2 c1_i32_7
  let c0_i32_12 : BitVec 32 := 0#32
  let v33 : BitVec 1 := Scalar.cmpi .ne v32 c0_i32_12
  let v34 : BitVec 1 := Scalar.andi v31 v33
  let v20 : BitVec 32 := Scalar.divsi arg2 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def k0_cond8 (i : grid0.Coords) : BitVec 1 :=
  let arg2 : BitVec 32 := BitVec.ofNat 32 (i 2).val
  let c1_i32_24 : BitVec 32 := 1#32
  let v52 : BitVec 1 := Scalar.cmpi .eq arg2 c1_i32_24
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvDxRefIdeal.lean ====
abbrev S4096x2048 : Shape := ⟨2, ![4096, 2048]⟩
abbrev S2048x4096 : Shape := ⟨2, ![2048, 4096]⟩
abbrev S_ : Shape := ⟨0, ![]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S2048x4096, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x4096, .f32⟩
  | .hbm, ⟨9, _⟩ => ⟨S4096x4096, .f32⟩
  | .hbm, ⟨10, _⟩ => ⟨S4096x2048, .f32⟩
  | .hbm, ⟨11, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== KvDw.lean ====
abbrev S4096x2048 : Shape := ⟨2, ![4096, 2048]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond4 (i : grid0.Coords) : BitVec 1 :=
  let arg2 : BitVec 32 := BitVec.ofNat 32 (i 2).val
  let c1_i32_23 : BitVec 32 := 1#32
  let v51 : BitVec 1 := Scalar.cmpi .eq arg2 c1_i32_23
  let v52 : BitVec 32 := Scalar.extui v51
  let c0_i32_24 : BitVec 32 := 0#32
  let v53 : BitVec 1 := Scalar.cmpi .ne v52 c0_i32_24
  v53

def k0_cond5 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond8 (i : grid0.Coords) : BitVec 1 :=
  let arg2 : BitVec 32 := BitVec.ofNat 32 (i 2).val
  let c1_i32_23 : BitVec 32 := 1#32
  let v51 : BitVec 1 := Scalar.cmpi .eq arg2 c1_i32_23
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KvDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x4096, .bf16⟩
  | .hbm, ⟨4, _⟩ => ⟨S_, .f32⟩
  | .hbm, ⟨5, _⟩ => ⟨S2048x4096, .f32⟩
  | .hbm, ⟨6, _⟩ => ⟨S4096x2048, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SOutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SOutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SOutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GluDxIdeal.lean ====
variable {F : FTy → Type} [FloatOps F] [Named F]
def κ : String → Option EReal := fun
  | "cubic" => some ((8943 / 200000 : ℝ) : EReal)
  | "slope" => some ((26829 / 200000 : ℝ) : EReal)
  | _ => none
-- ==== GluDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== GluDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FDx.lean ====
abbrev S4096x128 : Shape := ⟨2, ![4096, 128]⟩
abbrev S2048x4112 : Shape := ⟨2, ![2048, 4112]⟩
abbrev S2048x16 : Shape := ⟨2, ![2048, 16]⟩
abbrev S_ : Shape := ⟨0, ![]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S2048x4112, .f32⟩
  | .hbm, ⟨2, _⟩ => ⟨S2048x4112, .bf16⟩
  | .hbm, ⟨3, _⟩ => ⟨S2048x16, .bf16⟩
  | .hbm, ⟨4, _⟩ => ⟨S_, .i32⟩
  | .hbm, ⟨5, _⟩ => ⟨S_, .bf16⟩
  | .hbm, ⟨6, _⟩ => ⟨S2048x128, .bf16⟩
  | .hbm, ⟨7, _⟩ => ⟨S4096x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FDxRefIdeal.lean ====
abbrev S4096x128 : Shape := ⟨2, ![4096, 128]⟩
abbrev S2048x4112 : Shape := ⟨2, ![2048, 4112]⟩
abbrev S4096x16 : Shape := ⟨2, ![4096, 16]⟩
abbrev S2048x16 : Shape := ⟨2, ![2048, 16]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2048x4112, .f32⟩
  | .hbm, ⟨2, _⟩ => ⟨S4096x16, .f32⟩
  | .hbm, ⟨3, _⟩ => ⟨S2048x16, .f32⟩
  | .hbm, ⟨4, _⟩ => ⟨S_, .f32⟩
  | .hbm, ⟨5, _⟩ => ⟨S4096x2048, .f32⟩
  | .hbm, ⟨6, _⟩ => ⟨S4096x16, .f32⟩
  | .hbm, ⟨7, _⟩ => ⟨S4096x2048, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FDw.lean ====
abbrev S4096x2048 : Shape := ⟨2, ![4096, 2048]⟩
abbrev S4096x128 : Shape := ⟨2, ![4096, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .f32⟩
  | .hbm, ⟨2, _⟩ => ⟨S2048x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FDwRefIdeal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .f32⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S128x2048, .f32⟩
  | .hbm, ⟨7, _⟩ => ⟨S2048x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SIn.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SInRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .f32⟩
  | .hbm, ⟨2, _⟩ => ⟨S4096x2048, .f32⟩
  | .hbm, ⟨3, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Glu.lean ====
abbrev S4096x2048 : Shape := ⟨2, ![4096, 2048]⟩
abbrev S4096x4096 : Shape := ⟨2, ![4096, 4096]⟩
abbrev S2048x2048 : Shape := ⟨2, ![2048, 2048]⟩
abbrev S1x2048 : Shape := ⟨2, ![1, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 25
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S2048x2048, .bf16⟩
  | .hbm, ⟨23, _⟩ => ⟨S4096x2048, .f32⟩
  | .hbm, ⟨24, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GluRefIdeal.lean ====
abbrev S4096x2048 : Shape := ⟨2, ![4096, 2048]⟩
abbrev S4096x4096 : Shape := ⟨2, ![4096, 4096]⟩
abbrev S2048x2048 : Shape := ⟨2, ![2048, 2048]⟩
abbrev S1x2048 : Shape := ⟨2, ![1, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== SOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SOutRefIdeal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FOutRefIdeal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FProj.lean ====
abbrev S4096x2048 : Shape := ⟨2, ![4096, 2048]⟩
abbrev S2048x4112 : Shape := ⟨2, ![2048, 4112]⟩
abbrev S2048x16 : Shape := ⟨2, ![2048, 16]⟩
abbrev S_ : Shape := ⟨0, ![]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x4112, .f32⟩
  | .hbm, ⟨2, _⟩ => ⟨S2048x4112, .bf16⟩
  | .hbm, ⟨3, _⟩ => ⟨S2048x16, .bf16⟩
  | .hbm, ⟨4, _⟩ => ⟨S_, .i32⟩
  | .hbm, ⟨5, _⟩ => ⟨S_, .bf16⟩
  | .hbm, ⟨6, _⟩ => ⟨S2048x128, .bf16⟩
  | .hbm, ⟨7, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FProjRefIdeal.lean ====
abbrev S4096x2048 : Shape := ⟨2, ![4096, 2048]⟩
abbrev S2048x4112 : Shape := ⟨2, ![2048, 4112]⟩
abbrev S2048x16 : Shape := ⟨2, ![2048, 16]⟩
abbrev S4096x16 : Shape := ⟨2, ![4096, 16]⟩
abbrev S_ : Shape := ⟨0, ![]⟩
abbrev S4096x128 : Shape := ⟨2, ![4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4112, .f32⟩
  | .hbm, ⟨2, _⟩ => ⟨S4096x2048, .f32⟩
  | .hbm, ⟨3, _⟩ => ⟨S2048x16, .f32⟩
  | .hbm, ⟨4, _⟩ => ⟨S4096x16, .f32⟩
  | .hbm, ⟨5, _⟩ => ⟨S_, .i32⟩
  | .hbm, ⟨6, _⟩ => ⟨S_, .f32⟩
  | .hbm, ⟨7, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GateBwd.lean ====
abbrev S4096x2048 : Shape := ⟨2, ![4096, 2048]⟩
abbrev S4096x4096 : Shape := ⟨2, ![4096, 4096]⟩
abbrev S1x2048 : Shape := ⟨2, ![1, 2048]⟩
abbrev S256x2048 : Shape := ⟨2, ![256, 2048]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x4096, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4096x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_31 : BitVec 32 := 0#32
  let v67 : BitVec 1 := Scalar.cmpi .ne v66 c0_i32_31
  v67

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v68 : BitVec 1 := Scalar.xori v65 v_true
  let v69 : BitVec 32 := Scalar.extui v68
  let c0_i32_32 : BitVec 32 := 0#32
  let v70 : BitVec 1 := Scalar.cmpi .ne v69 c0_i32_32
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateBwdRefIdeal.lean ====
abbrev S4096x2048 : Shape := ⟨2, ![4096, 2048]⟩
abbrev S4096x4096 : Shape := ⟨2, ![4096, 4096]⟩
abbrev S1x2048 : Shape := ⟨2, ![1, 2048]⟩
abbrev S_ : Shape := ⟨0, ![]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x4096, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S4096x2048, .bf16⟩
  | .hbm, ⟨65, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v26_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v26_1 : Ref sig .tc := ⟨.hbm, 49, rfl⟩
abbrev main_v26_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== CumBwd.lean ====
abbrev S16x8x1x512 : Shape := ⟨4, ![16, 8, 1, 512]⟩
abbrev S4096x128 : Shape := ⟨2, ![4096, 128]⟩
abbrev S16 : Shape := ⟨1, ![16]⟩
abbrev S16x4096 : Shape := ⟨2, ![16, 4096]⟩
abbrev S4096x16 : Shape := ⟨2, ![4096, 16]⟩
abbrev S_ : Shape := ⟨0, ![]⟩
abbrev S128 : Shape := ⟨1, ![128]⟩
abbrev S1x128 : Shape := ⟨2, ![1, 128]⟩
abbrev S512x128 : Shape := ⟨2, ![512, 128]⟩
abbrev S512x512 : Shape := ⟨2, ![512, 512]⟩

abbrev nBuf : Space → Nat
  | .hbm => 14
  | .vmem => 9
  | .smem => 0
  | _ => 0

abbrev bufTy : (tb : Table) → Fin (tcTables nBuf tb) → BufTy
  | .hbm, ⟨0, _⟩ => ⟨S16x8x1x512, .f32⟩
  | .hbm, ⟨1, _⟩ => ⟨S4096x128, .f32⟩
  | .hbm, ⟨2, _⟩ => ⟨S16, .f32⟩
  | .hbm, ⟨3, _⟩ => ⟨S16x4096, .f32⟩
  | .hbm, ⟨4, _⟩ => ⟨S4096x16, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S4096x128, .f32⟩
  | .hbm, ⟨13, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | _, _ => ⟨S16x8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CumBwdRefIdeal.lean ====
abbrev S16x8x1x512 : Shape := ⟨4, ![16, 8, 1, 512]⟩
abbrev S4096x128 : Shape := ⟨2, ![4096, 128]⟩
abbrev S16 : Shape := ⟨1, ![16]⟩
abbrev S4096x16 : Shape := ⟨2, ![4096, 16]⟩
abbrev S1x16 : Shape := ⟨2, ![1, 16]⟩
abbrev S_ : Shape := ⟨0, ![]⟩
abbrev S16x4096 : Shape := ⟨2, ![16, 4096]⟩
abbrev S128 : Shape := ⟨1, ![128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S16x8x1x512, .f32⟩
  | .hbm, ⟨1, _⟩ => ⟨S4096x128, .f32⟩
  | .hbm, ⟨2, _⟩ => ⟨S16, .f32⟩
  | .hbm, ⟨3, _⟩ => ⟨S4096x16, .f32⟩
  | .hbm, ⟨4, _⟩ => ⟨S1x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S_, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .i1⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x16, .f32⟩
  | .hbm, ⟨24, _⟩ => ⟨S4096x16, .i1⟩
  | .hbm, ⟨25, _⟩ => ⟨S_, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096x16, .f32⟩
  | .hbm, ⟨30, _⟩ => ⟨S4096x16, .i1⟩
  | .hbm, ⟨31, _⟩ => ⟨S_, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x16, .f32⟩
  | .hbm, ⟨44, _⟩ => ⟨S4096x16, .i1⟩
  | .hbm, ⟨45, _⟩ => ⟨S_, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S_, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S_, .f32⟩
  | .hbm, ⟨56, _⟩ => ⟨S_, .f32⟩
  | .hbm, ⟨57, _⟩ => ⟨S4096x16, .f32⟩
  | .hbm, ⟨58, _⟩ => ⟨S16x4096, .f32⟩
  | .hbm, ⟨59, _⟩ => ⟨S4096x16, .f32⟩
  | .hbm, ⟨60, _⟩ => ⟨S_, .f32⟩
  | .hbm, ⟨61, _⟩ => ⟨S_, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S_, .f32⟩
  | .hbm, ⟨67, _⟩ => ⟨S16, .f32⟩
  | .hbm, ⟨68, _⟩ => ⟨S1x16, .f32⟩
  | .hbm, ⟨69, _⟩ => ⟨S_, .f32⟩
  | .hbm, ⟨70, _⟩ => ⟨S16, .f32⟩
  | .hbm, ⟨71, _⟩ => ⟨S_, .i32⟩
  | .hbm, ⟨72, _⟩ => ⟨S_, .f32⟩
  | .hbm, ⟨73, _⟩ => ⟨S4096x128, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | _, _ => ⟨S16x8x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_c : Ref sig .tc := ⟨.hbm, 71, rfl⟩
abbrev main_call4_v0 : Ref sig .tc := ⟨.hbm, 72, rfl⟩
abbrev main_v13 : Ref sig .tc := ⟨.hbm, 73, rfl⟩
abbrev main_c_1 : Ref sig .tc := ⟨.hbm, 74, rfl⟩
abbrev main_call5_v0 : Ref sig .tc := ⟨.hbm, 75, rfl⟩
abbrev main_v14 : Ref sig .tc := ⟨.hbm, 76, rfl⟩
abbrev main_v15 : Ref sig .tc := ⟨.hbm, 77, rfl⟩

abbrev nD : Nat := 1
abbrev τ : Topo := Topo.v7x

variable {F : FTy → Type} [FloatOps F]
-- ==== CumFwd.lean ====
abbrev S4096x128 : Shape := ⟨2, ![4096, 128]⟩
abbrev S16 : Shape := ⟨1, ![16]⟩
abbrev S_ : Shape := ⟨0, ![]⟩
abbrev S128 : Shape := ⟨1, ![128]⟩
abbrev S1x128 : Shape := ⟨2, ![1, 128]⟩
abbrev S512x128 : Shape := ⟨2, ![512, 128]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumFwdRefIdeal.lean ====
abbrev S4096x128 : Shape := ⟨2, ![4096, 128]⟩
abbrev S16 : Shape := ⟨1, ![16]⟩
abbrev S_ : Shape := ⟨0, ![]⟩
abbrev S128 : Shape := ⟨1, ![128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .i1⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S_, .f32⟩
  | .hbm, ⟨26, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_v0 : Ref sig .tc := ⟨.hbm, 8, rfl⟩
abbrev main_call1_call0_cst : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_v6 : Ref sig .tc := ⟨.hbm, 16, rfl⟩
abbrev main_call1_call0_v7 : Ref sig .tc := ⟨.hbm, 17, rfl⟩
abbrev main_call1_call0_v8 : Ref sig .tc := ⟨.hbm, 18, rfl⟩
abbrev main_call1_call0_v9 : Ref sig .tc := ⟨.hbm, 19, rfl⟩
abbrev main_call1_call0_v10 : Ref sig .tc := ⟨.hbm, 20, rfl⟩
abbrev main_call1_call0_v11 : Ref sig .tc := ⟨.hbm, 21, rfl⟩
abbrev main_call1_v1 : Ref sig .tc := ⟨.hbm, 22, rfl⟩
abbrev main_v4 : Ref sig .tc := ⟨.hbm, 23, rfl⟩
abbrev main_call2_call0_cst : Ref sig .tc := ⟨.hbm, 24, rfl⟩
abbrev main_call2_call0_v0 : Ref sig .tc := ⟨.hbm, 25, rfl⟩
abbrev main_v5 : Ref sig .tc := ⟨.hbm, 26, rfl⟩

abbrev nD : Nat := 1
abbrev τ : Topo := Topo.v7x

variable {F : FTy → Type} [FloatOps F]
-- ==== MidNorms.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MidNormsRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x128, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x128, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_24 : BitVec 32 := 0#32
  let v65 : BitVec 1 := Scalar.cmpi .ne v64 c0_i32_24
  v65

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let v_true : BitVec 1 := 1#1
  let v66 : BitVec 1 := Scalar.xori v63 v_true
  let v67 : BitVec 32 := Scalar.extui v66
  let c0_i32_25 : BitVec 32 := 0#32
  let v68 : BitVec 1 := Scalar.cmpi .ne v67 c0_i32_25
  v68

def k0_cond3 (i : grid0.Coords) : BitVec 1 :=
  let arg0 : BitVec 32 := BitVec.ofNat 32 (i 0).val
  let c0_i32 : BitVec 32 := 0#32
  let v63 : BitVec 1 := Scalar.cmpi .eq arg0 c0_i32
  let v69 : BitVec 32 := Scalar.extui v63
  let c0_i32_26 : BitVec 32 := 0#32
  let v70 : BitVec 1 := Scalar.cmpi .ne v69 c0_i32_26
  v70

def k0_cond4 (i : grid0.Coords) : BitVec 1 :=
  let arg0 : BitVec 32 := BitVec.ofNat 32 (i 0).val
  let c0_i32 : BitVec 32 := 0#32
  let v63 : BitVec 1 := Scalar.cmpi .eq arg0 c0_i32
  let true_27 : BitVec 1 := 1#1
  let v71 : BitVec 1 := Scalar.xori v63 true_27
  let v72 : BitVec 32 := Scalar.extui v71
  let c0_i32_28 : BitVec 32 := 0#32
  let v73 : BitVec 1 := Scalar.cmpi .ne v72 c0_i32_28
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .bf16⟩
  | .hbm, ⟨71, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel.lean ====
abbrev S4096x4096 : Shape := ⟨2, ![4096, 4096]⟩
abbrev S16x4096 : Shape := ⟨2, ![16, 4096]⟩
abbrev S4096x2048 : Shape := ⟨2, ![4096, 2048]⟩
abbrev S4096x16x128 : Shape := ⟨3, ![4096, 16, 128]⟩
abbrev S16x4096x128 : Shape := ⟨3, ![16, 4096, 128]⟩
abbrev S4096 : Shape := ⟨1, ![4096]⟩
abbrev S16x4096x4096 : Shape := ⟨3, ![16, 4096, 4096]⟩
abbrev S_ : Shape := ⟨0, ![]⟩
abbrev S16x1x4096 : Shape := ⟨3, ![16, 1, 4096]⟩
abbrev S1x4096 : Shape := ⟨2, ![1, 4096]⟩
abbrev S4096x1 : Shape := ⟨2, ![4096, 1]⟩
abbrev S16x4096x1 : Shape := ⟨3, ![16, 4096, 1]⟩
abbrev S16x8x1x512 : Shape := ⟨4, ![16, 8, 1, 512]⟩
abbrev S4096x128 : Shape := ⟨2, ![4096, 128]⟩
abbrev S512x128 : Shape := ⟨2, ![512, 128]⟩
abbrev S1x4096x1 : Shape := ⟨3, ![1, 4096, 1]⟩
abbrev S1x1x1x512 : Shape := ⟨4, ![1, 1, 1, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x1 : Shape := ⟨3, ![1, 512, 1]⟩

abbrev nBuf : Space → Nat
  | .hbm => 53
  | .vmem => 24
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S16x4096, .f32⟩
  | .hbm, ⟨3, _⟩ => ⟨S4096x2048, .f32⟩
  | .hbm, ⟨4, _⟩ => ⟨S4096x2048, .f32⟩
  | .hbm, ⟨5, _⟩ => ⟨S4096x16x128, .f32⟩
  | .hbm, ⟨6, _⟩ => ⟨S16x4096x128, .f32⟩
  | .hbm, ⟨7, _⟩ => ⟨S4096x2048, .f32⟩
  | .hbm, ⟨8, _⟩ => ⟨S4096x16x128, .f32⟩
  | .hbm, ⟨9, _⟩ => ⟨S16x4096x128, .f32⟩
  | .hbm, ⟨10, _⟩ => ⟨S4096x2048, .f32⟩
  | .hbm, ⟨11, _⟩ => ⟨S4096x16x128, .f32⟩
  | .hbm, ⟨12, _⟩ => ⟨S16x4096x128, .f32⟩
  | .hbm, ⟨13, _⟩ => ⟨S4096, .i32⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S16x4096x128, .f32⟩
  | .hbm, ⟨43, _⟩ => ⟨S4096x16x128, .f32⟩
  | .hbm, ⟨44, _⟩ => ⟨S4096x2048, .f32⟩
  | .hbm, ⟨45, _⟩ => ⟨S16x4096x1, .f32⟩
  | .hbm, ⟨46, _⟩ => ⟨S16x4096x1, .f32⟩
  | .hbm, ⟨47, _⟩ => ⟨S16x8x1x512, .f32⟩
  | .hbm, ⟨48, _⟩ => ⟨S4096x4096, .bf16⟩
  | .hbm, ⟨49, _⟩ => ⟨S4096x2048, .bf16⟩
  | .hbm, ⟨50, _⟩ => ⟨S4096x2048, .bf16⟩
  | .hbm, ⟨51, _⟩ => ⟨S4096x2048, .bf16⟩
  | .hbm, ⟨52, _⟩ => ⟨S16x8x1x512, .f32⟩
  | .local _ .vmem, ⟨0, _⟩ => ⟨S4096x128, .f32⟩
  | .local _ .vmem, ⟨1, _⟩ => ⟨S4096x128, .f32⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x4096x1, .f32⟩
  | .local _ .vmem, ⟨11, _⟩ => ⟨S1x4096x1, .f32⟩
  | .local _ .vmem, ⟨12, _⟩ => ⟨S1x1x1x512, .f32⟩
  | .local _ .vmem, ⟨13, _⟩ => ⟨S1x1x1x512, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x1x1x512, .f32⟩
  | .local _ .vmem, ⟨21, _⟩ => ⟨S1x1x1x512, .f32⟩
  | .local _ .vmem, ⟨22, _⟩ => ⟨S4096x128, .f32⟩
  | .local _ .vmem, ⟨23, _⟩ => ⟨S4096x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev main_v38_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let c7_i32 : BitVec 32 := 7#32
  let arg1 : BitVec 32 := BitVec.ofNat 32 (i 1).val
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let c1_i32_14 : BitVec 32 := 1#32
  let v23 : BitVec 1 := Scalar.cmpi .eq v22 c1_i32_14
  let v24 : BitVec 32 := Scalar.extui v23
  let c0_i32_15 : BitVec 32 := 0#32
  let v25 : BitVec 1 := Scalar.cmpi .ne v24 c0_i32_15
  v25

def k0_mult1 (i : grid0.Coords) : BitVec 32 :=
  let arg1 : BitVec 32 := BitVec.ofNat 32 (i 1).val
  let c512_i32 : BitVec 32 := 512#32
  let v65 : BitVec 32 := Scalar.muli arg1 c512_i32
  v65
def k0_off1 (i : grid0.Coords) : Fin 2 → Nat :=
  let arg1 : BitVec 32 := BitVec.ofNat 32 (i 1).val
  let c512_i32 : BitVec 32 := 512#32
  let v65 : BitVec 32 := Scalar.muli arg1 c512_i32
  let v66 : BitVec 32 := v65
  let v67 : Index := Scalar.indexCast v66
  let c0_39 : Index := 0#32
  ![v67.toNat, 0]
def k0_off2 (i : grid0.Coords) : Fin 3 → Nat :=
  let c0_46 : Index := 0#32
  let arg1 : BitVec 32 := BitVec.ofNat 32 (i 1).val
  let c512_i32 : BitVec 32 := 512#32
  let v65 : BitVec 32 := Scalar.muli arg1 c512_i32
  let v66 : BitVec 32 := v65
  let v89 : Index := Scalar.indexCast v66
  let c0_47 : Index := 0#32
  ![0, v89.toNat, 0]
def k0_off3 (i : grid0.Coords) : Fin 2 → Nat :=
  let arg1 : BitVec 32 := BitVec.ofNat 32 (i 1).val
  let c512_i32 : BitVec 32 := 512#32
  let v65 : BitVec 32 := Scalar.muli arg1 c512_i32
  let v66 : BitVec 32 := v65
  let v96 : Index := Scalar.indexCast v66
  let c0_49 : Index := 0#32
  ![v96.toNat, 0]
def k0_mult2 (i : grid0.Coords) : BitVec 32 :=
  let arg1 : BitVec 32 := BitVec.ofNat 32 (i 1).val
  let c1_i32_38 : BitVec 32 := 1#32
  let v64 : BitVec 32 := Scalar.addi arg1 c1_i32_38
  let c512_i32_56 : BitVec 32 := 512#32
  let v119 : BitVec 32 := Scalar.muli v64 c512_i32_56
  v119
def k0_off4 (i : grid0.Coords) : Fin 2 → Nat :=
  let arg1 : BitVec 32 := BitVec.ofNat 32 (i 1).val
  let c1_i32_38 : BitVec 32 := 1#32
  let v64 : BitVec 32 := Scalar.addi arg1 c1_i32_38
  let c512_i32_56 : BitVec 32 := 512#32
  let v119 : BitVec 32 := Scalar.muli v64 c512_i32_56
  let v120 : BitVec 32 := v119
  let v121 : Index := Scalar.indexCast v120
  let c0_57 : Index := 0#32
  ![v121.toNat, 0]
def k0_off5 (i : grid0.Coords) : Fin 3 → Nat :=
  let c0_61 : Index := 0#32
  let arg1 : BitVec 32 := BitVec.ofNat 32 (i 1).val
  let c1_i32_38 : BitVec 32 := 1#32
  let v64 : BitVec 32 := Scalar.addi arg1 c1_i32_38
  let c512_i32_56 : BitVec 32 := 512#32
  let v119 : BitVec 32 := Scalar.muli v64 c512_i32_56
  let v120 : BitVec 32 := v119
  let v132 : Index := Scalar.indexCast v120
  let c0_62 : Index := 0#32
  ![0, v132.toNat, 0]
def k0_off6 (i : grid0.Coords) : Fin 2 → Nat :=
  let arg1 : BitVec 32 := BitVec.ofNat 32 (i 1).val
  let c1_i32_38 : BitVec 32 := 1#32
  let v64 : BitVec 32 := Scalar.addi arg1 c1_i32_38
  let c512_i32_56 : BitVec 32 := 512#32
  let v119 : BitVec 32 := Scalar.muli v64 c512_i32_56
  let v120 : BitVec 32 := v119
  let v139 : Index := Scalar.indexCast v120
  let c0_64 : Index := 0#32
  ![v139.toNat, 0]
def k0_mult3 (i : grid0.Coords) : BitVec 32 :=
  let arg1 : BitVec 32 := BitVec.ofNat 32 (i 1).val
  let c512_i32 : BitVec 32 := 512#32
  let v64 : BitVec 32 := Scalar.muli arg1 c512_i32
  v64
def k0_off7 (i : grid0.Coords) : Fin 2 → Nat :=
  let arg1 : BitVec 32 := BitVec.ofNat 32 (i 1).val
  let c512_i32 : BitVec 32 := 512#32
  let v64 : BitVec 32 := Scalar.muli arg1 c512_i32
  let v65 : BitVec 32 := v64
  let v66 : Index := Scalar.indexCast v65
  let c0_38 : Index := 0#32
  ![v66.toNat, 0]
def k0_off8 (i : grid0.Coords) : Fin 3 → Nat :=
  let c0_45 : Index := 0#32
  let arg1 : BitVec 32 := BitVec.ofNat 32 (i 1).val
  let c512_i32 : BitVec 32 := 512#32
  let v64 : BitVec 32 := Scalar.muli arg1 c512_i32
  let v65 : BitVec 32 := v64
  let v88 : Index := Scalar.indexCast v65
  let c0_46 : Index := 0#32
  ![0, v88.toNat, 0]
def k0_off9 (i : grid0.Coords) : Fin 2 → Nat :=
  let arg1 : BitVec 32 := BitVec.ofNat 32 (i 1).val
  let c512_i32 : BitVec 32 := 512#32
  let v64 : BitVec 32 := Scalar.muli arg1 c512_i32
  let v65 : BitVec 32 := v64
  let v95 : Index := Scalar.indexCast v65
  let c0_48 : Index := 0#32
  ![v95.toNat, 0]
@[reducible] def k0_t1_loop (i : grid0.Coords) : Scf.Loop 32 :=
  let c0_i32_24 : BitVec 32 := 0#32
  let c8_i32 : BitVec 32 := 8#32
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_26 : BitVec 32 := 1#32
  ⟨c0_i32_24, v51, c1_i32_26⟩
def k0_mult4 (i : grid0.Coords) (k0_t1 : Fin (k0_t1_loop i).trips) : BitVec 32 :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c1_i32_26 : BitVec 32 := 1#32
  let arg15 : BitVec 32 := Scf.iv c0_i32_24 c1_i32_26 k0_t1
  let v67 : BitVec 32 := Scalar.muli c2_i32_40 arg15
  let v68 : BitVec 32 := Scalar.addi v28 v67
  let c512_i32 : BitVec 32 := 512#32
  let v69 : BitVec 32 := Scalar.muli v68 c512_i32
  v69
def k0_off10 (i : grid0.Coords) (k0_t1 : Fin (k0_t1_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c1_i32_26 : BitVec 32 := 1#32
  let arg15 : BitVec 32 := Scf.iv c0_i32_24 c1_i32_26 k0_t1
  let v67 : BitVec 32 := Scalar.muli c2_i32_40 arg15
  let v68 : BitVec 32 := Scalar.addi v28 v67
  let c512_i32 : BitVec 32 := 512#32
  let v69 : BitVec 32 := Scalar.muli v68 c512_i32
  let v70 : BitVec 32 := v69
  let v71 : Index := Scalar.indexCast v70
  let c0_41 : Index := 0#32
  ![v71.toNat, 0]
def k0_off11 (i : grid0.Coords) (k0_t1 : Fin (k0_t1_loop i).trips) : Fin 3 → Nat :=
  let c0_47 : Index := 0#32
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c1_i32_26 : BitVec 32 := 1#32
  let arg15 : BitVec 32 := Scf.iv c0_i32_24 c1_i32_26 k0_t1
  let v67 : BitVec 32 := Scalar.muli c2_i32_40 arg15
  let v68 : BitVec 32 := Scalar.addi v28 v67
  let c512_i32 : BitVec 32 := 512#32
  let v69 : BitVec 32 := Scalar.muli v68 c512_i32
  let v70 : BitVec 32 := v69
  let v84 : Index := Scalar.indexCast v70
  let c0_48 : Index := 0#32
  ![0, v84.toNat, 0]
def k0_off12 (i : grid0.Coords) (k0_t1 : Fin (k0_t1_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c1_i32_26 : BitVec 32 := 1#32
  let arg15 : BitVec 32 := Scf.iv c0_i32_24 c1_i32_26 k0_t1
  let v67 : BitVec 32 := Scalar.muli c2_i32_40 arg15
  let v68 : BitVec 32 := Scalar.addi v28 v67
  let c512_i32 : BitVec 32 := 512#32
  let v69 : BitVec 32 := Scalar.muli v68 c512_i32
  let v70 : BitVec 32 := v69
  let v91 : Index := Scalar.indexCast v70
  let c0_50 : Index := 0#32
  ![v91.toNat, 0]
def k0_mult5 (i : grid0.Coords) (k0_t1 : Fin (k0_t1_loop i).trips) : BitVec 32 :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c1_i32_26 : BitVec 32 := 1#32
  let arg15 : BitVec 32 := Scf.iv c0_i32_24 c1_i32_26 k0_t1
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  v114
def k0_off13 (i : grid0.Coords) (k0_t1 : Fin (k0_t1_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c1_i32_26 : BitVec 32 := 1#32
  let arg15 : BitVec 32 := Scf.iv c0_i32_24 c1_i32_26 k0_t1
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  let v115 : BitVec 32 := v114
  let v116 : Index := Scalar.indexCast v115
  let c0_58 : Index := 0#32
  ![v116.toNat, 0]
def k0_off14 (i : grid0.Coords) (k0_t1 : Fin (k0_t1_loop i).trips) : Fin 3 → Nat :=
  let c0_64 : Index := 0#32
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c1_i32_26 : BitVec 32 := 1#32
  let arg15 : BitVec 32 := Scf.iv c0_i32_24 c1_i32_26 k0_t1
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  let v115 : BitVec 32 := v114
  let v129 : Index := Scalar.indexCast v115
  let c0_65 : Index := 0#32
  ![0, v129.toNat, 0]
def k0_off15 (i : grid0.Coords) (k0_t1 : Fin (k0_t1_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c1_i32_26 : BitVec 32 := 1#32
  let arg15 : BitVec 32 := Scf.iv c0_i32_24 c1_i32_26 k0_t1
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  let v115 : BitVec 32 := v114
  let v136 : Index := Scalar.indexCast v115
  let c0_67 : Index := 0#32
  ![v136.toNat, 0]
@[reducible] def k0_t2_loop (i : grid0.Coords) : Scf.Loop 32 :=
  let c0_i32_24 : BitVec 32 := 0#32
  let c8_i32 : BitVec 32 := 8#32
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let v48 : BitVec 32 := Scalar.addi c0_i32_24 v47
  let c1_i32_27 : BitVec 32 := 1#32
  ⟨v51, v48, c1_i32_27⟩
def k0_mult6 (i : grid0.Coords) (k0_t2 : Fin (k0_t2_loop i).trips) : BitVec 32 :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v67 : BitVec 32 := Scalar.muli c2_i32_40 arg15
  let v68 : BitVec 32 := Scalar.addi v28 v67
  let c512_i32 : BitVec 32 := 512#32
  let v69 : BitVec 32 := Scalar.muli v68 c512_i32
  v69
def k0_off16 (i : grid0.Coords) (k0_t2 : Fin (k0_t2_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v67 : BitVec 32 := Scalar.muli c2_i32_40 arg15
  let v68 : BitVec 32 := Scalar.addi v28 v67
  let c512_i32 : BitVec 32 := 512#32
  let v69 : BitVec 32 := Scalar.muli v68 c512_i32
  let v70 : BitVec 32 := v69
  let v71 : Index := Scalar.indexCast v70
  let c0_41 : Index := 0#32
  ![v71.toNat, 0]
def k0_off17 (i : grid0.Coords) (k0_t2 : Fin (k0_t2_loop i).trips) : Fin 3 → Nat :=
  let c0_47 : Index := 0#32
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v67 : BitVec 32 := Scalar.muli c2_i32_40 arg15
  let v68 : BitVec 32 := Scalar.addi v28 v67
  let c512_i32 : BitVec 32 := 512#32
  let v69 : BitVec 32 := Scalar.muli v68 c512_i32
  let v70 : BitVec 32 := v69
  let v84 : Index := Scalar.indexCast v70
  let c0_48 : Index := 0#32
  ![0, v84.toNat, 0]
def k0_off18 (i : grid0.Coords) (k0_t2 : Fin (k0_t2_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_40 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v67 : BitVec 32 := Scalar.muli c2_i32_40 arg15
  let v68 : BitVec 32 := Scalar.addi v28 v67
  let c512_i32 : BitVec 32 := 512#32
  let v69 : BitVec 32 := Scalar.muli v68 c512_i32
  let v70 : BitVec 32 := v69
  let v91 : Index := Scalar.indexCast v70
  let c0_50 : Index := 0#32
  ![v91.toNat, 0]
def k0_mult7 (i : grid0.Coords) (k0_t2 : Fin (k0_t2_loop i).trips) : BitVec 32 :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  v114
def k0_off19 (i : grid0.Coords) (k0_t2 : Fin (k0_t2_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  let v115 : BitVec 32 := v114
  let v116 : Index := Scalar.indexCast v115
  let c0_58 : Index := 0#32
  ![v116.toNat, 0]
def k0_off20 (i : grid0.Coords) (k0_t2 : Fin (k0_t2_loop i).trips) : Fin 3 → Nat :=
  let c0_64 : Index := 0#32
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  let v115 : BitVec 32 := v114
  let v129 : Index := Scalar.indexCast v115
  let c0_65 : Index := 0#32
  ![0, v129.toNat, 0]
def k0_off21 (i : grid0.Coords) (k0_t2 : Fin (k0_t2_loop i).trips) : Fin 2 → Nat :=
  let arg1 : BitVec 32 := BitVec.ofNat 32 (i 1).val
  let c1_i32_16 : BitVec 32 := 1#32
  let v27 : BitVec 32 := Scalar.addi arg1 c1_i32_16
  let c7_i32 : BitVec 32 := 7#32
  let v12 : BitVec 32 := Scalar.subi c7_i32 arg1
  let c2_i32 : BitVec 32 := 2#32
  let c0_i32_10 : BitVec 32 := 0#32
  let v13 : BitVec 1 := Scalar.cmpi .eq c2_i32 c0_i32_10
  let c1_i32 : BitVec 32 := 1#32
  let v14 : BitVec 32 := Scalar.select v13 c1_i32 c2_i32
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let v28 : BitVec 32 := Scalar.addi v27 v22
  let c2_i32_38 : BitVec 32 := 2#32
  let c0_i32_24 : BitVec 32 := 0#32
  let c8_i32 : BitVec 32 := 8#32
  let v29 : BitVec 32 := Scalar.subi c8_i32 v28
  let c0_i32_18 : BitVec 32 := 0#32
  let v31 : BitVec 1 := Scalar.cmpi .sgt v29 c0_i32_18
  let v32 : BitVec 32 := Scalar.extui v31
  let c0_i32_19 : BitVec 32 := 0#32
  let v33 : BitVec 1 := Scalar.cmpi .slt v29 c0_i32_19
  let v34 : BitVec 32 := Scalar.extui v33
  let v35 : BitVec 32 := Scalar.subi v32 v34
  let c2_i32_17 : BitVec 32 := 2#32
  let c0_i32_20 : BitVec 32 := 0#32
  let v36 : BitVec 1 := Scalar.cmpi .sgt c2_i32_17 c0_i32_20
  let v37 : BitVec 32 := Scalar.extui v36
  let c0_i32_21 : BitVec 32 := 0#32
  let v38 : BitVec 1 := Scalar.cmpi .slt c2_i32_17 c0_i32_21
  let v39 : BitVec 32 := Scalar.extui v38
  let v40 : BitVec 32 := Scalar.subi v37 v39
  let v41 : BitVec 1 := Scalar.cmpi .ne v35 v40
  let v42 : BitVec 32 := Scalar.remsi v29 c2_i32_17
  let c0_i32_22 : BitVec 32 := 0#32
  let v43 : BitVec 1 := Scalar.cmpi .ne v42 c0_i32_22
  let v44 : BitVec 1 := Scalar.andi v41 v43
  let v30 : BitVec 32 := Scalar.divsi v29 c2_i32_17
  let c1_i32_23 : BitVec 32 := 1#32
  let v45 : BitVec 32 := Scalar.subi v30 c1_i32_23
  let v46 : BitVec 32 := Scalar.select v44 v45 v30
  let v47 : BitVec 32 := Scalar.subi v46 c0_i32_24
  let c1_i32_25 : BitVec 32 := 1#32
  let v49 : BitVec 32 := Scalar.divsi v47 c1_i32_25
  let v50 : BitVec 32 := Scalar.muli v49 c1_i32_25
  let v51 : BitVec 32 := Scalar.addi c0_i32_24 v50
  let c1_i32_27 : BitVec 32 := 1#32
  let arg15 : BitVec 32 := Scf.iv v51 c1_i32_27 k0_t2
  let v64 : BitVec 32 := Scalar.muli c2_i32_38 arg15
  let v65 : BitVec 32 := Scalar.addi v28 v64
  let c1_i32_39 : BitVec 32 := 1#32
  let v66 : BitVec 32 := Scalar.addi v65 c1_i32_39
  let c512_i32_57 : BitVec 32 := 512#32
  let v114 : BitVec 32 := Scalar.muli v66 c512_i32_57
  let v115 : BitVec 32 := v114
  let v136 : Index := Scalar.indexCast v115
  let c0_67 : Index := 0#32
  ![v136.toNat, 0]
def k0_cond3 (i : grid0.Coords) : BitVec 1 :=
  let arg1 : BitVec 32 := BitVec.ofNat 32 (i 1).val
  let c7_i32_36 : BitVec 32 := 7#32
  let v61 : BitVec 1 := Scalar.cmpi .eq arg1 c7_i32_36
  let v62 : BitVec 32 := Scalar.extui v61
  let c0_i32_37 : BitVec 32 := 0#32
  let v63 : BitVec 1 := Scalar.cmpi .ne v62 c0_i32_37
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x4096 : Shape := ⟨2, ![4096, 4096]⟩
abbrev S16x4096 : Shape := ⟨2, ![16, 4096]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S16x128x4096 : Shape := ⟨3, ![16, 128, 4096]⟩
abbrev S16x8x1x512 : Shape := ⟨4, ![16, 8, 1, 512]⟩

abbrev nBuf : Space → Nat
  | .hbm => 126
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S16x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x16x128, .f32⟩
  | .hbm, ⟨8, _⟩ => ⟨S16x4096x128, .f32⟩
  | .hbm, ⟨9, _⟩ => ⟨S4096x16x128, .f32⟩
  | .hbm, ⟨10, _⟩ => ⟨S16x4096x128, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096x1, .f32⟩
  | .hbm, ⟨16, _⟩ => ⟨S16x4096x4096, .f32⟩
  | .hbm, ⟨17, _⟩ => ⟨S16x4096x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .i1⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .i1⟩
  | .hbm, ⟨48, _⟩ => ⟨S_, .f32⟩
  | .hbm, ⟨49, _⟩ => ⟨S16x4096, .f32⟩
  | .hbm, ⟨50, _⟩ => ⟨S16x4096, .i1⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S16x4096, .f32⟩
  | .hbm, ⟨58, _⟩ => ⟨S16x4096, .f32⟩
  | .hbm, ⟨59, _⟩ => ⟨S16x4096x1, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x4096, .f32⟩
  | .hbm, ⟨67, _⟩ => ⟨S16x4096x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S4096x16x128, .f32⟩
  | .hbm, ⟨73, _⟩ => ⟨S16x4096x128, .f32⟩
  | .hbm, ⟨74, _⟩ => ⟨S16x4096x128, .f32⟩
  | .hbm, ⟨75, _⟩ => ⟨S4096x16x128, .f32⟩
  | .hbm, ⟨76, _⟩ => ⟨S4096x2048, .f32⟩
  | .hbm, ⟨77, _⟩ => ⟨S4096x16x128, .f32⟩
  | .hbm, ⟨78, _⟩ => ⟨S16x4096x128, .f32⟩
  | .hbm, ⟨79, _⟩ => ⟨S16x128x4096, .f32⟩
  | .hbm, ⟨80, _⟩ => ⟨S16x4096x128, .f32⟩
  | .hbm, ⟨81, _⟩ => ⟨S16x4096x4096, .f32⟩
  | .hbm, ⟨82, _⟩ => ⟨S4096x16x128, .f32⟩
  | .hbm, ⟨83, _⟩ => ⟨S4096x2048, .f32⟩
  | .hbm, ⟨84, _⟩ => ⟨S16x4096x4096, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x1, .f32⟩
  | .hbm, ⟨90, _⟩ => ⟨S16x4096x1, .f32⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096, .f32⟩
  | .hbm, ⟨95, _⟩ => ⟨S16x4096x4096, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096x4096, .f32⟩
  | .hbm, ⟨100, _⟩ => ⟨S16x4096x4096, .f32⟩
  | .hbm, ⟨101, _⟩ => ⟨S16x4096x4096, .f32⟩
  | .hbm, ⟨102, _⟩ => ⟨S_, .f32⟩
  | .hbm, ⟨103, _⟩ => ⟨S16x4096, .f32⟩
  | .hbm, ⟨104, _⟩ => ⟨S16x1x4096, .f32⟩
  | .hbm, ⟨105, _⟩ => ⟨S_, .f32⟩
  | .hbm, ⟨106, _⟩ => ⟨S16x4096, .f32⟩
  | .hbm, ⟨107, _⟩ => ⟨S_, .f32⟩
  | .hbm, ⟨108, _⟩ => ⟨S16x4096, .f32⟩
  | .hbm, ⟨109, _⟩ => ⟨S16x4096x1, .f32⟩
  | .hbm, ⟨110, _⟩ => ⟨S_, .f32⟩
  | .hbm, ⟨111, _⟩ => ⟨S16x4096, .f32⟩
  | .hbm, ⟨112, _⟩ => ⟨S16x4096, .f32⟩
  | .hbm, ⟨113, _⟩ => ⟨S_, .f32⟩
  | .hbm, ⟨114, _⟩ => ⟨S16x4096x4096, .f32⟩
  | .hbm, ⟨115, _⟩ => ⟨S16x4096x4096, .f32⟩
  | .hbm, ⟨116, _⟩ => ⟨S16x4096x128, .f32⟩
  | .hbm, ⟨117, _⟩ => ⟨S16x4096x128, .f32⟩
  | .hbm, ⟨118, _⟩ => ⟨S4096x16x128, .f32⟩
  | .hbm, ⟨119, _⟩ => ⟨S4096x2048, .f32⟩
  | .hbm, ⟨120, _⟩ => ⟨S4096x16x128, .f32⟩
  | .hbm, ⟨121, _⟩ => ⟨S4096x2048, .f32⟩
  | .hbm, ⟨122, _⟩ => ⟨S4096x2048, .bf16⟩
  | .hbm, ⟨123, _⟩ => ⟨S4096x2048, .bf16⟩
  | .hbm, ⟨124, _⟩ => ⟨S4096x2048, .bf16⟩
  | .hbm, ⟨125, _⟩ => ⟨S16x8x1x512, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_v22_1 : Ref sig .tc := ⟨.hbm, 29, rfl⟩
abbrev main_call0_v2 : Ref sig .tc := ⟨.hbm, 30, rfl⟩
abbrev main_v22_0 : Ref sig .tc := ⟨.hbm, 31, rfl⟩
abbrev main_call0_cst : Ref sig .tc := ⟨.hbm, 32, rfl⟩
abbrev main_v22_2 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]
-- ==== Proof.Common.Rows.lean ====
/-
  The tiles of 512 rows of the three buffers a head's rows live in: the rows of a 4096×128 buffer, of a 4096×1
  column, and of a 1×4096×1 column; reading tile `b` and putting a tile there.
-/
module

public import Idealize.ShloMosaic.Lib.VecWindow

@[expose] public section

noncomputable section

namespace Cert.Att

open Idealize.ShloMosaic

variable {α : Type}

/-- A window at equal offsets is the same window. -/
theorem window_congr {s : Shape} {off off' size : Fin s.rank → ℕ} (X : s.Idx → α) {inb : ∀ a, off a + size a ≤ s.size a}
    {inb' : ∀ a, off' a + size a ≤ s.size a} (h : off = off') : VecWindow.window X off size inb = VecWindow.window X off' size inb' := by
  subst h; rfl

/-- A window of the shape's own sizes is the whole. -/
theorem window_full {s : Shape} {off : Fin s.rank → ℕ} (X : s.Idx → α) (inb : ∀ a, off a + s.size a ≤ s.size a) :
    VecWindow.window X off s.size inb = X :=
  funext fun y => congrArg X (Rect.emb_unit_full inb y)

/-- Putting at equal offsets is the same put. -/
theorem put_congr {s : Shape} {off off' size : Fin s.rank → ℕ} (X : s.Idx → α) (w : ((a : Fin s.rank) → Fin (size a)) → α)
    (h : off = off') : VecWindow.put X off size w = VecWindow.put X off' size w := by
  subst h; rfl

/-- A put of the shape's own sizes is the payload. -/
theorem put_full {s : Shape} {off : Fin s.rank → ℕ} (X w : s.Idx → α) (h : off = fun _ => 0) :
    VecWindow.put X off s.size w = w := by
  subst h
  funext y
  unfold VecWindow.put
  rw [dif_pos (fun a => ⟨Nat.zero_le _, by rw [Nat.zero_add]; exact (y a).isLt⟩)]
  exact congrArg w (funext fun a => Fin.ext (by
    show (y a).val - 0 = (y a).val
    omega))

theorem rows_inb (b : Fin 8) : ∀ a : Fin 2, (![512 * b.val, 0] : Fin 2 → ℕ) a + (![512, 128] : Fin 2 → ℕ) a ≤ (![4096, 128] : Fin 2 → ℕ) a := by
  have := b.isLt
  refine Fin.forall_fin_two.mpr ⟨?_, ?_⟩
  · show 512 * b.val + 512 ≤ 4096; omega
  · show 0 + 128 ≤ 128; omega

theorem col_inb (b : Fin 8) : ∀ a : Fin 2, (![512 * b.val, 0] : Fin 2 → ℕ) a + (![512, 1] : Fin 2 → ℕ) a ≤ (![4096, 1] : Fin 2 → ℕ) a := by
  have := b.isLt
  refine Fin.forall_fin_two.mpr ⟨?_, ?_⟩
  · show 512 * b.val + 512 ≤ 4096; omega
  · show 0 + 1 ≤ 1; omega

theorem lcol_inb (b : Fin 8) : ∀ a : Fin 3, (![0, 512 * b.val, 0] : Fin 3 → ℕ) a + (![1, 512, 1] : Fin 3 → ℕ) a ≤ (![1, 4096, 1] : Fin 3 → ℕ) a := by
  have := b.isLt
  intro a
  match a with
  | 0 => show 0 + 1 ≤ 1; omega
  | 1 => show 512 * b.val + 512 ≤ 4096; omega
  | 2 => show 0 + 1 ≤ 1; omega

/-- Tile `b` of a 4096×128 buffer. -/
def rows (X : (⟨2, ![4096, 128]⟩ : Shape).Idx → α) (b : Fin 8) : (⟨2, ![512, 128]⟩ : Shape).Idx → α :=
  VecWindow.window X ![512 * b.val, 0] ![512, 128] (rows_inb b)

/-- Tile `b` of a 4096×1 column. -/
def col (X : (⟨2, ![4096, 1]⟩ : Shape).Idx → α) (b : Fin 8) : (⟨2, ![512, 1]⟩ : Shape).Idx → α :=
  VecWindow.window X ![512 * b.val, 0] ![512, 1] (col_inb b)

/-- Tile `b` of a 1×4096×1 column. -/
def lcol (X : (⟨3, ![1, 4096, 1]⟩ : Shape).Idx → α) (b : Fin 8) : (⟨3, ![1, 512, 1]⟩ : Shape).Idx → α :=
  VecWindow.window X ![0, 512 * b.val, 0] ![1, 512, 1] (lcol_inb b)

/-- A 4096×128 buffer with `w` put over tile `b`. -/
def putRows (X : (⟨2, ![4096, 128]⟩ : Shape).Idx → α) (b : Fin 8) (w : (⟨2, ![512, 128]⟩ : Shape).Idx → α) :
    (⟨2, ![4096, 128]⟩ : Shape).Idx → α :=
  VecWindow.put X ![512 * b.val, 0] ![512, 128] w

/-- A 4096×1 column with `w` put over tile `b`. -/
def putCol (X : (⟨2, ![4096, 1]⟩ : Shape).Idx → α) (b : Fin 8) (w : (⟨2, ![512, 1]⟩ : Shape).Idx → α) :
    (⟨2, ![4096, 1]⟩ : Shape).Idx → α :=
  VecWindow.put X ![512 * b.val, 0] ![512, 1] w

end Cert.Att

end
-- ==== Proof.Common.Tiles.lean ====
/-
  Reading a tile after tiles were put, and buffers given tile by tile: a buffer whose eight tiles are put is the
  buffer of those tiles, whatever was there before.
-/
module

public import proofs.«01_k».proof.Proof.Common.Rows

@[expose] public section

noncomputable section

namespace Cert.Att

open Idealize.ShloMosaic

variable {α : Type}

theorem rows_putRows_same (X : (⟨2, ![4096, 128]⟩ : Shape).Idx → α) (b : Fin 8) (w : (⟨2, ![512, 128]⟩ : Shape).Idx → α) :
    rows (putRows X b w) b = w :=
  VecWindow.window_put_same X _ _ _ w

theorem rows_putRows_ne (X : (⟨2, ![4096, 128]⟩ : Shape).Idx → α) {b b' : Fin 8} (h : b ≠ b') (w : (⟨2, ![512, 128]⟩ : Shape).Idx → α) :
    rows (putRows X b w) b' = rows X b' :=
  VecWindow.window_put_of_disjoint X _ _ _ _ _ w (0 : Fin 2) (by
    have h' : b.val ≠ b'.val := fun e => h (Fin.ext e)
    show 512 * b'.val + 512 ≤ 512 * b.val ∨ 512 * b.val + 512 ≤ 512 * b'.val
    omega)

theorem col_putCol_same (X : (⟨2, ![4096, 1]⟩ : Shape).Idx → α) (b : Fin 8) (w : (⟨2, ![512, 1]⟩ : Shape).Idx → α) :
    col (putCol X b w) b = w :=
  VecWindow.window_put_same X _ _ _ w

theorem col_putCol_ne (X : (⟨2, ![4096, 1]⟩ : Shape).Idx → α) {b b' : Fin 8} (h : b ≠ b') (w : (⟨2, ![512, 1]⟩ : Shape).Idx → α) :
    col (putCol X b w) b' = col X b' :=
  VecWindow.window_put_of_disjoint X _ _ _ _ _ w (0 : Fin 2) (by
    have h' : b.val ≠ b'.val := fun e => h (Fin.ext e)
    show 512 * b'.val + 512 ≤ 512 * b.val ∨ 512 * b.val + 512 ≤ 512 * b'.val
    omega)

/-- The tile of a row, and the row in its tile. -/
def tileOf (r : Fin 4096) : Fin 8 := ⟨r.val / 512, by have := r.isLt; omega⟩
def inTile (r : Fin 4096) : Fin 512 := ⟨r.val % 512, Nat.mod_lt _ (by decide)⟩

/-- The index of two coordinates. -/
def at2 {m n : ℕ} (a : Fin m) (b : Fin n) : (⟨2, ![m, n]⟩ : Shape).Idx
  | ⟨0, _⟩ => a
  | ⟨1, _⟩ => b

theorem at2_eta {m n : ℕ} (y : (⟨2, ![m, n]⟩ : Shape).Idx) : at2 (y 0) (y 1) = y :=
  funext fun a => match a with | ⟨0, _⟩ => rfl | ⟨1, _⟩ => rfl

theorem exists_at2 {m n : ℕ} (y : (⟨2, ![m, n]⟩ : Shape).Idx) : ∃ (a : Fin m) (b : Fin n), y = at2 a b :=
  ⟨y 0, y 1, (at2_eta y).symm⟩

/-- The row `r` of tile `b`. -/
def rowOf (b : Fin 8) (r : Fin 512) : Fin 4096 := ⟨512 * b.val + r.val, by have := b.isLt; have := r.isLt; omega⟩

theorem rowOf_tile (r : Fin 4096) : rowOf (tileOf r) (inTile r) = r := Fin.ext (Nat.div_add_mod _ _)
theorem tileOf_rowOf (b : Fin 8) (r : Fin 512) : tileOf (rowOf b r) = b := Fin.ext (by
  show (512 * b.val + r.val) / 512 = b.val
  have := r.isLt; omega)
theorem inTile_rowOf (b : Fin 8) (r : Fin 512) : inTile (rowOf b r) = r := Fin.ext (by
  show (512 * b.val + r.val) % 512 = r.val
  have := r.isLt; omega)

/-- A tile's entry is the buffer's. -/
theorem rows_at (X : (⟨2, ![4096, 128]⟩ : Shape).Idx → α) (b : Fin 8) (r : Fin 512) (d : Fin 128) :
    rows X b (at2 r d) = X (at2 (rowOf b r) d) :=
  congrArg X (funext fun a => Fin.ext (by
    match a with
    | ⟨0, _⟩ => show 512 * b.val + 1 * r.val = 512 * b.val + r.val; omega
    | ⟨1, _⟩ => show 0 + 1 * d.val = d.val; omega))

theorem col_at (X : (⟨2, ![4096, 1]⟩ : Shape).Idx → α) (b : Fin 8) (r : Fin 512) (d : Fin 1) :
    col X b (at2 r d) = X (at2 (rowOf b r) d) :=
  congrArg X (funext fun a => Fin.ext (by
    match a with
    | ⟨0, _⟩ => show 512 * b.val + 1 * r.val = 512 * b.val + r.val; omega
    | ⟨1, _⟩ => show 0 + 1 * d.val = d.val; omega))

/-- Two buffers with the same tiles are the same. -/
theorem ext_rows {X Y : (⟨2, ![4096, 128]⟩ : Shape).Idx → α} (h : ∀ b, rows X b = rows Y b) : X = Y := by
  funext y
  obtain ⟨r, d, rfl⟩ := exists_at2 y
  have e := congrFun (h (tileOf r)) (at2 (inTile r) d)
  rw [rows_at, rows_at, rowOf_tile] at e
  exact e

theorem ext_col {X Y : (⟨2, ![4096, 1]⟩ : Shape).Idx → α} (h : ∀ b, col X b = col Y b) : X = Y := by
  funext y
  obtain ⟨r, d, rfl⟩ := exists_at2 y
  have e := congrFun (h (tileOf r)) (at2 (inTile r) d)
  rw [col_at, col_at, rowOf_tile] at e
  exact e

/-- The buffer of eight tiles. -/
def ofRows (f : Fin 8 → (⟨2, ![512, 128]⟩ : Shape).Idx → α) : (⟨2, ![4096, 128]⟩ : Shape).Idx → α :=
  fun y => f (tileOf (y 0)) (at2 (inTile (y 0)) (y 1))

def ofCol (f : Fin 8 → (⟨2, ![512, 1]⟩ : Shape).Idx → α) : (⟨2, ![4096, 1]⟩ : Shape).Idx → α :=
  fun y => f (tileOf (y 0)) (at2 (inTile (y 0)) (y 1))

theorem rows_ofRows (f : Fin 8 → (⟨2, ![512, 128]⟩ : Shape).Idx → α) (b : Fin 8) : rows (ofRows f) b = f b := by
  funext y
  obtain ⟨r, d, rfl⟩ := exists_at2 y
  rw [rows_at]
  show f (tileOf (rowOf b r)) (at2 (inTile (rowOf b r)) d) = _
  rw [tileOf_rowOf, inTile_rowOf]

theorem col_ofCol (f : Fin 8 → (⟨2, ![512, 1]⟩ : Shape).Idx → α) (b : Fin 8) : col (ofCol f) b = f b := by
  funext y
  obtain ⟨r, d, rfl⟩ := exists_at2 y
  rw [col_at]
  show f (tileOf (rowOf b r)) (at2 (inTile (rowOf b r)) d) = _
  rw [tileOf_rowOf, inTile_rowOf]

/-- All eight tiles put, in order. -/
theorem putRows_all (X : (⟨2, ![4096, 128]⟩ : Shape).Idx → α) (f : Fin 8 → (⟨2, ![512, 128]⟩ : Shape).Idx → α) :
    putRows (putRows (putRows (putRows (putRows (putRows (putRows (putRows X 0 (f 0)) 1 (f 1)) 2 (f 2)) 3 (f 3)) 4 (f 4)) 5 (f 5)) 6 (f 6)) 7 (f 7)
      = ofRows f := by
  refine ext_rows fun b => ?_
  rw [rows_ofRows]
  fin_cases b
  all_goals
    repeat first
      | exact rows_putRows_same _ _ _
      | rw [rows_putRows_ne _ (by decide)]

theorem putCol_all (X : (⟨2, ![4096, 1]⟩ : Shape).Idx → α) (f : Fin 8 → (⟨2, ![512, 1]⟩ : Shape).Idx → α) :
    putCol (putCol (putCol (putCol (putCol (putCol (putCol (putCol X 0 (f 0)) 1 (f 1)) 2 (f 2)) 3 (f 3)) 4 (f 4)) 5 (f 5)) 6 (f 6)) 7 (f 7)
      = ofCol f := by
  refine ext_col fun b => ?_
  rw [col_ofCol]
  fin_cases b
  all_goals
    repeat first
      | exact col_putCol_same _ _ _
      | rw [col_putCol_ne _ (by decide)]

end Cert.Att

end
-- ==== Proof.Common.Hold.lean ====
/-
  Loads and stores of a memref owned by its values. `owns c m q X` says that the memref `m` reads `X`;
  a load of a rectangle continues at the window of `X` there, and an unmasked store continues with the
  payload put over that window. Both rules are stated with the rectangle's offsets equal to a closed form.
-/
module

public import Idealize.ShloMosaic.Lib.VecWindow
public import Idealize.ShloMosaic.Lib.Exec
public import Idealize.ShloMosaic.Lib.Tactic

@[expose] public section

noncomputable section

namespace Cert.Att

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels} [Preorder Lvl]
variable {defs : Defs nD τ sig Val Λ} (𝒱 : Variants) (c : Thread nD τ) (bd : Option 𝒱.V) (E : Set Name)
variable {s : Shape} {e : EltTy} {α : Type} {Q : α → sProp (MT nD τ sig Ix Val Name U Lvl)}

local notation "𝕄" => MT nD τ sig Ix Val Name U Lvl

/-- A load at the head of a program, the memref owned at `X` among other resources `R`: it continues at the
    window of `X`. -/
theorem load_of {cs : CoreSpace} {m : Memref sig c.2.kind cs s e} {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α}
    {q : PosShare TreeShare} {X : s.Idx → Val e} {H R : sProp 𝕄} {Y : (Rect.unit off size inb).shape.Idx → Val e}
    (hH : H ⊣⊢ iprop(owns c m q X ∗ R)) (hY : VecWindow.window X off size inb = Y)
    (h : H ⊢ wp frame (wpE defs 𝒱 c bd) E (k Y) Q) :
    H ⊢ wp frame (wpE defs 𝒱 c bd) E (Prog.lift (.load m (Rect.unit off size inb).toLoadRect hl) >>= k) Q := by
  subst hY
  refine hH.1.trans ?_
  unfold owns
  iintro ⟨⟨%f, %hf, Hm⟩, HR⟩
  iapply (wp_load (defs := defs) 𝒱 c bd E (Q := Q) (m := m) (r := (Rect.unit off size inb).toLoadRect) (hl := hl)
    (k := k) (q := q) (f := f) (S := m.view.set) (m.view.setOn_subset_set _)) $$ Hm
  iintro Hm
  rw [View.readAt_unit m.view f inb rfl inb, hf]
  iapply (hH.2.trans h)
  isplitl [Hm]
  · unfold owns
    iexists f
    isplitr
    · ipureintro; exact hf
    · iexact Hm
  · iexact HR

/-- An unmasked store at the head of a program, the memref owned whole at `X` among other resources `R`: it
    continues with the payload put over the window. -/
theorem store_of {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α}
    {X Y : s.Idx → Val e} {H H' R : sProp 𝕄}
    (hH : H ⊢ iprop(owns c m fullShare X ∗ R)) (hH' : iprop(owns c m fullShare Y ∗ R) ⊢ H')
    (hY : VecWindow.put X off size w = Y)
    (h : H' ⊢ wp frame (wpE defs 𝒱 c bd) E (k ⟨⟩) Q) :
    H ⊢ wp frame (wpE defs 𝒱 c bd) E (Prog.lift (.store m (Rect.unit off size inb) w Finset.univ hx hm) >>= k) Q := by
  subst hY
  refine hH.trans ?_
  unfold owns
  iintro ⟨⟨%f, %hf, Hm⟩, HR⟩
  iapply (wp_store_writes₀ (defs := defs) 𝒱 c bd E (Q := Q) (m := m) (r := Rect.unit off size inb) (w := w) (hx := hx) (hm := hm)
    (k := k) (f := f) (S := m.view.set) (m.view.set_slice_subset _)) $$ Hm
  iintro Hm
  iapply (hH'.trans h)
  isplitl [Hm]
  · unfold owns
    iexists m.view.writes Val f [⟨Rect.unit off size inb, w⟩]
    isplitr
    · ipureintro; rw [View.read_writes_cons_put m.view f inb w [] rfl, View.writes_nil, hf]
    · iexact Hm
  · iexact HR

end Cert.Att

end
-- ==== Proof.KernelIdeal.Offsets.lean ====
/-
  The closed forms of the body's offsets and branch conditions. At grid point `(h, j)` the body takes block `j`
  under the mask, then, when `7 - j` is odd, block `j + 1`, and then the remaining blocks in pairs.
-/
module

public import proofs.«01_k».proof.Proof.Gen.KernelIdeal
public import proofs.«01_k».proof.Proof.Gen.KernelIdeal.Skeleton

@[expose] public section

noncomputable section

namespace Cert.KernelIdeal.Body

open Idealize.ShloMosaic Cert.KernelIdeal Cert.KernelIdeal.Gen

/-- How many blocks precede the pairs after block `j`: one when `7 - j` is odd. -/
def odd (i : grid0.Coords) : ℕ := (7 - (i 1).val) % 2

theorem cond1_iff : ∀ i : grid0.Coords,
    Scalar.cmpi .ne (Scalar.extui (Scalar.cmpi .eq (BitVec.ofNat 32 (i 1).val) 0#32) : BitVec 32) 0#32 = 1#1 ↔ (i 1).val = 0 := by decide +kernel
theorem cond2_iff : ∀ i : grid0.Coords, k0_cond2 i = 1#1 ↔ odd i = 1 := by decide +kernel
theorem cond3_iff : ∀ i : grid0.Coords, k0_cond3 i = 1#1 ↔ (i 1).val = 7 := by decide +kernel
theorem trips1 : ∀ i : grid0.Coords, (k0_t1_loop i).trips = (7 - (i 1).val) / 2 := by decide +kernel
theorem trips2 : ∀ i : grid0.Coords, (k0_t2_loop i).trips = 0 := by decide +kernel
theorem off10_eq : ∀ (i : grid0.Coords) (k : Fin (k0_t1_loop i).trips), k0_off10 i k = ![512 * ((i 1).val + 1 + odd i + 2 * k.val), 0] := by decide +kernel
theorem off11_eq : ∀ (i : grid0.Coords) (k : Fin (k0_t1_loop i).trips), k0_off11 i k = ![0, 512 * ((i 1).val + 1 + odd i + 2 * k.val), 0] := by decide +kernel
theorem off12_eq : ∀ (i : grid0.Coords) (k : Fin (k0_t1_loop i).trips), k0_off12 i k = ![512 * ((i 1).val + 1 + odd i + 2 * k.val), 0] := by decide +kernel
theorem off13_eq : ∀ (i : grid0.Coords) (k : Fin (k0_t1_loop i).trips), k0_off13 i k = ![512 * ((i 1).val + 1 + odd i + 2 * k.val + 1), 0] := by decide +kernel
theorem off14_eq : ∀ (i : grid0.Coords) (k : Fin (k0_t1_loop i).trips), k0_off14 i k = ![0, 512 * ((i 1).val + 1 + odd i + 2 * k.val + 1), 0] := by decide +kernel
theorem off15_eq : ∀ (i : grid0.Coords) (k : Fin (k0_t1_loop i).trips), k0_off15 i k = ![512 * ((i 1).val + 1 + odd i + 2 * k.val + 1), 0] := by decide +kernel
theorem pair_lt : ∀ (i : grid0.Coords) (k : Fin (k0_t1_loop i).trips), (i 1).val + 1 + odd i + 2 * k.val + 1 < 8 := by decide +kernel

theorem col_lt : ∀ i : grid0.Coords, (i 1).val < 8 := by decide +kernel
theorem next_lt : ∀ i : grid0.Coords, k0_cond2 i = 1#1 → (i 1).val + 1 < 8 := by decide +kernel

end Cert.KernelIdeal.Body

end
-- ==== Proof.KernelIdeal.State.lean ====
/-
  The state of the body: what each of its thirteen memrefs reads, the memrefs owned at it, and what one block of
  512 query rows does to the query gradient's accumulator and to the three carried sums.
-/
module

public import proofs.«01_k».proof.Proof.Common.Hold
public import proofs.«01_k».proof.Proof.Common.Rows
public import proofs.«01_k».proof.Proof.KernelIdeal.Offsets
public import proofs.«01_k».proof.Proof.Gen.KernelIdeal.Frame

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Att

variable {F : FTy → Type} [FloatOps F] [Named F]

/-- The algebra of the frame kit. -/
abbrev 𝕄 (F : FTy → Type) := MT nD τ sig Unit (Elt F) ℕ (UR sig nD τ) ℕ
abbrev 𝒱₀ : Variants := Variants.none

/-- The body's memrefs, in the order of its arguments. -/
structure Args where
  a2 : Memref sig .tc .vmem S4096x128 .f32
  h2 : a2.IsWhole
  a3 : Memref sig .tc .vmem S512x128 .bf16
  h3 : a3.IsWhole
  a4 : Memref sig .tc .vmem S512x128 .bf16
  h4 : a4.IsWhole
  a5 : Memref sig .tc .vmem S4096x128 .f32
  h5 : a5.IsWhole
  a6 : Memref sig .tc .vmem S4096x128 .f32
  h6 : a6.IsWhole
  a7 : Memref sig .tc .vmem S1x4096x1 .f32
  h7 : a7.IsWhole
  a8 : Memref sig .tc .vmem S1x1x1x512 .f32
  h8 : a8.IsWhole
  a9 : Memref sig .tc .vmem S4096x128 .bf16
  h9 : a9.IsWhole
  a10 : Memref sig .tc .vmem S512x128 .bf16
  h10 : a10.IsWhole
  a11 : Memref sig .tc .vmem S512x128 .bf16
  h11 : a11.IsWhole
  a12 : Memref sig .tc .vmem S1x1x1x512 .f32
  h12 : a12.IsWhole
  a13 : Memref sig .tc .vmem S4096x128 .f32
  h13 : a13.IsWhole
  a14 : Memref sig .tc .vmem S4096x1 .f32
  h14 : a14.IsWhole

/-- What the memrefs read. -/
structure St (F : FTy → Type) where
  q : FVec F S4096x128 .f32
  k : FVec F S512x128 .bf16
  v : FVec F S512x128 .bf16
  dov : FVec F S4096x128 .f32
  ov : FVec F S4096x128 .f32
  lse : FVec F S1x4096x1 .f32
  ck : FVec F S1x1x1x512 .f32
  dq : FVec F S4096x128 .bf16
  dk : FVec F S512x128 .bf16
  dv : FVec F S512x128 .bf16
  dck : FVec F S1x1x1x512 .f32
  acc : FVec F S4096x128 .f32
  del : FVec F S4096x1 .f32

/-- The memrefs owned whole at a state. -/
def Held (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

/-- The memrefs but for `a2`. -/
def But2 (c : Dev nD) (A : Args) (S : St F) : sProp (𝕄 F) :=
  iprop(owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_2 (c : Dev nD) (A : Args) (S : St F) :
    Held c A S ⊣⊢ iprop(owns (Val := Elt F) (c : Thread nD τ) A.a2 fullShare S.q ∗ But2 c A S) := by
  constructor
  · unfold Held But2
    iintro ⟨H2, H3, H4, H5, H6, H7, H8, H9, H10, H11, H12, H13, H14⟩
    iframe
  · unfold Held But2
    iintro ⟨H2, H3, H4, H5, H6, H7, H8, H9, H10, H11, H12, H13, H14⟩
    iframe

/-- The memrefs but for `a3`. -/
def But3 (c : Dev nD) (A : Args) (S : St F) : sProp (𝕄 F) :=
  iprop(owns (Val := Elt F) (c : Thread nD τ) A.a2 fullShare S.q
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_3 (c : Dev nD) (A : Args) (S : St F) :
    Held c A S ⊣⊢ iprop(owns (Val := Elt F) (c : Thread nD τ) A.a3 fullShare S.k ∗ But3 c A S) := by
  constructor
  · unfold Held But3
    iintro ⟨H2, H3, H4, H5, H6, H7, H8, H9, H10, H11, H12, H13, H14⟩
    iframe
  · unfold Held But3
    iintro ⟨H3, H2, H4, H5, H6, H7, H8, H9, H10, H11, H12, H13, H14⟩
    iframe

/-- The memrefs but for `a4`. -/
def But4 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_4 (c : Dev nD) (A : Args) (S : St F) :
    Held c A S ⊣⊢ iprop(owns (Val := Elt F) (c : Thread nD τ) A.a4 fullShare S.v ∗ But4 c A S) := by
  constructor
  · unfold Held But4
    iintro ⟨H2, H3, H4, H5, H6, H7, H8, H9, H10, H11, H12, H13, H14⟩
    iframe
  · unfold Held But4
    iintro ⟨H4, H2, H3, H5, H6, H7, H8, H9, H10, H11, H12, H13, H14⟩
    iframe

/-- The memrefs but for `a5`. -/
def But5 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_5 (c : Dev nD) (A : Args) (S : St F) :
    Held c A S ⊣⊢ iprop(owns (Val := Elt F) (c : Thread nD τ) A.a5 fullShare S.dov ∗ But5 c A S) := by
  constructor
  · unfold Held But5
    iintro ⟨H2, H3, H4, H5, H6, H7, H8, H9, H10, H11, H12, H13, H14⟩
    iframe
  · unfold Held But5
    iintro ⟨H5, H2, H3, H4, H6, H7, H8, H9, H10, H11, H12, H13, H14⟩
    iframe

/-- The memrefs but for `a6`. -/
def But6 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_6 (c : Dev nD) (A : Args) (S : St F) :
    Held c A S ⊣⊢ iprop(owns (Val := Elt F) (c : Thread nD τ) A.a6 fullShare S.ov ∗ But6 c A S) := by
  constructor
  · unfold Held But6
    iintro ⟨H2, H3, H4, H5, H6, H7, H8, H9, H10, H11, H12, H13, H14⟩
    iframe
  · unfold Held But6
    iintro ⟨H6, H2, H3, H4, H5, H7, H8, H9, H10, H11, H12, H13, H14⟩
    iframe

/-- The memrefs but for `a7`. -/
def But7 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_7 (c : Dev nD) (A : Args) (S : St F) :
    Held c A S ⊣⊢ iprop(owns (Val := Elt F) (c : Thread nD τ) A.a7 fullShare S.lse ∗ But7 c A S) := by
  constructor
  · unfold Held But7
    iintro ⟨H2, H3, H4, H5, H6, H7, H8, H9, H10, H11, H12, H13, H14⟩
    iframe
  · unfold Held But7
    iintro ⟨H7, H2, H3, H4, H5, H6, H8, H9, H10, H11, H12, H13, H14⟩
    iframe

/-- The memrefs but for `a8`. -/
def But8 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_8 (c : Dev nD) (A : Args) (S : St F) :
    Held c A S ⊣⊢ iprop(owns (Val := Elt F) (c : Thread nD τ) A.a8 fullShare S.ck ∗ But8 c A S) := by
  constructor
  · unfold Held But8
    iintro ⟨H2, H3, H4, H5, H6, H7, H8, H9, H10, H11, H12, H13, H14⟩
    iframe
  · unfold Held But8
    iintro ⟨H8, H2, H3, H4, H5, H6, H7, H9, H10, H11, H12, H13, H14⟩
    iframe

/-- The memrefs but for `a9`. -/
def But9 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_9 (c : Dev nD) (A : Args) (S : St F) :
    Held c A S ⊣⊢ iprop(owns (Val := Elt F) (c : Thread nD τ) A.a9 fullShare S.dq ∗ But9 c A S) := by
  constructor
  · unfold Held But9
    iintro ⟨H2, H3, H4, H5, H6, H7, H8, H9, H10, H11, H12, H13, H14⟩
    iframe
  · unfold Held But9
    iintro ⟨H9, H2, H3, H4, H5, H6, H7, H8, H10, H11, H12, H13, H14⟩
    iframe

/-- The memrefs but for `a10`. -/
def But10 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a11 fullShare S.dv
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_10 (c : Dev nD) (A : Args) (S : St F) :
    Held c A S ⊣⊢ iprop(owns (Val := Elt F) (c : Thread nD τ) A.a10 fullShare S.dk ∗ But10 c A S) := by
  constructor
  · unfold Held But10
    iintro ⟨H2, H3, H4, H5, H6, H7, H8, H9, H10, H11, H12, H13, H14⟩
    iframe
  · unfold Held But10
    iintro ⟨H10, H2, H3, H4, H5, H6, H7, H8, H9, H11, H12, H13, H14⟩
    iframe

/-- The memrefs but for `a11`. -/
def But11 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a12 fullShare S.dck
    ∗ owns (Val := Elt F) (c : Thread nD τ) A.a13 fullShare S.acc
    ∗ owns (Val := Elt F) (c : Thread nD τ) A.a14 fullShare S.del)

theorem held_11 (c : Dev nD) (A : Args) (S : St F) :
    Held c A S ⊣⊢ iprop(owns (Val := Elt F) (c : Thread nD τ) A.a11 fullShare S.dv ∗ But11 c A S) := by
  constructor
  · unfold Held But11
    iintro ⟨H2, H3, H4, H5, H6, H7, H8, H9, H10, H11, H12, H13, H14⟩
    iframe
  · unfold Held But11
    iintro ⟨H11, H2, H3, H4, H5, H6, H7, H8, H9, H10, H12, H13, H14⟩
    iframe

/-- The memrefs but for `a12`. -/
def But12 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a13 fullShare S.acc
    ∗ owns (Val := Elt F) (c : Thread nD τ) A.a14 fullShare S.del)

theorem held_12 (c : Dev nD) (A : Args) (S : St F) :
    Held c A S ⊣⊢ iprop(owns (Val := Elt F) (c : Thread nD τ) A.a12 fullShare S.dck ∗ But12 c A S) := by
  constructor
  · unfold Held But12
    iintro ⟨H2, H3, H4, H5, H6, H7, H8, H9, H10, H11, H12, H13, H14⟩
    iframe
  · unfold Held But12
    iintro ⟨H12, H2, H3, H4, H5, H6, H7, H8, H9, H10, H11, H13, H14⟩
    iframe

/-- The memrefs but for `a13`. -/
def But13 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a14 fullShare S.del)

theorem held_13 (c : Dev nD) (A : Args) (S : St F) :
    Held c A S ⊣⊢ iprop(owns (Val := Elt F) (c : Thread nD τ) A.a13 fullShare S.acc ∗ But13 c A S) := by
  constructor
  · unfold Held But13
    iintro ⟨H2, H3, H4, H5, H6, H7, H8, H9, H10, H11, H12, H13, H14⟩
    iframe
  · unfold Held But13
    iintro ⟨H13, H2, H3, H4, H5, H6, H7, H8, H9, H10, H11, H12, H14⟩
    iframe

/-- The memrefs but for `a14`. -/
def But14 (c : Dev nD) (A : Args) (S : St F) : sProp (𝕄 F) :=
  iprop(owns (Val := Elt F) (c : Thread nD τ) A.a2 fullShare S.q
    ∗ owns (Val := Elt F) (c : Thread nD τ) A.a3 fullShare S.k
    ∗ owns (Val := Elt F) (c : Thread nD τ) A.a4 fullShare S.v
    ∗ owns (Val := Elt F) (c : Thread nD τ) A.a5 fullShare S.dov
    ∗ owns (Val := Elt F) (c : Thread nD τ) A.a6 fullShare S.ov
    ∗ owns (Val := Elt F) (c : Thread nD τ) A.a7 fullShare S.lse
    ∗ owns (Val := Elt F) (c : Thread nD τ) A.a8 fullShare S.ck
    ∗ owns (Val := Elt F) (c : Thread nD τ) A.a9 fullShare S.dq
    ∗ owns (Val := Elt F) (c : Thread nD τ) A.a10 fullShare S.dk
    ∗ owns (Val := Elt F) (c : Thread nD τ) A.a11 fullShare S.dv
    ∗ owns (Val := Elt F) (c : Thread nD τ) A.a12 fullShare S.dck
    ∗ owns (Val := Elt F) (c : Thread nD τ) A.a13 fullShare S.acc)

theorem held_14 (c : Dev nD) (A : Args) (S : St F) :
    Held c A S ⊣⊢ iprop(owns (Val := Elt F) (c : Thread nD τ) A.a14 fullShare S.del ∗ But14 c A S) := by
  constructor
  · unfold Held But14
    iintro ⟨H2, H3, H4, H5, H6, H7, H8, H9, H10, H11, H12, H13, H14⟩
    iframe
  · unfold Held But14
    iintro ⟨H14, H2, H3, H4, H5, H6, H7, H8, H9, H10, H11, H12, H13⟩
    iframe

end Cert.KernelIdeal.Body

end
-- ==== Proof.KernelIdeal.Blocks.lean ====
/-
  What one block of 512 query rows contributes: its probabilities, its score gradients, and the updates of the query
  gradient's accumulator and of the carried sums; and what the body leaves at a grid point, block by block.
-/
module

public import proofs.«01_k».proof.Proof.KernelIdeal.State

@[expose] public section

noncomputable section

namespace Cert.KernelIdeal.Body

open Idealize.ShloMosaic Idealize.ShloMosaic.TcCoe
open Cert.KernelIdeal Cert.KernelIdeal.Gen Cert.Att

variable {F : FTy → Type} [FloatOps F] [Named F]

/-- The three sums the loop carries: the key gradient, the value gradient, the gate gradient. -/
abbrev Carry (F : FTy → Type) := FVec F S512x128 .f32 × FVec F S512x128 .f32 × FVec F S1x512 .f32

/-- The query tile under the scale. -/
def qOf (q : FVec F S512x128 .f32) : FVec F S512x128 .bf16 :=
  truncf .bf16 (mulf q (broadcast S512x128 (Scalar.ofBits .f32 0x3DB504F3#32))) bitsLt_bf16_f32

/-- The scores of a block less the keys' gates. -/
def sOf (kb : FVec F S512x128 .bf16) (ck : FVec F S1x512 .f32) (q : FVec F S512x128 .f32) : FVec F S512x512 .f32 :=
  subf (matmul dot_S512x128_S512x128_S512x512_1_1_0_0_n_n none (qOf q) kb (constant S512x512 .f32 0x00000000#32))
    (broadcastTo S512x512 ck broadcasts_S1x512_S512x512)

/-- The scores of the block on the diagonal, the later keys masked. -/
def sMask (j : BitVec 32) (s : FVec F S512x512 .f32) : FVec F S512x512 .f32 :=
  select (cmpi .sle (addi (broadcast S512x512 (Scalar.muli j 512#32)) (iota .tc S512x512 32 [1] iota_S512x512_d1_w32))
      (addi (broadcast S512x512 (Scalar.muli j 512#32)) (iota .tc S512x512 32 [0] iota_S512x512_d0_w32)))
    s (broadcast S512x512 (Named.named κ "mask" 0xF149F2CA#32 : F .f32))

/-- The probabilities: the exponential of the scores less the row's saved log-sum. -/
def pOf (s : FVec F S512x512 .f32) (lse : FVec F S1x512x1 .f32) : FVec F S512x512 .f32 :=
  exp (subf s (broadcastTo S512x512 (shapeCast S512x1 lse shapeCasts_S1x512x1_S512x1) broadcasts_S512x1_S512x512))

/-- The score gradients. -/
def dsOf (p : FVec F S512x512 .f32) (vb : FVec F S512x128 .bf16) (d : FVec F S512x128 .f32) (del : FVec F S512x1 .f32) :
    FVec F S512x512 .f32 :=
  mulf p (subf (matmul dot_S512x128_S512x128_S512x512_1_1_0_0_n_n none (truncf .bf16 d bitsLt_bf16_f32) vb (constant S512x512 .f32 0x00000000#32))
    (broadcastTo S512x512 del broadcasts_S512x1_S512x512))

/-- The query gradient's tile with a block's contribution added. -/
def accOf (a : FVec F S512x128 .f32) (ds : FVec F S512x512 .f32) (kb : FVec F S512x128 .bf16) : FVec F S512x128 .f32 :=
  shapeCast S512x128 (addf a (matmul dot_S512x512_S512x128_S512x128_1_0_0_1_n_n none (truncf .bf16 ds bitsLt_bf16_f32) kb
    (constant S512x128 .f32 0x00000000#32))) shapeCasts_S512x128_S512x128

/-- A sum over a block's query rows added to a carried tile. -/
def tnOf (a : FVec F S512x128 .f32) (p : FVec F S512x512 .f32) (d : FVec F S512x128 .bf16) : FVec F S512x128 .f32 :=
  addf a (matmul dot_S512x512_S512x128_S512x128_0_0_1_1_n_n none (truncf .bf16 p bitsLt_bf16_f32) d (constant S512x128 .f32 0x00000000#32))

/-- The column sums of the score gradients taken off the carried row. -/
def dckOf (a : FVec F S1x512 .f32) (ds : FVec F S512x512 .f32) : FVec F S1x512 .f32 :=
  subf a (shapeCast S1x512 (multiReduction .add [0] S512 ds 0x00000000#32 reduces_S512x512_S512 (.inl rfl) rfl) shapeCasts_S512_S1x512)

/-- The key block, the value block and the keys' gates as the body reads them. -/
def kOf (S : St F) : FVec F S512x128 .bf16 := k0_pay84 S.k
def vOf (S : St F) : FVec F S512x128 .bf16 := k0_pay85 S.v
def ckOf (S : St F) : FVec F S1x512 .f32 := k0_pay86 S.ck

/-- Block `b` with probabilities `p`: the accumulator and the carried sums after it. -/
def blk (S : St F) (b : Fin 8) (p : FVec F S512x512 .f32) (x : FVec F S4096x128 .f32 × Carry F) : FVec F S4096x128 .f32 × Carry F :=
  (putRows x.1 b (accOf (rows x.1 b) (dsOf p (vOf S) (rows S.dov b) (col S.del b)) (kOf S)),
    tnOf x.2.1 (dsOf p (vOf S) (rows S.dov b) (col S.del b)) (qOf (rows S.q b)),
    tnOf x.2.2.1 p (truncf .bf16 (rows S.dov b) bitsLt_bf16_f32),
    dckOf x.2.2.2 (dsOf p (vOf S) (rows S.dov b) (col S.del b)))

/-- The probabilities of block `b`, off the diagonal. -/
def pU (S : St F) (b : Fin 8) : FVec F S512x512 .f32 := pOf (sOf (kOf S) (ckOf S) (rows S.q b)) (lcol S.lse b)

/-- The probabilities of the block on the diagonal. -/
def pM (S : St F) (j : Fin 8) : FVec F S512x512 .f32 :=
  pOf (sMask (BitVec.ofNat 32 j.val) (sOf (kOf S) (ckOf S) (rows S.q j))) (lcol S.lse j)

/-- The carried sums at the start. -/
def zeros : Carry F := (k0_pay87, k0_pay88, k0_pay89)

/-- The accumulator and the carried sums after the diagonal block `j` and the `n` blocks after it. -/
def after (S : St F) (j : Fin 8) : ℕ → FVec F S4096x128 .f32 × Carry F
  | 0 => blk S j (pM S j) (S.acc, zeros)
  | n + 1 => if h : j.val + 1 + n < 8 then blk S ⟨j.val + 1 + n, h⟩ (pU S ⟨j.val + 1 + n, h⟩) (after S j n) else after S j n

theorem after_zero (S : St F) (j : Fin 8) : after S j 0 = blk S j (pM S j) (S.acc, zeros) := rfl

theorem after_succ (S : St F) (j : Fin 8) (n : ℕ) (h : j.val + 1 + n < 8) :
    after S j (n + 1) = blk S ⟨j.val + 1 + n, h⟩ (pU S ⟨j.val + 1 + n, h⟩) (after S j n) := by
  rw [after, dif_pos h]

end Cert.KernelIdeal.Body

end
-- ==== Proof.KernelIdeal.Parts.lean ====
/-
  What each printed part of the body does to the state.
-/
module

public import proofs.«01_k».proof.Proof.KernelIdeal.Blocks

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Att

variable {F : FTy → Type} [FloatOps F] [Named F]

/-- The grid point's key block. -/
def jOf (i : grid0.Coords) : Fin 8 := ⟨(i 1).val, col_lt i⟩

/-- The block after it. -/
def nOf (i : grid0.Coords) (h2 : k0_cond2 i = 1#1) : Fin 8 := ⟨(i 1).val + 1, next_lt i h2⟩

variable (c : Dev nD) (A : Args)

/-- The load of the diagonal block, when `7 - j` is odd. -/
theorem part4_run (i : grid0.Coords) (S : St F) (arg1 : BitVec 32) (v4 v6 : FVec F S512x128 .bf16) (v8 : FVec F S1x512 .f32) (h2 : k0_cond2 i = 1#1)
    {Q : _ → sProp (𝕄 F)}
    (h : Held c A S ⊢ Q ⟨Scalar.addi arg1 1#32, qOf (rows S.q (jOf i)), truncf .bf16 (rows S.dov (jOf i)) bitsLt_bf16_f32,
      pOf (sMask arg1 (sOf v4 v8 (rows S.q (jOf i)))) (lcol S.lse (jOf i)),
      dsOf (pOf (sMask arg1 (sOf v4 v8 (rows S.q (jOf i)))) (lcol S.lse (jOf i))) v6 (rows S.dov (jOf i)) (col S.del (jOf i)),
      k0_pay34 arg1 v4 v6 v8 (rows S.q (jOf i)) (rows S.dov (jOf i)) (lcol S.lse (jOf i)) (col S.del (jOf i)) (rows S.acc (jOf i)),
      rows S.acc (jOf i)⟩) :
    Held c A S ⊢ wp frame (wpE (defs₀ (F := F)) 𝒱₀ (c : Thread nD τ) none) Set.univ
      (k0_part4 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 arg1 v4 v6 v8 h2) Q := by
  rw [k0_part4_eq_skeleton]
  unfold k0_part4_skel
  refine load_of 𝒱₀ _ none Set.univ (held_2 c A S) (Y := rows S.q (jOf i)) (window_congr _ (k0_off1_eq i)) ?_
  refine load_of 𝒱₀ _ none Set.univ (held_5 c A S) (Y := rows S.dov (jOf i)) (window_congr _ (k0_off1_eq i)) ?_
  refine load_of 𝒱₀ _ none Set.univ (held_7 c A S) (Y := lcol S.lse (jOf i)) (window_congr _ (k0_off2_eq i)) ?_
  refine load_of 𝒱₀ _ none Set.univ (held_14 c A S) (Y := col S.del (jOf i)) (window_congr _ (k0_off3_eq i)) ?_
  refine load_of 𝒱₀ _ none Set.univ (held_13 c A S) (Y := rows S.acc (jOf i)) (window_congr _ (k0_off1_eq i)) ?_
  refine load_of 𝒱₀ _ none Set.univ (held_13 c A S) (Y := rows S.acc (jOf i)) (window_congr _ (k0_off1_eq i)) ?_
  exact h.trans (le_wp_ret _ _ _ _ _)

theorem off4n (i : grid0.Coords) (h2 : k0_cond2 i = 1#1) : k0_off4 i = ![512 * (nOf i h2).val, 0] := by
  rw [k0_off4_eq]; show ![512 * (i 1).val + 512, 0] = ![512 * ((i 1).val + 1), 0]; rw [Nat.mul_succ]
theorem off5n (i : grid0.Coords) (h2 : k0_cond2 i = 1#1) : k0_off5 i = ![0, 512 * (nOf i h2).val, 0] := by
  rw [k0_off5_eq]; show ![0, 512 * (i 1).val + 512, 0] = ![0, 512 * ((i 1).val + 1), 0]; rw [Nat.mul_succ]
theorem off6n (i : grid0.Coords) (h2 : k0_cond2 i = 1#1) : k0_off6 i = ![512 * (nOf i h2).val, 0] := by
  rw [k0_off6_eq]; show ![512 * (i 1).val + 512, 0] = ![512 * ((i 1).val + 1), 0]; rw [Nat.mul_succ]

/-- The diagonal block stored, its sums, and the load of the block after it. -/
theorem part5_run (i : grid0.Coords) (S : St F) (v4 v6 : FVec F S512x128 .bf16) (v8 : FVec F S1x512 .f32) (v9 v10 : FVec F S512x128 .f32) (v11 : FVec F S1x512 .f32) (h2 : k0_cond2 i = 1#1)
    (v64 : BitVec 32) (v71 v74 : FVec F S512x128 .bf16) (v94 v100 : FVec F S512x512 .f32) (v105 : FVec F S512x128 .f32) (v107 : Vec F S512x128 .f32)
    {Q : _ → sProp (𝕄 F)}
    (h : Held c A { S with acc := putRows S.acc (jOf i) (k0_pay35 v105) } ⊢ Q ⟨tnOf v9 v100 v71, tnOf v10 v94 v74, dckOf v11 v100, qOf (rows S.q (nOf i h2)), truncf .bf16 (rows S.dov (nOf i h2)) bitsLt_bf16_f32,
      (pOf (sOf v4 v8 (rows S.q (nOf i h2))) (lcol S.lse (nOf i h2))),
      dsOf (pOf (sOf v4 v8 (rows S.q (nOf i h2))) (lcol S.lse (nOf i h2))) v6 (rows S.dov (nOf i h2)) (col S.del (nOf i h2)),
      k0_pay43 v4 v6 v8 (rows S.q (nOf i h2)) (rows S.dov (nOf i h2)) (lcol S.lse (nOf i h2)) (col S.del (nOf i h2)) (rows (putRows S.acc (jOf i) (k0_pay35 v105)) (nOf i h2))⟩) :
    Held c A S ⊢ wp frame (wpE (defs₀ (F := F)) 𝒱₀ (c : Thread nD τ) none) Set.univ
      (k0_part5 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 v4 v6 v8 v9 v10 v11 h2 v64 v71 v74 v94 v100 v105 v107) Q := by
  rw [k0_part5_eq_skeleton]
  unfold k0_part5_skel
  refine store_of 𝒱₀ _ none Set.univ (H' := Held c A { S with acc := putRows S.acc (jOf i) (k0_pay35 v105) }) (held_13 c A S).1
    (held_13 c A { S with acc := putRows S.acc (jOf i) (k0_pay35 v105) }).2 (put_congr _ _ (k0_off1_eq i)) ?_
  refine load_of 𝒱₀ _ none Set.univ (held_2 c A { S with acc := putRows S.acc (jOf i) (k0_pay35 v105) }) (Y := rows S.q (nOf i h2)) (window_congr _ (off4n i h2)) ?_
  refine load_of 𝒱₀ _ none Set.univ (held_5 c A { S with acc := putRows S.acc (jOf i) (k0_pay35 v105) }) (Y := rows S.dov (nOf i h2)) (window_congr _ (off4n i h2)) ?_
  refine load_of 𝒱₀ _ none Set.univ (held_7 c A { S with acc := putRows S.acc (jOf i) (k0_pay35 v105) }) (Y := lcol S.lse (nOf i h2)) (window_congr _ (off5n i h2)) ?_
  refine load_of 𝒱₀ _ none Set.univ (held_14 c A { S with acc := putRows S.acc (jOf i) (k0_pay35 v105) }) (Y := col S.del (nOf i h2)) (window_congr _ (off6n i h2)) ?_
  refine load_of 𝒱₀ _ none Set.univ (held_13 c A { S with acc := putRows S.acc (jOf i) (k0_pay35 v105) }) (Y := rows (putRows S.acc (jOf i) (k0_pay35 v105)) (nOf i h2)) (window_congr _ (off4n i h2)) ?_
  refine load_of 𝒱₀ _ none Set.univ (held_13 c A { S with acc := putRows S.acc (jOf i) (k0_pay35 v105) }) (Y := rows (putRows S.acc (jOf i) (k0_pay35 v105)) (nOf i h2)) (window_congr _ (off4n i h2)) ?_
  exact h.trans (le_wp_ret _ _ _ _ _)

/-- The load of the diagonal block, when `7 - j` is even. -/
theorem part6_run (i : grid0.Coords) (S : St F) (arg1 : BitVec 32) (v4 v6 : FVec F S512x128 .bf16) (v8 : FVec F S1x512 .f32) (h2 : ¬(k0_cond2 i = 1#1))
    {Q : _ → sProp (𝕄 F)}
    (h : Held c A S ⊢ Q ⟨qOf (rows S.q (jOf i)), truncf .bf16 (rows S.dov (jOf i)) bitsLt_bf16_f32, (pOf (sMask arg1 (sOf v4 v8 (rows S.q (jOf i)))) (lcol S.lse (jOf i))),
      dsOf (pOf (sMask arg1 (sOf v4 v8 (rows S.q (jOf i)))) (lcol S.lse (jOf i))) v6 (rows S.dov (jOf i)) (col S.del (jOf i)),
      accOf (rows S.acc (jOf i)) (dsOf (pOf (sMask arg1 (sOf v4 v8 (rows S.q (jOf i)))) (lcol S.lse (jOf i))) v6 (rows S.dov (jOf i)) (col S.del (jOf i))) v4⟩) :
    Held c A S ⊢ wp frame (wpE (defs₀ (F := F)) 𝒱₀ (c : Thread nD τ) none) Set.univ
      (k0_part6 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 arg1 v4 v6 v8 h2) Q := by
  rw [k0_part6_eq_skeleton]
  unfold k0_part6_skel
  refine load_of 𝒱₀ _ none Set.univ (held_2 c A S) (Y := rows S.q (jOf i)) (window_congr _ (k0_off7_eq i)) ?_
  refine load_of 𝒱₀ _ none Set.univ (held_5 c A S) (Y := rows S.dov (jOf i)) (window_congr _ (k0_off7_eq i)) ?_
  refine load_of 𝒱₀ _ none Set.univ (held_7 c A S) (Y := lcol S.lse (jOf i)) (window_congr _ (k0_off8_eq i)) ?_
  refine load_of 𝒱₀ _ none Set.univ (held_14 c A S) (Y := col S.del (jOf i)) (window_congr _ (k0_off9_eq i)) ?_
  refine load_of 𝒱₀ _ none Set.univ (held_13 c A S) (Y := rows S.acc (jOf i)) (window_congr _ (k0_off7_eq i)) ?_
  refine load_of 𝒱₀ _ none Set.univ (held_13 c A S) (Y := rows S.acc (jOf i)) (window_congr _ (k0_off7_eq i)) ?_
  exact h.trans (le_wp_ret _ _ _ _ _)

/-- The two blocks of a pair. -/
def pA (i : grid0.Coords) (k : Fin (k0_t1_loop i).trips) : Fin 8 := ⟨(i 1).val + 1 + odd i + 2 * k.val, Nat.lt_of_succ_lt (pair_lt i k)⟩
def pB (i : grid0.Coords) (k : Fin (k0_t1_loop i).trips) : Fin 8 := ⟨(i 1).val + 1 + odd i + 2 * k.val + 1, pair_lt i k⟩

/-- The first block of a pair. -/
theorem part7_run (i : grid0.Coords) (S : St F) (arg1 : BitVec 32) (v4 v6 : FVec F S512x128 .bf16) (v8 : FVec F S1x512 .f32) (v28 c0 c1 : BitVec 32) (t : Fin (k0_t1_loop i).trips)
    {Q : _ → sProp (𝕄 F)}
    (h : Held c A { S with acc := putRows S.acc (pA i t) (accOf (rows S.acc (pA i t)) (dsOf (pOf (sOf v4 v8 (rows S.q (pA i t))) (lcol S.lse (pA i t))) v6 (rows S.dov (pA i t)) (col S.del (pA i t))) v4) } ⊢ Q ⟨Scalar.addi (Scalar.addi v28 (Scalar.muli 2#32 (Scf.iv c0 c1 t))) 1#32, qOf (rows S.q (pA i t)), truncf .bf16 (rows S.dov (pA i t)) bitsLt_bf16_f32,
      (pOf (sOf v4 v8 (rows S.q (pA i t))) (lcol S.lse (pA i t))), dsOf (pOf (sOf v4 v8 (rows S.q (pA i t))) (lcol S.lse (pA i t))) v6 (rows S.dov (pA i t)) (col S.del (pA i t))⟩) :
    Held c A S ⊢ wp frame (wpE (defs₀ (F := F)) 𝒱₀ (c : Thread nD τ) none) Set.univ
      (k0_part7 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 arg1 v4 v6 v8 v28 c0 c1 t) Q := by
  rw [k0_part7_eq_skeleton]
  unfold k0_part7_skel
  refine load_of 𝒱₀ _ none Set.univ (held_2 c A S) (Y := rows S.q (pA i t)) (window_congr _ (off10_eq i t)) ?_
  refine load_of 𝒱₀ _ none Set.univ (held_5 c A S) (Y := rows S.dov (pA i t)) (window_congr _ (off10_eq i t)) ?_
  refine load_of 𝒱₀ _ none Set.univ (held_7 c A S) (Y := lcol S.lse (pA i t)) (window_congr _ (off11_eq i t)) ?_
  refine load_of 𝒱₀ _ none Set.univ (held_14 c A S) (Y := col S.del (pA i t)) (window_congr _ (off12_eq i t)) ?_
  refine load_of 𝒱₀ _ none Set.univ (held_13 c A S) (Y := rows S.acc (pA i t)) (window_congr _ (off10_eq i t)) ?_
  refine load_of 𝒱₀ _ none Set.univ (held_13 c A S) (Y := rows S.acc (pA i t)) (window_congr _ (off10_eq i t)) ?_
  refine store_of 𝒱₀ _ none Set.univ (H' := Held c A { S with acc := putRows S.acc (pA i t) (accOf (rows S.acc (pA i t)) (dsOf (pOf (sOf v4 v8 (rows S.q (pA i t))) (lcol S.lse (pA i t))) v6 (rows S.dov (pA i t)) (col S.del (pA i t))) v4) }) (held_13 c A S).1
    (held_13 c A { S with acc := putRows S.acc (pA i t) (accOf (rows S.acc (pA i t)) (dsOf (pOf (sOf v4 v8 (rows S.q (pA i t))) (lcol S.lse (pA i t))) v6 (rows S.dov (pA i t)) (col S.del (pA i t))) v4) }).2 (put_congr _ _ (off10_eq i t)) ?_
  exact h.trans (le_wp_ret _ _ _ _ _)

/-- The sums of a pair's first block and the load of its second. -/
theorem part8_run (i : grid0.Coords) (S : St F) (arg1 : BitVec 32) (v4 v6 : FVec F S512x128 .bf16) (v8 : FVec F S1x512 .f32) (t : Fin (k0_t1_loop i).trips) (a16 a17 : FVec F S512x128 .f32) (a18 : FVec F S1x512 .f32)
    (v66 : BitVec 32) (v75 v78 : FVec F S512x128 .bf16) (v89 v95 : FVec F S512x512 .f32)
    {Q : _ → sProp (𝕄 F)}
    (h : Held c A S ⊢ Q ⟨tnOf a16 v95 v75, tnOf a17 v89 v78, dckOf a18 v95, qOf (rows S.q (pB i t)), truncf .bf16 (rows S.dov (pB i t)) bitsLt_bf16_f32,
      (pOf (sOf v4 v8 (rows S.q (pB i t))) (lcol S.lse (pB i t))), dsOf (pOf (sOf v4 v8 (rows S.q (pB i t))) (lcol S.lse (pB i t))) v6 (rows S.dov (pB i t)) (col S.del (pB i t)),
      k0_pay61 v4 v6 v8 (rows S.q (pB i t)) (rows S.dov (pB i t)) (lcol S.lse (pB i t)) (col S.del (pB i t)) (rows S.acc (pB i t)), rows S.acc (pB i t)⟩) :
    Held c A S ⊢ wp frame (wpE (defs₀ (F := F)) 𝒱₀ (c : Thread nD τ) none) Set.univ
      (k0_part8 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 arg1 v4 v6 v8 t a16 a17 a18 v66 v75 v78 v89 v95) Q := by
  rw [k0_part8_eq_skeleton]
  unfold k0_part8_skel
  refine load_of 𝒱₀ _ none Set.univ (held_2 c A S) (Y := rows S.q (pB i t)) (window_congr _ (off13_eq i t)) ?_
  refine load_of 𝒱₀ _ none Set.univ (held_5 c A S) (Y := rows S.dov (pB i t)) (window_congr _ (off13_eq i t)) ?_
  refine load_of 𝒱₀ _ none Set.univ (held_7 c A S) (Y := lcol S.lse (pB i t)) (window_congr _ (off14_eq i t)) ?_
  refine load_of 𝒱₀ _ none Set.univ (held_14 c A S) (Y := col S.del (pB i t)) (window_congr _ (off15_eq i t)) ?_
  refine load_of 𝒱₀ _ none Set.univ (held_13 c A S) (Y := rows S.acc (pB i t)) (window_congr _ (off13_eq i t)) ?_
  refine load_of 𝒱₀ _ none Set.univ (held_13 c A S) (Y := rows S.acc (pB i t)) (window_congr _ (off13_eq i t)) ?_
  exact h.trans (le_wp_ret _ _ _ _ _)

end Cert.KernelIdeal.Body

end
-- ==== Proof.KernelIdeal.Init.lean ====
/-
  What the first point of a head does before the blocks: it sets the accumulator to zero and saves each row's sum of the
  output gradient times the output.
-/
module

public import proofs.«01_k».proof.Proof.KernelIdeal.Parts

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Att

variable {F : FTy → Type} [FloatOps F] [Named F]

/-- A tile's sums of the output gradient times the output. -/
def delTile (T : St F) (b : Fin 8) : FVec F S512x1 .f32 := k0_pay15 (rows T.dov b) (rows T.ov b)

/-- Tile `b` of the column of sums stored. -/
def iniD (T : St F) (b : Fin 8) : St F := { T with del := putCol T.del b (delTile T b) }
/-- Tile `b` of the accumulator set to zero. -/
def iniA (T : St F) (b : Fin 8) : St F := { T with acc := putRows T.acc b (k0_pay16 (F := F)) }
/-- Both for tile `b`. -/
def ini (T : St F) (b : Fin 8) : St F := iniA (iniD T b) b

/-- The state after all eight tiles. -/
def iniAll (S : St F) : St F := ini (ini (ini (ini (ini (ini (ini (ini S 0) 1) 2) 3) 4) 5) 6) 7

variable (c : Dev nD) (A : Args)

theorem part1_run (i : grid0.Coords) (S : St F)
    {Q : _ → sProp (𝕄 F)} (h : Held c A (ini (ini S 0) 1) ⊢ Q (k0_pay19 (rows (ini (ini S 0) 1).dov 2))) :
    Held c A S ⊢ wp frame (wpE (defs₀ (F := F)) 𝒱₀ (c : Thread nD τ) none) Set.univ
      (k0_part1 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14) Q := by
  rw [k0_part1_eq_skeleton]
  unfold k0_part1_skel
  refine load_of 𝒱₀ _ none Set.univ (held_5 c A S) (Y := rows S.dov 0) (window_congr _ rfl) ?_
  refine load_of 𝒱₀ _ none Set.univ (held_6 c A S) (Y := rows S.ov 0) (window_congr _ rfl) ?_
  refine load_of 𝒱₀ _ none Set.univ (held_14 c A S) rfl ?_
  refine store_of 𝒱₀ _ none Set.univ (H' := Held c A (iniD S 0)) (held_14 c A S).1 (held_14 c A (iniD S 0)).2 (put_congr _ _ rfl) ?_
  refine load_of 𝒱₀ _ none Set.univ (held_13 c A (iniD S 0)) rfl ?_
  refine store_of 𝒱₀ _ none Set.univ (H' := Held c A (ini S 0)) (held_13 c A (iniD S 0)).1 (held_13 c A (ini S 0)).2 (put_congr _ _ rfl) ?_
  refine load_of 𝒱₀ _ none Set.univ (held_5 c A (ini S 0)) (Y := rows (ini S 0).dov 1) (window_congr _ rfl) ?_
  refine load_of 𝒱₀ _ none Set.univ (held_6 c A (ini S 0)) (Y := rows (ini S 0).ov 1) (window_congr _ rfl) ?_
  refine load_of 𝒱₀ _ none Set.univ (held_14 c A (ini S 0)) rfl ?_
  refine store_of 𝒱₀ _ none Set.univ (H' := Held c A (iniD (ini S 0) 1)) (held_14 c A (ini S 0)).1 (held_14 c A (iniD (ini S 0) 1)).2 (put_congr _ _ rfl) ?_
  refine load_of 𝒱₀ _ none Set.univ (held_13 c A (iniD (ini S 0) 1)) rfl ?_
  refine store_of 𝒱₀ _ none Set.univ (H' := Held c A (ini (ini S 0) 1)) (held_13 c A (iniD (ini S 0) 1)).1 (held_13 c A (ini (ini S 0) 1)).2 (put_congr _ _ rfl) ?_
  refine load_of 𝒱₀ _ none Set.univ (held_5 c A (ini (ini S 0) 1)) (Y := (rows (ini (ini S 0) 1).dov 2)) (window_congr _ rfl) ?_
  exact h.trans (le_wp_ret _ _ _ _ _)

theorem part2_run (i : grid0.Coords) (S : St F)
    {Q : _ → sProp (𝕄 F)} (h : Held c A (ini (ini S 2) 3) ⊢ Q (k0_pay24 (rows (ini (ini S 2) 3).dov 4) (rows (ini (ini S 2) 3).ov 4))) :
    Held c A S ⊢ wp frame (wpE (defs₀ (F := F)) 𝒱₀ (c : Thread nD τ) none) Set.univ
      (k0_part2 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (k0_pay19 (rows S.dov 2))) Q := by
  rw [k0_part2_eq_skeleton]
  unfold k0_part2_skel
  refine load_of 𝒱₀ _ none Set.univ (held_6 c A S) (Y := rows S.ov 2) (window_congr _ rfl) ?_
  refine load_of 𝒱₀ _ none Set.univ (held_14 c A S) rfl ?_
  refine store_of 𝒱₀ _ none Set.univ (H' := Held c A (iniD S 2)) (held_14 c A S).1 (held_14 c A (iniD S 2)).2 (put_congr _ _ rfl) ?_
  refine load_of 𝒱₀ _ none Set.univ (held_13 c A (iniD S 2)) rfl ?_
  refine store_of 𝒱₀ _ none Set.univ (H' := Held c A (ini S 2)) (held_13 c A (iniD S 2)).1 (held_13 c A (ini S 2)).2 (put_congr _ _ rfl) ?_
  refine load_of 𝒱₀ _ none Set.univ (held_5 c A (ini S 2)) (Y := rows (ini S 2).dov 3) (window_congr _ rfl) ?_
  refine load_of 𝒱₀ _ none Set.univ (held_6 c A (ini S 2)) (Y := rows (ini S 2).ov 3) (window_congr _ rfl) ?_
  refine load_of 𝒱₀ _ none Set.univ (held_14 c A (ini S 2)) rfl ?_
  refine store_of 𝒱₀ _ none Set.univ (H' := Held c A (iniD (ini S 2) 3)) (held_14 c A (ini S 2)).1 (held_14 c A (iniD (ini S 2) 3)).2 (put_congr _ _ rfl) ?_
  refine load_of 𝒱₀ _ none Set.univ (held_13 c A (iniD (ini S 2) 3)) rfl ?_
  refine store_of 𝒱₀ _ none Set.univ (H' := Held c A (ini (ini S 2) 3)) (held_13 c A (iniD (ini S 2) 3)).1 (held_13 c A (ini (ini S 2) 3)).2 (put_congr _ _ rfl) ?_
  refine load_of 𝒱₀ _ none Set.univ (held_5 c A (ini (ini S 2) 3)) (Y := (rows (ini (ini S 2) 3).dov 4)) (window_congr _ rfl) ?_
  refine load_of 𝒱₀ _ none Set.univ (held_6 c A (ini (ini S 2) 3)) (Y := (rows (ini (ini S 2) 3).ov 4)) (window_congr _ rfl) ?_
  exact h.trans (le_wp_ret _ _ _ _ _)

theorem part3_run (i : grid0.Coords) (S : St F)
    {Q : _ → sProp (𝕄 F)} (h : Held c A (ini (ini S 4) 5) ⊢ Q (k0_pay29 (rows (ini (ini S 4) 5).dov 6) (rows (ini (ini S 4) 5).ov 6))) :
    Held c A S ⊢ wp frame (wpE (defs₀ (F := F)) 𝒱₀ (c : Thread nD τ) none) Set.univ
      (k0_part3 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (k0_pay24 (rows S.dov 4) (rows S.ov 4))) Q := by
  rw [k0_part3_eq_skeleton]
  unfold k0_part3_skel
  refine load_of 𝒱₀ _ none Set.univ (held_14 c A S) rfl ?_
  refine store_of 𝒱₀ _ none Set.univ (H' := Held c A (iniD S 4)) (held_14 c A S).1 (held_14 c A (iniD S 4)).2 (put_congr _ _ rfl) ?_
  refine load_of 𝒱₀ _ none Set.univ (held_13 c A (iniD S 4)) rfl ?_
  refine store_of 𝒱₀ _ none Set.univ (H' := Held c A (ini S 4)) (held_13 c A (iniD S 4)).1 (held_13 c A (ini S 4)).2 (put_congr _ _ rfl) ?_
  refine load_of 𝒱₀ _ none Set.univ (held_5 c A (ini S 4)) (Y := rows (ini S 4).dov 5) (window_congr _ rfl) ?_
  refine load_of 𝒱₀ _ none Set.univ (held_6 c A (ini S 4)) (Y := rows (ini S 4).ov 5) (window_congr _ rfl) ?_
  refine load_of 𝒱₀ _ none Set.univ (held_14 c A (ini S 4)) rfl ?_
  refine store_of 𝒱₀ _ none Set.univ (H' := Held c A (iniD (ini S 4) 5)) (held_14 c A (ini S 4)).1 (held_14 c A (iniD (ini S 4) 5)).2 (put_congr _ _ rfl) ?_
  refine load_of 𝒱₀ _ none Set.univ (held_13 c A (iniD (ini S 4) 5)) rfl ?_
  refine store_of 𝒱₀ _ none Set.univ (H' := Held c A (ini (ini S 4) 5)) (held_13 c A (iniD (ini S 4) 5)).1 (held_13 c A (ini (ini S 4) 5)).2 (put_congr _ _ rfl) ?_
  refine load_of 𝒱₀ _ none Set.univ (held_5 c A (ini (ini S 4) 5)) (Y := (rows (ini (ini S 4) 5).dov 6)) (window_congr _ rfl) ?_
  refine load_of 𝒱₀ _ none Set.univ (held_6 c A (ini (ini S 4) 5)) (Y := (rows (ini (ini S 4) 5).ov 6)) (window_congr _ rfl) ?_
  refine load_of 𝒱₀ _ none Set.univ (held_14 c A (ini (ini S 4) 5)) rfl ?_
  exact h.trans (le_wp_ret _ _ _ _ _)

end Cert.KernelIdeal.Body

end
-- ==== Proof.KernelIdeal.Fin.lean ====
/-
  What the last point of a head does after the blocks: the accumulator under the scale is stored as the query gradient.
-/
module

public import proofs.«01_k».proof.Proof.KernelIdeal.Parts

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Att

variable {F : FTy → Type} [FloatOps F] [Named F]

/-- Tile `b` of the query gradient stored. -/
def fin (T : St F) (b : Fin 8) : St F := { T with dq := putRows T.dq b (k0_pay75 (rows T.acc b)) }

/-- The state after all eight tiles. -/
def finAll (S : St F) : St F := fin (fin (fin (fin (fin (fin (fin (fin S 0) 1) 2) 3) 4) 5) 6) 7

variable (c : Dev nD) (A : Args)

theorem part11_run (i : grid0.Coords) (S : St F)
    {Q : _ → sProp (𝕄 F)} (h : Held c A (fin (fin (fin (fin (fin S 0) 1) 2) 3) 4) ⊢ Q ⟨rows ((fin (fin (fin (fin (fin S 0) 1) 2) 3) 4)).acc 5, k0_pay80⟩) :
    Held c A S ⊢ wp frame (wpE (defs₀ (F := F)) 𝒱₀ (c : Thread nD τ) none) Set.univ
      (k0_part11 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14) Q := by
  rw [k0_part11_eq_skeleton]
  unfold k0_part11_skel
  refine load_of 𝒱₀ _ none Set.univ (held_13 c A S) (Y := rows S.acc 0) (window_congr _ rfl) ?_
  refine load_of 𝒱₀ _ none Set.univ (held_9 c A S) rfl ?_
  refine store_of 𝒱₀ _ none Set.univ (H' := Held c A (fin S 0)) (held_9 c A S).1 (held_9 c A (fin S 0)).2 (put_congr _ _ rfl) ?_
  refine load_of 𝒱₀ _ none Set.univ (held_13 c A (fin S 0)) (Y := rows (fin S 0).acc 1) (window_congr _ rfl) ?_
  refine load_of 𝒱₀ _ none Set.univ (held_9 c A (fin S 0)) rfl ?_
  refine store_of 𝒱₀ _ none Set.univ (H' := Held c A (fin (fin S 0) 1)) (held_9 c A (fin S 0)).1 (held_9 c A (fin (fin S 0) 1)).2 (put_congr _ _ rfl) ?_
  refine load_of 𝒱₀ _ none Set.univ (held_13 c A (fin (fin S 0) 1)) (Y := rows (fin (fin S 0) 1).acc 2) (window_congr _ rfl) ?_
  refine load_of 𝒱₀ _ none Set.univ (held_9 c A (fin (fin S 0) 1)) rfl ?_
  refine store_of 𝒱₀ _ none Set.univ (H' := Held c A (fin (fin (fin S 0) 1) 2)) (held_9 c A (fin (fin S 0) 1)).1 (held_9 c A (fin (fin (fin S 0) 1) 2)).2 (put_congr _ _ rfl) ?_
  refine load_of 𝒱₀ _ none Set.univ (held_13 c A (fin (fin (fin S 0) 1) 2)) (Y := rows (fin (fin (fin S 0) 1) 2).acc 3) (window_congr _ rfl) ?_
  refine load_of 𝒱₀ _ none Set.univ (held_9 c A (fin (fin (fin S 0) 1) 2)) rfl ?_
  refine store_of 𝒱₀ _ none Set.univ (H' := Held c A (fin (fin (fin (fin S 0) 1) 2) 3)) (held_9 c A (fin (fin (fin S 0) 1) 2)).1 (held_9 c A (fin (fin (fin (fin S 0) 1) 2) 3)).2 (put_congr _ _ rfl) ?_
  refine load_of 𝒱₀ _ none Set.univ (held_13 c A (fin (fin (fin (fin S 0) 1) 2) 3)) (Y := rows (fin (fin (fin (fin S 0) 1) 2) 3).acc 4) (window_congr _ rfl) ?_
  refine load_of 𝒱₀ _ none Set.univ (held_9 c A (fin (fin (fin (fin S 0) 1) 2) 3)) rfl ?_
  refine store_of 𝒱₀ _ none Set.univ (H' := Held c A (fin (fin (fin (fin (fin S 0) 1) 2) 3) 4)) (held_9 c A (fin (fin (fin (fin S 0) 1) 2) 3)).1 (held_9 c A (fin (fin (fin (fin (fin S 0) 1) 2) 3) 4)).2 (put_congr _ _ rfl) ?_
  refine load_of 𝒱₀ _ none Set.univ (held_13 c A (fin (fin (fin (fin (fin S 0) 1) 2) 3) 4)) (Y := rows (fin (fin (fin (fin (fin S 0) 1) 2) 3) 4).acc 5) (window_congr _ rfl) ?_
  exact h.trans (le_wp_ret _ _ _ _ _)

end Cert.KernelIdeal.Body

end
-- ==== Proof.KernelIdeal.Loop.lean ====
/-
  The loop over the pairs of blocks, and the second loop, which makes no trip.
-/
module

public import proofs.«01_k».proof.Proof.KernelIdeal.Parts

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Att

variable {F : FTy → Type} [FloatOps F] [Named F]

variable (c : Dev nD) (A : Args)

/-- The state with the accumulator after the diagonal block and `n` blocks more. -/
def accSt (S : St F) (j : Fin 8) (n : ℕ) : St F := { S with acc := (after S j n).1 }

/-- A trip's first block is the next of the blocks in order. -/
theorem after_pA (S : St F) (i : grid0.Coords) (t : Fin (k0_t1_loop i).trips) :
    after S (jOf i) (odd i + 2 * t.val + 1) = blk S (pA i t) (pU S (pA i t)) (after S (jOf i) (odd i + 2 * t.val)) := by
  have h := pair_lt i t
  have e : (⟨(jOf i).val + 1 + (odd i + 2 * t.val), by show (i 1).val + 1 + (odd i + 2 * t.val) < 8; omega⟩ : Fin 8) = pA i t :=
    Fin.ext (by show (i 1).val + 1 + (odd i + 2 * t.val) = (i 1).val + 1 + odd i + 2 * t.val; omega)
  rw [after_succ S (jOf i) _ (by show (i 1).val + 1 + (odd i + 2 * t.val) < 8; omega), e]

theorem after_pB (S : St F) (i : grid0.Coords) (t : Fin (k0_t1_loop i).trips) :
    after S (jOf i) (odd i + 2 * (t.val + 1)) = blk S (pB i t) (pU S (pB i t)) (after S (jOf i) (odd i + 2 * t.val + 1)) := by
  have h := pair_lt i t
  have e : (⟨(jOf i).val + 1 + (odd i + 2 * t.val + 1), by show (i 1).val + 1 + (odd i + 2 * t.val + 1) < 8; omega⟩ : Fin 8) = pB i t :=
    Fin.ext (by show (i 1).val + 1 + (odd i + 2 * t.val + 1) = (i 1).val + 1 + odd i + 2 * t.val + 1; omega)
  rw [show odd i + 2 * (t.val + 1) = (odd i + 2 * t.val + 1) + 1 by omega,
    after_succ S (jOf i) _ (by show (i 1).val + 1 + (odd i + 2 * t.val + 1) < 8; omega), e]

/-- One trip: the carried sums and the accumulator go two blocks on. -/
theorem trip_run (i : grid0.Coords) (S : St F) (v28 : BitVec 32) (t : Fin (k0_t1_loop i).trips)
    {Q : _ → sProp (𝕄 F)}
    (h : Held c A (accSt S (jOf i) (odd i + 2 * (t.val + 1))) ⊢ Q (after S (jOf i) (odd i + 2 * (t.val + 1))).2) :
    Held c A (accSt S (jOf i) (odd i + 2 * t.val)) ⊢ wp frame (wpE (defs₀ (F := F)) 𝒱₀ (c : Thread nD τ) none) Set.univ
      (k0_t1_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (BitVec.ofNat 32 (i 1).val) (kOf S) (vOf S) (ckOf S) v28 t (after S (jOf i) (odd i + 2 * t.val)).2) Q := by
  unfold k0_t1_body
  rw [wp_bind]
  refine part7_run c A i _ _ _ _ _ _ _ _ _ ?_
  rw [wp_bind]
  refine part8_run c A i _ _ _ _ _ _ _ _ _ _ _ _ _ _ ?_
  refine store_of 𝒱₀ _ none Set.univ (H' := Held c A (accSt S (jOf i) (odd i + 2 * (t.val + 1)))) (held_13 c A _).1
    (held_13 c A (accSt S (jOf i) (odd i + 2 * (t.val + 1)))).2 ?_ ?_
  · refine (put_congr _ _ (off13_eq i t)).trans ?_
    show _ = (after S (jOf i) (odd i + 2 * (t.val + 1))).1
    rw [after_pB, after_pA]
    rfl
  · refine h.trans ?_
    rw [after_pB, after_pA]
    exact le_wp_ret _ _ _ _ _

/-- The loop: from the blocks before the pairs to all of them. -/
theorem loop_run (i : grid0.Coords) (S : St F) (v28 : BitVec 32) {β : Type} {k : _ → Prog _ β} {Q : _ → sProp (𝕄 F)}
    (h : Held c A (accSt S (jOf i) (7 - (i 1).val)) ⊢ wp frame (wpE (defs₀ (F := F)) 𝒱₀ (c : Thread nD τ) none) Set.univ (k (after S (jOf i) (7 - (i 1).val)).2) Q) :
    Held c A (accSt S (jOf i) (odd i)) ⊢ wp frame (wpE (defs₀ (F := F)) 𝒱₀ (c : Thread nD τ) none) Set.univ
      (Scf.Loop.for (k0_t1_loop i) (k0_t1_ok i) (after S (jOf i) (odd i)).2
        (k0_t1_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (BitVec.ofNat 32 (i 1).val) (kOf S) (vOf S) (ckOf S) v28) >>= k) Q := by
  have hb := Scf.wp_for_bind frame (wpE (defs₀ (F := F)) 𝒱₀ (c : Thread nD τ) none) Set.univ _ _ _ (k0_t1_ok i) (after S (jOf i) (odd i)).2
    (k0_t1_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (BitVec.ofNat 32 (i 1).val) (kOf S) (vOf S) (ckOf S) v28)
    (fun n x => iprop(⌜x = (after S (jOf i) (odd i + 2 * n)).2⌝ ∗ Held c A (accSt S (jOf i) (odd i + 2 * n))))
    (fun t x => by
      iintro ⟨%hx, H⟩
      subst hx
      iapply (trip_run c A i S v28 t (Q := fun x => iprop(⌜x = (after S (jOf i) (odd i + 2 * (t.val + 1))).2⌝ ∗ Held c A (accSt S (jOf i) (odd i + 2 * (t.val + 1))))) (by
        iintro H
        isplitr
        · ipureintro; rfl
        · iexact H))
      iexact H) (kk := k) (Q := Q)
  iintro H
  iapply hb $$ [H]
  · isplitr
    · ipureintro; rfl
    · iexact H
  iintro %x ⟨%hx, H⟩
  subst hx
  have e : odd i + 2 * (k0_t1_loop i).trips = 7 - (i 1).val := by
    rw [trips1]; unfold odd; omega
  rw [e]
  iapply h
  iexact H

/-- The second loop makes no trip. -/
theorem loop2_run (i : grid0.Coords) (S : St F) (v4 v6 : FVec F S512x128 .bf16) (v8 : FVec F S1x512 .f32) (v1 v28 v51 : BitVec 32) (x : Carry F)
    {β : Type} {k : _ → Prog _ β} {Q : _ → sProp (𝕄 F)}
    (h : Held c A S ⊢ wp frame (wpE (defs₀ (F := F)) 𝒱₀ (c : Thread nD τ) none) Set.univ (k x) Q) :
    Held c A S ⊢ wp frame (wpE (defs₀ (F := F)) 𝒱₀ (c : Thread nD τ) none) Set.univ
      (Scf.Loop.for (k0_t2_loop i) (k0_t2_ok i) x (k0_t2_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 v1 v4 v6 v8 v28 v51) >>= k) Q := by
  have hb := Scf.wp_for_bind frame (wpE (defs₀ (F := F)) 𝒱₀ (c : Thread nD τ) none) Set.univ _ _ _ (k0_t2_ok i) x
    (k0_t2_body (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 v1 v4 v6 v8 v28 v51)
    (fun _ y => iprop(⌜y = x⌝ ∗ Held c A S))
    (fun t y => absurd (lt_of_lt_of_eq t.isLt (trips2 i)) (Nat.not_lt_zero _)) (kk := k) (Q := Q)
  iintro H
  iapply hb $$ [H]
  · isplitr
    · ipureintro; rfl
    · iexact H
  iintro %y ⟨%hy, H⟩
  subst hy
  iapply h
  iexact H

end Cert.KernelIdeal.Body

end
-- ==== Proof.KernelIdeal.Body.lean ====
/-
  What the body does at a grid point: from the state before it to the state after it.
-/
module

public import proofs.«01_k».proof.Proof.KernelIdeal.Init
public import proofs.«01_k».proof.Proof.KernelIdeal.Fin
public import proofs.«01_k».proof.Proof.KernelIdeal.Loop

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Att

variable {F : FTy → Type} [FloatOps F] [Named F]

variable (c : Dev nD) (A : Args)

/-- The state the blocks start from: at a head's first point the accumulator is zero and the sums are saved. -/
def start (i : grid0.Coords) (S : St F) : St F := if (i 1).val = 0 then iniAll S else S

/-- The state after the blocks: the accumulator, and the three gradients of the point's keys stored. -/
def blocks (j : Fin 8) (S : St F) : St F :=
  { S with
    acc := (after S j (7 - j.val)).1
    dk := k0_pay9 (after S j (7 - j.val)).2.1
    dv := k0_pay10 (after S j (7 - j.val)).2.2.1
    dck := k0_pay11 (after S j (7 - j.val)).2.2.2 }

/-- The state after a grid point: at a head's last point the query gradient is stored. -/
def step (i : grid0.Coords) (S : St F) : St F :=
  if (i 1).val = 7 then finAll (blocks (jOf i) (start i S)) else blocks (jOf i) (start i S)

theorem after_diag (S : St F) (i : grid0.Coords) (h2 : ¬(k0_cond2 i = 1#1)) :
    after S (jOf i) (odd i) = blk S (jOf i) (pM S (jOf i)) (S.acc, zeros) := by
  have e : odd i = 0 := by
    have := mt (cond2_iff i).mpr h2
    unfold odd at this ⊢; omega
  rw [e, after_zero]

theorem after_next (S : St F) (i : grid0.Coords) (h2 : k0_cond2 i = 1#1) :
    after S (jOf i) (odd i) = blk S (nOf i h2) (pU S (nOf i h2)) (blk S (jOf i) (pM S (jOf i)) (S.acc, zeros)) := by
  rw [(cond2_iff i).mp h2, after_succ S (jOf i) 0 (next_lt i h2), after_zero]
  rfl

/-- The reads of the keys' blocks, the diagonal block and, when `7 - j` is odd, the block after it. -/
theorem tail_run (i : grid0.Coords) (S : St F) {v28 v29 v30 : BitVec 32} {Q : _ → sProp (𝕄 F)}
    (h : ∀ v28 v29 v30 : BitVec 32, Held c A (accSt S (jOf i) (odd i)) ⊢ Q ⟨BitVec.ofNat 32 (i 1).val,
      kOf S, vOf S, ckOf S, (after S (jOf i) (odd i)).2.1,
      (after S (jOf i) (odd i)).2.2.1, (after S (jOf i) (odd i)).2.2.2, v28, v29, 2#32, v30, 0#32⟩) :
    Held c A S ⊢ wp frame (wpE (defs₀ (F := F)) 𝒱₀ (c : Thread nD τ) none) Set.univ
      (show Prog (TpuEff nD τ sig (Elt F) Λ₀ .tc) (Σ' (arg1 : BitVec 32) (v4 : FVec F S512x128 .bf16) (v6 : FVec F S512x128 .bf16) (v8 : FVec F S1x512 .f32) (v26_0 : FVec F S512x128 .f32) (v26_1 : FVec F S512x128 .f32) (v26_2 : FVec F S1x512 .f32) (v28 : BitVec 32) (v29 : BitVec 32) (c2_i32_17 : BitVec 32) (v30 : BitVec 32), BitVec 32) from do
        let v3 : Vec F S512x128 .bf16 ← Prog.lift (.load A.a3 (Rect.unit (s := S512x128) ![0, 0] S512x128.size inb_S512x128_S512x128_0_0).toLoadRect (View.loadsAt_vmem h_S512x128))
        let v5 : Vec F S512x128 .bf16 ← Prog.lift (.load A.a4 (Rect.unit (s := S512x128) ![0, 0] S512x128.size inb_S512x128_S512x128_0_0).toLoadRect (View.loadsAt_vmem h_S512x128))
        let v7 : Vec F S1x1x1x512 .f32 ← Prog.lift (.load A.a8 (Rect.unit (s := S1x1x1x512) ![0, 0, 0, 0] S1x1x1x512.size inb_S1x1x1x512_S1x1x1x512_0_0_0_0).toLoadRect (View.loadsAt_vmem h_S1x1x1x512))
        if h2 : k0_cond2 i = 1#1 then do
          let r ← k0_part4 i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (BitVec.ofNat 32 (i 1).val) (k0_pay84 v3) (k0_pay85 v5) (k0_pay86 v7) h2
          let x ← k0_part5 i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (k0_pay84 v3) (k0_pay85 v5) (k0_pay86 v7) (k0_pay87 (F := F)) (k0_pay88 (F := F)) (k0_pay89 (F := F)) h2 r.1 r.2.1 r.2.2.1 r.2.2.2.1 r.2.2.2.2.1 r.2.2.2.2.2.1 r.2.2.2.2.2.2
          Prog.lift (.store A.a13 (Rect.unit (s := S4096x128) (k0_off4 i) S512x128.size (k0_off4_inb i h2)) (k0_pay90 x.2.2.2.2.2.2.2) Finset.univ (View.stores_vmem_bits_univ h_S512x128 rfl) (.inl rfl))
          pure ⟨BitVec.ofNat 32 (i 1).val, k0_pay84 v3, k0_pay85 v5, k0_pay86 v7, k0_pay91 x.1 x.2.2.2.1 x.2.2.2.2.2.2.1, k0_pay92 x.2.1 x.2.2.2.2.1 x.2.2.2.2.2.1, k0_pay93 x.2.2.1 x.2.2.2.2.2.2.1, v28, v29, 2#32, v30, 0#32⟩
        else do
          let r ← k0_part6 i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (BitVec.ofNat 32 (i 1).val) (k0_pay84 v3) (k0_pay85 v5) (k0_pay86 v7) h2
          Prog.lift (.store A.a13 (Rect.unit (s := S4096x128) (k0_off7 i) S512x128.size (k0_off7_inb i h2)) r.2.2.2.2 Finset.univ (View.stores_vmem_bits_univ h_S512x128 rfl) (.inl rfl))
          pure ⟨BitVec.ofNat 32 (i 1).val, k0_pay84 v3, k0_pay85 v5, k0_pay86 v7, k0_pay94 r.1 r.2.2.2.1, k0_pay95 r.2.1 r.2.2.1, k0_pay96 r.2.2.2.1, v28, v29, 2#32, v30, 0#32⟩) Q := by
  dsimp only
  refine load_of 𝒱₀ _ none Set.univ (held_3 c A S) (window_full _ _) ?_
  refine load_of 𝒱₀ _ none Set.univ (held_4 c A S) (window_full _ _) ?_
  refine load_of 𝒱₀ _ none Set.univ (held_8 c A S) (window_full _ _) ?_
  split
  · rename_i h2
    rw [wp_bind]
    refine part4_run c A i S _ _ _ _ h2 ?_
    rw [wp_bind]
    refine part5_run c A i S _ _ _ _ _ _ h2 _ _ _ _ _ _ _ ?_
    refine store_of 𝒱₀ _ none Set.univ (H' := Held c A (accSt S (jOf i) (odd i))) (held_13 c A _).1
      (held_13 c A (accSt S (jOf i) (odd i))).2 ?_ ?_
    · refine (put_congr _ _ (off4n i h2)).trans ?_
      show _ = (after S (jOf i) (odd i)).1
      rw [after_next S i h2]
      rfl
    · refine (h v28 v29 v30).trans ?_
      rw [after_next S i h2]
      exact (le_wp_ret _ _ _ _ _)
  · rename_i h2
    rw [wp_bind]
    refine part6_run c A i S _ _ _ _ h2 ?_
    refine store_of 𝒱₀ _ none Set.univ (H' := Held c A (accSt S (jOf i) (odd i))) (held_13 c A _).1
      (held_13 c A (accSt S (jOf i) (odd i))).2 ?_ ?_
    · refine (put_congr _ _ (k0_off7_eq i)).trans ?_
      show _ = (after S (jOf i) (odd i)).1
      rw [after_diag S i h2]
      rfl
    · refine (h v28 v29 v30).trans ?_
      rw [after_diag S i h2]
      exact (le_wp_ret _ _ _ _ _)

/-- The body up to the loop: the start, the diagonal block and, when `7 - j` is odd, the block after it. -/
theorem part12_run (i : grid0.Coords) (S : St F) {Q : _ → sProp (𝕄 F)}
    (h : ∀ v28 v29 v30 : BitVec 32, Held c A (accSt (start i S) (jOf i) (odd i)) ⊢ Q ⟨BitVec.ofNat 32 (i 1).val,
      kOf (start i S), vOf (start i S), ckOf (start i S), (after (start i S) (jOf i) (odd i)).2.1,
      (after (start i S) (jOf i) (odd i)).2.2.1, (after (start i S) (jOf i) (odd i)).2.2.2, v28, v29, 2#32, v30, 0#32⟩) :
    Held c A S ⊢ wp frame (wpE (defs₀ (F := F)) 𝒱₀ (c : Thread nD τ) none) Set.univ
      (k0_part12 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14) Q := by
  rw [k0_part12_eq_skeleton]
  unfold k0_part12_skel
  dsimp only
  split
  · rename_i h1
    have e : start i S = iniAll S := if_pos ((cond1_iff i).mp h1)
    rw [e] at h
    rw [wp_bind]
    refine part1_run c A i S ?_
    rw [wp_bind]
    refine part2_run c A i (ini (ini S 0) 1) ?_
    rw [wp_bind]
    refine part3_run c A i (ini (ini (ini (ini S 0) 1) 2) 3) ?_
    refine store_of 𝒱₀ _ none Set.univ (H' := Held c A (iniD (ini (ini (ini (ini (ini (ini S 0) 1) 2) 3) 4) 5) 6)) (held_14 c A (ini (ini (ini (ini (ini (ini S 0) 1) 2) 3) 4) 5)).1 (held_14 c A (iniD (ini (ini (ini (ini (ini (ini S 0) 1) 2) 3) 4) 5) 6)).2 (put_congr _ _ rfl) ?_
    refine load_of 𝒱₀ _ none Set.univ (held_13 c A (iniD (ini (ini (ini (ini (ini (ini S 0) 1) 2) 3) 4) 5) 6)) rfl ?_
    refine store_of 𝒱₀ _ none Set.univ (H' := Held c A (ini (ini (ini (ini (ini (ini (ini S 0) 1) 2) 3) 4) 5) 6)) (held_13 c A (iniD (ini (ini (ini (ini (ini (ini S 0) 1) 2) 3) 4) 5) 6)).1 (held_13 c A (ini (ini (ini (ini (ini (ini (ini S 0) 1) 2) 3) 4) 5) 6)).2 (put_congr _ _ rfl) ?_
    refine load_of 𝒱₀ _ none Set.univ (held_5 c A (ini (ini (ini (ini (ini (ini (ini S 0) 1) 2) 3) 4) 5) 6)) (Y := rows (ini (ini (ini (ini (ini (ini (ini S 0) 1) 2) 3) 4) 5) 6).dov 7) (window_congr _ rfl) ?_
    refine load_of 𝒱₀ _ none Set.univ (held_6 c A (ini (ini (ini (ini (ini (ini (ini S 0) 1) 2) 3) 4) 5) 6)) (Y := rows (ini (ini (ini (ini (ini (ini (ini S 0) 1) 2) 3) 4) 5) 6).ov 7) (window_congr _ rfl) ?_
    refine load_of 𝒱₀ _ none Set.univ (held_14 c A (ini (ini (ini (ini (ini (ini (ini S 0) 1) 2) 3) 4) 5) 6)) rfl ?_
    refine store_of 𝒱₀ _ none Set.univ (H' := Held c A (iniD (ini (ini (ini (ini (ini (ini (ini S 0) 1) 2) 3) 4) 5) 6) 7)) (held_14 c A (ini (ini (ini (ini (ini (ini (ini S 0) 1) 2) 3) 4) 5) 6)).1 (held_14 c A (iniD (ini (ini (ini (ini (ini (ini (ini S 0) 1) 2) 3) 4) 5) 6) 7)).2 (put_congr _ _ rfl) ?_
    refine load_of 𝒱₀ _ none Set.univ (held_13 c A (iniD (ini (ini (ini (ini (ini (ini (ini S 0) 1) 2) 3) 4) 5) 6) 7)) rfl ?_
    refine store_of 𝒱₀ _ none Set.univ (H' := Held c A (ini (ini (ini (ini (ini (ini (ini (ini S 0) 1) 2) 3) 4) 5) 6) 7)) (held_13 c A (iniD (ini (ini (ini (ini (ini (ini (ini S 0) 1) 2) 3) 4) 5) 6) 7)).1 (held_13 c A (ini (ini (ini (ini (ini (ini (ini (ini S 0) 1) 2) 3) 4) 5) 6) 7)).2 (put_congr _ _ rfl) ?_
    exact tail_run c A i (iniAll S) h
  · rename_i h1
    have e : start i S = S := if_neg (mt (cond1_iff i).mpr h1)
    rw [e] at h
    exact tail_run c A i S h

/-- The body at a grid point. -/
theorem body_run (i : grid0.Coords) (S : St F) :
    Held c A S ⊢ wp frame (wpE (defs₀ (F := F)) 𝒱₀ (c : Thread nD τ) none) Set.univ
      (cc0_att_bwd (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14) (fun _ => Held c A (step i S)) := by
  rw [cc0_att_bwd_eq_skeleton]
  unfold cc0_att_bwd_skel
  rw [wp_bind]
  refine part12_run c A i S fun v28 v29 v30 => ?_
  unfold step
  generalize start i S = S
  refine loop_run c A i S v28 ?_
  refine loop2_run c A i _ _ _ _ _ _ _ _ ?_
  refine load_of 𝒱₀ _ none Set.univ (held_10 c A _) rfl ?_
  refine store_of 𝒱₀ _ none Set.univ (H' := Held c A { accSt S (jOf i) (7 - (i 1).val) with dk := k0_pay9 (after S (jOf i) (7 - (i 1).val)).2.1 }) (held_10 c A _).1 (held_10 c A { accSt S (jOf i) (7 - (i 1).val) with dk := k0_pay9 (after S (jOf i) (7 - (i 1).val)).2.1 }).2 (put_full _ _ (funext (by decide))) ?_
  refine load_of 𝒱₀ _ none Set.univ (held_11 c A _) rfl ?_
  refine store_of 𝒱₀ _ none Set.univ (H' := Held c A { accSt S (jOf i) (7 - (i 1).val) with dk := k0_pay9 (after S (jOf i) (7 - (i 1).val)).2.1, dv := k0_pay10 (after S (jOf i) (7 - (i 1).val)).2.2.1 }) (held_11 c A _).1
    (held_11 c A { accSt S (jOf i) (7 - (i 1).val) with dk := k0_pay9 (after S (jOf i) (7 - (i 1).val)).2.1, dv := k0_pay10 (after S (jOf i) (7 - (i 1).val)).2.2.1 }).2 (put_full _ _ (funext (by decide))) ?_
  refine load_of 𝒱₀ _ none Set.univ (held_12 c A _) rfl ?_
  refine store_of 𝒱₀ _ none Set.univ (H' := Held c A (blocks (jOf i) S)) (held_12 c A _).1 (held_12 c A (blocks (jOf i) S)).2 (put_full _ _ (funext (by decide))) ?_
  generalize blocks (jOf i) S = S
  split
  · rename_i h3
    rw [if_pos ((cond3_iff i).mp h3), wp_bind]
    refine part11_run c A i S ?_
    refine load_of 𝒱₀ _ none Set.univ (held_9 c A (fin (fin (fin (fin (fin S 0) 1) 2) 3) 4)) rfl ?_
    refine store_of 𝒱₀ _ none Set.univ (H' := Held c A (fin (fin (fin (fin (fin (fin S 0) 1) 2) 3) 4) 5)) (held_9 c A (fin (fin (fin (fin (fin S 0) 1) 2) 3) 4)).1 (held_9 c A (fin (fin (fin (fin (fin (fin S 0) 1) 2) 3) 4) 5)).2 (put_congr _ _ rfl) ?_
    refine load_of 𝒱₀ _ none Set.univ (held_13 c A (fin (fin (fin (fin (fin (fin S 0) 1) 2) 3) 4) 5)) (Y := rows (fin (fin (fin (fin (fin (fin S 0) 1) 2) 3) 4) 5).acc 6) (window_congr _ rfl) ?_
    refine load_of 𝒱₀ _ none Set.univ (held_9 c A (fin (fin (fin (fin (fin (fin S 0) 1) 2) 3) 4) 5)) rfl ?_
    refine store_of 𝒱₀ _ none Set.univ (H' := Held c A (fin (fin (fin (fin (fin (fin (fin S 0) 1) 2) 3) 4) 5) 6)) (held_9 c A (fin (fin (fin (fin (fin (fin S 0) 1) 2) 3) 4) 5)).1 (held_9 c A (fin (fin (fin (fin (fin (fin (fin S 0) 1) 2) 3) 4) 5) 6)).2 (put_congr _ _ rfl) ?_
    refine load_of 𝒱₀ _ none Set.univ (held_13 c A (fin (fin (fin (fin (fin (fin (fin S 0) 1) 2) 3) 4) 5) 6)) (Y := rows (fin (fin (fin (fin (fin (fin (fin S 0) 1) 2) 3) 4) 5) 6).acc 7) (window_congr _ rfl) ?_
    refine load_of 𝒱₀ _ none Set.univ (held_9 c A (fin (fin (fin (fin (fin (fin (fin S 0) 1) 2) 3) 4) 5) 6)) rfl ?_
    refine store_of 𝒱₀ _ none Set.univ (H' := Held c A (fin (fin (fin (fin (fin (fin (fin (fin S 0) 1) 2) 3) 4) 5) 6) 7)) (held_9 c A (fin (fin (fin (fin (fin (fin (fin S 0) 1) 2) 3) 4) 5) 6)).1 (held_9 c A (fin (fin (fin (fin (fin (fin (fin (fin S 0) 1) 2) 3) 4) 5) 6) 7)).2 (put_congr _ _ rfl) ?_
    exact le_wp_ret frame (wpE (defs₀ (F := F)) 𝒱₀ (c : Thread nD τ) none) Set.univ PUnit.unit (fun _ => Held c A (finAll S))
  · rename_i h3
    rw [if_neg (mt (cond3_iff i).mpr h3)]
    exact le_wp_ret frame (wpE (defs₀ (F := F)) 𝒱₀ (c : Thread nD τ) none) Set.univ PUnit.unit (fun _ => Held c A S)

end Cert.KernelIdeal.Body

end
-- ==== Proof.KernelIdeal.Step.lean ====
/-
  The step of a grid point in closed form, and what it does not depend on: the result buffers' contents before it, and
  at a head's first point the two scratch buffers' contents.
-/
module

public import proofs.«01_k».proof.Proof.Common.Tiles
public import proofs.«01_k».proof.Proof.KernelIdeal.Body

@[expose] public section

noncomputable section

namespace Cert.KernelIdeal.Body

open Idealize.ShloMosaic
open Cert.KernelIdeal Cert.KernelIdeal.Gen Cert.Att

variable {F : FTy → Type} [FloatOps F] [Named F]

/-- The start of a head: the accumulator zero, the column the sums of the tiles. -/
theorem iniAll_eq (S : St F) :
    iniAll S = { S with acc := ofRows fun _ => k0_pay16 (F := F), del := ofCol (delTile S) } := by
  have ha := putRows_all S.acc fun _ => k0_pay16 (F := F)
  have hd := putCol_all S.del (delTile S)
  unfold delTile at hd
  simp only [iniAll, ini, iniA, iniD, delTile, ha, hd]
  rfl

/-- The end of a head: the query gradient's tiles off the accumulator's. -/
theorem finAll_eq (S : St F) : finAll S = { S with dq := ofRows fun b => k0_pay75 (rows S.acc b) } := by
  have h := putRows_all S.dq fun b => k0_pay75 (rows S.acc b)
  simp only [finAll, fin, h]

/-- The blocks do not depend on the result buffers. -/
theorem after_outs (S : St F) (j : Fin 8) (n : ℕ) (dq dk dv dck) :
    after { S with dq := dq, dk := dk, dv := dv, dck := dck } j n = after S j n := by
  induction n with
  | zero => rfl
  | succ n ih =>
    by_cases h : j.val + 1 + n < 8
    · rw [after_succ _ j n h, after_succ _ j n h, ih]; rfl
    · rw [after, after, dif_neg h, dif_neg h, ih]

/-- Nor does the start. -/
theorem start_outs (i : grid0.Coords) (S : St F) (dq dk dv dck) :
    start i { S with dq := dq, dk := dk, dv := dv, dck := dck } = { start i S with dq := dq, dk := dk, dv := dv, dck := dck } := by
  unfold start
  split
  · rw [iniAll_eq, iniAll_eq]; rfl
  · rfl

/-- At a head's first point the scratch buffers do not matter. -/
theorem step_first (i : grid0.Coords) (h : (i 1).val = 0) (S : St F) (acc del) :
    step i { S with acc := acc, del := del } = step i S := by
  have e : start i { S with acc := acc, del := del } = start i S := by
    unfold start
    rw [if_pos h, if_pos h, iniAll_eq, iniAll_eq]; rfl
  unfold step
  rw [e]

/-- The step with the result buffers set aside: what it leaves in the scratch buffers and the key results is the same, and
    the query gradient is the same where it is stored and unchanged elsewhere. -/
theorem step_outs (i : grid0.Coords) (S : St F) (dq dk dv dck) :
    step i { S with dq := dq, dk := dk, dv := dv, dck := dck }
      = { step i S with dq := if (i 1).val = 7 then (step i S).dq else dq } := by
  unfold step
  rw [start_outs]
  generalize start i S = T
  have hb : blocks (jOf i) { T with dq := dq, dk := dk, dv := dv, dck := dck } = { blocks (jOf i) T with dq := dq } := by
    unfold blocks
    rw [after_outs]
  rw [hb]
  split
  · rw [finAll_eq, finAll_eq]
  · rfl

/-- A grid point leaves the operands' buffers as they are. -/
theorem step_q (i : grid0.Coords) (S : St F) : (step i S).q = S.q := by
  unfold step start blocks
  split <;> split <;> first | rw [finAll_eq, iniAll_eq] | rw [finAll_eq] | rw [iniAll_eq] | rfl
theorem step_k (i : grid0.Coords) (S : St F) : (step i S).k = S.k := by
  unfold step start blocks
  split <;> split <;> first | rw [finAll_eq, iniAll_eq] | rw [finAll_eq] | rw [iniAll_eq] | rfl
theorem step_v (i : grid0.Coords) (S : St F) : (step i S).v = S.v := by
  unfold step start blocks
  split <;> split <;> first | rw [finAll_eq, iniAll_eq] | rw [finAll_eq] | rw [iniAll_eq] | rfl
theorem step_dov (i : grid0.Coords) (S : St F) : (step i S).dov = S.dov := by
  unfold step start blocks
  split <;> split <;> first | rw [finAll_eq, iniAll_eq] | rw [finAll_eq] | rw [iniAll_eq] | rfl
theorem step_ov (i : grid0.Coords) (S : St F) : (step i S).ov = S.ov := by
  unfold step start blocks
  split <;> split <;> first | rw [finAll_eq, iniAll_eq] | rw [finAll_eq] | rw [iniAll_eq] | rfl
theorem step_lse (i : grid0.Coords) (S : St F) : (step i S).lse = S.lse := by
  unfold step start blocks
  split <;> split <;> first | rw [finAll_eq, iniAll_eq] | rw [finAll_eq] | rw [iniAll_eq] | rfl
theorem step_ck (i : grid0.Coords) (S : St F) : (step i S).ck = S.ck := by
  unfold step start blocks
  split <;> split <;> first | rw [finAll_eq, iniAll_eq] | rw [finAll_eq] | rw [iniAll_eq] | rfl

/-- The step from any contents of the result buffers, and of scratch buffers that are `x` where they are read. -/
theorem step_any (i : grid0.Coords) (S : St F) (x : FVec F S4096x128 .f32 × FVec F S4096x1 .f32) (X Y)
    (h : (i 1).val ≠ 0 → (X, Y) = x) (dq dk dv dck) :
    step i { S with dq := dq, dk := dk, dv := dv, dck := dck, acc := X, del := Y }
      = { step i { S with acc := x.1, del := x.2 } with
          dq := if (i 1).val = 7 then (step i { S with acc := x.1, del := x.2 }).dq else dq } := by
  have e : step i { S with acc := X, del := Y } = step i { S with acc := x.1, del := x.2 } := by
    by_cases h0 : (i 1).val = 0
    · exact (step_first i h0 S X Y).trans (step_first i h0 S x.1 x.2).symm
    · rw [← h h0]
  rw [← e]
  exact step_outs i { S with acc := X, del := Y } dq dk dv dck

end Cert.KernelIdeal.Body

end
-- ==== Proof.KernelIdeal.Data.lean ====
/-
  The proof data of the pipeline: the scratch buffers' contents from point to point, what each point leaves in the
  result windows, the body's obligation, and the run of the whole program.
-/
module

public import proofs.«01_k».proof.Proof.KernelIdeal.Step

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Att

variable {F : FTy → Type} [FloatOps F] [Named F]

variable (m : (ℓ : Loc nD τ sig) → Buf (Elt F) ℓ) (ρ : Dev nD → PrngReg)

/-- Contents nothing reads. -/
def junk (s : Shape) (e : FTy) (b : BitVec e.bits) : FVec F s e := broadcast s (Scalar.ofBits e b)

/-- The state at point `t`: the windows' blocks, the result buffers at contents nothing reads, the scratch buffers at `x`. -/
def inSt (c : Dev nD) (t : Fin cfg0.N) (x : FVec F S4096x128 .f32 × FVec F S4096x1 .f32) : St F where
  q := iblk m c 0 t
  k := iblk m c 1 t
  v := iblk m c 2 t
  dov := iblk m c 3 t
  ov := iblk m c 4 t
  lse := iblk m c 5 t
  ck := iblk m c 6 t
  dq := junk S4096x128 .bf16 0#16
  dk := junk S512x128 .bf16 0#16
  dv := junk S512x128 .bf16 0#16
  dck := junk S1x1x1x512 .f32 0#32
  acc := x.1
  del := x.2

/-- The scratch buffers before point `n`. -/
def scr (c : Dev nD) : ℕ → FVec F S4096x128 .f32 × FVec F S4096x1 .f32
  | 0 => (junk S4096x128 .f32 0#32, junk S4096x1 .f32 0#32)
  | n + 1 => if h : n < cfg0.N then
      ((step (grid0.coords ⟨n, h⟩) (inSt m c ⟨n, h⟩ (scr c n))).acc, (step (grid0.coords ⟨n, h⟩) (inSt m c ⟨n, h⟩ (scr c n))).del)
    else scr c n

/-- The state after point `t`. -/
def outSt (c : Dev nD) (t : Fin cfg0.N) : St F := step (grid0.coords t) (inSt m c t (scr m c t.val))

theorem scr_succ (c : Dev nD) (t : Fin cfg0.N) : scr m c (t.val + 1) = ((outSt m c t).acc, (outSt m c t).del) := by
  rw [scr, dif_pos t.isLt]; rfl

/-- The key block of point `t`. -/
theorem coords_val : ∀ t : Fin grid0.N, (grid0.coords t 1).val = t.val % 8 := by decide +kernel
theorem coords_head : ∀ t : Fin grid0.N, (grid0.coords t 0).val = t.val / 8 := by decide +kernel

/-- The scratch buffers before point `n`: named, but before a head's first point, where the body does not read them. -/
def Scr (c : Dev nD) (n : ℕ) : sProp (𝕄 F) :=
  iprop(∃ X Y, ⌜n % 8 ≠ 0 → (X, Y) = scr m c n⌝ ∗ owns (Val := Elt F) (c : Thread nD τ) (Memref.whole cc0_scratch0) fullShare X
    ∗ owns (Val := Elt F) (c : Thread nD τ) (Memref.whole cc0_scratch1) fullShare Y ∗ (∃ r, prngReg c r))

/-- The proof data: the arrays as the region finds them, each window's buffer after a point, the scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outSt m c t).dq
    | ⟨8, _⟩ => (outSt m c t).dk
    | ⟨9, _⟩ => (outSt m c t).dv
    | ⟨10, _⟩ => (outSt m c t).dck
  Φ t := Scr m c t.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outSt m c t).dq := by dsimp only [dats]
theorem after0_8 (c : Dev nD) (t : Fin cfg0.N) : (dats m 0 c).after 8 t = (outSt m c t).dk := by dsimp only [dats]
theorem after0_9 (c : Dev nD) (t : Fin cfg0.N) : (dats m 0 c).after 9 t = (outSt m c t).dv := by dsimp only [dats]
theorem after0_10 (c : Dev nD) (t : Fin cfg0.N) : (dats m 0 c).after 10 t = (outSt m c t).dck := by dsimp only [dats]

/-- Each input window's buffer holds its block when the body runs. -/
theorem found0_0 (c : Dev nD) (t : Fin cfg0.N) (d) : (dats m 0 c).before 0 t d = iblk m c 0 t :=
  before0_0_of m (dats m 0 c) (A_eq m c 0) (after0_0 m c) t d
theorem found0_1 (c : Dev nD) (t : Fin cfg0.N) (d) : (dats m 0 c).before 1 t d = iblk m c 1 t :=
  before0_1_of m (dats m 0 c) (A_eq m c 1) (after0_1 m c) t d
theorem found0_2 (c : Dev nD) (t : Fin cfg0.N) (d) : (dats m 0 c).before 2 t d = iblk m c 2 t :=
  before0_2_of m (dats m 0 c) (A_eq m c 2) (after0_2 m c) t d
theorem found0_3 (c : Dev nD) (t : Fin cfg0.N) (d) : (dats m 0 c).before 3 t d = iblk m c 3 t :=
  before0_3_of m (dats m 0 c) (A_eq m c 3) (after0_3 m c) t d
theorem found0_4 (c : Dev nD) (t : Fin cfg0.N) (d) : (dats m 0 c).before 4 t d = iblk m c 4 t :=
  before0_4_of m (dats m 0 c) (A_eq m c 4) (after0_4 m c) t d
theorem found0_5 (c : Dev nD) (t : Fin cfg0.N) (d) : (dats m 0 c).before 5 t d = iblk m c 5 t :=
  before0_5_of m (dats m 0 c) (A_eq m c 5) (after0_5 m c) t d
theorem found0_6 (c : Dev nD) (t : Fin cfg0.N) (d) : (dats m 0 c).before 6 t d = iblk m c 6 t :=
  before0_6_of m (dats m 0 c) (A_eq m c 6) (after0_6 m c) t d

/-- The memrefs the body runs on at point `t`. -/
def argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := Memref.whole cc0_scratch0
  h13 := Memref.isWhole_whole _
  a14 := Memref.whole cc0_scratch1
  h14 := Memref.isWhole_whole _

/-- What the query gradient's window is left at: its result at a head's last point, elsewhere as it was found. -/
def leaves7 (c : Dev nD) (t : Fin cfg0.N) : sProp (𝕄 F) :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ leaves7 m c t
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The step from any contents of the result buffers, and of scratch buffers that are named where they are read. -/
theorem step_from (c : Dev nD) (t : Fin cfg0.N) (X Y) (h : t.val % 8 ≠ 0 → (X, Y) = scr m c t.val) (dq dk dv dck) :
    step (grid0.coords t) { inSt m c t (X, Y) with dq := dq, dk := dk, dv := dv, dck := dck }
      = { outSt m c t with dq := if t.val % 8 = 7 then (outSt m c t).dq else dq } := by
  have e := step_any (grid0.coords t) (inSt m c t (scr m c t.val)) (scr m c t.val) X Y
    (fun h0 => h (fun hz => h0 ((coords_val t).trans hz))) dq dk dv dck
  exact e.trans (by rw [coords_val t]; rfl)

/-- The operands' buffers after a point. -/
theorem outSt_q (c : Dev nD) (t : Fin cfg0.N) : (outSt m c t).q = iblk m c 0 t := step_q _ _
theorem outSt_k (c : Dev nD) (t : Fin cfg0.N) : (outSt m c t).k = iblk m c 1 t := step_k _ _
theorem outSt_v (c : Dev nD) (t : Fin cfg0.N) : (outSt m c t).v = iblk m c 2 t := step_v _ _
theorem outSt_dov (c : Dev nD) (t : Fin cfg0.N) : (outSt m c t).dov = iblk m c 3 t := step_dov _ _
theorem outSt_ov (c : Dev nD) (t : Fin cfg0.N) : (outSt m c t).ov = iblk m c 4 t := step_ov _ _
theorem outSt_lse (c : Dev nD) (t : Fin cfg0.N) : (outSt m c t).lse = iblk m c 5 t := step_lse _ _
theorem outSt_ck (c : Dev nD) (t : Fin cfg0.N) : (outSt m c t).ck = iblk m c 6 t := step_ck _ _

/-- What the memrefs read after a point, window by window. -/
theorem held_out (c : Dev nD) (t : Fin cfg0.N) (D : FVec F S4096x128 .bf16) :
    Held c (argsAt t) { outSt m c t with dq := D } ⊢ iprop(
      owns (Val := Elt F) (c : Thread nD τ) (st0_0 t) fullShare (iblk m c 0 t)
    ∗ owns (Val := Elt F) (c : Thread nD τ) (st0_1 t) fullShare (iblk m c 1 t)
    ∗ owns (Val := Elt F) (c : Thread nD τ) (st0_2 t) fullShare (iblk m c 2 t)
    ∗ owns (Val := Elt F) (c : Thread nD τ) (st0_3 t) fullShare (iblk m c 3 t)
    ∗ owns (Val := Elt F) (c : Thread nD τ) (st0_4 t) fullShare (iblk m c 4 t)
    ∗ owns (Val := Elt F) (c : Thread nD τ) (st0_5 t) fullShare (iblk m c 5 t)
    ∗ owns (Val := Elt F) (c : Thread nD τ) (st0_6 t) fullShare (iblk m c 6 t)
    ∗ owns (Val := Elt F) (c : Thread nD τ) (st0_7 t) fullShare D
    ∗ owns (Val := Elt F) (c : Thread nD τ) (st0_8 t) fullShare (outSt m c t).dk
    ∗ owns (Val := Elt F) (c : Thread nD τ) (st0_9 t) fullShare (outSt m c t).dv
    ∗ owns (Val := Elt F) (c : Thread nD τ) (st0_10 t) fullShare (outSt m c t).dck
    ∗ owns (Val := Elt F) (c : Thread nD τ) (Memref.whole cc0_scratch0) fullShare (outSt m c t).acc
    ∗ owns (Val := Elt F) (c : Thread nD τ) (Memref.whole cc0_scratch1) fullShare (outSt m c t).del) := by
  rw [← outSt_q m c t, ← outSt_k m c t, ← outSt_v m c t, ← outSt_dov m c t, ← outSt_ov m c t, ← outSt_lse m c t, ← outSt_ck m c t]
  generalize outSt m c t = S
  exact .rfl

/-- What the query gradient's window is left at, from the contents found. -/
theorem leaves7_of (c : Dev nD) (t : Fin cfg0.N) (d) :
    owns (c : Thread nD τ) (st0_7 t) fullShare (if t.val % 8 = 7 then (outSt m c t).dq else (dats m 0 c).before 7 t d) ⊢ leaves7 m c t := by
  unfold leaves7
  by_cases h : t.val % 8 = 7
  · have e : cfg0.idle 7 (cfg0.grid.coords t) = false := by
      show (!(k0_cond3 (grid0.coords t) == 1#1)) = false
      rw [(cond3_iff (grid0.coords t)).mpr ((coords_val t).trans h)]; rfl
    rw [e, if_pos h, after0_7]
  · have e : cfg0.idle 7 (cfg0.grid.coords t) = true := by
      show (!(k0_cond3 (grid0.coords t) == 1#1)) = true
      have : k0_cond3 (grid0.coords t) ≠ 1#1 := fun hc => h ((coords_val t).symm.trans ((cond3_iff (grid0.coords t)).mp hc))
      rw [beq_eq_false_iff_ne.mpr this]; rfl
    have f : (cfg0.win 7).flush t = false := by
      rw [← Bool.not_eq_true]; exact fun hf => h ((flush0_7 t).mp hf)
    rw [e, f, if_neg h]
    iintro H
    iexists d
    iexact H

/-- The body at point `t` keeps the data. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  rw [show (dats m 0 c).Φ t.succ = Scr m c (t.val + 1) from rfl, show (dats m 0 c).Φ t.castSucc = Scr m c t.val from rfl]
  rw [show (dats m 0 c).owesAt () t.succ = (dats m 0 c).owesAt () t.castSucc from rfl]
  rw [after0_0, after0_1, after0_2, after0_3, after0_4, after0_5, after0_6, after0_8, after0_9, after0_10]
  simp only [found0_0, found0_1, found0_2, found0_3, found0_4, found0_5, found0_6]
  unfold Scr
  iintro ⟨⟨%X, %Y, %hXY, HX, HY, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hrun := body_run c (argsAt t) (grid0.coords t) { inSt m c t (X, Y) with
    dq := (dats m 0 c).before 7 t d7, dk := (dats m 0 c).before 8 t d8, dv := (dats m 0 c).before 9 t d9, dck := (dats m 0 c).before 10 t d10 }
  rw [step_from m c t X Y hXY] at hrun
  iapply wp_wand_r
  isplitl [HX HY H0 H1 H2 H3 H4 H5 H6 H7 H8 H9 H10]
  · iapply hrun
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HY
  iintro %u HH
  ihave HH := (held_out m c t _) $$ HH
  icases HH with ⟨H0, H1, H2, H3, H4, H5, H6, H7, H8, H9, H10, HX, HY⟩
  isplitl [HX HY HP]
  · iexists (outSt m c t).acc
    iexists (outSt m c t).del
    isplitr
    · ipureintro; exact fun _ => (scr_succ m c t).symm
    isplitl [HX]; · iexact HX
    isplitl [HY]; · iexact HY
    iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves7_of m c t d7); iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-- The scratch buffers at launch, and given back at the end. -/
theorem scr_in (c : Dev nD) : (Pipeline.ΦA spec0 c : sProp (𝕄 F)) ⊢ (dats m 0 c).Φ 0 := by
  rw [show (dats m 0 c).Φ 0 = Scr m c 0 from rfl]
  unfold Pipeline.ΦA Scr
  rw [scopedRest0_eq]
  iintro ⟨⟨⟨%f, HX⟩, ⟨%g, HY⟩⟩, HP⟩
  iexists f
  iexists g
  isplitr
  · ipureintro; exact fun h => absurd rfl h
  rw [owns_whole, owns_whole]
  isplitl [HX]; · iexact HX
  isplitl [HY]; · iexact HY
  iexact HP

theorem scr_out (c : Dev nD) : (dats m 0 c).Φ (Fin.last cfg0.N) ⊢ (Pipeline.ΦA spec0 c : sProp (𝕄 F)) := by
  rw [show (dats m 0 c).Φ (Fin.last cfg0.N) = Scr m c cfg0.N from rfl]
  unfold Pipeline.ΦA Scr
  rw [scopedRest0_eq]
  simp only [owns_whole]
  iintro ⟨%X, %Y, -, HX, HY, HP⟩
  isplitl [HX HY]
  · isplitl [HX]
    · iexists X; iexact HX
    · iexists Y; iexact HY
  iexact HP

set_option backward.isDefEq.respectTransparency.types false in
/-- The run: the arrays end at the data's contents, every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m)
    (hin := scr_in m) (hout := scr_out m)

end Cert.KernelIdeal.Body

end
-- ==== Proof.KernelIdeal.Frame.lean ====
/- The frame of the kernel: every run ends, nothing faults, the four argument arrays keep their contents and the
   counters are at zero at the end. -/
module

public import proofs.«01_k».proof.Proof.KernelIdeal.Data

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F] [Named F]

/-- From any memory with the counters at zero the program ends with its argument arrays unchanged. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c)))⟩, h.2⟩) (run_main m ρ)

end Cert.KernelIdeal.Body

end
-- ==== Proof.KernelIdeal.Entries.lean ====
/-
  The entries of one block's arithmetic over the extended reals.
-/
module

public import proofs.«01_k».proof.Proof.KernelIdeal.Blocks
public import proofs.«01_k».proof.Proof.KernelIdeal.Init
public import proofs.«01_k».proof.Proof.Common.Tiles
public import Idealize.ShloMosaic.Lib.Pointwise

@[expose] public section

set_option maxRecDepth 16384

noncomputable section

namespace Cert.KernelIdeal.Body

open Idealize.ShloMosaic Idealize.ShloMosaic.TcCoe
open Cert.KernelIdeal Cert.KernelIdeal.Gen Cert.Att

theorem at2_eq {m n : ℕ} (a : Fin m) (b : Fin n) : at2 a b = ix2 a b :=
  funext fun x => match x with | ⟨0, _⟩ => rfl | ⟨1, _⟩ => rfl

theorem qOf_at (q : FVec Ideal S512x128 .f32) (r : Fin 512) (e : Fin 128) :
    qOf q (ix2 r e) = q (ix2 r e) * Ideal.ofBits .f32 0x3DB504F3#32 := by
  pointwise [qOf]

theorem sOf_at (kb : FVec Ideal S512x128 .bf16) (ck : FVec Ideal S1x512 .f32) (q : FVec Ideal S512x128 .f32) (r c : Fin 512) :
    sOf kb ck q (ix2 r c) = (∑ e : Fin 128, q (ix2 r e) * Ideal.ofBits .f32 0x3DB504F3#32 * kb (ix2 c e)) - ck (ix2 0 c) := by
  pointwise [sOf, qOf]

theorem pOf_at (s : FVec Ideal S512x512 .f32) (lse : FVec Ideal S1x512x1 .f32) (r c : Fin 512) :
    pOf s lse (ix2 r c) = Ideal.exp (s (ix2 r c) - lse (ix3 0 r 0)) := by
  pointwise [pOf]

theorem dsOf_at (p : FVec Ideal S512x512 .f32) (vb : FVec Ideal S512x128 .bf16) (d : FVec Ideal S512x128 .f32)
    (del : FVec Ideal S512x1 .f32) (r c : Fin 512) :
    dsOf p vb d del (ix2 r c) = p (ix2 r c) * ((∑ e : Fin 128, d (ix2 r e) * vb (ix2 c e)) - del (ix2 r 0)) := by
  pointwise [dsOf]

theorem accOf_at (a : FVec Ideal S512x128 .f32) (ds : FVec Ideal S512x512 .f32) (kb : FVec Ideal S512x128 .bf16) (r : Fin 512) (e : Fin 128) :
    accOf a ds kb (ix2 r e) = a (ix2 r e) + ∑ c : Fin 512, ds (ix2 r c) * kb (ix2 c e) := by
  pointwise [accOf]

theorem tnOf_at (a : FVec Ideal S512x128 .f32) (p : FVec Ideal S512x512 .f32) (d : FVec Ideal S512x128 .bf16) (c : Fin 512) (e : Fin 128) :
    tnOf a p d (ix2 c e) = a (ix2 c e) + ∑ r : Fin 512, p (ix2 r c) * d (ix2 r e) := by
  pointwise [tnOf]

theorem dckOf_at (a : FVec Ideal S1x512 .f32) (ds : FVec Ideal S512x512 .f32) (c : Fin 512) :
    dckOf a ds (ix2 0 c) = a (ix2 0 c) - ∑ r : Fin 512, ds (ix2 r c) := by
  pointwise [dckOf]

theorem sMask_at (j : Fin 8) (s : FVec Ideal S512x512 .f32) (r c : Fin 512) :
    sMask (BitVec.ofNat 32 j.val) s (ix2 r c) = if c ≤ r then s (ix2 r c) else ⊥ := by
  have hn : (Named.named κ "mask" 0xF149F2CA#32 : Ideal .f32) = ⊥ := IdealRules.named_const.ideal_named_scalar _ _ _ _ rfl
  have hb : IntOp.cmpi CmpIPredicate.sle (IntOp.addi (Scalar.muli (BitVec.ofNat 32 j.val) 512#32) (BitVec.ofNat 32 c.val))
      (IntOp.addi (Scalar.muli (BitVec.ofNat 32 j.val) 512#32) (BitVec.ofNat 32 r.val)) = BitVec.ofBool (decide (c ≤ r)) := by
    have hj := j.isLt
    have hc := c.isLt
    have hr := r.isLt
    have hj' : (Scalar.muli (BitVec.ofNat 32 j.val) 512#32 : BitVec 32) = BitVec.ofNat 32 (512 * j.val) := by
      rw [Nat.mul_comm]; exact (BitVec.ofNat_mul ..).symm
    rw [hj']
    show BitVec.ofBool (BitVec.sle (BitVec.ofNat 32 (512 * j.val) + BitVec.ofNat 32 c.val) (BitVec.ofNat 32 (512 * j.val) + BitVec.ofNat 32 r.val)) = _
    rw [← BitVec.ofNat_add, ← BitVec.ofNat_add, BitVec.sle, BitVec.toInt_eq_toNat_of_lt (by rw [BitVec.toNat_ofNat]; omega),
      BitVec.toInt_eq_toNat_of_lt (by rw [BitVec.toNat_ofNat]; omega), BitVec.toNat_ofNat, BitVec.toNat_ofNat]
    congr 1
    rw [decide_eq_decide, Fin.le_def]
    omega
  pointwise [sMask]
  rw [hb, hn]
  by_cases h : c ≤ r
  · rw [if_pos h, decide_eq_true h]; rfl
  · rw [if_neg h, decide_eq_false h]; rfl

theorem delTile_at (S : St Ideal) (b : Fin 8) (r : Fin 512) :
    delTile S b (ix2 r 0) = ∑ e : Fin 128, rows S.dov b (ix2 r e) * rows S.ov b (ix2 r e) := by
  pointwise [delTile, k0_pay15]

theorem kOf_at (S : St Ideal) : kOf S = S.k := by
  funext y; idx_vars y; pointwise [kOf, k0_pay84]
theorem vOf_at (S : St Ideal) : vOf S = S.v := by
  funext y; idx_vars y; pointwise [vOf, k0_pay85]
theorem ckOf_at (S : St Ideal) (c : Fin 512) : ckOf S (ix2 0 c) = S.ck (ix4 0 0 0 c) := by
  pointwise [ckOf, k0_pay86]

theorem zeros_dk (c : Fin 512) (e : Fin 128) : (zeros (F := Ideal)).1 (ix2 c e) = 0 := by
  pointwise [zeros, k0_pay87]
theorem zeros_dv (c : Fin 512) (e : Fin 128) : (zeros (F := Ideal)).2.1 (ix2 c e) = 0 := by
  pointwise [zeros, k0_pay88]
theorem zeros_dck (c : Fin 512) : (zeros (F := Ideal)).2.2 (ix2 0 c) = 0 := by
  pointwise [zeros, k0_pay89]
theorem pay16_at (r : Fin 512) (e : Fin 128) : k0_pay16 (F := Ideal) (ix2 r e) = 0 := by
  pointwise [k0_pay16]
theorem pay75_at (a : FVec Ideal S512x128 .f32) (r : Fin 512) (e : Fin 128) :
    k0_pay75 (F := Ideal) a (ix2 r e) = ((a (ix2 r e) : EReal) * Ideal.ofBits .f32 0x3DB504F3#32 : EReal) := by
  pointwise [k0_pay75]
theorem pay9_at (a : FVec Ideal S512x128 .f32) (r : Fin 512) (e : Fin 128) : k0_pay9 a (ix2 r e) = a (ix2 r e) := by
  pointwise [k0_pay9]
theorem pay10_at (a : FVec Ideal S512x128 .f32) (r : Fin 512) (e : Fin 128) : k0_pay10 a (ix2 r e) = a (ix2 r e) := by
  pointwise [k0_pay10]
theorem pay11_at (a : FVec Ideal S1x512 .f32) (c : Fin 512) : k0_pay11 a (ix4 0 0 0 c) = a (ix2 0 c) := by
  pointwise [k0_pay11]

end Cert.KernelIdeal.Body

end
-- ==== Proof.Common.Reals.lean ====
/-
  Extended reals that are real numbers: sums, exponentials, logarithms and quotients of them, the largest entry of a
  row some of whose entries are minus infinity, and the two constants the programs name by their bits.
-/
module

public import Idealize.ShloMosaic.Lib.Pointwise
public import Idealize.ShloMosaic.Lib.IdealHost

@[expose] public section

noncomputable section

namespace Cert.Att

open Idealize.ShloMosaic

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The same with the summands equal to reals. -/
theorem sum_eq_coe {ι : Type} [Fintype ι] (g : ι → EReal) (f : ι → ℝ) (h : ∀ i, g i = ((f i : ℝ) : EReal)) :
    ∑ i, g i = ((∑ i, f i : ℝ) : EReal) :=
  (Finset.sum_congr rfl fun i _ => h i).trans (coe_sum _ _)

/-- The scale of the scores: the float nearest to one over the root of 128. -/
def σ : ℝ := 11863283 / 2 ^ 27

theorem ofBits_scale : Ideal.ofBits .f32 0x3DB504F3#32 = ((σ : ℝ) : EReal) := by
  simp [Ideal.ofBits, Ideal.ieee, σ, -EReal.coe_mul]
  norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_one : Ideal.ofBits .f32 0x3F800000#32 = ((1 : ℝ) : EReal) := by
  rw [Ideal.ofBits_one_f32]; rfl

/-- A quotient of reals by a real that is not zero. -/
theorem div_real (x : ℝ) {y : ℝ} (h : y ≠ 0) : Ideal.div (x : EReal) (y : EReal) = ((x / y : ℝ) : EReal) := by
  rw [Ideal.div_coe h, ← EReal.coe_mul]
  congr 1
  field_simp

theorem log_real {x : ℝ} (h : 0 < x) : Ideal.log (x : EReal) = ((Real.log x : ℝ) : EReal) := by
  rw [Ideal.log_coe, if_neg (not_le.mpr h)]

/-- A value below plus infinity in size is real. -/
theorem real_of_abs_lt {x : EReal} (h : max x (-x) < ⊤) : x = ((x.toReal : ℝ) : EReal) := by
  refine (EReal.coe_toReal ?_ ?_).symm
  · rintro rfl; simp at h
  · rintro rfl; simp at h

/-- The largest entry of a row of reals and minus infinities, one entry at least real, is real. -/
theorem fold_max_real {n : ℕ} (s : Fin n → EReal) (a : Fin n → ℝ) (p : Fin n → Prop) [DecidablePred p]
    (h : ∀ c, s c = if p c then ((a c : ℝ) : EReal) else ⊥) (c₀ : Fin n) (h₀ : p c₀) :
    ∃ M : ℝ, Finset.univ.fold max ⊥ s = ((M : ℝ) : EReal) := by
  have e : Finset.univ.fold max ⊥ s = Finset.univ.sup s := rfl
  obtain ⟨i, -, hi⟩ := Finset.exists_mem_eq_sup Finset.univ ⟨c₀, Finset.mem_univ c₀⟩ s
  have hb : ((a c₀ : ℝ) : EReal) ≤ s i := by
    rw [← hi]
    have := Finset.le_sup (f := s) (Finset.mem_univ c₀)
    rwa [h c₀, if_pos h₀] at this
  rw [e, hi, h i]
  rw [h i] at hb
  by_cases hp : p i
  · exact ⟨a i, by rw [if_pos hp]⟩
  · rw [if_neg hp] at hb
    exact absurd (le_bot_iff.mp hb) (EReal.coe_ne_bot _)

/-- The exponential of an entry less a real, an entry that is minus infinity giving zero. -/
theorem exp_sub_real (p : Prop) [Decidable p] (a M : ℝ) :
    Ideal.exp ((if p then ((a : ℝ) : EReal) else ⊥) - ((M : ℝ) : EReal)) = (((if p then Real.exp (a - M) else 0 : ℝ)) : EReal) := by
  by_cases h : p
  · rw [if_pos h, if_pos h, ← EReal.coe_sub, Ideal.exp_coe]
  · rw [if_neg h, if_neg h, EReal.bot_sub, Ideal.exp_bot]; rfl

/-- The signed comparison of two words that are small numbers is the numbers' comparison. -/
theorem cmpi_sle_ofNat {a b : ℕ} (ha : a < 2 ^ 31) (hb : b < 2 ^ 31) :
    IntOp.cmpi CmpIPredicate.sle (BitVec.ofNat 32 a) (BitVec.ofNat 32 b) = BitVec.ofBool (decide (a ≤ b)) := by
  show BitVec.ofBool (BitVec.sle (BitVec.ofNat 32 a) (BitVec.ofNat 32 b)) = _
  rw [BitVec.sle, BitVec.toInt_eq_toNat_of_lt (by rw [BitVec.toNat_ofNat]; omega),
    BitVec.toInt_eq_toNat_of_lt (by rw [BitVec.toNat_ofNat]; omega), BitVec.toNat_ofNat, BitVec.toNat_ofNat]
  congr 1
  rw [decide_eq_decide]
  omega

/-- A choice by a bit that is a proposition's. -/
theorem select_ofBool {α : Type} (p : Prop) [Decidable p] (x y : α) :
    Scalar.select (BitVec.ofBool (decide p)) x y = if p then x else y := by
  by_cases h : p
  · rw [if_pos h, decide_eq_true h]; rfl
  · rw [if_neg h, decide_eq_false h]; rfl

end Cert.Att

end
-- ==== Proof.Common.Head.lean ====
/-
  One head of the causal attention over the reals: its probabilities, its output, its gradients; and what the two
  programs' ways of writing them have in common.
-/
module

public import proofs.«01_k».proof.Proof.Common.Reals

@[expose] public section

noncomputable section

namespace Cert.Att

open Idealize.ShloMosaic

/-- A head's queries, keys, values, the gradient of its output, and its gates. -/
structure Head where
  q : Fin 4096 → Fin 128 → ℝ
  k : Fin 4096 → Fin 128 → ℝ
  v : Fin 4096 → Fin 128 → ℝ
  d : Fin 4096 → Fin 128 → ℝ
  g : Fin 4096 → ℝ

namespace Head

variable (H : Head)

/-- The score of query `r` and key `c`, the key's gate taken off. -/
def s (r c : Fin 4096) : ℝ := (∑ e, H.q r e * H.k c e) * σ - H.g c

/-- Its weight: a later key has none. -/
def w (r c : Fin 4096) : ℝ := if c ≤ r then Real.exp (H.s r c) else 0

/-- A query's sum of weights. -/
def l (r : Fin 4096) : ℝ := ∑ c, H.w r c

/-- The probabilities. -/
def p (r c : Fin 4096) : ℝ := H.w r c / H.l r

/-- The output. -/
def o (r : Fin 4096) (e : Fin 128) : ℝ := ∑ c, H.p r c * H.v c e

/-- The gradient of the probabilities. -/
def dp (r c : Fin 4096) : ℝ := ∑ e, H.d r e * H.v c e

/-- A query's sum of the output's gradient times the output. -/
def del (r : Fin 4096) : ℝ := ∑ e, H.d r e * H.o r e

/-- The gradient of the scores. -/
def ds (r c : Fin 4096) : ℝ := H.p r c * (H.dp r c - H.del r)

/-- The gradients of the queries, keys, values and gates. -/
def dq (r : Fin 4096) (e : Fin 128) : ℝ := (∑ c, H.ds r c * H.k c e) * σ
def dk (c : Fin 4096) (e : Fin 128) : ℝ := ∑ r, H.ds r c * (H.q r e * σ)
def dv (c : Fin 4096) (e : Fin 128) : ℝ := ∑ r, H.p r c * H.d r e
def dg (c : Fin 4096) : ℝ := -∑ r, H.ds r c

theorem w_nonneg (r c : Fin 4096) : 0 ≤ H.w r c := by
  unfold w; split
  · exact (Real.exp_pos _).le
  · exact le_rfl

theorem l_pos (r : Fin 4096) : 0 < H.l r :=
  Finset.sum_pos' (fun c _ => H.w_nonneg r c) ⟨r, Finset.mem_univ r, by rw [w, if_pos le_rfl]; exact Real.exp_pos _⟩

theorem p_later {r c : Fin 4096} (h : r < c) : H.p r c = 0 := by
  rw [p, w, if_neg (not_le.mpr h), zero_div]

theorem ds_later {r c : Fin 4096} (h : r < c) : H.ds r c = 0 := by
  rw [ds, H.p_later h, zero_mul]

/-- A probability is the exponential of the score less the logarithm of the sum. -/
theorem exp_sub_log {r c : Fin 4096} (h : c ≤ r) : Real.exp (H.s r c - Real.log (H.l r)) = H.p r c := by
  rw [Real.exp_sub, Real.exp_log (H.l_pos r), p, w, if_pos h]

theorem sum_p (r : Fin 4096) : ∑ c, H.p r c = 1 := by
  unfold p
  rw [← Finset.sum_div]
  exact div_self (H.l_pos r).ne'

/-- The sum of gradient times output, over the keys. -/
theorem del_eq (r : Fin 4096) : H.del r = ∑ c, H.p r c * H.dp r c := by
  unfold del o dp
  simp only [Finset.mul_sum]
  rw [Finset.sum_comm]
  exact Finset.sum_congr rfl fun c _ => Finset.sum_congr rfl fun e _ => by ring

/-- A query's score gradients sum to zero. -/
theorem sum_ds (r : Fin 4096) : ∑ c, H.ds r c = 0 := by
  unfold ds
  simp only [mul_sub]
  rw [Finset.sum_sub_distrib, ← Finset.sum_mul, H.sum_p, one_mul, H.del_eq, sub_self]

/-- The weights under any positive factor of their own row give the same probabilities. -/
theorem p_scaled (r c : Fin 4096) {a : ℝ} (h : 0 < a) : H.w r c * a / (∑ c', H.w r c' * a) = H.p r c := by
  rw [← Finset.sum_mul, mul_div_mul_right _ _ h.ne']; rfl

/-- The score gradient as the derivative of a quotient: numerator over sum less numerators over its square. -/
theorem ds_scaled (r c : Fin 4096) {a : ℝ} (h : 0 < a) :
    (H.dp r c / (H.l r * a) + -(∑ c', H.dp r c' * (1 / (H.l r * a * (H.l r * a))) * (H.w r c' * a))) * (H.w r c * a) = H.ds r c := by
  have hl := (H.l_pos r).ne'
  have e : ∑ c', H.dp r c' * (1 / (H.l r * a * (H.l r * a))) * (H.w r c' * a) = H.del r / (H.l r * a) := by
    rw [H.del_eq, Finset.sum_div]
    refine Finset.sum_congr rfl fun c' _ => ?_
    unfold p
    field_simp
  rw [e, ds, p]
  field_simp
  ring

end Head

/-- The columns of head `h`, and of its values behind the keys. -/
def hcol (h : Fin 16) (e : Fin 128) : Fin 4096 := ⟨h.val * 128 + e.val, by have := h.isLt; have := e.isLt; omega⟩
def vcol (h : Fin 16) (e : Fin 128) : Fin 4096 := ⟨2048 + (h.val * 128 + e.val), by have := h.isLt; have := e.isLt; omega⟩
def ocol (h : Fin 16) (e : Fin 128) : Fin 2048 := ⟨h.val * 128 + e.val, by have := h.isLt; have := e.isLt; omega⟩

theorem ocol_div (h : Fin 16) (e : Fin 128) (p) : (⟨(ocol h e).val / 128, p⟩ : Fin 16) = h := Fin.ext (by
  show (h.val * 128 + e.val) / 128 = h.val
  have := e.isLt; omega)
theorem ocol_mod (h : Fin 16) (e : Fin 128) (p) : (⟨(ocol h e).val % 128, p⟩ : Fin 128) = e := Fin.ext (by
  show (h.val * 128 + e.val) % 128 = e.val
  have := e.isLt; omega)

theorem ocol_eta (x : Fin 2048) : ocol ⟨x.val / 128, by have := x.isLt; omega⟩ ⟨x.val % 128, Nat.mod_lt _ (by decide)⟩ = x := Fin.ext (by
  show x.val / 128 * 128 + x.val % 128 = x.val
  omega)

/-- Head `h` of the four arguments. -/
def headOf (x0 x1 : (⟨2, ![4096, 4096]⟩ : Shape).Idx → EReal) (x2 : (⟨2, ![16, 4096]⟩ : Shape).Idx → EReal)
    (x3 : (⟨2, ![4096, 2048]⟩ : Shape).Idx → EReal) (h : Fin 16) : Head where
  q r e := (x0 (ix2 r (hcol h e))).toReal
  k c e := (x1 (ix2 c (hcol h e))).toReal
  v c e := (x1 (ix2 c (vcol h e))).toReal
  d r e := (x3 (ix2 r (ocol h e))).toReal
  g c := (x2 (ix2 h c)).toReal

end Cert.Att

end
-- ==== Proof.Common.Sums.lean ====
/-
  Sums over the eight tiles of 512 rows: over the tiles from one on, grown a tile at a time, and over all rows.
-/
module

public import proofs.«01_k».proof.Proof.Common.Tiles
public import proofs.«01_k».proof.Proof.Common.Reals

@[expose] public section

noncomputable section

namespace Cert.Att

open Idealize.ShloMosaic

/-- The sum of `f` over the tiles `j … j + n`. -/
def upto (j : Fin 8) (n : ℕ) (f : Fin 8 → ℝ) : ℝ := ∑ b : Fin 8, if j ≤ b ∧ b.val ≤ j.val + n then f b else 0

theorem upto_zero (j : Fin 8) (f : Fin 8 → ℝ) : upto j 0 f = f j := by
  unfold upto
  rw [Finset.sum_eq_single j]
  · rw [if_pos ⟨le_rfl, by omega⟩]
  · intro b _ hb
    rw [if_neg]
    rintro ⟨h1, h2⟩
    exact hb (Fin.ext (by have := Fin.le_def.mp h1; omega))
  · intro h; exact absurd (Finset.mem_univ j) h

theorem upto_succ (j : Fin 8) (n : ℕ) (h : j.val + 1 + n < 8) (f : Fin 8 → ℝ) :
    upto j (n + 1) f = upto j n f + f ⟨j.val + 1 + n, h⟩ := by
  unfold upto
  rw [← Finset.sum_erase_add _ _ (Finset.mem_univ (⟨j.val + 1 + n, h⟩ : Fin 8)),
    ← Finset.sum_erase_add (Finset.univ) (fun b : Fin 8 => if j ≤ b ∧ b.val ≤ j.val + n then f b else 0) (Finset.mem_univ (⟨j.val + 1 + n, h⟩ : Fin 8)),
    if_pos ⟨Fin.le_def.mpr (by dsimp only; omega), by dsimp only; omega⟩, if_neg (by rintro ⟨-, h2⟩; dsimp only at h2; omega), add_zero]
  congr 1
  refine Finset.sum_congr rfl fun b hb => ?_
  have hne : b.val ≠ j.val + 1 + n := fun e => (Finset.mem_erase.mp hb).1 (Fin.ext e)
  by_cases h1 : j ≤ b ∧ b.val ≤ j.val + n
  · rw [if_pos h1, if_pos ⟨h1.1, by omega⟩]
  · rw [if_neg h1, if_neg (fun h2 => h1 ⟨h2.1, by omega⟩)]

/-- All tiles from `j` on are all tiles, where the earlier ones add nothing. -/
theorem upto_all (j : Fin 8) (f : Fin 8 → ℝ) (h : ∀ b, b < j → f b = 0) : upto j (7 - j.val) f = ∑ b, f b := by
  unfold upto
  refine Finset.sum_congr rfl fun b _ => ?_
  by_cases hb : b < j
  · rw [if_neg (fun e => absurd e.1 (not_le.mpr hb)), h b hb]
  · rw [if_pos ⟨not_lt.mp hb, by have := b.isLt; have := j.isLt; omega⟩]

/-- The rows, tile by tile. -/
theorem sum_rows {α : Type} [AddCommMonoid α] (f : Fin 4096 → α) : ∑ b : Fin 8, ∑ r : Fin 512, f (rowOf b r) = ∑ r, f r := by
  rw [Fin.sum_univ_tiles 8 512 (by norm_num) f]
  exact Finset.sum_congr rfl fun b _ => Finset.sum_congr rfl fun r _ => congrArg f (Fin.ext (by
    show 512 * b.val + r.val = b.val * 512 + r.val; omega))

theorem rowOf_lt {b j : Fin 8} (h : b < j) (r c : Fin 512) : rowOf b r < rowOf j c := by
  have := r.isLt
  have := Fin.lt_def.mp h
  exact Fin.lt_def.mpr (by show 512 * b.val + r.val < 512 * j.val + c.val; omega)

theorem rowOf_le {j : Fin 8} {r c : Fin 512} : rowOf j c ≤ rowOf j r ↔ c ≤ r := by
  rw [Fin.le_def, Fin.le_def]
  show 512 * j.val + c.val ≤ 512 * j.val + r.val ↔ _
  omega

/-- The sum of `f` over the first `n` tiles. -/
def below {α : Type} [AddCommMonoid α] (n : ℕ) (f : Fin 8 → α) : α := ∑ b : Fin 8, if b.val < n then f b else 0

theorem below_zero {α : Type} [AddCommMonoid α] (f : Fin 8 → α) : below 0 f = 0 :=
  Finset.sum_eq_zero fun b _ => if_neg (Nat.not_lt_zero _)

theorem below_succ {α : Type} [AddCommMonoid α] (j : Fin 8) (f : Fin 8 → α) : below (j.val + 1) f = below j.val f + f j := by
  unfold below
  rw [← Finset.sum_erase_add _ _ (Finset.mem_univ j),
    ← Finset.sum_erase_add (Finset.univ) (fun b : Fin 8 => if b.val < j.val then f b else 0) (Finset.mem_univ j),
    if_pos (Nat.lt_succ_self _), if_neg (lt_irrefl _), add_zero]
  congr 1
  refine Finset.sum_congr rfl fun b hb => ?_
  have hne : b.val ≠ j.val := fun e => (Finset.mem_erase.mp hb).1 (Fin.ext e)
  by_cases h1 : b.val < j.val
  · rw [if_pos h1, if_pos (by omega)]
  · rw [if_neg h1, if_neg (by omega)]

theorem below_all {α : Type} [AddCommMonoid α] (f : Fin 8 → α) : below 8 f = ∑ b, f b :=
  Finset.sum_congr rfl fun b _ => if_pos b.isLt

end Cert.Att

end
-- ==== Proof.KernelIdeal.BlockVal.lean ====
/-
  One block's contributions in real numbers: where a state's buffers hold a head's numbers, a block's probabilities and
  score gradients are the head's, and the carried sums are the head's sums over the tiles so far.
-/
module

public import proofs.«01_k».proof.Proof.KernelIdeal.Entries
public import proofs.«01_k».proof.Proof.Common.Head
public import proofs.«01_k».proof.Proof.Common.Sums

@[expose] public section

set_option maxRecDepth 16384

noncomputable section

namespace Cert.KernelIdeal.Body

open Idealize.ShloMosaic Idealize.ShloMosaic.TcCoe
open Cert.KernelIdeal Cert.KernelIdeal.Gen Cert.Att

/-- The operands' buffers hold head `H`, the key block `j`, and the saved output and logarithms of sums. -/
structure Holds (S : St Ideal) (H : Head) (j : Fin 8) : Prop where
  q : ∀ r e, S.q (ix2 r e) = ((H.q r e : ℝ) : EReal)
  k : ∀ c e, S.k (ix2 c e) = ((H.k (rowOf j c) e : ℝ) : EReal)
  v : ∀ c e, S.v (ix2 c e) = ((H.v (rowOf j c) e : ℝ) : EReal)
  d : ∀ r e, S.dov (ix2 r e) = ((H.d r e : ℝ) : EReal)
  o : ∀ r e, S.ov (ix2 r e) = ((H.o r e : ℝ) : EReal)
  lse : ∀ r, S.lse (ix3 0 r 0) = ((Real.log (H.l r) : ℝ) : EReal)
  g : ∀ c, S.ck (ix4 0 0 0 c) = ((H.g (rowOf j c) : ℝ) : EReal)

/-- The column of sums holds the head's. -/
def HoldsDel (S : St Ideal) (H : Head) : Prop := ∀ r, S.del (ix2 r 0) = ((H.del r : ℝ) : EReal)

theorem rows_ix (X : (⟨2, ![4096, 128]⟩ : Shape).Idx → EReal) (b : Fin 8) (r : Fin 512) (e : Fin 128) :
    rows X b (ix2 r e) = X (ix2 (rowOf b r) e) := by
  rw [← at2_eq, rows_at, at2_eq]

theorem col_ix (X : (⟨2, ![4096, 1]⟩ : Shape).Idx → EReal) (b : Fin 8) (r : Fin 512) : col X b (ix2 r 0) = X (ix2 (rowOf b r) 0) := by
  rw [← at2_eq, col_at, at2_eq]

theorem lcol_ix (X : (⟨3, ![1, 4096, 1]⟩ : Shape).Idx → EReal) (b : Fin 8) (r : Fin 512) :
    lcol X b (ix3 0 r 0) = X (ix3 0 (rowOf b r) 0) :=
  congrArg X (funext fun a => Fin.ext (by
    match a with
    | ⟨0, _⟩ => rfl
    | ⟨1, _⟩ => show 512 * b.val + 1 * r.val = 512 * b.val + r.val; omega
    | ⟨2, _⟩ => rfl))

variable {S : St Ideal} {H : Head} {j : Fin 8}

theorem s_val (h : Holds S H j) (b : Fin 8) (r c : Fin 512) :
    sOf (kOf S) (ckOf S) (rows S.q b) (ix2 r c) = ((H.s (rowOf b r) (rowOf j c) : ℝ) : EReal) := by
  rw [sOf_at, kOf_at, ckOf_at, h.g, ofBits_scale,
    sum_eq_coe _ (fun e => H.q (rowOf b r) e * σ * H.k (rowOf j c) e) (fun e => by
      rw [rows_ix, h.q, h.k, ← EReal.coe_mul, ← EReal.coe_mul]), ← EReal.coe_sub]
  congr 1
  unfold Head.s
  rw [Finset.sum_mul]
  congr 1
  exact Finset.sum_congr rfl fun e _ => by ring

/-- Off the diagonal, the keys before the queries. -/
theorem pU_val (h : Holds S H j) {b : Fin 8} (hb : j < b) (r c : Fin 512) :
    pU S b (ix2 r c) = ((H.p (rowOf b r) (rowOf j c) : ℝ) : EReal) := by
  rw [pU, pOf_at, s_val h, lcol_ix, h.lse, ← EReal.coe_sub, Ideal.exp_coe, H.exp_sub_log (rowOf_lt hb c r).le]

/-- On the diagonal. -/
theorem pM_val (h : Holds S H j) (r c : Fin 512) :
    pM S j (ix2 r c) = ((H.p (rowOf j r) (rowOf j c) : ℝ) : EReal) := by
  rw [pM, pOf_at, sMask_at, s_val h, lcol_ix, h.lse, exp_sub_real]
  by_cases hc : c ≤ r
  · rw [if_pos hc, H.exp_sub_log (rowOf_le.mpr hc)]
  · rw [if_neg hc, H.p_later (lt_of_not_ge fun e => hc (rowOf_le.mp e))]

/-- A block's probabilities are the head's. -/
def IsP (H : Head) (j b : Fin 8) (p : FVec Ideal S512x512 .f32) : Prop :=
  ∀ r c, p (ix2 r c) = ((H.p (rowOf b r) (rowOf j c) : ℝ) : EReal)

theorem ds_val (h : Holds S H j) (hd : HoldsDel S H) {b : Fin 8} {p : FVec Ideal S512x512 .f32} (hp : IsP H j b p) (r c : Fin 512) :
    dsOf p (vOf S) (rows S.dov b) (col S.del b) (ix2 r c) = ((H.ds (rowOf b r) (rowOf j c) : ℝ) : EReal) := by
  rw [dsOf_at, vOf_at, col_ix, hd, hp,
    sum_eq_coe _ (fun e => H.d (rowOf b r) e * H.v (rowOf j c) e) (fun e => by rw [rows_ix, h.d, h.v, ← EReal.coe_mul]),
    ← EReal.coe_sub, ← EReal.coe_mul]
  rfl

/-- A tile's sum of output gradient times output. -/
theorem delTile_val (h : Holds S H j) (b : Fin 8) (r : Fin 512) : delTile S b (ix2 r 0) = ((H.del (rowOf b r) : ℝ) : EReal) := by
  rw [delTile_at, sum_eq_coe _ (fun e => H.d (rowOf b r) e * H.o (rowOf b r) e) (fun e => by
    rw [rows_ix, rows_ix, h.d, h.o, ← EReal.coe_mul])]
  rfl

/-! ## What a tile of queries adds -/

def kAdd (H : Head) (j : Fin 8) (c : Fin 512) (e : Fin 128) (b : Fin 8) : ℝ :=
  ∑ r : Fin 512, H.ds (rowOf b r) (rowOf j c) * (H.q (rowOf b r) e * σ)
def vAdd (H : Head) (j : Fin 8) (c : Fin 512) (e : Fin 128) (b : Fin 8) : ℝ :=
  ∑ r : Fin 512, H.p (rowOf b r) (rowOf j c) * H.d (rowOf b r) e
def gAdd (H : Head) (j : Fin 8) (c : Fin 512) (b : Fin 8) : ℝ := ∑ r : Fin 512, H.ds (rowOf b r) (rowOf j c)
/-- What key block `j` adds to a query's row. -/
def qAdd (H : Head) (r : Fin 4096) (e : Fin 128) (j : Fin 8) : ℝ := ∑ c : Fin 512, H.ds r (rowOf j c) * H.k (rowOf j c) e

section blk

variable (h : Holds S H j) (hd : HoldsDel S H) {b : Fin 8} {p : FVec Ideal S512x512 .f32} (hp : IsP H j b p)
  {x : FVec Ideal S4096x128 .f32 × Carry Ideal}

include h hd hp

theorem blk_dk {c : Fin 512} {e : Fin 128} {a : ℝ} (ha : x.2.1 (ix2 c e) = ((a : ℝ) : EReal)) :
    (blk S b p x).2.1 (ix2 c e) = ((a + kAdd H j c e b : ℝ) : EReal) := by
  show tnOf x.2.1 _ _ (ix2 c e) = _
  rw [tnOf_at, ha, sum_eq_coe _ (fun r => H.ds (rowOf b r) (rowOf j c) * (H.q (rowOf b r) e * σ)) (fun r => by
    rw [ds_val h hd hp, qOf_at, rows_ix, h.q, ofBits_scale, ← EReal.coe_mul, ← EReal.coe_mul]), ← EReal.coe_add]
  rfl

theorem blk_dck {c : Fin 512} {a : ℝ} (ha : x.2.2.2 (ix2 0 c) = ((-a : ℝ) : EReal)) :
    (blk S b p x).2.2.2 (ix2 0 c) = ((-(a + gAdd H j c b) : ℝ) : EReal) := by
  show dckOf x.2.2.2 _ (ix2 0 c) = _
  rw [dckOf_at, ha, sum_eq_coe _ (fun r => H.ds (rowOf b r) (rowOf j c)) (fun r => ds_val h hd hp r c), ← EReal.coe_sub]
  congr 1
  rw [neg_add]; rfl

theorem blk_acc_same {r : Fin 512} {e : Fin 128} {a : ℝ} (ha : x.1 (ix2 (rowOf b r) e) = ((a : ℝ) : EReal)) :
    (blk S b p x).1 (ix2 (rowOf b r) e) = ((a + qAdd H (rowOf b r) e j : ℝ) : EReal) := by
  refine (rows_ix _ b r e).symm.trans ?_
  show rows (putRows x.1 b _) b (ix2 r e) = _
  rw [rows_putRows_same, accOf_at, rows_ix, ha, kOf_at,
    sum_eq_coe _ (fun c => H.ds (rowOf b r) (rowOf j c) * H.k (rowOf j c) e) (fun c => by
      rw [ds_val h hd hp, h.k, ← EReal.coe_mul]), ← EReal.coe_add]
  rfl

omit hd in
theorem blk_dv {c : Fin 512} {e : Fin 128} {a : ℝ} (ha : x.2.2.1 (ix2 c e) = ((a : ℝ) : EReal)) :
    (blk S b p x).2.2.1 (ix2 c e) = ((a + vAdd H j c e b : ℝ) : EReal) := by
  show tnOf x.2.2.1 _ _ (ix2 c e) = _
  rw [tnOf_at, ha, sum_eq_coe _ (fun r => H.p (rowOf b r) (rowOf j c) * H.d (rowOf b r) e) (fun r => by
    rw [hp]
    show _ * rows S.dov b (ix2 r e) = _
    rw [rows_ix, h.d, ← EReal.coe_mul]), ← EReal.coe_add]
  rfl

end blk

theorem blk_acc_ne {b b' : Fin 8} (hb : b ≠ b') {p : FVec Ideal S512x512 .f32} {x : FVec Ideal S4096x128 .f32 × Carry Ideal}
    (r : Fin 512) (e : Fin 128) : (blk S b p x).1 (ix2 (rowOf b' r) e) = x.1 (ix2 (rowOf b' r) e) := by
  refine (rows_ix _ b' r e).symm.trans (Eq.trans ?_ (rows_ix _ b' r e))
  exact congrFun (rows_putRows_ne x.1 hb _) _

/-! ## After the diagonal block and the `n` blocks behind it -/

/-- The carried sums are the head's sums over the tiles so far, and the accumulator has the key block's contributions in
    those tiles. -/
structure Sums (H : Head) (j : Fin 8) (A : Fin 4096 → Fin 128 → ℝ) (n : ℕ) (x : FVec Ideal S4096x128 .f32 × Carry Ideal) : Prop where
  acc : ∀ b r e, x.1 (ix2 (rowOf b r) e)
    = ((A (rowOf b r) e + (if j ≤ b ∧ b.val ≤ j.val + n then qAdd H (rowOf b r) e j else 0) : ℝ) : EReal)
  dk : ∀ c e, x.2.1 (ix2 c e) = ((upto j n (kAdd H j c e) : ℝ) : EReal)
  dv : ∀ c e, x.2.2.1 (ix2 c e) = ((upto j n (vAdd H j c e) : ℝ) : EReal)
  dck : ∀ c, x.2.2.2 (ix2 0 c) = ((-upto j n (gAdd H j c) : ℝ) : EReal)

theorem sums_zero (h : Holds S H j) (hd : HoldsDel S H) {A : Fin 4096 → Fin 128 → ℝ}
    (hA : ∀ r e, S.acc (ix2 r e) = ((A r e : ℝ) : EReal)) : Sums H j A 0 (after S j 0) := by
  rw [after_zero]
  have hp : IsP H j j (pM S j) := pM_val h
  refine ⟨fun b r e => ?_, fun c e => ?_, fun c e => ?_, fun c => ?_⟩
  · by_cases hb : j = b
    · subst hb
      rw [if_pos ⟨le_rfl, by omega⟩]
      exact blk_acc_same h hd hp (hA _ _)
    · rw [blk_acc_ne hb, if_neg (fun e => hb (Fin.ext (by have := Fin.le_def.mp e.1; omega))), add_zero]
      exact hA _ _
  · rw [upto_zero, blk_dk (a := 0) h hd hp (zeros_dk c e), zero_add]
  · rw [upto_zero, blk_dv (a := 0) h hp (zeros_dv c e), zero_add]
  · rw [upto_zero, blk_dck (a := 0) h hd hp (by rw [neg_zero]; exact zeros_dck c), zero_add]

theorem sums_succ (h : Holds S H j) (hd : HoldsDel S H) {A : Fin 4096 → Fin 128 → ℝ} {n : ℕ} (hn : j.val + 1 + n < 8)
    (ih : Sums H j A n (after S j n)) : Sums H j A (n + 1) (after S j (n + 1)) := by
  rw [after_succ S j n hn]
  have hj : j < ⟨j.val + 1 + n, hn⟩ := Fin.lt_def.mpr (by dsimp only; omega)
  have hp : IsP H j ⟨j.val + 1 + n, hn⟩ (pU S ⟨j.val + 1 + n, hn⟩) := pU_val h hj
  refine ⟨fun b r e => ?_, fun c e => ?_, fun c e => ?_, fun c => ?_⟩
  · have ha := ih.acc b r e
    by_cases hb : (⟨j.val + 1 + n, hn⟩ : Fin 8) = b
    · subst hb
      rw [if_neg (by rintro ⟨-, h2⟩; dsimp only at h2; omega), add_zero] at ha
      rw [if_pos ⟨hj.le, by dsimp only; omega⟩]
      exact blk_acc_same h hd hp ha
    · rw [blk_acc_ne hb, ha]
      have hne : b.val ≠ j.val + 1 + n := fun e => hb (Fin.ext e.symm)
      by_cases h1 : j ≤ b ∧ b.val ≤ j.val + n
      · rw [if_pos h1, if_pos ⟨h1.1, by omega⟩]
      · rw [if_neg h1, if_neg (fun h2 => h1 ⟨h2.1, by omega⟩)]
  · rw [upto_succ j n hn]; exact blk_dk h hd hp (ih.dk c e)
  · rw [upto_succ j n hn]; exact blk_dv h hp (ih.dv c e)
  · rw [upto_succ j n hn]; exact blk_dck h hd hp (ih.dck c)

theorem sums_after (h : Holds S H j) (hd : HoldsDel S H) {A : Fin 4096 → Fin 128 → ℝ}
    (hA : ∀ r e, S.acc (ix2 r e) = ((A r e : ℝ) : EReal)) : ∀ n : ℕ, j.val + n < 8 → Sums H j A n (after S j n)
  | 0, _ => sums_zero h hd hA
  | n + 1, hn => sums_succ h hd (by omega) (sums_after h hd hA n (by omega))

/-- What all blocks of key block `j` add, in the head's own sums. -/
theorem upto_k (c : Fin 512) (e : Fin 128) : upto j (7 - j.val) (kAdd H j c e) = H.dk (rowOf j c) e := by
  rw [upto_all]
  · exact sum_rows fun r => H.ds r (rowOf j c) * (H.q r e * σ)
  · exact fun b hb => Finset.sum_eq_zero fun r _ => by rw [H.ds_later (rowOf_lt hb r c), zero_mul]

theorem upto_v (c : Fin 512) (e : Fin 128) : upto j (7 - j.val) (vAdd H j c e) = H.dv (rowOf j c) e := by
  rw [upto_all]
  · exact sum_rows fun r => H.p r (rowOf j c) * H.d r e
  · exact fun b hb => Finset.sum_eq_zero fun r _ => by rw [H.p_later (rowOf_lt hb r c), zero_mul]

theorem upto_g (c : Fin 512) : -upto j (7 - j.val) (gAdd H j c) = H.dg (rowOf j c) := by
  rw [upto_all]
  · exact congrArg Neg.neg (sum_rows fun r => H.ds r (rowOf j c))
  · exact fun b hb => Finset.sum_eq_zero fun r _ => H.ds_later (rowOf_lt hb r c)

/-- A key block adds nothing to the tiles before it. -/
theorem acc_last (b : Fin 8) (r : Fin 512) (e : Fin 128) :
    (if j ≤ b ∧ b.val ≤ j.val + (7 - j.val) then qAdd H (rowOf b r) e j else 0) = qAdd H (rowOf b r) e j := by
  by_cases hb : j ≤ b
  · rw [if_pos ⟨hb, by have := b.isLt; have := j.isLt; omega⟩]
  · rw [if_neg (fun h => hb h.1)]
    exact (Finset.sum_eq_zero fun c _ => by rw [H.ds_later (rowOf_lt (not_le.mp hb) r c), zero_mul]).symm

/-- All key blocks' contributions to a query's row. -/
theorem below_q (r : Fin 4096) (e : Fin 128) : below 8 (qAdd H r e) * σ = H.dq r e := by
  rw [below_all]
  exact congrArg (· * σ) (sum_rows fun c => H.ds r c * H.k c e)

end Cert.KernelIdeal.Body

end
-- ==== Proof.KernelIdeal.StepVal.lean ====
/-
  A grid point in real numbers, and the points of a head in order: the accumulator has the key blocks so far, the key
  results are the head's gradients of the point's keys, the query result at the head's last point is the head's.
-/
module

public import proofs.«01_k».proof.Proof.KernelIdeal.BlockVal
public import proofs.«01_k».proof.Proof.KernelIdeal.Data

@[expose] public section

set_option maxRecDepth 16384

noncomputable section

namespace Cert.KernelIdeal.Body

open Idealize.ShloMosaic Idealize.ShloMosaic.TcCoe
open Cert.KernelIdeal Cert.KernelIdeal.Gen Cert.Att

/-- The scratch buffers before key block `n` of head `H`. -/
structure Scratch (X : FVec Ideal S4096x128 .f32) (Y : FVec Ideal S4096x1 .f32) (H : Head) (n : ℕ) : Prop where
  acc : ∀ r e, X (ix2 r e) = ((below n (qAdd H r e) : ℝ) : EReal)
  del : ∀ r, Y (ix2 r 0) = ((H.del r : ℝ) : EReal)

/-- What a grid point leaves. -/
structure Left (S : St Ideal) (H : Head) (j : Fin 8) : Prop where
  scr : Scratch S.acc S.del H (j.val + 1)
  dk : ∀ c e, S.dk (ix2 c e) = ((H.dk (rowOf j c) e : ℝ) : EReal)
  dv : ∀ c e, S.dv (ix2 c e) = ((H.dv (rowOf j c) e : ℝ) : EReal)
  dck : ∀ c, S.dck (ix4 0 0 0 c) = ((H.dg (rowOf j c) : ℝ) : EReal)
  dq : j.val = 7 → ∀ r e, S.dq (ix2 r e) = ((H.dq r e : ℝ) : EReal)

theorem ofRows_ix (f : Fin 8 → (⟨2, ![512, 128]⟩ : Shape).Idx → EReal) (r : Fin 4096) (e : Fin 128) :
    ofRows f (ix2 r e) = f (tileOf r) (ix2 (inTile r) e) := by
  rw [← at2_eq (inTile r) e]; rfl

theorem ofCol_ix (f : Fin 8 → (⟨2, ![512, 1]⟩ : Shape).Idx → EReal) (r : Fin 4096) :
    ofCol f (ix2 r 0) = f (tileOf r) (ix2 (inTile r) 0) := by
  rw [← at2_eq (inTile r) 0]; rfl

/-- The start keeps the operands. -/
theorem start_holds {i : grid0.Coords} {S : St Ideal} {H : Head} {j : Fin 8} (h : Holds S H j) : Holds (start i S) H j := by
  unfold start
  split
  · rw [iniAll_eq]; exact ⟨h.q, h.k, h.v, h.d, h.o, h.lse, h.g⟩
  · exact h

theorem start_scr {i : grid0.Coords} {S : St Ideal} {H : Head} {j : Fin 8} (h : Holds S H j)
    (hs : (i 1).val ≠ 0 → Scratch S.acc S.del H (i 1).val) : Scratch (start i S).acc (start i S).del H (i 1).val := by
  unfold start
  by_cases h0 : (i 1).val = 0
  · rw [if_pos h0, iniAll_eq, h0]
    refine ⟨fun r e => ?_, fun r => ?_⟩
    · show ofRows (fun _ => k0_pay16 (F := Ideal)) (ix2 r e) = _
      rw [ofRows_ix, pay16_at, below_zero]; rfl
    · show ofCol (delTile S) (ix2 r 0) = _
      rw [ofCol_ix, delTile_val h, rowOf_tile]
  · rw [if_neg h0]; exact hs h0

theorem blocks_left {S : St Ideal} {H : Head} {j : Fin 8} (h : Holds S H j) (hs : Scratch S.acc S.del H j.val) :
    Scratch (blocks j S).acc (blocks j S).del H (j.val + 1) ∧ (∀ c e, (blocks j S).dk (ix2 c e) = ((H.dk (rowOf j c) e : ℝ) : EReal))
      ∧ (∀ c e, (blocks j S).dv (ix2 c e) = ((H.dv (rowOf j c) e : ℝ) : EReal))
      ∧ ∀ c, (blocks j S).dck (ix4 0 0 0 c) = ((H.dg (rowOf j c) : ℝ) : EReal) := by
  have hx := sums_after h hs.del hs.acc (7 - j.val) (by have := j.isLt; omega)
  refine ⟨⟨fun r e => ?_, hs.del⟩, fun c e => ?_, fun c e => ?_, fun c => ?_⟩
  · show (after S j (7 - j.val)).1 (ix2 r e) = _
    have ha := hx.acc (tileOf r) (inTile r) e
    rw [acc_last, rowOf_tile] at ha
    rw [ha, below_succ]
  · show k0_pay9 (after S j (7 - j.val)).2.1 (ix2 c e) = _
    rw [pay9_at, hx.dk, upto_k]
  · show k0_pay10 (after S j (7 - j.val)).2.2.1 (ix2 c e) = _
    rw [pay10_at, hx.dv, upto_v]
  · show k0_pay11 (after S j (7 - j.val)).2.2.2 (ix4 0 0 0 c) = _
    rw [pay11_at, hx.dck, upto_g]

theorem step_left (i : grid0.Coords) (S : St Ideal) (H : Head) (h : Holds S H (jOf i))
    (hs : (i 1).val ≠ 0 → Scratch S.acc S.del H (i 1).val) : Left (step i S) H (jOf i) := by
  obtain ⟨b1, b2, b3, b4⟩ := blocks_left (start_holds (i := i) h) (start_scr h hs)
  unfold step
  by_cases h7 : (i 1).val = 7
  · rw [if_pos h7, finAll_eq]
    refine ⟨b1, b2, b3, b4, fun _ r e => ?_⟩
    show ofRows (fun b => k0_pay75 (F := Ideal) (rows (blocks (jOf i) (start i S)).acc b)) (ix2 r e) = _
    rw [ofRows_ix, pay75_at, rows_ix, rowOf_tile, b1.acc, ofBits_scale, ← EReal.coe_mul, ← below_q]
    show ((below ((i 1).val + 1) _ * σ : ℝ) : EReal) = _
    rw [h7]
  · rw [if_neg h7]
    exact ⟨b1, b2, b3, b4, fun e => absurd e h7⟩

variable (m : (ℓ : Loc nD τ sig) → Buf (Elt Ideal) ℓ) (c : Dev nD)

/-- The head and the key block of point `t`. -/
def headAt (t : Fin grid0.N) : Fin 16 := grid0.coords t 0

/-- Every point's blocks are its head's numbers. -/
def Feeds (G : Fin 16 → Head) : Prop := ∀ (t : Fin cfg0.N) (x), Holds (inSt m c t x) (G (headAt t)) (jOf (grid0.coords t))

theorem scr_left {G : Fin 16 → Head} (hf : Feeds m c G) : ∀ (n : ℕ) (hn : n < cfg0.N),
    n % 8 ≠ 0 → Scratch (scr m c n).1 (scr m c n).2 (G (headAt ⟨n, hn⟩)) (n % 8)
  | 0, _, h => absurd rfl h
  | n + 1, hn, h => by
    have hn' : n < cfg0.N := by omega
    have e1 : jOf (grid0.coords ⟨n, hn'⟩) = ⟨n % 8, Nat.mod_lt _ (by decide)⟩ := Fin.ext (coords_val ⟨n, hn'⟩)
    have e2 : headAt ⟨n + 1, hn⟩ = headAt ⟨n, hn'⟩ := Fin.ext ((coords_head ⟨n + 1, hn⟩).trans
      ((by omega : (n + 1) / 8 = n / 8).trans (coords_head ⟨n, hn'⟩).symm))
    have ih := scr_left hf n hn'
    have hl := step_left (grid0.coords ⟨n, hn'⟩) (inSt m c ⟨n, hn'⟩ (scr m c n)) _ (hf ⟨n, hn'⟩ _) (by
      rw [coords_val]; exact ih)
    have hs := hl.scr
    rw [e1] at hs
    rw [scr_succ m c ⟨n, hn'⟩, e2, show (n + 1) % 8 = n % 8 + 1 by omega]
    exact hs

/-- What point `t` leaves. -/
theorem out_left {G : Fin 16 → Head} (hf : Feeds m c G) (t : Fin cfg0.N) :
    Left (outSt m c t) (G (headAt t)) (jOf (grid0.coords t)) :=
  step_left _ _ _ (hf t _) (by rw [coords_val]; exact scr_left m c hf t.val t.isLt)

end Cert.KernelIdeal.Body

end
-- ==== Proof.KernelIdeal.HostVal.lean ====
/-
  What the host hands the launch: the attention's output and the logarithm of each query's sum of weights, each as one
  term of the arguments, and their entries.
-/
module

public import proofs.«01_k».proof.Proof.Gen.KernelIdeal.Frame
public import Idealize.ShloMosaic.Lib.StableHlo.ReadAt
public import Idealize.ShloMosaic.Lib.Pointwise
public import proofs.«01_k».proof.Proof.Common.Head

@[expose] public section

set_option maxRecDepth 16384

noncomputable section

namespace Cert.KernelIdeal.Host

open Idealize.ShloMosaic Idealize.ShloMosaic.TcCoe
open Cert.KernelIdeal Cert.KernelIdeal.Gen Cert.Att

variable (x0 x1 : FVec Ideal S4096x4096 .f32) (x2 : FVec Ideal S16x4096 .f32)

/-- The first half of the columns by heads, and the second. -/
def heads (x : FVec Ideal S4096x4096 .f32) : FVec Ideal S16x4096x128 .f32 :=
  transpose S16x4096x128 [1, 0, 2] (shapeCast S4096x16x128 (extractStridedSlice S4096x2048 ![0, 0] x slices_S4096x4096_S4096x2048_0_0)
    shapeCasts_S4096x2048_S4096x16x128) transposes_S4096x16x128_S16x4096x128_1_0_2
def heads2 (x : FVec Ideal S4096x4096 .f32) : FVec Ideal S16x4096x128 .f32 :=
  transpose S16x4096x128 [1, 0, 2] (shapeCast S4096x16x128 (extractStridedSlice S4096x2048 ![0, 2048] x slices_S4096x4096_S4096x2048_0_2048)
    shapeCasts_S4096x2048_S4096x16x128) transposes_S4096x16x128_S16x4096x128_1_0_2

/-- The masked scores less the keys' gates. -/
def sc : FVec Ideal S16x4096x4096 .f32 :=
  select (broadcastInDim S16x4096x4096 ![1, 2] bcast_S4096x4096_S16x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (subf (mulf (Host.dotGeneral dot_S16x4096x128_S16x4096x128_S16x4096x4096_2_2_1_1_0_0 none (heads x0) (heads x1))
        (broadcastInDim S16x4096x4096 ![] bcast_S_S16x4096x4096 (constant S_ .f32 0x3DB504F3#32)))
      (broadcastInDim S16x4096x4096 ![0, 1, 2] bcast_S16x1x4096_S16x4096x4096_0_1_2 (broadcastInDim S16x1x4096 ![0, 2] bcast_S16x4096_S16x1x4096_0_2 x2)))
    (broadcastInDim S16x4096x4096 ![] bcast_S_S16x4096x4096 (constant S_ .f32 0xFF800000#32))

/-- Each query's largest score. -/
def mx (s : FVec Ideal S16x4096x4096 .f32) : FVec Ideal S16x4096x1 .f32 :=
  broadcastInDim S16x4096x1 ![0, 1] bcast_S16x4096_S16x4096x1_0_1
    (Host.reduce FloatOps.maximumf s (constant S_ .f32 0xFF800000#32) reducesTo_S16x4096x4096_S16x4096_d2 h_S_)

/-- The exponentials. -/
def ex (s : FVec Ideal S16x4096x4096 .f32) (M : FVec Ideal S16x4096x1 .f32) : FVec Ideal S16x4096x4096 .f32 :=
  Host.exp (subf s (broadcastInDim S16x4096x4096 ![0, 1, 2] bcast_S16x4096x1_S16x4096x4096_0_1_2 M))

/-- Each query's sum. -/
def sm (e : FVec Ideal S16x4096x4096 .f32) : FVec Ideal S16x4096x1 .f32 :=
  broadcastInDim S16x4096x1 ![0, 1] bcast_S16x4096_S16x4096x1_0_1
    (Host.reduceAdd e (constant S_ .f32 0x00000000#32) reducesTo_S16x4096x4096_S16x4096_d2 h_S_)

/-- The output, and the logarithm of the sums. -/
def ov (e : FVec Ideal S16x4096x4096 .f32) (l : FVec Ideal S16x4096x1 .f32) (v : FVec Ideal S16x4096x128 .f32) : FVec Ideal S4096x2048 .f32 :=
  shapeCast S4096x2048 (transpose S4096x16x128 [1, 0, 2] (Host.dotGeneral dot_S16x4096x4096_S16x4096x128_S16x4096x128_2_1_1_2_0_0 none
    (Host.divf e (broadcastInDim S16x4096x4096 ![0, 1, 2] bcast_S16x4096x1_S16x4096x4096_0_1_2 l)) v)
    transposes_S16x4096x128_S4096x16x128_1_0_2) shapeCasts_S4096x16x128_S4096x2048
def lse (M l : FVec Ideal S16x4096x1 .f32) : FVec Ideal S16x4096x1 .f32 := addf M (Host.log l)

variable (m : (ℓ : Loc nD τ sig) → Buf (Elt Ideal) ℓ) (c : Dev nD)

abbrev A0 : FVec Ideal S4096x4096 .f32 := m ((c : Thread nD τ).loc main_arg0)
abbrev A1 : FVec Ideal S4096x4096 .f32 := m ((c : Thread nD τ).loc main_arg1)
abbrev A2 : FVec Ideal S16x4096 .f32 := m ((c : Thread nD τ).loc main_arg2)
abbrev A3 : FVec Ideal S4096x2048 .f32 := m ((c : Thread nD τ).loc main_arg3)

def hS : FVec Ideal S16x4096x4096 .f32 := sc (A0 m c) (A1 m c) (A2 m c)
def hM : FVec Ideal S16x4096x1 .f32 := mx (hS m c)
def hE : FVec Ideal S16x4096x4096 .f32 := ex (hS m c) (hM m c)
def hL : FVec Ideal S16x4096x1 .f32 := sm (hE m c)

theorem V_v33 : V m c main_v33 = ov (hE m c) (hL m c) (heads2 (A1 m c)) := by
  unfold V
  after_reads_simp
  rfl

theorem V_v35 : V m c main_v35 = lse (hM m c) (hL m c) := by
  unfold V
  after_reads_simp
  rfl

theorem V_v36 : V m c main_v36 = shapeCast S16x8x1x512 (A2 m c) shapeCasts_S16x4096_S16x8x1x512 := by
  unfold V
  after_reads_simp
  rfl

theorem V_v37 : V m c main_v37 = truncf .bf16 (A1 m c) bitsLt_bf16_f32 := by
  unfold V
  after_reads_simp

/-! ## Their entries -/

theorem heads_at (x : FVec Ideal S4096x4096 .f32) (h : Fin 16) (r : Fin 4096) (e : Fin 128) :
    heads x (ix3 h r e) = x (ix2 r (hcol h e)) := by
  pointwise [heads]
  rfl

theorem heads2_at (x : FVec Ideal S4096x4096 .f32) (h : Fin 16) (r : Fin 4096) (e : Fin 128) :
    heads2 x (ix3 h r e) = x (ix2 r (vcol h e)) := by
  pointwise [heads2]
  rfl

theorem sc_at (h : Fin 16) (r c : Fin 4096) :
    sc x0 x1 x2 (ix3 h r c) = if c ≤ r then (∑ e : Fin 128, heads x0 (ix3 h r e) * heads x1 (ix3 h c e)) * Ideal.ofBits .f32 0x3DB504F3#32 - x2 (ix2 h c) else ⊥ := by
  pointwise [sc]
  rw [cmpi_sle_ofNat (by have := c.isLt; omega) (by have := r.isLt; omega), select_ofBool, ofBits_neg_inf]
  rfl

theorem mx_at (s : FVec Ideal S16x4096x4096 .f32) (h : Fin 16) (r : Fin 4096) :
    mx s (ix3 h r 0) = Finset.univ.fold max ⊥ (fun c : Fin 4096 => s (ix3 h r c)) := by
  pointwise [mx]
  rw [ofBits_neg_inf]

theorem ex_at (s : FVec Ideal S16x4096x4096 .f32) (M : FVec Ideal S16x4096x1 .f32) (h : Fin 16) (r c : Fin 4096) :
    ex s M (ix3 h r c) = Ideal.exp (s (ix3 h r c) - M (ix3 h r 0)) := by
  pointwise [ex]

theorem sm_at (e : FVec Ideal S16x4096x4096 .f32) (h : Fin 16) (r : Fin 4096) :
    sm e (ix3 h r 0) = ∑ c : Fin 4096, e (ix3 h r c) := by
  pointwise [sm]

theorem ov_at (e : FVec Ideal S16x4096x4096 .f32) (l : FVec Ideal S16x4096x1 .f32) (v : FVec Ideal S16x4096x128 .f32)
    (h : Fin 16) (r : Fin 4096) (d : Fin 128) :
    ov e l v (ix2 r (ocol h d)) = ∑ c : Fin 4096, Ideal.div (e (ix3 h r c)) (l (ix3 h r 0)) * v (ix3 h c d) := by
  pointwise [ov]
  simp only [ocol_div, ocol_mod]

theorem lse_at (M l : FVec Ideal S16x4096x1 .f32) (h : Fin 16) (r : Fin 4096) :
    lse M l (ix3 h r 0) = M (ix3 h r 0) + Ideal.log (l (ix3 h r 0)) := by
  pointwise [lse]

/-! ## In real numbers -/

/-- The arguments are real numbers. -/
structure Reals : Prop where
  h0 : ∀ i, A0 m c i = (((A0 m c i).toReal : ℝ) : EReal)
  h1 : ∀ i, A1 m c i = (((A1 m c i).toReal : ℝ) : EReal)
  h2 : ∀ i, A2 m c i = (((A2 m c i).toReal : ℝ) : EReal)
  h3 : ∀ i, A3 m c i = (((A3 m c i).toReal : ℝ) : EReal)

/-- Head `h` of the arguments. -/
def hd (h : Fin 16) : Head := headOf (A0 m c) (A1 m c) (A2 m c) (A3 m c) h

variable {m c} (hr : Reals m c)
include hr

theorem hS_val (h : Fin 16) (r k : Fin 4096) :
    hS m c (ix3 h r k) = if k ≤ r then (((hd m c h).s r k : ℝ) : EReal) else ⊥ := by
  rw [hS, sc_at, sum_eq_coe _ (fun e => (hd m c h).q r e * (hd m c h).k k e) (fun e => by
    rw [heads_at, heads_at, hr.h0, hr.h1, ← EReal.coe_mul]; rfl), ofBits_scale, hr.h2, ← EReal.coe_mul, ← EReal.coe_sub]
  rfl

theorem hM_val (h : Fin 16) (r : Fin 4096) : ∃ M : ℝ, hM m c (ix3 h r 0) = ((M : ℝ) : EReal) := by
  rw [hM, mx_at]
  exact fold_max_real _ _ (fun k => k ≤ r) (fun k => hS_val hr h r k) r le_rfl

/-- The largest score of a query. -/
def top (h : Fin 16) (r : Fin 4096) : ℝ := (hM_val hr h r).choose
theorem top_spec (h : Fin 16) (r : Fin 4096) : hM m c (ix3 h r 0) = ((top hr h r : ℝ) : EReal) := (hM_val hr h r).choose_spec

theorem hE_val (h : Fin 16) (r k : Fin 4096) :
    hE m c (ix3 h r k) = (((hd m c h).w r k * Real.exp (-top hr h r) : ℝ) : EReal) := by
  rw [hE, ex_at, hS_val hr, top_spec hr, exp_sub_real]
  congr 1
  unfold Head.w
  split
  · rw [← Real.exp_add]; rfl
  · rw [zero_mul]

theorem hL_val (h : Fin 16) (r : Fin 4096) :
    hL m c (ix3 h r 0) = ((∑ k, (hd m c h).w r k * Real.exp (-top hr h r) : ℝ) : EReal) := by
  rw [hL, sm_at]
  exact sum_eq_coe _ _ fun k => hE_val hr h r k

theorem hsum_eq (h : Fin 16) (r : Fin 4096) :
    ∑ k, (hd m c h).w r k * Real.exp (-top hr h r) = (hd m c h).l r * Real.exp (-top hr h r) := by
  rw [← Finset.sum_mul]; rfl

theorem hsum_pos (h : Fin 16) (r : Fin 4096) : 0 < ∑ k, (hd m c h).w r k * Real.exp (-top hr h r) := by
  rw [hsum_eq]; exact mul_pos ((hd m c h).l_pos r) (Real.exp_pos _)

theorem o_val (h : Fin 16) (r : Fin 4096) (e : Fin 128) :
    V m c main_v33 (ix2 r (ocol h e)) = (((hd m c h).o r e : ℝ) : EReal) := by
  rw [V_v33]
  refine (ov_at _ _ _ h r e).trans ?_
  refine sum_eq_coe _ (fun k => (hd m c h).p r k * (hd m c h).v k e) fun k => ?_
  rw [hE_val hr, hL_val hr, div_real _ (hsum_pos hr h r).ne', Head.p_scaled _ _ _ (Real.exp_pos _), heads2_at, hr.h1, ← EReal.coe_mul]
  rfl

theorem lse_val (h : Fin 16) (r : Fin 4096) : V m c main_v35 (ix3 h r 0) = ((Real.log ((hd m c h).l r) : ℝ) : EReal) := by
  rw [V_v35]
  refine (lse_at _ _ h r).trans ?_
  rw [top_spec hr, hL_val hr, log_real (hsum_pos hr h r), ← EReal.coe_add, hsum_eq,
    Real.log_mul ((hd m c h).l_pos r).ne' (Real.exp_pos _).ne', Real.log_exp]
  congr 1
  ring

omit hr in
theorem v37_at (i : S4096x4096.Idx) : V m c main_v37 i = A1 m c i := by
  rw [V_v37]
  rfl

omit hr in
theorem v36_at (h : Fin 16) (j : Fin 8) (k : Fin 512) : V m c main_v36 (ix4 h j 0 k) = A2 m c (ix2 h ⟨j.val * 512 + k.val, by have := j.isLt; have := k.isLt; omega⟩) := by
  rw [V_v36]
  pointwise

end Cert.KernelIdeal.Host

end
-- ==== Proof.KernelIdeal.Windows.lean ====
/-
  The blocks the launch's points read: head `h`'s columns of the arguments and of the saved values, key block `j`.
-/
module

public import proofs.«01_k».proof.Proof.KernelIdeal.StepVal
public import proofs.«01_k».proof.Proof.KernelIdeal.HostVal
public import Idealize.ShloMosaic.Lib.Pipeline.ValueKit

@[expose] public section

set_option maxRecDepth 16384

noncomputable section

namespace Cert.KernelIdeal.Body

open Idealize.ShloMosaic Idealize.ShloMosaic.TcCoe
open Cert.KernelIdeal Cert.KernelIdeal.Gen Cert.Att

/-- Where each window's block lies at a point. -/
theorem idx : ∀ t : Fin grid0.N,
    win0_0.index t = ![0, (grid0.coords t 0).val] ∧ win0_1.index t = ![(grid0.coords t 1).val, (grid0.coords t 0).val]
    ∧ win0_2.index t = ![(grid0.coords t 1).val, 16 + (grid0.coords t 0).val] ∧ win0_3.index t = ![0, (grid0.coords t 0).val]
    ∧ win0_4.index t = ![0, (grid0.coords t 0).val] ∧ win0_5.index t = ![(grid0.coords t 0).val, 0, 0]
    ∧ win0_6.index t = ![(grid0.coords t 0).val, (grid0.coords t 1).val, 0, 0] ∧ win0_7.index t = ![0, (grid0.coords t 0).val]
    ∧ win0_8.index t = ![(grid0.coords t 1).val, (grid0.coords t 0).val] ∧ win0_9.index t = ![(grid0.coords t 1).val, (grid0.coords t 0).val]
    ∧ win0_10.index t = ![(grid0.coords t 0).val, (grid0.coords t 1).val, 0, 0] := by decide +kernel

variable (m : (ℓ : Loc nD τ sig) → Buf (Elt Ideal) ℓ) (c : Dev nD) (t : Fin cfg0.N)

/-- A block's entry is the array's. -/
theorem blk_at (w : Fin cfg0.W) (y : ((cfg0.win w).xblock (cfg0.grid.coords t)).Idx) (i) (h : ((cfg0.win w).blk t).view.emb y = i) :
    HEq (iblk m c w t y) (V m c (Pipeline.arrRef spec0 w) i) := by
  subst h
  unfold iblk
  rw [View.read_apply]
  exact cast_heq _ _

theorem q_emb (r : Fin 4096) (e : Fin 128) : ((cfg0.win 0).blk t).view.emb (ix2 r e) = ix2 r (hcol (headAt t) e) := by
  unfold headAt hcol
  blk_ext [idx t]

theorem k_emb (r : Fin 512) (e : Fin 128) :
    ((cfg0.win 1).blk t).view.emb (ix2 r e) = ix2 (rowOf (jOf (grid0.coords t)) r) (hcol (headAt t) e) := by
  unfold headAt hcol rowOf jOf
  blk_ext [idx t]

theorem v_emb (r : Fin 512) (e : Fin 128) :
    ((cfg0.win 2).blk t).view.emb (ix2 r e) = ix2 (rowOf (jOf (grid0.coords t)) r) (vcol (headAt t) e) := by
  unfold headAt vcol rowOf jOf
  blk_ext [idx t]

theorem d_emb (r : Fin 4096) (e : Fin 128) : ((cfg0.win 3).blk t).view.emb (ix2 r e) = ix2 r (ocol (headAt t) e) := by
  unfold headAt ocol
  blk_ext [idx t]

theorem o_emb (r : Fin 4096) (e : Fin 128) : ((cfg0.win 4).blk t).view.emb (ix2 r e) = ix2 r (ocol (headAt t) e) := by
  unfold headAt ocol
  blk_ext [idx t]

theorem lse_emb (r : Fin 4096) : ((cfg0.win 5).blk t).view.emb (ix3 0 r 0) = ix3 (headAt t) r 0 := by
  unfold headAt
  blk_ext [idx t]

theorem g_emb (k : Fin 512) : ((cfg0.win 6).blk t).view.emb (ix4 0 0 0 k) = ix4 (headAt t) (jOf (grid0.coords t)) 0 k := by
  unfold headAt jOf
  blk_ext [idx t]

/-! ## The blocks in real numbers -/

section
variable {m : (ℓ : Loc nD τ sig) → Buf (Elt Ideal) ℓ} {c : Dev nD} (hr : Host.Reals m c) (t : Fin cfg0.N)
include hr

theorem q_val (r : Fin 4096) (e : Fin 128) :
    (iblk m c 0 t : FVec Ideal S4096x128 .f32) (ix2 r e) = (((Host.hd m c (headAt t)).q r e : ℝ) : EReal) := by
  refine Eq.trans (eq_of_heq (blk_at m c t 0 _ _ (q_emb t r e))) ?_
  exact (congrFun (V_main_arg0 m c) _).trans (hr.h0 _)

theorem k_val (r : Fin 512) (e : Fin 128) :
    (iblk m c 1 t : FVec Ideal S512x128 .bf16) (ix2 r e) = (((Host.hd m c (headAt t)).k (rowOf (jOf (grid0.coords t)) r) e : ℝ) : EReal) := by
  refine Eq.trans (eq_of_heq (blk_at m c t 1 _ _ (k_emb t r e))) ?_
  exact (Host.v37_at _).trans (hr.h1 _)

theorem v_val (r : Fin 512) (e : Fin 128) :
    (iblk m c 2 t : FVec Ideal S512x128 .bf16) (ix2 r e) = (((Host.hd m c (headAt t)).v (rowOf (jOf (grid0.coords t)) r) e : ℝ) : EReal) := by
  refine Eq.trans (eq_of_heq (blk_at m c t 2 _ _ (v_emb t r e))) ?_
  exact (Host.v37_at _).trans (hr.h1 _)

theorem d_val (r : Fin 4096) (e : Fin 128) :
    (iblk m c 3 t : FVec Ideal S4096x128 .f32) (ix2 r e) = (((Host.hd m c (headAt t)).d r e : ℝ) : EReal) := by
  refine Eq.trans (eq_of_heq (blk_at m c t 3 _ _ (d_emb t r e))) ?_
  exact (congrFun (V_main_arg3 m c) _).trans (hr.h3 _)

theorem o_val (r : Fin 4096) (e : Fin 128) :
    (iblk m c 4 t : FVec Ideal S4096x128 .f32) (ix2 r e) = (((Host.hd m c (headAt t)).o r e : ℝ) : EReal) := by
  refine Eq.trans (eq_of_heq (blk_at m c t 4 _ _ (o_emb t r e))) ?_
  exact Host.o_val hr _ r e

theorem lse_val (r : Fin 4096) :
    (iblk m c 5 t : FVec Ideal S1x4096x1 .f32) (ix3 0 r 0) = ((Real.log ((Host.hd m c (headAt t)).l r) : ℝ) : EReal) := by
  refine Eq.trans (eq_of_heq (blk_at m c t 5 _ _ (lse_emb t r))) ?_
  exact Host.lse_val hr _ r

theorem g_val (k : Fin 512) :
    (iblk m c 6 t : FVec Ideal S1x1x1x512 .f32) (ix4 0 0 0 k) = (((Host.hd m c (headAt t)).g (rowOf (jOf (grid0.coords t)) k) : ℝ) : EReal) := by
  refine Eq.trans (eq_of_heq (blk_at m c t 6 _ _ (g_emb t k))) ?_
  refine (Host.v36_at _ _ k).trans ?_
  have e : (⟨(jOf (grid0.coords t)).val * 512 + k.val, by have := (jOf (grid0.coords t)).isLt; have := k.isLt; omega⟩ : Fin 4096)
      = rowOf (jOf (grid0.coords t)) k := Fin.ext (by
    show (jOf (grid0.coords t)).val * 512 + k.val = 512 * (jOf (grid0.coords t)).val + k.val
    omega)
  rw [e]
  exact hr.h2 _

end

/-- A state whose operands' buffers are given holds a head where they do. -/
theorem holds_of {S : St Ideal} {H : Head} {j : Fin 8} {q : FVec Ideal S4096x128 .f32} {k v : FVec Ideal S512x128 .bf16}
    {d o : FVec Ideal S4096x128 .f32} {l : FVec Ideal S1x4096x1 .f32} {g : FVec Ideal S1x1x1x512 .f32}
    (eq : S.q = q) (ek : S.k = k) (ev : S.v = v) (ed : S.dov = d) (eo : S.ov = o) (el : S.lse = l) (eg : S.ck = g)
    (hq : ∀ r e, q (ix2 r e) = ((H.q r e : ℝ) : EReal)) (hk : ∀ c e, k (ix2 c e) = ((H.k (rowOf j c) e : ℝ) : EReal))
    (hv : ∀ c e, v (ix2 c e) = ((H.v (rowOf j c) e : ℝ) : EReal)) (hd : ∀ r e, d (ix2 r e) = ((H.d r e : ℝ) : EReal))
    (ho : ∀ r e, o (ix2 r e) = ((H.o r e : ℝ) : EReal)) (hl : ∀ r, l (ix3 0 r 0) = ((Real.log (H.l r) : ℝ) : EReal))
    (hg : ∀ c, g (ix4 0 0 0 c) = ((H.g (rowOf j c) : ℝ) : EReal)) : Holds S H j := by
  subst eq ek ev ed eo el eg
  exact ⟨hq, hk, hv, hd, ho, hl, hg⟩

/-- Every point's blocks are its head's numbers. -/
theorem feeds {m : (ℓ : Loc nD τ sig) → Buf (Elt Ideal) ℓ} {c : Dev nD} (hr : Host.Reals m c) : Feeds m c (Host.hd m c) := by
  intro t x
  refine holds_of (q := iblk m c 0 t) (k := iblk m c 1 t) (v := iblk m c 2 t) (d := iblk m c 3 t) (o := iblk m c 4 t) (l := iblk m c 5 t)
    (g := iblk m c 6 t) ?_ ?_ ?_ ?_ ?_ ?_ ?_ (q_val hr t) (k_val hr t) (v_val hr t) (d_val hr t) (o_val hr t) (lse_val hr t) (g_val hr t)
  all_goals dsimp only [inSt]

end Cert.KernelIdeal.Body

end
-- ==== Proof.KernelIdeal.Results.lean ====
/-
  The four result arrays after the run, in real numbers: the gradients of every head.
-/
module

public import proofs.«01_k».proof.Proof.KernelIdeal.Windows

@[expose] public section

set_option maxRecDepth 16384

noncomputable section

namespace Cert.KernelIdeal.Body

open Idealize.ShloMosaic Idealize.ShloMosaic.TcCoe Idealize.ShloMosaic.Pipeline
open Cert.KernelIdeal Cert.KernelIdeal.Gen Cert.Att

/-- The head of a column of the results, and the column in the head. -/
def colHead (x : Fin 2048) : Fin 16 := ⟨x.val / 128, by have := x.isLt; omega⟩
def inHead (x : Fin 2048) : Fin 128 := ⟨x.val % 128, Nat.mod_lt _ (by decide)⟩

/-- An array of the heads' columns side by side, and a row of gates per head in blocks of 512. -/
def byHead (f : Fin 16 → Fin 4096 → Fin 128 → ℝ) : S4096x2048.Idx → EReal :=
  fun i => ((f (colHead (i 1)) (i 0) (inHead (i 1)) : ℝ) : EReal)
def byBlock (f : Fin 16 → Fin 4096 → ℝ) : S16x8x1x512.Idx → EReal :=
  fun i => ((f (i 0) (rowOf (i 1) (i 3)) : ℝ) : EReal)

theorem byHead_at (f : Fin 16 → Fin 4096 → Fin 128 → ℝ) (r : Fin 4096) (h : Fin 16) (e : Fin 128) :
    byHead f (ix2 r (ocol h e)) = ((f h r e : ℝ) : EReal) := by
  show ((f (colHead (ocol h e)) r (inHead (ocol h e)) : ℝ) : EReal) = _
  unfold colHead inHead
  rw [ocol_div, ocol_mod]

theorem unit_ix4 (y : S1x1x1x512.Idx) : ∃ k : Fin 512, y = ix4 0 0 0 k :=
  ⟨y 3, funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl⟩

variable (t : Fin cfg0.N)

theorem dq_emb (r : Fin 4096) (e : Fin 128) : ((cfg0.win 7).blk t).view.emb (ix2 r e) = ix2 r (ocol (headAt t) e) := by
  unfold headAt ocol
  blk_ext [idx t]

theorem dk_emb (k : Fin 512) (e : Fin 128) :
    ((cfg0.win 8).blk t).view.emb (ix2 k e) = ix2 (rowOf (jOf (grid0.coords t)) k) (ocol (headAt t) e) := by
  unfold headAt ocol rowOf jOf
  blk_ext [idx t]

theorem dv_emb (k : Fin 512) (e : Fin 128) :
    ((cfg0.win 9).blk t).view.emb (ix2 k e) = ix2 (rowOf (jOf (grid0.coords t)) k) (ocol (headAt t) e) := by
  unfold headAt ocol rowOf jOf
  blk_ext [idx t]

theorem dck_emb (k : Fin 512) : ((cfg0.win 10).blk t).view.emb (ix4 0 0 0 k) = ix4 (headAt t) (jOf (grid0.coords t)) 0 k := by
  unfold headAt jOf
  blk_ext [idx t]

variable {m : (ℓ : Loc nD τ sig) → Buf (Elt Ideal) ℓ} {c : Dev nD} (hr : Host.Reals m c)
include hr

theorem out_dq : (dats m 0 c).arrAt 7 cfg0.N = byHead fun h => (Host.hd m c h).dq := by
  refine (dats m 0 c).arrAt_eq_of_covers 7 _ (by decide +kernel) fun t hf y => ?_
  blk_simp
  rw [after0_7]
  obtain ⟨r, e, rfl⟩ : ∃ (r : Fin 4096) (e : Fin 128), y = ix2 r e := ⟨y 0, y 1, (ix2_eta y).symm⟩
  have h7 : (jOf (grid0.coords t)).val = 7 := (coords_val t).trans ((flush0_7 t).mp hf)
  exact ((out_left m c (feeds hr) t).dq h7 r e).trans
    ((byHead_at _ r _ e).symm.trans (congrArg (byHead fun h => (Host.hd m c h).dq) (dq_emb t r e).symm))

theorem out_dk : (dats m 0 c).arrAt 8 cfg0.N = byHead fun h => (Host.hd m c h).dk := by
  refine (dats m 0 c).arrAt_eq_of_covers 8 _ (by decide +kernel) fun t hf y => ?_
  blk_simp
  rw [after0_8]
  obtain ⟨r, e, rfl⟩ : ∃ (r : Fin 512) (e : Fin 128), y = ix2 r e := ⟨y 0, y 1, (ix2_eta y).symm⟩
  exact ((out_left m c (feeds hr) t).dk r e).trans
    ((byHead_at _ _ _ e).symm.trans (congrArg (byHead fun h => (Host.hd m c h).dk) (dk_emb t r e).symm))

theorem out_dv : (dats m 0 c).arrAt 9 cfg0.N = byHead fun h => (Host.hd m c h).dv := by
  refine (dats m 0 c).arrAt_eq_of_covers 9 _ (by decide +kernel) fun t hf y => ?_
  blk_simp
  rw [after0_9]
  obtain ⟨r, e, rfl⟩ : ∃ (r : Fin 512) (e : Fin 128), y = ix2 r e := ⟨y 0, y 1, (ix2_eta y).symm⟩
  exact ((out_left m c (feeds hr) t).dv r e).trans
    ((byHead_at _ _ _ e).symm.trans (congrArg (byHead fun h => (Host.hd m c h).dv) (dv_emb t r e).symm))

theorem out_dck : (dats m 0 c).arrAt 10 cfg0.N = byBlock fun h => (Host.hd m c h).dg := by
  refine (dats m 0 c).arrAt_eq_of_covers 10 _ (by decide +kernel) fun t hf y => ?_
  blk_simp
  rw [after0_10]
  obtain ⟨k, rfl⟩ := unit_ix4 y
  exact ((out_left m c (feeds hr) t).dck k).trans
    ((rfl : _ = byBlock (fun h => (Host.hd m c h).dg) (ix4 (headAt t) (jOf (grid0.coords t)) 0 k)).trans
      (congrArg (byBlock fun h => (Host.hd m c h).dg) (dck_emb t k).symm))

end Cert.KernelIdeal.Body

end
-- ==== Proof.ReferenceIdeal.Entries.lean ====
/-
  The entries of the reference's values: each stage of its gradient at one index, from the stages it reads.
-/
module

public import proofs.«01_k».proof.Proof.Gen.ReferenceIdeal.Read
public import Idealize.ShloMosaic.Lib.Pointwise
public import proofs.«01_k».proof.Proof.Common.Head

@[expose] public section

set_option maxRecDepth 16384

noncomputable section

namespace Cert.ReferenceIdeal.Entries

open Idealize.ShloMosaic
open Cert.ReferenceIdeal Cert.ReferenceIdeal.Gen Cert.ReferenceIdeal.Read Cert.Att

variable (x0 x1 : FVec Ideal S4096x4096 .f32) (x2 : FVec Ideal S16x4096 .f32) (x3 : FVec Ideal S4096x2048 .f32)
variable (h : Fin 16) (r c : Fin 4096) (e : Fin 128)

/-! ## The heads -/

theorem q_at : val_main_v4 (F := Ideal) x0 (ix3 h r e) = x0 (ix2 r (hcol h e)) := by
  pointwise [val_main_v4, val_main_v3, val_main_v0]
  rfl

theorem k_at : val_main_v6 (F := Ideal) x1 (ix3 h r e) = x1 (ix2 r (hcol h e)) := by
  pointwise [val_main_v6, val_main_v5, val_main_v1]
  rfl

theorem v_at : val_main_v52 (F := Ideal) x1 (ix3 h r e) = x1 (ix2 r (vcol h e)) := by
  pointwise [val_main_v52, val_main_v51, val_main_v2]
  rfl

theorem d_at : val_main_v57 (F := Ideal) x3 (ix3 h r e) = x3 (ix2 r (ocol h e)) := by
  pointwise [val_main_v57, val_main_v56]
  rfl

/-! ## The probabilities -/

/-- The masked scores. -/
theorem score_at : val_main_v22_0 (F := Ideal) x0 x1 x2 (ix3 h r c) = if c ≤ r then
      (∑ e : Fin 128, val_main_v4 (F := Ideal) x0 (ix3 h r e) * val_main_v6 (F := Ideal) x1 (ix3 h c e)) * Ideal.ofBits .f32 0x3DB504F3#32
        + x2 (ix2 h r) - x2 (ix2 h c) else ⊥ := by
  pointwise [val_main_v22_0, val_main_v22_1, val_main_v21, val_main_v20, val_main_v19, val_main_v18, val_main_v17, val_main_v16,
    val_main_call0_v2, val_main_call0_v0, val_main_cst_0, val_main_v15, val_main_v14, val_main_v13, val_main_v12, val_main_v11,
    val_main_v10, val_main_v9, val_main_v8, val_main_cst, val_main_v7]
  rw [cmpi_sle_ofNat (by have := c.isLt; omega) (by have := r.isLt; omega), select_ofBool]
  simp only [id, constant, Ideal.ofBits_def, ofBits_neg_inf]
  rfl

/-- The largest entry of a row. -/
theorem largest_at (s : FVec Ideal S16x4096x4096 .f32) :
    Host.reduce FloatOps.maximumf s (constant (F := Ideal) S_ .f32 0xFF800000#32) reducesTo_S16x4096x4096_S16x4096_d2 h_S_ (ix2 h r) =
      Finset.univ.fold max ⊥ (fun c : Fin 4096 => s (ix3 h r c)) := by
  pointwise
  rw [ofBits_neg_inf]

theorem bot_at : val_main_v29 (F := Ideal) (ix2 h r) = ⊥ := by
  pointwise [val_main_v29, val_main_cst_3]
  exact ofBits_neg_inf

/-- A query's largest score. -/
theorem max_at : val_main_v30 (F := Ideal) x0 x1 x2 (ix2 h r) =
    max ⊥ (Finset.univ.fold max ⊥ (fun c : Fin 4096 => val_main_v22_0 (F := Ideal) x0 x1 x2 (ix3 h r c))) := by
  rw [val_main_v30_apply, bot_at, val_main_v23, val_main_cst_1, largest_at]
  rfl

/-- The weights. -/
theorem w_at : val_main_v43 (F := Ideal) x0 x1 x2 (ix3 h r c) =
    Ideal.exp (val_main_v22_0 (F := Ideal) x0 x1 x2 (ix3 h r c) - val_main_v30 (F := Ideal) x0 x1 x2 (ix2 h r)) := by
  pointwise [val_main_v43, val_main_v42, val_main_v41, val_main_v40]

/-- Their sum. -/
theorem l_at : val_main_v45 (F := Ideal) x0 x1 x2 (ix3 h r 0) = ∑ c : Fin 4096, val_main_v43 (F := Ideal) x0 x1 x2 (ix3 h r c) := by
  pointwise [val_main_v45, val_main_v44, val_main_cst_9]

/-- The probabilities. -/
theorem p_at : val_main_v47 (F := Ideal) x0 x1 x2 (ix3 h r c) =
    Ideal.div (val_main_v43 (F := Ideal) x0 x1 x2 (ix3 h r c)) (val_main_v45 (F := Ideal) x0 x1 x2 (ix3 h r 0)) := by
  pointwise [val_main_v47, val_main_v46]

/-! ## Their gradients -/

theorem dp_at : val_main_v60 (F := Ideal) x1 x3 (ix3 h r c) =
    ∑ e : Fin 128, val_main_v57 (F := Ideal) x3 (ix3 h r e) * val_main_v52 (F := Ideal) x1 (ix3 h c e) := by
  pointwise [val_main_v60]

/-- The gradient of the unmasked scores. -/
theorem num_at : val_main_v74 (F := Ideal) x0 x1 x2 x3 (ix3 h r c) =
    (Ideal.div (val_main_v60 (F := Ideal) x1 x3 (ix3 h r c)) (val_main_v45 (F := Ideal) x0 x1 x2 (ix3 h r 0))
      + -(∑ c' : Fin 4096, val_main_v60 (F := Ideal) x1 x3 (ix3 h r c')
          * Ideal.div (Ideal.ofBits .f32 0x3F800000#32) (val_main_v45 (F := Ideal) x0 x1 x2 (ix3 h r 0) * val_main_v45 (F := Ideal) x0 x1 x2 (ix3 h r 0))
          * val_main_v43 (F := Ideal) x0 x1 x2 (ix3 h r c')))
      * val_main_v43 (F := Ideal) x0 x1 x2 (ix3 h r c) := by
  pointwise [val_main_v74, val_main_v73, val_main_v72, val_main_v71, val_main_cst_12, val_main_v70, val_main_v69, val_main_v68,
    val_main_v67, val_main_v66, val_main_cst_11, val_main_v65, val_main_v64, val_main_v63, val_main_v50, val_main_v49, val_main_cst_10,
    val_main_v48]
  simp only [Fin.sum_univ_one]

/-- The gradient of the scores. -/
theorem ds_at : val_main_v75 (F := Ideal) x0 x1 x2 x3 (ix3 h r c) =
    if c ≤ r then val_main_v74 (F := Ideal) x0 x1 x2 x3 (ix3 h r c) else 0 := by
  pointwise [val_main_v75, val_main_v22_1, val_main_v21, val_main_v20, val_main_v19, val_main_v18, val_main_v17, val_main_v16,
    val_main_call1_v0, val_main_call1_cst]
  rw [cmpi_sle_ofNat (by have := c.isLt; omega) (by have := r.isLt; omega), select_ofBool]
  rfl

/-! ## The results -/

theorem dq_at : val_main_v92 (F := Ideal) x0 x1 x2 x3 (ix2 r (ocol h e)) =
    ∑ c : Fin 4096, (val_main_v75 (F := Ideal) x0 x1 x2 x3 (ix3 h r c) * Ideal.ofBits .f32 0x3DB504F3#32) * val_main_v6 (F := Ideal) x1 (ix3 h c e) := by
  pointwise [val_main_v92, val_main_v91, val_main_v90, val_main_v87, val_main_v85, val_main_v84, val_main_cst_17]
  simp only [ocol_div, ocol_mod]

theorem dk_at : val_main_v93 (F := Ideal) x0 x1 x2 x3 (ix2 c (ocol h e)) =
    ∑ r : Fin 4096, (val_main_v75 (F := Ideal) x0 x1 x2 x3 (ix3 h r c) * Ideal.ofBits .f32 0x3DB504F3#32) * val_main_v4 (F := Ideal) x0 (ix3 h r e) := by
  pointwise [val_main_v93, val_main_v89, val_main_v88, val_main_v86, val_main_v85, val_main_v84, val_main_cst_17]
  simp only [ocol_div, ocol_mod]

theorem dv_at : val_main_v94 (F := Ideal) x0 x1 x2 x3 (ix2 c (ocol h e)) =
    ∑ r : Fin 4096, val_main_v57 (F := Ideal) x3 (ix3 h r e) * val_main_v47 (F := Ideal) x0 x1 x2 (ix3 h r c) := by
  pointwise [val_main_v94, val_main_v62, val_main_v61, val_main_v59, val_main_v58]
  simp only [ocol_div, ocol_mod]

theorem dg_at : val_main_v83 (F := Ideal) x0 x1 x2 x3 (ix2 h c) =
    (∑ r : Fin 4096, -val_main_v75 (F := Ideal) x0 x1 x2 x3 (ix3 h r c)) + ∑ c' : Fin 4096, val_main_v75 (F := Ideal) x0 x1 x2 x3 (ix3 h c c') := by
  pointwise [val_main_v83, val_main_v82, val_main_cst_16, val_main_v81, val_main_v80, val_main_cst_15, val_main_v79, val_main_cst_14,
    val_main_v78, val_main_v77, val_main_cst_13, val_main_v76]
  simp only [Fin.sum_univ_one]

theorem dg_at' (j : Fin 8) (k : Fin 512) : val_main_v95 (F := Ideal) x0 x1 x2 x3 (ix4 h j 0 k) =
    val_main_v83 (F := Ideal) x0 x1 x2 x3 (ix2 h ⟨j.val * 512 + k.val, by have := j.isLt; have := k.isLt; omega⟩) := by
  pointwise [val_main_v95]

end Cert.ReferenceIdeal.Entries

end
-- ==== Proof.ReferenceIdeal.Values.lean ====
/-
  The reference's results in real numbers: on arguments that are real, its four gradients are those of the attention's
  heads.
-/
module

public import proofs.«01_k».proof.Proof.ReferenceIdeal.Entries
public import proofs.«01_k».proof.Proof.Common.Sums

@[expose] public section

set_option maxRecDepth 16384

noncomputable section

namespace Cert.ReferenceIdeal.Values

open Idealize.ShloMosaic
open Cert.ReferenceIdeal Cert.ReferenceIdeal.Gen Cert.ReferenceIdeal.Read Cert.ReferenceIdeal.Entries Cert.Att

variable {x0 x1 : FVec Ideal S4096x4096 .f32} {x2 : FVec Ideal S16x4096 .f32} {x3 : FVec Ideal S4096x2048 .f32}
variable (h0 : ∀ i, x0 i = (((x0 i).toReal : ℝ) : EReal)) (h1 : ∀ i, x1 i = (((x1 i).toReal : ℝ) : EReal))
variable (h2 : ∀ i, x2 i = (((x2 i).toReal : ℝ) : EReal)) (h3 : ∀ i, x3 i = (((x3 i).toReal : ℝ) : EReal))

local notation "H" => headOf x0 x1 x2 x3

section
include h0 h1 h2

/-- The masked scores, the query's own gate still in. -/
theorem score_val (h : Fin 16) (r c : Fin 4096) : val_main_v22_0 (F := Ideal) x0 x1 x2 (ix3 h r c) =
    if c ≤ r then (((H h).s r c + (H h).g r : ℝ) : EReal) else ⊥ := by
  rw [score_at, sum_eq_coe _ (fun e => (H h).q r e * (H h).k c e) (fun e => by
    rw [q_at, k_at, h0, h1, ← EReal.coe_mul]; rfl), ofBits_scale, h2 (ix2 h r), h2 (ix2 h c), ← EReal.coe_mul, ← EReal.coe_add, ← EReal.coe_sub]
  have e : (∑ e, (H h).q r e * (H h).k c e) * σ + (x2 (ix2 h r)).toReal - (x2 (ix2 h c)).toReal = (H h).s r c + (H h).g r := by
    show _ = (∑ e, (H h).q r e * (H h).k c e) * σ - (x2 (ix2 h c)).toReal + (x2 (ix2 h r)).toReal
    ring
  rw [e]

theorem max_val (x3 : FVec Ideal S4096x2048 .f32) (h : Fin 16) (r : Fin 4096) : ∃ M : ℝ, val_main_v30 (F := Ideal) x0 x1 x2 (ix2 h r) = ((M : ℝ) : EReal) := by
  obtain ⟨M, hM⟩ := fold_max_real _ _ (fun c => c ≤ r) (fun c => score_val h0 h1 h2 (x3 := x3) h r c) r le_rfl
  exact ⟨M, by rw [max_at, hM]; exact max_eq_right bot_le⟩

/-- The factor of a query's weights. -/
theorem factor (h : Fin 16) (r : Fin 4096) : ∃ a : ℝ, 0 < a ∧
    (∀ c, val_main_v43 (F := Ideal) x0 x1 x2 (ix3 h r c) = (((H h).w r c * a : ℝ) : EReal))
    ∧ val_main_v45 (F := Ideal) x0 x1 x2 (ix3 h r 0) = (((H h).l r * a : ℝ) : EReal) := by
  obtain ⟨M, hM⟩ := max_val h0 h1 h2 x3 h r
  have hw : ∀ c, val_main_v43 (F := Ideal) x0 x1 x2 (ix3 h r c) = (((H h).w r c * Real.exp ((H h).g r - M) : ℝ) : EReal) := fun c => by
    rw [w_at, score_val h0 h1 h2 (x3 := x3), hM, exp_sub_real]
    refine congrArg (fun x : ℝ => (x : EReal)) ?_
    unfold Head.w
    split
    · rw [← Real.exp_add, add_sub_assoc]
    · rw [zero_mul]
  refine ⟨_, Real.exp_pos _, hw, ?_⟩
  rw [l_at, sum_eq_coe _ _ hw, ← Finset.sum_mul]
  rfl

theorem p_val (h : Fin 16) (r c : Fin 4096) : val_main_v47 (F := Ideal) x0 x1 x2 (ix3 h r c) = (((H h).p r c : ℝ) : EReal) := by
  obtain ⟨a, ha, hw, hl⟩ := factor h0 h1 h2 (x3 := x3) h r
  rw [p_at, hw, hl, div_real _ (mul_pos ((H h).l_pos r) ha).ne', mul_div_mul_right _ _ ha.ne']
  rfl

end

include h0 h1 h2 h3

omit h0 h2 in
theorem dp_val (h : Fin 16) (r c : Fin 4096) : val_main_v60 (F := Ideal) x1 x3 (ix3 h r c) = (((H h).dp r c : ℝ) : EReal) := by
  rw [dp_at]
  exact sum_eq_coe _ _ fun e => by rw [d_at, v_at, h1, h3, ← EReal.coe_mul]; rfl

/-- The gradient of the scores. -/
theorem ds_val (h : Fin 16) (r c : Fin 4096) : val_main_v75 (F := Ideal) x0 x1 x2 x3 (ix3 h r c) = (((H h).ds r c : ℝ) : EReal) := by
  obtain ⟨a, ha, hw, hl⟩ := factor h0 h1 h2 (x3 := x3) h r
  have hla := (mul_pos ((H h).l_pos r) ha).ne'
  rw [ds_at]
  split
  · rw [num_at, hw, hl, dp_val h1 h3 (x0 := x0) (x2 := x2), ofBits_one, ← EReal.coe_mul, div_real _ hla, div_real _ (mul_ne_zero hla hla),
      sum_eq_coe _ _ (fun c' => by rw [dp_val h1 h3 (x0 := x0) (x2 := x2), hw, ← EReal.coe_mul, ← EReal.coe_mul]),
      ← EReal.coe_neg, ← EReal.coe_add, ← EReal.coe_mul, Head.ds_scaled _ _ _ ha]
  · rename_i hc
    rw [(H h).ds_later (not_le.mp hc)]; rfl

theorem dq_val (h : Fin 16) (r : Fin 4096) (e : Fin 128) :
    val_main_v92 (F := Ideal) x0 x1 x2 x3 (ix2 r (ocol h e)) = (((H h).dq r e : ℝ) : EReal) := by
  rw [dq_at, sum_eq_coe _ (fun c => (H h).ds r c * σ * (H h).k c e) fun c => by
    rw [ds_val h0 h1 h2 h3, ofBits_scale, k_at, h1, ← EReal.coe_mul, ← EReal.coe_mul]; rfl]
  congr 1
  unfold Head.dq
  rw [Finset.sum_mul]
  exact Finset.sum_congr rfl fun c _ => by ring

theorem dk_val (h : Fin 16) (c : Fin 4096) (e : Fin 128) :
    val_main_v93 (F := Ideal) x0 x1 x2 x3 (ix2 c (ocol h e)) = (((H h).dk c e : ℝ) : EReal) := by
  rw [dk_at, sum_eq_coe _ (fun r => (H h).ds r c * σ * (H h).q r e) fun r => by
    rw [ds_val h0 h1 h2 h3, ofBits_scale, q_at, h0, ← EReal.coe_mul, ← EReal.coe_mul]; rfl]
  congr 1
  unfold Head.dk
  exact Finset.sum_congr rfl fun r _ => by ring

theorem dv_val (h : Fin 16) (c : Fin 4096) (e : Fin 128) :
    val_main_v94 (F := Ideal) x0 x1 x2 x3 (ix2 c (ocol h e)) = (((H h).dv c e : ℝ) : EReal) := by
  rw [dv_at, sum_eq_coe _ (fun r => (H h).d r e * (H h).p r c) fun r => by
    rw [p_val h0 h1 h2 (x3 := x3), d_at, h3, ← EReal.coe_mul]; rfl]
  congr 1
  unfold Head.dv
  exact Finset.sum_congr rfl fun r _ => by ring

theorem dg_val (h : Fin 16) (j : Fin 8) (k : Fin 512) :
    val_main_v95 (F := Ideal) x0 x1 x2 x3 (ix4 h j 0 k) = (((H h).dg (rowOf j k) : ℝ) : EReal) := by
  have er : (⟨j.val * 512 + k.val, by have := j.isLt; have := k.isLt; omega⟩ : Fin 4096) = rowOf j k :=
    Fin.ext (by
      show j.val * 512 + k.val = 512 * j.val + k.val
      omega)
  rw [dg_at', er, dg_at, sum_eq_coe _ (fun r => -(H h).ds r (rowOf j k)) (fun r => by rw [ds_val h0 h1 h2 h3, EReal.coe_neg]),
    sum_eq_coe _ (fun c' => (H h).ds (rowOf j k) c') (fun c' => ds_val h0 h1 h2 h3 h _ _), ← EReal.coe_add, Head.sum_ds, add_zero,
    Finset.sum_neg_distrib]
  rfl

end Cert.ReferenceIdeal.Values

end
-- ==== Proof.Equation.lean ====
/-
  The equation: on finite arguments the kernel's four arrays are the reference's four results.
-/
module

public import proofs.«01_k».proof.Defs
public import proofs.«01_k».proof.Proof.Gen.Pre_finite
public import proofs.«01_k».proof.Proof.KernelIdeal.Frame
public import proofs.«01_k».proof.Proof.KernelIdeal.Results
public import proofs.«01_k».proof.Proof.ReferenceIdeal.Values
public import proofs.«01_k».proof.Proof.Gen.ReferenceIdeal.Run

@[expose] public section

noncomputable section

namespace Cert.Equation

open Idealize.ShloMosaic Idealize.ShloMosaic.TcCoe Idealize.SL Idealize.SL.Sem
open Cert.KernelIdeal Cert.KernelIdeal.Gen Cert.KernelIdeal.Body Cert.Att
open Cert.ReferenceIdeal.Read Cert.ReferenceIdeal.Values

/-- A comparison that came out one is true. -/
theorem lt_of_one {a b : EReal} (h : FloatOps.cmpf (F := Ideal) (φ := .f32) .olt a b = 1#1) : a < b := by
  by_contra hn
  have : FloatOps.cmpf (F := Ideal) (φ := .f32) .olt a b = 0#1 := by
    show BitVec.ofBool (decide (a < b)) = 0#1
    rw [decide_eq_false hn]; rfl
  rw [this] at h
  exact absurd h (by decide)

/-- The arguments of which the predicate is all ones are real numbers. -/
theorem reals (m : (ℓ : Loc nD τ sig) → Buf (Elt Ideal) ℓ) (h : Cert.Pre_KernelIdeal_finite m) (c : Dev nD) : Host.Reals m c := by
  obtain ⟨a0, a1, a2, a3⟩ := h c
  have key : ∀ x : EReal, FloatOps.cmpf (F := Ideal) (φ := .f32) .olt (max x (-x)) (Ideal.ofBits .f32 0x7F800000#32) = 1#1 →
      x = ((x.toReal : ℝ) : EReal) := fun x hx => real_of_abs_lt (by have := lt_of_one hx; rwa [ofBits_inf] at this)
  exact ⟨fun i => key _ (congrFun a0 i), fun i => key _ (congrFun a1 i), fun i => key _ (congrFun a2 i), fun i => key _ (congrFun a3 i)⟩

/-- An index of the results by the head of its column. -/
theorem ix_head (i : S4096x2048.Idx) : i = ix2 (i 0) (ocol (colHead (i 1)) (inHead (i 1))) := by
  funext a
  match a with
  | ⟨0, _⟩ => rfl
  | ⟨1, _⟩ => exact (ocol_eta (i 1)).symm

variable {m : (ℓ : Loc nD τ sig) → Buf (Elt Ideal) ℓ} {c : Dev nD} (hr : Host.Reals m c)
include hr

theorem eq_dq : val_main_v92 (F := Ideal) (Host.A0 m c) (Host.A1 m c) (Host.A2 m c) (Host.A3 m c) = byHead fun h => (Host.hd m c h).dq := by
  funext i
  refine (congrArg (val_main_v92 (F := Ideal) (Host.A0 m c) (Host.A1 m c) (Host.A2 m c) (Host.A3 m c)) (ix_head i)).trans ?_
  exact dq_val hr.h0 hr.h1 hr.h2 hr.h3 _ _ _

theorem eq_dk : val_main_v93 (F := Ideal) (Host.A0 m c) (Host.A1 m c) (Host.A2 m c) (Host.A3 m c) = byHead fun h => (Host.hd m c h).dk := by
  funext i
  refine (congrArg (val_main_v93 (F := Ideal) (Host.A0 m c) (Host.A1 m c) (Host.A2 m c) (Host.A3 m c)) (ix_head i)).trans ?_
  exact dk_val hr.h0 hr.h1 hr.h2 hr.h3 _ _ _

theorem eq_dv : val_main_v94 (F := Ideal) (Host.A0 m c) (Host.A1 m c) (Host.A2 m c) (Host.A3 m c) = byHead fun h => (Host.hd m c h).dv := by
  funext i
  refine (congrArg (val_main_v94 (F := Ideal) (Host.A0 m c) (Host.A1 m c) (Host.A2 m c) (Host.A3 m c)) (ix_head i)).trans ?_
  exact dv_val hr.h0 hr.h1 hr.h2 hr.h3 _ _ _

theorem eq_dg : val_main_v95 (F := Ideal) (Host.A0 m c) (Host.A1 m c) (Host.A2 m c) (Host.A3 m c) = byBlock fun h => (Host.hd m c h).dg := by
  funext i
  have e : i = ix4 (i 0) (i 1) 0 (i 3) := funext fun a => match a with
    | ⟨0, _⟩ => rfl
    | ⟨1, _⟩ => rfl
    | ⟨2, _⟩ => Subsingleton.elim (α := Fin 1) _ _
    | ⟨3, _⟩ => rfl
  rw [e]
  exact dg_val hr.h0 hr.h1 hr.h2 hr.h3 _ _ _

omit hr in
/-- The kernel's run ends with those arrays. -/
theorem kernel_run (m : (ℓ : Loc nD τ sig) → Buf (Elt Ideal) ℓ) (ρ : Dev nD → PrngReg) (hr : ∀ c, Host.Reals m c) :
    θ_run defs (onTc (τ := τ) (main (F := Ideal))) ⟨m, fun _ => 0, ρ⟩ (fun r => ∀ c : Dev nD,
      r.2.mem ((c.tc : Thread nD τ).loc main_v38_0) = byHead (fun h => (Host.hd m c h).dq)
      ∧ r.2.mem ((c.tc : Thread nD τ).loc main_v38_1) = byHead (fun h => (Host.hd m c h).dk)
      ∧ r.2.mem ((c.tc : Thread nD τ).loc main_v38_2) = byHead (fun h => (Host.hd m c h).dv)
      ∧ r.2.mem ((c.tc : Thread nD τ).loc main_v38_3) = byBlock (fun h => (Host.hd m c h).dg)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).1 7).trans (out_dq (hr c)), ((h.1 c).1 8).trans (out_dk (hr c)),
      ((h.1 c).1 9).trans (out_dv (hr c)), ((h.1 c).1 10).trans (out_dck (hr c)),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c)))⟩) (run_main m ρ)

omit hr in
/-- From arguments that agree and are finite, both programs end with the same four results and their arguments unchanged. -/
theorem algebraic : Cert.algebraic_KernelIdeal_ReferenceIdeal_pre_finite := by
  intro m g m' g' hpre hagree
  have hr := fun c => reals m hpre c
  refine ⟨fun c => byHead (fun h => (Host.hd m c h).dq), fun c => byHead (fun h => (Host.hd m c h).dk),
    fun c => byHead (fun h => (Host.hd m c h).dv), fun c => byBlock (fun h => (Host.hd m c h).dg), kernel_run m g hr, ?_⟩
  refine (θ_run Cert.ReferenceIdeal.defs _ _).mono (fun r h c => ?_) (Cert.ReferenceIdeal.Value.run (F := Ideal) m' g')
  obtain ⟨a0, a1, a2, a3⟩ := hagree c
  obtain ⟨q, k, v, d, rest⟩ := h c
  have t0 := val_main_v92_eq (F := Ideal) m' c
  have t1 := val_main_v93_eq (F := Ideal) m' c
  have t2 := val_main_v94_eq (F := Ideal) m' c
  have t3 := val_main_v95_eq (F := Ideal) m' c
  rw [a0, a1, a2, a3] at t0 t1 t2 t3
  exact ⟨q.trans (t0.trans (eq_dq (hr c))), k.trans (t1.trans (eq_dk (hr c))), v.trans (t2.trans (eq_dv (hr c))),
    d.trans (t3.trans (eq_dg (hr c))), rest⟩

end Cert.Equation

end
-- ==== Proof.AttFwdIdeal.Offsets.lean ====
/-
  The closed forms of the body's offsets and branch conditions. At grid point `(h, j)` the body takes the key blocks
  before the diagonal in pairs, then, when `j` is odd, block `j - 1`, and last block `j` under the mask.
-/
module

public import proofs.«01_k».proof.Proof.Gen.AttFwdIdeal
public import proofs.«01_k».proof.Proof.Gen.AttFwdIdeal.Skeleton

@[expose] public section

noncomputable section

namespace Cert.AttFwdIdeal.Body

open Idealize.ShloMosaic Cert.AttFwdIdeal Cert.AttFwdIdeal.Gen

theorem cond1_iff : ∀ i : grid0.Coords, k0_cond1 i = 1#1 ↔ (i 1).val % 2 = 1 := by decide +kernel
theorem trips1 : ∀ i : grid0.Coords, (k0_t1_loop i).trips = (i 1).val / 2 := by decide +kernel
theorem trips2 : ∀ i : grid0.Coords, (k0_t2_loop i).trips = 0 := by decide +kernel
theorem off1_eq : ∀ (i : grid0.Coords) (k : Fin (k0_t1_loop i).trips), k0_off1 i k = ![512 * (2 * k.val), 0] := by decide +kernel
theorem off2_eq : ∀ (i : grid0.Coords) (k : Fin (k0_t1_loop i).trips), k0_off2 i k = ![0, 2 * k.val, 0, 0] := by decide +kernel
theorem off3_eq : ∀ (i : grid0.Coords) (k : Fin (k0_t1_loop i).trips), k0_off3 i k = ![512 * (2 * k.val + 1), 0] := by decide +kernel
theorem off4_eq : ∀ (i : grid0.Coords) (k : Fin (k0_t1_loop i).trips), k0_off4 i k = ![0, 2 * k.val + 1, 0, 0] := by decide +kernel
theorem off9_eq : ∀ i : grid0.Coords, k0_cond1 i = 1#1 → k0_off9 i = ![512 * ((i 1).val - 1), 0] := by decide +kernel
theorem off10_eq : ∀ i : grid0.Coords, k0_cond1 i = 1#1 → k0_off10 i = ![0, (i 1).val - 1, 0, 0] := by decide +kernel
theorem off11_eq : ∀ i : grid0.Coords, k0_off11 i = ![512 * (i 1).val, 0] := by decide +kernel
theorem off12_eq : ∀ i : grid0.Coords, k0_off12 i = ![0, (i 1).val, 0, 0] := by decide +kernel
theorem off13_eq : ∀ i : grid0.Coords, k0_off13 i = ![512 * (i 1).val, 0] := by decide +kernel
theorem off14_eq : ∀ i : grid0.Coords, k0_off14 i = ![0, (i 1).val, 0, 0] := by decide +kernel
theorem pair_lt : ∀ (i : grid0.Coords) (k : Fin (k0_t1_loop i).trips), 2 * k.val + 1 < 8 := by decide +kernel

theorem col_lt : ∀ i : grid0.Coords, (i 1).val < 8 := by decide +kernel

end Cert.AttFwdIdeal.Body

end
-- ==== Proof.AttFwdIdeal.State.lean ====
/-
  The state of the body: what each of its eight memrefs reads, and the memrefs owned at it, whole and one at a time.
-/
module

public import proofs.«01_k».proof.Proof.Common.Hold
public import proofs.«01_k».proof.Proof.Common.Rows
public import proofs.«01_k».proof.Proof.AttFwdIdeal.Offsets
public import proofs.«01_k».proof.Proof.Gen.AttFwdIdeal.Frame

@[expose] public section

noncomputable section

namespace Cert.AttFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttFwdIdeal Cert.AttFwdIdeal.Gen Cert.Att

variable {F : FTy → Type} [FloatOps F] [Named F]

/-- The algebra of the frame kit. -/
abbrev 𝕄 (F : FTy → Type) := MT nD τ sig Unit (Elt F) ℕ (UR sig nD τ) ℕ
abbrev 𝒱₀ : Variants := Variants.none

/-- The body's memrefs, in the order of its arguments. -/
structure Args where
  a2 : Memref sig .tc .vmem S512x128 .f32
  h2 : a2.IsWhole
  a3 : Memref sig .tc .vmem S512x128 .f32
  h3 : a3.IsWhole
  a4 : Memref sig .tc .vmem S4096x128 .bf16
  h4 : a4.IsWhole
  a5 : Memref sig .tc .vmem S4096x128 .bf16
  h5 : a5.IsWhole
  a6 : Memref sig .tc .vmem S1x8x1x512 .f32
  h6 : a6.IsWhole
  a7 : Memref sig .tc .vmem S512x128 .f32
  h7 : a7.IsWhole
  a8 : Memref sig .tc .vmem S512x128 .bf16
  h8 : a8.IsWhole
  a9 : Memref sig .tc .vmem S1x512x1 .f32
  h9 : a9.IsWhole

/-- What the memrefs read. -/
structure St (F : FTy → Type) where
  q : FVec F S512x128 .f32
  z : FVec F S512x128 .f32
  k : FVec F S4096x128 .bf16
  v : FVec F S4096x128 .bf16
  ck : FVec F S1x8x1x512 .f32
  o : FVec F S512x128 .f32
  og : FVec F S512x128 .bf16
  lse : FVec F S1x512x1 .f32

/-- The memrefs owned whole at a state. -/
def Held (c : Dev nD) (A : Args) (S : St F) : sProp (𝕄 F) :=
  iprop(owns (Val := Elt F) (c : Thread nD τ) A.a2 fullShare S.q
    ∗ owns (Val := Elt F) (c : Thread nD τ) A.a3 fullShare S.z
    ∗ owns (Val := Elt F) (c : Thread nD τ) A.a4 fullShare S.k
    ∗ owns (Val := Elt F) (c : Thread nD τ) A.a5 fullShare S.v
    ∗ owns (Val := Elt F) (c : Thread nD τ) A.a6 fullShare S.ck
    ∗ owns (Val := Elt F) (c : Thread nD τ) A.a7 fullShare S.o
    ∗ owns (Val := Elt F) (c : Thread nD τ) A.a8 fullShare S.og
    ∗ owns (Val := Elt F) (c : Thread nD τ) A.a9 fullShare S.lse)

/-- The memrefs but for `a2`. -/
def But2 (c : Dev nD) (A : Args) (S : St F) : sProp (𝕄 F) :=
  iprop(owns (Val := Elt F) (c : Thread nD τ) A.a3 fullShare S.z
    ∗ owns (Val := Elt F) (c : Thread nD τ) A.a4 fullShare S.k
    ∗ owns (Val := Elt F) (c : Thread nD τ) A.a5 fullShare S.v
    ∗ owns (Val := Elt F) (c : Thread nD τ) A.a6 fullShare S.ck
    ∗ owns (Val := Elt F) (c : Thread nD τ) A.a7 fullShare S.o
    ∗ owns (Val := Elt F) (c : Thread nD τ) A.a8 fullShare S.og
    ∗ owns (Val := Elt F) (c : Thread nD τ) A.a9 fullShare S.lse)

theorem held_2 (c : Dev nD) (A : Args) (S : St F) :
    Held c A S ⊣⊢ iprop(owns (Val := Elt F) (c : Thread nD τ) A.a2 fullShare S.q ∗ But2 c A S) := by
  unfold Held But2
  constructor
  · iintro ⟨H2, H3, H4, H5, H6, H7, H8, H9⟩
    iframe
  · iintro ⟨H2, H3, H4, H5, H6, H7, H8, H9⟩
    iframe

/-- The memrefs but for `a3`. -/
def But3 (c : Dev nD) (A : Args) (S : St F) : sProp (𝕄 F) :=
  iprop(owns (Val := Elt F) (c : Thread nD τ) A.a2 fullShare S.q
    ∗ owns (Val := Elt F) (c : Thread nD τ) A.a4 fullShare S.k
    ∗ owns (Val := Elt F) (c : Thread nD τ) A.a5 fullShare S.v
    ∗ owns (Val := Elt F) (c : Thread nD τ) A.a6 fullShare S.ck
    ∗ owns (Val := Elt F) (c : Thread nD τ) A.a7 fullShare S.o
    ∗ owns (Val := Elt F) (c : Thread nD τ) A.a8 fullShare S.og
    ∗ owns (Val := Elt F) (c : Thread nD τ) A.a9 fullShare S.lse)

theorem held_3 (c : Dev nD) (A : Args) (S : St F) :
    Held c A S ⊣⊢ iprop(owns (Val := Elt F) (c : Thread nD τ) A.a3 fullShare S.z ∗ But3 c A S) := by
  unfold Held But3
  constructor
  · iintro ⟨H2, H3, H4, H5, H6, H7, H8, H9⟩
    iframe
  · iintro ⟨H3, H2, H4, H5, H6, H7, H8, H9⟩
    iframe

/-- The memrefs but for `a4`. -/
def But4 (c : Dev nD) (A : Args) (S : St F) : sProp (𝕄 F) :=
  iprop(owns (Val := Elt F) (c : Thread nD τ) A.a2 fullShare S.q
    ∗ owns (Val := Elt F) (c : Thread nD τ) A.a3 fullShare S.z
    ∗ owns (Val := Elt F) (c : Thread nD τ) A.a5 fullShare S.v
    ∗ owns (Val := Elt F) (c : Thread nD τ) A.a6 fullShare S.ck
    ∗ owns (Val := Elt F) (c : Thread nD τ) A.a7 fullShare S.o
    ∗ owns (Val := Elt F) (c : Thread nD τ) A.a8 fullShare S.og
    ∗ owns (Val := Elt F) (c : Thread nD τ) A.a9 fullShare S.lse)

theorem held_4 (c : Dev nD) (A : Args) (S : St F) :
    Held c A S ⊣⊢ iprop(owns (Val := Elt F) (c : Thread nD τ) A.a4 fullShare S.k ∗ But4 c A S) := by
  unfold Held But4
  constructor
  · iintro ⟨H2, H3, H4, H5, H6, H7, H8, H9⟩
    iframe
  · iintro ⟨H4, H2, H3, H5, H6, H7, H8, H9⟩
    iframe

/-- The memrefs but for `a5`. -/
def But5 (c : Dev nD) (A : Args) (S : St F) : sProp (𝕄 F) :=
  iprop(owns (Val := Elt F) (c : Thread nD τ) A.a2 fullShare S.q
    ∗ owns (Val := Elt F) (c : Thread nD τ) A.a3 fullShare S.z
    ∗ owns (Val := Elt F) (c : Thread nD τ) A.a4 fullShare S.k
    ∗ owns (Val := Elt F) (c : Thread nD τ) A.a6 fullShare S.ck
    ∗ owns (Val := Elt F) (c : Thread nD τ) A.a7 fullShare S.o
    ∗ owns (Val := Elt F) (c : Thread nD τ) A.a8 fullShare S.og
    ∗ owns (Val := Elt F) (c : Thread nD τ) A.a9 fullShare S.lse)

theorem held_5 (c : Dev nD) (A : Args) (S : St F) :
    Held c A S ⊣⊢ iprop(owns (Val := Elt F) (c : Thread nD τ) A.a5 fullShare S.v ∗ But5 c A S) := by
  unfold Held But5
  constructor
  · iintro ⟨H2, H3, H4, H5, H6, H7, H8, H9⟩
    iframe
  · iintro ⟨H5, H2, H3, H4, H6, H7, H8, H9⟩
    iframe

/-- The memrefs but for `a6`. -/
def But6 (c : Dev nD) (A : Args) (S : St F) : sProp (𝕄 F) :=
  iprop(owns (Val := Elt F) (c : Thread nD τ) A.a2 fullShare S.q
    ∗ owns (Val := Elt F) (c : Thread nD τ) A.a3 fullShare S.z
    ∗ owns (Val := Elt F) (c : Thread nD τ) A.a4 fullShare S.k
    ∗ owns (Val := Elt F) (c : Thread nD τ) A.a5 fullShare S.v
    ∗ owns (Val := Elt F) (c : Thread nD τ) A.a7 fullShare S.o
    ∗ owns (Val := Elt F) (c : Thread nD τ) A.a8 fullShare S.og
    ∗ owns (Val := Elt F) (c : Thread nD τ) A.a9 fullShare S.lse)

theorem held_6 (c : Dev nD) (A : Args) (S : St F) :
    Held c A S ⊣⊢ iprop(owns (Val := Elt F) (c : Thread nD τ) A.a6 fullShare S.ck ∗ But6 c A S) := by
  unfold Held But6
  constructor
  · iintro ⟨H2, H3, H4, H5, H6, H7, H8, H9⟩
    iframe
  · iintro ⟨H6, H2, H3, H4, H5, H7, H8, H9⟩
    iframe

/-- The memrefs but for `a7`. -/
def But7 (c : Dev nD) (A : Args) (S : St F) : sProp (𝕄 F) :=
  iprop(owns (Val := Elt F) (c : Thread nD τ) A.a2 fullShare S.q
    ∗ owns (Val := Elt F) (c : Thread nD τ) A.a3 fullShare S.z
    ∗ owns (Val := Elt F) (c : Thread nD τ) A.a4 fullShare S.k
    ∗ owns (Val := Elt F) (c : Thread nD τ) A.a5 fullShare S.v
    ∗ owns (Val := Elt F) (c : Thread nD τ) A.a6 fullShare S.ck
    ∗ owns (Val := Elt F) (c : Thread nD τ) A.a8 fullShare S.og
    ∗ owns (Val := Elt F) (c : Thread nD τ) A.a9 fullShare S.lse)

theorem held_7 (c : Dev nD) (A : Args) (S : St F) :
    Held c A S ⊣⊢ iprop(owns (Val := Elt F) (c : Thread nD τ) A.a7 fullShare S.o ∗ But7 c A S) := by
  unfold Held But7
  constructor
  · iintro ⟨H2, H3, H4, H5, H6, H7, H8, H9⟩
    iframe
  · iintro ⟨H7, H2, H3, H4, H5, H6, H8, H9⟩
    iframe

/-- The memrefs but for `a8`. -/
def But8 (c : Dev nD) (A : Args) (S : St F) : sProp (𝕄 F) :=
  iprop(owns (Val := Elt F) (c : Thread nD τ) A.a2 fullShare S.q
    ∗ owns (Val := Elt F) (c : Thread nD τ) A.a3 fullShare S.z
    ∗ owns (Val := Elt F) (c : Thread nD τ) A.a4 fullShare S.k
    ∗ owns (Val := Elt F) (c : Thread nD τ) A.a5 fullShare S.v
    ∗ owns (Val := Elt F) (c : Thread nD τ) A.a6 fullShare S.ck
    ∗ owns (Val := Elt F) (c : Thread nD τ) A.a7 fullShare S.o
    ∗ owns (Val := Elt F) (c : Thread nD τ) A.a9 fullShare S.lse)

theorem held_8 (c : Dev nD) (A : Args) (S : St F) :
    Held c A S ⊣⊢ iprop(owns (Val := Elt F) (c : Thread nD τ) A.a8 fullShare S.og ∗ But8 c A S) := by
  unfold Held But8
  constructor
  · iintro ⟨H2, H3, H4, H5, H6, H7, H8, H9⟩
    iframe
  · iintro ⟨H8, H2, H3, H4, H5, H6, H7, H9⟩
    iframe

/-- The memrefs but for `a9`. -/
def But9 (c : Dev nD) (A : Args) (S : St F) : sProp (𝕄 F) :=
  iprop(owns (Val := Elt F) (c : Thread nD τ) A.a2 fullShare S.q
    ∗ owns (Val := Elt F) (c : Thread nD τ) A.a3 fullShare S.z
    ∗ owns (Val := Elt F) (c : Thread nD τ) A.a4 fullShare S.k
    ∗ owns (Val := Elt F) (c : Thread nD τ) A.a5 fullShare S.v
    ∗ owns (Val := Elt F) (c : Thread nD τ) A.a6 fullShare S.ck
    ∗ owns (Val := Elt F) (c : Thread nD τ) A.a7 fullShare S.o
    ∗ owns (Val := Elt F) (c : Thread nD τ) A.a8 fullShare S.og)

theorem held_9 (c : Dev nD) (A : Args) (S : St F) :
    Held c A S ⊣⊢ iprop(owns (Val := Elt F) (c : Thread nD τ) A.a9 fullShare S.lse ∗ But9 c A S) := by
  unfold Held But9
  constructor
  · iintro ⟨H2, H3, H4, H5, H6, H7, H8, H9⟩
    iframe
  · iintro ⟨H9, H2, H3, H4, H5, H6, H7, H8⟩
    iframe

end Cert.AttFwdIdeal.Body

end
-- ==== Proof.AttFwdIdeal.Blocks.lean ====
/-
  What one block of 512 keys does to the three values the loop carries: the running maximum of a row's scores, the sum
  of the exponentials under it, and the values' sum under the same exponentials.
-/
module

public import proofs.«01_k».proof.Proof.AttFwdIdeal.State

@[expose] public section

noncomputable section

namespace Cert.AttFwdIdeal.Body

open Idealize.ShloMosaic Cert.AttFwdIdeal Cert.AttFwdIdeal.Gen Cert.Att

variable {F : FTy → Type} [FloatOps F] [Named F]

/-- The running maximum, the sum and the values' sum. -/
abbrev Carry (F : FTy → Type) := FVec F S512x1 .f32 × FVec F S512x1 .f32 × FVec F S512x128 .f32

theorem ck_inb (b : Fin 8) : ∀ a : Fin 4, (![0, b.val, 0, 0] : Fin 4 → ℕ) a + (![1, 1, 1, 512] : Fin 4 → ℕ) a ≤ (![1, 8, 1, 512] : Fin 4 → ℕ) a := by
  have := b.isLt
  intro a
  match a with
  | 0 => show 0 + 1 ≤ 1; omega
  | 1 => show b.val + 1 ≤ 8; omega
  | 2 => show 0 + 1 ≤ 1; omega
  | 3 => show 0 + 512 ≤ 512; omega

/-- The gates of key block `b`. -/
def gate {α : Type} (X : S1x8x1x512.Idx → α) (b : Fin 8) : S1x1x1x512.Idx → α :=
  VecWindow.window X ![0, b.val, 0, 0] ![1, 1, 1, 512] (ck_inb b)

/-- The query tile under the scale. -/
def qOf (q : FVec F S512x128 .f32) : FVec F S512x128 .bf16 :=
  truncf .bf16 (mulf q (broadcast S512x128 (Scalar.ofBits .f32 0x3DB504F3#32))) bitsLt_bf16_f32

/-- The scores of a block less the keys' gates. -/
def sOf (q : FVec F S512x128 .bf16) (kb : FVec F S512x128 .bf16) (ck : FVec F S1x1x1x512 .f32) : FVec F S512x512 .f32 :=
  subf (matmul dot_S512x128_S512x128_S512x512_1_1_0_0_n_n none q (shapeCast S512x128 kb shapeCasts_S512x128_S512x128) (constant S512x512 .f32 0x00000000#32))
    (broadcastTo S512x512 (shapeCast S1x512 ck shapeCasts_S1x1x1x512_S1x512) broadcasts_S1x512_S512x512)

/-- The scores of the block on the diagonal, the later keys masked. -/
def sMask (j : BitVec 32) (s : FVec F S512x512 .f32) : FVec F S512x512 .f32 :=
  select (cmpi .sle (addi (broadcast S512x512 (Scalar.muli j 512#32)) (iota .tc S512x512 32 [1] iota_S512x512_d1_w32))
      (addi (broadcast S512x512 (Scalar.muli j 512#32)) (iota .tc S512x512 32 [0] iota_S512x512_d0_w32)))
    s (broadcast S512x512 (Named.named κ "mask" 0xF149F2CA#32 : F .f32))

/-- The maximum after a block of scores. -/
def mOf (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)

/-- The exponentials of a block's scores less the maximum after it. -/
def pOf (s : FVec F S512x512 .f32) (m : FVec F S512x1 .f32) : FVec F S512x512 .f32 :=
  exp (subf s (broadcastTo S512x512 (mOf s m) broadcasts_S512x1_S512x512))

/-- The factor that takes a sum from the maximum before a block to the maximum after it. -/
def aOf (s : FVec F S512x512 .f32) (m : FVec F S512x1 .f32) : FVec F S512x1 .f32 := exp (subf m (mOf s m))

/-- The sum after a block. -/
def lOf (s : FVec F S512x512 .f32) (m l : FVec F S512x1 .f32) : FVec F S512x1 .f32 :=
  addf (mulf (aOf s m) l)
    (shapeCast S512x1 (multiReduction .add [1] S512 (pOf s m) 0x00000000#32 reduces_S512x512_S512 (.inl rfl) rfl) shapeCasts_S512_S512x1)

/-- A block's exponentials against its values: the part kept by the narrow format and the rest. -/
def hiOf (s : FVec F S512x512 .f32) (m : FVec F S512x1 .f32) (vb : FVec F S512x128 .bf16) : FVec F S512x128 .f32 :=
  matmul dot_S512x512_S512x128_S512x128_1_0_0_1_n_n none (truncf .bf16 (pOf s m) bitsLt_bf16_f32) (shapeCast S512x128 vb shapeCasts_S512x128_S512x128)
    (constant S512x128 .f32 0x00000000#32)
def loOf (s : FVec F S512x512 .f32) (m : FVec F S512x1 .f32) (vb : FVec F S512x128 .bf16) : FVec F S512x128 .f32 :=
  matmul dot_S512x512_S512x128_S512x128_1_0_0_1_n_n none
    (truncf .bf16 (subf (pOf s m) (extf .f32 (truncf .bf16 (pOf s m) bitsLt_bf16_f32) bitsLt_bf16_f32)) bitsLt_bf16_f32)
    (shapeCast S512x128 vb shapeCasts_S512x128_S512x128) (constant S512x128 .f32 0x00000000#32)

/-- The values' sum before a block under the factor. -/
def scOf (s : FVec F S512x512 .f32) (m : FVec F S512x1 .f32) (acc : FVec F S512x128 .f32) : FVec F S512x128 .f32 :=
  mulf (broadcastTo S512x128 (aOf s m) broadcasts_S512x1_S512x128) acc

/-- The carried values after a block of scores `s` and values `vb`. -/
def blk (s : FVec F S512x512 .f32) (vb : FVec F S512x128 .bf16) (x : Carry F) : Carry F :=
  (mOf s x.1, lOf s x.1 x.2.1, addf (scOf s x.1 x.2.2) (addf (hiOf s x.1 vb) (loOf s x.1 vb)))

/-- The scores of key block `b`, before the diagonal, and on it. -/
def sU (S : St F) (b : Fin 8) : FVec F S512x512 .f32 := sOf (qOf S.q) (rows S.k b) (gate S.ck b)
def sM (S : St F) (j : Fin 8) : FVec F S512x512 .f32 := sMask (BitVec.ofNat 32 j.val) (sU S j)

/-- The carried values at the start. -/
def start : Carry F := (k0_pay37, k0_pay38, k0_pay39)

/-- The carried values after the first `n` key blocks. -/
def after (S : St F) : ℕ → Carry F
  | 0 => start
  | n + 1 => if h : n < 8 then blk (sU S ⟨n, h⟩) (rows S.v ⟨n, h⟩) (after S n) else after S n

theorem after_succ (S : St F) (b : Fin 8) : after S (b.val + 1) = blk (sU S b) (rows S.v b) (after S b.val) := by
  rw [after, dif_pos b.isLt]

/-- The carried values after the diagonal block. -/
def last (S : St F) (j : Fin 8) : Carry F := blk (sM S j) (rows S.v j) (after S j.val)

/-- The grid point's row block. -/
def jOf (i : grid0.Coords) : Fin 8 := ⟨(i 1).val, col_lt i⟩

/-- The state after a grid point: the three results stored. -/
def step (i : grid0.Coords) (S : St F) : St F :=
  { S with
    o := k0_pay59 (last S (jOf i)).2.1 (last S (jOf i)).2.2
    og := k0_pay60 (last S (jOf i)).2.1 (last S (jOf i)).2.2 S.z
    lse := k0_pay1 (k0_pay61 (last S (jOf i)).1 (last S (jOf i)).2.1) }

end Cert.AttFwdIdeal.Body

end
-- ==== Proof.AttFwdIdeal.Body.lean ====
/-
  The body run: the loop over the pairs of key blocks, the second loop, which makes no trip, the last one or two
  blocks, and the three stores.
-/
module

public import proofs.«01_k».proof.Proof.AttFwdIdeal.Blocks

@[expose] public section

noncomputable section

namespace Cert.AttFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttFwdIdeal Cert.AttFwdIdeal.Gen Cert.Att

variable {F : FTy → Type} [FloatOps F] [Named F]

variable (c : Dev nD) (A : Args)

/-- The two blocks of a trip. -/
def pA (i : grid0.Coords) (t : Fin (k0_t1_loop i).trips) : Fin 8 := ⟨2 * t.val, Nat.lt_of_succ_lt (pair_lt i t)⟩
def pB (i : grid0.Coords) (t : Fin (k0_t1_loop i).trips) : Fin 8 := ⟨2 * t.val + 1, pair_lt i t⟩

/-- The first block of a trip. -/
theorem part1_run (i : grid0.Coords) (S : St F) (arg1 c0 c1 : BitVec 32) (t : Fin (k0_t1_loop i).trips) (x : Carry F)
    {Q : _ → sProp (𝕄 F)}
    (h : ∀ b : BitVec 32, Held c A S ⊢ Q ⟨b, mOf (sU S (pA i t)) x.1, lOf (sU S (pA i t)) x.1 x.2.1, scOf (sU S (pA i t)) x.1 x.2.2,
      hiOf (sU S (pA i t)) x.1 (rows S.v (pA i t)), loOf (sU S (pA i t)) x.1 (rows S.v (pA i t))⟩) :
    Held c A S ⊢ wp frame (wpE (defs₀ (F := F)) 𝒱₀ (c : Thread nD τ) none) Set.univ
      (k0_part1 (F := F) i A.a2 A.h2 A.a3 A.h3 A.a4 A.h4 A.a5 A.h5 A.a6 A.h6 A.a7 A.h7 A.a8 A.h8 A.a9 A.h9 arg1 (qOf S.q) c0 c1 t x.1 x.2.1 x.2.2) Q := by
  rw [k0_part1_eq_skeleton]
  unfold k0_part1_skel
  refine load_of 𝒱₀ _ none Set.univ (held_4 c A S) (Y := rows S.k (pA i t)) (window_congr _ (off1_eq i t)) ?_
  refine load_of 𝒱₀ _ none Set.univ (held_6 c A S) (Y := gate S.ck (pA i t)) (window_congr _ (off2_eq i t)) ?_
  refine load_of 𝒱₀ _ none Set.univ (held_5 c A S) (Y := rows S.v (pA i t)) (window_congr _ (off1_eq i t)) ?_
  exact (h _).trans (le_wp_ret _ _ _ _ _)

theorem after_pair (S : St F) (i : grid0.Coords) (t : Fin (k0_t1_loop i).trips) :
    after S (2 * (t.val + 1)) = blk (sU S (pB i t)) (rows S.v (pB i t)) (blk (sU S (pA i t)) (rows S.v (pA i t)) (after S (2 * t.val))) := by
  have e := after_succ S (pB i t)
  have e' := after_succ S (pA i t)
  rw [show after S (2 * t.val) = after S (pA i t).val from rfl, ← e', show after S ((pA i t).val + 1) = after S (pB i t).val from rfl, ← e]
  rfl

/-- One trip: the carried values go two blocks on. -/
theorem trip_run (i : grid0.Coords) (S : St F) (arg1 c0 v36 : BitVec 32) (t : Fin (k0_t1_loop i).trips)
    {Q : _ → sProp (𝕄 F)} (h : Held c A S ⊢ Q (after S (2 * (t.val + 1)))) :
    Held c A S ⊢ wp frame (wpE (defs₀ (F := F)) 𝒱₀ (c : Thread nD τ) none) Set.univ
      (k0_t1_body (F := F) i A.a2 A.h2 A.a3 A.h3 A.a4 A.h4 A.a5 A.h5 A.a6 A.h6 A.a7 A.h7 A.a8 A.h8 A.a9 A.h9 arg1 (qOf S.q)
        k0_pay37 k0_pay38 k0_pay39 c0 v36 t (after S (2 * t.val))) Q := by
  unfold k0_t1_body
  rw [wp_bind]
  refine part1_run c A i S _ _ _ t (after S (2 * t.val)) fun b => ?_
  refine load_of 𝒱₀ _ none Set.univ (held_4 c A S) (Y := rows S.k (pB i t)) (window_congr _ (off3_eq i t)) ?_
  refine load_of 𝒱₀ _ none Set.univ (held_6 c A S) (Y := gate S.ck (pB i t)) (window_congr _ (off4_eq i t)) ?_
  refine load_of 𝒱₀ _ none Set.univ (held_5 c A S) (Y := rows S.v (pB i t)) (window_congr _ (off3_eq i t)) ?_
  refine h.trans ?_
  rw [after_pair]
  exact le_wp_ret _ _ _ _ _

/-- The loop: from the start to all the pairs. -/
theorem loop_run (i : grid0.Coords) (S : St F) (arg1 c0 v36 : BitVec 32) {β : Type} {k : _ → Prog _ β} {Q : _ → sProp (𝕄 F)}
    (h : Held c A S ⊢ wp frame (wpE (defs₀ (F := F)) 𝒱₀ (c : Thread nD τ) none) Set.univ (k (after S (2 * ((i 1).val / 2)))) Q) :
    Held c A S ⊢ wp frame (wpE (defs₀ (F := F)) 𝒱₀ (c : Thread nD τ) none) Set.univ
      (Scf.Loop.for (k0_t1_loop i) (k0_t1_ok i) (k0_pay37, k0_pay38, k0_pay39)
        (k0_t1_body (F := F) i A.a2 A.h2 A.a3 A.h3 A.a4 A.h4 A.a5 A.h5 A.a6 A.h6 A.a7 A.h7 A.a8 A.h8 A.a9 A.h9 arg1 (qOf S.q)
          k0_pay37 k0_pay38 k0_pay39 c0 v36) >>= k) Q := by
  have hb := Scf.wp_for_bind frame (wpE (defs₀ (F := F)) 𝒱₀ (c : Thread nD τ) none) Set.univ _ _ _ (k0_t1_ok i) (start (F := F))
    (k0_t1_body (F := F) i A.a2 A.h2 A.a3 A.h3 A.a4 A.h4 A.a5 A.h5 A.a6 A.h6 A.a7 A.h7 A.a8 A.h8 A.a9 A.h9 arg1 (qOf S.q)
      k0_pay37 k0_pay38 k0_pay39 c0 v36)
    (fun n x => iprop(⌜x = after S (2 * n)⌝ ∗ Held c A S))
    (fun t x => by
      iintro ⟨%hx, H⟩
      subst hx
      iapply (trip_run c A i S arg1 c0 v36 t (Q := fun x => iprop(⌜x = after S (2 * (t.val + 1))⌝ ∗ Held c A S)) (by
        iintro H
        isplitr
        · ipureintro; rfl
        · iexact H))
      iexact H) (kk := k) (Q := Q)
  iintro H
  iapply hb $$ [H]
  · isplitr
    · ipureintro; rfl
    · iexact H
  iintro %x ⟨%hx, H⟩
  subst hx
  have e : 2 * (k0_t1_loop i).trips = 2 * ((i 1).val / 2) := by rw [trips1]
  rw [e]
  iapply h
  iexact H

/-- The second loop makes no trip. -/
theorem loop2_run (i : grid0.Coords) (S : St F) (v3 : FVec F S512x128 .bf16) (v4 v5 : FVec F S512x1 .f32) (v6 : FVec F S512x128 .f32) (arg1 c0 v36 v40 : BitVec 32) (x : Carry F)
    {β : Type} {k : _ → Prog _ β} {Q : _ → sProp (𝕄 F)}
    (h : Held c A S ⊢ wp frame (wpE (defs₀ (F := F)) 𝒱₀ (c : Thread nD τ) none) Set.univ (k x) Q) :
    Held c A S ⊢ wp frame (wpE (defs₀ (F := F)) 𝒱₀ (c : Thread nD τ) none) Set.univ
      (Scf.Loop.for (k0_t2_loop i) (k0_t2_ok i) x (k0_t2_body (F := F) i A.a2 A.h2 A.a3 A.h3 A.a4 A.h4 A.a5 A.h5 A.a6 A.h6 A.a7 A.h7 A.a8 A.h8 A.a9 A.h9 arg1 v3 v4 v5 v6 c0 v36 v40) >>= k) Q := by
  have hb := Scf.wp_for_bind frame (wpE (defs₀ (F := F)) 𝒱₀ (c : Thread nD τ) none) Set.univ _ _ _ (k0_t2_ok i) x
    (k0_t2_body (F := F) i A.a2 A.h2 A.a3 A.h3 A.a4 A.h4 A.a5 A.h5 A.a6 A.h6 A.a7 A.h7 A.a8 A.h8 A.a9 A.h9 arg1 v3 v4 v5 v6 c0 v36 v40)
    (fun _ y => iprop(⌜y = x⌝ ∗ Held c A S))
    (fun t y => absurd (lt_of_lt_of_eq t.isLt (trips2 i)) (Nat.not_lt_zero _)) (kk := k) (Q := Q)
  iintro H
  iapply hb $$ [H]
  · isplitr
    · ipureintro; rfl
    · iexact H
  iintro %y ⟨%hy, H⟩
  subst hy
  iapply h
  iexact H

/-- The block before the diagonal, and the keys of the diagonal block. -/
theorem part3_run (i : grid0.Coords) (S : St F) (arg1 : BitVec 32) (x : Carry F) (h1 : k0_cond1 i = 1#1) (b : Fin 8) (hb : (i 1).val - 1 = b.val)
    {Q : _ → sProp (𝕄 F)}
    (h : ∀ w : BitVec 32, Held c A S ⊢ Q ⟨(blk (sU S b) (rows S.v b) x).1, (blk (sU S b) (rows S.v b) x).2.1, (blk (sU S b) (rows S.v b) x).2.2, w,
      shapeCast S512x128 (rows S.k (jOf i)) shapeCasts_S512x128_S512x128⟩) :
    Held c A S ⊢ wp frame (wpE (defs₀ (F := F)) 𝒱₀ (c : Thread nD τ) none) Set.univ
      (k0_part3 (F := F) i A.a2 A.h2 A.a3 A.h3 A.a4 A.h4 A.a5 A.h5 A.a6 A.h6 A.a7 A.h7 A.a8 A.h8 A.a9 A.h9 arg1 (qOf S.q) x.1 x.2.1 x.2.2 h1) Q := by
  rw [k0_part3_eq_skeleton]
  unfold k0_part3_skel
  refine load_of 𝒱₀ _ none Set.univ (held_4 c A S) (Y := rows S.k b) (window_congr _ ((off9_eq i h1).trans (by rw [hb]))) ?_
  refine load_of 𝒱₀ _ none Set.univ (held_6 c A S) (Y := gate S.ck b) (window_congr _ ((off10_eq i h1).trans (by rw [hb]))) ?_
  refine load_of 𝒱₀ _ none Set.univ (held_5 c A S) (Y := rows S.v b) (window_congr _ ((off9_eq i h1).trans (by rw [hb]))) ?_
  refine load_of 𝒱₀ _ none Set.univ (held_4 c A S) (Y := rows S.k (jOf i)) (window_congr _ (off11_eq i)) ?_
  exact (h _).trans (le_wp_ret _ _ _ _ _)

/-- The diagonal block where no block precedes it alone. -/
theorem part4_run (i : grid0.Coords) (S : St F) (x : Carry F) (h1 : ¬(k0_cond1 i = 1#1))
    {Q : _ → sProp (𝕄 F)}
    (h : Held c A S ⊢ Q ⟨mOf (sM S (jOf i)) x.1, lOf (sM S (jOf i)) x.1 x.2.1, scOf (sM S (jOf i)) x.1 x.2.2,
      addf (hiOf (sM S (jOf i)) x.1 (rows S.v (jOf i))) (loOf (sM S (jOf i)) x.1 (rows S.v (jOf i)))⟩) :
    Held c A S ⊢ wp frame (wpE (defs₀ (F := F)) 𝒱₀ (c : Thread nD τ) none) Set.univ
      (k0_part4 (F := F) i A.a2 A.h2 A.a3 A.h3 A.a4 A.h4 A.a5 A.h5 A.a6 A.h6 A.a7 A.h7 A.a8 A.h8 A.a9 A.h9 (BitVec.ofNat 32 (i 1).val) (qOf S.q) x.1 x.2.1 x.2.2 h1) Q := by
  rw [k0_part4_eq_skeleton]
  unfold k0_part4_skel
  refine load_of 𝒱₀ _ none Set.univ (held_4 c A S) (Y := rows S.k (jOf i)) (window_congr _ (off13_eq i)) ?_
  refine load_of 𝒱₀ _ none Set.univ (held_6 c A S) (Y := gate S.ck (jOf i)) (window_congr _ (off14_eq i)) ?_
  refine load_of 𝒱₀ _ none Set.univ (held_5 c A S) (Y := rows S.v (jOf i)) (window_congr _ (off13_eq i)) ?_
  exact h.trans (le_wp_ret _ _ _ _ _)

/-- The queries read, and the carried values at the start. -/
theorem part5_run (i : grid0.Coords) (S : St F) {Q : _ → sProp (𝕄 F)}
    (h : ∀ w : BitVec 32, Held c A S ⊢ Q ⟨BitVec.ofNat 32 (i 1).val, qOf S.q, k0_pay37, k0_pay38, k0_pay39, 0#32, w⟩) :
    Held c A S ⊢ wp frame (wpE (defs₀ (F := F)) 𝒱₀ (c : Thread nD τ) none) Set.univ
      (k0_part5 (F := F) i A.a2 A.h2 A.a3 A.h3 A.a4 A.h4 A.a5 A.h5 A.a6 A.h6 A.a7 A.h7 A.a8 A.h8 A.a9 A.h9) Q := by
  rw [k0_part5_eq_skeleton]
  unfold k0_part5_skel
  refine load_of 𝒱₀ _ none Set.univ (held_2 c A S) (window_full _ _) ?_
  exact (h _).trans (le_wp_ret _ _ _ _ _)

/-- The state with the first two results stored. -/
def stored (i : grid0.Coords) (S : St F) : St F :=
  { S with
    o := k0_pay59 (last S (jOf i)).2.1 (last S (jOf i)).2.2
    og := k0_pay60 (last S (jOf i)).2.1 (last S (jOf i)).2.2 S.z }

/-- The first two results stored, the carried values at the end known. -/
theorem tail_run (i : grid0.Coords) (S : St F) {Q : _ → sProp (𝕄 F)}
    (h : Held c A (stored i S) ⊢ Q (k0_pay61 (last S (jOf i)).1 (last S (jOf i)).2.1)) :
    Held c A S ⊢ wp frame (wpE (defs₀ (F := F)) 𝒱₀ (c : Thread nD τ) none) Set.univ
      (show Prog (TpuEff nD τ sig (Elt F) Λ₀ .tc) (FVec F S512x1 .f32) from do
        let v59 : Vec F S512x128 .f32 ← Prog.lift (.load A.a7 (Rect.unit (s := S512x128) ![0, 0] S512x128.size inb_S512x128_S512x128_0_0).toLoadRect (View.loadsAt_vmem h_S512x128))
        Prog.lift (.store A.a7 (Rect.unit (s := S512x128) ![0, 0] S512x128.size inb_S512x128_S512x128_0_0) (k0_pay59 (last S (jOf i)).2.1 (last S (jOf i)).2.2) Finset.univ (View.stores_vmem_bits_univ h_S512x128 rfl) (.inl rfl))
        let v60 : Vec F S512x128 .f32 ← Prog.lift (.load A.a3 (Rect.unit (s := S512x128) ![0, 0] S512x128.size inb_S512x128_S512x128_0_0).toLoadRect (View.loadsAt_vmem h_S512x128))
        let v71 : Vec F S512x128 .bf16 ← Prog.lift (.load A.a8 (Rect.unit (s := S512x128) ![0, 0] S512x128.size inb_S512x128_S512x128_0_0).toLoadRect (View.loadsAt_vmem h_S512x128))
        Prog.lift (.store A.a8 (Rect.unit (s := S512x128) ![0, 0] S512x128.size inb_S512x128_S512x128_0_0) (k0_pay60 (last S (jOf i)).2.1 (last S (jOf i)).2.2 v60) Finset.univ (View.stores_vmem h_S512x128 (A.h8.storeExact_slice rfl _ packedbf16_S512x128_S512x128_0_0) (fun _ => rfl)) (.inl rfl))
        pure (k0_pay61 (last S (jOf i)).1 (last S (jOf i)).2.1)) Q := by
  dsimp only
  refine load_of 𝒱₀ _ none Set.univ (held_7 c A S) rfl ?_
  refine store_of 𝒱₀ _ none Set.univ (H' := Held c A { S with o := k0_pay59 (last S (jOf i)).2.1 (last S (jOf i)).2.2 }) (held_7 c A S).1
    (held_7 c A { S with o := k0_pay59 (last S (jOf i)).2.1 (last S (jOf i)).2.2 }).2 (put_full _ _ (funext (by decide))) ?_
  refine load_of 𝒱₀ _ none Set.univ (held_3 c A _) (window_full _ _) ?_
  refine load_of 𝒱₀ _ none Set.univ (held_8 c A _) rfl ?_
  refine store_of 𝒱₀ _ none Set.univ (H' := Held c A (stored i S)) (held_8 c A _).1 (held_8 c A (stored i S)).2 (put_full _ _ (funext (by decide))) ?_
  exact h.trans (le_wp_ret _ _ _ _ _)

theorem before_odd (S : St F) (i : grid0.Coords) (h1 : k0_cond1 i = 1#1) (b : Fin 8) (hb : (i 1).val - 1 = b.val) :
    after S (jOf i).val = blk (sU S b) (rows S.v b) (after S (2 * ((i 1).val / 2))) := by
  have h := (cond1_iff i).mp h1
  rw [show (jOf i).val = b.val + 1 by show (i 1).val = _; omega, after_succ, show 2 * ((i 1).val / 2) = b.val by omega]

theorem before_even (S : St F) (i : grid0.Coords) (h1 : ¬(k0_cond1 i = 1#1)) :
    after S (jOf i).val = after S (2 * ((i 1).val / 2)) := by
  have h := mt (cond1_iff i).mpr h1
  rw [show (jOf i).val = 2 * ((i 1).val / 2) by show (i 1).val = _; omega]

/-- The loops, the last blocks and the first two stores. -/
theorem part6_run (i : grid0.Coords) (S : St F) (v36 : BitVec 32) {Q : _ → sProp (𝕄 F)}
    (h : Held c A (stored i S) ⊢ Q (k0_pay61 (last S (jOf i)).1 (last S (jOf i)).2.1)) :
    Held c A S ⊢ wp frame (wpE (defs₀ (F := F)) 𝒱₀ (c : Thread nD τ) none) Set.univ
      (k0_part6 (F := F) i A.a2 A.h2 A.a3 A.h3 A.a4 A.h4 A.a5 A.h5 A.a6 A.h6 A.a7 A.h7 A.a8 A.h8 A.a9 A.h9 (BitVec.ofNat 32 (i 1).val) (qOf S.q) k0_pay37 k0_pay38 k0_pay39 0#32 v36) Q := by
  rw [k0_part6_eq_skeleton]
  unfold k0_part6_skel
  dsimp only
  refine loop_run c A i S _ _ _ ?_
  refine loop2_run c A i S _ _ _ _ _ _ _ _ (after S (2 * ((i 1).val / 2))) ?_
  dsimp only
  split
  · rename_i h1
    have hl := (col_lt i)
    have ho := (cond1_iff i).mp h1
    rw [wp_bind]
    refine part3_run c A i S _ (after S (2 * ((i 1).val / 2))) h1 ⟨(i 1).val - 1, by omega⟩ rfl fun w => ?_
    refine load_of 𝒱₀ _ none Set.univ (held_6 c A S) (Y := gate S.ck (jOf i)) (window_congr _ (off12_eq i)) ?_
    refine load_of 𝒱₀ _ none Set.univ (held_5 c A S) (Y := rows S.v (jOf i)) (window_congr _ (off11_eq i)) ?_
    have e : last S (jOf i) = _ := congrArg (blk (sM S (jOf i)) (rows S.v (jOf i))) (before_odd S i h1 ⟨(i 1).val - 1, by omega⟩ rfl)
    have ht := tail_run c A i S h
    rw [e] at ht
    exact ht
  · rename_i h1
    rw [wp_bind]
    refine part4_run c A i S (after S (2 * ((i 1).val / 2))) h1 ?_
    have e : last S (jOf i) = _ := congrArg (blk (sM S (jOf i)) (rows S.v (jOf i))) (before_even S i h1)
    have ht := tail_run c A i S h
    rw [e] at ht
    exact ht

/-- The body at a grid point. -/
theorem body_run (i : grid0.Coords) (S : St F) :
    Held c A S ⊢ wp frame (wpE (defs₀ (F := F)) 𝒱₀ (c : Thread nD τ) none) Set.univ
      (cc0_att_fwd (F := F) i A.a2 A.h2 A.a3 A.h3 A.a4 A.h4 A.a5 A.h5 A.a6 A.h6 A.a7 A.h7 A.a8 A.h8 A.a9 A.h9) (fun _ => Held c A (step i S)) := by
  rw [cc0_att_fwd_eq_skeleton]
  unfold cc0_att_fwd_skel
  rw [wp_bind]
  refine part5_run c A i S fun w => ?_
  rw [wp_bind]
  refine part6_run c A i S w ?_
  refine load_of 𝒱₀ _ none Set.univ (held_9 c A _) rfl ?_
  refine store_of 𝒱₀ _ none Set.univ (H' := Held c A (step i S)) (held_9 c A _).1 (held_9 c A (step i S)).2 (put_full _ _ (funext (by decide))) ?_
  exact le_wp_ret frame (wpE (defs₀ (F := F)) 𝒱₀ (c : Thread nD τ) none) Set.univ PUnit.unit (fun _ => Held c A (step i S))

end Cert.AttFwdIdeal.Body

end
-- ==== Proof.AttFwdIdeal.Data.lean ====
/-
  The proof data of the pipeline: what each point leaves in the result windows, the body's obligation, and the run of
  the whole program.
-/
module

public import proofs.«01_k».proof.Proof.AttFwdIdeal.Body

@[expose] public section

set_option maxRecDepth 16384

noncomputable section

namespace Cert.AttFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttFwdIdeal Cert.AttFwdIdeal.Gen Cert.Att

variable {F : FTy → Type} [FloatOps F] [Named F]

variable (m : (ℓ : Loc nD τ sig) → Buf (Elt F) ℓ) (ρ : Dev nD → PrngReg)

/-- The state at point `t`: the windows' blocks, and the result buffers at contents nothing reads. -/
def inSt (c : Dev nD) (t : Fin cfg0.N) (o : FVec F S512x128 .f32) (og : FVec F S512x128 .bf16) (lse : FVec F S1x512x1 .f32) : St F where
  q := iblk m c 0 t
  z := iblk m c 1 t
  k := iblk m c 2 t
  v := iblk m c 3 t
  ck := iblk m c 4 t
  o := o
  og := og
  lse := lse

/-- The state after point `t`. -/
def outSt (c : Dev nD) (t : Fin cfg0.N) : St F :=
  step (grid0.coords t) (inSt m c t (broadcast S512x128 (Scalar.ofBits .f32 0#32)) (broadcast S512x128 (Scalar.ofBits .bf16 0#16))
    (broadcast S1x512x1 (Scalar.ofBits .f32 0#32)))

/-- What a point leaves does not depend on what the result buffers held. -/
theorem step_any (c : Dev nD) (t : Fin cfg0.N) (o og lse) : step (grid0.coords t) (inSt m c t o og lse) = outSt m c t := by
  have e : ∀ (n : ℕ) (o' og' lse'), after (inSt m c t o og lse) n = after (inSt m c t o' og' lse') n := by
    intro n o' og' lse'
    induction n with
    | zero => rfl
    | succ n ih => rw [after, after, ih]; rfl
  have l : ∀ (j) (o' og' lse'), last (inSt m c t o og lse) j = last (inSt m c t o' og' lse') j := fun j o' og' lse' =>
    congrArg (blk (sM (inSt m c t o og lse) j) (rows (inSt m c t o og lse).v j)) (e j.val o' og' lse')
  unfold outSt step
  rw [l]
  rfl

theorem coords_val : ∀ t : Fin grid0.N, (grid0.coords t 1).val = t.val % 8 := by decide +kernel
theorem coords_head : ∀ t : Fin grid0.N, (grid0.coords t 0).val = t.val / 8 := by decide +kernel

/-- The proof data: the arrays as the region finds them, and each window's buffer after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outSt m c t).o
    | ⟨6, _⟩ => (outSt m c t).og
    | ⟨7, _⟩ => (outSt m c t).lse
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outSt m c t).o := by dsimp only [dats]
theorem after0_6 (c : Dev nD) (t : Fin cfg0.N) : (dats m 0 c).after 6 t = (outSt m c t).og := by dsimp only [dats]
theorem after0_7 (c : Dev nD) (t : Fin cfg0.N) : (dats m 0 c).after 7 t = (outSt m c t).lse := by dsimp only [dats]

/-- Each input window's buffer holds its block when the body runs. -/
theorem found0_0 (c : Dev nD) (t : Fin cfg0.N) (d) : (dats m 0 c).before 0 t d = iblk m c 0 t :=
  before0_0_of m (dats m 0 c) (A_eq m c 0) (after0_0 m c) t d
theorem found0_1 (c : Dev nD) (t : Fin cfg0.N) (d) : (dats m 0 c).before 1 t d = iblk m c 1 t :=
  before0_1_of m (dats m 0 c) (A_eq m c 1) (after0_1 m c) t d
theorem found0_2 (c : Dev nD) (t : Fin cfg0.N) (d) : (dats m 0 c).before 2 t d = iblk m c 2 t :=
  before0_2_of m (dats m 0 c) (A_eq m c 2) (after0_2 m c) t d
theorem found0_3 (c : Dev nD) (t : Fin cfg0.N) (d) : (dats m 0 c).before 3 t d = iblk m c 3 t :=
  before0_3_of m (dats m 0 c) (A_eq m c 3) (after0_3 m c) t d
theorem found0_4 (c : Dev nD) (t : Fin cfg0.N) (d) : (dats m 0 c).before 4 t d = iblk m c 4 t :=
  before0_4_of m (dats m 0 c) (A_eq m c 4) (after0_4 m c) t d

/-- The memrefs the body runs on at point `t`. -/
def argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)

def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- What the memrefs read after a point, window by window. -/
theorem held_out (c : Dev nD) (t : Fin cfg0.N) :
    Held c (argsAt t) (outSt m c t) ⊢ iprop(
      owns (Val := Elt F) (c : Thread nD τ) (st0_0 t) fullShare (iblk m c 0 t)
    ∗ owns (Val := Elt F) (c : Thread nD τ) (st0_1 t) fullShare (iblk m c 1 t)
    ∗ owns (Val := Elt F) (c : Thread nD τ) (st0_2 t) fullShare (iblk m c 2 t)
    ∗ owns (Val := Elt F) (c : Thread nD τ) (st0_3 t) fullShare (iblk m c 3 t)
    ∗ owns (Val := Elt F) (c : Thread nD τ) (st0_4 t) fullShare (iblk m c 4 t)
    ∗ owns (Val := Elt F) (c : Thread nD τ) (st0_5 t) fullShare (outSt m c t).o
    ∗ owns (Val := Elt F) (c : Thread nD τ) (st0_6 t) fullShare (outSt m c t).og
    ∗ owns (Val := Elt F) (c : Thread nD τ) (st0_7 t) fullShare (outSt m c t).lse) := .rfl

/-- The body at point `t` keeps the data. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  rw [show (dats m 0 c).Φ t.succ = (dats m 0 c).Φ t.castSucc from rfl]
  rw [show (dats m 0 c).owesAt () t.succ = (dats m 0 c).owesAt () t.castSucc from rfl]
  rw [after0_0, after0_1, after0_2, after0_3, after0_4, after0_5, after0_6, after0_7]
  simp only [found0_0, found0_1, found0_2, found0_3, found0_4]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩⟩
  have hrun := body_run c (argsAt t) (grid0.coords t) (inSt m c t ((dats m 0 c).before 5 t d5) ((dats m 0 c).before 6 t d6) ((dats m 0 c).before 7 t d7))
  rw [step_any] at hrun
  iapply wp_wand_r
  isplitl [H0 H1 H2 H3 H4 H5 H6 H7]
  · iapply hrun
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %u HH
  ihave HH := (held_out m c t) $$ HH
  icases HH with ⟨H0, H1, H2, H3, H4, H5, H6, H7⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run: the arrays end at the data's contents, every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m)
    (hin := fun _ => .rfl) (hout := fun _ => .rfl)

end Cert.AttFwdIdeal.Body

end
-- ==== Proof.AttFwdIdeal.Frame.lean ====
/- The frame of the kernel: every run ends, nothing faults, the three argument arrays keep their contents and the
   counters are at zero at the end. -/
module

public import proofs.«01_k».proof.Proof.AttFwdIdeal.Data

@[expose] public section

noncomputable section

namespace Cert.AttFwdIdeal.Body

open Cert.AttFwdIdeal Cert.AttFwdIdeal.Gen
open Idealize.ShloMosaic Idealize.ShloMosaic.TcCoe
open Idealize.SL Idealize.SL.Sem

variable {F : FTy → Type} [FloatOps F] [Named F]

/-- From any memory with the counters at zero the program ends with its argument arrays unchanged. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 1).trans (((dats m 0 c).arrAt_in 1 rfl _).trans ((A_eq m c 1).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.AttFwdIdeal.Body

end
-- ==== Proof.Frames.lean ====
/-
  The frames of the products' calls: as written, each runs, ends with its argument arrays unchanged and with every counter
  at zero; so does each reference. Where a call has the same text as its idealization, the idealization's run at bit
  patterns is the call's.
-/
module

public import proofs.«01_k».proof.Defs
public import proofs.«01_k».proof.Proof.Gen.OutDxIdeal.Frame
public import proofs.«01_k».proof.Proof.Gen.OutDx
public import proofs.«01_k».proof.Proof.Gen.OutDxRefIdeal.Run
public import proofs.«01_k».proof.Proof.Gen.OutDwIdeal.Frame
public import proofs.«01_k».proof.Proof.Gen.OutDw
public import proofs.«01_k».proof.Proof.Gen.OutDwRefIdeal.Run
public import proofs.«01_k».proof.Proof.Gen.InDxIdeal.Frame
public import proofs.«01_k».proof.Proof.Gen.InDx
public import proofs.«01_k».proof.Proof.Gen.InDxRefIdeal.Run
public import proofs.«01_k».proof.Proof.Gen.InDwIdeal.Frame
public import proofs.«01_k».proof.Proof.Gen.InDw
public import proofs.«01_k».proof.Proof.Gen.InDwRefIdeal.Run
public import proofs.«01_k».proof.Proof.Gen.KvDxIdeal.Frame
public import proofs.«01_k».proof.Proof.Gen.KvDx
public import proofs.«01_k».proof.Proof.Gen.KvDxRefIdeal.Run
public import proofs.«01_k».proof.Proof.Gen.KvDwIdeal.Frame
public import proofs.«01_k».proof.Proof.Gen.KvDw
public import proofs.«01_k».proof.Proof.Gen.KvDwRefIdeal.Run
public import proofs.«01_k».proof.Proof.Gen.SOutDxIdeal.Frame
public import proofs.«01_k».proof.Proof.Gen.SOutDx
public import proofs.«01_k».proof.Proof.Gen.SOutDxRefIdeal.Run
public import proofs.«01_k».proof.Proof.Gen.SOutDwIdeal.Frame
public import proofs.«01_k».proof.Proof.Gen.SOutDw
public import proofs.«01_k».proof.Proof.Gen.SOutDwRefIdeal.Run
public import proofs.«01_k».proof.Proof.Gen.GluDxIdeal.Frame
public import proofs.«01_k».proof.Proof.Gen.GluDx.Frame
public import proofs.«01_k».proof.Proof.Gen.GluDxRefIdeal.Run
public import proofs.«01_k».proof.Proof.Gen.GluDwIdeal.Frame
public import proofs.«01_k».proof.Proof.Gen.GluDw
public import proofs.«01_k».proof.Proof.Gen.GluDwRefIdeal.Run
public import proofs.«01_k».proof.Proof.Gen.FDxIdeal.Frame
public import proofs.«01_k».proof.Proof.Gen.FDx
public import proofs.«01_k».proof.Proof.Gen.FDxRefIdeal.Run
public import proofs.«01_k».proof.Proof.Gen.FDwIdeal.Frame
public import proofs.«01_k».proof.Proof.Gen.FDw
public import proofs.«01_k».proof.Proof.Gen.FDwRefIdeal.Run
public import proofs.«01_k».proof.Proof.Gen.SInIdeal.Frame
public import proofs.«01_k».proof.Proof.Gen.SIn
public import proofs.«01_k».proof.Proof.Gen.SInRefIdeal.Run
public import proofs.«01_k».proof.Proof.Gen.GluIdeal.Frame
public import proofs.«01_k».proof.Proof.Gen.Glu
public import proofs.«01_k».proof.Proof.Gen.GluRefIdeal.Run
public import proofs.«01_k».proof.Proof.Gen.SOutIdeal.Frame
public import proofs.«01_k».proof.Proof.Gen.SOut
public import proofs.«01_k».proof.Proof.Gen.SOutRefIdeal.Run
public import proofs.«01_k».proof.Proof.Gen.FOutIdeal.Frame
public import proofs.«01_k».proof.Proof.Gen.FOut
public import proofs.«01_k».proof.Proof.Gen.FOutRefIdeal.Run
public import proofs.«01_k».proof.Proof.Gen.FProjIdeal.Frame
public import proofs.«01_k».proof.Proof.Gen.FProj
public import proofs.«01_k».proof.Proof.Gen.FProjRefIdeal.Run
public import proofs.«01_k».proof.Proof.Gen.GateBwdIdeal.Frame
public import proofs.«01_k».proof.Proof.Gen.GateBwd
public import proofs.«01_k».proof.Proof.Gen.GateBwdRefIdeal.Run
public import proofs.«01_k».proof.Proof.Gen.CumBwdIdeal.Frame
public import proofs.«01_k».proof.Proof.Gen.CumBwd
public import proofs.«01_k».proof.Proof.Gen.CumBwdRefIdeal.Run
public import proofs.«01_k».proof.Proof.Gen.CumFwdIdeal.Frame
public import proofs.«01_k».proof.Proof.Gen.CumFwd
public import proofs.«01_k».proof.Proof.Gen.CumFwdRefIdeal.Run
public import proofs.«01_k».proof.Proof.Gen.LossHeadIdeal.Frame
public import proofs.«01_k».proof.Proof.Gen.LossHead
public import proofs.«01_k».proof.Proof.Gen.LossHeadRefIdeal.Run
public import proofs.«01_k».proof.Proof.Gen.MidNormsIdeal.Frame
public import proofs.«01_k».proof.Proof.Gen.MidNorms
public import proofs.«01_k».proof.Proof.Gen.MidNormsRefIdeal.Run
public import proofs.«01_k».proof.Proof.KernelIdeal.Frame
public import proofs.«01_k».proof.Proof.AttFwdIdeal.Frame
public import proofs.«01_k».proof.Proof.Gen.Kernel
public import proofs.«01_k».proof.Proof.Gen.AttFwd
public import Idealize.ShloMosaic.Adequacy
public import Idealize.ShloMosaic.Init

@[expose] public section

noncomputable section

namespace Cert.Frames

open Idealize.ShloMosaic Idealize.SL.Sem

/-- Two tables of one row are the same when the row is. -/
theorem one_row {A : Fin 1 → Type*} {R : Fin 1 → Type*} {f g : (l : Fin 1) → A l → R l} (h : ∀ a, f 0 a = g 0 a) : f = g :=
  funext fun l => by
    obtain rfl : l = 0 := Subsingleton.elim l 0
    exact funext h

/-- Where floats are words of bits, a named constant is the literal it stands for. -/
instance literals : Named Bits where
  named _ _ {φ} b := FloatOps.ofBits φ b

/-! ## The calls -/

set_option maxHeartbeats 2000000 in
theorem Kernel : Cert.quiescent_Kernel := by
  have t : Cert.Kernel.defs (F := Bits) = Cert.KernelIdeal.defs :=
    congrArg (fun b => Pipeline.defs Cert.KernelIdeal.pcfgs (Defs.onTc b)) (one_row fun _ => rfl)
  unfold Cert.quiescent_Kernel
  rw [t]
  exact fun m ρ _ => Cert.KernelIdeal.Body.frame m ρ

theorem AttFwd : Cert.quiescent_AttFwd := by
  have t : Cert.AttFwd.defs (F := Bits) = Cert.AttFwdIdeal.defs :=
    congrArg (fun b => Pipeline.defs Cert.AttFwdIdeal.pcfgs (Defs.onTc b)) (one_row fun _ => rfl)
  unfold Cert.quiescent_AttFwd
  rw [t]
  exact fun m ρ _ => Cert.AttFwdIdeal.Body.frame m ρ

theorem OutDx : Cert.quiescent_OutDx := by
  have t : Cert.OutDx.defs (F := Bits) = Cert.OutDxIdeal.defs :=
    congrArg (fun b => Pipeline.defs Cert.OutDxIdeal.pcfgs (Defs.onTc b)) (one_row fun _ => rfl)
  unfold Cert.quiescent_OutDx
  rw [t]
  exact fun m ρ _ => Cert.OutDxIdeal.Gen.frame m ρ

theorem OutDw : Cert.quiescent_OutDw := by
  have t : Cert.OutDw.defs (F := Bits) = Cert.OutDwIdeal.defs :=
    congrArg (fun b => Pipeline.defs Cert.OutDwIdeal.pcfgs (Defs.onTc b)) (one_row fun _ => rfl)
  unfold Cert.quiescent_OutDw
  rw [t]
  exact fun m ρ _ => Cert.OutDwIdeal.Gen.frame m ρ

theorem InDx : Cert.quiescent_InDx := by
  have t : Cert.InDx.defs (F := Bits) = Cert.InDxIdeal.defs :=
    congrArg (fun b => Pipeline.defs Cert.InDxIdeal.pcfgs (Defs.onTc b)) (one_row fun _ => rfl)
  unfold Cert.quiescent_InDx
  rw [t]
  exact fun m ρ _ => Cert.InDxIdeal.Gen.frame m ρ

theorem InDw : Cert.quiescent_InDw := by
  have t : Cert.InDw.defs (F := Bits) = Cert.InDwIdeal.defs :=
    congrArg (fun b => Pipeline.defs Cert.InDwIdeal.pcfgs (Defs.onTc b)) (one_row fun _ => rfl)
  unfold Cert.quiescent_InDw
  rw [t]
  exact fun m ρ _ => Cert.InDwIdeal.Gen.frame m ρ

theorem KvDx : Cert.quiescent_KvDx := by
  have t : Cert.KvDx.defs (F := Bits) = Cert.KvDxIdeal.defs :=
    congrArg (fun b => Pipeline.defs Cert.KvDxIdeal.pcfgs (Defs.onTc b)) (one_row fun _ => rfl)
  unfold Cert.quiescent_KvDx
  rw [t]
  exact fun m ρ _ => Cert.KvDxIdeal.Gen.frame m ρ

theorem KvDw : Cert.quiescent_KvDw := by
  have t : Cert.KvDw.defs (F := Bits) = Cert.KvDwIdeal.defs :=
    congrArg (fun b => Pipeline.defs Cert.KvDwIdeal.pcfgs (Defs.onTc b)) (one_row fun _ => rfl)
  unfold Cert.quiescent_KvDw
  rw [t]
  exact fun m ρ _ => Cert.KvDwIdeal.Gen.frame m ρ

theorem SOutDx : Cert.quiescent_SOutDx := by
  have t : Cert.SOutDx.defs (F := Bits) = Cert.SOutDxIdeal.defs :=
    congrArg (fun b => Pipeline.defs Cert.SOutDxIdeal.pcfgs (Defs.onTc b)) (one_row fun _ => rfl)
  unfold Cert.quiescent_SOutDx
  rw [t]
  exact fun m ρ _ => Cert.SOutDxIdeal.Gen.frame m ρ

theorem SOutDw : Cert.quiescent_SOutDw := by
  have t : Cert.SOutDw.defs (F := Bits) = Cert.SOutDwIdeal.defs :=
    congrArg (fun b => Pipeline.defs Cert.SOutDwIdeal.pcfgs (Defs.onTc b)) (one_row fun _ => rfl)
  unfold Cert.quiescent_SOutDw
  rw [t]
  exact fun m ρ _ => Cert.SOutDwIdeal.Gen.frame m ρ

theorem GluDx : Cert.quiescent_GluDx := fun m ρ _ => Cert.GluDx.Gen.frame m ρ

theorem GluDw : Cert.quiescent_GluDw := by
  have t : Cert.GluDw.defs (F := Bits) = Cert.GluDwIdeal.defs :=
    congrArg (fun b => Pipeline.defs Cert.GluDwIdeal.pcfgs (Defs.onTc b)) (one_row fun _ => rfl)
  unfold Cert.quiescent_GluDw
  rw [t]
  exact fun m ρ _ => Cert.GluDwIdeal.Gen.frame m ρ

theorem FDx : Cert.quiescent_FDx := by
  have t : Cert.FDx.defs (F := Bits) = Cert.FDxIdeal.defs :=
    congrArg (fun b => Pipeline.defs Cert.FDxIdeal.pcfgs (Defs.onTc b)) (one_row fun _ => rfl)
  unfold Cert.quiescent_FDx
  rw [t]
  exact fun m ρ _ => Cert.FDxIdeal.Gen.frame m ρ

theorem FDw : Cert.quiescent_FDw := by
  have t : Cert.FDw.defs (F := Bits) = Cert.FDwIdeal.defs :=
    congrArg (fun b => Pipeline.defs Cert.FDwIdeal.pcfgs (Defs.onTc b)) (one_row fun _ => rfl)
  unfold Cert.quiescent_FDw
  rw [t]
  exact fun m ρ _ => Cert.FDwIdeal.Gen.frame m ρ

theorem SIn : Cert.quiescent_SIn := by
  have t : Cert.SIn.defs (F := Bits) = Cert.SInIdeal.defs :=
    congrArg (fun b => Pipeline.defs Cert.SInIdeal.pcfgs (Defs.onTc b)) (one_row fun _ => rfl)
  unfold Cert.quiescent_SIn
  rw [t]
  exact fun m ρ _ => Cert.SInIdeal.Gen.frame m ρ

theorem Glu : Cert.quiescent_Glu := by
  have t : Cert.Glu.defs (F := Bits) = Cert.GluIdeal.defs :=
    congrArg (fun b => Pipeline.defs Cert.GluIdeal.pcfgs (Defs.onTc b)) (one_row fun _ => rfl)
  unfold Cert.quiescent_Glu
  rw [t]
  exact fun m ρ _ => Cert.GluIdeal.Gen.frame m ρ

theorem SOut : Cert.quiescent_SOut := by
  have t : Cert.SOut.defs (F := Bits) = Cert.SOutIdeal.defs :=
    congrArg (fun b => Pipeline.defs Cert.SOutIdeal.pcfgs (Defs.onTc b)) (one_row fun _ => rfl)
  unfold Cert.quiescent_SOut
  rw [t]
  exact fun m ρ _ => Cert.SOutIdeal.Gen.frame m ρ

theorem FOut : Cert.quiescent_FOut := by
  have t : Cert.FOut.defs (F := Bits) = Cert.FOutIdeal.defs :=
    congrArg (fun b => Pipeline.defs Cert.FOutIdeal.pcfgs (Defs.onTc b)) (one_row fun _ => rfl)
  unfold Cert.quiescent_FOut
  rw [t]
  exact fun m ρ _ => Cert.FOutIdeal.Gen.frame m ρ

theorem FProj : Cert.quiescent_FProj := by
  have t : Cert.FProj.defs (F := Bits) = Cert.FProjIdeal.defs :=
    congrArg (fun b => Pipeline.defs Cert.FProjIdeal.pcfgs (Defs.onTc b)) (one_row fun _ => rfl)
  unfold Cert.quiescent_FProj
  rw [t]
  exact fun m ρ _ => Cert.FProjIdeal.Gen.frame m ρ

/-! ## The references -/

theorem OutDxRef : Cert.quiescent_OutDxRefIdeal := fun m ρ _ =>
  (θ_run Cert.OutDxRefIdeal.defs _ _).mono (fun r h => ⟨fun c => (h c).2.2, sem_eq_zero_of_no_sems rfl r.2⟩)
    (Cert.OutDxRefIdeal.Value.run m ρ)

theorem OutDwRef : Cert.quiescent_OutDwRefIdeal := fun m ρ _ =>
  (θ_run Cert.OutDwRefIdeal.defs _ _).mono (fun r h => ⟨fun c => (h c).2, sem_eq_zero_of_no_sems rfl r.2⟩)
    (Cert.OutDwRefIdeal.Value.run m ρ)

theorem InDxRef : Cert.quiescent_InDxRefIdeal := fun m ρ _ =>
  (θ_run Cert.InDxRefIdeal.defs _ _).mono (fun r h => ⟨fun c => (h c).2, sem_eq_zero_of_no_sems rfl r.2⟩)
    (Cert.InDxRefIdeal.Value.run m ρ)

theorem InDwRef : Cert.quiescent_InDwRefIdeal := fun m ρ _ =>
  (θ_run Cert.InDwRefIdeal.defs _ _).mono (fun r h => ⟨fun c => (h c).2, sem_eq_zero_of_no_sems rfl r.2⟩)
    (Cert.InDwRefIdeal.Value.run m ρ)

theorem KvDxRef : Cert.quiescent_KvDxRefIdeal := fun m ρ _ =>
  (θ_run Cert.KvDxRefIdeal.defs _ _).mono (fun r h => ⟨fun c => (h c).2, sem_eq_zero_of_no_sems rfl r.2⟩)
    (Cert.KvDxRefIdeal.Value.run m ρ)

theorem KvDwRef : Cert.quiescent_KvDwRefIdeal := fun m ρ _ =>
  (θ_run Cert.KvDwRefIdeal.defs _ _).mono (fun r h => ⟨fun c => (h c).2, sem_eq_zero_of_no_sems rfl r.2⟩)
    (Cert.KvDwRefIdeal.Value.run m ρ)

theorem SOutDxRef : Cert.quiescent_SOutDxRefIdeal := fun m ρ _ =>
  (θ_run Cert.SOutDxRefIdeal.defs _ _).mono (fun r h => ⟨fun c => (h c).2, sem_eq_zero_of_no_sems rfl r.2⟩)
    (Cert.SOutDxRefIdeal.Value.run m ρ)

theorem SOutDwRef : Cert.quiescent_SOutDwRefIdeal := fun m ρ _ =>
  (θ_run Cert.SOutDwRefIdeal.defs _ _).mono (fun r h => ⟨fun c => (h c).2, sem_eq_zero_of_no_sems rfl r.2⟩)
    (Cert.SOutDwRefIdeal.Value.run m ρ)

theorem GluDxRef : Cert.quiescent_GluDxRefIdeal := fun m ρ _ =>
  (θ_run Cert.GluDxRefIdeal.defs _ _).mono (fun r h => ⟨fun c => (h c).2, sem_eq_zero_of_no_sems rfl r.2⟩)
    (Cert.GluDxRefIdeal.Value.run m ρ)

theorem GluDwRef : Cert.quiescent_GluDwRefIdeal := fun m ρ _ =>
  (θ_run Cert.GluDwRefIdeal.defs _ _).mono (fun r h => ⟨fun c => (h c).2, sem_eq_zero_of_no_sems rfl r.2⟩)
    (Cert.GluDwRefIdeal.Value.run m ρ)

theorem FDxRef : Cert.quiescent_FDxRefIdeal := fun m ρ _ =>
  (θ_run Cert.FDxRefIdeal.defs _ _).mono (fun r h => ⟨fun c => (h c).2, sem_eq_zero_of_no_sems rfl r.2⟩)
    (Cert.FDxRefIdeal.Value.run m ρ)

theorem FDwRef : Cert.quiescent_FDwRefIdeal := fun m ρ _ =>
  (θ_run Cert.FDwRefIdeal.defs _ _).mono (fun r h => ⟨fun c => (h c).2, sem_eq_zero_of_no_sems rfl r.2⟩)
    (Cert.FDwRefIdeal.Value.run m ρ)

theorem SInRef : Cert.quiescent_SInRefIdeal := fun m ρ _ =>
  (θ_run Cert.SInRefIdeal.defs _ _).mono (fun r h => ⟨fun c => (h c).2, sem_eq_zero_of_no_sems rfl r.2⟩)
    (Cert.SInRefIdeal.Value.run m ρ)

theorem GluRef : Cert.quiescent_GluRefIdeal := fun m ρ _ =>
  (θ_run Cert.GluRefIdeal.defs _ _).mono (fun r h => ⟨fun c => (h c).2.2, sem_eq_zero_of_no_sems rfl r.2⟩)
    (Cert.GluRefIdeal.Value.run m ρ)

theorem SOutRef : Cert.quiescent_SOutRefIdeal := fun m ρ _ =>
  (θ_run Cert.SOutRefIdeal.defs _ _).mono (fun r h => ⟨fun c => (h c).2, sem_eq_zero_of_no_sems rfl r.2⟩)
    (Cert.SOutRefIdeal.Value.run m ρ)

theorem FOutRef : Cert.quiescent_FOutRefIdeal := fun m ρ _ =>
  (θ_run Cert.FOutRefIdeal.defs _ _).mono (fun r h => ⟨fun c => (h c).2, sem_eq_zero_of_no_sems rfl r.2⟩)
    (Cert.FOutRefIdeal.Value.run m ρ)

theorem FProjRef : Cert.quiescent_FProjRefIdeal := fun m ρ _ =>
  (θ_run Cert.FProjRefIdeal.defs _ _).mono (fun r h => ⟨fun c => (h c).2, sem_eq_zero_of_no_sems rfl r.2⟩)
    (Cert.FProjRefIdeal.Value.run m ρ)

theorem GateBwd : Cert.quiescent_GateBwd := by
  have t : Cert.GateBwd.defs (F := Bits) = Cert.GateBwdIdeal.defs :=
    congrArg (fun b => Pipeline.defs Cert.GateBwdIdeal.pcfgs (Defs.onTc b)) (one_row fun _ => rfl)
  unfold Cert.quiescent_GateBwd
  rw [t]
  exact fun m ρ _ => Cert.GateBwdIdeal.Gen.frame m ρ

theorem CumBwd : Cert.quiescent_CumBwd := by
  have t : Cert.CumBwd.defs (F := Bits) = Cert.CumBwdIdeal.defs :=
    congrArg (fun b => Pipeline.defs Cert.CumBwdIdeal.pcfgs (Defs.onTc b)) (one_row fun _ => rfl)
  unfold Cert.quiescent_CumBwd
  rw [t]
  exact fun m ρ _ => Cert.CumBwdIdeal.Gen.frame m ρ

theorem CumFwd : Cert.quiescent_CumFwd := by
  have t : Cert.CumFwd.defs (F := Bits) = Cert.CumFwdIdeal.defs :=
    congrArg (fun b => Pipeline.defs Cert.CumFwdIdeal.pcfgs (Defs.onTc b)) (one_row fun _ => rfl)
  unfold Cert.quiescent_CumFwd
  rw [t]
  exact fun m ρ _ => Cert.CumFwdIdeal.Gen.frame m ρ

theorem MidNorms : Cert.quiescent_MidNorms := by
  have t : Cert.MidNorms.defs (F := Bits) = Cert.MidNormsIdeal.defs :=
    congrArg (fun b => Pipeline.defs Cert.MidNormsIdeal.pcfgs (Defs.onTc b)) (one_row fun _ => rfl)
  unfold Cert.quiescent_MidNorms
  rw [t]
  exact fun m ρ _ => Cert.MidNormsIdeal.Gen.frame m ρ

theorem LossHead : Cert.quiescent_LossHead := by
  have t : Cert.LossHead.defs (F := Bits) = Cert.LossHeadIdeal.defs :=
    congrArg (fun b => Pipeline.defs Cert.LossHeadIdeal.pcfgs (Defs.onTc b)) (one_row fun _ => rfl)
  unfold Cert.quiescent_LossHead
  rw [t]
  exact fun m ρ _ => Cert.LossHeadIdeal.Gen.frame m ρ

theorem GateBwdRef : Cert.quiescent_GateBwdRefIdeal := fun m ρ _ =>
  (θ_run Cert.GateBwdRefIdeal.defs _ _).mono (fun r h => ⟨fun c => (h c).2.2.2.2, sem_eq_zero_of_no_sems rfl r.2⟩)
    (Cert.GateBwdRefIdeal.Value.run m ρ)

theorem CumBwdRef : Cert.quiescent_CumBwdRefIdeal := fun m ρ _ =>
  (θ_run Cert.CumBwdRefIdeal.defs _ _).mono (fun r h => ⟨fun c => (h c).2.2, sem_eq_zero_of_no_sems rfl r.2⟩)
    (Cert.CumBwdRefIdeal.Value.run m ρ)

theorem CumFwdRef : Cert.quiescent_CumFwdRefIdeal := fun m ρ _ =>
  (θ_run Cert.CumFwdRefIdeal.defs _ _).mono (fun r h => ⟨fun c => (h c).2, sem_eq_zero_of_no_sems rfl r.2⟩)
    (Cert.CumFwdRefIdeal.Value.run m ρ)

theorem MidNormsRef : Cert.quiescent_MidNormsRefIdeal := fun m ρ _ =>
  (θ_run Cert.MidNormsRefIdeal.defs _ _).mono (fun r h => ⟨fun c => (h c).2.2.2, sem_eq_zero_of_no_sems rfl r.2⟩)
    (Cert.MidNormsRefIdeal.Value.run m ρ)

theorem LossHeadRef : Cert.quiescent_LossHeadRefIdeal := fun m ρ _ =>
  (θ_run Cert.LossHeadRefIdeal.defs _ _).mono (fun r h => ⟨fun c => (h c).2.2.2.2, sem_eq_zero_of_no_sems rfl r.2⟩)
    (Cert.LossHeadRefIdeal.Value.run m ρ)

end Cert.Frames

end
-- ==== Proof.Common.Gates.lean ====
/-
  The logistic function of an extended real and the derivative of silu by it, and what a flag of a finite entry says.
-/
module

public import proofs.«01_k».proof.Proof.Common.Reals

@[expose] public section

noncomputable section

namespace Cert.Product

open Idealize.ShloMosaic Cert.Att

/-- An entry whose size a comparison found below plus infinity is a real number. -/
theorem real_of_flag {x : EReal}
    (h : FloatOps.cmpf (F := Ideal) (φ := .f32) .olt (max x (-x)) (Ideal.ofBits .f32 0x7F800000#32) = 1#1) :
    x = ((x.toReal : ℝ) : EReal) := by
  refine real_of_abs_lt (by_contra fun hn => ?_)
  rw [ofBits_inf] at h
  have z : FloatOps.cmpf (F := Ideal) (φ := .f32) .olt (max x (-x)) ⊤ = 0#1 := by
    show BitVec.ofBool (decide (max x (-x) < ⊤)) = 0#1
    rw [decide_eq_false hn]; rfl
  exact absurd (z.symm.trans h) (by decide)

/-- The logistic function as the programs write it. -/
def gate (z : EReal) : EReal := Ideal.div 1 (1 + Ideal.exp (-z))

theorem gate_coe (z : ℝ) : gate (z : EReal) = (((1 + Real.exp (-z))⁻¹ : ℝ) : EReal) := Ideal.logistic_coe z

theorem one_sub_one : (1 : EReal) - 1 = 0 := by
  rw [← EReal.coe_one, ← EReal.coe_sub, sub_self, EReal.coe_zero]

theorem gate_bot : gate ⊥ = 0 := by
  rw [gate, EReal.neg_bot, Ideal.exp_top, EReal.add_top_of_ne_bot (by decide)]
  simp [Ideal.div]

theorem gate_top : gate ⊤ = 1 := by simp [gate, Ideal.div]

/-- A real times the derivative of silu, factored and multiplied out. -/
theorem silu_slope (p : ℝ) (z : EReal) :
    (p : EReal) * (gate z * (1 + z * (1 - gate z))) = p * gate z + z * p * (gate z * (1 - gate z)) := by
  induction z with
  | bot => simp [gate_bot]
  | top => simp [gate_top, one_sub_one]
  | coe z =>
    rw [gate_coe]
    norm_cast
    ring

end Cert.Product

end
-- ==== Proof.AttFwdIdeal.Entries.lean ====
/-
  The entries of one block's arithmetic over the extended reals.
-/
module

public import proofs.«01_k».proof.Proof.AttFwdIdeal.Blocks
public import proofs.«01_k».proof.Proof.Common.Tiles
public import proofs.«01_k».proof.Proof.Common.Reals
public import proofs.«01_k».proof.Proof.Common.Gates
public import Idealize.ShloMosaic.Lib.Pointwise

@[expose] public section

set_option maxRecDepth 16384

noncomputable section

namespace Cert.AttFwdIdeal.Body

open Idealize.ShloMosaic Idealize.ShloMosaic.TcCoe
open Cert.AttFwdIdeal Cert.AttFwdIdeal.Gen Cert.Att

theorem sOf_at (q : FVec Ideal S512x128 .f32) (kb : FVec Ideal S512x128 .bf16) (ck : FVec Ideal S1x1x1x512 .f32) (r c : Fin 512) :
    sOf (qOf q) kb ck (ix2 r c) = (∑ e : Fin 128, q (ix2 r e) * Ideal.ofBits .f32 0x3DB504F3#32 * kb (ix2 c e)) - ck (ix4 0 0 0 c) := by
  pointwise [sOf, qOf]

theorem mask_bot : (Named.named κ "mask" 0xF149F2CA#32 : Ideal .f32) = ⊥ := IdealRules.named_const.ideal_named_scalar _ _ _ _ rfl

theorem sMask_at (j : Fin 8) (s : FVec Ideal S512x512 .f32) (r c : Fin 512) :
    sMask (BitVec.ofNat 32 j.val) s (ix2 r c) = if c ≤ r then s (ix2 r c) else ⊥ := by
  have hj := j.isLt
  have hc := c.isLt
  have hr := r.isLt
  have hb : ∀ x : Fin 512, IntOp.addi (Scalar.muli (BitVec.ofNat 32 j.val) 512#32) (BitVec.ofNat 32 x.val) = BitVec.ofNat 32 (j.val * 512 + x.val) := fun x => by
    rw [BitVec.ofNat_add, BitVec.ofNat_mul]; rfl
  pointwise [sMask]
  rw [hb, hb, cmpi_sle_ofNat (by omega) (by omega), select_ofBool, mask_bot]
  have e : (j.val * 512 + c.val ≤ j.val * 512 + r.val) ↔ c ≤ r := by rw [Fin.le_def]; omega
  by_cases h : c ≤ r
  · rw [if_pos h, if_pos (e.mpr h)]
  · rw [if_neg h, if_neg (fun x => h (e.mp x))]

theorem mOf_at (s : FVec Ideal S512x512 .f32) (m : FVec Ideal S512x1 .f32) (r : Fin 512) :
    mOf s m (ix2 r 0) = max (m (ix2 r 0)) (Finset.univ.fold max ⊥ fun c : Fin 512 => s (ix2 r c)) := by
  pointwise [mOf]
  rw [ofBits_neg_inf]

theorem pOf_at (s : FVec Ideal S512x512 .f32) (m : FVec Ideal S512x1 .f32) (r c : Fin 512) :
    pOf s m (ix2 r c) = Ideal.exp (s (ix2 r c) - mOf s m (ix2 r 0)) := by
  pointwise [pOf]

theorem aOf_at (s : FVec Ideal S512x512 .f32) (m : FVec Ideal S512x1 .f32) (r : Fin 512) :
    aOf s m (ix2 r 0) = Ideal.exp (m (ix2 r 0) - mOf s m (ix2 r 0)) := by
  pointwise [aOf]

theorem lOf_at (s : FVec Ideal S512x512 .f32) (m l : FVec Ideal S512x1 .f32) (r : Fin 512) :
    lOf s m l (ix2 r 0) = aOf s m (ix2 r 0) * l (ix2 r 0) + ∑ c : Fin 512, pOf s m (ix2 r c) := by
  pointwise [lOf]

theorem hiOf_at (s : FVec Ideal S512x512 .f32) (m : FVec Ideal S512x1 .f32) (vb : FVec Ideal S512x128 .bf16) (r : Fin 512) (e : Fin 128) :
    hiOf s m vb (ix2 r e) = ∑ c : Fin 512, pOf s m (ix2 r c) * vb (ix2 c e) := by
  pointwise [hiOf]

theorem loOf_at (s : FVec Ideal S512x512 .f32) (m : FVec Ideal S512x1 .f32) (vb : FVec Ideal S512x128 .bf16) (r : Fin 512) (e : Fin 128) :
    loOf s m vb (ix2 r e) = ∑ c : Fin 512, (pOf s m (ix2 r c) - pOf s m (ix2 r c)) * vb (ix2 c e) := by
  pointwise [loOf]

theorem scOf_at (s : FVec Ideal S512x512 .f32) (m : FVec Ideal S512x1 .f32) (a : FVec Ideal S512x128 .f32) (r : Fin 512) (e : Fin 128) :
    scOf s m a (ix2 r e) = aOf s m (ix2 r 0) * a (ix2 r e) := by
  pointwise [scOf]

theorem blk_acc_at (s : FVec Ideal S512x512 .f32) (vb : FVec Ideal S512x128 .bf16) (x : Carry Ideal) (r : Fin 512) (e : Fin 128) :
    (blk s vb x).2.2 (ix2 r e) = scOf s x.1 x.2.2 (ix2 r e) + (hiOf s x.1 vb (ix2 r e) + loOf s x.1 vb (ix2 r e)) := rfl

theorem start_m (r : Fin 512) : (start (F := Ideal)).1 (ix2 r 0) = ⊥ := by
  pointwise [start, k0_pay37]
  exact mask_bot
theorem start_l (r : Fin 512) : (start (F := Ideal)).2.1 (ix2 r 0) = 0 := by
  pointwise [start, k0_pay38]
theorem start_a (r : Fin 512) (e : Fin 128) : (start (F := Ideal)).2.2 (ix2 r e) = 0 := by
  pointwise [start, k0_pay39]

/-! ## The results -/

theorem o_at (l : FVec Ideal S512x1 .f32) (a : FVec Ideal S512x128 .f32) (r : Fin 512) (e : Fin 128) :
    k0_pay59 (F := Ideal) l a (ix2 r e) = Ideal.div (a (ix2 r e)) (l (ix2 r 0)) := by
  pointwise [k0_pay59]

theorem og_at (l : FVec Ideal S512x1 .f32) (a z : FVec Ideal S512x128 .f32) (r : Fin 512) (e : Fin 128) :
    k0_pay60 (F := Ideal) l a z (ix2 r e) = Ideal.div (a (ix2 r e)) (l (ix2 r 0)) * (z (ix2 r e) * Product.gate (z (ix2 r e))) := by
  rw [Product.gate, ← zero_sub, ← Ideal.ofBits_one_f32, ← Ideal.ofBits_zero .f32]
  pointwise [k0_pay60, k0_pay59]

theorem lse_at (m l : FVec Ideal S512x1 .f32) (r : Fin 512) :
    k0_pay1 (F := Ideal) (k0_pay61 (F := Ideal) m l) (ix3 0 r 0) = m (ix2 r 0) + Ideal.log (l (ix2 r 0)) := by
  pointwise [k0_pay1, k0_pay61]

end Cert.AttFwdIdeal.Body

end
-- ==== Proof.Common.Online.lean ====
/-
  A row's sum of weights taken block by block under a running maximum: the carried maximum, the sum of the exponentials
  under it, and the values' sum under the same exponentials. The values may be infinite.
-/
module

public import proofs.«01_k».proof.Proof.Common.Head

@[expose] public section

noncomputable section

namespace Cert.Att

open Idealize.ShloMosaic

/-- The carried values stand for the weights' sum `A` and the values' sums `C`: nothing was summed yet, or both are
    carried under the exponential of a real number. -/
def Carries (m l : EReal) (a : Fin 128 → EReal) (A : ℝ) (C : Fin 128 → EReal) : Prop :=
  (m = ⊥ ∧ l = 0 ∧ (∀ e, a e = 0) ∧ A = 0 ∧ ∀ e, C e = 0)
    ∨ ∃ M : ℝ, m = ((M : ℝ) : EReal) ∧ l = (A : EReal) * ((Real.exp (-M) : ℝ) : EReal) ∧ ∀ e, a e = C e * ((Real.exp (-M) : ℝ) : EReal)

/-- A factor that is real and not negative may be taken out of a sum, whatever the summands. -/
theorem sum_mul_real {ι : Type} [Fintype ι] (f : ι → EReal) {x : ℝ} (h : 0 ≤ x) : ∑ i, f i * (x : EReal) = (∑ i, f i) * (x : EReal) := by
  classical
  refine Finset.induction_on (motive := fun s => ∑ i ∈ s, f i * (x : EReal) = (∑ i ∈ s, f i) * (x : EReal)) Finset.univ ?_ ?_
  · rw [Finset.sum_empty, Finset.sum_empty, zero_mul]
  · intro a s ha ih
    rw [Finset.sum_insert ha, Finset.sum_insert ha, ih,
      EReal.right_distrib_of_nonneg_of_ne_top (EReal.coe_nonneg.mpr h) (EReal.coe_ne_top x)]

/-- Where a weight was summed the maximum is real. -/
theorem Carries.real {m l : EReal} {a : Fin 128 → EReal} {A : ℝ} {C : Fin 128 → EReal} (h : Carries m l a A C) (hA : A ≠ 0) :
    ∃ M : ℝ, m = ((M : ℝ) : EReal) ∧ l = (A : EReal) * ((Real.exp (-M) : ℝ) : EReal) ∧ ∀ e, a e = C e * ((Real.exp (-M) : ℝ) : EReal) :=
  h.resolve_left fun h => hA h.2.2.2.1

/-- A carried sum brought under the next maximum. -/
theorem carried {m x X : EReal} {M' : ℝ} (h : (m = ⊥ ∧ x = 0 ∧ X = 0) ∨ ∃ M : ℝ, m = ((M : ℝ) : EReal) ∧ x = X * ((Real.exp (-M) : ℝ) : EReal)) :
    Ideal.exp (m - ((M' : ℝ) : EReal)) * x = X * ((Real.exp (-M') : ℝ) : EReal) := by
  rcases h with ⟨rfl, rfl, rfl⟩ | ⟨M, rfl, rfl⟩
  · rw [mul_zero, zero_mul]
  · rw [← EReal.coe_sub, Ideal.exp_coe, mul_left_comm, ← EReal.coe_mul, ← Real.exp_add, show M - M' + -M = -M' by ring]

/-- Values that may be infinite, summed under a head's probabilities. -/
def Head.mix (H : Head) (v : Fin 4096 → Fin 128 → EReal) (r : Fin 4096) (e : Fin 128) : EReal := ∑ c, ((H.p r c : ℝ) : EReal) * v c e

/-- The quotient of the values' sum by the weights' sum, both under a positive factor. -/
theorem Head.mix_eq (H : Head) (v : Fin 4096 → Fin 128 → EReal) (r : Fin 4096) (e : Fin 128) {x : ℝ} (h : 0 < x) :
    Ideal.div ((∑ c, ((H.w r c : ℝ) : EReal) * v c e) * (x : EReal)) (((H.l r * x : ℝ)) : EReal) = H.mix v r e := by
  have hl := H.l_pos r
  rw [Ideal.div_coe (mul_pos hl h).ne', mul_assoc, ← EReal.coe_mul, ← sum_mul_real _ (by positivity)]
  refine Finset.sum_congr rfl fun c _ => ?_
  rw [mul_right_comm, ← EReal.coe_mul]
  refine congrArg (fun y : ℝ => (y : EReal) * v c e) ?_
  rw [Head.p]
  field_simp

variable {m l : EReal} {a : Fin 128 → EReal} {A : ℝ} {C : Fin 128 → EReal}

/-- The maximum after a block with a score that is real is real. -/
theorem Carries.max (h : Carries m l a A C) {n : ℕ} {s : Fin n → EReal} {t : Fin n → ℝ} {p : Fin n → Prop} [DecidablePred p]
    (hs : ∀ c, s c = if p c then ((t c : ℝ) : EReal) else ⊥) (c₀ : Fin n) (h₀ : p c₀) :
    ∃ M : ℝ, Max.max m (Finset.univ.fold Max.max ⊥ s) = ((M : ℝ) : EReal) := by
  obtain ⟨N, hN⟩ := fold_max_real s t p hs c₀ h₀
  rw [hN]
  rcases h with ⟨rfl, -⟩ | ⟨M, rfl, -⟩
  · exact ⟨N, max_eq_right bot_le⟩
  · rcases le_total (M : EReal) (N : EReal) with e | e
    · exact ⟨N, max_eq_right e⟩
    · exact ⟨M, max_eq_left e⟩

/-- A block's exponential under the maximum after it is its weight under it. -/
theorem weight_under (p : Prop) [Decidable p] (t M : ℝ) :
    Ideal.exp ((if p then ((t : ℝ) : EReal) else ⊥) - ((M : ℝ) : EReal)) = (((if p then Real.exp t else 0) * Real.exp (-M) : ℝ) : EReal) := by
  rw [exp_sub_real]
  congr 1
  split
  · rw [← Real.exp_add]; rfl
  · rw [zero_mul]

/-- The carried values after a block. -/
theorem Carries.next (h : Carries m l a A C) {n : ℕ} {s : Fin n → EReal} {t : Fin n → ℝ} {p : Fin n → Prop} [DecidablePred p]
    (hs : ∀ c, s c = if p c then ((t c : ℝ) : EReal) else ⊥) (c₀ : Fin n) (h₀ : p c₀) {v : Fin n → Fin 128 → EReal} {m' l' : EReal} {a' : Fin 128 → EReal}
    (hm : m' = Max.max m (Finset.univ.fold Max.max ⊥ s)) (hl : l' = Ideal.exp (m - m') * l + ∑ c, Ideal.exp (s c - m'))
    (ha : ∀ e, a' e = Ideal.exp (m - m') * a e
      + (∑ c, Ideal.exp (s c - m') * v c e + ∑ c, (Ideal.exp (s c - m') - Ideal.exp (s c - m')) * v c e)) :
    Carries m' l' a' (A + ∑ c, if p c then Real.exp (t c) else 0) (fun e => C e + ∑ c, ((if p c then Real.exp (t c) else 0 : ℝ) : EReal) * v c e) := by
  obtain ⟨M, hM⟩ := h.max hs c₀ h₀
  rw [hM] at hm
  subst hm
  have hw : ∀ c, Ideal.exp (s c - ((M : ℝ) : EReal)) = (((if p c then Real.exp (t c) else 0) * Real.exp (-M) : ℝ) : EReal) := fun c => by
    rw [hs, weight_under]
  have hd : ∀ x y : EReal, x * ((Real.exp (-M) : ℝ) : EReal) + y * ((Real.exp (-M) : ℝ) : EReal) = (x + y) * ((Real.exp (-M) : ℝ) : EReal) :=
    fun x y => (EReal.right_distrib_of_nonneg_of_ne_top (EReal.coe_nonneg.mpr (Real.exp_pos _).le) (EReal.coe_ne_top _) x y).symm
  refine Or.inr ⟨M, rfl, ?_, fun e => ?_⟩
  · rw [hl, carried (X := (A : EReal)) (h.imp (fun h => ⟨h.1, h.2.1, by rw [h.2.2.2.1]; rfl⟩) fun ⟨N, h1, h2, _⟩ => ⟨N, h1, h2⟩), sum_eq_coe _ _ hw,
      ← Finset.sum_mul, EReal.coe_mul, hd, EReal.coe_add]
  · have h1 : ∑ c, Ideal.exp (s c - ((M : ℝ) : EReal)) * v c e
        = (∑ c, ((if p c then Real.exp (t c) else 0 : ℝ) : EReal) * v c e) * ((Real.exp (-M) : ℝ) : EReal) := by
      rw [← sum_mul_real _ (Real.exp_pos _).le]
      exact Finset.sum_congr rfl fun c _ => by rw [hw, EReal.coe_mul, mul_right_comm]
    have h2 : ∑ c, (Ideal.exp (s c - ((M : ℝ) : EReal)) - Ideal.exp (s c - ((M : ℝ) : EReal))) * v c e = 0 :=
      Finset.sum_eq_zero fun c _ => by rw [hw, ← EReal.coe_sub, sub_self, EReal.coe_zero, zero_mul]
    rw [ha, carried (X := C e) (h.imp (fun h => ⟨h.1, h.2.2.1 e, h.2.2.2.2 e⟩) fun ⟨N, h1, _, h3⟩ => ⟨N, h1, h3 e⟩), h1, h2, add_zero, hd]

end Cert.Att

end
-- ==== Proof.AttFwdIdeal.BlockVal.lean ====
/-
  A grid point in real numbers: where its buffers hold a head's numbers, the carried values stand for the head's sums over
  the keys so far, and the three results are the head's output, the output under its gate, and the logarithm of the sums.
-/
module

public import proofs.«01_k».proof.Proof.AttFwdIdeal.Entries
public import proofs.«01_k».proof.Proof.Common.Online
public import proofs.«01_k».proof.Proof.Common.Head
public import proofs.«01_k».proof.Proof.Common.Sums

@[expose] public section

set_option maxRecDepth 16384

noncomputable section

namespace Cert.AttFwdIdeal.Body

open Idealize.ShloMosaic Idealize.ShloMosaic.TcCoe
open Cert.AttFwdIdeal Cert.AttFwdIdeal.Gen Cert.Att

/-- The operands' buffers hold head `H` and the query block `j`, and the values `v`, which may be infinite. -/
structure Holds (S : St Ideal) (H : Head) (v : Fin 4096 → Fin 128 → EReal) (j : Fin 8) : Prop where
  q : ∀ r e, S.q (ix2 r e) = ((H.q (rowOf j r) e : ℝ) : EReal)
  k : ∀ c e, S.k (ix2 c e) = ((H.k c e : ℝ) : EReal)
  v : ∀ c e, S.v (ix2 c e) = v c e
  g : ∀ b c, S.ck (ix4 0 b 0 c) = ((H.g (rowOf b c) : ℝ) : EReal)

theorem at2_ix {m n : ℕ} (a : Fin m) (b : Fin n) : at2 a b = ix2 a b :=
  funext fun x => match x with | ⟨0, _⟩ => rfl | ⟨1, _⟩ => rfl

theorem rows_ix (X : (⟨2, ![4096, 128]⟩ : Shape).Idx → EReal) (b : Fin 8) (r : Fin 512) (e : Fin 128) :
    rows X b (ix2 r e) = X (ix2 (rowOf b r) e) := by
  rw [← at2_ix, rows_at, at2_ix]

theorem gate_ix (X : S1x8x1x512.Idx → EReal) (b : Fin 8) (c : Fin 512) : gate X b (ix4 0 0 0 c) = X (ix4 0 b 0 c) :=
  congrArg X (funext fun a => Fin.ext (by
    match a with
    | ⟨0, _⟩ => rfl
    | ⟨1, _⟩ => show b.val + 1 * 0 = b.val; omega
    | ⟨2, _⟩ => rfl
    | ⟨3, _⟩ => show 0 + 1 * c.val = c.val; omega))

variable {S : St Ideal} {H : Head} {v : Fin 4096 → Fin 128 → EReal} {j : Fin 8}

theorem s_val (h : Holds S H v j) (b : Fin 8) (r c : Fin 512) :
    sU S b (ix2 r c) = ((H.s (rowOf j r) (rowOf b c) : ℝ) : EReal) := by
  rw [sU, sOf_at, gate_ix, h.g, ofBits_scale,
    sum_eq_coe _ (fun e => H.q (rowOf j r) e * σ * H.k (rowOf b c) e) (fun e => by
      rw [rows_ix, h.q, h.k, ← EReal.coe_mul, ← EReal.coe_mul]), ← EReal.coe_sub]
  congr 1
  unfold Head.s
  rw [Finset.sum_mul]
  congr 1
  exact Finset.sum_congr rfl fun e _ => by ring

/-- What a block of keys adds to a query's sum of weights and of values. -/
def lAdd (H : Head) (r : Fin 4096) (b : Fin 8) : ℝ := ∑ c : Fin 512, H.w r (rowOf b c)
def aAdd (H : Head) (v : Fin 4096 → Fin 128 → EReal) (r : Fin 4096) (e : Fin 128) (b : Fin 8) : EReal :=
  ∑ c : Fin 512, ((H.w r (rowOf b c) : ℝ) : EReal) * v (rowOf b c) e

/-- The carried values of row `r` stand for the first `n` blocks of keys. -/
def Sums (H : Head) (v : Fin 4096 → Fin 128 → EReal) (j : Fin 8) (r : Fin 512) (n : ℕ) (x : Carry Ideal) : Prop :=
  Carries (x.1 (ix2 r 0)) (x.2.1 (ix2 r 0)) (fun e => x.2.2 (ix2 r e)) (below n (lAdd H (rowOf j r))) fun e => below n (aAdd H v (rowOf j r) e)

/-- One block more, the keys after the query masked. -/
theorem sums_blk (h : Holds S H v j) {b : Fin 8} {r : Fin 512} {x : Carry Ideal} (ih : Sums H v j r b.val x) {s : FVec Ideal S512x512 .f32}
    (hs : ∀ c, s (ix2 r c) = if rowOf b c ≤ rowOf j r then ((H.s (rowOf j r) (rowOf b c) : ℝ) : EReal) else ⊥)
    (c₀ : Fin 512) (h₀ : rowOf b c₀ ≤ rowOf j r) : Sums H v j r (b.val + 1) (blk s (rows S.v b) x) := by
  have hn := ih.next (s := fun c => s (ix2 r c)) hs c₀ h₀ (v := fun c e => rows S.v b (ix2 c e))
    (m' := mOf s x.1 (ix2 r 0)) (l' := lOf s x.1 x.2.1 (ix2 r 0))
    (a' := fun e => (blk s (rows S.v b) x).2.2 (ix2 r e)) (mOf_at s x.1 r)
    (by rw [lOf_at, aOf_at]; simp only [pOf_at])
    (fun e => by rw [blk_acc_at, scOf_at, aOf_at, hiOf_at, loOf_at]; simp only [pOf_at])
  have e1 : below (b.val + 1) (lAdd H (rowOf j r))
      = below b.val (lAdd H (rowOf j r)) + ∑ c, if rowOf b c ≤ rowOf j r then Real.exp (H.s (rowOf j r) (rowOf b c)) else 0 := below_succ b _
  have e2 : (fun e => below (b.val + 1) (aAdd H v (rowOf j r) e)) = fun e => below b.val (aAdd H v (rowOf j r) e)
      + ∑ c, ((if rowOf b c ≤ rowOf j r then Real.exp (H.s (rowOf j r) (rowOf b c)) else 0 : ℝ) : EReal) * rows S.v b (ix2 c e) :=
    funext fun e => (below_succ b _).trans (by simp only [rows_ix, h.v]; rfl)
  unfold Sums
  rw [e1, e2]
  exact hn

theorem sums_after (h : Holds S H v j) (r : Fin 512) : ∀ n : ℕ, n ≤ j.val → Sums H v j r n (after S n)
  | 0, _ => Or.inl ⟨start_m r, start_l r, start_a r, below_zero _, fun _ => below_zero _⟩
  | n + 1, hn => by
    have hn8 : n < 8 := by have := j.isLt; omega
    have hlt : ∀ c, rowOf ⟨n, hn8⟩ c ≤ rowOf j r := fun c => (rowOf_lt (Fin.lt_def.mpr (by dsimp only; omega)) c r).le
    rw [after_succ S ⟨n, hn8⟩]
    exact sums_blk h (b := ⟨n, hn8⟩) (sums_after h r n (by omega)) (fun c => by rw [if_pos (hlt c)]; exact s_val h _ r c) 0 (hlt 0)

/-- All keys of a query are those up to its own block. -/
theorem below_all_of {α : Type} [AddCommMonoid α] (f : Fin 8 → α) (hf : ∀ b, j < b → f b = 0) : below (j.val + 1) f = ∑ b, f b :=
  Finset.sum_congr rfl fun b _ => by
    by_cases hb : b.val < j.val + 1
    · rw [if_pos hb]
    · rw [if_neg hb, hf b (Fin.lt_def.mpr (by omega))]

theorem w_later (H : Head) {b : Fin 8} (hb : j < b) (r c : Fin 512) : H.w (rowOf j r) (rowOf b c) = 0 :=
  if_neg (not_le.mpr (rowOf_lt hb r c))

/-- The carried values after the diagonal block: the head's sums under the exponential of a real number. -/
theorem last_val (h : Holds S H v j) (r : Fin 512) : ∃ M : ℝ, (last S j).1 (ix2 r 0) = ((M : ℝ) : EReal)
    ∧ (last S j).2.1 (ix2 r 0) = ((H.l (rowOf j r) * Real.exp (-M) : ℝ) : EReal)
    ∧ ∀ e, (last S j).2.2 (ix2 r e) = (∑ c, ((H.w (rowOf j r) c : ℝ) : EReal) * v c e) * ((Real.exp (-M) : ℝ) : EReal) := by
  have hx : Sums H v j r (j.val + 1) (last S j) := sums_blk h (sums_after h r j.val le_rfl) (fun c => by
    rw [sM, sMask_at, s_val h]
    by_cases hc : c ≤ r
    · rw [if_pos hc, if_pos (rowOf_le.mpr hc)]
    · rw [if_neg hc, if_neg (fun x => hc (rowOf_le.mp x))]) r le_rfl
  have e1 : below (j.val + 1) (lAdd H (rowOf j r)) = H.l (rowOf j r) := by
    refine (below_all_of (lAdd H (rowOf j r)) fun b hb => Finset.sum_eq_zero fun c _ => w_later H hb r c).trans ?_
    exact sum_rows fun c => H.w (rowOf j r) c
  have e2 : ∀ e, below (j.val + 1) (aAdd H v (rowOf j r) e) = ∑ c, ((H.w (rowOf j r) c : ℝ) : EReal) * v c e := fun e => by
    refine (below_all_of (aAdd H v (rowOf j r) e) fun b hb => Finset.sum_eq_zero fun c _ => by rw [w_later H hb r c, EReal.coe_zero, zero_mul]).trans ?_
    exact sum_rows fun c => ((H.w (rowOf j r) c : ℝ) : EReal) * v c e
  obtain ⟨M, h1, h2, h3⟩ := hx.real (by rw [e1]; exact (H.l_pos _).ne')
  exact ⟨M, h1, by rw [h2, e1, EReal.coe_mul], fun e => by rw [h3 e, e2]⟩

/-- The quotient of the carried sums is the head's output. -/
theorem quot_val (h : Holds S H v j) (r : Fin 512) (e : Fin 128) :
    Ideal.div ((last S j).2.2 (ix2 r e)) ((last S j).2.1 (ix2 r 0)) = H.mix v (rowOf j r) e := by
  obtain ⟨M, -, h2, h3⟩ := last_val h r
  rw [h2, h3, H.mix_eq v _ _ (Real.exp_pos _)]

variable {i : grid0.Coords}

theorem step_o (h : Holds S H v (jOf i)) (r : Fin 512) (e : Fin 128) :
    (step i S).o (ix2 r e) = H.mix v (rowOf (jOf i) r) e := by
  show k0_pay59 (F := Ideal) _ _ (ix2 r e) = _
  rw [o_at, quot_val h]

theorem step_og (h : Holds S H v (jOf i)) (r : Fin 512) (e : Fin 128) :
    (step i S).og (ix2 r e) = H.mix v (rowOf (jOf i) r) e * (S.z (ix2 r e) * Product.gate (S.z (ix2 r e))) := by
  show k0_pay60 (F := Ideal) _ _ _ (ix2 r e) = _
  rw [og_at, quot_val h]

theorem step_lse (h : Holds S H v (jOf i)) (r : Fin 512) :
    (step i S).lse (ix3 0 r 0) = ((Real.log (H.l (rowOf (jOf i) r)) : ℝ) : EReal) := by
  show k0_pay1 (F := Ideal) (k0_pay61 (F := Ideal) _ _) (ix3 0 r 0) = _
  obtain ⟨M, h1, h2, -⟩ := last_val h r
  rw [lse_at, h1, h2, log_real (mul_pos (H.l_pos _) (Real.exp_pos _)), ← EReal.coe_add,
    Real.log_mul (H.l_pos _).ne' (Real.exp_pos _).ne', Real.log_exp]
  congr 1
  ring

end Cert.AttFwdIdeal.Body

end
-- ==== Proof.AttFwdIdeal.Windows.lean ====
/-
  What the host hands the launch, and the blocks the launch's points read: head `h`'s columns of the arguments and the
  head's gates, query block `j`.
-/
module

public import proofs.«01_k».proof.Proof.AttFwdIdeal.BlockVal
public import proofs.«01_k».proof.Proof.AttFwdIdeal.Data
public import Idealize.ShloMosaic.Lib.StableHlo.ReadAt
public import Idealize.ShloMosaic.Lib.Pipeline.ValueKit

@[expose] public section

set_option maxRecDepth 16384

noncomputable section

namespace Cert.AttFwdIdeal.Body

open Idealize.ShloMosaic Idealize.ShloMosaic.TcCoe
open Cert.AttFwdIdeal Cert.AttFwdIdeal.Gen Cert.Att

variable (m : (ℓ : Loc nD τ sig) → Buf (Elt Ideal) ℓ) (c : Dev nD)

/-- The arguments. -/
abbrev A0 : FVec Ideal S4096x4096 .f32 := m ((c : Thread nD τ).loc main_arg0)
abbrev A1 : FVec Ideal S4096x4096 .f32 := m ((c : Thread nD τ).loc main_arg1)
abbrev A2 : FVec Ideal S16x4096 .f32 := m ((c : Thread nD τ).loc main_arg2)

theorem V_v0 : V m c main_v0 = shapeCast S16x8x1x512 (A2 m c) shapeCasts_S16x4096_S16x8x1x512 := by
  unfold V
  after_reads_simp
  rfl

theorem V_v1 : V m c main_v1 = truncf .bf16 (A1 m c) bitsLt_bf16_f32 := by
  unfold V
  after_reads_simp

theorem v1_at (i : S4096x4096.Idx) : V m c main_v1 i = A1 m c i := by
  rw [V_v1]
  rfl

theorem v0_at (h : Fin 16) (b : Fin 8) (k : Fin 512) : V m c main_v0 (ix4 h b 0 k) = A2 m c (ix2 h (rowOf b k)) := by
  have e : rowOf b k = ⟨b.val * 512 + k.val, by have := b.isLt; have := k.isLt; omega⟩ := Fin.ext (by
    show 512 * b.val + k.val = b.val * 512 + k.val
    omega)
  rw [V_v0, e]
  pointwise

/-- The queries, keys and gates are real numbers. -/
structure Reals : Prop where
  h0 : ∀ r h e, A0 m c (ix2 r (hcol h e)) = (((A0 m c (ix2 r (hcol h e))).toReal : ℝ) : EReal)
  h1 : ∀ r h e, A1 m c (ix2 r (hcol h e)) = (((A1 m c (ix2 r (hcol h e))).toReal : ℝ) : EReal)
  h2 : ∀ i, A2 m c i = (((A2 m c i).toReal : ℝ) : EReal)

/-- Head `h` of the arguments; the output's gradient is not among them. -/
abbrev hd (h : Fin 16) : Head := headOf (A0 m c) (A1 m c) (A2 m c) (fun _ => 0) h

/-- Its values as they stand. -/
abbrev vals (h : Fin 16) (r : Fin 4096) (e : Fin 128) : EReal := A1 m c (ix2 r (vcol h e))

/-- Where each window's block lies at a point. -/
theorem idx : ∀ t : Fin grid0.N,
    win0_0.index t = ![(grid0.coords t 1).val, (grid0.coords t 0).val] ∧ win0_1.index t = ![(grid0.coords t 1).val, 16 + (grid0.coords t 0).val]
    ∧ win0_2.index t = ![0, (grid0.coords t 0).val] ∧ win0_3.index t = ![0, 16 + (grid0.coords t 0).val]
    ∧ win0_4.index t = ![(grid0.coords t 0).val, 0, 0, 0] ∧ win0_5.index t = ![(grid0.coords t 1).val, (grid0.coords t 0).val]
    ∧ win0_6.index t = ![(grid0.coords t 1).val, (grid0.coords t 0).val]
    ∧ win0_7.index t = ![(grid0.coords t 0).val, (grid0.coords t 1).val, 0] := by decide +kernel

/-- The head of point `t`. -/
def headAt (t : Fin grid0.N) : Fin 16 := grid0.coords t 0

variable (t : Fin cfg0.N)

/-- A block's entry is the array's. -/
theorem blk_at (w : Fin cfg0.W) (y : ((cfg0.win w).xblock (cfg0.grid.coords t)).Idx) (i) (h : ((cfg0.win w).blk t).view.emb y = i) :
    HEq (iblk m c w t y) (V m c (Pipeline.arrRef spec0 w) i) := by
  subst h
  unfold iblk
  rw [View.read_apply]
  exact cast_heq _ _

theorem q_emb (r : Fin 512) (e : Fin 128) :
    ((cfg0.win 0).blk t).view.emb (ix2 r e) = ix2 (rowOf (jOf (grid0.coords t)) r) (hcol (headAt t) e) := by
  unfold headAt hcol rowOf jOf
  blk_ext [idx t]

theorem z_emb (r : Fin 512) (e : Fin 128) :
    ((cfg0.win 1).blk t).view.emb (ix2 r e) = ix2 (rowOf (jOf (grid0.coords t)) r) (vcol (headAt t) e) := by
  unfold headAt vcol rowOf jOf
  blk_ext [idx t]

theorem k_emb (r : Fin 4096) (e : Fin 128) : ((cfg0.win 2).blk t).view.emb (ix2 r e) = ix2 r (hcol (headAt t) e) := by
  unfold headAt hcol
  blk_ext [idx t]

theorem v_emb (r : Fin 4096) (e : Fin 128) : ((cfg0.win 3).blk t).view.emb (ix2 r e) = ix2 r (vcol (headAt t) e) := by
  unfold headAt vcol
  blk_ext [idx t]

theorem g_emb (b : Fin 8) (k : Fin 512) : ((cfg0.win 4).blk t).view.emb (ix4 0 b 0 k) = ix4 (headAt t) b 0 k := by
  unfold headAt
  blk_ext [idx t]

theorem o_emb (r : Fin 512) (e : Fin 128) :
    ((cfg0.win 5).blk t).view.emb (ix2 r e) = ix2 (rowOf (jOf (grid0.coords t)) r) (ocol (headAt t) e) := by
  unfold headAt ocol rowOf jOf
  blk_ext [idx t]

theorem og_emb (r : Fin 512) (e : Fin 128) :
    ((cfg0.win 6).blk t).view.emb (ix2 r e) = ix2 (rowOf (jOf (grid0.coords t)) r) (ocol (headAt t) e) := by
  unfold headAt ocol rowOf jOf
  blk_ext [idx t]

theorem lse_emb (r : Fin 512) :
    ((cfg0.win 7).blk t).view.emb (ix3 0 r 0) = ix3 (headAt t) (rowOf (jOf (grid0.coords t)) r) 0 := by
  unfold headAt rowOf jOf
  blk_ext [idx t]

/-- The gate's block is the argument's second half. -/
theorem z_at (r : Fin 512) (e : Fin 128) :
    (iblk m c 1 t : FVec Ideal S512x128 .f32) (ix2 r e) = A0 m c (ix2 (rowOf (jOf (grid0.coords t)) r) (vcol (headAt t) e)) :=
  (eq_of_heq (blk_at m c t 1 _ _ (z_emb t r e))).trans (congrFun (V_main_arg0 m c) _)

variable {m c} (hr : Reals m c)
include hr

theorem q_val (r : Fin 512) (e : Fin 128) :
    (iblk m c 0 t : FVec Ideal S512x128 .f32) (ix2 r e) = (((hd m c (headAt t)).q (rowOf (jOf (grid0.coords t)) r) e : ℝ) : EReal) :=
  (eq_of_heq (blk_at m c t 0 _ _ (q_emb t r e))).trans ((congrFun (V_main_arg0 m c) _).trans (hr.h0 _ _ _))

theorem k_val (r : Fin 4096) (e : Fin 128) :
    (iblk m c 2 t : FVec Ideal S4096x128 .bf16) (ix2 r e) = (((hd m c (headAt t)).k r e : ℝ) : EReal) :=
  (eq_of_heq (blk_at m c t 2 _ _ (k_emb t r e))).trans ((v1_at m c _).trans (hr.h1 _ _ _))

omit hr in
theorem v_val (r : Fin 4096) (e : Fin 128) :
    (iblk m c 3 t : FVec Ideal S4096x128 .bf16) (ix2 r e) = vals m c (headAt t) r e :=
  (eq_of_heq (blk_at m c t 3 _ _ (v_emb t r e))).trans (v1_at m c _)

theorem g_val (b : Fin 8) (k : Fin 512) :
    (iblk m c 4 t : FVec Ideal S1x8x1x512 .f32) (ix4 0 b 0 k) = (((hd m c (headAt t)).g (rowOf b k) : ℝ) : EReal) :=
  (eq_of_heq (blk_at m c t 4 _ _ (g_emb t b k))).trans ((v0_at m c _ _ _).trans (hr.h2 _))

/-- Every point's blocks are its head's numbers and values. -/
theorem feeds (o og lse) : Holds (inSt m c t o og lse) (hd m c (headAt t)) (vals m c (headAt t)) (jOf (grid0.coords t)) where
  q := q_val t hr
  k := k_val t hr
  v := v_val t
  g := g_val t hr

end Cert.AttFwdIdeal.Body

end
-- ==== Proof.AttFwdRef.Entries.lean ====
/-
  The entries of the reference's values: each stage of the attention at one index, from the stages it reads.
-/
module

public import proofs.«01_k».proof.Proof.Gen.AttFwdRefIdeal.Read
public import Idealize.ShloMosaic.Lib.Pointwise
public import proofs.«01_k».proof.Proof.Common.Head
public import proofs.«01_k».proof.Proof.Common.Gates

@[expose] public section

set_option maxRecDepth 16384

noncomputable section

namespace Cert.AttFwdRefIdeal.Entries

open Idealize.ShloMosaic
open Cert.AttFwdRefIdeal Cert.AttFwdRefIdeal.Gen Cert.AttFwdRefIdeal.Read Cert.Att

variable (x0 x1 : FVec Ideal S4096x4096 .f32) (x2 : FVec Ideal S16x4096 .f32)
variable (h : Fin 16) (r c : Fin 4096) (e : Fin 128)

/-- The largest entry of a row. -/
theorem largest_at (s : FVec Ideal S16x4096x4096 .f32) :
    Host.reduce FloatOps.maximumf s (constant (F := Ideal) S_ .f32 0xFF800000#32) reducesTo_S16x4096x4096_S16x4096_d2 h_S_ (ix2 h r) =
      Finset.univ.fold max ⊥ (fun c : Fin 4096 => s (ix3 h r c)) := by
  pointwise
  rw [ofBits_neg_inf]

/-! ## The output -/

theorem q_at : val_main_v4 (F := Ideal) x0 (ix3 h r e) = x0 (ix2 r (hcol h e)) := by
  pointwise [val_main_v4, val_main_v3, val_main_v0]
  rfl

theorem k_at : val_main_v6 (F := Ideal) x1 (ix3 h r e) = x1 (ix2 r (hcol h e)) := by
  pointwise [val_main_v6, val_main_v5, val_main_v1]
  rfl

theorem v_at : val_main_v35 (F := Ideal) x1 (ix3 h r e) = x1 (ix2 r (vcol h e)) := by
  pointwise [val_main_v35, val_main_v34, val_main_v2]
  rfl

/-- The masked scores. -/
theorem score_at : val_main_v22 (F := Ideal) x0 x1 x2 (ix3 h r c) = if c ≤ r then
      (∑ e : Fin 128, val_main_v4 (F := Ideal) x0 (ix3 h r e) * val_main_v6 (F := Ideal) x1 (ix3 h c e)) * Ideal.ofBits .f32 0x3DB504F3#32
        + x2 (ix2 h r) - x2 (ix2 h c) else ⊥ := by
  pointwise [val_main_v22, val_main_call0_v1, val_main_v21, val_main_v20, val_main_v19, val_main_v18, val_main_v17, val_main_v16,
    val_main_call0_v2, val_main_call0_v0, val_main_cst_0, val_main_v15, val_main_v14, val_main_v13, val_main_v12, val_main_v11,
    val_main_v10, val_main_v9, val_main_v8, val_main_cst, val_main_v7]
  rw [cmpi_sle_ofNat (by have := c.isLt; omega) (by have := r.isLt; omega), select_ofBool]
  simp only [id, constant, Ideal.ofBits_def, ofBits_neg_inf]
  rfl

theorem bot_at : val_main_v24 (F := Ideal) (ix2 h r) = ⊥ := by
  pointwise [val_main_v24, val_main_cst_2]
  exact ofBits_neg_inf

/-- A query's largest score. -/
theorem max_at : val_main_v25 (F := Ideal) x0 x1 x2 (ix2 h r) =
    max ⊥ (Finset.univ.fold max ⊥ (fun c : Fin 4096 => val_main_v22 (F := Ideal) x0 x1 x2 (ix3 h r c))) := by
  rw [val_main_v25_apply, bot_at, val_main_v23, val_main_cst_1, largest_at]
  rfl

/-- The weights. -/
theorem w_at : val_main_v29 (F := Ideal) x0 x1 x2 (ix3 h r c) =
    Ideal.exp (val_main_v22 (F := Ideal) x0 x1 x2 (ix3 h r c) - val_main_v25 (F := Ideal) x0 x1 x2 (ix2 h r)) := by
  pointwise [val_main_v29, val_main_v28, val_main_v27, val_main_v26]

/-- Their sum. -/
theorem l_at : val_main_v31 (F := Ideal) x0 x1 x2 (ix3 h r 0) = ∑ c : Fin 4096, val_main_v29 (F := Ideal) x0 x1 x2 (ix3 h r c) := by
  pointwise [val_main_v31, val_main_v30, val_main_cst_3]

theorem o_at : val_main_v38 (F := Ideal) x0 x1 x2 (ix2 r (ocol h e)) =
    ∑ c : Fin 4096, Ideal.div (val_main_v29 (F := Ideal) x0 x1 x2 (ix3 h r c)) (val_main_v31 (F := Ideal) x0 x1 x2 (ix3 h r 0))
      * val_main_v35 (F := Ideal) x1 (ix3 h c e) := by
  pointwise [val_main_v38, val_main_v37, val_main_v36, val_main_v33, val_main_v32]
  simp only [ocol_div, ocol_mod]

/-! ## The output under its gate -/

/-- The gate's column beside a column of the output. -/
abbrev half (s : Fin 2048) : Fin 4096 := ⟨2048 + s.val, by omega⟩

theorem z_at (s : Fin 2048) : val_main_v60 (F := Ideal) x0 (ix2 r s) = x0 (ix2 r (half s)) := by
  pointwise [val_main_v60]

theorem silu_at (s : Fin 2048) : val_main_v61 (F := Ideal) x0 (ix2 r s)
    = val_main_v60 (F := Ideal) x0 (ix2 r s) * Product.gate (val_main_v60 (F := Ideal) x0 (ix2 r s)) := by
  rw [Product.gate, ← Ideal.ofBits_one_f32]
  pointwise [val_main_v61, val_main_call2_v5, val_main_call2_v4, val_main_call2_cst_0, val_main_call2_v3, val_main_call2_v2,
    val_main_call2_cst, val_main_call2_v1, val_main_call2_v0]

theorem og_at (s : Fin 2048) : val_main_v63 (F := Ideal) x0 x1 x2 (ix2 r s)
    = val_main_v38 (F := Ideal) x0 x1 x2 (ix2 r s) * (x0 (ix2 r (half s)) * Product.gate (x0 (ix2 r (half s)))) := by
  rw [← z_at x0 r s, ← silu_at x0 r s]
  pointwise [val_main_v63, val_main_v62]

/-! ## The logarithm of a query's sum -/

theorem q2_at : val_main_v41 (F := Ideal) x0 (ix3 h r e) = x0 (ix2 r (hcol h e)) := by
  pointwise [val_main_v41, val_main_v40, val_main_v39]
  rfl

theorem k2_at : val_main_v44 (F := Ideal) x1 (ix3 h r e) = x1 (ix2 r (hcol h e)) := by
  pointwise [val_main_v44, val_main_v43, val_main_v42]
  rfl

/-- The masked scores without the query's own gate. -/
theorem score2_at : val_main_v57 (F := Ideal) x0 x1 x2 (ix3 h r c) = if c ≤ r then
      (∑ e : Fin 128, val_main_v41 (F := Ideal) x0 (ix3 h r e) * val_main_v44 (F := Ideal) x1 (ix3 h c e)) * Ideal.ofBits .f32 0x3DB504F3#32
        - x2 (ix2 h c) else ⊥ := by
  pointwise [val_main_v57, val_main_call1_v1, val_main_v56, val_main_v55, val_main_v54, val_main_v53, val_main_v52, val_main_v51,
    val_main_call1_v2, val_main_call1_v0, val_main_cst_5, val_main_v50, val_main_v49, val_main_v48, val_main_v47, val_main_v46,
    val_main_cst_4, val_main_v45]
  rw [cmpi_sle_ofNat (by have := c.isLt; omega) (by have := r.isLt; omega), select_ofBool]
  simp only [id, constant, Ideal.ofBits_def, ofBits_neg_inf]
  rfl

theorem max2_col : val_main_v59 (F := Ideal) x0 x1 x2 (ix3 h r 0) = val_main_v58 (F := Ideal) x0 x1 x2 (ix2 h r) := by
  pointwise [val_main_v59]

theorem max2_at : val_main_v59 (F := Ideal) x0 x1 x2 (ix3 h r 0) =
    Finset.univ.fold max ⊥ (fun c : Fin 4096 => val_main_v57 (F := Ideal) x0 x1 x2 (ix3 h r c)) := by
  rw [max2_col, val_main_v58, val_main_cst_6, largest_at]

theorem w2_at : val_main_v66 (F := Ideal) x0 x1 x2 (ix3 h r c) =
    Ideal.exp (val_main_v57 (F := Ideal) x0 x1 x2 (ix3 h r c) - val_main_v59 (F := Ideal) x0 x1 x2 (ix3 h r 0)) := by
  pointwise [val_main_v66, val_main_v65, val_main_v64]

/-- Their sum. -/
theorem l2_at : val_main_v68 (F := Ideal) x0 x1 x2 (ix3 h r 0) = ∑ c : Fin 4096, val_main_v66 (F := Ideal) x0 x1 x2 (ix3 h r c) := by
  pointwise [val_main_v68, val_main_v67, val_main_cst_7]

theorem lse_at : val_main_v70 (F := Ideal) x0 x1 x2 (ix3 h r 0) = val_main_v59 (F := Ideal) x0 x1 x2 (ix3 h r 0)
    + Ideal.log (∑ c : Fin 4096, val_main_v66 (F := Ideal) x0 x1 x2 (ix3 h r c)) := by
  rw [val_main_v70_apply, val_main_v69_apply, l2_at]
  generalize val_main_v59 (F := Ideal) x0 x1 x2 (ix3 h r 0) = m
  generalize (∑ c : Fin 4096, val_main_v66 (F := Ideal) x0 x1 x2 (ix3 h r c)) = l
  rfl

end Cert.AttFwdRefIdeal.Entries

end
-- ==== Proof.AttFwdRef.Values.lean ====
/-
  The reference's results in real numbers: where the queries, keys and gates are real, its output is the values
  summed under the heads' probabilities, and its last result is the logarithm of each query's sum of weights.
-/
module

public import proofs.«01_k».proof.Proof.AttFwdRef.Entries
public import proofs.«01_k».proof.Proof.Common.Online

@[expose] public section

set_option maxRecDepth 16384

noncomputable section

namespace Cert.AttFwdRefIdeal.Values

open Idealize.ShloMosaic
open Cert.AttFwdRefIdeal Cert.AttFwdRefIdeal.Gen Cert.AttFwdRefIdeal.Read Cert.AttFwdRefIdeal.Entries Cert.Att

/-- Head `h` of the three arguments; the output's gradient is not among them. -/
abbrev head (x0 x1 : (⟨2, ![4096, 4096]⟩ : Shape).Idx → EReal) (x2 : (⟨2, ![16, 4096]⟩ : Shape).Idx → EReal) (h : Fin 16) : Head :=
  headOf x0 x1 x2 (fun _ => 0) h

variable {x0 x1 : FVec Ideal S4096x4096 .f32} {x2 : FVec Ideal S16x4096 .f32}
variable (h0 : ∀ r h e, x0 (ix2 r (hcol h e)) = (((x0 (ix2 r (hcol h e))).toReal : ℝ) : EReal))
variable (h1 : ∀ r h e, x1 (ix2 r (hcol h e)) = (((x1 (ix2 r (hcol h e))).toReal : ℝ) : EReal)) (h2 : ∀ i, x2 i = (((x2 i).toReal : ℝ) : EReal))

include h0 h1 h2

/-- The masked scores, the query's own gate still in. -/
theorem score_val (h : Fin 16) (r c : Fin 4096) : val_main_v22 (F := Ideal) x0 x1 x2 (ix3 h r c) =
    if c ≤ r then (((head x0 x1 x2 h).s r c + (head x0 x1 x2 h).g r : ℝ) : EReal) else ⊥ := by
  rw [score_at, sum_eq_coe _ (fun e => (head x0 x1 x2 h).q r e * (head x0 x1 x2 h).k c e) (fun e => by
    rw [q_at, k_at, h0, h1, ← EReal.coe_mul]; rfl), ofBits_scale, h2 (ix2 h r), h2 (ix2 h c), ← EReal.coe_mul, ← EReal.coe_add, ← EReal.coe_sub]
  have e : (∑ e, (head x0 x1 x2 h).q r e * (head x0 x1 x2 h).k c e) * σ + (x2 (ix2 h r)).toReal - (x2 (ix2 h c)).toReal
      = (head x0 x1 x2 h).s r c + (head x0 x1 x2 h).g r := by
    show _ = (∑ e, (head x0 x1 x2 h).q r e * (head x0 x1 x2 h).k c e) * σ - (x2 (ix2 h c)).toReal + (x2 (ix2 h r)).toReal
    ring
  rw [e]

theorem max_val (h : Fin 16) (r : Fin 4096) : ∃ M : ℝ, val_main_v25 (F := Ideal) x0 x1 x2 (ix2 h r) = ((M : ℝ) : EReal) := by
  obtain ⟨M, hM⟩ := fold_max_real _ _ (fun c => c ≤ r) (fun c => score_val h0 h1 h2 h r c) r le_rfl
  exact ⟨M, by rw [max_at, hM]; exact max_eq_right bot_le⟩

/-- The factor of a query's weights. -/
theorem factor (h : Fin 16) (r : Fin 4096) : ∃ a : ℝ, 0 < a ∧
    (∀ c, val_main_v29 (F := Ideal) x0 x1 x2 (ix3 h r c) = (((head x0 x1 x2 h).w r c * a : ℝ) : EReal))
    ∧ val_main_v31 (F := Ideal) x0 x1 x2 (ix3 h r 0) = (((head x0 x1 x2 h).l r * a : ℝ) : EReal) := by
  obtain ⟨M, hM⟩ := max_val h0 h1 h2 h r
  have hw : ∀ c, val_main_v29 (F := Ideal) x0 x1 x2 (ix3 h r c)
      = (((head x0 x1 x2 h).w r c * Real.exp ((head x0 x1 x2 h).g r - M) : ℝ) : EReal) := fun c => by
    rw [w_at, score_val h0 h1 h2, hM, exp_sub_real]
    refine congrArg (fun x : ℝ => (x : EReal)) ?_
    unfold Head.w
    split
    · rw [← Real.exp_add, add_sub_assoc]
    · rw [zero_mul]
  refine ⟨_, Real.exp_pos _, hw, ?_⟩
  rw [l_at, sum_eq_coe _ _ hw, ← Finset.sum_mul]
  rfl

theorem o_val (h : Fin 16) (r : Fin 4096) (e : Fin 128) :
    val_main_v38 (F := Ideal) x0 x1 x2 (ix2 r (ocol h e)) = (head x0 x1 x2 h).mix (fun c e => x1 (ix2 c (vcol h e))) r e := by
  obtain ⟨a, ha, hw, hl⟩ := factor h0 h1 h2 h r
  rw [o_at]
  refine Finset.sum_congr rfl fun c _ => ?_
  rw [hw, hl, div_real _ (mul_pos ((head x0 x1 x2 h).l_pos r) ha).ne', mul_div_mul_right _ _ ha.ne', v_at]
  rfl

/-- The masked scores without the query's own gate. -/
theorem score2_val (h : Fin 16) (r c : Fin 4096) : val_main_v57 (F := Ideal) x0 x1 x2 (ix3 h r c) =
    if c ≤ r then (((head x0 x1 x2 h).s r c : ℝ) : EReal) else ⊥ := by
  rw [score2_at, sum_eq_coe _ (fun e => (head x0 x1 x2 h).q r e * (head x0 x1 x2 h).k c e) (fun e => by
    rw [q2_at, k2_at, h0, h1, ← EReal.coe_mul]; rfl), ofBits_scale, h2 (ix2 h c), ← EReal.coe_mul, ← EReal.coe_sub]
  rfl

theorem lse_val (h : Fin 16) (r : Fin 4096) :
    val_main_v70 (F := Ideal) x0 x1 x2 (ix3 h r 0) = ((Real.log ((head x0 x1 x2 h).l r) : ℝ) : EReal) := by
  have hl := (head x0 x1 x2 h).l_pos r
  obtain ⟨M, hM⟩ := fold_max_real _ _ (fun c => c ≤ r) (fun c => score2_val h0 h1 h2 h r c) r le_rfl
  have hm : val_main_v59 (F := Ideal) x0 x1 x2 (ix3 h r 0) = ((M : ℝ) : EReal) := by rw [max2_at, hM]
  have hw : ∀ c, val_main_v66 (F := Ideal) x0 x1 x2 (ix3 h r c) = (((head x0 x1 x2 h).w r c * Real.exp (-M) : ℝ) : EReal) := fun c => by
    rw [w2_at, score2_val h0 h1 h2, hm, exp_sub_real]
    refine congrArg (fun x : ℝ => (x : EReal)) ?_
    unfold Head.w
    split
    · rw [← Real.exp_add]; rfl
    · rw [zero_mul]
  have hs : ∑ c, (head x0 x1 x2 h).w r c * Real.exp (-M) = (head x0 x1 x2 h).l r * Real.exp (-M) := by rw [← Finset.sum_mul]; rfl
  rw [lse_at, hm, sum_eq_coe _ _ hw, hs, log_real (mul_pos hl (Real.exp_pos _)), ← EReal.coe_add, Real.log_mul hl.ne' (Real.exp_pos _).ne', Real.log_exp]
  refine congrArg (fun x : ℝ => (x : EReal)) ?_
  ring

end Cert.AttFwdRefIdeal.Values

end
-- ==== Proof.AttFwdIdeal.Equation.lean ====
/-
  The equation: where the queries, keys and gates are finite, the kernel's three arrays are the reference's three
  results.
-/
module

public import proofs.«01_k».proof.Defs
public import proofs.«01_k».proof.Proof.Gen.Pre_finite_qk
public import proofs.«01_k».proof.Proof.AttFwdIdeal.Windows
public import proofs.«01_k».proof.Proof.AttFwdIdeal.Frame
public import proofs.«01_k».proof.Proof.AttFwdRef.Values
public import proofs.«01_k».proof.Proof.Gen.AttFwdRefIdeal.Run

@[expose] public section

set_option maxRecDepth 16384

noncomputable section

namespace Cert.AttFwdIdeal.Body

open Idealize.ShloMosaic Idealize.ShloMosaic.TcCoe Idealize.ShloMosaic.Pipeline Idealize.SL Idealize.SL.Sem
open Cert.AttFwdIdeal Cert.AttFwdIdeal.Gen Cert.Att
open Cert.AttFwdRefIdeal.Read Cert.AttFwdRefIdeal.Values Cert.AttFwdRefIdeal.Entries

/-- The first half of the columns. -/
theorem half_at (x : FVec Ideal S4096x4096 .f32) (h : (⟨2, ![4096, 4096]⟩ : Shape).Slices ![0, 0] ⟨2, ![4096, 2048]⟩) (r : Fin 4096)
    (i : Fin 16) (e : Fin 128) : extractStridedSlice ⟨2, ![4096, 2048]⟩ ![0, 0] x h (ix2 r (ocol i e)) = x (ix2 r (hcol i e)) := by
  pointwise
  rfl

/-- Of arguments of which the predicate is all ones the queries, keys and gates are real numbers. -/
theorem reals (m : (ℓ : Loc nD τ sig) → Buf (Elt Ideal) ℓ) (h : Cert.Pre_AttFwdIdeal_finite_qk m) (c : Dev nD) : Reals m c := by
  obtain ⟨a0, a1, a2⟩ := h c
  refine ⟨fun r i e => ?_, fun r i e => ?_, fun i => Product.real_of_flag (congrFun a2 i)⟩
  · rw [← half_at (A0 m c) Cert.Pre_finite_qk.Gen.facts.slices_S4096x4096_S4096x2048_0_0]
    exact Product.real_of_flag (congrFun a0 (ix2 r (ocol i e)))
  · rw [← half_at (A1 m c) Cert.Pre_finite_qk.Gen.facts.slices_S4096x4096_S4096x2048_0_0]
    exact Product.real_of_flag (congrFun a1 (ix2 r (ocol i e)))

variable {m : (ℓ : Loc nD τ sig) → Buf (Elt Ideal) ℓ} {c : Dev nD} (hr : Reals m c)
include hr

theorem out_o : (dats m 0 c).arrAt 5 cfg0.N = val_main_v38 (F := Ideal) (A0 m c) (A1 m c) (A2 m c) := by
  refine (dats m 0 c).arrAt_eq_of_covers 5 _ (by decide +kernel) fun t hf y => ?_
  blk_simp
  rw [after0_5]
  obtain ⟨r, e, rfl⟩ : ∃ (r : Fin 512) (e : Fin 128), y = ix2 r e := ⟨y 0, y 1, (ix2_eta y).symm⟩
  exact ((step_o (feeds t hr _ _ _) r e).trans (o_val hr.h0 hr.h1 hr.h2 _ _ e).symm).trans
    (congrArg (val_main_v38 (F := Ideal) (A0 m c) (A1 m c) (A2 m c)) (o_emb t r e).symm)

theorem out_og : (dats m 0 c).arrAt 6 cfg0.N = val_main_v63 (F := Ideal) (A0 m c) (A1 m c) (A2 m c) := by
  refine (dats m 0 c).arrAt_eq_of_covers 6 _ (by decide +kernel) fun t hf y => ?_
  blk_simp
  rw [after0_6]
  obtain ⟨r, e, rfl⟩ : ∃ (r : Fin 512) (e : Fin 128), y = ix2 r e := ⟨y 0, y 1, (ix2_eta y).symm⟩
  have hz := z_at m c t r e
  have hs := step_og (i := grid0.coords t) (feeds t hr (broadcast S512x128 (Scalar.ofBits .f32 0#32)) (broadcast S512x128 (Scalar.ofBits .bf16 0#16))
    (broadcast S1x512x1 (Scalar.ofBits .f32 0#32))) r e
  have hv : val_main_v63 (F := Ideal) (A0 m c) (A1 m c) (A2 m c) (ix2 (rowOf (jOf (grid0.coords t)) r) (ocol (headAt t) e))
      = (hd m c (headAt t)).mix (vals m c (headAt t)) (rowOf (jOf (grid0.coords t)) r) e
        * (A0 m c (ix2 (rowOf (jOf (grid0.coords t)) r) (vcol (headAt t) e)) * Product.gate (A0 m c (ix2 (rowOf (jOf (grid0.coords t)) r) (vcol (headAt t) e)))) := by
    rw [Cert.AttFwdRefIdeal.Entries.og_at, o_val hr.h0 hr.h1 hr.h2]
    rfl
  refine Eq.trans (hs.trans ?_) (hv.symm.trans (congrArg (val_main_v63 (F := Ideal) (A0 m c) (A1 m c) (A2 m c)) (og_emb t r e).symm))
  exact congrArg (fun z : EReal => (hd m c (headAt t)).mix (vals m c (headAt t)) (rowOf (jOf (grid0.coords t)) r) e * (z * Product.gate z)) hz

theorem unit_ix3 (y : S1x512x1.Idx) : ∃ r : Fin 512, y = ix3 0 r 0 :=
  ⟨y 1, funext fun a => match a with
    | ⟨0, _⟩ => Subsingleton.elim (α := Fin 1) _ _
    | ⟨1, _⟩ => rfl
    | ⟨2, _⟩ => Subsingleton.elim (α := Fin 1) _ _⟩

theorem out_lse : (dats m 0 c).arrAt 7 cfg0.N = val_main_v70 (F := Ideal) (A0 m c) (A1 m c) (A2 m c) := by
  refine (dats m 0 c).arrAt_eq_of_covers 7 _ (by decide +kernel) fun t hf y => ?_
  blk_simp
  rw [after0_7]
  obtain ⟨r, rfl⟩ := unit_ix3 hr y
  exact ((step_lse (feeds t hr _ _ _) r).trans (lse_val hr.h0 hr.h1 hr.h2 _ _).symm).trans
    (congrArg (val_main_v70 (F := Ideal) (A0 m c) (A1 m c) (A2 m c)) (lse_emb t r).symm)

omit hr in
/-- The kernel's run ends with those arrays. -/
theorem kernel_run (m : (ℓ : Loc nD τ sig) → Buf (Elt Ideal) ℓ) (ρ : Dev nD → PrngReg) (hr : ∀ c, Reals m c) :
    θ_run defs (onTc (τ := τ) (main (F := Ideal))) ⟨m, fun _ => 0, ρ⟩ (fun r => ∀ c : Dev nD,
      r.2.mem ((c.tc : Thread nD τ).loc main_v2_0) = val_main_v38 (F := Ideal) (A0 m c) (A1 m c) (A2 m c)
      ∧ r.2.mem ((c.tc : Thread nD τ).loc main_v2_1) = val_main_v63 (F := Ideal) (A0 m c) (A1 m c) (A2 m c)
      ∧ r.2.mem ((c.tc : Thread nD τ).loc main_v2_2) = val_main_v70 (F := Ideal) (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).1 5).trans (out_o (hr c)), ((h.1 c).1 6).trans (out_og (hr c)), ((h.1 c).1 7).trans (out_lse (hr c)),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

omit hr in
/-- From arguments that agree and are finite, both programs end with the same three results and their arguments unchanged. -/
theorem algebraic : Cert.algebraic_AttFwdIdeal_AttFwdRefIdeal_pre_finite_qk := by
  intro m g m' g' hpre hagree
  have hr := fun c => reals m hpre c
  refine ⟨fun c => val_main_v38 (F := Ideal) (A0 m c) (A1 m c) (A2 m c), fun c => val_main_v63 (F := Ideal) (A0 m c) (A1 m c) (A2 m c),
    fun c => val_main_v70 (F := Ideal) (A0 m c) (A1 m c) (A2 m c), kernel_run m g hr, ?_⟩
  refine (θ_run Cert.AttFwdRefIdeal.defs _ _).mono (fun r h c => ?_) (Cert.AttFwdRefIdeal.Value.run (F := Ideal) m' g')
  obtain ⟨a0, a1, a2⟩ := hagree c
  obtain ⟨o, og, l, rest⟩ := h c
  have t0 := val_main_v38_eq (F := Ideal) m' c
  have t1 := val_main_v63_eq (F := Ideal) m' c
  have t2 := val_main_v70_eq (F := Ideal) m' c
  rw [a0, a1, a2] at t0 t1 t2
  exact ⟨o.trans t0, og.trans t1, l.trans t2, rest⟩

end Cert.AttFwdIdeal.Body

end
-- ==== Proof.Common.Split.lean ====
/-
  A sum over an axis is the sum over its blocks.
-/
module

public import Mathlib.Algebra.BigOperators.Fin
public import Mathlib.Data.EReal.Operations

@[expose] public section

namespace Cert.Product

/-- A sum over 4096 entries is the sum over the first half and the sum over the second. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

end Cert.Product
-- ==== Proof.Common.Join.lean ====
/-
  Arrays laid side by side, and the sums over blocks a product is added up from.
-/
module

public import proofs.«01_k».proof.Proof.Common.Split
public import Idealize.ShloMosaic.Lib.Pointwise

@[expose] public section

set_option maxRecDepth 16384

noncomputable section

namespace Cert.Product

open Idealize.ShloMosaic

theorem hz : (![0, 0] : Fin 2 → Nat) = fun _ => 0 := funext fun a => by fin_cases a <;> rfl

theorem hz3 : (![0, 0, 0] : Fin 3 → Nat) = fun _ => 0 := funext fun a => by fin_cases a <;> rfl

/-- An array read at two indices with the same coordinates. -/
theorem at_eq {n0 n1 : Nat} {α : Type} (A : (⟨2, ![n0, n1]⟩ : Shape).Idx → α) {a a' : Fin n0} {b b' : Fin n1}
    (ha : a.val = a'.val) (hb : b.val = b'.val) : A (ix2 a b) = A (ix2 a' b') := by
  rw [Fin.ext ha, Fin.ext hb]

/-- Two sums over the halves of an axis. -/
theorem halves (f : Fin 4096 → EReal) (a b : Fin 2048 → EReal) (ha : ∀ k, a k = f ⟨k.val, by omega⟩)
    (hb : ∀ k, b k = f ⟨2048 + k.val, by omega⟩) : (∑ k, a k) + ∑ k, b k = ∑ k, f k := by
  rw [sum_halves]
  exact congrArg₂ (· + ·) (Finset.sum_congr rfl fun k _ => ha k) (Finset.sum_congr rfl fun k _ => hb k)

/-- Four sums over the quarters of an axis. -/
theorem quarters (f : Fin 4096 → EReal) (a b c d : Fin 1024 → EReal) (ha : ∀ k, a k = f ⟨k.val, by omega⟩)
    (hb : ∀ k, b k = f ⟨1024 + k.val, by omega⟩) (hc : ∀ k, c k = f ⟨2048 + k.val, by omega⟩)
    (hd : ∀ k, d k = f ⟨3072 + k.val, by omega⟩) : ((∑ k, a k) + (∑ k, b k) + ∑ k, c k) + ∑ k, d k = ∑ k, f k := by
  have half (g : Fin 2048 → EReal) : ∑ k, g k = (∑ k : Fin 1024, g ⟨k.val, by omega⟩) + ∑ k : Fin 1024, g ⟨1024 + k.val, by omega⟩ :=
    Fin.sum_univ_add (a := 1024) (b := 1024) g
  rw [sum_halves, half, half, add_assoc]
  refine congrArg₂ (· + ·) (congrArg₂ (· + ·) ?_ ?_) (congrArg₂ (· + ·) ?_ ?_) <;> refine Finset.sum_congr rfl fun k _ => ?_
  · exact ha k
  · exact hb k
  · exact hc k
  · exact (hd k).trans (congrArg f (Fin.ext (by dsimp only; omega)))

variable {n : Nat} (y z : (⟨2, ![n, 2048]⟩ : Shape).Idx → EReal)

/-- Two arrays laid side by side. -/
def join : (⟨2, ![n, 4096]⟩ : Shape).Idx → EReal := fun i =>
  if h : (i 1).val < 2048 then y (ix2 (i 0) ⟨(i 1).val, h⟩)
  else z (ix2 (i 0) ⟨(i 1).val - 2048, Nat.sub_lt_right_of_lt_add (Nat.not_lt.mp h) (i 1).isLt⟩)

theorem join_left (r : Fin n) (s : Fin 2048) (k : Fin 4096) (h : k.val = s.val) : join y z (ix2 r k) = y (ix2 r s) := by
  refine (dif_pos (show k.val < 2048 by omega)).trans (congrArg y (funext fun a => match a with
    | ⟨0, _⟩ => rfl
    | ⟨1, _⟩ => Fin.ext h))

theorem join_right (r : Fin n) (s : Fin 2048) (k : Fin 4096) (h : k.val = 2048 + s.val) : join y z (ix2 r k) = z (ix2 r s) := by
  refine (dif_neg (show ¬k.val < 2048 by omega)).trans (congrArg z (funext fun a => match a with
    | ⟨0, _⟩ => rfl
    | ⟨1, _⟩ => Fin.ext (show k.val - 2048 = s.val by omega)))

/-- The host's concatenation along the columns. -/
theorem concatenate_eq (h : Shape.Concatenates [⟨2, ![n, 2048]⟩, ⟨2, ![n, 2048]⟩] ⟨2, ![n, 4096]⟩ 1) :
    concatenate (⟨2, ![n, 4096]⟩ : Shape) 1 [⟨_, y⟩, ⟨_, z⟩] h = join y z := by
  funext i
  obtain ⟨r, s, rfl⟩ : ∃ (r : Fin n) (s : Fin 4096), i = ix2 r s := ⟨i 0, i 1, (ix2_eta i).symm⟩
  rw [concatenate_pair_apply]
  by_cases hs : s.val < 2048
  · rw [join_left y z r ⟨s.val, hs⟩ s rfl]
    refine (dif_pos hs).trans (congrArg y (funext fun a => match a with
      | ⟨0, _⟩ => rfl
      | ⟨1, _⟩ => rfl))
  · rw [join_right y z r ⟨s.val - 2048, by omega⟩ s (by dsimp only; omega)]
    refine (dif_neg hs).trans (congrArg z (funext fun a => match a with
      | ⟨0, _⟩ => rfl
      | ⟨1, _⟩ => rfl))

end Cert.Product

end
-- ==== Proof.OutDx.Equation.lean ====
/-
  The gradient of the gated output projection in the attention's result and in the gate: at each point the call forms a
  block of the product of the result's gradient with the transposed weights and multiplies it by the gate and by the
  gate's derivative.
-/
module

public import proofs.«01_k».proof.Defs
public import proofs.«01_k».proof.Proof.Common.Join
public import proofs.«01_k».proof.Proof.Common.Gates
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.Pre_finite_gate
public import Idealize.ShloMosaic.Lib.Pointwise
public import Idealize.ShloMosaic.Lib.Pipeline.ValueKit
public import Idealize.ShloMosaic.Lib.StableHlo.ReadAt

@[expose] public section

set_option maxRecDepth 16384

noncomputable section

namespace Cert.OutDxIdeal.Product

open Idealize.ShloMosaic Idealize.ShloMosaic.TcCoe Idealize.SL.Sem
open Cert.OutDxIdeal Cert.OutDxIdeal.Gen Cert.Product

/-- The gradient of the gated rows: a block of rows times a block of the weights' rows. -/
theorem prod_at (a b : FVec Ideal S1024x2048 .bf16) (r s : Fin 1024) :
    k0_pay1 (F := Ideal) a b (ix2 r s) = ∑ k : Fin 2048, a (ix2 r k) * b (ix2 s k) := by
  pointwise [k0_pay1]

/-- The gradient in the attention's result: that product times silu of the gate. -/
theorem do_at (a b : FVec Ideal S1024x2048 .bf16) (z : FVec Ideal S1024x1024 .f32) (i : S1024x1024.Idx) :
    k0_pay2 (F := Ideal) a b z i = k0_pay1 (F := Ideal) a b i * (z i * gate (z i)) := by
  rw [gate, ← zero_sub, ← Ideal.ofBits_one_f32, ← Ideal.ofBits_zero .f32]
  rfl

/-- The gradient in the gate: that product and the attention's result times silu's derivative. -/
theorem dz_at (a b : FVec Ideal S1024x2048 .bf16) (o z : FVec Ideal S1024x1024 .f32) (i : S1024x1024.Idx) :
    k0_pay3 (F := Ideal) a b o z i
      = k0_pay1 (F := Ideal) a b i * o i * (gate (z i) * (1 + z i * (1 - gate (z i)))) := by
  rw [gate, ← zero_sub, ← Ideal.ofBits_one_f32, ← Ideal.ofBits_zero .f32]
  rfl

/-- What the body leaves in the results' blocks. -/
theorem body_do (a b : FVec Ideal S1024x2048 .bf16) (o z : FVec Ideal S1024x1024 .f32) :
    out0_4 (F := Ideal) a b o z = k0_pay2 (F := Ideal) a b z := by
  unfold out0_4
  rw [View.canon_unit_zero hz]
  simp only [View.ld_unit_zero (S := S1024x2048) hz, View.ld_unit_zero (S := S1024x1024) hz]

theorem body_dz (a b : FVec Ideal S1024x2048 .bf16) (o z : FVec Ideal S1024x1024 .f32) :
    out0_5 (F := Ideal) a b o z = k0_pay3 (F := Ideal) a b o z := by
  unfold out0_5
  rw [View.canon_unit_zero hz]
  simp only [View.ld_unit_zero (S := S1024x2048) hz, View.ld_unit_zero (S := S1024x1024) hz]

/-- Where each window's block lies at a point. -/
theorem idx : ∀ t : Fin grid0.N, win0_0.index t = ![t.val / 2, 0] ∧ win0_1.index t = ![t.val % 2, 0]
    ∧ win0_2.index t = ![t.val / 2, t.val % 2] ∧ win0_3.index t = ![t.val / 2, t.val % 2 + 2]
    ∧ win0_4.index t = ![t.val / 2, t.val % 2] ∧ win0_5.index t = ![t.val / 2, t.val % 2] := by decide +kernel

theorem lt_N (t : Fin cfg0.N) : t.val < 8 := lt_of_lt_of_eq t.isLt N_0

/-- The row and the column of an entry of a point's block, and the gate's column. -/
abbrev row (t : Fin cfg0.N) (r : Fin 1024) : Fin 4096 := ⟨1024 * (t.val / 2) + r.val, by have := lt_N t; omega⟩
abbrev col (t : Fin cfg0.N) (s : Fin 1024) : Fin 2048 := ⟨1024 * (t.val % 2) + s.val, by omega⟩
abbrev zcol (s : Fin 2048) : Fin 4096 := ⟨2048 + s.val, by omega⟩

theorem x_emb (t : Fin cfg0.N) (r : Fin 1024) (k : Fin 2048) : ((cfg0.win 0).blk t).view.emb (ix2 r k) = ix2 (row t r) k := by
  blk_ext [idx t]

theorem w_emb (t : Fin cfg0.N) (r : Fin 1024) (k : Fin 2048) : ((cfg0.win 1).blk t).view.emb (ix2 r k) = ix2 (col t r) k := by
  blk_ext [idx t]

theorem o_emb (t : Fin cfg0.N) (r s : Fin 1024) : ((cfg0.win 2).blk t).view.emb (ix2 r s) = ix2 (row t r) (col t s) := by
  blk_ext [idx t]

theorem z_emb (t : Fin cfg0.N) (r s : Fin 1024) : ((cfg0.win 3).blk t).view.emb (ix2 r s) = ix2 (row t r) (zcol (col t s)) := by
  blk_ext [idx t]

theorem do_emb (t : Fin cfg0.N) (r s : Fin 1024) : ((cfg0.win 4).blk t).view.emb (ix2 r s) = ix2 (row t r) (col t s) := by
  blk_ext [idx t]

theorem dz_emb (t : Fin cfg0.N) (r s : Fin 1024) : ((cfg0.win 5).blk t).view.emb (ix2 r s) = ix2 (row t r) (col t s) := by
  blk_ext [idx t]

variable (m : (ℓ : Loc nD τ sig) → Buf (Elt Ideal) ℓ) (c : Dev nD)

/-- The arguments. -/
abbrev A0 : (⟨S4096x2048, .bf16⟩ : BufTy).Contents (Elt Ideal) := m ((c.tc : Thread nD τ).loc main_arg0)
abbrev A1 : (⟨S2048x2048, .f32⟩ : BufTy).Contents (Elt Ideal) := m ((c.tc : Thread nD τ).loc main_arg1)
abbrev A2 : (⟨S4096x2048, .f32⟩ : BufTy).Contents (Elt Ideal) := m ((c.tc : Thread nD τ).loc main_arg2)
abbrev A3 : (⟨S4096x4096, .f32⟩ : BufTy).Contents (Elt Ideal) := m ((c.tc : Thread nD τ).loc main_arg3)

/-- The product of the result's gradient with the transposed weights. -/
def dy (i : S4096x2048.Idx) : EReal := ∑ k : Fin 2048, A0 m c (ix2 (i 0) k) * A1 m c (ix2 (i 1) k)

/-- The gate's entry beside an entry of the attention's result. -/
def z (i : S4096x2048.Idx) : EReal := A3 m c (ix2 (i 0) (zcol (i 1)))

/-- The two gradients. -/
def dO (i : S4096x2048.Idx) : EReal := dy m c i * (z m c i * gate (z m c i))
def dZ (i : S4096x2048.Idx) : EReal :=
  dy m c i * A2 m c i * (gate (z m c i) * (1 + z m c i * (1 - gate (z m c i))))

/-- The host's cast leaves the weights as they are. -/
theorem w_eq : V m c main_v0 = A1 m c := by
  unfold V
  after_reads_simp
  rfl

theorem x_at (t : Fin cfg0.N) (r : Fin 1024) (k : Fin 2048) : (iblk m c 0 t : FVec Ideal S1024x2048 .bf16) (ix2 r k)
    = A0 m c (ix2 (row t r) k) := by
  rw [← x_emb t r k, show A0 m c = V m c main_arg0 from (V_main_arg0 m c).symm]; rfl

theorem w_at (t : Fin cfg0.N) (r : Fin 1024) (k : Fin 2048) : (iblk m c 1 t : FVec Ideal S1024x2048 .bf16) (ix2 r k)
    = A1 m c (ix2 (col t r) k) := by
  rw [← w_emb t r k, ← w_eq m c]; rfl

theorem o_at (t : Fin cfg0.N) (r s : Fin 1024) : (iblk m c 2 t : FVec Ideal S1024x1024 .f32) (ix2 r s)
    = A2 m c (ix2 (row t r) (col t s)) := by
  rw [← o_emb t r s, show A2 m c = V m c main_arg2 from (V_main_arg2 m c).symm]; rfl

theorem z_at (t : Fin cfg0.N) (r s : Fin 1024) : (iblk m c 3 t : FVec Ideal S1024x1024 .f32) (ix2 r s)
    = z m c (ix2 (row t r) (col t s)) := by
  refine Eq.trans ?_ (congrArg (A3 m c) (z_emb t r s))
  rw [show A3 m c = V m c main_arg3 from (V_main_arg3 m c).symm]; rfl

theorem dy_at (t : Fin cfg0.N) (r s : Fin 1024) :
    k0_pay1 (F := Ideal) (iblk m c 0 t) (iblk m c 1 t) (ix2 r s) = dy m c (ix2 (row t r) (col t s)) :=
  (prod_at _ _ r s).trans (Finset.sum_congr rfl fun k _ => congrArg₂ (· * ·) (x_at m c t r k) (w_at m c t s k))

/-- The arrays the call leaves. -/
theorem out_do : (dats m 0 c).arrAt 4 cfg0.N = dO m c := by
  refine (dats m 0 c).arrAt_eq_of_covers 4 _ (by decide +kernel) fun t hf y => ?_
  blk_simp
  obtain ⟨r, s, rfl⟩ : ∃ (r s : Fin 1024), y = ix2 r s := ⟨y 0, y 1, (ix2_eta y).symm⟩
  rw [after0_4, body_do]
  refine (do_at _ _ _ _).trans ?_
  refine Eq.trans ?_ (congrArg (dO m c) (do_emb t r s).symm)
  rw [dy_at m c t r s, z_at m c t r s]
  rfl

theorem out_dz : (dats m 0 c).arrAt 5 cfg0.N = dZ m c := by
  refine (dats m 0 c).arrAt_eq_of_covers 5 _ (by decide +kernel) fun t hf y => ?_
  blk_simp
  obtain ⟨r, s, rfl⟩ : ∃ (r s : Fin 1024), y = ix2 r s := ⟨y 0, y 1, (ix2_eta y).symm⟩
  rw [after0_5, body_dz]
  refine (dz_at _ _ _ _ _).trans ?_
  refine Eq.trans ?_ (congrArg (dZ m c) (dz_emb t r s).symm)
  rw [dy_at m c t r s, z_at m c t r s, o_at m c t r s]
  rfl

open OutDxRefIdeal.Read

/-- The reference's product. -/
theorem ref_dy (i : S4096x2048.Idx) : val_main_v5 (F := Ideal) (A0 m c) (A1 m c) i = dy m c i := by
  rw [val_main_v5_apply]
  refine Finset.sum_congr rfl fun k _ => ?_
  refine congrArg₂ (· * ·) (congrArg (A0 m c) ?_) (congrArg (A1 m c) ?_) <;>
    exact funext fun a => match a with
      | ⟨0, _⟩ => rfl
      | ⟨1, _⟩ => rfl

/-- The reference's gate and its logistic function. -/
theorem ref_z (i : S4096x2048.Idx) : val_main_v0 (F := Ideal) (A3 m c) i = z m c i := by
  rw [val_main_v0_apply]
  exact congrArg (A3 m c) (funext fun a => match a with
      | ⟨0, _⟩ => rfl
      | ⟨1, _⟩ => rfl)

theorem ref_gate (i : S4096x2048.Idx) : val_main_v1_2 (F := Ideal) (A3 m c) i = gate (z m c i) := by
  rw [← ref_z m c i, gate, ← Ideal.ofBits_one_f32, val_main_v1_2_apply, val_main_call0_v3_apply, val_main_call0_v4_apply,
    val_main_call0_v2_apply]
  rfl

theorem ref_do : val_main_v7 (F := Ideal) (A0 m c) (A1 m c) (A3 m c) = dO m c := by
  funext i
  rw [val_main_v7_apply, val_main_v1_0_apply, ref_dy m c i, ref_z m c i, ref_gate m c i]
  rfl

/-- From real arguments the reference's gradient in the gate is the call's. -/
theorem ref_dz (h0 : ∀ i, A0 m c i = ((A0 m c i).toReal : EReal)) (h1 : ∀ i, A1 m c i = ((A1 m c i).toReal : EReal))
    (h2 : ∀ i, A2 m c i = ((A2 m c i).toReal : EReal)) :
    val_main_v9 (F := Ideal) (A0 m c) (A1 m c) (A2 m c) (A3 m c) = dZ m c := by
  funext i
  obtain ⟨d, hd⟩ : ∃ d : ℝ, dy m c i = (d : EReal) :=
    ⟨_, Cert.Att.sum_eq_coe _ (fun k => (A0 m c (ix2 (i 0) k)).toReal * (A1 m c (ix2 (i 1) k)).toReal) fun k => by
      rw [EReal.coe_mul, ← h0, ← h1]⟩
  have e : val_main_v9 (F := Ideal) (A0 m c) (A1 m c) (A2 m c) (A3 m c) i
      = A2 m c i * dy m c i * gate (z m c i) + z m c i * (A2 m c i * dy m c i) * (gate (z m c i) * (1 - gate (z m c i))) := by
    rw [← ref_gate m c i, ← ref_z m c i, ← ref_dy m c i, ← Ideal.ofBits_one_f32]
    rfl
  rw [e, dZ, hd, h2 i, ← EReal.coe_mul, ← EReal.coe_mul, silu_slope, mul_comm d]

/-- From arguments that agree, the gradient, the weights and the attention's result real numbers, both programs end with
the same two gradients and their arguments unchanged. -/
theorem algebraic : Cert.algebraic_OutDxIdeal_OutDxRefIdeal_pre_finite_gate := by
  intro m g m' g' hpre hagree
  refine ⟨fun c => dO m c, fun c => dZ m c, (θ_run defs _ _).mono (fun _ h c => ?_) (Value.run_blocks m g),
    (θ_run OutDxRefIdeal.defs _ _).mono (fun _ h c => ?_) (OutDxRefIdeal.Value.run (F := Ideal) m' g')⟩
  · obtain ⟨o, o', rest⟩ := h c
    exact ⟨o.trans (out_do m c), o'.trans (out_dz m c), rest⟩
  · obtain ⟨a0, a1, a2, a3⟩ := hagree c
    obtain ⟨p0, p1, p2⟩ := hpre c
    obtain ⟨o, o', rest⟩ := h c
    refine ⟨o.trans ((val_main_v7_eq _ _ _).trans (Eq.trans ?_ (ref_do m c))),
      o'.trans ((val_main_v9_eq _ _ _ _).trans (Eq.trans ?_ (ref_dz m c (fun i => real_of_flag (congrFun p0 i))
        (fun i => real_of_flag (congrFun p1 i)) (fun i => real_of_flag (congrFun p2 i))))), rest⟩
    · rw [a0, a1, a3]
    · rw [a0, a1, a2, a3]

end Cert.OutDxIdeal.Product

end
-- ==== Proof.OutDw.Equation.lean ====
/-
  The gradient of the attention's output projection: the call adds the products of two blocks of 2048 rows, which is
  the product over all 4096 rows.
-/
module

public import proofs.«01_k».proof.Defs
public import proofs.«01_k».proof.Proof.Common.Split
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.OutDwIdeal.Product

open Idealize.ShloMosaic Idealize.ShloMosaic.TcCoe Idealize.SL.Sem
open Cert.OutDwIdeal Cert.OutDwIdeal.Gen Cert.Product

theorem hz : (![0, 0] : Fin 2 → Nat) = fun _ => 0 := funext fun a => by fin_cases a <;> rfl

/-- The product of two blocks of rows. -/
theorem prod_at (a b : FVec Ideal S2048x1024 .bf16) (r s : Fin 1024) :
    k0_pay1 (F := Ideal) a b (ix2 r s) = ∑ k : Fin 2048, a (ix2 k r) * b (ix2 k s) := by
  pointwise [k0_pay1]

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (x y : Vec Ideal S2048x1024 .bf16)

/-- The first block's product is kept. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S2048x1024) hz]

/-- The second block's product is added to it and written. -/
theorem second (hc0 : ¬cond0_0 i) (hc1 : ¬cond0_1 i) (hc2 : cond0_2 i) (z : Vec Ideal S1024x1024 .f32) :
    out0_B_2 c i a3 h3 a4 h4 a5 h5 a6 h6 hc0 hc1 hc2 x y z = k0_pay4 x y z := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz]
  simp only [View.readAt_eq_ld, h3.read_unread, h4.read_unread, h6.read_unread, View.ld_unit_zero (S := S2048x1024) hz,
    View.ld_unit_zero (S := S1024x1024) hz]

end

theorem last_at (x y : Vec Ideal S2048x1024 .bf16) (x' y' : Vec Ideal S2048x1024 .bf16) (r s : Fin 1024) :
    k0_pay4 (F := Ideal) x' y' (k0_pay2 x y) (ix2 r s)
      = (∑ k : Fin 2048, x (ix2 k r) * y (ix2 k s)) + ∑ k : Fin 2048, x' (ix2 k r) * y' (ix2 k s) := by
  rw [← prod_at, ← prod_at]
  pointwise [k0_pay4, k0_pay2]

/-- Where each window's block lies at a point. -/
theorem idx : ∀ t : Fin grid0.N, win0_0.index t = ![t.val % 2, t.val / 4] ∧ win0_1.index t = ![t.val % 2, t.val / 2 % 2]
    ∧ win0_2.index t = ![t.val / 4, t.val / 2 % 2] := by decide +kernel

theorem lt_N (t : Fin cfg0.N) : t.val < 8 := lt_of_lt_of_eq t.isLt N_0

theorem x_emb (t : Fin cfg0.N) (k : Fin 2048) (r : Fin 1024) : ((cfg0.win 0).blk t).view.emb (ix2 k r)
    = ix2 (⟨2048 * (t.val % 2) + k.val, by omega⟩ : Fin 4096) (⟨1024 * (t.val / 4) + r.val, by have := lt_N t; omega⟩ : Fin 2048) := by
  blk_ext [idx t]

theorem y_emb (t : Fin cfg0.N) (k : Fin 2048) (r : Fin 1024) : ((cfg0.win 1).blk t).view.emb (ix2 k r)
    = ix2 (⟨2048 * (t.val % 2) + k.val, by omega⟩ : Fin 4096) (⟨1024 * (t.val / 2 % 2) + r.val, by omega⟩ : Fin 2048) := by
  blk_ext [idx t]

theorem o_emb (t : Fin cfg0.N) (r s : Fin 1024) : ((cfg0.win 2).blk t).view.emb (ix2 r s)
    = ix2 (⟨1024 * (t.val / 4) + r.val, by have := lt_N t; omega⟩ : Fin 2048) (⟨1024 * (t.val / 2 % 2) + s.val, by omega⟩ : Fin 2048) := by
  blk_ext [idx t]

variable (m : (ℓ : Loc nD τ sig) → Buf (Elt Ideal) ℓ) (c : Dev nD)

/-- The product of the transposed first array with the second. -/
def dw (x y : S4096x2048.Idx → EReal) : S2048x2048.Idx → EReal := fun i => ∑ k : Fin 4096, x (ix2 k (i 0)) * y (ix2 k (i 1))

/-- The two operands of the call. -/
abbrev X : S4096x2048.Idx → EReal := V m c main_v3
abbrev Y : S4096x2048.Idx → EReal := V m c main_arg2

theorem x_at (t : Fin cfg0.N) (k : Fin 2048) (r : Fin 1024) : (iblk m c 0 t : FVec Ideal S2048x1024 .bf16) (ix2 k r)
    = X m c (ix2 (⟨2048 * (t.val % 2) + k.val, by omega⟩ : Fin 4096) (⟨1024 * (t.val / 4) + r.val, by have := lt_N t; omega⟩ : Fin 2048)) := by
  rw [← x_emb t k r]; rfl

theorem y_at (t : Fin cfg0.N) (k : Fin 2048) (r : Fin 1024) : (iblk m c 1 t : FVec Ideal S2048x1024 .bf16) (ix2 k r)
    = Y m c (ix2 (⟨2048 * (t.val % 2) + k.val, by omega⟩ : Fin 4096) (⟨1024 * (t.val / 2 % 2) + r.val, by omega⟩ : Fin 2048)) := by
  rw [← y_emb t k r]; rfl

/-- The array the call leaves. -/
theorem out : (dats m 0 c).arrAt 2 cfg0.N = dw (X m c) (Y m c) := by
  refine (dats m 0 c).arrAt_eq_of_covers 2 _ (by decide +kernel) fun t hf y => ?_
  blk_simp
  obtain ⟨r, s, rfl⟩ : ∃ (r s : Fin 1024), y = ix2 r s := ⟨y 0, y 1, (ix2_eta y).symm⟩
  have h1 : t.val % 2 = 1 := (flush0_2 t).mp hf
  have hp : t.val - 1 < cfg0.N := Nat.lt_of_le_of_lt (Nat.sub_le _ _) t.isLt
  rw [after0_2, outsAt0_B m c t (by omega) h1]
  dsimp only
  rw [second, outsAt0_A m c ⟨t.val - 1, hp⟩ (by dsimp only; omega) (by dsimp only; omega)]
  dsimp only
  rw [first]
  refine (last_at _ _ _ _ r s).trans ?_
  refine Eq.trans ?_ (congrArg (dw (X m c) (Y m c)) (o_emb t r s).symm)
  unfold dw
  rw [sum_halves]
  refine congrArg₂ (· + ·) (Finset.sum_congr rfl fun k _ => ?_) (Finset.sum_congr rfl fun k _ => ?_)
  · have e : (t.val - 1) % 2 = 0 := by omega
    have e2 : (t.val - 1) / 4 = t.val / 4 := by omega
    have e3 : (t.val - 1) / 2 % 2 = t.val / 2 % 2 := by omega
    rw [x_at m c ⟨t.val - 1, hp⟩, y_at m c ⟨t.val - 1, hp⟩]
    simp only [e, e2, e3, Nat.mul_zero, Nat.zero_add]
    rfl
  · rw [x_at, y_at]
    simp only [h1]
    rfl

/-- The arguments. -/
abbrev A0 : (⟨S4096x2048, .f32⟩ : BufTy).Contents (Elt Ideal) := m ((c.tc : Thread nD τ).loc main_arg0)
abbrev A1 : (⟨S4096x4096, .f32⟩ : BufTy).Contents (Elt Ideal) := m ((c.tc : Thread nD τ).loc main_arg1)
abbrev A2 : (⟨S4096x2048, .bf16⟩ : BufTy).Contents (Elt Ideal) := m ((c.tc : Thread nD τ).loc main_arg2)

/-- The host's gated output is the reference's. -/
theorem x_eq : X m c = OutDwRefIdeal.Read.val_main_v3 (F := Ideal) (A0 m c) (A1 m c) := by
  unfold X V
  after_reads_simp
  rfl

theorem y_eq : Y m c = A2 m c := V_main_arg2 m c

open OutDwRefIdeal.Read in
/-- The reference's gradient is that product. -/
theorem ref_eq : val_main_v7 (F := Ideal) (A0 m c) (A1 m c) (A2 m c) = dw (X m c) (Y m c) := by
  funext i
  rw [val_main_v7_apply, val_main_v6_apply, x_eq, y_eq]
  unfold dw
  refine Finset.sum_congr rfl fun k _ => ?_
  rw [mul_comm]
  refine congrArg₂ (· * ·) (congrArg _ ?_) (congrArg (A2 m c) ?_) <;>
    exact funext fun a => match a with
      | ⟨0, _⟩ => rfl
      | ⟨1, _⟩ => rfl

/-- From arguments that agree, both programs end with the same product and their arguments unchanged. -/
theorem algebraic : Cert.algebraic_OutDwIdeal_OutDwRefIdeal := by
  intro m g m' g' _ hagree
  refine ⟨fun c => dw (X m c) (Y m c), (θ_run defs _ _).mono (fun _ h c => ?_) (Value.run_blocks m g),
    (θ_run OutDwRefIdeal.defs _ _).mono (fun _ h c => ?_) (OutDwRefIdeal.Value.run (F := Ideal) m' g')⟩
  · obtain ⟨o, rest⟩ := h c
    exact ⟨o.trans (out m c), rest⟩
  · obtain ⟨a0, a1, a2⟩ := hagree c
    obtain ⟨o, rest⟩ := h c
    refine ⟨o.trans ((OutDwRefIdeal.Read.val_main_v7_eq _ _ _).trans (Eq.trans ?_ (ref_eq m c))), rest⟩
    rw [a0, a1, a2]

end Cert.OutDwIdeal.Product

end
-- ==== Proof.Common.Shards.lean ====
/-
  A matrix cut into four groups of columns.
-/
module

public import Idealize.ShloMosaic.Lib.Pointwise

@[expose] public section

set_option maxRecDepth 16384

noncomputable section

namespace Cert.Product

open Idealize.ShloMosaic

/-- The stacked groups of columns, read at an entry. -/
theorem shards_at (w : (⟨2, ![2048, 4096]⟩ : Shape).Idx → EReal) (h : Shape.ShapeCasts ⟨2, ![2048, 4096]⟩ ⟨3, ![2048, 4, 1024]⟩)
    (h' : Shape.Transposes ⟨3, ![2048, 4, 1024]⟩ [1, 0, 2] ⟨3, ![4, 2048, 1024]⟩) (p : Fin 4) (r : Fin 2048) (s : Fin 1024) :
    transpose ⟨3, ![4, 2048, 1024]⟩ [1, 0, 2] (shapeCast (⟨3, ![2048, 4, 1024]⟩ : Shape) w h) h' (ix3 p r s)
      = w (ix2 r ⟨1024 * p.val + s.val, by omega⟩) := by
  pointwise []
  exact congrArg w (congrArg (ix2 r) (Fin.ext (by dsimp only; omega)))

end Cert.Product

end
-- ==== Proof.InDx.Equation.lean ====
/-
  The gradient of the attention's input projection in its activations: the call adds the products of four blocks of 1024
  columns, two of the queries' gradient and two of the gates', each with the weights' columns one device holds.
-/
module

public import proofs.«01_k».proof.Defs
public import proofs.«01_k».proof.Proof.Common.Join
public import proofs.«01_k».proof.Proof.Common.Shards
public import proofs.«01_k».proof.Proof.Gen.InDxIdeal.Value
public import proofs.«01_k».proof.Proof.Gen.InDxRefIdeal.Run
public import proofs.«01_k».proof.Proof.Gen.InDxRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.InDxIdeal.Product

open Idealize.ShloMosaic Idealize.ShloMosaic.TcCoe Idealize.SL.Sem
open Cert.InDxIdeal Cert.InDxIdeal.Gen Cert.Product

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1x1024x1024 .bf16) (h5 : a5.IsWhole)
  (a6 : Memref sig .tc .vmem S1024x1024 .f32) (h6 : a6.IsWhole) (a7 : Memref sig .tc .vmem S1024x1024 .f32) (h7 : a7.IsWhole)
  (x y : Vec Ideal S1024x1024 .bf16) (w : Vec Ideal S1x1024x1024 .bf16) (s : Vec Ideal S1024x1024 .f32)

/-- The first block's product is kept. -/
theorem one (c0 : cond0_0 i) (c1 : cond0_1 i) (c2 : ¬cond0_2 i) (c3 : ¬cond0_3 i) (c4 : ¬cond0_4 i) :
    sout0_A_0 c i a3 h3 a4 h4 a5 h5 a6 h6 a7 h7 c0 c1 c2 c3 c4 x y w = k0_pay6 x w := by
  unfold sout0_A_0
  rw [View.read_writes_eq_canon _ _ _ (scover0_A_0 c i a3 h3 a4 h4 a5 h5 a6 h6 a7 h7 c0 c1 c2 c3 c4 x y w)]
  unfold kernelRun0_A
  dsimp only
  rw [View.canon_unit_zero hz]
  simp only [View.readAt_eq_ld, h3.read_unread, h5.read_unread, View.ld_unit_zero (S := S1024x1024) hz,
    View.ld_unit_zero (S := S1x1024x1024) hz3]

/-- The second's is added to it. -/
theorem two (c0 : cond0_0 i) (c1 : ¬cond0_1 i) (c2 : cond0_2 i) (c3 : ¬cond0_3 i) (c4 : ¬cond0_4 i) :
    sout0_B_0 c i a3 h3 a4 h4 a5 h5 a6 h6 a7 h7 c0 c1 c2 c3 c4 x y w s = k0_pay7 x w s := by
  unfold sout0_B_0
  rw [View.read_writes_eq_canon _ _ _ (scover0_B_0 c i a3 h3 a4 h4 a5 h5 a6 h6 a7 h7 c0 c1 c2 c3 c4 x y w s)]
  unfold kernelRun0_B
  dsimp only
  rw [View.canon_unit_zero hz]
  simp only [View.readAt_eq_ld, h3.read_unread, h5.read_unread, h7.read_unread, View.ld_unit_zero (S := S1024x1024) hz,
    View.ld_unit_zero (S := S1x1024x1024) hz3]

/-- The third's too. -/
theorem three (c0 : ¬cond0_0 i) (c4 : cond0_4 i) (c5 : ¬cond0_5 i) (c6 : cond0_6 i) (c7 : ¬cond0_7 i) :
    sout0_C_0 c i a3 h3 a4 h4 a5 h5 a6 h6 a7 h7 c0 c4 c5 c6 c7 x y w s = k0_pay3 y w s := by
  unfold sout0_C_0
  rw [View.read_writes_eq_canon _ _ _ (scover0_C_0 c i a3 h3 a4 h4 a5 h5 a6 h6 a7 h7 c0 c4 c5 c6 c7 x y w s)]
  unfold kernelRun0_C
  dsimp only
  rw [View.canon_unit_zero hz]
  simp only [View.readAt_eq_ld, h4.read_unread, h5.read_unread, h7.read_unread, View.ld_unit_zero (S := S1024x1024) hz,
    View.ld_unit_zero (S := S1x1024x1024) hz3]

/-- The fourth's completes the sum, which is written. -/
theorem four (c0 : ¬cond0_0 i) (c4 : cond0_4 i) (c5 : ¬cond0_5 i) (c6 : ¬cond0_6 i) (c7 : cond0_7 i) :
    out0_D_3 c i a3 h3 a4 h4 a5 h5 a6 h6 a7 h7 c0 c4 c5 c6 c7 x y w s = k0_pay4 y w s := by
  unfold out0_D_3
  rw [View.read_writes_eq_canon _ _ _ (cover0_D_3 c i a3 h3 a4 h4 a5 h5 a6 h6 a7 h7 c0 c4 c5 c6 c7 x y w s)]
  unfold kernelRun0_D
  dsimp only
  rw [View.canon_unit_zero hz]
  simp only [View.readAt_eq_ld, h4.read_unread, h5.read_unread, h7.read_unread, View.ld_unit_zero (S := S1024x1024) hz,
    View.ld_unit_zero (S := S1x1024x1024) hz3]

end

/-- The product of a block of rows with a block of the weights' rows, their columns one device's. -/
theorem prod_at (a : Vec Ideal S1024x1024 .bf16) (b : Vec Ideal S1x1024x1024 .bf16) (r s : Fin 1024) :
    k0_pay6 (F := Ideal) a b (ix2 r s) = ∑ k : Fin 1024, a (ix2 r k) * b (ix3 0 s k) := by
  pointwise [k0_pay6, k0_pay5]

theorem add_at (a : Vec Ideal S1024x1024 .bf16) (b : Vec Ideal S1x1024x1024 .bf16) (z : Vec Ideal S1024x1024 .f32) (r s : Fin 1024) :
    k0_pay3 (F := Ideal) a b z (ix2 r s) = z (ix2 r s) + ∑ k : Fin 1024, a (ix2 r k) * b (ix3 0 s k) := by
  pointwise [k0_pay3, k0_pay1]

theorem last_at (x0 x1 x2 x3 : Vec Ideal S1024x1024 .bf16) (w0 w1 w2 w3 : Vec Ideal S1x1024x1024 .bf16) (r s : Fin 1024) :
    k0_pay4 (F := Ideal) x3 w3 (k0_pay3 x2 w2 (k0_pay7 x1 w1 (k0_pay6 x0 w0))) (ix2 r s)
      = (((∑ k : Fin 1024, x0 (ix2 r k) * w0 (ix3 0 s k)) + ∑ k : Fin 1024, x1 (ix2 r k) * w1 (ix3 0 s k))
          + ∑ k : Fin 1024, x2 (ix2 r k) * w2 (ix3 0 s k)) + ∑ k : Fin 1024, x3 (ix2 r k) * w3 (ix3 0 s k) := by
  have a3 (z : Vec Ideal S1024x1024 .f32) : k0_pay4 (F := Ideal) x3 w3 z (ix2 r s) = k0_pay3 (F := Ideal) x3 w3 z (ix2 r s) := by
    pointwise [k0_pay4, k0_pay3]
  have a1 (z : Vec Ideal S1024x1024 .f32) : k0_pay7 (F := Ideal) x1 w1 z (ix2 r s) = k0_pay3 (F := Ideal) x1 w1 z (ix2 r s) := by
    pointwise [k0_pay7, k0_pay3, k0_pay5, k0_pay1]
  rw [a3, add_at, add_at, a1, add_at, prod_at]

/-- Where each window's block lies at a point. -/
theorem idx : ∀ t : Fin grid0.N, win0_0.index t = ![t.val / 8, min (t.val % 4) 1] ∧ win0_1.index t = ![t.val / 8, t.val % 4 - 2]
    ∧ win0_2.index t = ![t.val % 4, t.val / 4 % 2, 0] ∧ win0_3.index t = ![t.val / 8, t.val / 4 % 2] := by decide +kernel

theorem lt_N (t : Fin cfg0.N) : t.val < 32 := lt_of_lt_of_eq t.isLt N_0

theorem x_emb (t : Fin cfg0.N) (r k : Fin 1024) : ((cfg0.win 0).blk t).view.emb (ix2 r k)
    = ix2 (⟨1024 * (t.val / 8) + r.val, by have := lt_N t; omega⟩ : Fin 4096) (⟨1024 * min (t.val % 4) 1 + k.val, by omega⟩ : Fin 2048) := by
  blk_ext [idx t]

theorem y_emb (t : Fin cfg0.N) (r k : Fin 1024) : ((cfg0.win 1).blk t).view.emb (ix2 r k)
    = ix2 (⟨1024 * (t.val / 8) + r.val, by have := lt_N t; omega⟩ : Fin 4096) (⟨1024 * (t.val % 4 - 2) + k.val, by omega⟩ : Fin 2048) := by
  blk_ext [idx t]

theorem w_emb (t : Fin cfg0.N) (s k : Fin 1024) : ((cfg0.win 2).blk t).view.emb (ix3 (0 : Fin 1) s k)
    = ix3 (⟨t.val % 4, by omega⟩ : Fin 4) (⟨1024 * (t.val / 4 % 2) + s.val, by omega⟩ : Fin 2048) k := by
  blk_ext [idx t]

theorem o_emb (t : Fin cfg0.N) (r s : Fin 1024) : ((cfg0.win 3).blk t).view.emb (ix2 r s)
    = ix2 (⟨1024 * (t.val / 8) + r.val, by have := lt_N t; omega⟩ : Fin 4096) (⟨1024 * (t.val / 4 % 2) + s.val, by omega⟩ : Fin 2048) := by
  blk_ext [idx t]

variable (m : (ℓ : Loc nD τ sig) → Buf (Elt Ideal) ℓ) (c : Dev nD)

/-- The product of the first array with the transposed second. -/
def dx (x : (⟨2, ![4096, 4096]⟩ : Shape).Idx → EReal) (w : S2048x4096.Idx → EReal) : S4096x2048.Idx → EReal :=
  fun i => ∑ k : Fin 4096, x (ix2 (i 0) k) * w (ix2 (i 1) k)

theorem dx_at (x : (⟨2, ![4096, 4096]⟩ : Shape).Idx → EReal) (w : S2048x4096.Idx → EReal) (r : Fin 4096) (s : Fin 2048) :
    dx x w (ix2 r s) = ∑ k : Fin 4096, x (ix2 r k) * w (ix2 s k) := rfl

/-- The arguments. -/
abbrev X : (⟨S4096x2048, .bf16⟩ : BufTy).Contents (Elt Ideal) := m ((c.tc : Thread nD τ).loc main_arg0)
abbrev Y : (⟨S4096x2048, .bf16⟩ : BufTy).Contents (Elt Ideal) := m ((c.tc : Thread nD τ).loc main_arg1)
abbrev W : (⟨S2048x4096, .f32⟩ : BufTy).Contents (Elt Ideal) := m ((c.tc : Thread nD τ).loc main_arg2)

/-- The host's stack of column groups holds the weights. -/
theorem w_eq (p : Fin 4) (r : Fin 2048) (s : Fin 1024) : (V m c main_v2 : S4x2048x1024.Idx → EReal) (ix3 p r s)
    = W m c (ix2 r ⟨1024 * p.val + s.val, by omega⟩) := by
  unfold V
  after_reads_simp
  exact shards_at (W m c) _ _ p r s

theorem x_at (t : Fin cfg0.N) (r k : Fin 1024) : (iblk m c 0 t : FVec Ideal S1024x1024 .bf16) (ix2 r k)
    = X m c (ix2 (⟨1024 * (t.val / 8) + r.val, by have := lt_N t; omega⟩ : Fin 4096) (⟨1024 * min (t.val % 4) 1 + k.val, by omega⟩ : Fin 2048)) := by
  rw [← x_emb t r k, show X m c = V m c main_arg0 from (V_main_arg0 m c).symm]; rfl

theorem y_at (t : Fin cfg0.N) (r k : Fin 1024) : (iblk m c 1 t : FVec Ideal S1024x1024 .bf16) (ix2 r k)
    = Y m c (ix2 (⟨1024 * (t.val / 8) + r.val, by have := lt_N t; omega⟩ : Fin 4096) (⟨1024 * (t.val % 4 - 2) + k.val, by omega⟩ : Fin 2048)) := by
  rw [← y_emb t r k, show Y m c = V m c main_arg1 from (V_main_arg1 m c).symm]; rfl

theorem w_at (t : Fin cfg0.N) (s k : Fin 1024) : (iblk m c 2 t : FVec Ideal S1x1024x1024 .bf16) (ix3 0 s k)
    = W m c (ix2 (⟨1024 * (t.val / 4 % 2) + s.val, by omega⟩ : Fin 2048) (⟨1024 * (t.val % 4) + k.val, by omega⟩ : Fin 4096)) := by
  rw [← w_eq m c ⟨t.val % 4, by omega⟩, ← w_emb t s k]; rfl

/-- The array the call leaves. -/
theorem out : (dats m 0 c).arrAt 3 cfg0.N = dx (join (X m c) (Y m c)) (W m c) := by
  refine (dats m 0 c).arrAt_eq_of_covers 3 _ (by decide +kernel) fun t hf y => ?_
  blk_simp
  obtain ⟨r, s, rfl⟩ : ∃ (r s : Fin 1024), y = ix2 r s := ⟨y 0, y 1, (ix2_eta y).symm⟩
  have h1 : t.val % 4 = 3 := (flush0_3 t).mp hf
  have hN := lt_N t
  have hp : t.val - 1 < cfg0.N := Nat.lt_of_le_of_lt (Nat.sub_le _ _) t.isLt
  have hp' : t.val - 1 - 1 < cfg0.N := Nat.lt_of_le_of_lt (Nat.sub_le _ _) hp
  have hp'' : t.val - 1 - 1 - 1 < cfg0.N := Nat.lt_of_le_of_lt (Nat.sub_le _ _) hp'
  rw [after0_3]
  refine Eq.trans ?_ (congrArg (dx (join (X m c) (Y m c)) (W m c)) (o_emb t r s).symm)
  rw [dx_at, outsAt0_D m c t (by omega) (by omega) (by omega) (by omega) h1]
  dsimp only
  rw [four, outsAt0_C m c ⟨t.val - 1, hp⟩ (by dsimp only; omega) (by dsimp only; omega) (by dsimp only; omega) (by dsimp only; omega) (by dsimp only; omega)]
  dsimp only
  rw [three, outsAt0_B m c ⟨t.val - 1 - 1, hp'⟩ (by dsimp only; omega) (by dsimp only; omega) (by dsimp only; omega) (by dsimp only; omega) (by dsimp only; omega)]
  dsimp only
  rw [two, outsAt0_A m c ⟨t.val - 1 - 1 - 1, hp''⟩ (by dsimp only; omega) (by dsimp only; omega) (by dsimp only; omega) (by dsimp only; omega) (by dsimp only; omega)]
  dsimp only
  rw [one]
  refine (last_at _ _ _ _ _ _ _ _ r s).trans ?_
  refine quarters _ _ _ _ _ (fun k => ?_) (fun k => ?_) (fun k => ?_) fun k => ?_
  · rw [x_at, w_at]
    refine congrArg₂ (· * ·) (Eq.trans ?_ (join_left _ _ _ ⟨k.val, by omega⟩ _ rfl).symm) ?_ <;>
      exact at_eq _ (by dsimp only <;> omega) (by dsimp only <;> omega)
  · rw [x_at, w_at]
    refine congrArg₂ (· * ·) (Eq.trans ?_ (join_left _ _ _ ⟨1024 + k.val, by omega⟩ _ rfl).symm) ?_ <;>
      exact at_eq _ (by dsimp only <;> omega) (by dsimp only <;> omega)
  · rw [y_at, w_at]
    refine congrArg₂ (· * ·) (Eq.trans ?_ (join_right _ _ _ ⟨k.val, by omega⟩ _ rfl).symm) ?_ <;>
      exact at_eq _ (by dsimp only <;> omega) (by dsimp only <;> omega)
  · rw [y_at, w_at]
    refine congrArg₂ (· * ·) (Eq.trans ?_ (join_right _ _ _ ⟨1024 + k.val, by omega⟩ _ (by dsimp only; omega)).symm) ?_ <;>
      exact at_eq _ (by dsimp only <;> omega) (by dsimp only <;> omega)

open InDxRefIdeal.Read in
/-- The reference's gradient is that product. -/
theorem ref_eq : val_main_v4 (F := Ideal) (X m c) (Y m c) (W m c) = dx (join (X m c) (Y m c)) (W m c) := by
  funext i
  rw [val_main_v4_apply]
  unfold dx
  rw [← concatenate_eq _ _ (InDxRefIdeal.Facts₀.concatenates_S4096x2048_S4096x2048_S4096x4096_d1)]
  refine Finset.sum_congr rfl fun k _ => ?_
  refine congrArg₂ (· * ·) (congrArg (val_main_v0 (F := Ideal) (X m c) (Y m c)) ?_) (congrArg (W m c) ?_) <;>
    exact funext fun a => match a with
      | ⟨0, _⟩ => rfl
      | ⟨1, _⟩ => rfl

/-- From arguments that agree, both programs end with the same product and their arguments unchanged. -/
theorem algebraic : Cert.algebraic_InDxIdeal_InDxRefIdeal := by
  intro m g m' g' _ hagree
  refine ⟨fun c => dx (join (X m c) (Y m c)) (W m c), (θ_run defs _ _).mono (fun _ h c => ?_) (Value.run_blocks m g),
    (θ_run InDxRefIdeal.defs _ _).mono (fun _ h c => ?_) (InDxRefIdeal.Value.run (F := Ideal) m' g')⟩
  · obtain ⟨o, rest⟩ := h c
    exact ⟨o.trans (out m c), rest⟩
  · obtain ⟨a0, a1, a2⟩ := hagree c
    obtain ⟨o, rest⟩ := h c
    refine ⟨o.trans ((InDxRefIdeal.Read.val_main_v4_eq _ _ _).trans (Eq.trans ?_ (ref_eq m c))), rest⟩
    rw [a0, a1, a2]

end Cert.InDxIdeal.Product

end
-- ==== Proof.InDw.Equation.lean ====
/-
  The gradient of the attention's input projection in its weights: the call adds the products of two blocks of 2048
  rows, of the queries' gradient for the first half of the columns and of the gates' for the second, and stacks the four
  groups of columns.
-/
module

public import proofs.«01_k».proof.Defs
public import proofs.«01_k».proof.Proof.Common.Join
public import proofs.«01_k».proof.Proof.Gen.InDwIdeal.Value
public import proofs.«01_k».proof.Proof.Gen.InDwRefIdeal.Run
public import proofs.«01_k».proof.Proof.Gen.InDwRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.InDwIdeal.Product

open Idealize.ShloMosaic Idealize.ShloMosaic.TcCoe Idealize.SL.Sem
open Cert.InDwIdeal Cert.InDwIdeal.Gen Cert.Product

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S2048x1024 .bf16) (h5 : a5.IsWhole)
  (a6 : Memref sig .tc .vmem S1x1024x1024 .f32) (h6 : a6.IsWhole) (a7 : Memref sig .tc .vmem S1024x1024 .f32) (h7 : a7.IsWhole)
  (x y z : Vec Ideal S2048x1024 .bf16)

/-- The first block's product with the queries' gradient is kept. -/
theorem first_k (c0 : cond0_0 i) (c1 : cond0_1 i) (c2 : ¬cond0_2 i) (c3 : ¬cond0_3 i) (c4 : ¬cond0_4 i) :
    sout0_A_0 c i a3 h3 a4 h4 a5 h5 a6 h6 a7 h7 c0 c1 c2 c3 c4 x y z = k0_pay6 x y := by
  unfold sout0_A_0
  rw [View.read_writes_eq_canon _ _ _ (scover0_A_0 c i a3 h3 a4 h4 a5 h5 a6 h6 a7 h7 c0 c1 c2 c3 c4 x y z)]
  unfold kernelRun0_A
  dsimp only
  rw [View.canon_unit_zero hz]
  simp only [View.readAt_eq_ld, h3.read_unread, h4.read_unread, View.ld_unit_zero (S := S2048x1024) hz]

/-- The second block's is added to it and written. -/
theorem second_k (c0 : cond0_0 i) (c1 : ¬cond0_1 i) (c2 : ¬cond0_2 i) (c3 : cond0_3 i) (c4 : ¬cond0_4 i) (s : Vec Ideal S1024x1024 .f32) :
    out0_B_3 c i a3 h3 a4 h4 a5 h5 a6 h6 a7 h7 c0 c1 c2 c3 c4 x y z s = k0_pay8 x y s := by
  unfold out0_B_3
  rw [View.read_writes_eq_canon _ _ _ (cover0_B_3 c i a3 h3 a4 h4 a5 h5 a6 h6 a7 h7 c0 c1 c2 c3 c4 x y z s)]
  unfold kernelRun0_B
  dsimp only
  rw [View.canon_unit_zero hz3]
  simp only [View.readAt_eq_ld, h3.read_unread, h4.read_unread, h7.read_unread, View.ld_unit_zero (S := S2048x1024) hz,
    View.ld_unit_zero (S := S1024x1024) hz]

/-- The same with the gates' gradient. -/
theorem first_v (c0 : ¬cond0_0 i) (c4 : cond0_4 i) (c5 : cond0_5 i) (c6 : ¬cond0_6 i) (c7 : ¬cond0_7 i) :
    sout0_C_0 c i a3 h3 a4 h4 a5 h5 a6 h6 a7 h7 c0 c4 c5 c6 c7 x y z = k0_pay2 x z := by
  unfold sout0_C_0
  rw [View.read_writes_eq_canon _ _ _ (scover0_C_0 c i a3 h3 a4 h4 a5 h5 a6 h6 a7 h7 c0 c4 c5 c6 c7 x y z)]
  unfold kernelRun0_C
  dsimp only
  rw [View.canon_unit_zero hz]
  simp only [View.readAt_eq_ld, h3.read_unread, h5.read_unread, View.ld_unit_zero (S := S2048x1024) hz]

theorem second_v (c0 : ¬cond0_0 i) (c4 : cond0_4 i) (c5 : ¬cond0_5 i) (c6 : ¬cond0_6 i) (c7 : cond0_7 i) (s : Vec Ideal S1024x1024 .f32) :
    out0_D_3 c i a3 h3 a4 h4 a5 h5 a6 h6 a7 h7 c0 c4 c5 c6 c7 x y z s = k0_pay4 x z s := by
  unfold out0_D_3
  rw [View.read_writes_eq_canon _ _ _ (cover0_D_3 c i a3 h3 a4 h4 a5 h5 a6 h6 a7 h7 c0 c4 c5 c6 c7 x y z s)]
  unfold kernelRun0_D
  dsimp only
  rw [View.canon_unit_zero hz3]
  simp only [View.readAt_eq_ld, h3.read_unread, h5.read_unread, h7.read_unread, View.ld_unit_zero (S := S2048x1024) hz,
    View.ld_unit_zero (S := S1024x1024) hz]

end

/-- The product of two blocks of rows. -/
theorem prod_at (a b : FVec Ideal S2048x1024 .bf16) (r s : Fin 1024) :
    k0_pay1 (F := Ideal) a b (ix2 r s) = ∑ k : Fin 2048, a (ix2 k r) * b (ix2 k s) := by
  pointwise [k0_pay1]

theorem last_v (x y x' y' : Vec Ideal S2048x1024 .bf16) (r s : Fin 1024) :
    k0_pay4 (F := Ideal) x' y' (k0_pay2 x y) (ix3 0 r s)
      = (∑ k : Fin 2048, x (ix2 k r) * y (ix2 k s)) + ∑ k : Fin 2048, x' (ix2 k r) * y' (ix2 k s) := by
  rw [← prod_at, ← prod_at]
  pointwise [k0_pay4, k0_pay2]

theorem last_k (x y x' y' : Vec Ideal S2048x1024 .bf16) (r s : Fin 1024) :
    k0_pay8 (F := Ideal) x' y' (k0_pay6 x y) (ix3 0 r s)
      = (∑ k : Fin 2048, x (ix2 k r) * y (ix2 k s)) + ∑ k : Fin 2048, x' (ix2 k r) * y' (ix2 k s) :=
  last_v x y x' y' r s

/-- Where each window's block lies at a point. -/
theorem idx : ∀ t : Fin grid0.N, win0_0.index t = ![t.val % 2, t.val / 8] ∧ win0_1.index t = ![t.val % 2, min (t.val / 2 % 4) 1]
    ∧ win0_2.index t = ![t.val % 2, t.val / 2 % 4 - 2] ∧ win0_3.index t = ![t.val / 2 % 4, t.val / 8, 0] := by decide +kernel

theorem lt_N (t : Fin cfg0.N) : t.val < 16 := lt_of_lt_of_eq t.isLt N_0

theorem x_emb (t : Fin cfg0.N) (k : Fin 2048) (r : Fin 1024) : ((cfg0.win 0).blk t).view.emb (ix2 k r)
    = ix2 (⟨2048 * (t.val % 2) + k.val, by omega⟩ : Fin 4096) (⟨1024 * (t.val / 8) + r.val, by have := lt_N t; omega⟩ : Fin 2048) := by
  blk_ext [idx t]

theorem y_emb (t : Fin cfg0.N) (k : Fin 2048) (r : Fin 1024) : ((cfg0.win 1).blk t).view.emb (ix2 k r)
    = ix2 (⟨2048 * (t.val % 2) + k.val, by omega⟩ : Fin 4096) (⟨1024 * min (t.val / 2 % 4) 1 + r.val, by omega⟩ : Fin 2048) := by
  blk_ext [idx t]

theorem z_emb (t : Fin cfg0.N) (k : Fin 2048) (r : Fin 1024) : ((cfg0.win 2).blk t).view.emb (ix2 k r)
    = ix2 (⟨2048 * (t.val % 2) + k.val, by omega⟩ : Fin 4096) (⟨1024 * (t.val / 2 % 4 - 2) + r.val, by omega⟩ : Fin 2048) := by
  blk_ext [idx t]

theorem o_emb (t : Fin cfg0.N) (r s : Fin 1024) : ((cfg0.win 3).blk t).view.emb (ix3 (0 : Fin 1) r s)
    = ix3 (⟨t.val / 2 % 4, by omega⟩ : Fin 4) (⟨1024 * (t.val / 8) + r.val, by have := lt_N t; omega⟩ : Fin 2048) s := by
  blk_ext [idx t]

variable (m : (ℓ : Loc nD τ sig) → Buf (Elt Ideal) ℓ) (c : Dev nD)

theorem col_lt (i : S4x2048x1024.Idx) : 1024 * (i 0).val + (i 2).val < 4096 := by
  have h0 : (i 0).val < 4 := (i 0).isLt
  have h2 : (i 2).val < 1024 := (i 2).isLt
  omega

/-- The product of the transposed first array with the second, its four groups of columns stacked. -/
def dw (x : S4096x2048.Idx → EReal) (y : (⟨2, ![4096, 4096]⟩ : Shape).Idx → EReal) : S4x2048x1024.Idx → EReal :=
  fun i => ∑ k : Fin 4096, x (ix2 k (i 1)) * y (ix2 k ⟨1024 * (i 0).val + (i 2).val, col_lt i⟩)

theorem dw_at (x : S4096x2048.Idx → EReal) (y : (⟨2, ![4096, 4096]⟩ : Shape).Idx → EReal) (p : Fin 4) (r : Fin 2048) (s : Fin 1024) :
    dw x y (ix3 p r s) = ∑ k : Fin 4096, x (ix2 k r) * y (ix2 k ⟨1024 * p.val + s.val, by omega⟩) := rfl

/-- The arguments, which are the operands of the call. -/
abbrev X : (⟨S4096x2048, .bf16⟩ : BufTy).Contents (Elt Ideal) := m ((c.tc : Thread nD τ).loc main_arg0)
abbrev Y : (⟨S4096x2048, .bf16⟩ : BufTy).Contents (Elt Ideal) := m ((c.tc : Thread nD τ).loc main_arg1)
abbrev Z : (⟨S4096x2048, .bf16⟩ : BufTy).Contents (Elt Ideal) := m ((c.tc : Thread nD τ).loc main_arg2)

theorem x_at (t : Fin cfg0.N) (k : Fin 2048) (r : Fin 1024) : (iblk m c 0 t : FVec Ideal S2048x1024 .bf16) (ix2 k r)
    = X m c (ix2 (⟨2048 * (t.val % 2) + k.val, by omega⟩ : Fin 4096) (⟨1024 * (t.val / 8) + r.val, by have := lt_N t; omega⟩ : Fin 2048)) := by
  rw [← x_emb t k r, show X m c = V m c main_arg0 from (V_main_arg0 m c).symm]; rfl

theorem y_at (t : Fin cfg0.N) (k : Fin 2048) (r : Fin 1024) : (iblk m c 1 t : FVec Ideal S2048x1024 .bf16) (ix2 k r)
    = Y m c (ix2 (⟨2048 * (t.val % 2) + k.val, by omega⟩ : Fin 4096) (⟨1024 * min (t.val / 2 % 4) 1 + r.val, by omega⟩ : Fin 2048)) := by
  rw [← y_emb t k r, show Y m c = V m c main_arg1 from (V_main_arg1 m c).symm]; rfl

theorem z_at (t : Fin cfg0.N) (k : Fin 2048) (r : Fin 1024) : (iblk m c 2 t : FVec Ideal S2048x1024 .bf16) (ix2 k r)
    = Z m c (ix2 (⟨2048 * (t.val % 2) + k.val, by omega⟩ : Fin 4096) (⟨1024 * (t.val / 2 % 4 - 2) + r.val, by omega⟩ : Fin 2048)) := by
  rw [← z_emb t k r, show Z m c = V m c main_arg2 from (V_main_arg2 m c).symm]; rfl

/-- The array the call leaves. -/
theorem out : (dats m 0 c).arrAt 3 cfg0.N = dw (X m c) (join (Y m c) (Z m c)) := by
  refine (dats m 0 c).arrAt_eq_of_covers 3 _ (by decide +kernel) fun t hf y => ?_
  blk_simp
  obtain ⟨p, r, s, rfl⟩ : ∃ (p : Fin 1) (r s : Fin 1024), y = ix3 p r s := ⟨y 0, y 1, y 2, (ix3_eta y).symm⟩
  obtain rfl : p = 0 := Subsingleton.elim _ _
  have h1 : t.val % 2 = 1 := (flush0_3 t).mp hf
  have hN := lt_N t
  have hp : t.val - 1 < cfg0.N := Nat.lt_of_le_of_lt (Nat.sub_le _ _) t.isLt
  rw [after0_3]
  refine Eq.trans ?_ (congrArg (dw (X m c) (join (Y m c) (Z m c))) (o_emb t r s).symm)
  rw [dw_at]
  by_cases hj : t.val / 2 % 4 ≤ 1
  · rw [outsAt0_B m c t hj (by omega) h1 (by omega)]
    dsimp only
    rw [second_k, outsAt0_A m c ⟨t.val - 1, hp⟩ (by dsimp only; omega) (by dsimp only; omega) (by dsimp only; omega) (by dsimp only; omega)]
    dsimp only
    rw [first_k]
    refine (last_k _ _ _ _ r s).trans ?_
    refine halves _ _ _ (fun k => ?_) fun k => ?_ <;> rw [x_at, y_at] <;>
      refine congrArg₂ (· * ·) (at_eq _ (by dsimp only <;> omega) (by dsimp only <;> omega)) (Eq.trans ?_ (join_left _ _ _ ⟨1024 * (t.val / 2 % 4) + s.val, by omega⟩ _ rfl).symm) <;>
      exact at_eq _ (by dsimp only <;> omega) (by dsimp only <;> omega)
  · rw [outsAt0_D m c t hj (by omega) (by omega) h1]
    dsimp only
    rw [second_v, outsAt0_C m c ⟨t.val - 1, hp⟩ (by dsimp only; omega) (by dsimp only; omega) (by dsimp only; omega) (by dsimp only; omega)]
    dsimp only
    rw [first_v]
    refine (last_v _ _ _ _ r s).trans ?_
    refine halves _ _ _ (fun k => ?_) fun k => ?_ <;> rw [x_at, z_at] <;>
      refine congrArg₂ (· * ·) (at_eq _ (by dsimp only <;> omega) (by dsimp only <;> omega)) (Eq.trans ?_ (join_right _ _ _ ⟨1024 * (t.val / 2 % 4 - 2) + s.val, by omega⟩ _ (by dsimp only; omega)).symm) <;>
      exact at_eq _ (by dsimp only <;> omega) (by dsimp only <;> omega)

open InDwRefIdeal.Read in
/-- The reference's stack at an entry. -/
theorem stack_at (x y z : S4096x2048.Idx → EReal) (p : Fin 4) (r : Fin 2048) (s : Fin 1024) :
    val_main_v15 (F := Ideal) x y z (ix3 p r s) = val_main_v6 (F := Ideal) x y z (ix2 r ⟨1024 * p.val + s.val, by omega⟩) := by
  unfold val_main_v15 val_main_v14 val_main_v13 val_main_v12 val_main_v11 val_main_v10 val_main_v9 val_main_v8 val_main_v7
  generalize val_main_v6 (F := Ideal) x y z = g
  fin_cases p <;> pointwise []

open InDwRefIdeal.Read in
/-- The reference's gradient is that product. -/
theorem ref_eq : val_main_v15 (F := Ideal) (X m c) (Y m c) (Z m c) = dw (X m c) (join (Y m c) (Z m c)) := by
  funext i
  obtain ⟨p, r, s, rfl⟩ : ∃ (p : Fin 4) (r : Fin 2048) (s : Fin 1024), i = ix3 p r s := ⟨i 0, i 1, i 2, (ix3_eta i).symm⟩
  rw [stack_at, val_main_v6_apply, val_main_v5_apply, dw_at]
  rw [← concatenate_eq _ _ (InDwRefIdeal.Facts₀.concatenates_S4096x2048_S4096x2048_S4096x4096_d1)]
  refine Finset.sum_congr rfl fun k _ => ?_
  rw [mul_comm]
  refine congrArg₂ (· * ·) (congrArg (X m c) ?_) (congrArg (val_main_v0 (F := Ideal) (Y m c) (Z m c)) ?_) <;>
    exact funext fun a => match a with
      | ⟨0, _⟩ => rfl
      | ⟨1, _⟩ => rfl

/-- From arguments that agree, both programs end with the same product and their arguments unchanged. -/
theorem algebraic : Cert.algebraic_InDwIdeal_InDwRefIdeal := by
  intro m g m' g' _ hagree
  refine ⟨fun c => dw (X m c) (join (Y m c) (Z m c)), (θ_run defs _ _).mono (fun _ h c => ?_) (Value.run_blocks m g),
    (θ_run InDwRefIdeal.defs _ _).mono (fun _ h c => ?_) (InDwRefIdeal.Value.run (F := Ideal) m' g')⟩
  · obtain ⟨o, rest⟩ := h c
    exact ⟨o.trans (out m c), rest⟩
  · obtain ⟨a0, a1, a2⟩ := hagree c
    obtain ⟨o, rest⟩ := h c
    refine ⟨o.trans ((InDwRefIdeal.Read.val_main_v15_eq _ _ _).trans (Eq.trans ?_ (ref_eq m c))), rest⟩
    rw [a0, a1, a2]

end Cert.InDwIdeal.Product

end
-- ==== Proof.KvDx.Equation.lean ====
/-
  The gradient of the keys' and values' projection in its activations: the call adds the product of the keys' gradient
  with the first half of the weights' columns, that of the values' with the second, and the forget gates' share.
-/
module

public import proofs.«01_k».proof.Defs
public import proofs.«01_k».proof.Proof.Common.Join
public import proofs.«01_k».proof.Proof.Gen.KvDxIdeal.Value
public import proofs.«01_k».proof.Proof.Gen.KvDxRefIdeal.Run
public import proofs.«01_k».proof.Proof.Gen.KvDxRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KvDxIdeal.Product

open Idealize.ShloMosaic Idealize.ShloMosaic.TcCoe Idealize.SL.Sem
open Cert.KvDxIdeal Cert.KvDxIdeal.Gen Cert.Product

section
variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x2048 .bf16) (h5 : a5.IsWhole)
  (a6 : Memref sig .tc .vmem S1024x1024 .f32) (h6 : a6.IsWhole) (a7 : Memref sig .tc .vmem S1024x1024 .f32) (h7 : a7.IsWhole)
  (a8 : Memref sig .tc .vmem S1024x1024 .f32) (h8 : a8.IsWhole) (x y w : Vec Ideal S1024x2048 .bf16) (b : Vec Ideal S1024x1024 .f32)

/-- The product of the keys' gradient is kept. -/
theorem first (c0 : cond0_0 i) (c1 : cond0_1 i) (c2 : ¬cond0_2 i) (c3 : ¬cond0_3 i) (c4 : ¬cond0_4 i) :
    sout0_A_0 c i a3 h3 a4 h4 a5 h5 a6 h6 a7 h7 a8 h8 c0 c1 c2 c3 c4 x y w b = k0_pay6 x w := by
  unfold sout0_A_0
  rw [View.read_writes_eq_canon _ _ _ (scover0_A_0 c i a3 h3 a4 h4 a5 h5 a6 h6 a7 h7 a8 h8 c0 c1 c2 c3 c4 x y w b)]
  unfold kernelRun0_A
  dsimp only
  rw [View.canon_unit_zero hz]
  simp only [View.readAt_eq_ld, h3.read_unread, h5.read_unread, View.ld_unit_zero (S := S1024x2048) hz]

/-- The product of the values' gradient and the forget gates' share are added to it and written. -/
theorem second (c0 : ¬cond0_0 i) (c4 : cond0_4 i) (c5 : ¬cond0_5 i) (c6 : ¬cond0_6 i) (c7 : cond0_7 i) (s : Vec Ideal S1024x1024 .f32) :
    out0_B_4 c i a3 h3 a4 h4 a5 h5 a6 h6 a7 h7 a8 h8 c0 c4 c5 c6 c7 x y w b s = k0_pay4 y w s b := by
  unfold out0_B_4
  rw [View.read_writes_eq_canon _ _ _ (cover0_B_4 c i a3 h3 a4 h4 a5 h5 a6 h6 a7 h7 a8 h8 c0 c4 c5 c6 c7 x y w b s)]
  unfold kernelRun0_B
  dsimp only
  rw [View.canon_unit_zero hz]
  simp only [View.readAt_eq_ld, h4.read_unread, h5.read_unread, h6.read_unread, h8.read_unread,
    View.ld_unit_zero (S := S1024x2048) hz, View.ld_unit_zero (S := S1024x1024) hz]

end

/-- The product of a block of rows with a block of the weights' rows. -/
theorem prod_at (a b : FVec Ideal S1024x2048 .bf16) (r s : Fin 1024) :
    k0_pay1 (F := Ideal) a b (ix2 r s) = ∑ k : Fin 2048, a (ix2 r k) * b (ix2 s k) := by
  pointwise [k0_pay1]

theorem kept_at (a b : FVec Ideal S1024x2048 .bf16) (r s : Fin 1024) :
    k0_pay6 (F := Ideal) a b (ix2 r s) = ∑ k : Fin 2048, a (ix2 r k) * b (ix2 s k) := by
  pointwise [k0_pay6, k0_pay5]

theorem last_at (x y w w' : Vec Ideal S1024x2048 .bf16) (b : Vec Ideal S1024x1024 .f32) (r s : Fin 1024) :
    k0_pay4 (F := Ideal) y w' (k0_pay6 x w) b (ix2 r s)
      = (∑ k : Fin 2048, x (ix2 r k) * w (ix2 s k)) + (∑ k : Fin 2048, y (ix2 r k) * w' (ix2 s k)) + b (ix2 r s) := by
  rw [← prod_at y w' r s, ← kept_at x w r s]
  pointwise [k0_pay4]

/-- Where each window's block lies at a point. -/
theorem idx : ∀ t : Fin grid0.N, win0_0.index t = ![t.val / 4, 0] ∧ win0_1.index t = ![t.val / 4, 0]
    ∧ win0_2.index t = ![t.val / 2 % 2, t.val % 2] ∧ win0_3.index t = ![t.val / 4, t.val / 2 % 2]
    ∧ win0_4.index t = ![t.val / 4, t.val / 2 % 2] := by decide +kernel

theorem lt_N (t : Fin cfg0.N) : t.val < 16 := lt_of_lt_of_eq t.isLt N_0

theorem x_emb (t : Fin cfg0.N) (r : Fin 1024) (k : Fin 2048) : ((cfg0.win 0).blk t).view.emb (ix2 r k)
    = ix2 (⟨1024 * (t.val / 4) + r.val, by have := lt_N t; omega⟩ : Fin 4096) k := by
  blk_ext [idx t]

theorem y_emb (t : Fin cfg0.N) (r : Fin 1024) (k : Fin 2048) : ((cfg0.win 1).blk t).view.emb (ix2 r k)
    = ix2 (⟨1024 * (t.val / 4) + r.val, by have := lt_N t; omega⟩ : Fin 4096) k := by
  blk_ext [idx t]

theorem w_emb (t : Fin cfg0.N) (s : Fin 1024) (k : Fin 2048) : ((cfg0.win 2).blk t).view.emb (ix2 s k)
    = ix2 (⟨1024 * (t.val / 2 % 2) + s.val, by omega⟩ : Fin 2048) (⟨2048 * (t.val % 2) + k.val, by omega⟩ : Fin 4096) := by
  blk_ext [idx t]

theorem b_emb (t : Fin cfg0.N) (r s : Fin 1024) : ((cfg0.win 3).blk t).view.emb (ix2 r s)
    = ix2 (⟨1024 * (t.val / 4) + r.val, by have := lt_N t; omega⟩ : Fin 4096) (⟨1024 * (t.val / 2 % 2) + s.val, by omega⟩ : Fin 2048) := by
  blk_ext [idx t]

theorem o_emb (t : Fin cfg0.N) (r s : Fin 1024) : ((cfg0.win 4).blk t).view.emb (ix2 r s)
    = ix2 (⟨1024 * (t.val / 4) + r.val, by have := lt_N t; omega⟩ : Fin 4096) (⟨1024 * (t.val / 2 % 2) + s.val, by omega⟩ : Fin 2048) := by
  blk_ext [idx t]

variable (m : (ℓ : Loc nD τ sig) → Buf (Elt Ideal) ℓ) (c : Dev nD)

/-- The product of the first array with the transposed second, and a third array added. -/
def dx (x : (⟨2, ![4096, 4096]⟩ : Shape).Idx → EReal) (w : S2048x4096.Idx → EReal) (b : S4096x2048.Idx → EReal) : S4096x2048.Idx → EReal :=
  fun i => (∑ k : Fin 4096, x (ix2 (i 0) k) * w (ix2 (i 1) k)) + b (ix2 (i 0) (i 1))

theorem dx_at (x : (⟨2, ![4096, 4096]⟩ : Shape).Idx → EReal) (w : S2048x4096.Idx → EReal) (b : S4096x2048.Idx → EReal) (r : Fin 4096)
    (s : Fin 2048) : dx x w b (ix2 r s) = (∑ k : Fin 4096, x (ix2 r k) * w (ix2 s k)) + b (ix2 r s) := rfl

/-- The arguments. -/
abbrev X : (⟨S4096x2048, .bf16⟩ : BufTy).Contents (Elt Ideal) := m ((c.tc : Thread nD τ).loc main_arg0)
abbrev Y : (⟨S4096x2048, .bf16⟩ : BufTy).Contents (Elt Ideal) := m ((c.tc : Thread nD τ).loc main_arg1)
abbrev B : (⟨S4096x2048, .f32⟩ : BufTy).Contents (Elt Ideal) := m ((c.tc : Thread nD τ).loc main_arg2)
abbrev W : (⟨S2048x4096, .f32⟩ : BufTy).Contents (Elt Ideal) := m ((c.tc : Thread nD τ).loc main_arg3)

/-- The host's cast leaves the weights as they are. -/
theorem w_eq : V m c main_v0 = W m c := by
  unfold V
  after_reads_simp
  rfl

theorem x_at (t : Fin cfg0.N) (r : Fin 1024) (k : Fin 2048) : (iblk m c 0 t : FVec Ideal S1024x2048 .bf16) (ix2 r k)
    = X m c (ix2 (⟨1024 * (t.val / 4) + r.val, by have := lt_N t; omega⟩ : Fin 4096) k) := by
  rw [← x_emb t r k, show X m c = V m c main_arg0 from (V_main_arg0 m c).symm]; rfl

theorem y_at (t : Fin cfg0.N) (r : Fin 1024) (k : Fin 2048) : (iblk m c 1 t : FVec Ideal S1024x2048 .bf16) (ix2 r k)
    = Y m c (ix2 (⟨1024 * (t.val / 4) + r.val, by have := lt_N t; omega⟩ : Fin 4096) k) := by
  rw [← y_emb t r k, show Y m c = V m c main_arg1 from (V_main_arg1 m c).symm]; rfl

theorem w_at (t : Fin cfg0.N) (s : Fin 1024) (k : Fin 2048) : (iblk m c 2 t : FVec Ideal S1024x2048 .bf16) (ix2 s k)
    = W m c (ix2 (⟨1024 * (t.val / 2 % 2) + s.val, by omega⟩ : Fin 2048) (⟨2048 * (t.val % 2) + k.val, by omega⟩ : Fin 4096)) := by
  rw [← w_emb t s k, ← w_eq m c]; rfl

theorem b_at (t : Fin cfg0.N) (r s : Fin 1024) : (iblk m c 3 t : FVec Ideal S1024x1024 .f32) (ix2 r s)
    = B m c (ix2 (⟨1024 * (t.val / 4) + r.val, by have := lt_N t; omega⟩ : Fin 4096) (⟨1024 * (t.val / 2 % 2) + s.val, by omega⟩ : Fin 2048)) := by
  rw [← b_emb t r s, show B m c = V m c main_arg2 from (V_main_arg2 m c).symm]; rfl

/-- The array the call leaves. -/
theorem out : (dats m 0 c).arrAt 4 cfg0.N = dx (join (X m c) (Y m c)) (W m c) (B m c) := by
  refine (dats m 0 c).arrAt_eq_of_covers 4 _ (by decide +kernel) fun t hf y => ?_
  blk_simp
  obtain ⟨r, s, rfl⟩ : ∃ (r s : Fin 1024), y = ix2 r s := ⟨y 0, y 1, (ix2_eta y).symm⟩
  have h1 : t.val % 2 = 1 := (flush0_4 t).mp hf
  have hN := lt_N t
  have hp : t.val - 1 < cfg0.N := Nat.lt_of_le_of_lt (Nat.sub_le _ _) t.isLt
  rw [after0_4]
  refine Eq.trans ?_ (congrArg (dx (join (X m c) (Y m c)) (W m c) (B m c)) (o_emb t r s).symm)
  rw [dx_at, outsAt0_B m c t (by omega) h1 (by omega) h1]
  dsimp only
  rw [second, outsAt0_A m c ⟨t.val - 1, hp⟩ (by dsimp only; omega) (by dsimp only; omega) (by dsimp only; omega) (by dsimp only; omega)]
  dsimp only
  rw [first]
  refine (last_at _ _ _ _ _ r s).trans (congrArg₂ (· + ·) ?_ (b_at m c t r s))
  refine halves _ _ _ (fun k => ?_) fun k => ?_
  · rw [x_at, w_at]
    refine congrArg₂ (· * ·) (Eq.trans ?_ (join_left _ _ _ k _ rfl).symm) ?_ <;>
      exact at_eq _ (by dsimp only <;> omega) (by dsimp only <;> omega)
  · rw [y_at, w_at]
    refine congrArg₂ (· * ·) (Eq.trans ?_ (join_right _ _ _ k _ rfl).symm) ?_ <;>
      exact at_eq _ (by dsimp only <;> omega) (by dsimp only <;> omega)

open KvDxRefIdeal.Read in
/-- The reference's gradient is that product. -/
theorem ref_eq : val_main_v6 (F := Ideal) (X m c) (Y m c) (B m c) (W m c) = dx (join (X m c) (Y m c)) (W m c) (B m c) := by
  funext i
  rw [val_main_v6_apply, val_main_v5_apply]
  unfold dx
  rw [← concatenate_eq _ _ (KvDxRefIdeal.Facts₀.concatenates_S4096x2048_S4096x2048_S4096x4096_d1)]
  refine (add_comm _ _).trans (congrArg₂ (· + ·) (Finset.sum_congr rfl fun k _ => ?_) (congrArg (B m c) (ix2_eta i).symm))
  refine congrArg₂ (· * ·) (congrArg (val_main_v3 (F := Ideal) (X m c) (Y m c)) ?_) (congrArg (W m c) ?_) <;>
    exact funext fun a => match a with
      | ⟨0, _⟩ => rfl
      | ⟨1, _⟩ => rfl

/-- From arguments that agree, both programs end with the same array and their arguments unchanged. -/
theorem algebraic : Cert.algebraic_KvDxIdeal_KvDxRefIdeal := by
  intro m g m' g' _ hagree
  refine ⟨fun c => dx (join (X m c) (Y m c)) (W m c) (B m c), (θ_run defs _ _).mono (fun _ h c => ?_) (Value.run_blocks m g),
    (θ_run KvDxRefIdeal.defs _ _).mono (fun _ h c => ?_) (KvDxRefIdeal.Value.run (F := Ideal) m' g')⟩
  · obtain ⟨o, rest⟩ := h c
    exact ⟨o.trans (out m c), rest⟩
  · obtain ⟨a0, a1, a2, a3⟩ := hagree c
    obtain ⟨o, rest⟩ := h c
    refine ⟨o.trans ((KvDxRefIdeal.Read.val_main_v6_eq _ _ _ _).trans (Eq.trans ?_ (ref_eq m c))), rest⟩
    rw [a0, a1, a2, a3]

end Cert.KvDxIdeal.Product

end
-- ==== Proof.KvDw.Equation.lean ====
/-
  The gradient of the keys' and values' projection in its weights: the call adds the products of two blocks of 2048
  rows, of the keys' gradient for the first half of the columns and of the values' for the second.
-/
module

public import proofs.«01_k».proof.Defs
public import proofs.«01_k».proof.Proof.Common.Join
public import proofs.«01_k».proof.Proof.Gen.KvDwIdeal.Value
public import proofs.«01_k».proof.Proof.Gen.KvDwRefIdeal.Run
public import proofs.«01_k».proof.Proof.Gen.KvDwRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KvDwIdeal.Product

open Idealize.ShloMosaic Idealize.ShloMosaic.TcCoe Idealize.SL.Sem
open Cert.KvDwIdeal Cert.KvDwIdeal.Gen Cert.Product

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S2048x1024 .bf16) (h5 : a5.IsWhole)
  (a6 : Memref sig .tc .vmem S1024x1024 .f32) (h6 : a6.IsWhole) (a7 : Memref sig .tc .vmem S1024x1024 .f32) (h7 : a7.IsWhole)
  (x y z : Vec Ideal S2048x1024 .bf16)

/-- The first block's product with the keys' gradient is kept. -/
theorem first_k (c0 : cond0_0 i) (c1 : cond0_1 i) (c2 : ¬cond0_2 i) (c3 : ¬cond0_3 i) (c4 : ¬cond0_4 i) :
    sout0_A_0 c i a3 h3 a4 h4 a5 h5 a6 h6 a7 h7 c0 c1 c2 c3 c4 x y z = k0_pay6 x y := by
  unfold sout0_A_0
  rw [View.read_writes_eq_canon _ _ _ (scover0_A_0 c i a3 h3 a4 h4 a5 h5 a6 h6 a7 h7 c0 c1 c2 c3 c4 x y z)]
  unfold kernelRun0_A
  dsimp only
  rw [View.canon_unit_zero hz]
  simp only [View.readAt_eq_ld, h3.read_unread, h4.read_unread, View.ld_unit_zero (S := S2048x1024) hz]

/-- The second block's is added to it and written. -/
theorem second_k (c0 : cond0_0 i) (c1 : ¬cond0_1 i) (c2 : ¬cond0_2 i) (c3 : cond0_3 i) (c4 : ¬cond0_4 i) (s : Vec Ideal S1024x1024 .f32) :
    out0_B_3 c i a3 h3 a4 h4 a5 h5 a6 h6 a7 h7 c0 c1 c2 c3 c4 x y z s = k0_pay8 x y s := by
  unfold out0_B_3
  rw [View.read_writes_eq_canon _ _ _ (cover0_B_3 c i a3 h3 a4 h4 a5 h5 a6 h6 a7 h7 c0 c1 c2 c3 c4 x y z s)]
  unfold kernelRun0_B
  dsimp only
  rw [View.canon_unit_zero hz]
  simp only [View.readAt_eq_ld, h3.read_unread, h4.read_unread, h7.read_unread, View.ld_unit_zero (S := S2048x1024) hz,
    View.ld_unit_zero (S := S1024x1024) hz]

/-- The same with the values' gradient. -/
theorem first_v (c0 : ¬cond0_0 i) (c4 : cond0_4 i) (c5 : cond0_5 i) (c6 : ¬cond0_6 i) (c7 : ¬cond0_7 i) :
    sout0_C_0 c i a3 h3 a4 h4 a5 h5 a6 h6 a7 h7 c0 c4 c5 c6 c7 x y z = k0_pay2 x z := by
  unfold sout0_C_0
  rw [View.read_writes_eq_canon _ _ _ (scover0_C_0 c i a3 h3 a4 h4 a5 h5 a6 h6 a7 h7 c0 c4 c5 c6 c7 x y z)]
  unfold kernelRun0_C
  dsimp only
  rw [View.canon_unit_zero hz]
  simp only [View.readAt_eq_ld, h3.read_unread, h5.read_unread, View.ld_unit_zero (S := S2048x1024) hz]

theorem second_v (c0 : ¬cond0_0 i) (c4 : cond0_4 i) (c5 : ¬cond0_5 i) (c6 : ¬cond0_6 i) (c7 : cond0_7 i) (s : Vec Ideal S1024x1024 .f32) :
    out0_D_3 c i a3 h3 a4 h4 a5 h5 a6 h6 a7 h7 c0 c4 c5 c6 c7 x y z s = k0_pay4 x z s := by
  unfold out0_D_3
  rw [View.read_writes_eq_canon _ _ _ (cover0_D_3 c i a3 h3 a4 h4 a5 h5 a6 h6 a7 h7 c0 c4 c5 c6 c7 x y z s)]
  unfold kernelRun0_D
  dsimp only
  rw [View.canon_unit_zero hz]
  simp only [View.readAt_eq_ld, h3.read_unread, h5.read_unread, h7.read_unread, View.ld_unit_zero (S := S2048x1024) hz,
    View.ld_unit_zero (S := S1024x1024) hz]

end

/-- The product of two blocks of rows. -/
theorem prod_at (a b : FVec Ideal S2048x1024 .bf16) (r s : Fin 1024) :
    k0_pay1 (F := Ideal) a b (ix2 r s) = ∑ k : Fin 2048, a (ix2 k r) * b (ix2 k s) := by
  pointwise [k0_pay1]

theorem last_v (x y x' y' : Vec Ideal S2048x1024 .bf16) (r s : Fin 1024) :
    k0_pay4 (F := Ideal) x' y' (k0_pay2 x y) (ix2 r s)
      = (∑ k : Fin 2048, x (ix2 k r) * y (ix2 k s)) + ∑ k : Fin 2048, x' (ix2 k r) * y' (ix2 k s) := by
  rw [← prod_at, ← prod_at]
  pointwise [k0_pay4, k0_pay2]

theorem last_k (x y x' y' : Vec Ideal S2048x1024 .bf16) (r s : Fin 1024) :
    k0_pay8 (F := Ideal) x' y' (k0_pay6 x y) (ix2 r s)
      = (∑ k : Fin 2048, x (ix2 k r) * y (ix2 k s)) + ∑ k : Fin 2048, x' (ix2 k r) * y' (ix2 k s) :=
  last_v x y x' y' r s

/-- Where each window's block lies at a point. -/
theorem idx : ∀ t : Fin grid0.N, win0_0.index t = ![t.val % 2, t.val / 8] ∧ win0_1.index t = ![t.val % 2, min (t.val / 2 % 4) 1]
    ∧ win0_2.index t = ![t.val % 2, t.val / 2 % 4 - 2] ∧ win0_3.index t = ![t.val / 8, t.val / 2 % 4] := by decide +kernel

theorem lt_N (t : Fin cfg0.N) : t.val < 16 := lt_of_lt_of_eq t.isLt N_0

theorem x_emb (t : Fin cfg0.N) (k : Fin 2048) (r : Fin 1024) : ((cfg0.win 0).blk t).view.emb (ix2 k r)
    = ix2 (⟨2048 * (t.val % 2) + k.val, by omega⟩ : Fin 4096) (⟨1024 * (t.val / 8) + r.val, by have := lt_N t; omega⟩ : Fin 2048) := by
  blk_ext [idx t]

theorem y_emb (t : Fin cfg0.N) (k : Fin 2048) (r : Fin 1024) : ((cfg0.win 1).blk t).view.emb (ix2 k r)
    = ix2 (⟨2048 * (t.val % 2) + k.val, by omega⟩ : Fin 4096) (⟨1024 * min (t.val / 2 % 4) 1 + r.val, by omega⟩ : Fin 2048) := by
  blk_ext [idx t]

theorem z_emb (t : Fin cfg0.N) (k : Fin 2048) (r : Fin 1024) : ((cfg0.win 2).blk t).view.emb (ix2 k r)
    = ix2 (⟨2048 * (t.val % 2) + k.val, by omega⟩ : Fin 4096) (⟨1024 * (t.val / 2 % 4 - 2) + r.val, by omega⟩ : Fin 2048) := by
  blk_ext [idx t]

theorem o_emb (t : Fin cfg0.N) (r s : Fin 1024) : ((cfg0.win 3).blk t).view.emb (ix2 r s)
    = ix2 (⟨1024 * (t.val / 8) + r.val, by have := lt_N t; omega⟩ : Fin 2048) (⟨1024 * (t.val / 2 % 4) + s.val, by omega⟩ : Fin 4096) := by
  blk_ext [idx t]

variable (m : (ℓ : Loc nD τ sig) → Buf (Elt Ideal) ℓ) (c : Dev nD)

/-- The product of the transposed first array with the second. -/
def dw (x : S4096x2048.Idx → EReal) (y : (⟨2, ![4096, 4096]⟩ : Shape).Idx → EReal) : S2048x4096.Idx → EReal :=
  fun i => ∑ k : Fin 4096, x (ix2 k (i 0)) * y (ix2 k (i 1))

theorem dw_at (x : S4096x2048.Idx → EReal) (y : (⟨2, ![4096, 4096]⟩ : Shape).Idx → EReal) (r : Fin 2048) (s : Fin 4096) :
    dw x y (ix2 r s) = ∑ k : Fin 4096, x (ix2 k r) * y (ix2 k s) := rfl

/-- The arguments, which are the operands of the call. -/
abbrev X : (⟨S4096x2048, .bf16⟩ : BufTy).Contents (Elt Ideal) := m ((c.tc : Thread nD τ).loc main_arg0)
abbrev Y : (⟨S4096x2048, .bf16⟩ : BufTy).Contents (Elt Ideal) := m ((c.tc : Thread nD τ).loc main_arg1)
abbrev Z : (⟨S4096x2048, .bf16⟩ : BufTy).Contents (Elt Ideal) := m ((c.tc : Thread nD τ).loc main_arg2)

theorem x_at (t : Fin cfg0.N) (k : Fin 2048) (r : Fin 1024) : (iblk m c 0 t : FVec Ideal S2048x1024 .bf16) (ix2 k r)
    = X m c (ix2 (⟨2048 * (t.val % 2) + k.val, by omega⟩ : Fin 4096) (⟨1024 * (t.val / 8) + r.val, by have := lt_N t; omega⟩ : Fin 2048)) := by
  rw [← x_emb t k r, show X m c = V m c main_arg0 from (V_main_arg0 m c).symm]; rfl

theorem y_at (t : Fin cfg0.N) (k : Fin 2048) (r : Fin 1024) : (iblk m c 1 t : FVec Ideal S2048x1024 .bf16) (ix2 k r)
    = Y m c (ix2 (⟨2048 * (t.val % 2) + k.val, by omega⟩ : Fin 4096) (⟨1024 * min (t.val / 2 % 4) 1 + r.val, by omega⟩ : Fin 2048)) := by
  rw [← y_emb t k r, show Y m c = V m c main_arg1 from (V_main_arg1 m c).symm]; rfl

theorem z_at (t : Fin cfg0.N) (k : Fin 2048) (r : Fin 1024) : (iblk m c 2 t : FVec Ideal S2048x1024 .bf16) (ix2 k r)
    = Z m c (ix2 (⟨2048 * (t.val % 2) + k.val, by omega⟩ : Fin 4096) (⟨1024 * (t.val / 2 % 4 - 2) + r.val, by omega⟩ : Fin 2048)) := by
  rw [← z_emb t k r, show Z m c = V m c main_arg2 from (V_main_arg2 m c).symm]; rfl

/-- The array the call leaves. -/
theorem out : (dats m 0 c).arrAt 3 cfg0.N = dw (X m c) (join (Y m c) (Z m c)) := by
  refine (dats m 0 c).arrAt_eq_of_covers 3 _ (by decide +kernel) fun t hf y => ?_
  blk_simp
  obtain ⟨r, s, rfl⟩ : ∃ (r s : Fin 1024), y = ix2 r s := ⟨y 0, y 1, (ix2_eta y).symm⟩
  have h1 : t.val % 2 = 1 := (flush0_3 t).mp hf
  have hN := lt_N t
  have hp : t.val - 1 < cfg0.N := Nat.lt_of_le_of_lt (Nat.sub_le _ _) t.isLt
  rw [after0_3]
  refine Eq.trans ?_ (congrArg (dw (X m c) (join (Y m c) (Z m c))) (o_emb t r s).symm)
  rw [dw_at]
  by_cases hj : t.val / 2 % 4 ≤ 1
  · rw [outsAt0_B m c t hj (by omega) h1 (by omega)]
    dsimp only
    rw [second_k, outsAt0_A m c ⟨t.val - 1, hp⟩ (by dsimp only; omega) (by dsimp only; omega) (by dsimp only; omega) (by dsimp only; omega)]
    dsimp only
    rw [first_k]
    refine (last_k _ _ _ _ r s).trans ?_
    refine halves _ _ _ (fun k => ?_) fun k => ?_ <;> rw [x_at, y_at] <;>
      refine congrArg₂ (· * ·) (at_eq _ (by dsimp only <;> omega) (by dsimp only <;> omega)) (Eq.trans ?_ (join_left _ _ _ ⟨1024 * (t.val / 2 % 4) + s.val, by omega⟩ _ rfl).symm) <;>
      exact at_eq _ (by dsimp only <;> omega) (by dsimp only <;> omega)
  · rw [outsAt0_D m c t hj (by omega) (by omega) h1]
    dsimp only
    rw [second_v, outsAt0_C m c ⟨t.val - 1, hp⟩ (by dsimp only; omega) (by dsimp only; omega) (by dsimp only; omega) (by dsimp only; omega)]
    dsimp only
    rw [first_v]
    refine (last_v _ _ _ _ r s).trans ?_
    refine halves _ _ _ (fun k => ?_) fun k => ?_ <;> rw [x_at, z_at] <;>
      refine congrArg₂ (· * ·) (at_eq _ (by dsimp only <;> omega) (by dsimp only <;> omega)) (Eq.trans ?_ (join_right _ _ _ ⟨1024 * (t.val / 2 % 4 - 2) + s.val, by omega⟩ _ (by dsimp only; omega)).symm) <;>
      exact at_eq _ (by dsimp only <;> omega) (by dsimp only <;> omega)

open KvDwRefIdeal.Read in
/-- The reference's gradient is that product. -/
theorem ref_eq : val_main_v6 (F := Ideal) (X m c) (Y m c) (Z m c) = dw (X m c) (join (Y m c) (Z m c)) := by
  funext i
  rw [val_main_v6_apply, val_main_v5_apply]
  unfold dw
  rw [← concatenate_eq _ _ (KvDwRefIdeal.Facts₀.concatenates_S4096x2048_S4096x2048_S4096x4096_d1)]
  refine Finset.sum_congr rfl fun k _ => ?_
  rw [mul_comm]
  refine congrArg₂ (· * ·) (congrArg (X m c) ?_) (congrArg (val_main_v0 (F := Ideal) (Y m c) (Z m c)) ?_) <;>
    exact funext fun a => match a with
      | ⟨0, _⟩ => rfl
      | ⟨1, _⟩ => rfl

/-- From arguments that agree, both programs end with the same product and their arguments unchanged. -/
theorem algebraic : Cert.algebraic_KvDwIdeal_KvDwRefIdeal := by
  intro m g m' g' _ hagree
  refine ⟨fun c => dw (X m c) (join (Y m c) (Z m c)), (θ_run defs _ _).mono (fun _ h c => ?_) (Value.run_blocks m g),
    (θ_run KvDwRefIdeal.defs _ _).mono (fun _ h c => ?_) (KvDwRefIdeal.Value.run (F := Ideal) m' g')⟩
  · obtain ⟨o, rest⟩ := h c
    exact ⟨o.trans (out m c), rest⟩
  · obtain ⟨a0, a1, a2⟩ := hagree c
    obtain ⟨o, rest⟩ := h c
    refine ⟨o.trans ((KvDwRefIdeal.Read.val_main_v6_eq _ _ _).trans (Eq.trans ?_ (ref_eq m c))), rest⟩
    rw [a0, a1, a2]

end Cert.KvDwIdeal.Product

end
-- ==== Proof.SOutDx.Equation.lean ====
/-
  The gradient of the first layer's output projection in its activations: the call writes the product of a block of rows
  with a block of the weights' rows at each point.
-/
module

public import proofs.«01_k».proof.Defs
public import proofs.«01_k».proof.Proof.Common.Split
public import proofs.«01_k».proof.Proof.Gen.SOutDxIdeal.Value
public import proofs.«01_k».proof.Proof.Gen.SOutDxRefIdeal.Run
public import proofs.«01_k».proof.Proof.Gen.SOutDxRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SOutDxIdeal.Product

open Idealize.ShloMosaic Idealize.ShloMosaic.TcCoe Idealize.SL.Sem
open Cert.SOutDxIdeal Cert.SOutDxIdeal.Gen Cert.Product

theorem hz : (![0, 0] : Fin 2 → Nat) = fun _ => 0 := funext fun a => by fin_cases a <;> rfl

/-- The product of a block of rows with a block of the weights' rows. -/
theorem prod_at (a b : FVec Ideal S1024x2048 .bf16) (r s : Fin 1024) :
    k0_pay1 (F := Ideal) a b (ix2 r s) = ∑ k : Fin 2048, a (ix2 r k) * b (ix2 s k) := by
  pointwise [k0_pay1]

/-- What the body leaves in the result's block. -/
theorem body (a b : FVec Ideal S1024x2048 .bf16) : out0_2 (F := Ideal) a b = k0_pay1 (F := Ideal) a b := by
  unfold out0_2
  rw [View.canon_unit_zero hz]
  simp only [View.ld_unit_zero (S := S1024x2048) hz]

/-- Where each window's block lies at a point. -/
theorem idx : ∀ t : Fin grid0.N, win0_0.index t = ![t.val / 2, 0] ∧ win0_1.index t = ![t.val % 2, 0]
    ∧ win0_2.index t = ![t.val / 2, t.val % 2] := by decide +kernel

theorem lt_N (t : Fin cfg0.N) : t.val < 8 := lt_of_lt_of_eq t.isLt N_0

theorem x_emb (t : Fin cfg0.N) (r : Fin 1024) (k : Fin 2048) : ((cfg0.win 0).blk t).view.emb (ix2 r k)
    = ix2 (⟨1024 * (t.val / 2) + r.val, by have := lt_N t; omega⟩ : Fin 4096) k := by
  blk_ext [idx t]

theorem w_emb (t : Fin cfg0.N) (r : Fin 1024) (k : Fin 2048) : ((cfg0.win 1).blk t).view.emb (ix2 r k)
    = ix2 (⟨1024 * (t.val % 2) + r.val, by omega⟩ : Fin 2048) k := by
  blk_ext [idx t]

theorem o_emb (t : Fin cfg0.N) (r s : Fin 1024) : ((cfg0.win 2).blk t).view.emb (ix2 r s)
    = ix2 (⟨1024 * (t.val / 2) + r.val, by have := lt_N t; omega⟩ : Fin 4096) (⟨1024 * (t.val % 2) + s.val, by omega⟩ : Fin 2048) := by
  blk_ext [idx t]

variable (m : (ℓ : Loc nD τ sig) → Buf (Elt Ideal) ℓ) (c : Dev nD)

/-- The product of the first array with the transposed second. -/
def dx (x : S4096x2048.Idx → EReal) (w : S2048x2048.Idx → EReal) : S4096x2048.Idx → EReal :=
  fun i => ∑ k : Fin 2048, x (ix2 (i 0) k) * w (ix2 (i 1) k)

/-- The arguments. -/
abbrev A0 : (⟨S4096x2048, .bf16⟩ : BufTy).Contents (Elt Ideal) := m ((c.tc : Thread nD τ).loc main_arg0)
abbrev A1 : (⟨S2048x2048, .f32⟩ : BufTy).Contents (Elt Ideal) := m ((c.tc : Thread nD τ).loc main_arg1)

/-- The host's cast leaves the weights as they are. -/
theorem w_eq : V m c main_v0 = A1 m c := by
  unfold V
  after_reads_simp
  rfl

theorem x_at (t : Fin cfg0.N) (r : Fin 1024) (k : Fin 2048) : (iblk m c 0 t : FVec Ideal S1024x2048 .bf16) (ix2 r k)
    = A0 m c (ix2 (⟨1024 * (t.val / 2) + r.val, by have := lt_N t; omega⟩ : Fin 4096) k) := by
  rw [← x_emb t r k, show A0 m c = V m c main_arg0 from (V_main_arg0 m c).symm]; rfl

theorem w_at (t : Fin cfg0.N) (r : Fin 1024) (k : Fin 2048) : (iblk m c 1 t : FVec Ideal S1024x2048 .bf16) (ix2 r k)
    = A1 m c (ix2 (⟨1024 * (t.val % 2) + r.val, by omega⟩ : Fin 2048) k) := by
  rw [← w_emb t r k, ← w_eq m c]; rfl

/-- The array the call leaves. -/
theorem out : (dats m 0 c).arrAt 2 cfg0.N = dx (A0 m c) (A1 m c) := by
  refine (dats m 0 c).arrAt_eq_of_covers 2 _ (by decide +kernel) fun t hf y => ?_
  blk_simp
  obtain ⟨r, s, rfl⟩ : ∃ (r s : Fin 1024), y = ix2 r s := ⟨y 0, y 1, (ix2_eta y).symm⟩
  rw [after0_2, body]
  refine (prod_at _ _ r s).trans ?_
  refine Eq.trans ?_ (congrArg (dx (A0 m c) (A1 m c)) (o_emb t r s).symm)
  exact Finset.sum_congr rfl fun k _ => congrArg₂ (· * ·) (x_at m c t r k) (w_at m c t s k)

open SOutDxRefIdeal.Read in
/-- The reference's gradient is that product. -/
theorem ref_eq : val_main_v3 (F := Ideal) (A0 m c) (A1 m c) = dx (A0 m c) (A1 m c) := by
  funext i
  rw [val_main_v3_apply]
  unfold dx
  refine Finset.sum_congr rfl fun k _ => ?_
  refine congrArg₂ (· * ·) (congrArg (A0 m c) ?_) (congrArg (A1 m c) ?_) <;>
    exact funext fun a => match a with
      | ⟨0, _⟩ => rfl
      | ⟨1, _⟩ => rfl

/-- From arguments that agree, both programs end with the same product and their arguments unchanged. -/
theorem algebraic : Cert.algebraic_SOutDxIdeal_SOutDxRefIdeal := by
  intro m g m' g' _ hagree
  refine ⟨fun c => dx (A0 m c) (A1 m c), (θ_run defs _ _).mono (fun _ h c => ?_) (Value.run_blocks m g),
    (θ_run SOutDxRefIdeal.defs _ _).mono (fun _ h c => ?_) (SOutDxRefIdeal.Value.run (F := Ideal) m' g')⟩
  · obtain ⟨o, rest⟩ := h c
    exact ⟨o.trans (out m c), rest⟩
  · obtain ⟨a0, a1⟩ := hagree c
    obtain ⟨o, rest⟩ := h c
    refine ⟨o.trans ((SOutDxRefIdeal.Read.val_main_v3_eq _ _).trans (Eq.trans ?_ (ref_eq m c))), rest⟩
    rw [a0, a1]

end Cert.SOutDxIdeal.Product

end
-- ==== Proof.SOutDw.Equation.lean ====
/-
  The gradient of the first layer's output projection in its weights: the call adds the products of two blocks of 2048
  rows, which is the product over all 4096 rows.
-/
module

public import proofs.«01_k».proof.Defs
public import proofs.«01_k».proof.Proof.OutDw.Equation
public import proofs.«01_k».proof.Proof.Gen.SOutDwIdeal.Value
public import proofs.«01_k».proof.Proof.Gen.SOutDwRefIdeal.Run
public import proofs.«01_k».proof.Proof.Gen.SOutDwRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SOutDwIdeal.Product

open Idealize.ShloMosaic Idealize.ShloMosaic.TcCoe Idealize.SL.Sem
open Cert.SOutDwIdeal Cert.SOutDwIdeal.Gen Cert.Product

open OutDwIdeal.Product (hz)

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (x y : Vec Ideal S2048x1024 .bf16)

/-- The first block's product is kept. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S2048x1024) hz]

/-- The second block's product is added to it and written. -/
theorem second (hc0 : ¬cond0_0 i) (hc1 : ¬cond0_1 i) (hc2 : cond0_2 i) (z : Vec Ideal S1024x1024 .f32) :
    out0_B_2 c i a3 h3 a4 h4 a5 h5 a6 h6 hc0 hc1 hc2 x y z = k0_pay4 x y z := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz]
  simp only [View.readAt_eq_ld, h3.read_unread, h4.read_unread, h6.read_unread, View.ld_unit_zero (S := S2048x1024) hz,
    View.ld_unit_zero (S := S1024x1024) hz]

end

theorem last_at (x y : Vec Ideal S2048x1024 .bf16) (x' y' : Vec Ideal S2048x1024 .bf16) (r s : Fin 1024) :
    k0_pay4 (F := Ideal) x' y' (k0_pay2 x y) (ix2 r s)
      = (∑ k : Fin 2048, x (ix2 k r) * y (ix2 k s)) + ∑ k : Fin 2048, x' (ix2 k r) * y' (ix2 k s) := by
  have p (a b : FVec Ideal S2048x1024 .bf16) : k0_pay1 (F := Ideal) a b (ix2 r s) = ∑ k : Fin 2048, a (ix2 k r) * b (ix2 k s) := by
    pointwise [k0_pay1]
  rw [← p, ← p]
  pointwise [k0_pay4, k0_pay2]

/-- Where each window's block lies at a point. -/
theorem idx : ∀ t : Fin grid0.N, win0_0.index t = ![t.val % 2, t.val / 4] ∧ win0_1.index t = ![t.val % 2, t.val / 2 % 2]
    ∧ win0_2.index t = ![t.val / 4, t.val / 2 % 2] := by decide +kernel

theorem lt_N (t : Fin cfg0.N) : t.val < 8 := lt_of_lt_of_eq t.isLt N_0

theorem x_emb (t : Fin cfg0.N) (k : Fin 2048) (r : Fin 1024) : ((cfg0.win 0).blk t).view.emb (ix2 k r)
    = ix2 (⟨2048 * (t.val % 2) + k.val, by omega⟩ : Fin 4096) (⟨1024 * (t.val / 4) + r.val, by have := lt_N t; omega⟩ : Fin 2048) := by
  blk_ext [idx t]

theorem y_emb (t : Fin cfg0.N) (k : Fin 2048) (r : Fin 1024) : ((cfg0.win 1).blk t).view.emb (ix2 k r)
    = ix2 (⟨2048 * (t.val % 2) + k.val, by omega⟩ : Fin 4096) (⟨1024 * (t.val / 2 % 2) + r.val, by omega⟩ : Fin 2048) := by
  blk_ext [idx t]

theorem o_emb (t : Fin cfg0.N) (r s : Fin 1024) : ((cfg0.win 2).blk t).view.emb (ix2 r s)
    = ix2 (⟨1024 * (t.val / 4) + r.val, by have := lt_N t; omega⟩ : Fin 2048) (⟨1024 * (t.val / 2 % 2) + s.val, by omega⟩ : Fin 2048) := by
  blk_ext [idx t]

variable (m : (ℓ : Loc nD τ sig) → Buf (Elt Ideal) ℓ) (c : Dev nD)

/-- The product of the transposed first array with the second. -/
def dw (x y : S4096x2048.Idx → EReal) : S2048x2048.Idx → EReal := fun i => ∑ k : Fin 4096, x (ix2 k (i 0)) * y (ix2 k (i 1))

/-- The arguments, which are the operands of the call. -/
abbrev X : (⟨S4096x2048, .bf16⟩ : BufTy).Contents (Elt Ideal) := m ((c.tc : Thread nD τ).loc main_arg0)
abbrev Y : (⟨S4096x2048, .bf16⟩ : BufTy).Contents (Elt Ideal) := m ((c.tc : Thread nD τ).loc main_arg1)

theorem x_at (t : Fin cfg0.N) (k : Fin 2048) (r : Fin 1024) : (iblk m c 0 t : FVec Ideal S2048x1024 .bf16) (ix2 k r)
    = X m c (ix2 (⟨2048 * (t.val % 2) + k.val, by omega⟩ : Fin 4096) (⟨1024 * (t.val / 4) + r.val, by have := lt_N t; omega⟩ : Fin 2048)) := by
  rw [← x_emb t k r, show X m c = V m c main_arg0 from (V_main_arg0 m c).symm]; rfl

theorem y_at (t : Fin cfg0.N) (k : Fin 2048) (r : Fin 1024) : (iblk m c 1 t : FVec Ideal S2048x1024 .bf16) (ix2 k r)
    = Y m c (ix2 (⟨2048 * (t.val % 2) + k.val, by omega⟩ : Fin 4096) (⟨1024 * (t.val / 2 % 2) + r.val, by omega⟩ : Fin 2048)) := by
  rw [← y_emb t k r, show Y m c = V m c main_arg1 from (V_main_arg1 m c).symm]; rfl

/-- The array the call leaves. -/
theorem out : (dats m 0 c).arrAt 2 cfg0.N = dw (X m c) (Y m c) := by
  refine (dats m 0 c).arrAt_eq_of_covers 2 _ (by decide +kernel) fun t hf y => ?_
  blk_simp
  obtain ⟨r, s, rfl⟩ : ∃ (r s : Fin 1024), y = ix2 r s := ⟨y 0, y 1, (ix2_eta y).symm⟩
  have h1 : t.val % 2 = 1 := (flush0_2 t).mp hf
  have hp : t.val - 1 < cfg0.N := Nat.lt_of_le_of_lt (Nat.sub_le _ _) t.isLt
  rw [after0_2, outsAt0_B m c t (by omega) h1]
  dsimp only
  rw [second, outsAt0_A m c ⟨t.val - 1, hp⟩ (by dsimp only; omega) (by dsimp only; omega)]
  dsimp only
  rw [first]
  refine (last_at _ _ _ _ r s).trans ?_
  refine Eq.trans ?_ (congrArg (dw (X m c) (Y m c)) (o_emb t r s).symm)
  unfold dw
  rw [sum_halves]
  refine congrArg₂ (· + ·) (Finset.sum_congr rfl fun k _ => ?_) (Finset.sum_congr rfl fun k _ => ?_)
  · have e : (t.val - 1) % 2 = 0 := by omega
    have e2 : (t.val - 1) / 4 = t.val / 4 := by omega
    have e3 : (t.val - 1) / 2 % 2 = t.val / 2 % 2 := by omega
    rw [x_at m c ⟨t.val - 1, hp⟩, y_at m c ⟨t.val - 1, hp⟩]
    simp only [e, e2, e3, Nat.mul_zero, Nat.zero_add]
    rfl
  · rw [x_at, y_at]
    simp only [h1]
    rfl

open SOutDwRefIdeal.Read in
/-- The reference's gradient is that product. -/
theorem ref_eq : val_main_v5 (F := Ideal) (X m c) (Y m c) = dw (X m c) (Y m c) := by
  funext i
  rw [val_main_v5_apply, val_main_v4_apply]
  unfold dw
  refine Finset.sum_congr rfl fun k _ => ?_
  rw [mul_comm]
  refine congrArg₂ (· * ·) (congrArg (X m c) ?_) (congrArg (Y m c) ?_) <;>
    exact funext fun a => match a with
      | ⟨0, _⟩ => rfl
      | ⟨1, _⟩ => rfl

/-- From arguments that agree, both programs end with the same product and their arguments unchanged. -/
theorem algebraic : Cert.algebraic_SOutDwIdeal_SOutDwRefIdeal := by
  intro m g m' g' _ hagree
  refine ⟨fun c => dw (X m c) (Y m c), (θ_run defs _ _).mono (fun _ h c => ?_) (Value.run_blocks m g),
    (θ_run SOutDwRefIdeal.defs _ _).mono (fun _ h c => ?_) (SOutDwRefIdeal.Value.run (F := Ideal) m' g')⟩
  · obtain ⟨o, rest⟩ := h c
    exact ⟨o.trans (out m c), rest⟩
  · obtain ⟨a0, a1⟩ := hagree c
    obtain ⟨o, rest⟩ := h c
    refine ⟨o.trans ((SOutDwRefIdeal.Read.val_main_v5_eq _ _).trans (Eq.trans ?_ (ref_eq m c))), rest⟩
    rw [a0, a1]

end Cert.SOutDwIdeal.Product

end
-- ==== Proof.Common.GeluSlope.lean ====
/-
  The derivative of the activation x·(1 + tanh(C·(x + c·x³)))/2 at a real number, factored and as the chain rule leaves it.
-/
module

public import proofs.«01_k».proof.Proof.Common.Reals
public import proofs.«01_k».proof.Proof.Common.Gates

@[expose] public section

noncomputable section

namespace Cert.Product

open Idealize.ShloMosaic Cert.Att

/-- The number the programs hold for the square root of 2/π. -/
def root : ℝ := 13386282 / 16777216

theorem root_pos : 0 < root := by norm_num [root]

theorem ofBits_root : Ideal.ofBits .f32 0x3F4C422A#32 = ((root : ℝ) : EReal) := by
  simp [Ideal.ofBits, Ideal.ieee, root, -EReal.coe_mul]
  norm_num

theorem ofBits_half : Ideal.ofBits .f32 0x3F000000#32 = ((1 / 2 : ℝ) : EReal) := by
  simp [Ideal.ofBits, Ideal.ieee, -EReal.coe_mul]
  norm_num

theorem ofBits_three : Ideal.ofBits .f32 0x40400000#32 = ((3 : ℝ) : EReal) := by
  simp [Ideal.ofBits, Ideal.ieee, -EReal.coe_mul]
  norm_num

theorem ofBits_top : Ideal.ofBits .f32 0x472EAB00#32 = ((44715 : ℝ) : EReal) := by
  simp [Ideal.ofBits, Ideal.ieee, -EReal.coe_mul]
  norm_num

theorem ofBits_million : Ideal.ofBits .f32 0x49742400#32 = ((1000000 : ℝ) : EReal) := by
  simp [Ideal.ofBits, Ideal.ieee, -EReal.coe_mul]
  norm_num

/-- The cube's coefficient, and three times it. -/
abbrev cubic : EReal := ((8943 / 200000 : ℝ) : EReal)
abbrev slope : EReal := ((26829 / 200000 : ℝ) : EReal)

/-- The inner function's hyperbolic tangent, the coefficient as a constant. -/
def bend (x : EReal) : EReal := Ideal.tanh (root * (x + cubic * x * x * x))

/-- The derivative, factored. -/
def dgelu (x : EReal) : EReal :=
  ((1 / 2 : ℝ) : EReal) * (1 + bend x) + ((1 / 2 : ℝ) : EReal) * x * (1 - bend x * bend x) * root * (1 + slope * x * x)

/-- The inner function's hyperbolic tangent, the coefficient as a quotient. -/
def bend' (x : EReal) : EReal := Ideal.tanh (root * (x + Ideal.div (((44715 : ℝ) : EReal) * (x * x * x)) ((1000000 : ℝ) : EReal)))

/-- What reaches the inner function from a gradient `d` of the activation. -/
def toInner (d x : EReal) : EReal := root * (((1 / 2 : ℝ) : EReal) * (x * d) * ((1 + bend' x) * (1 - bend' x)))

theorem million : (1000000 : ℝ) ≠ 0 := by norm_num

theorem bend_eq (x : ℝ) : bend' x = bend x := by
  unfold bend' bend cubic
  rw [Ideal.div_coe million]
  norm_cast
  refine congrArg (fun y : ℝ => Ideal.tanh (y : EReal)) ?_
  ring

/-- At an infinite argument the tangent is one or minus one. -/
theorem bend_top : bend ⊤ = 1 ∧ bend' ⊤ = 1 := by
  have h1 : (0 : ℝ) < 8943 / 200000 := by norm_num
  have h2 : (0 : ℝ) < 44715 := by norm_num
  have h3 : (0 : ℝ) < 1 / 1000000 := by norm_num
  unfold bend bend' cubic
  rw [Ideal.div_coe million]
  simp [EReal.coe_mul_top_of_pos, EReal.top_mul_coe_of_pos, root_pos, h1, h2, h3, -one_div]

theorem bend_bot : bend ⊥ = -1 ∧ bend' ⊥ = -1 := by
  have h1 : (0 : ℝ) < 8943 / 200000 := by norm_num
  have h2 : (0 : ℝ) < 44715 := by norm_num
  have h3 : (0 : ℝ) < 1 / 1000000 := by norm_num
  unfold bend bend' cubic
  rw [Ideal.div_coe million]
  simp [EReal.coe_mul_top_of_pos, EReal.top_mul_coe_of_pos, EReal.coe_mul_bot_of_pos, EReal.bot_mul_coe_of_pos, root_pos, h1, h2, h3,
    -one_div]

theorem one_sub_neg : (1 : EReal) + -1 = 0 := one_sub_one

/-- The gradient in the argument, factored and by the chain rule. -/
theorem dgelu_eq (d : ℝ) (x : EReal) : (d : EReal) * dgelu x
    = d * (((1 / 2 : ℝ) : EReal) * (1 + bend' x)) + toInner d x
      + ((44715 : ℝ) : EReal) * Ideal.div (toInner d x) ((1000000 : ℝ) : EReal) * (((3 : ℝ) : EReal) * (x * x)) := by
  rw [Ideal.div_coe million]
  induction x with
  | top => simp [dgelu, toInner, bend_top, one_sub_one]
  | bot => simp [dgelu, toInner, bend_bot, one_sub_neg, one_sub_one]
  | coe x =>
    obtain ⟨t, ht⟩ : ∃ t : ℝ, bend x = (t : EReal) := ⟨Real.tanh (root * (x + 8943 / 200000 * x * x * x)), by
      unfold bend cubic
      norm_cast⟩
    have hi : toInner d x = ((root * (1 / 2 * (x * d) * ((1 + t) * (1 - t))) : ℝ) : EReal) := by
      unfold toInner
      rw [bend_eq, ht]
      norm_cast
    rw [hi, dgelu, bend_eq, ht]
    norm_cast
    ring

end Cert.Product

end
-- ==== Proof.GluDx.Equation.lean ====
/-
  The gradient of the gate's layer in its argument: at each point the call forms a block of the product of the gate's
  gradient with the transposed weights, adds the activation's own gradient and multiplies by the activation's derivative.
-/
module

public import proofs.«01_k».proof.Defs
public import proofs.«01_k».proof.Proof.Common.Join
public import proofs.«01_k».proof.Proof.Common.GeluSlope
public import proofs.«01_k».proof.Proof.Gen.GluDxIdeal.Value
public import proofs.«01_k».proof.Proof.Gen.GluDxRefIdeal.Run
public import proofs.«01_k».proof.Proof.Gen.GluDxRefIdeal.Read
public import proofs.«01_k».proof.Proof.Gen.Pre_finite_glu
public import Idealize.ShloMosaic.Lib.Pointwise
public import Idealize.ShloMosaic.Lib.Pipeline.ValueKit
public import Idealize.ShloMosaic.Lib.StableHlo.ReadAt

@[expose] public section

set_option maxRecDepth 16384

noncomputable section

namespace Cert.GluDxIdeal.Product

open Idealize.ShloMosaic Idealize.ShloMosaic.TcCoe Idealize.SL.Sem
open Cert.GluDxIdeal Cert.GluDxIdeal.Gen Cert.Product

/-- The gradient's product: a block of rows times a block of the weights' rows, and the activation's own gradient. -/
def grad (a b : FVec Ideal S1024x2048 .bf16) (d : FVec Ideal S1024x1024 .f32) : FVec Ideal S1024x1024 .f32 :=
  addf (matmul dot_S1024x2048_S1024x2048_S1024x1024_1_1_0_0_n_n none a
    (shapeCast S1024x2048 b shapeCasts_S1024x2048_S1024x2048 : FVec Ideal S1024x2048 .bf16) (constant S1024x1024 .f32 0x00000000#32)) d

theorem grad_at (a b : FVec Ideal S1024x2048 .bf16) (d : FVec Ideal S1024x1024 .f32) (r s : Fin 1024) :
    grad a b d (ix2 r s) = (∑ k : Fin 2048, a (ix2 r k) * b (ix2 s k)) + d (ix2 r s) := by
  pointwise [grad]

/-- The two named constants. -/
theorem cubic_eq : (Named.named κ "cubic" 0x3D372713#32 : Ideal .f32) = cubic :=
  IdealRules.named_const.ideal_named_scalar _ _ _ _ rfl
theorem slope_eq : (Named.named κ "slope" 0x3E095D4F#32 : Ideal .f32) = slope :=
  IdealRules.named_const.ideal_named_scalar _ _ _ _ rfl

/-- The body's entry: that gradient times the activation's derivative. -/
theorem pay_at (a b : FVec Ideal S1024x2048 .bf16) (d y : FVec Ideal S1024x1024 .f32) (i : S1024x1024.Idx) :
    k0_pay1 (F := Ideal) a b d y i = grad a b d i * dgelu (y i) := by
  rw [dgelu, bend, ← cubic_eq, ← slope_eq, ← ofBits_root, ← ofBits_half, ← Ideal.ofBits_one_f32]
  rfl

/-- What the body leaves in the result's block. -/
theorem body (a b : FVec Ideal S1024x2048 .bf16) (d y : FVec Ideal S1024x1024 .f32) :
    out0_4 (F := Ideal) a b d y = k0_pay1 (F := Ideal) a b d y := by
  unfold out0_4
  rw [View.canon_unit_zero hz]
  simp only [View.ld_unit_zero (S := S1024x2048) hz, View.ld_unit_zero (S := S1024x1024) hz]

/-- Where each window's block lies at a point. -/
theorem idx : ∀ t : Fin grid0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] := by decide +kernel

theorem lt_N (t : Fin cfg0.N) : t.val < 8 := lt_of_lt_of_eq t.isLt N_0

/-- The row and the column of an entry of a point's block. -/
abbrev row (t : Fin cfg0.N) (r : Fin 1024) : Fin 4096 := ⟨1024 * (t.val / 2) + r.val, by have := lt_N t; omega⟩
abbrev col (t : Fin cfg0.N) (s : Fin 1024) : Fin 2048 := ⟨1024 * (t.val % 2) + s.val, by omega⟩

theorem x_emb (t : Fin cfg0.N) (r : Fin 1024) (k : Fin 2048) : ((cfg0.win 0).blk t).view.emb (ix2 r k) = ix2 (row t r) k := by
  blk_ext [idx t]

theorem w_emb (t : Fin cfg0.N) (r : Fin 1024) (k : Fin 2048) : ((cfg0.win 1).blk t).view.emb (ix2 r k) = ix2 (col t r) k := by
  blk_ext [idx t]

theorem d_emb (t : Fin cfg0.N) (r s : Fin 1024) : ((cfg0.win 2).blk t).view.emb (ix2 r s) = ix2 (row t r) (col t s) := by
  blk_ext [idx t]

theorem y_emb (t : Fin cfg0.N) (r s : Fin 1024) : ((cfg0.win 3).blk t).view.emb (ix2 r s) = ix2 (row t r) (col t s) := by
  blk_ext [idx t]

theorem o_emb (t : Fin cfg0.N) (r s : Fin 1024) : ((cfg0.win 4).blk t).view.emb (ix2 r s) = ix2 (row t r) (col t s) := by
  blk_ext [idx t]

variable (m : (ℓ : Loc nD τ sig) → Buf (Elt Ideal) ℓ) (c : Dev nD)

/-- The arguments. -/
abbrev A0 : (⟨S4096x2048, .bf16⟩ : BufTy).Contents (Elt Ideal) := m ((c.tc : Thread nD τ).loc main_arg0)
abbrev A1 : (⟨S2048x2048, .f32⟩ : BufTy).Contents (Elt Ideal) := m ((c.tc : Thread nD τ).loc main_arg1)
abbrev A2 : (⟨S4096x2048, .f32⟩ : BufTy).Contents (Elt Ideal) := m ((c.tc : Thread nD τ).loc main_arg2)
abbrev A3 : (⟨S4096x2048, .f32⟩ : BufTy).Contents (Elt Ideal) := m ((c.tc : Thread nD τ).loc main_arg3)

/-- The gradient that reaches the activation. -/
def dy (i : S4096x2048.Idx) : EReal := (∑ k : Fin 2048, A0 m c (ix2 (i 0) k) * A1 m c (ix2 (i 1) k)) + A2 m c i

/-- The gradient in the layer's argument. -/
def dx (i : S4096x2048.Idx) : EReal := dy m c i * dgelu (A3 m c i)

/-- The host's cast leaves the weights as they are. -/
theorem w_eq : V m c main_v0 = A1 m c := by
  unfold V
  after_reads_simp
  rfl

theorem x_at (t : Fin cfg0.N) (r : Fin 1024) (k : Fin 2048) : (iblk m c 0 t : FVec Ideal S1024x2048 .bf16) (ix2 r k)
    = A0 m c (ix2 (row t r) k) := by
  rw [← x_emb t r k, show A0 m c = V m c main_arg0 from (V_main_arg0 m c).symm]; rfl

theorem w_at (t : Fin cfg0.N) (r : Fin 1024) (k : Fin 2048) : (iblk m c 1 t : FVec Ideal S1024x2048 .bf16) (ix2 r k)
    = A1 m c (ix2 (col t r) k) := by
  rw [← w_emb t r k, ← w_eq m c]; rfl

theorem d_at (t : Fin cfg0.N) (r s : Fin 1024) : (iblk m c 2 t : FVec Ideal S1024x1024 .f32) (ix2 r s)
    = A2 m c (ix2 (row t r) (col t s)) := by
  rw [← d_emb t r s, show A2 m c = V m c main_arg2 from (V_main_arg2 m c).symm]; rfl

theorem y_at (t : Fin cfg0.N) (r s : Fin 1024) : (iblk m c 3 t : FVec Ideal S1024x1024 .f32) (ix2 r s)
    = A3 m c (ix2 (row t r) (col t s)) := by
  rw [← y_emb t r s, show A3 m c = V m c main_arg3 from (V_main_arg3 m c).symm]; rfl

theorem dy_at (t : Fin cfg0.N) (r s : Fin 1024) :
    grad (iblk m c 0 t) (iblk m c 1 t) (iblk m c 2 t) (ix2 r s) = dy m c (ix2 (row t r) (col t s)) :=
  (grad_at _ _ _ r s).trans (congrArg₂ (· + ·)
    (Finset.sum_congr rfl fun k _ => congrArg₂ (· * ·) (x_at m c t r k) (w_at m c t s k)) (d_at m c t r s))

/-- The array the call leaves. -/
theorem out : (dats m 0 c).arrAt 4 cfg0.N = dx m c := by
  refine (dats m 0 c).arrAt_eq_of_covers 4 _ (by decide +kernel) fun t hf y => ?_
  blk_simp
  obtain ⟨r, s, rfl⟩ : ∃ (r s : Fin 1024), y = ix2 r s := ⟨y 0, y 1, (ix2_eta y).symm⟩
  rw [after0_4, body]
  refine (pay_at _ _ _ _ _).trans ?_
  refine Eq.trans ?_ (congrArg (dx m c) (o_emb t r s).symm)
  rw [dy_at m c t r s, y_at m c t r s]
  rfl

open GluDxRefIdeal.Read

/-- The reference's gradient that reaches the activation. -/
theorem ref_dy (i : S4096x2048.Idx) : val_main_v26 (F := Ideal) (A0 m c) (A1 m c) (A2 m c) i = dy m c i := by
  rw [val_main_v26_apply, val_main_v25_apply]
  refine (add_comm (A2 m c i) _).trans (congrArg (· + A2 m c i) (Finset.sum_congr rfl fun k _ => ?_))
  refine congrArg₂ (· * ·) (congrArg (A0 m c) ?_) (congrArg (A1 m c) ?_) <;>
    exact funext fun a => match a with
      | ⟨0, _⟩ => rfl
      | ⟨1, _⟩ => rfl

/-- The reference's tangent, and what reaches the inner function. -/
theorem ref_bend (i : S4096x2048.Idx) : val_main_v12 (F := Ideal) (A3 m c) i = bend' (A3 m c i) := by
  rw [bend', ← ofBits_root, ← ofBits_top, ← ofBits_million, val_main_v12_apply, val_main_v11_apply, val_main_v10_apply,
    val_main_v9_apply, val_main_v8_apply, val_main_v7_apply, val_main_v6_apply, val_main_v5_apply]
  rfl

theorem ref_inner (i : S4096x2048.Idx) :
    val_main_v33 (F := Ideal) (A0 m c) (A1 m c) (A2 m c) (A3 m c) i = toInner (dy m c i) (A3 m c i) := by
  rw [toInner, ← ref_bend, ← ref_dy, ← ofBits_root, ← ofBits_half, ← Ideal.ofBits_one_f32, val_main_v33_apply,
    val_main_v32_apply, val_main_v31_apply, val_main_v30_apply, val_main_v29_apply, val_main_v27_apply, val_main_v17_apply,
    val_main_v16_apply, val_main_v15_apply, val_main_v14_apply, val_main_v13_apply]
  rfl

/-- From real gradients and weights the reference's gradient is the call's. -/
theorem ref_eq (h0 : ∀ i, A0 m c i = ((A0 m c i).toReal : EReal)) (h1 : ∀ i, A1 m c i = ((A1 m c i).toReal : EReal))
    (h2 : ∀ i, A2 m c i = ((A2 m c i).toReal : EReal)) :
    val_main_v40 (F := Ideal) (A0 m c) (A1 m c) (A2 m c) (A3 m c) = dx m c := by
  funext i
  obtain ⟨e, he⟩ : ∃ e : ℝ, (∑ k : Fin 2048, A0 m c (ix2 (i 0) k) * A1 m c (ix2 (i 1) k)) = (e : EReal) :=
    ⟨_, Cert.Att.sum_eq_coe _ (fun k => (A0 m c (ix2 (i 0) k)).toReal * (A1 m c (ix2 (i 1) k)).toReal) fun k => by
      rw [EReal.coe_mul, ← h0, ← h1]⟩
  obtain ⟨d, hd⟩ : ∃ d : ℝ, dy m c i = (d : EReal) := ⟨e + (A2 m c i).toReal, by rw [dy, he, h2 i]; rfl⟩
  rw [dx, hd, dgelu_eq, ← hd, ← ref_inner, ← ref_bend, ← ref_dy, ← ofBits_top, ← ofBits_million, ← ofBits_three, ← ofBits_half,
    ← Ideal.ofBits_one_f32, val_main_v40_apply, val_main_v39_apply, val_main_v38_apply, val_main_v37_apply, val_main_v36_apply,
    val_main_v35_apply, val_main_v34_apply, val_main_v28_apply, val_main_v21_apply, val_main_v20_apply, val_main_v19_apply,
    val_main_v18_apply, val_main_v4_apply, val_main_v3_apply]
  rfl

/-- From arguments that agree, the gradients and the weights real numbers, both programs end with the same gradient and
their arguments unchanged. -/
theorem algebraic : Cert.algebraic_GluDxIdeal_GluDxRefIdeal_pre_finite_glu := by
  intro m g m' g' hpre hagree
  refine ⟨fun c => dx m c, (θ_run defs _ _).mono (fun _ h c => ?_) (Value.run_blocks m g),
    (θ_run GluDxRefIdeal.defs _ _).mono (fun _ h c => ?_) (GluDxRefIdeal.Value.run (F := Ideal) m' g')⟩
  · obtain ⟨o, rest⟩ := h c
    exact ⟨o.trans (out m c), rest⟩
  · obtain ⟨a0, a1, a2, a3⟩ := hagree c
    obtain ⟨p0, p1, p2⟩ := hpre c
    obtain ⟨o, rest⟩ := h c
    refine ⟨o.trans ((val_main_v40_eq m' c).trans (Eq.trans ?_ (ref_eq m c (fun i => real_of_flag (congrFun p0 i))
        (fun i => real_of_flag (congrFun p1 i)) (fun i => real_of_flag (congrFun p2 i))))), rest⟩
    rw [a0, a1, a2, a3]

end Cert.GluDxIdeal.Product

end
-- ==== Proof.GluDw.Equation.lean ====
/-
  The gradient of the first layer's gate weights: the two calls of products of transposed activations with gradients are
  one program, so what is proved of the one is proved of the other.
-/
module

public import proofs.«01_k».proof.Proof.SOutDw.Equation
public import proofs.«01_k».proof.Proof.Gen.GluDwIdeal
public import proofs.«01_k».proof.Proof.Gen.GluDwRefIdeal

@[expose] public section

namespace Cert.GluDwIdeal.Product

open Idealize.ShloMosaic

/-- The two calls have the same bodies. -/
theorem bodies : Cert.GluDwIdeal.defs₀ (F := Ideal) = Cert.SOutDwIdeal.defs₀ (F := Ideal) := by
  unfold Cert.GluDwIdeal.defs₀ Cert.SOutDwIdeal.defs₀
  refine congrArg Defs.onTc (funext fun l => funext fun a => ?_)
  match l, a with
  | 0, _ => rfl
  | ⟨_ + 1, h⟩, _ => exact absurd h (Nat.not_lt.2 (Nat.le_add_left _ _))

theorem tables : Cert.GluDwIdeal.defs (F := Ideal) = Cert.SOutDwIdeal.defs (F := Ideal) :=
  congrArg (Pipeline.defs Cert.SOutDwIdeal.pcfgs) bodies

theorem algebraic : Cert.algebraic_GluDwIdeal_GluDwRefIdeal := by
  unfold Cert.algebraic_GluDwIdeal_GluDwRefIdeal
  rw [tables]
  exact Cert.SOutDwIdeal.Product.algebraic

end Cert.GluDwIdeal.Product
-- ==== Proof.Common.Pad.lean ====
/-
  Sixteen columns padded with zeros to a hundred and twenty-eight.
-/
module

public import Idealize.ShloMosaic.Lib.Pointwise

@[expose] public section

noncomputable section

namespace Cert.Product

open Idealize.ShloMosaic

/-- The padded columns, read at an entry. -/
theorem pad_at {n : ℕ} (x : (⟨2, ![n, 16]⟩ : Shape).Idx → EReal) (v : (⟨0, ![]⟩ : Shape).Idx → EReal)
    (h : Shape.Pads ⟨2, ![n, 16]⟩ ![0, 0] ![0, 112] ![0, 0] ⟨2, ![n, 128]⟩) (hu : 0 < (⟨0, ![]⟩ : Shape).numel)
    (hv : ∀ i, v i = 0) (r : Fin n) (s : Fin 128) :
    pad ⟨2, ![n, 128]⟩ ![0, 0] ![0, 112] ![0, 0] x v h hu (ix2 r s) = if h : s.val < 16 then x (ix2 r ⟨s.val, h⟩) else 0 := by
  unfold pad
  by_cases hs : s.val < 16
  · rw [dif_pos hs, dif_pos fun a => by
      match a with
      | ⟨0, _⟩ => exact ⟨Nat.zero_le _, Nat.mod_one _, (Nat.div_one _).trans_lt r.isLt⟩
      | ⟨1, _⟩ => exact ⟨Nat.zero_le _, Nat.mod_one _, (Nat.div_one _).trans_lt hs⟩]
    exact congrArg x (funext fun a => match a with
      | ⟨0, _⟩ => Fin.ext (Nat.div_one _)
      | ⟨1, _⟩ => Fin.ext (Nat.div_one _))
  · rw [dif_neg hs, dif_neg fun hh => hs ((Nat.div_one _).symm.trans_lt (hh (1 : Fin 2)).2.2), hv]

/-- A padded vector, read at an entry. -/
theorem pad_vec (x : (⟨1, ![16]⟩ : Shape).Idx → EReal) (v : (⟨0, ![]⟩ : Shape).Idx → EReal)
    (h : Shape.Pads ⟨1, ![16]⟩ ![0] ![112] ![0] ⟨1, ![128]⟩) (hu : 0 < (⟨0, ![]⟩ : Shape).numel)
    (hv : ∀ i, v i = 0) (s : Fin 128) :
    pad ⟨1, ![128]⟩ ![0] ![112] ![0] x v h hu (ix1 s) = if h : s.val < 16 then x (ix1 ⟨s.val, h⟩) else 0 := by
  unfold pad
  by_cases hs : s.val < 16
  · rw [dif_pos hs, dif_pos fun a => by
      match a with
      | ⟨0, _⟩ => exact ⟨Nat.zero_le _, Nat.mod_one _, (Nat.div_one _).trans_lt hs⟩]
    exact congrArg x (funext fun a => match a with
      | ⟨0, _⟩ => Fin.ext (Nat.div_one _))
  · rw [dif_neg hs, dif_neg fun hh => hs ((Nat.div_one _).symm.trans_lt (hh (0 : Fin 1)).2.2), hv]

/-- A sum that ends with its sixteenth term. -/
theorem sum_lanes (f : Fin 128 → EReal) (h : ∀ k : Fin 128, ¬k.val < 16 → f k = 0) :
    ∑ k, f k = ∑ k : Fin 16, f ⟨k.val, by omega⟩ := by
  rw [show ∑ k, f k = ∑ k : Fin (16 + 112), f k from rfl, Fin.sum_univ_add,
    Finset.sum_eq_zero (s := Finset.univ) (f := fun k : Fin 112 => f (Fin.natAdd 16 k)) fun k _ => h _ (by simp), add_zero]
  rfl

end Cert.Product

end
-- ==== Proof.FDx.Equation.lean ====
/-
  The gradient of the forget gates' projection in its activations: at each point the call writes the product of a block of
  rows with a block of the weights' rows, the weights' sixteen columns padded with columns of zeros.
-/
module

public import proofs.«01_k».proof.Defs
public import proofs.«01_k».proof.Proof.Common.Join
public import proofs.«01_k».proof.Proof.Common.Pad
public import proofs.«01_k».proof.Proof.Gen.FDxIdeal.Value
public import proofs.«01_k».proof.Proof.Gen.FDxRefIdeal.Run
public import proofs.«01_k».proof.Proof.Gen.FDxRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FDxIdeal.Product

open Idealize.ShloMosaic Idealize.ShloMosaic.TcCoe Idealize.SL.Sem
open Cert.FDxIdeal Cert.FDxIdeal.Gen Cert.Product

/-- The product of a block of rows with a block of the weights' rows. -/
theorem prod_at (a : FVec Ideal S1024x128 .f32) (b : FVec Ideal S1024x128 .bf16) (r s : Fin 1024) :
    k0_pay1 (F := Ideal) a b (ix2 r s) = ∑ k : Fin 128, a (ix2 r k) * b (ix2 s k) := by
  pointwise [k0_pay1]

/-- What the body leaves in the result's block. -/
theorem body (a : FVec Ideal S1024x128 .f32) (b : FVec Ideal S1024x128 .bf16) :
    out0_2 (F := Ideal) a b = k0_pay1 (F := Ideal) a b := by
  unfold out0_2
  rw [View.canon_unit_zero hz]
  simp only [View.ld_unit_zero (S := S1024x128) hz]

/-- Where each window's block lies at a point. -/
theorem idx : ∀ t : Fin grid0.N, win0_0.index t = ![t.val / 2, 0] ∧ win0_1.index t = ![t.val % 2, 0]
    ∧ win0_2.index t = ![t.val / 2, t.val % 2] := by decide +kernel

theorem lt_N (t : Fin cfg0.N) : t.val < 8 := lt_of_lt_of_eq t.isLt N_0

theorem x_emb (t : Fin cfg0.N) (r : Fin 1024) (k : Fin 128) : ((cfg0.win 0).blk t).view.emb (ix2 r k)
    = ix2 (⟨1024 * (t.val / 2) + r.val, by have := lt_N t; omega⟩ : Fin 4096) k := by
  blk_ext [idx t]

theorem w_emb (t : Fin cfg0.N) (r : Fin 1024) (k : Fin 128) : ((cfg0.win 1).blk t).view.emb (ix2 r k)
    = ix2 (⟨1024 * (t.val % 2) + r.val, by omega⟩ : Fin 2048) k := by
  blk_ext [idx t]

theorem o_emb (t : Fin cfg0.N) (r s : Fin 1024) : ((cfg0.win 2).blk t).view.emb (ix2 r s)
    = ix2 (⟨1024 * (t.val / 2) + r.val, by have := lt_N t; omega⟩ : Fin 4096) (⟨1024 * (t.val % 2) + s.val, by omega⟩ : Fin 2048) := by
  blk_ext [idx t]

variable (m : (ℓ : Loc nD τ sig) → Buf (Elt Ideal) ℓ) (c : Dev nD)

/-- The product of the first array with the transposed second. -/
def dx (x : S4096x128.Idx → EReal) (w : S2048x128.Idx → EReal) : S4096x2048.Idx → EReal :=
  fun i => ∑ k : Fin 128, x (ix2 (i 0) k) * w (ix2 (i 1) k)

/-- The arguments. -/
abbrev A0 : (⟨S4096x128, .f32⟩ : BufTy).Contents (Elt Ideal) := m ((c.tc : Thread nD τ).loc main_arg0)
abbrev A1 : (⟨S2048x4112, .f32⟩ : BufTy).Contents (Elt Ideal) := m ((c.tc : Thread nD τ).loc main_arg1)

/-- The weights' columns of the forget gates, padded. -/
def W : S2048x128.Idx → EReal := fun i =>
  if h : (i 1).val < 16 then A1 m c (ix2 (i 0) ⟨4096 + (i 1).val, by omega⟩) else 0

theorem W_in (r : Fin 2048) (s : Fin 128) (h : s.val < 16) : W m c (ix2 r s) = A1 m c (ix2 r ⟨4096 + s.val, by omega⟩) := dif_pos h
theorem W_out (r : Fin 2048) (s : Fin 128) (h : ¬s.val < 16) : W m c (ix2 r s) = 0 := dif_neg h

/-- The host cuts and pads them. -/
theorem w_eq : V m c main_v2 = W m c := by
  funext i
  obtain ⟨r, s, rfl⟩ : ∃ (r : Fin 2048) (s : Fin 128), i = ix2 r s := ⟨i 0, i 1, (ix2_eta i).symm⟩
  rw [show V m c main_v2 = pad S2048x128 ![0, 0] ![0, 112] ![0, 0]
      (extractStridedSlice S2048x16 ![0, 4096] (A1 m c) Facts₀.slices_S2048x4112_S2048x16_0_4096)
      (fun _ => (((0#32).toInt : ℝ) : EReal)) Facts₀.pads_S2048x16_S2048x128_000_01120 Facts₀.h_S_ by
    unfold V
    after_reads_simp
    rfl]
  refine (pad_at _ _ _ _ (fun _ => by simp) r s).trans ?_
  unfold W
  refine dite_congr rfl (fun h => ?_) fun _ => rfl
  pointwise []

theorem x_at (t : Fin cfg0.N) (r : Fin 1024) (k : Fin 128) : (iblk m c 0 t : FVec Ideal S1024x128 .f32) (ix2 r k)
    = A0 m c (ix2 (⟨1024 * (t.val / 2) + r.val, by have := lt_N t; omega⟩ : Fin 4096) k) := by
  rw [← x_emb t r k, show A0 m c = V m c main_arg0 from (V_main_arg0 m c).symm]; rfl

theorem w_at (t : Fin cfg0.N) (r : Fin 1024) (k : Fin 128) : (iblk m c 1 t : FVec Ideal S1024x128 .bf16) (ix2 r k)
    = W m c (ix2 (⟨1024 * (t.val % 2) + r.val, by omega⟩ : Fin 2048) k) := by
  rw [← w_emb t r k, ← w_eq m c]; rfl

/-- The array the call leaves. -/
theorem out : (dats m 0 c).arrAt 2 cfg0.N = dx (A0 m c) (W m c) := by
  refine (dats m 0 c).arrAt_eq_of_covers 2 _ (by decide +kernel) fun t hf y => ?_
  blk_simp
  obtain ⟨r, s, rfl⟩ : ∃ (r s : Fin 1024), y = ix2 r s := ⟨y 0, y 1, (ix2_eta y).symm⟩
  rw [after0_2, body]
  refine (prod_at _ _ r s).trans ?_
  refine Eq.trans ?_ (congrArg (dx (A0 m c) (W m c)) (o_emb t r s).symm)
  exact Finset.sum_congr rfl fun k _ => congrArg₂ (· * ·) (x_at m c t r k) (w_at m c t s k)

open FDxRefIdeal.Read in
/-- The reference's gradient is that product, the padding adding nothing. -/
theorem ref_eq : val_main_v4 (F := Ideal) (A0 m c) (A1 m c) = dx (A0 m c) (W m c) := by
  funext i
  rw [val_main_v4_apply]
  unfold dx
  rw [sum_lanes _ fun k h => (congrArg _ (W_out m c (i 1) k h)).trans (mul_zero _)]
  refine Finset.sum_congr rfl fun k _ => ?_
  rw [val_main_v0_apply, val_main_v1_apply]
  refine congrArg₂ (· * ·) (congrArg (A0 m c) ?_)
    ((congrArg (A1 m c) ?_).trans (W_in m c (i 1) ⟨k.val, by omega⟩ k.isLt).symm) <;>
    exact funext fun a => match a with
      | ⟨0, _⟩ => rfl
      | ⟨1, _⟩ => rfl

/-- From arguments that agree, both programs end with the same product and their arguments unchanged. -/
theorem algebraic : Cert.algebraic_FDxIdeal_FDxRefIdeal := by
  intro m g m' g' _ hagree
  refine ⟨fun c => dx (A0 m c) (W m c), (θ_run defs _ _).mono (fun _ h c => ?_) (Value.run_blocks m g),
    (θ_run FDxRefIdeal.defs _ _).mono (fun _ h c => ?_) (FDxRefIdeal.Value.run (F := Ideal) m' g')⟩
  · obtain ⟨o, rest⟩ := h c
    exact ⟨o.trans (out m c), rest⟩
  · obtain ⟨a0, a1⟩ := hagree c
    obtain ⟨o, rest⟩ := h c
    refine ⟨o.trans ((FDxRefIdeal.Read.val_main_v4_eq _ _).trans (Eq.trans ?_ (ref_eq m c))), rest⟩
    rw [a0, a1]

end Cert.FDxIdeal.Product

end
-- ==== Proof.FDw.Equation.lean ====
/-
  The gradient of the forget gates' projection in its weights: the call adds the products of two blocks of 2048 rows, which
  is the product over all 4096 rows.
-/
module

public import proofs.«01_k».proof.Defs
public import proofs.«01_k».proof.Proof.Common.Split
public import proofs.«01_k».proof.Proof.Common.Join
public import proofs.«01_k».proof.Proof.Gen.FDwIdeal.Value
public import proofs.«01_k».proof.Proof.Gen.FDwRefIdeal.Run
public import proofs.«01_k».proof.Proof.Gen.FDwRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FDwIdeal.Product

open Idealize.ShloMosaic Idealize.ShloMosaic.TcCoe Idealize.SL.Sem
open Cert.FDwIdeal Cert.FDwIdeal.Gen Cert.Product

section
variable (c : Dev nD) (i : grid0.Coords) (a3 : Memref sig .tc .vmem S2048x1024 .bf16) (h3 : a3.IsWhole)
  (a4 : Memref sig .tc .vmem S2048x128 .f32) (h4 : a4.IsWhole) (a5 : Memref sig .tc .vmem S1024x128 .f32) (h5 : a5.IsWhole)
  (a6 : Memref sig .tc .vmem S1024x128 .f32) (h6 : a6.IsWhole) (x : Vec Ideal S2048x1024 .bf16) (y : Vec Ideal S2048x128 .f32)

/-- The first block's product is kept. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S2048x1024) hz, View.ld_unit_zero (S := S2048x128) hz]

/-- The second block's product is added to it and written. -/
theorem second (hc0 : ¬cond0_0 i) (hc1 : ¬cond0_1 i) (hc2 : cond0_2 i) (z : Vec Ideal S1024x128 .f32) :
    out0_B_2 c i a3 h3 a4 h4 a5 h5 a6 h6 hc0 hc1 hc2 x y z = k0_pay4 x y z := by
  unfold out0_B_2
  rw [View.read_writes_eq_canon _ _ _ (cover0_B_2 c i a3 h3 a4 h4 a5 h5 a6 h6 hc0 hc1 hc2 x y z)]
  unfold kernelRun0_B
  dsimp only
  rw [View.canon_unit_zero hz]
  simp only [View.readAt_eq_ld, h3.read_unread, h4.read_unread, h6.read_unread, View.ld_unit_zero (S := S2048x1024) hz,
    View.ld_unit_zero (S := S2048x128) hz, View.ld_unit_zero (S := S1024x128) hz]

end

theorem last_at (x x' : Vec Ideal S2048x1024 .bf16) (y y' : Vec Ideal S2048x128 .f32) (r : Fin 1024) (s : Fin 128) :
    k0_pay4 (F := Ideal) x' y' (k0_pay2 x y) (ix2 r s)
      = (∑ k : Fin 2048, x (ix2 k r) * y (ix2 k s)) + ∑ k : Fin 2048, x' (ix2 k r) * y' (ix2 k s) := by
  have p (a : FVec Ideal S2048x1024 .bf16) (b : FVec Ideal S2048x128 .f32) :
      k0_pay1 (F := Ideal) a b (ix2 r s) = ∑ k : Fin 2048, a (ix2 k r) * b (ix2 k s) := by
    pointwise [k0_pay1]
  rw [← p, ← p]
  pointwise [k0_pay4, k0_pay2]

/-- Where each window's block lies at a point. -/
theorem idx : ∀ t : Fin grid0.N, win0_0.index t = ![t.val % 2, t.val / 2] ∧ win0_1.index t = ![t.val % 2, 0]
    ∧ win0_2.index t = ![t.val / 2, 0] := by decide +kernel

theorem lt_N (t : Fin cfg0.N) : t.val < 4 := lt_of_lt_of_eq t.isLt N_0

theorem x_emb (t : Fin cfg0.N) (k : Fin 2048) (r : Fin 1024) : ((cfg0.win 0).blk t).view.emb (ix2 k r)
    = ix2 (⟨2048 * (t.val % 2) + k.val, by omega⟩ : Fin 4096) (⟨1024 * (t.val / 2) + r.val, by have := lt_N t; omega⟩ : Fin 2048) := by
  blk_ext [idx t]

theorem y_emb (t : Fin cfg0.N) (k : Fin 2048) (r : Fin 128) : ((cfg0.win 1).blk t).view.emb (ix2 k r)
    = ix2 (⟨2048 * (t.val % 2) + k.val, by omega⟩ : Fin 4096) r := by
  blk_ext [idx t]

theorem o_emb (t : Fin cfg0.N) (r : Fin 1024) (s : Fin 128) : ((cfg0.win 2).blk t).view.emb (ix2 r s)
    = ix2 (⟨1024 * (t.val / 2) + r.val, by have := lt_N t; omega⟩ : Fin 2048) s := by
  blk_ext [idx t]

variable (m : (ℓ : Loc nD τ sig) → Buf (Elt Ideal) ℓ) (c : Dev nD)

/-- The product of the transposed first array with the second. -/
def dw (x : S4096x2048.Idx → EReal) (y : S4096x128.Idx → EReal) : S2048x128.Idx → EReal := fun i => ∑ k : Fin 4096, x (ix2 k (i 0)) * y (ix2 k (i 1))

/-- The arguments, which are the operands of the call. -/
abbrev X : (⟨S4096x2048, .bf16⟩ : BufTy).Contents (Elt Ideal) := m ((c.tc : Thread nD τ).loc main_arg0)
abbrev Y : (⟨S4096x128, .f32⟩ : BufTy).Contents (Elt Ideal) := m ((c.tc : Thread nD τ).loc main_arg1)

theorem x_at (t : Fin cfg0.N) (k : Fin 2048) (r : Fin 1024) : (iblk m c 0 t : FVec Ideal S2048x1024 .bf16) (ix2 k r)
    = X m c (ix2 (⟨2048 * (t.val % 2) + k.val, by omega⟩ : Fin 4096) (⟨1024 * (t.val / 2) + r.val, by have := lt_N t; omega⟩ : Fin 2048)) := by
  rw [← x_emb t k r, show X m c = V m c main_arg0 from (V_main_arg0 m c).symm]; rfl

theorem y_at (t : Fin cfg0.N) (k : Fin 2048) (r : Fin 128) : (iblk m c 1 t : FVec Ideal S2048x128 .f32) (ix2 k r)
    = Y m c (ix2 (⟨2048 * (t.val % 2) + k.val, by omega⟩ : Fin 4096) r) := by
  rw [← y_emb t k r, show Y m c = V m c main_arg1 from (V_main_arg1 m c).symm]; rfl

/-- The array the call leaves. -/
theorem out : (dats m 0 c).arrAt 2 cfg0.N = dw (X m c) (Y m c) := by
  refine (dats m 0 c).arrAt_eq_of_covers 2 _ (by decide +kernel) fun t hf y => ?_
  blk_simp
  obtain ⟨r, s, rfl⟩ : ∃ (r : Fin 1024) (s : Fin 128), y = ix2 r s := ⟨y 0, y 1, (ix2_eta y).symm⟩
  have h1 : t.val % 2 = 1 := (flush0_2 t).mp hf
  have hp : t.val - 1 < cfg0.N := Nat.lt_of_le_of_lt (Nat.sub_le _ _) t.isLt
  rw [after0_2, outsAt0_B m c t (by omega) h1]
  dsimp only
  rw [second, outsAt0_A m c ⟨t.val - 1, hp⟩ (by dsimp only; omega) (by dsimp only; omega)]
  dsimp only
  rw [first]
  refine (last_at _ _ _ _ r s).trans ?_
  refine Eq.trans ?_ (congrArg (dw (X m c) (Y m c)) (o_emb t r s).symm)
  unfold dw
  rw [sum_halves]
  refine congrArg₂ (· + ·) (Finset.sum_congr rfl fun k _ => ?_) (Finset.sum_congr rfl fun k _ => ?_)
  · have e : (t.val - 1) % 2 = 0 := by omega
    have e2 : (t.val - 1) / 2 = t.val / 2 := by omega
    rw [x_at m c ⟨t.val - 1, hp⟩, y_at m c ⟨t.val - 1, hp⟩]
    simp only [e, e2, Nat.mul_zero, Nat.zero_add]
    rfl
  · rw [x_at, y_at]
    simp only [h1]
    rfl

open FDwRefIdeal.Read in
/-- The reference's gradient is that product. -/
theorem ref_eq : val_main_v4 (F := Ideal) (X m c) (Y m c) = dw (X m c) (Y m c) := by
  funext i
  rw [val_main_v4_apply, val_main_v3_apply]
  unfold dw
  refine Finset.sum_congr rfl fun k _ => ?_
  rw [mul_comm]
  refine congrArg₂ (· * ·) (congrArg (X m c) ?_) (congrArg (Y m c) ?_) <;>
    exact funext fun a => match a with
      | ⟨0, _⟩ => rfl
      | ⟨1, _⟩ => rfl

/-- From arguments that agree, both programs end with the same product and their arguments unchanged. -/
theorem algebraic : Cert.algebraic_FDwIdeal_FDwRefIdeal := by
  intro m g m' g' _ hagree
  refine ⟨fun c => dw (X m c) (Y m c), (θ_run defs _ _).mono (fun _ h c => ?_) (Value.run_blocks m g),
    (θ_run FDwRefIdeal.defs _ _).mono (fun _ h c => ?_) (FDwRefIdeal.Value.run (F := Ideal) m' g')⟩
  · obtain ⟨o, rest⟩ := h c
    exact ⟨o.trans (out m c), rest⟩
  · obtain ⟨a0, a1⟩ := hagree c
    obtain ⟨o, rest⟩ := h c
    refine ⟨o.trans ((FDwRefIdeal.Read.val_main_v4_eq _ _).trans (Eq.trans ?_ (ref_eq m c))), rest⟩
    rw [a0, a1]

end Cert.FDwIdeal.Product

end
-- ==== Proof.SIn.Equation.lean ====
/-
  The first layer's input projection: at each point the call writes the product of a block of the rows with the weights'
  columns one device holds.
-/
module

public import proofs.«01_k».proof.Defs
public import proofs.«01_k».proof.Proof.Common.Join
public import proofs.«01_k».proof.Proof.Common.Shards
public import proofs.«01_k».proof.Proof.Gen.SInIdeal.Value
public import proofs.«01_k».proof.Proof.Gen.SInRefIdeal.Run
public import proofs.«01_k».proof.Proof.Gen.SInRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SInIdeal.Product

open Idealize.ShloMosaic Idealize.ShloMosaic.TcCoe Idealize.SL.Sem
open Cert.SInIdeal Cert.SInIdeal.Gen Cert.Product

/-- The product of a block of rows with a block of columns. -/
theorem prod_at (a : FVec Ideal S1024x2048 .bf16) (b : FVec Ideal S1x2048x1024 .bf16) (r s : Fin 1024) :
    k0_pay1 (F := Ideal) a b (ix2 r s) = ∑ k : Fin 2048, a (ix2 r k) * b (ix3 0 k s) := by
  pointwise [k0_pay1]

/-- What the body leaves in the result's block. -/
theorem body (a : FVec Ideal S1024x2048 .bf16) (b : FVec Ideal S1x2048x1024 .bf16) :
    out0_2 (F := Ideal) a b = k0_pay1 (F := Ideal) a b := by
  unfold out0_2
  rw [View.canon_unit_zero hz]
  simp only [View.ld_unit_zero (S := S1024x2048) hz, View.ld_unit_zero (S := S1x2048x1024) hz3]

/-- Where each window's block lies at a point. -/
theorem idx : ∀ t : Fin grid0.N, win0_0.index t = ![t.val / 4, 0] ∧ win0_1.index t = ![t.val % 4, 0, 0]
    ∧ win0_2.index t = ![t.val / 4, t.val % 4] := by decide +kernel

theorem lt_N (t : Fin cfg0.N) : t.val < 16 := lt_of_lt_of_eq t.isLt N_0

/-- The row and the column of an entry of a point's block. -/
abbrev row (t : Fin cfg0.N) (r : Fin 1024) : Fin 4096 := ⟨1024 * (t.val / 4) + r.val, by have := lt_N t; omega⟩
abbrev col (t : Fin cfg0.N) (s : Fin 1024) : Fin 4096 := ⟨1024 * (t.val % 4) + s.val, by omega⟩

theorem x_emb (t : Fin cfg0.N) (r : Fin 1024) (k : Fin 2048) : ((cfg0.win 0).blk t).view.emb (ix2 r k) = ix2 (row t r) k := by
  blk_ext [idx t]

theorem w_emb (t : Fin cfg0.N) (k : Fin 2048) (s : Fin 1024) : ((cfg0.win 1).blk t).view.emb (ix3 (0 : Fin 1) k s)
    = ix3 (⟨t.val % 4, by omega⟩ : Fin 4) k s := by
  blk_ext [idx t]

theorem o_emb (t : Fin cfg0.N) (r s : Fin 1024) : ((cfg0.win 2).blk t).view.emb (ix2 r s) = ix2 (row t r) (col t s) := by
  blk_ext [idx t]

variable (m : (ℓ : Loc nD τ sig) → Buf (Elt Ideal) ℓ) (c : Dev nD)

/-- The product of the two arrays. -/
def mul (x : S4096x2048.Idx → EReal) (w : S2048x4096.Idx → EReal) : S4096x4096.Idx → EReal :=
  fun i => ∑ k : Fin 2048, x (ix2 (i 0) k) * w (ix2 k (i 1))

/-- The arguments. -/
abbrev A0 : (⟨S4096x2048, .bf16⟩ : BufTy).Contents (Elt Ideal) := m ((c.tc : Thread nD τ).loc main_arg0)
abbrev A1 : (⟨S2048x4096, .f32⟩ : BufTy).Contents (Elt Ideal) := m ((c.tc : Thread nD τ).loc main_arg1)

/-- The host gathers the four devices' columns of the weights. -/
theorem w_eq (p : Fin 4) (r : Fin 2048) (s : Fin 1024) :
    (V m c main_v2 : FVec Ideal S4x2048x1024 .bf16) (ix3 p r s) = A1 m c (ix2 r ⟨1024 * p.val + s.val, by omega⟩) := by
  rw [show V m c main_v2 = transpose S4x2048x1024 [1, 0, 2] (shapeCast S2048x4x1024 (A1 m c) _) _ by
    unfold V
    after_reads_simp
    rfl]
  exact shards_at (A1 m c) _ _ p r s

theorem x_at (t : Fin cfg0.N) (r : Fin 1024) (k : Fin 2048) : (iblk m c 0 t : FVec Ideal S1024x2048 .bf16) (ix2 r k)
    = A0 m c (ix2 (row t r) k) := by
  rw [← x_emb t r k, show A0 m c = V m c main_arg0 from (V_main_arg0 m c).symm]; rfl

theorem w_at (t : Fin cfg0.N) (k : Fin 2048) (s : Fin 1024) : (iblk m c 1 t : FVec Ideal S1x2048x1024 .bf16) (ix3 0 k s)
    = A1 m c (ix2 k (col t s)) := by
  rw [← w_eq m c ⟨t.val % 4, by omega⟩, ← w_emb t k s]; rfl

/-- The array the call leaves. -/
theorem out : (dats m 0 c).arrAt 2 cfg0.N = mul (A0 m c) (A1 m c) := by
  refine (dats m 0 c).arrAt_eq_of_covers 2 _ (by decide +kernel) fun t hf y => ?_
  blk_simp
  obtain ⟨r, s, rfl⟩ : ∃ (r s : Fin 1024), y = ix2 r s := ⟨y 0, y 1, (ix2_eta y).symm⟩
  rw [after0_2, body]
  refine (prod_at _ _ r s).trans ?_
  refine Eq.trans ?_ (congrArg (mul (A0 m c) (A1 m c)) (o_emb t r s).symm)
  exact Finset.sum_congr rfl fun k _ => congrArg₂ (· * ·) (x_at m c t r k) (w_at m c t k s)

open SInRefIdeal.Read in
/-- The reference's product. -/
theorem ref_eq : val_main_v1 (F := Ideal) (A0 m c) (A1 m c) = mul (A0 m c) (A1 m c) := by
  funext i
  rw [val_main_v1_apply]
  unfold mul
  refine Finset.sum_congr rfl fun k _ => ?_
  refine congrArg₂ (· * ·) (congrArg (A0 m c) ?_) (congrArg (A1 m c) ?_) <;>
    exact funext fun a => match a with
      | ⟨0, _⟩ => rfl
      | ⟨1, _⟩ => rfl

/-- From arguments that agree, both programs end with the same product and their arguments unchanged. -/
theorem algebraic : Cert.algebraic_SInIdeal_SInRefIdeal := by
  intro m g m' g' _ hagree
  refine ⟨fun c => mul (A0 m c) (A1 m c), (θ_run defs _ _).mono (fun _ h c => ?_) (Value.run_blocks m g),
    (θ_run SInRefIdeal.defs _ _).mono (fun _ h c => ?_) (SInRefIdeal.Value.run (F := Ideal) m' g')⟩
  · obtain ⟨o, rest⟩ := h c
    exact ⟨o.trans (out m c), rest⟩
  · obtain ⟨a0, a1⟩ := hagree c
    obtain ⟨o, rest⟩ := h c
    refine ⟨o.trans ((SInRefIdeal.Read.val_main_v1_eq _ _).trans (Eq.trans ?_ (ref_eq m c))), rest⟩
    rw [a0, a1]

end Cert.SInIdeal.Product

end
-- ==== Proof.Common.Gelu.lean ====
/-
  The activation x·(1 + tanh(C·(x + c·x³)))/2, with its three constants as the programs hold them, and the other order of
  its products.
-/
module

public import proofs.«01_k».proof.Defs
public import Idealize.ShloMosaic.Lib.Pointwise

@[expose] public section

noncomputable section

namespace Cert.Product

open Idealize.ShloMosaic

/-- The activation. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The same with the half multiplied in first and the cube built from the constant's side. -/
theorem gelu_eq (x : EReal) :
    Ideal.ofBits .f32 0x3F000000#32 * x * (Ideal.ofBits .f32 0x3F800000#32
      + Ideal.tanh (Ideal.ofBits .f32 0x3F4C422A#32 * (x + Ideal.ofBits .f32 0x3D372713#32 * x * x * x))) = gelu x := by
  rw [gelu, ← mul_assoc x, mul_comm x, ← mul_assoc (Ideal.ofBits .f32 0x3D372713#32), ← mul_assoc (Ideal.ofBits .f32 0x3D372713#32)]

end Cert.Product

end
-- ==== Proof.Glu.Equation.lean ====
/-
  The second layer's gate: at each point the call writes a block of the activation's product with the gate's weights, and
  beside it the activation times the product's sigmoid and the other branch's own gate.
-/
module

public import proofs.«01_k».proof.Defs
public import proofs.«01_k».proof.Proof.Common.Join
public import proofs.«01_k».proof.Proof.Common.Gates
public import proofs.«01_k».proof.Proof.Common.Gelu
public import proofs.«01_k».proof.Proof.Gen.GluIdeal.Value
public import proofs.«01_k».proof.Proof.Gen.GluRefIdeal.Run
public import proofs.«01_k».proof.Proof.Gen.GluRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.GluIdeal.Product

open Idealize.ShloMosaic Idealize.ShloMosaic.TcCoe Idealize.SL.Sem
open Cert.GluIdeal Cert.GluIdeal.Gen Cert.Product

/-- The product of a block of rows with a block of columns. -/
theorem prod_at (a : FVec Ideal S1024x2048 .bf16) (b : FVec Ideal S2048x1024 .bf16) (r s : Fin 1024) :
    k0_pay2 (F := Ideal) a b (ix2 r s) = ∑ k : Fin 2048, a (ix2 r k) * b (ix2 k s) := by
  pointwise [k0_pay2]

/-- The activation's block times the product's sigmoid. -/
theorem gated_at (a : FVec Ideal S1024x2048 .bf16) (b : FVec Ideal S2048x1024 .bf16) (y : FVec Ideal S1024x1024 .f32)
    (v : FVec Ideal S1x1024 .f32) (r s : Fin 1024) :
    k0_pay3 (F := Ideal) a b y v (ix2 r s)
      = gelu (y (ix2 r s)) * gate (k0_pay2 (F := Ideal) a b (ix2 r s) + v (ix2 0 s)) := by
  rw [gate, ← zero_sub, ← Ideal.ofBits_one_f32, ← Ideal.ofBits_zero .f32, ← gelu_eq]
  pointwise [k0_pay3]

/-- The other branch's gate. -/
theorem one_at (z : FVec Ideal S1024x1024 .f32) (p : FVec Ideal S1024x1024 .f32) (r s : Fin 1024) :
    k0_pay1 (F := Ideal) z p (k0_pay4 (F := Ideal) z) (Scalar.ofBits .f32 0x3F800000#32) (ix2 r s)
      = p (ix2 r s) * (z (ix2 r s) * gate (z (ix2 r s))) := by
  rw [gate, ← zero_sub, ← Ideal.ofBits_one_f32, ← Ideal.ofBits_zero .f32]
  rfl

/-- What the body leaves in the results' blocks. -/
theorem body_a (a : FVec Ideal S1024x2048 .bf16) (b : FVec Ideal S2048x1024 .bf16) (y z : FVec Ideal S1024x1024 .f32)
    (v : FVec Ideal S1x1024 .f32) : out0_5 (F := Ideal) a b y z v = k0_pay2 (F := Ideal) a b := by
  unfold out0_5
  rw [View.canon_unit_zero hz]
  simp only [View.ld_unit_zero (S := S1024x2048) hz, View.ld_unit_zero (S := S2048x1024) hz]

theorem body_y (a : FVec Ideal S1024x2048 .bf16) (b : FVec Ideal S2048x1024 .bf16) (y z : FVec Ideal S1024x1024 .f32)
    (v : FVec Ideal S1x1024 .f32) : out0_6 (F := Ideal) a b y z v
      = k0_pay1 (F := Ideal) z (k0_pay3 (F := Ideal) a b y v) (k0_pay4 (F := Ideal) z) (Scalar.ofBits .f32 0x3F800000#32) := by
  unfold out0_6
  rw [View.canon_unit_zero hz]
  simp only [View.ld_unit_zero (S := S1024x2048) hz, View.ld_unit_zero (S := S2048x1024) hz,
    View.ld_unit_zero (S := S1024x1024) hz, View.ld_unit_zero (S := S1x1024) hz]

/-- Where each window's block lies at a point. -/
theorem idx : ∀ t : Fin grid0.N, win0_0.index t = ![t.val / 2, 0] ∧ win0_1.index t = ![0, t.val % 2]
    ∧ win0_2.index t = ![t.val / 2, t.val % 2] ∧ win0_3.index t = ![t.val / 2, t.val % 2 + 2]
    ∧ win0_4.index t = ![0, t.val % 2] ∧ win0_5.index t = ![t.val / 2, t.val % 2]
    ∧ win0_6.index t = ![t.val / 2, t.val % 2] := by decide +kernel

theorem lt_N (t : Fin cfg0.N) : t.val < 8 := lt_of_lt_of_eq t.isLt N_0

/-- The row and the column of an entry of a point's block. -/
abbrev row (t : Fin cfg0.N) (r : Fin 1024) : Fin 4096 := ⟨1024 * (t.val / 2) + r.val, by have := lt_N t; omega⟩
abbrev col (t : Fin cfg0.N) (s : Fin 1024) : Fin 2048 := ⟨1024 * (t.val % 2) + s.val, by omega⟩

/-- The second half's column at a column. -/
abbrev half (s : Fin 2048) : Fin 4096 := ⟨2048 + s.val, by omega⟩

theorem x_emb (t : Fin cfg0.N) (r : Fin 1024) (k : Fin 2048) : ((cfg0.win 0).blk t).view.emb (ix2 r k) = ix2 (row t r) k := by
  blk_ext [idx t]

theorem w_emb (t : Fin cfg0.N) (k : Fin 2048) (s : Fin 1024) : ((cfg0.win 1).blk t).view.emb (ix2 k s) = ix2 k (col t s) := by
  blk_ext [idx t]

theorem y_emb (t : Fin cfg0.N) (r s : Fin 1024) : ((cfg0.win 2).blk t).view.emb (ix2 r s) = ix2 (row t r) (col t s) := by
  blk_ext [idx t]

theorem z_emb (t : Fin cfg0.N) (r s : Fin 1024) :
    ((cfg0.win 3).blk t).view.emb (ix2 r s) = ix2 (row t r) (half (col t s)) := by
  blk_ext [idx t]

theorem b_emb (t : Fin cfg0.N) (s : Fin 1024) : ((cfg0.win 4).blk t).view.emb (ix2 (0 : Fin 1) s) = ix2 (0 : Fin 1) (col t s) := by
  blk_ext [idx t]

theorem a_emb (t : Fin cfg0.N) (r s : Fin 1024) : ((cfg0.win 5).blk t).view.emb (ix2 r s) = ix2 (row t r) (col t s) := by
  blk_ext [idx t]

theorem o_emb (t : Fin cfg0.N) (r s : Fin 1024) : ((cfg0.win 6).blk t).view.emb (ix2 r s) = ix2 (row t r) (col t s) := by
  blk_ext [idx t]

variable (m : (ℓ : Loc nD τ sig) → Buf (Elt Ideal) ℓ) (c : Dev nD)

/-- The product of the activation with the weights. -/
def mul (x : S4096x2048.Idx → EReal) (w : S2048x2048.Idx → EReal) : S4096x2048.Idx → EReal :=
  fun i => ∑ k : Fin 2048, gelu (x (ix2 (i 0) k)) * w (ix2 k (i 1))

/-- The activation times the product's sigmoid and the other branch's gate. -/
def gated (x : S4096x2048.Idx → EReal) (u : S4096x4096.Idx → EReal) (w : S2048x2048.Idx → EReal) (v : S1x2048.Idx → EReal) :
    S4096x2048.Idx → EReal :=
  fun i => gelu (x i) * gate (mul x w i + v (ix2 0 (i 1))) * (u (ix2 (i 0) (half (i 1))) * gate (u (ix2 (i 0) (half (i 1)))))

/-- The arguments. -/
abbrev A0 : (⟨S4096x2048, .f32⟩ : BufTy).Contents (Elt Ideal) := m ((c.tc : Thread nD τ).loc main_arg0)
abbrev A1 : (⟨S4096x4096, .f32⟩ : BufTy).Contents (Elt Ideal) := m ((c.tc : Thread nD τ).loc main_arg1)
abbrev A2 : (⟨S2048x2048, .f32⟩ : BufTy).Contents (Elt Ideal) := m ((c.tc : Thread nD τ).loc main_arg2)
abbrev A3 : (⟨S1x2048, .f32⟩ : BufTy).Contents (Elt Ideal) := m ((c.tc : Thread nD τ).loc main_arg3)

/-- The host's activation. -/
theorem x_eq : V m c main_v13 = fun i => gelu (A0 m c i) := by
  unfold V
  after_reads_simp
  rfl

/-- The host's cast leaves the weights as they are. -/
theorem w_eq : V m c main_v14 = A2 m c := by
  unfold V
  after_reads_simp
  rfl

theorem x_at (t : Fin cfg0.N) (r : Fin 1024) (k : Fin 2048) : (iblk m c 0 t : FVec Ideal S1024x2048 .bf16) (ix2 r k)
    = gelu (A0 m c (ix2 (row t r) k)) := by
  refine Eq.trans ?_ (congrFun (x_eq m c) (ix2 (row t r) k))
  rw [← x_emb t r k]; rfl

theorem w_at (t : Fin cfg0.N) (k : Fin 2048) (s : Fin 1024) : (iblk m c 1 t : FVec Ideal S2048x1024 .bf16) (ix2 k s)
    = A2 m c (ix2 k (col t s)) := by
  rw [← w_emb t k s, ← w_eq m c]; rfl

theorem y_at (t : Fin cfg0.N) (r s : Fin 1024) : (iblk m c 2 t : FVec Ideal S1024x1024 .f32) (ix2 r s)
    = A0 m c (ix2 (row t r) (col t s)) := by
  rw [← y_emb t r s, show A0 m c = V m c main_arg0 from (V_main_arg0 m c).symm]; rfl

theorem z_at (t : Fin cfg0.N) (r s : Fin 1024) : (iblk m c 3 t : FVec Ideal S1024x1024 .f32) (ix2 r s)
    = A1 m c (ix2 (row t r) (half (col t s))) := by
  rw [← z_emb t r s, show A1 m c = V m c main_arg1 from (V_main_arg1 m c).symm]; rfl

theorem b_at (t : Fin cfg0.N) (s : Fin 1024) : (iblk m c 4 t : FVec Ideal S1x1024 .f32) (ix2 0 s)
    = A3 m c (ix2 0 (col t s)) := by
  rw [← b_emb t s, show A3 m c = V m c main_arg3 from (V_main_arg3 m c).symm]; rfl

/-- The product's entry in a point's block. -/
theorem mul_at (t : Fin cfg0.N) (r s : Fin 1024) :
    k0_pay2 (F := Ideal) (iblk m c 0 t) (iblk m c 1 t) (ix2 r s) = mul (A0 m c) (A2 m c) (ix2 (row t r) (col t s)) :=
  (prod_at _ _ r s).trans (Finset.sum_congr rfl fun k _ => congrArg₂ (· * ·) (x_at m c t r k) (w_at m c t k s))

/-- The arrays the call leaves. -/
theorem out_a : (dats m 0 c).arrAt 5 cfg0.N = mul (A0 m c) (A2 m c) := by
  refine (dats m 0 c).arrAt_eq_of_covers 5 _ (by decide +kernel) fun t hf y => ?_
  blk_simp
  obtain ⟨r, s, rfl⟩ : ∃ (r s : Fin 1024), y = ix2 r s := ⟨y 0, y 1, (ix2_eta y).symm⟩
  rw [after0_5, body_a]
  exact (mul_at m c t r s).trans (congrArg (mul (A0 m c) (A2 m c)) (a_emb t r s).symm)

theorem out_y : (dats m 0 c).arrAt 6 cfg0.N = gated (A0 m c) (A1 m c) (A2 m c) (A3 m c) := by
  refine (dats m 0 c).arrAt_eq_of_covers 6 _ (by decide +kernel) fun t hf y => ?_
  blk_simp
  obtain ⟨r, s, rfl⟩ : ∃ (r s : Fin 1024), y = ix2 r s := ⟨y 0, y 1, (ix2_eta y).symm⟩
  rw [after0_6, body_y]
  refine (one_at _ _ r s).trans ?_
  refine Eq.trans ?_ (congrArg (gated (A0 m c) (A1 m c) (A2 m c) (A3 m c)) (o_emb t r s).symm)
  rw [gated_at, mul_at, y_at, z_at, b_at]
  rfl

open GluRefIdeal.Read in
/-- The reference's activation and product. -/
theorem ref_gelu (i : S4096x2048.Idx) : val_main_v12 (F := Ideal) (A0 m c) i = gelu (A0 m c i) := by
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply]
  rfl

open GluRefIdeal.Read in
theorem ref_a : val_main_v13 (F := Ideal) (A0 m c) (A2 m c) = mul (A0 m c) (A2 m c) := by
  funext i
  rw [val_main_v13_apply]
  unfold mul
  refine Finset.sum_congr rfl fun k _ => ?_
  refine congrArg₂ (· * ·) ((ref_gelu m c _).trans (congrArg (fun j => gelu (A0 m c j)) ?_)) (congrArg (A2 m c) ?_) <;>
    exact funext fun a => match a with
      | ⟨0, _⟩ => rfl
      | ⟨1, _⟩ => rfl

open GluRefIdeal.Read in
/-- The reference's gate of the other branch, and its gated activation. -/
theorem ref_silu (i : S4096x2048.Idx) : val_main_v24 (F := Ideal) (A1 m c) i
    = A1 m c (ix2 (i 0) (half (i 1))) * gate (A1 m c (ix2 (i 0) (half (i 1)))) := by
  have e : (idx_main_v23 i : S4096x4096.Idx) = ix2 (i 0) (half (i 1)) := funext fun a => match a with
    | ⟨0, _⟩ => rfl
    | ⟨1, _⟩ => rfl
  refine Eq.trans ?_ (congrArg (fun j => A1 m c j * gate (A1 m c j)) e)
  rw [gate, ← Ideal.ofBits_one_f32, val_main_v24_apply, val_main_call0_v5_apply, val_main_call0_v4_apply,
    val_main_call0_v3_apply, val_main_call0_v2_apply, val_main_call0_v1_apply, val_main_call0_v0_apply, val_main_v23_apply]
  rfl

open GluRefIdeal.Read in
theorem ref_y : val_main_v26 (F := Ideal) (A0 m c) (A1 m c) (A2 m c) (A3 m c) = gated (A0 m c) (A1 m c) (A2 m c) (A3 m c) := by
  funext i
  refine congrArg₂ (· * ·) (congrArg₂ (· * ·) (ref_gelu m c i) ?_) (ref_silu m c i)
  rw [gate, ← Ideal.ofBits_one_f32, ← ref_a, val_main_v21_apply, val_main_v20_apply, val_main_v19_apply, val_main_v18_apply,
    val_main_v17_apply, val_main_v16_apply, val_main_v15_apply, val_main_v14_apply]
  refine congrArg (fun j => Ideal.div (Ideal.ofBits .f32 0x3F800000#32) (Ideal.ofBits .f32 0x3F800000#32
    + Ideal.exp (-(val_main_v13 (F := Ideal) (A0 m c) (A2 m c) i + A3 m c j)))) ?_
  exact funext fun a => match a with
    | ⟨0, _⟩ => rfl
    | ⟨1, _⟩ => rfl

/-- From arguments that agree, both programs end with the same two arrays and their arguments unchanged. -/
theorem algebraic : Cert.algebraic_GluIdeal_GluRefIdeal := by
  intro m g m' g' _ hagree
  refine ⟨fun c => mul (A0 m c) (A2 m c), fun c => gated (A0 m c) (A1 m c) (A2 m c) (A3 m c),
    (θ_run defs _ _).mono (fun _ h c => ?_) (Value.run_blocks m g),
    (θ_run GluRefIdeal.defs _ _).mono (fun _ h c => ?_) (GluRefIdeal.Value.run (F := Ideal) m' g')⟩
  · obtain ⟨o, p, rest⟩ := h c
    exact ⟨o.trans (out_a m c), p.trans (out_y m c), rest⟩
  · obtain ⟨a0, a1, a2, a3⟩ := hagree c
    obtain ⟨o, p, rest⟩ := h c
    refine ⟨o.trans ((GluRefIdeal.Read.val_main_v13_eq _ _).trans (Eq.trans ?_ (ref_a m c))),
      p.trans ((GluRefIdeal.Read.val_main_v26_eq _ _ _ _).trans (Eq.trans ?_ (ref_y m c))), rest⟩
    · rw [a0, a2]
    · rw [a0, a1, a2, a3]

end Cert.GluIdeal.Product

end
-- ==== Proof.SOut.Equation.lean ====
/-
  The first layer's output projection: at each point the call writes the product of a block of the rows with a block of the
  weights' columns.
-/
module

public import proofs.«01_k».proof.Defs
public import proofs.«01_k».proof.Proof.Common.Join
public import proofs.«01_k».proof.Proof.Gen.SOutIdeal.Value
public import proofs.«01_k».proof.Proof.Gen.SOutRefIdeal.Run
public import proofs.«01_k».proof.Proof.Gen.SOutRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SOutIdeal.Product

open Idealize.ShloMosaic Idealize.ShloMosaic.TcCoe Idealize.SL.Sem
open Cert.SOutIdeal Cert.SOutIdeal.Gen Cert.Product

/-- The product of a block of rows with a block of columns. -/
theorem prod_at (a : FVec Ideal S1024x2048 .bf16) (b : FVec Ideal S2048x1024 .bf16) (r s : Fin 1024) :
    k0_pay1 (F := Ideal) a b (ix2 r s) = ∑ k : Fin 2048, a (ix2 r k) * b (ix2 k s) := by
  pointwise [k0_pay1]

/-- What the body leaves in the result's block. -/
theorem body (a : FVec Ideal S1024x2048 .bf16) (b : FVec Ideal S2048x1024 .bf16) :
    out0_2 (F := Ideal) a b = k0_pay1 (F := Ideal) a b := by
  unfold out0_2
  rw [View.canon_unit_zero hz]
  simp only [View.ld_unit_zero (S := S1024x2048) hz, View.ld_unit_zero (S := S2048x1024) hz]

/-- Where each window's block lies at a point. -/
theorem idx : ∀ t : Fin grid0.N, win0_0.index t = ![t.val / 2, 0] ∧ win0_1.index t = ![0, t.val % 2]
    ∧ win0_2.index t = ![t.val / 2, t.val % 2] := by decide +kernel

theorem lt_N (t : Fin cfg0.N) : t.val < 8 := lt_of_lt_of_eq t.isLt N_0

/-- The row and the column of an entry of a point's block. -/
abbrev row (t : Fin cfg0.N) (r : Fin 1024) : Fin 4096 := ⟨1024 * (t.val / 2) + r.val, by have := lt_N t; omega⟩
abbrev col (t : Fin cfg0.N) (s : Fin 1024) : Fin 2048 := ⟨1024 * (t.val % 2) + s.val, by omega⟩

theorem x_emb (t : Fin cfg0.N) (r : Fin 1024) (k : Fin 2048) : ((cfg0.win 0).blk t).view.emb (ix2 r k) = ix2 (row t r) k := by
  blk_ext [idx t]

theorem w_emb (t : Fin cfg0.N) (k : Fin 2048) (s : Fin 1024) : ((cfg0.win 1).blk t).view.emb (ix2 k s) = ix2 k (col t s) := by
  blk_ext [idx t]

theorem o_emb (t : Fin cfg0.N) (r s : Fin 1024) : ((cfg0.win 2).blk t).view.emb (ix2 r s) = ix2 (row t r) (col t s) := by
  blk_ext [idx t]

variable (m : (ℓ : Loc nD τ sig) → Buf (Elt Ideal) ℓ) (c : Dev nD)

/-- The product of the two arrays. -/
def mul (x : S4096x2048.Idx → EReal) (w : S2048x2048.Idx → EReal) : S4096x2048.Idx → EReal :=
  fun i => ∑ k : Fin 2048, x (ix2 (i 0) k) * w (ix2 k (i 1))

/-- The arguments. -/
abbrev A0 : (⟨S4096x2048, .bf16⟩ : BufTy).Contents (Elt Ideal) := m ((c.tc : Thread nD τ).loc main_arg0)
abbrev A1 : (⟨S2048x2048, .f32⟩ : BufTy).Contents (Elt Ideal) := m ((c.tc : Thread nD τ).loc main_arg1)

/-- The host's cast leaves the weights as they are. -/
theorem w_eq : V m c main_v0 = A1 m c := by
  unfold V
  after_reads_simp
  rfl

theorem x_at (t : Fin cfg0.N) (r : Fin 1024) (k : Fin 2048) : (iblk m c 0 t : FVec Ideal S1024x2048 .bf16) (ix2 r k)
    = A0 m c (ix2 (row t r) k) := by
  rw [← x_emb t r k, show A0 m c = V m c main_arg0 from (V_main_arg0 m c).symm]; rfl

theorem w_at (t : Fin cfg0.N) (k : Fin 2048) (s : Fin 1024) : (iblk m c 1 t : FVec Ideal S2048x1024 .bf16) (ix2 k s)
    = A1 m c (ix2 k (col t s)) := by
  rw [← w_emb t k s, ← w_eq m c]; rfl

/-- The array the call leaves. -/
theorem out : (dats m 0 c).arrAt 2 cfg0.N = mul (A0 m c) (A1 m c) := by
  refine (dats m 0 c).arrAt_eq_of_covers 2 _ (by decide +kernel) fun t hf y => ?_
  blk_simp
  obtain ⟨r, s, rfl⟩ : ∃ (r s : Fin 1024), y = ix2 r s := ⟨y 0, y 1, (ix2_eta y).symm⟩
  rw [after0_2, body]
  refine (prod_at _ _ r s).trans ?_
  refine Eq.trans ?_ (congrArg (mul (A0 m c) (A1 m c)) (o_emb t r s).symm)
  exact Finset.sum_congr rfl fun k _ => congrArg₂ (· * ·) (x_at m c t r k) (w_at m c t k s)

open SOutRefIdeal.Read in
/-- The reference's product. -/
theorem ref_eq : val_main_v1 (F := Ideal) (A0 m c) (A1 m c) = mul (A0 m c) (A1 m c) := by
  funext i
  rw [val_main_v1_apply]
  unfold mul
  refine Finset.sum_congr rfl fun k _ => ?_
  refine congrArg₂ (· * ·) (congrArg (A0 m c) ?_) (congrArg (A1 m c) ?_) <;>
    exact funext fun a => match a with
      | ⟨0, _⟩ => rfl
      | ⟨1, _⟩ => rfl

/-- From arguments that agree, both programs end with the same product and their arguments unchanged. -/
theorem algebraic : Cert.algebraic_SOutIdeal_SOutRefIdeal := by
  intro m g m' g' _ hagree
  refine ⟨fun c => mul (A0 m c) (A1 m c), (θ_run defs _ _).mono (fun _ h c => ?_) (Value.run_blocks m g),
    (θ_run SOutRefIdeal.defs _ _).mono (fun _ h c => ?_) (SOutRefIdeal.Value.run (F := Ideal) m' g')⟩
  · obtain ⟨o, rest⟩ := h c
    exact ⟨o.trans (out m c), rest⟩
  · obtain ⟨a0, a1⟩ := hagree c
    obtain ⟨o, rest⟩ := h c
    refine ⟨o.trans ((SOutRefIdeal.Read.val_main_v1_eq _ _).trans (Eq.trans ?_ (ref_eq m c))), rest⟩
    rw [a0, a1]

end Cert.SOutIdeal.Product

end
-- ==== Proof.FOut.Equation.lean ====
/-
  The attention's output projection: it is the first layer's output projection on other arrays, so what is proved of the one
  is proved of the other.
-/
module

public import proofs.«01_k».proof.Proof.SOut.Equation
public import proofs.«01_k».proof.Proof.Gen.FOutIdeal
public import proofs.«01_k».proof.Proof.Gen.FOutRefIdeal

@[expose] public section

namespace Cert.FOutIdeal.Product

open Idealize.ShloMosaic

/-- The two calls have the same bodies. -/
theorem bodies : Cert.FOutIdeal.defs₀ (F := Ideal) = Cert.SOutIdeal.defs₀ (F := Ideal) := by
  unfold Cert.FOutIdeal.defs₀ Cert.SOutIdeal.defs₀
  refine congrArg Defs.onTc (funext fun l => funext fun a => ?_)
  match l, a with
  | 0, _ => rfl
  | ⟨_ + 1, h⟩, _ => exact absurd h (Nat.not_lt.2 (Nat.le_add_left _ _))

theorem tables : Cert.FOutIdeal.defs (F := Ideal) = Cert.SOutIdeal.defs (F := Ideal) :=
  congrArg (Pipeline.defs Cert.SOutIdeal.pcfgs) bodies

theorem algebraic : Cert.algebraic_FOutIdeal_FOutRefIdeal := by
  unfold Cert.algebraic_FOutIdeal_FOutRefIdeal
  rw [tables]
  exact Cert.SOutIdeal.Product.algebraic

end Cert.FOutIdeal.Product
-- ==== Proof.FProj.Equation.lean ====
/-
  The forget gates' projection: at each point the call writes the product of a block of the rows with the sixteen columns of
  the weights, padded with columns of zeros.
-/
module

public import proofs.«01_k».proof.Defs
public import proofs.«01_k».proof.Proof.Common.Join
public import proofs.«01_k».proof.Proof.Common.Pad
public import proofs.«01_k».proof.Proof.Gen.FProjIdeal.Value
public import proofs.«01_k».proof.Proof.Gen.FProjRefIdeal.Run
public import proofs.«01_k».proof.Proof.Gen.FProjRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FProjIdeal.Product

open Idealize.ShloMosaic Idealize.ShloMosaic.TcCoe Idealize.SL.Sem
open Cert.FProjIdeal Cert.FProjIdeal.Gen Cert.Product

/-- The product of a block of rows with a block of columns. -/
theorem prod_at (a : FVec Ideal S1024x2048 .bf16) (b : FVec Ideal S2048x128 .bf16) (r : Fin 1024) (s : Fin 128) :
    k0_pay1 (F := Ideal) a b (ix2 r s) = ∑ k : Fin 2048, a (ix2 r k) * b (ix2 k s) := by
  pointwise [k0_pay1]

/-- What the body leaves in the result's block. -/
theorem body (a : FVec Ideal S1024x2048 .bf16) (b : FVec Ideal S2048x128 .bf16) :
    out0_2 (F := Ideal) a b = k0_pay1 (F := Ideal) a b := by
  unfold out0_2
  rw [View.canon_unit_zero hz]
  simp only [View.ld_unit_zero (S := S1024x2048) hz, View.ld_unit_zero (S := S2048x128) hz]

/-- Where each window's block lies at a point. -/
theorem idx : ∀ t : Fin grid0.N, win0_0.index t = ![t.val, 0] ∧ win0_1.index t = ![0, 0]
    ∧ win0_2.index t = ![t.val, 0] := by decide +kernel

theorem lt_N (t : Fin cfg0.N) : t.val < 4 := lt_of_lt_of_eq t.isLt N_0

/-- The row of an entry of a point's block. -/
abbrev row (t : Fin cfg0.N) (r : Fin 1024) : Fin 4096 := ⟨1024 * t.val + r.val, by have := lt_N t; omega⟩

theorem x_emb (t : Fin cfg0.N) (r : Fin 1024) (k : Fin 2048) : ((cfg0.win 0).blk t).view.emb (ix2 r k) = ix2 (row t r) k := by
  blk_ext [idx t]

theorem w_emb (t : Fin cfg0.N) (k : Fin 2048) (s : Fin 128) : ((cfg0.win 1).blk t).view.emb (ix2 k s) = ix2 k s := by
  blk_ext [idx t]

theorem o_emb (t : Fin cfg0.N) (r : Fin 1024) (s : Fin 128) : ((cfg0.win 2).blk t).view.emb (ix2 r s) = ix2 (row t r) s := by
  blk_ext [idx t]

variable (m : (ℓ : Loc nD τ sig) → Buf (Elt Ideal) ℓ) (c : Dev nD)

/-- The product of the two arrays. -/
def mul (x : S4096x2048.Idx → EReal) (w : S2048x128.Idx → EReal) : S4096x128.Idx → EReal :=
  fun i => ∑ k : Fin 2048, x (ix2 (i 0) k) * w (ix2 k (i 1))

/-- The arguments. -/
abbrev A0 : (⟨S4096x2048, .bf16⟩ : BufTy).Contents (Elt Ideal) := m ((c.tc : Thread nD τ).loc main_arg0)
abbrev A1 : (⟨S2048x4112, .f32⟩ : BufTy).Contents (Elt Ideal) := m ((c.tc : Thread nD τ).loc main_arg1)

/-- The weights' columns of the forget gates, padded. -/
def W : S2048x128.Idx → EReal := fun i =>
  if h : (i 1).val < 16 then A1 m c (ix2 (i 0) ⟨4096 + (i 1).val, by omega⟩) else 0

theorem W_in (r : Fin 2048) (s : Fin 128) (h : s.val < 16) : W m c (ix2 r s) = A1 m c (ix2 r ⟨4096 + s.val, by omega⟩) := dif_pos h
theorem W_out (r : Fin 2048) (s : Fin 128) (h : ¬s.val < 16) : W m c (ix2 r s) = 0 := dif_neg h

/-- The host cuts and pads them. -/
theorem w_eq : V m c main_v2 = W m c := by
  funext i
  obtain ⟨r, s, rfl⟩ : ∃ (r : Fin 2048) (s : Fin 128), i = ix2 r s := ⟨i 0, i 1, (ix2_eta i).symm⟩
  rw [show V m c main_v2 = pad S2048x128 ![0, 0] ![0, 112] ![0, 0]
      (extractStridedSlice S2048x16 ![0, 4096] (A1 m c) Facts₀.slices_S2048x4112_S2048x16_0_4096)
      (fun _ => (((0#32).toInt : ℝ) : EReal)) Facts₀.pads_S2048x16_S2048x128_000_01120 Facts₀.h_S_ by
    unfold V
    after_reads_simp
    rfl]
  refine (pad_at _ _ _ _ (fun _ => by simp) r s).trans ?_
  unfold W
  refine dite_congr rfl (fun h => ?_) fun _ => rfl
  pointwise []

theorem x_at (t : Fin cfg0.N) (r : Fin 1024) (k : Fin 2048) : (iblk m c 0 t : FVec Ideal S1024x2048 .bf16) (ix2 r k)
    = A0 m c (ix2 (row t r) k) := by
  rw [← x_emb t r k, show A0 m c = V m c main_arg0 from (V_main_arg0 m c).symm]; rfl

theorem w_at (t : Fin cfg0.N) (k : Fin 2048) (s : Fin 128) : (iblk m c 1 t : FVec Ideal S2048x128 .bf16) (ix2 k s)
    = W m c (ix2 k s) := by
  refine Eq.trans ?_ (congrArg (W m c) (w_emb t k s))
  rw [← w_eq m c]; rfl

/-- The array the call leaves. -/
theorem out : (dats m 0 c).arrAt 2 cfg0.N = mul (A0 m c) (W m c) := by
  refine (dats m 0 c).arrAt_eq_of_covers 2 _ (by decide +kernel) fun t hf y => ?_
  blk_simp
  obtain ⟨r, s, rfl⟩ : ∃ (r : Fin 1024) (s : Fin 128), y = ix2 r s := ⟨y 0, y 1, (ix2_eta y).symm⟩
  rw [after0_2, body]
  refine (prod_at _ _ r s).trans ?_
  refine Eq.trans ?_ (congrArg (mul (A0 m c) (W m c)) (o_emb t r s).symm)
  exact Finset.sum_congr rfl fun k _ => congrArg₂ (· * ·) (x_at m c t r k) (w_at m c t k s)

open FProjRefIdeal.Read in
/-- The reference pads the product. -/
theorem ref_eq : val_main_v3 (F := Ideal) (A0 m c) (A1 m c) = mul (A0 m c) (W m c) := by
  funext i
  obtain ⟨r, s, rfl⟩ : ∃ (r : Fin 4096) (s : Fin 128), i = ix2 r s := ⟨i 0, i 1, (ix2_eta i).symm⟩
  unfold val_main_v3
  refine (pad_at _ _ _ _ (fun _ => by
    show (((0#32).toInt : ℝ) : EReal) = 0
    simp) r s).trans ?_
  unfold mul
  by_cases h : s.val < 16
  · rw [dif_pos h, val_main_v2_apply]
    refine Finset.sum_congr rfl fun k _ => ?_
    rw [val_main_v1_apply]
    refine congrArg₂ (· * ·) (congrArg (A0 m c) ?_) ((congrArg (A1 m c) ?_).trans (W_in m c k s h).symm) <;>
      exact funext fun a => match a with
        | ⟨0, _⟩ => rfl
        | ⟨1, _⟩ => rfl
  · rw [dif_neg h]
    exact (Finset.sum_eq_zero fun k _ => (congrArg _ (W_out m c k s h)).trans (mul_zero _)).symm

/-- From arguments that agree, both programs end with the same product and their arguments unchanged. -/
theorem algebraic : Cert.algebraic_FProjIdeal_FProjRefIdeal := by
  intro m g m' g' _ hagree
  refine ⟨fun c => mul (A0 m c) (W m c), (θ_run defs _ _).mono (fun _ h c => ?_) (Value.run_blocks m g),
    (θ_run FProjRefIdeal.defs _ _).mono (fun _ h c => ?_) (FProjRefIdeal.Value.run (F := Ideal) m' g')⟩
  · obtain ⟨o, rest⟩ := h c
    exact ⟨o.trans (out m c), rest⟩
  · obtain ⟨a0, a1⟩ := hagree c
    obtain ⟨o, rest⟩ := h c
    refine ⟨o.trans ((FProjRefIdeal.Read.val_main_v3_eq _ _).trans (Eq.trans ?_ (ref_eq m c))), rest⟩
    rw [a0, a1]

end Cert.FProjIdeal.Product

end
-- ==== Proof.GateBwd.Equation.lean ====
/-
  The gradients of the second layer's gate: in the activation, in the product under the sigmoid, in the other branch and,
  summed over the rows a block of 256 at a time, in the bias.
-/
module

public import proofs.«01_k».proof.Defs
public import proofs.«01_k».proof.Proof.Common.Join
public import proofs.«01_k».proof.Proof.Common.Gates
public import proofs.«01_k».proof.Proof.Common.GeluSlope
public import proofs.«01_k».proof.Proof.Common.Gelu
public import proofs.«01_k».proof.Proof.Gen.GateBwdIdeal.Value
public import proofs.«01_k».proof.Proof.Gen.GateBwdRefIdeal.Run
public import proofs.«01_k».proof.Proof.Gen.GateBwdRefIdeal.Read
public import proofs.«01_k».proof.Proof.Gen.Pre_finite_s5_gate
public import Idealize.ShloMosaic.Lib.Pointwise
public import Idealize.ShloMosaic.Lib.Pipeline.ValueKit
public import Idealize.ShloMosaic.Lib.StableHlo.ReadAt

@[expose] public section

set_option maxRecDepth 16384

noncomputable section

namespace Cert.GateBwdIdeal.Product

open Idealize.ShloMosaic Idealize.ShloMosaic.TcCoe Idealize.SL.Sem
open Cert.GateBwdIdeal Cert.GateBwdIdeal.Gen Cert.Product

/-- The constant one the body hands on. -/
abbrev one : EReal := FloatOps.ofBits (F := Ideal) .f32 0x3F800000#32

section
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S256x2048 .f32) (h3 : a3.IsWhole)
  (a4 : Memref sig .tc .vmem S256x2048 .f32) (h4 : a4.IsWhole) (a5 : Memref sig .tc .vmem S1x2048 .f32) (h5 : a5.IsWhole)
  (a6 : Memref sig .tc .vmem S256x2048 .f32) (h6 : a6.IsWhole) (a7 : Memref sig .tc .vmem S256x2048 .bf16) (h7 : a7.IsWhole)
  (a8 : Memref sig .tc .vmem S256x2048 .bf16) (h8 : a8.IsWhole) (a9 : Memref sig .tc .vmem S1x2048 .f32) (h9 : a9.IsWhole)
  (d y a z : Vec Ideal S256x2048 .f32) (b : Vec Ideal S1x2048 .f32)

/-- What the body leaves at the first point. -/
theorem first_y (c0 : cond0_0 i) (c1 : ¬cond0_1 i) :
    out0_A_5 c i a1 h1 a2 h2 a3 h3 a4 h4 a5 h5 a6 h6 a7 h7 a8 h8 a9 h9 c0 c1 d y a z b = k0_pay2 (k0_pay8 a b) (k0_pay9 d z) := by
  unfold out0_A_5
  rw [View.read_writes_eq_canon _ _ _ (cover0_A_5 c i a1 h1 a2 h2 a3 h3 a4 h4 a5 h5 a6 h6 a7 h7 a8 h8 a9 h9 c0 c1 d y a z b)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.cst_18,
    View.readAt_eq_ld, h1.read_unread, h2.read_unread, h3.read_unread, h4.read_unread, h5.read_unread,
    View.ld_unit_zero (S := S256x2048) hz, View.ld_unit_zero (S := S1x2048) hz]

theorem first_a (c0 : cond0_0 i) (c1 : ¬cond0_1 i) :
    out0_A_6 c i a1 h1 a2 h2 a3 h3 a4 h4 a5 h5 a6 h6 a7 h7 a8 h8 a9 h9 c0 c1 d y a z b
      = k0_pay4 (k0_pay8 a b) (k0_pay10 d y a z b) one := by
  unfold out0_A_6
  rw [View.read_writes_eq_canon _ _ _ (cover0_A_6 c i a1 h1 a2 h2 a3 h3 a4 h4 a5 h5 a6 h6 a7 h7 a8 h8 a9 h9 c0 c1 d y a z b)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.cst_18,
    View.readAt_eq_ld, h1.read_unread, h2.read_unread, h3.read_unread, h4.read_unread, h5.read_unread,
    View.ld_unit_zero (S := S256x2048) hz, View.ld_unit_zero (S := S1x2048) hz]

theorem first_z (c0 : cond0_0 i) (c1 : ¬cond0_1 i) :
    out0_A_7 c i a1 h1 a2 h2 a3 h3 a4 h4 a5 h5 a6 h6 a7 h7 a8 h8 a9 h9 c0 c1 d y a z b
      = k0_pay5 d z (k0_pay7 y) (k0_pay8 a b) := by
  unfold out0_A_7
  rw [View.read_writes_eq_canon _ _ _ (cover0_A_7 c i a1 h1 a2 h2 a3 h3 a4 h4 a5 h5 a6 h6 a7 h7 a8 h8 a9 h9 c0 c1 d y a z b)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.cst_18,
    View.readAt_eq_ld, h1.read_unread, h2.read_unread, h3.read_unread, h4.read_unread, h5.read_unread,
    View.ld_unit_zero (S := S256x2048) hz, View.ld_unit_zero (S := S1x2048) hz]

theorem first_b (c0 : cond0_0 i) (c1 : ¬cond0_1 i) :
    out0_A_8 c i a1 h1 a2 h2 a3 h3 a4 h4 a5 h5 a6 h6 a7 h7 a8 h8 a9 h9 c0 c1 d y a z b
      = k0_pay3 (k0_pay8 a b) (k0_pay10 d y a z b) one := by
  unfold out0_A_8
  rw [View.read_writes_eq_canon _ _ _ (cover0_A_8 c i a1 h1 a2 h2 a3 h3 a4 h4 a5 h5 a6 h6 a7 h7 a8 h8 a9 h9 c0 c1 d y a z b)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.cst_18,
    View.readAt_eq_ld, h1.read_unread, h2.read_unread, h3.read_unread, h4.read_unread, h5.read_unread,
    View.ld_unit_zero (S := S256x2048) hz, View.ld_unit_zero (S := S1x2048) hz]

/-- What it leaves at a later one: the same, the bias' gradient added to what the point before left. -/
theorem later_y (c0 : ¬cond0_0 i) (c1 : cond0_1 i) (w : Vec Ideal S1x2048 .f32) :
    out0_B_5 c i a1 h1 a2 h2 a3 h3 a4 h4 a5 h5 a6 h6 a7 h7 a8 h8 a9 h9 c0 c1 d y a z b w = k0_pay2 (k0_pay8 a b) (k0_pay9 d z) := by
  unfold out0_B_5
  rw [View.read_writes_eq_canon _ _ _ (cover0_B_5 c i a1 h1 a2 h2 a3 h3 a4 h4 a5 h5 a6 h6 a7 h7 a8 h8 a9 h9 c0 c1 d y a z b w)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.cst_18,
    View.readAt_eq_ld, h1.read_unread, h2.read_unread, h3.read_unread, h4.read_unread, h5.read_unread,
    View.ld_unit_zero (S := S256x2048) hz, View.ld_unit_zero (S := S1x2048) hz]

theorem later_a (c0 : ¬cond0_0 i) (c1 : cond0_1 i) (w : Vec Ideal S1x2048 .f32) :
    out0_B_6 c i a1 h1 a2 h2 a3 h3 a4 h4 a5 h5 a6 h6 a7 h7 a8 h8 a9 h9 c0 c1 d y a z b w
      = k0_pay4 (k0_pay8 a b) (k0_pay10 d y a z b) one := by
  unfold out0_B_6
  rw [View.read_writes_eq_canon _ _ _ (cover0_B_6 c i a1 h1 a2 h2 a3 h3 a4 h4 a5 h5 a6 h6 a7 h7 a8 h8 a9 h9 c0 c1 d y a z b w)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.cst_18,
    View.readAt_eq_ld, h1.read_unread, h2.read_unread, h3.read_unread, h4.read_unread, h5.read_unread,
    View.ld_unit_zero (S := S256x2048) hz, View.ld_unit_zero (S := S1x2048) hz]

theorem later_z (c0 : ¬cond0_0 i) (c1 : cond0_1 i) (w : Vec Ideal S1x2048 .f32) :
    out0_B_7 c i a1 h1 a2 h2 a3 h3 a4 h4 a5 h5 a6 h6 a7 h7 a8 h8 a9 h9 c0 c1 d y a z b w
      = k0_pay5 d z (k0_pay7 y) (k0_pay8 a b) := by
  unfold out0_B_7
  rw [View.read_writes_eq_canon _ _ _ (cover0_B_7 c i a1 h1 a2 h2 a3 h3 a4 h4 a5 h5 a6 h6 a7 h7 a8 h8 a9 h9 c0 c1 d y a z b w)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.cst_18,
    View.readAt_eq_ld, h1.read_unread, h2.read_unread, h3.read_unread, h4.read_unread, h5.read_unread,
    View.ld_unit_zero (S := S256x2048) hz, View.ld_unit_zero (S := S1x2048) hz]

theorem later_b (c0 : ¬cond0_0 i) (c1 : cond0_1 i) (w : Vec Ideal S1x2048 .f32) :
    out0_B_8 c i a1 h1 a2 h2 a3 h3 a4 h4 a5 h5 a6 h6 a7 h7 a8 h8 a9 h9 c0 c1 d y a z b w
      = k0_pay6 (k0_pay8 a b) (k0_pay10 d y a z b) one w := by
  unfold out0_B_8
  rw [View.read_writes_eq_canon _ _ _ (cover0_B_8 c i a1 h1 a2 h2 a3 h3 a4 h4 a5 h5 a6 h6 a7 h7 a8 h8 a9 h9 c0 c1 d y a z b w)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.cst_18,
    View.readAt_eq_ld, h1.read_unread, h2.read_unread, h3.read_unread, h4.read_unread, h5.read_unread, h9.read_unread,
    View.ld_unit_zero (S := S256x2048) hz, View.ld_unit_zero (S := S1x2048) hz]

/-- The product's sigmoid, the gradient beside the other branch's gate and the activation. -/
theorem sig_at (r : Fin 256) (s : Fin 2048) : k0_pay8 (F := Ideal) a b (ix2 r s) = gate (a (ix2 r s) + b (ix2 0 s)) := by
  rw [gate, ← zero_sub, ← Ideal.ofBits_one_f32, ← Ideal.ofBits_zero .f32]
  pointwise [k0_pay8]

theorem silu_at (r : Fin 256) (s : Fin 2048) :
    k0_pay9 (F := Ideal) d z (ix2 r s) = d (ix2 r s) * (z (ix2 r s) * gate (z (ix2 r s))) := by
  rw [gate, ← zero_sub, ← Ideal.ofBits_one_f32, ← Ideal.ofBits_zero .f32]
  rfl

theorem act_at (r : Fin 256) (s : Fin 2048) : k0_pay7 (F := Ideal) y (ix2 r s) = gelu (y (ix2 r s)) := by
  rw [← gelu_eq]
  rfl

/-- An entry of each gradient from the entries it is made of. -/
def gy (d a z : EReal) : EReal := d * (z * gate z) * gate a
def ga (d y a z : EReal) : EReal := d * (z * gate z) * gelu y * gate a * (1 - gate a)
def gz (d y a z : EReal) : EReal := d * (gelu y * gate a) * (gate z * (1 + z * (1 - gate z)))

theorem y_pay (r : Fin 256) (s : Fin 2048) : k0_pay2 (F := Ideal) (k0_pay8 a b) (k0_pay9 d z) (ix2 r s)
    = gy (d (ix2 r s)) (a (ix2 r s) + b (ix2 0 s)) (z (ix2 r s)) := by
  rw [gy, ← sig_at, ← silu_at]
  rfl

theorem a_pay (r : Fin 256) (s : Fin 2048) : k0_pay1 (F := Ideal) (k0_pay8 a b) (k0_pay10 d y a z b) one (ix2 r s)
    = ga (d (ix2 r s)) (y (ix2 r s)) (a (ix2 r s) + b (ix2 0 s)) (z (ix2 r s)) := by
  rw [ga, ← sig_at, ← silu_at, ← act_at, ← Ideal.ofBits_one_f32]
  rfl

theorem z_pay (r : Fin 256) (s : Fin 2048) : k0_pay5 (F := Ideal) d z (k0_pay7 y) (k0_pay8 a b) (ix2 r s)
    = gz (d (ix2 r s)) (y (ix2 r s)) (a (ix2 r s) + b (ix2 0 s)) (z (ix2 r s)) := by
  rw [gz, ← sig_at, ← act_at, gate, ← zero_sub, ← Ideal.ofBits_one_f32, ← Ideal.ofBits_zero .f32]
  rfl

theorem b_pay (g p : FVec Ideal S256x2048 .f32) (e : EReal) (s : Fin 2048) :
    k0_pay3 (F := Ideal) g p e (ix2 0 s) = ∑ r : Fin 256, k0_pay1 (F := Ideal) g p e (ix2 r s) := by
  pointwise [k0_pay3]

theorem b_next (g p : FVec Ideal S256x2048 .f32) (e : EReal) (w : Vec Ideal S1x2048 .f32) (s : Fin 2048) :
    k0_pay6 (F := Ideal) g p e w (ix2 0 s) = w (ix2 0 s) + k0_pay3 (F := Ideal) g p e (ix2 0 s) := by
  pointwise [k0_pay6]

end

/-- Where each window's block lies at a point. -/
theorem idx : ∀ t : Fin grid0.N, win0_0.index t = ![t.val, 0] ∧ win0_1.index t = ![t.val, 0] ∧ win0_2.index t = ![t.val, 0]
    ∧ win0_3.index t = ![t.val, 1] ∧ win0_4.index t = ![0, 0] ∧ win0_5.index t = ![t.val, 0] ∧ win0_6.index t = ![t.val, 0]
    ∧ win0_7.index t = ![t.val, 0] ∧ win0_8.index t = ![0, 0] := by decide +kernel

theorem lt_N (t : Fin cfg0.N) : t.val < 16 := lt_of_lt_of_eq t.isLt N_0

/-- The row of an entry of a point's block, and the other branch's column at a column. -/
abbrev row (t : Fin cfg0.N) (r : Fin 256) : Fin 4096 := ⟨t.val * 256 + r.val, by have := lt_N t; omega⟩
abbrev half (s : Fin 2048) : Fin 4096 := ⟨2048 + s.val, by omega⟩

theorem d_emb (t : Fin cfg0.N) (r : Fin 256) (s : Fin 2048) : ((cfg0.win 0).blk t).view.emb (ix2 r s) = ix2 (row t r) s := by
  blk_ext [idx t]

theorem y_emb (t : Fin cfg0.N) (r : Fin 256) (s : Fin 2048) : ((cfg0.win 1).blk t).view.emb (ix2 r s) = ix2 (row t r) s := by
  blk_ext [idx t]

theorem a_emb (t : Fin cfg0.N) (r : Fin 256) (s : Fin 2048) : ((cfg0.win 2).blk t).view.emb (ix2 r s) = ix2 (row t r) s := by
  blk_ext [idx t]

theorem z_emb (t : Fin cfg0.N) (r : Fin 256) (s : Fin 2048) :
    ((cfg0.win 3).blk t).view.emb (ix2 r s) = ix2 (row t r) (half s) := by
  blk_ext [idx t]

theorem b_emb (t : Fin cfg0.N) (s : Fin 2048) : ((cfg0.win 4).blk t).view.emb (ix2 (0 : Fin 1) s) = ix2 (0 : Fin 1) s := by
  blk_ext [idx t]

theorem dy_emb (t : Fin cfg0.N) (r : Fin 256) (s : Fin 2048) : ((cfg0.win 5).blk t).view.emb (ix2 r s) = ix2 (row t r) s := by
  blk_ext [idx t]

theorem da_emb (t : Fin cfg0.N) (r : Fin 256) (s : Fin 2048) : ((cfg0.win 6).blk t).view.emb (ix2 r s) = ix2 (row t r) s := by
  blk_ext [idx t]

theorem dz_emb (t : Fin cfg0.N) (r : Fin 256) (s : Fin 2048) : ((cfg0.win 7).blk t).view.emb (ix2 r s) = ix2 (row t r) s := by
  blk_ext [idx t]

theorem db_emb (t : Fin cfg0.N) (s : Fin 2048) : ((cfg0.win 8).blk t).view.emb (ix2 (0 : Fin 1) s) = ix2 (0 : Fin 1) s := by
  blk_ext [idx t]

variable (m : (ℓ : Loc nD τ sig) → Buf (Elt Ideal) ℓ) (c : Dev nD)

/-- The arguments, which are the operands of the call. -/
abbrev A0 : (⟨S4096x2048, .f32⟩ : BufTy).Contents (Elt Ideal) := m ((c.tc : Thread nD τ).loc main_arg0)
abbrev A1 : (⟨S4096x2048, .f32⟩ : BufTy).Contents (Elt Ideal) := m ((c.tc : Thread nD τ).loc main_arg1)
abbrev A2 : (⟨S4096x2048, .f32⟩ : BufTy).Contents (Elt Ideal) := m ((c.tc : Thread nD τ).loc main_arg2)
abbrev A3 : (⟨S4096x4096, .f32⟩ : BufTy).Contents (Elt Ideal) := m ((c.tc : Thread nD τ).loc main_arg3)
abbrev A4 : (⟨S1x2048, .f32⟩ : BufTy).Contents (Elt Ideal) := m ((c.tc : Thread nD τ).loc main_arg4)

/-- The biased product and the other branch at an entry. -/
def pre (i : S4096x2048.Idx) : EReal := A2 m c i + A4 m c (ix2 0 (i 1))
def z (i : S4096x2048.Idx) : EReal := A3 m c (ix2 (i 0) (half (i 1)))

/-- The four gradients. -/
def dy (i : S4096x2048.Idx) : EReal := gy (A0 m c i) (pre m c i) (z m c i)
def da (i : S4096x2048.Idx) : EReal := ga (A0 m c i) (A1 m c i) (pre m c i) (z m c i)
def dz (i : S4096x2048.Idx) : EReal := gz (A0 m c i) (A1 m c i) (pre m c i) (z m c i)
def db (i : S1x2048.Idx) : EReal := ∑ r : Fin 4096, da m c (ix2 r (i 1))

theorem d_at (t : Fin cfg0.N) (r : Fin 256) (s : Fin 2048) : (iblk m c 0 t : FVec Ideal S256x2048 .f32) (ix2 r s)
    = A0 m c (ix2 (row t r) s) := by
  rw [← d_emb t r s, show A0 m c = V m c main_arg0 from (V_main_arg0 m c).symm]; rfl

theorem y_at (t : Fin cfg0.N) (r : Fin 256) (s : Fin 2048) : (iblk m c 1 t : FVec Ideal S256x2048 .f32) (ix2 r s)
    = A1 m c (ix2 (row t r) s) := by
  rw [← y_emb t r s, show A1 m c = V m c main_arg1 from (V_main_arg1 m c).symm]; rfl

theorem a_at (t : Fin cfg0.N) (r : Fin 256) (s : Fin 2048) : (iblk m c 2 t : FVec Ideal S256x2048 .f32) (ix2 r s)
    = A2 m c (ix2 (row t r) s) := by
  rw [← a_emb t r s, show A2 m c = V m c main_arg2 from (V_main_arg2 m c).symm]; rfl

theorem z_at (t : Fin cfg0.N) (r : Fin 256) (s : Fin 2048) : (iblk m c 3 t : FVec Ideal S256x2048 .f32) (ix2 r s)
    = z m c (ix2 (row t r) s) := by
  refine Eq.trans ?_ (congrArg (A3 m c) (z_emb t r s))
  rw [show A3 m c = V m c main_arg3 from (V_main_arg3 m c).symm]; rfl

theorem b_at (t : Fin cfg0.N) (s : Fin 2048) : (iblk m c 4 t : FVec Ideal S1x2048 .f32) (ix2 0 s) = A4 m c (ix2 0 s) := by
  refine Eq.trans ?_ (congrArg (A4 m c) (b_emb t s))
  rw [show A4 m c = V m c main_arg4 from (V_main_arg4 m c).symm]; rfl

/-- The gradient under the sigmoid at an entry of a point's block. -/
theorem da_at (t : Fin cfg0.N) (r : Fin 256) (s : Fin 2048) :
    k0_pay1 (F := Ideal) (k0_pay8 (iblk m c 2 t) (iblk m c 4 t))
      (k0_pay10 (iblk m c 0 t) (iblk m c 1 t) (iblk m c 2 t) (iblk m c 3 t) (iblk m c 4 t)) one (ix2 r s)
      = da m c (ix2 (row t r) s) := by
  rw [a_pay, d_at, y_at, a_at, z_at, b_at]
  rfl

/-- A point's part of the bias' gradient. -/
theorem part_at (t : Fin cfg0.N) (s : Fin 2048) :
    k0_pay3 (F := Ideal) (k0_pay8 (iblk m c 2 t) (iblk m c 4 t))
      (k0_pay10 (iblk m c 0 t) (iblk m c 1 t) (iblk m c 2 t) (iblk m c 3 t) (iblk m c 4 t)) one (ix2 0 s)
      = ∑ r : Fin 256, da m c (ix2 (row t r) s) :=
  (b_pay _ _ _ s).trans (Finset.sum_congr rfl fun r _ => da_at m c t r s)

/-- The arrays the call leaves. -/
theorem out_y : (dats m 0 c).arrAt 5 cfg0.N = dy m c := by
  refine (dats m 0 c).arrAt_eq_of_covers 5 _ (by decide +kernel) fun t hf y => ?_
  blk_simp
  obtain ⟨r, s, rfl⟩ : ∃ (r : Fin 256) (s : Fin 2048), y = ix2 r s := ⟨y 0, y 1, (ix2_eta y).symm⟩
  have hN := lt_N t
  refine Eq.trans ?_ (congrArg (dy m c) (dy_emb t r s).symm)
  have e : k0_pay2 (F := Ideal) (k0_pay8 (iblk m c 2 t) (iblk m c 4 t)) (k0_pay9 (iblk m c 0 t) (iblk m c 3 t)) (ix2 r s)
      = dy m c (ix2 (row t r) s) := by
    rw [y_pay, d_at, a_at, z_at, b_at]; rfl
  rw [after0_5]
  by_cases h : t.val % 16 = 0
  · rw [outsAt0_A m c t h (by omega)]
    dsimp only
    rw [first_y]; exact e
  · rw [outsAt0_B m c t h (by omega)]
    dsimp only
    rw [later_y]; exact e

theorem out_a : (dats m 0 c).arrAt 6 cfg0.N = da m c := by
  refine (dats m 0 c).arrAt_eq_of_covers 6 _ (by decide +kernel) fun t hf y => ?_
  blk_simp
  obtain ⟨r, s, rfl⟩ : ∃ (r : Fin 256) (s : Fin 2048), y = ix2 r s := ⟨y 0, y 1, (ix2_eta y).symm⟩
  have hN := lt_N t
  refine Eq.trans ?_ (congrArg (da m c) (da_emb t r s).symm)
  rw [after0_6]
  by_cases h : t.val % 16 = 0
  · rw [outsAt0_A m c t h (by omega)]
    dsimp only
    rw [first_a]; exact da_at m c t r s
  · rw [outsAt0_B m c t h (by omega)]
    dsimp only
    rw [later_a]; exact da_at m c t r s

theorem out_z : (dats m 0 c).arrAt 7 cfg0.N = dz m c := by
  refine (dats m 0 c).arrAt_eq_of_covers 7 _ (by decide +kernel) fun t hf y => ?_
  blk_simp
  obtain ⟨r, s, rfl⟩ : ∃ (r : Fin 256) (s : Fin 2048), y = ix2 r s := ⟨y 0, y 1, (ix2_eta y).symm⟩
  have hN := lt_N t
  refine Eq.trans ?_ (congrArg (dz m c) (dz_emb t r s).symm)
  have e : k0_pay5 (F := Ideal) (iblk m c 0 t) (iblk m c 3 t) (k0_pay7 (iblk m c 1 t)) (k0_pay8 (iblk m c 2 t) (iblk m c 4 t)) (ix2 r s)
      = dz m c (ix2 (row t r) s) := by
    rw [z_pay, d_at, y_at, a_at, z_at, b_at]; rfl
  rw [after0_7]
  by_cases h : t.val % 16 = 0
  · rw [outsAt0_A m c t h (by omega)]
    dsimp only
    rw [first_z]; exact e
  · rw [outsAt0_B m c t h (by omega)]
    dsimp only
    rw [later_z]; exact e

/-- The bias' gradient after a point: the sum over the blocks so far. -/
theorem acc (s : Fin 2048) (n : ℕ) (hn : n < cfg0.N) : (outsAt0 m c n hn).2.2.2 (ix2 0 s)
    = ∑ k ∈ Finset.range (n + 1), if h : k < cfg0.N then ∑ r : Fin 256, da m c (ix2 (row ⟨k, h⟩ r) s) else 0 := by
  induction n with
  | zero =>
    rw [Finset.sum_range_one, dif_pos hn, outsAt0_A m c ⟨0, hn⟩ rfl (by simp)]
    dsimp only
    rw [first_b]; exact part_at m c ⟨0, hn⟩ s
  | succ n ih =>
    have hN := lt_N ⟨n + 1, hn⟩
    rw [Finset.sum_range_succ, dif_pos hn, ← ih (Nat.lt_of_succ_lt hn),
      outsAt0_B m c ⟨n + 1, hn⟩ (by dsimp only at hN ⊢; omega) (by dsimp only; omega)]
    dsimp only
    rw [later_b]
    exact (b_next _ _ _ _ s).trans (congrArg _ (part_at m c ⟨n + 1, hn⟩ s))

theorem out_b : (dats m 0 c).arrAt 8 cfg0.N = db m c := by
  refine (dats m 0 c).arrAt_eq_of_covers 8 _ (by decide +kernel) fun t hf y => ?_
  blk_simp
  obtain ⟨q, s, rfl⟩ : ∃ (q : Fin 1) (s : Fin 2048), y = ix2 q s := ⟨y 0, y 1, (ix2_eta y).symm⟩
  obtain rfl := Subsingleton.elim q 0
  refine Eq.trans ?_ (congrArg (db m c) (db_emb t s).symm)
  have hN := lt_N t
  have h15 : t.val = 15 := by have := (flush0_8 t).mp hf; omega
  rw [after0_8]
  refine (acc m c s t.val t.isLt).trans ?_
  rw [h15, Finset.sum_range]
  refine Eq.trans ?_ (Fin.sum_univ_tiles 16 256 (by norm_num) (fun r : Fin 4096 => da m c (ix2 r s))).symm
  refine Finset.sum_congr rfl fun k _ => ?_
  rw [dif_pos (lt_of_lt_of_eq k.isLt N_0.symm)]

open GateBwdRefIdeal.Read

/-- The reference's activation, its two sigmoids and the other branch. -/
theorem ref_gelu (i : S4096x2048.Idx) : val_main_v12 (F := Ideal) (A1 m c) i = gelu (A1 m c i) := by
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply]
  rfl

theorem ref_sig (i : S4096x2048.Idx) : val_main_v21 (F := Ideal) (A2 m c) (A4 m c) i = gate (pre m c i) := by
  have e : (idx_main_v14 i : S1x2048.Idx) = ix2 0 (i 1) := funext fun a => match a with
    | ⟨0, _⟩ => rfl
    | ⟨1, _⟩ => rfl
  rw [gate, ← Ideal.ofBits_one_f32, val_main_v21_apply, val_main_v20_apply, val_main_v19_apply, val_main_v18_apply,
    val_main_v17_apply, val_main_v16_apply, val_main_v15_apply, val_main_v14_apply, e]
  rfl

theorem ref_z (i : S4096x2048.Idx) : val_main_v13 (F := Ideal) (A3 m c) i = z m c i := by
  rw [val_main_v13_apply]
  exact congrArg (A3 m c) (funext fun a => match a with
      | ⟨0, _⟩ => rfl
      | ⟨1, _⟩ => rfl)

theorem ref_gate (i : S4096x2048.Idx) : val_main_v26_2 (F := Ideal) (A3 m c) i = gate (z m c i) := by
  rw [← ref_z m c i, gate, ← Ideal.ofBits_one_f32, val_main_v26_2_apply, val_main_call0_v3_apply, val_main_call0_v4_apply,
    val_main_call0_v2_apply]
  rfl

theorem ref_y : val_main_v32 (F := Ideal) (A0 m c) (A2 m c) (A3 m c) (A4 m c) = dy m c := by
  funext i
  rw [dy, gy, ← ref_sig m c i, ← ref_gate m c i, ← ref_z m c i]
  rfl

theorem ref_a (i : S4096x2048.Idx) : val_main_v33 (F := Ideal) (A0 m c) (A1 m c) (A2 m c) (A3 m c) (A4 m c) i = da m c i := by
  have e : val_main_v33 (F := Ideal) (A0 m c) (A1 m c) (A2 m c) (A3 m c) (A4 m c) i
      = gelu (A1 m c i) * (A0 m c i * (z m c i * gate (z m c i))) * (gate (pre m c i) * (1 - gate (pre m c i))) := by
    rw [← ref_sig m c i, ← ref_gate m c i, ← ref_z m c i, ← ref_gelu m c i, ← Ideal.ofBits_one_f32]
    rfl
  rw [e, da, ga, mul_comm (gelu _), mul_assoc _ (gate (pre m c i))]

theorem ref_b : val_main_v35 (F := Ideal) (A0 m c) (A1 m c) (A2 m c) (A3 m c) (A4 m c) = db m c := by
  funext i
  rw [val_main_v35_apply, val_main_v34_apply, val_main_cst_6_apply, Ideal.ofBits_def, Ideal.ofBits_zero .f32, zero_add]
  refine Finset.sum_congr rfl fun k _ => (ref_a m c _).trans (congrArg (da m c) (funext fun a => ?_))
  match a with
  | ⟨0, _⟩ => rfl
  | ⟨1, _⟩ => exact Fin.ext (by
      have h : (i 0).val < 1 := (i 0).isLt
      show (i 0).val * 2048 + (i 1).val = (i 1).val
      omega)

/-- The activation of a real number and the sigmoid of any are real. -/
theorem gelu_real (y : ℝ) : ∃ g : ℝ, gelu (y : EReal) = (g : EReal) := by
  have tanh_real (x : EReal) : ∃ t : ℝ, Ideal.tanh x = (t : EReal) := by
    induction x with
    | bot => exact ⟨-1, by simp⟩
    | top => exact ⟨1, by simp⟩
    | coe x => exact ⟨_, Ideal.tanh_coe x⟩
  unfold gelu
  obtain ⟨t, ht⟩ := tanh_real (Ideal.ofBits .f32 0x3F4C422A#32
    * ((y : EReal) + Ideal.ofBits .f32 0x3D372713#32 * ((y : EReal) * (y : EReal) * (y : EReal))))
  refine ⟨y * (1 / 2 * (1 + t)), ?_⟩
  rw [ht, ofBits_half, Ideal.ofBits_one_f32]
  norm_cast

theorem gate_real (x : EReal) : ∃ g : ℝ, gate x = (g : EReal) := by
  induction x with
  | bot => exact ⟨0, gate_bot⟩
  | top => exact ⟨1, gate_top⟩
  | coe x => exact ⟨_, gate_coe x⟩

/-- From a real gradient and a real activation the reference's gradient in the other branch is the call's. -/
theorem ref_dz (h0 : ∀ i, A0 m c i = ((A0 m c i).toReal : EReal)) (h1 : ∀ i, A1 m c i = ((A1 m c i).toReal : EReal)) :
    val_main_v30 (F := Ideal) (A0 m c) (A1 m c) (A2 m c) (A3 m c) (A4 m c) = dz m c := by
  funext i
  obtain ⟨g, hg⟩ := gelu_real (A1 m c i).toReal
  obtain ⟨a, ha⟩ := gate_real (pre m c i)
  have e : val_main_v30 (F := Ideal) (A0 m c) (A1 m c) (A2 m c) (A3 m c) (A4 m c) i
      = gelu (A1 m c i) * gate (pre m c i) * A0 m c i * gate (z m c i)
        + z m c i * (gelu (A1 m c i) * gate (pre m c i) * A0 m c i) * (gate (z m c i) * (1 - gate (z m c i))) := by
    rw [← ref_sig m c i, ← ref_gate m c i, ← ref_z m c i, ← ref_gelu m c i, ← Ideal.ofBits_one_f32]
    rfl
  rw [e, dz, gz, ha, h1 i, hg, h0 i, ← EReal.coe_mul, ← EReal.coe_mul, ← EReal.coe_mul, silu_slope, mul_comm (A0 m c i).toReal]

/-- From arguments that agree, the gradient and the activation real numbers, both programs end with the same four
gradients and their arguments unchanged. -/
theorem algebraic : Cert.algebraic_GateBwdIdeal_GateBwdRefIdeal_pre_finite_s5_gate := by
  intro m g m' g' hpre hagree
  refine ⟨fun c => dy m c, fun c => da m c, fun c => dz m c, fun c => db m c,
    (θ_run defs _ _).mono (fun _ h c => ?_) (Value.run_blocks m g),
    (θ_run GateBwdRefIdeal.defs _ _).mono (fun _ h c => ?_) (GateBwdRefIdeal.Value.run (F := Ideal) m' g')⟩
  · obtain ⟨o5, o6, o7, o8, rest⟩ := h c
    exact ⟨o5.trans (out_y m c), o6.trans (out_a m c), o7.trans (out_z m c), o8.trans (out_b m c), rest⟩
  · obtain ⟨a0, a1, a2, a3, a4⟩ := hagree c
    obtain ⟨p0, p1⟩ := hpre c
    obtain ⟨o5, o6, o7, o8, rest⟩ := h c
    refine ⟨o5.trans ((val_main_v32_eq _ _ _ _).trans (Eq.trans ?_ (ref_y m c))),
      o6.trans ((val_main_v36_eq _ _ _ _ _).trans (Eq.trans ?_ (funext fun i => ref_a m c i))),
      o7.trans ((val_main_v37_eq _ _ _ _ _).trans (Eq.trans ?_ (ref_dz m c (fun i => real_of_flag (congrFun p0 i))
        (fun i => real_of_flag (congrFun p1 i))))),
      o8.trans ((val_main_v35_eq _ _ _ _ _).trans (Eq.trans ?_ (ref_b m c))), rest⟩
    · rw [a0, a2, a3, a4]
    · rw [a0, a1, a2, a3, a4]; rfl
    · rw [a0, a1, a2, a3, a4]; rfl
    · rw [a0, a1, a2, a3, a4]

end Cert.GateBwdIdeal.Product

end
-- ==== Proof.Common.Cumsum.lean ====
/-
  The running sums of a matrix' columns: as the host's sum over a window of the whole height, and as the block products
  with a triangle of ones.
-/
module

public import proofs.«01_k».proof.Proof.Common.Reals
public import Idealize.ShloMosaic.Lib.Routing.OpsOne

@[expose] public section

noncomputable section

namespace Cert.Product

open Idealize.ShloMosaic Cert.Att

/-- A fold that adds is the sum. -/
theorem foldl_add {N : ℕ} (g : Fin N → EReal) : (List.finRange N).foldl (fun r n => r + g n) 0 = ∑ n, g n := by
  rw [Fin.sum_univ_def, List.sum_eq_foldl, List.foldl_map]

/-- The window's positions that meet rows, row by row. -/
theorem window_sum (f : ℕ → EReal) (j : ℕ) (hj : j < 4096) :
    ∑ n ∈ Finset.range 4096, (if 4095 ≤ j + n then f (j + n - 4095) else 0) = ∑ i ∈ Finset.range (j + 1), f i := by
  rw [← Finset.sum_filter]
  refine Finset.sum_nbij' (fun n => j + n - 4095) (fun i => i + 4095 - j) ?_ ?_ ?_ ?_ ?_
  all_goals intro a ha
  all_goals simp only [Finset.mem_filter, Finset.mem_range] at ha ⊢
  all_goals first | omega | skip

/-- The sum of the entries up to a row's. -/
def upTo (f : Fin 4096 → EReal) (j : Fin 4096) : EReal := ∑ i : Fin 4096, if i ≤ j then f i else 0

theorem range_upTo (f : Fin 4096 → EReal) (j : Fin 4096) :
    ∑ i ∈ Finset.range (j.val + 1), (if h : i < 4096 then f ⟨i, h⟩ else 0) = upTo f j := by
  unfold upTo
  rw [show (∑ i : Fin 4096, if i ≤ j then f i else 0)
      = ∑ i : Fin 4096, (fun n : ℕ => if n ≤ j.val then (if h : n < 4096 then f ⟨n, h⟩ else 0) else 0) i.val from
    Finset.sum_congr rfl fun i _ => by
      show _ = if i.val ≤ j.val then (if h : i.val < 4096 then f ⟨i.val, h⟩ else 0) else 0
      rw [dif_pos i.isLt]; rfl,
    Fin.sum_univ_eq_sum_range (fun n : ℕ => if n ≤ j.val then (if h : n < 4096 then f ⟨n, h⟩ else 0) else 0) 4096, ← Finset.sum_filter]
  refine Finset.sum_congr (Finset.ext fun n => ?_) fun _ _ => rfl
  have := j.isLt
  simp only [Finset.mem_range, Finset.mem_filter]
  omega

/-- The entries before a row, an entry past the last row being zero. -/
def before (f : Fin 4096 → EReal) (n : ℕ) : EReal := ∑ i ∈ Finset.range n, (if h : i < 4096 then f ⟨i, h⟩ else 0)

theorem before_zero (f : Fin 4096 → EReal) : before f 0 = 0 := Finset.sum_range_zero _

/-- The sum up to a row of a block of 512: the block's rows up to it on top of the blocks before. -/
theorem upTo_tile (f : Fin 4096 → EReal) (t : ℕ) (ht : t < 8) (r : Fin 512) :
    (∑ k : Fin 512, if k.val ≤ r.val then f ⟨t * 512 + k.val, by omega⟩ else 0) + before f (t * 512)
      = upTo f ⟨t * 512 + r.val, by omega⟩ := by
  rw [← range_upTo, add_assoc, Finset.sum_range_add, add_comm]
  refine congrArg (before f (t * 512) + ·) ?_
  rw [show (∑ k : Fin 512, if k.val ≤ r.val then f ⟨t * 512 + k.val, by omega⟩ else 0)
      = ∑ k : Fin 512, (fun n : ℕ => if n ≤ r.val then (if h : t * 512 + n < 4096 then f ⟨t * 512 + n, h⟩ else 0) else 0) k.val from
    Finset.sum_congr rfl fun k _ => by
      show _ = if k.val ≤ r.val then (if h : t * 512 + k.val < 4096 then f ⟨t * 512 + k.val, h⟩ else 0) else 0
      rw [dif_pos (by omega)],
    Fin.sum_univ_eq_sum_range (fun n : ℕ => if n ≤ r.val then (if h : t * 512 + n < 4096 then f ⟨t * 512 + n, h⟩ else 0) else 0) 512,
    ← Finset.sum_filter]
  refine Finset.sum_congr (Finset.ext fun n => ?_) fun _ _ => rfl
  have := r.isLt
  simp only [Finset.mem_range, Finset.mem_filter]
  omega

theorem upTo_last (f : Fin 4096 → EReal) (t : ℕ) (ht : t < 8) :
    upTo f ⟨t * 512 + 511, by omega⟩ = before f ((t + 1) * 512) := by
  rw [← range_upTo, show (t + 1) * 512 = t * 512 + 511 + 1 by omega]
  rfl

/-- The window's positions that meet rows, of a window that starts at a row. -/
theorem window_sum_down (f : ℕ → EReal) (j : ℕ) (hj : j < 4096) :
    ∑ n ∈ Finset.range 4096, (if j + n < 4096 then f (j + n) else 0) = ∑ i ∈ Finset.Ico j 4096, f i := by
  rw [← Finset.sum_filter, Finset.sum_Ico_eq_sum_range]
  refine Finset.sum_congr (Finset.ext fun n => ?_) fun _ _ => rfl
  simp only [Finset.mem_filter, Finset.mem_range]
  omega

/-- The entries from a row on. -/
def after (f : Fin 4096 → EReal) (n : ℕ) : EReal := ∑ i ∈ Finset.Ico n 4096, (if h : i < 4096 then f ⟨i, h⟩ else 0)

theorem after_end (f : Fin 4096 → EReal) : after f 4096 = 0 := by rw [after, Finset.Ico_self, Finset.sum_empty]

/-- The sum from a row of a block of 512 on: the block's rows from it on, on top of the blocks after. -/
theorem after_tile (f : Fin 4096 → EReal) (t : ℕ) (ht : t < 8) (r : Fin 512) :
    (∑ k : Fin 512, if r.val ≤ k.val then f ⟨t * 512 + k.val, by omega⟩ else 0) + after f ((t + 1) * 512)
      = after f (t * 512 + r.val) := by
  have hr := r.isLt
  unfold after
  rw [← Finset.sum_Ico_consecutive _ (show t * 512 + r.val ≤ (t + 1) * 512 by omega) (show (t + 1) * 512 ≤ 4096 by omega)]
  refine congrArg (· + _) ?_
  rw [show t * 512 + r.val = r.val + t * 512 by omega, show (t + 1) * 512 = 512 + t * 512 by omega, ← Finset.sum_Ico_add',
    show (∑ k : Fin 512, if r.val ≤ k.val then f ⟨t * 512 + k.val, by omega⟩ else 0)
      = ∑ k : Fin 512, (fun n : ℕ => if r.val ≤ n then (if h : n + t * 512 < 4096 then f ⟨n + t * 512, h⟩ else 0) else 0) k.val from
    Finset.sum_congr rfl fun k _ => by
      show _ = if r.val ≤ k.val then (if h : k.val + t * 512 < 4096 then f ⟨k.val + t * 512, h⟩ else 0) else 0
      rw [dif_pos (by omega)]
      exact ite_congr rfl (fun _ => congrArg f (Fin.ext (Nat.add_comm _ _))) fun _ => rfl,
    Fin.sum_univ_eq_sum_range (fun n : ℕ => if r.val ≤ n then (if h : n + t * 512 < 4096 then f ⟨n + t * 512, h⟩ else 0) else 0) 512,
    ← Finset.sum_filter]
  refine Finset.sum_congr (Finset.ext fun n => ?_) fun _ _ => rfl
  simp only [Finset.mem_range, Finset.mem_filter, Finset.mem_Ico]
  omega

variable {C : ℕ}

/-- A window of the whole height that ends at a row sums the column up to that row. -/
theorem windowed (x : (⟨2, ![4096, C]⟩ : Shape).Idx → EReal) (v : (⟨0, ![]⟩ : Shape).Idx → EReal)
    (h : (⟨2, ![4096, C]⟩ : Shape).ReduceWindows (![4096, 1] : Fin 2 → ℕ) ![1, 1] ![4095, 0] ![0, 0] ⟨2, ![4096, C]⟩)
    (hu : 0 < (⟨0, ![]⟩ : Shape).numel) (hv : v (Shape.Idx.first hu) = 0) (j : Fin 4096) (c : Fin C) :
    Host.reduceWindow (· + ·) ![4096, 1] ![1, 1] ![4095, 0] ![0, 0] x v h hu (ix2 j c) = upTo (fun i => x (ix2 i c)) j := by
  have hj := j.isLt
  have hc := c.isLt
  unfold Host.reduceWindow
  dsimp only
  rw [hv]
  refine (foldl_add _).trans ?_
  rw [← range_upTo, ← window_sum (fun i => if h : i < 4096 then x (ix2 ⟨i, h⟩ c) else 0) j.val hj]
  refine Eq.trans (Finset.sum_congr rfl fun n _ => ?_) ((Fin.sum_univ_eq_sum_range (fun n : ℕ => if 4095 ≤ j.val + n then
    (if h : j.val + n - 4095 < 4096 then x (ix2 ⟨j.val + n - 4095, h⟩ c) else 0) else 0) _).trans
    (congrArg (fun k => ∑ n ∈ Finset.range k, (if 4095 ≤ j.val + n then
      (if h : j.val + n - 4095 < 4096 then x (ix2 ⟨j.val + n - 4095, h⟩ c) else 0) else 0)) (Routing.numel_col 4096)))
  have n0 : ((Routing.shape2 4096 1).rowMajor.symm n 0).val = n.val := by rw [Routing.symm_col]; rfl
  have n1 : ((Routing.shape2 4096 1).rowMajor.symm n 1).val = 0 := by rw [Routing.symm_col]; rfl
  have hn : n.val < 4096 := (n.cast (Routing.numel_col _)).isLt
  split
  · next hin =>
    have h0 := hin 0
    change 4095 ≤ j.val * 1 + ((Routing.shape2 4096 1).rowMajor.symm n 0).val
      ∧ j.val * 1 + ((Routing.shape2 4096 1).rowMajor.symm n 0).val - 4095 < 4096 at h0
    rw [n0] at h0
    rw [if_pos (by omega), dif_pos (by omega)]
    refine congrArg x (funext fun a => Fin.ext ?_)
    match a with
    | ⟨0, _⟩ =>
      show j.val * 1 + ((Routing.shape2 4096 1).rowMajor.symm n 0).val - 4095 = j.val + n.val - 4095
      rw [n0, Nat.mul_one]
    | ⟨1, _⟩ =>
      show c.val * 1 + ((Routing.shape2 4096 1).rowMajor.symm n 1).val - 0 = c.val
      rw [n1]
      omega
  · next hin =>
    rw [if_neg fun hle => hin fun a => by
      match a with
      | ⟨0, _⟩ =>
        show 4095 ≤ j.val * 1 + ((Routing.shape2 4096 1).rowMajor.symm n 0).val
          ∧ j.val * 1 + ((Routing.shape2 4096 1).rowMajor.symm n 0).val - 4095 < 4096
        rw [n0]
        omega
      | ⟨1, _⟩ =>
        show 0 ≤ c.val * 1 + ((Routing.shape2 4096 1).rowMajor.symm n 1).val
          ∧ c.val * 1 + ((Routing.shape2 4096 1).rowMajor.symm n 1).val - 0 < C
        rw [n1]
        omega]

theorem windowed_add (x : FVec Ideal (⟨2, ![4096, C]⟩ : Shape) .f32) (v : FVec Ideal (⟨0, ![]⟩ : Shape) .f32)
    (h : (⟨2, ![4096, C]⟩ : Shape).ReduceWindows (![4096, 1] : Fin 2 → ℕ) ![1, 1] ![4095, 0] ![0, 0] ⟨2, ![4096, C]⟩)
    (hu : 0 < (⟨0, ![]⟩ : Shape).numel) (hv : v (Shape.Idx.first hu) = 0) (j : Fin 4096) (c : Fin C) :
    Host.reduceWindowAdd ![4096, 1] ![1, 1] ![4095, 0] ![0, 0] x v h hu (ix2 j c) = upTo (fun i => x (ix2 i c)) j := by
  unfold Host.reduceWindowAdd
  rw [hv, Ideal.hostReduceWindowAdd_def, Ideal.hostReduceWindowAdd]
  exact windowed x (fun _ => 0) h _ rfl j c

/-- A window of the whole height that starts at a row sums the column from that row on. -/
theorem windowed_down (x : (⟨2, ![4096, C]⟩ : Shape).Idx → EReal) (v : (⟨0, ![]⟩ : Shape).Idx → EReal)
    (h : (⟨2, ![4096, C]⟩ : Shape).ReduceWindows (![4096, 1] : Fin 2 → ℕ) ![1, 1] ![0, 0] ![4095, 0] ⟨2, ![4096, C]⟩)
    (hu : 0 < (⟨0, ![]⟩ : Shape).numel) (hv : v (Shape.Idx.first hu) = 0) (j : Fin 4096) (c : Fin C) :
    Host.reduceWindow (· + ·) ![4096, 1] ![1, 1] ![0, 0] ![4095, 0] x v h hu (ix2 j c) = after (fun i => x (ix2 i c)) j.val := by
  have hj := j.isLt
  have hc := c.isLt
  unfold Host.reduceWindow
  dsimp only
  rw [hv]
  refine (foldl_add _).trans ?_
  unfold after
  rw [← window_sum_down (fun i => if h : i < 4096 then x (ix2 ⟨i, h⟩ c) else 0) j.val hj]
  refine Eq.trans (Finset.sum_congr rfl fun n _ => ?_) ((Fin.sum_univ_eq_sum_range (fun n : ℕ => if j.val + n < 4096 then
    (if h : j.val + n < 4096 then x (ix2 ⟨j.val + n, h⟩ c) else 0) else 0) _).trans
    (congrArg (fun k => ∑ n ∈ Finset.range k, (if j.val + n < 4096 then
      (if h : j.val + n < 4096 then x (ix2 ⟨j.val + n, h⟩ c) else 0) else 0)) (Routing.numel_col 4096)))
  have n0 : ((Routing.shape2 4096 1).rowMajor.symm n 0).val = n.val := by rw [Routing.symm_col]; rfl
  have n1 : ((Routing.shape2 4096 1).rowMajor.symm n 1).val = 0 := by rw [Routing.symm_col]; rfl
  split
  · next hin =>
    have h0 := hin 0
    change 0 ≤ j.val * 1 + ((Routing.shape2 4096 1).rowMajor.symm n 0).val
      ∧ j.val * 1 + ((Routing.shape2 4096 1).rowMajor.symm n 0).val - 0 < 4096 at h0
    rw [n0] at h0
    rw [if_pos (by omega), dif_pos (by omega)]
    refine congrArg x (funext fun a => Fin.ext ?_)
    match a with
    | ⟨0, _⟩ =>
      show j.val * 1 + ((Routing.shape2 4096 1).rowMajor.symm n 0).val - 0 = j.val + n.val
      rw [n0]
      omega
    | ⟨1, _⟩ =>
      show c.val * 1 + ((Routing.shape2 4096 1).rowMajor.symm n 1).val - 0 = c.val
      rw [n1]
      omega
  · next hin =>
    rw [if_neg fun hle => hin fun a => by
      match a with
      | ⟨0, _⟩ =>
        show 0 ≤ j.val * 1 + ((Routing.shape2 4096 1).rowMajor.symm n 0).val
          ∧ j.val * 1 + ((Routing.shape2 4096 1).rowMajor.symm n 0).val - 0 < 4096
        rw [n0]
        omega
      | ⟨1, _⟩ =>
        show 0 ≤ c.val * 1 + ((Routing.shape2 4096 1).rowMajor.symm n 1).val
          ∧ c.val * 1 + ((Routing.shape2 4096 1).rowMajor.symm n 1).val - 0 < C
        rw [n1]
        omega]

theorem windowed_down_add (x : FVec Ideal (⟨2, ![4096, C]⟩ : Shape) .f32) (v : FVec Ideal (⟨0, ![]⟩ : Shape) .f32)
    (h : (⟨2, ![4096, C]⟩ : Shape).ReduceWindows (![4096, 1] : Fin 2 → ℕ) ![1, 1] ![0, 0] ![4095, 0] ⟨2, ![4096, C]⟩)
    (hu : 0 < (⟨0, ![]⟩ : Shape).numel) (hv : v (Shape.Idx.first hu) = 0) (j : Fin 4096) (c : Fin C) :
    Host.reduceWindowAdd ![4096, 1] ![1, 1] ![0, 0] ![4095, 0] x v h hu (ix2 j c) = after (fun i => x (ix2 i c)) j.val := by
  unfold Host.reduceWindowAdd
  rw [hv, Ideal.hostReduceWindowAdd_def, Ideal.hostReduceWindowAdd]
  exact windowed_down x (fun _ => 0) h _ rfl j c

/-- An entry of a triangle of ones, as a comparison of the entry's coordinates gives it. -/
theorem triangle {a b : ℕ} (ha : a < 512) (hb : b < 512) :
    FloatOps.sitofp (F := Ideal) .f32 ((IntOp.cmpi CmpIPredicate.sle (BitVec.ofNat 32 a) (BitVec.ofNat 32 b)).setWidth 32)
      = if a ≤ b then (1 : EReal) else 0 := by
  rw [cmpi_sle_ofNat (by omega) (by omega)]
  by_cases h : a ≤ b
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

end Cert.Product

end
-- ==== Proof.CumBwd.Equation.lean ====
/-
  The gradient of the forget gates' running sums: sums from each row on, a block of 512 rows at a time from the last by a
  product with a triangle of ones, times the gates' slope, and its sum over the rows for the bias.
-/
module

public import proofs.«01_k».proof.Defs
public import proofs.«01_k».proof.Proof.Common.Join
public import proofs.«01_k».proof.Proof.Common.Cumsum
public import proofs.«01_k».proof.Proof.Common.Gates
public import proofs.«01_k».proof.Proof.Common.Pad
public import proofs.«01_k».proof.Proof.Common.Sums
public import proofs.«01_k».proof.Proof.Gen.CumBwdIdeal.Value
public import proofs.«01_k».proof.Proof.Gen.CumBwdRefIdeal.Run
public import proofs.«01_k».proof.Proof.Gen.CumBwdRefIdeal.Read
public import proofs.«01_k».proof.Proof.Gen.Pre_finite_dcum
public import Idealize.ShloMosaic.Lib.Pointwise
public import Idealize.ShloMosaic.Lib.Pipeline.ValueKit
public import Idealize.ShloMosaic.Lib.StableHlo.ReadAt

@[expose] public section

set_option maxRecDepth 16384

noncomputable section

namespace Cert.CumBwdIdeal.Product

open Idealize.ShloMosaic Idealize.ShloMosaic.TcCoe Idealize.SL.Sem
open Cert.CumBwdIdeal Cert.CumBwdIdeal.Gen Cert.Product Cert.Att

section
variable (d x : Vec Ideal S512x128 .f32) (b w : Vec Ideal S1x128 .f32) (r : Fin 512) (s : Fin 128)

/-- An entry of the triangle of ones. -/
abbrev tri (r k : Fin 512) : EReal :=
  FloatOps.sitofp (F := Ideal) .f32 ((IntOp.cmpi CmpIPredicate.sge (BitVec.ofNat 32 k.val) (BitVec.ofNat 32 r.val)).setWidth 32)

/-- The body's running sum: the block's rows from the entry's on, on top of what is carried. -/
theorem body_at (hd : ∀ k, HSub.hSub (α := EReal) (β := EReal) (d (ix2 k s)) (d (ix2 k s)) = 0) : k0_pay5 (F := Ideal) d w (ix2 r s)
    = (∑ k : Fin 512, if r.val ≤ k.val then d (ix2 k s) else 0 : EReal) + w (ix2 0 s) := by
  have e : k0_pay5 (F := Ideal) d w (ix2 r s)
      = ((∑ k : Fin 512, tri r k * d (ix2 k s) : EReal)
        + (∑ k : Fin 512, tri r k * (HSub.hSub (α := EReal) (β := EReal) (d (ix2 k s)) (d (ix2 k s))) : EReal)
        + (∑ k : Fin 512, tri r k * (HSub.hSub (α := EReal) (β := EReal) (d (ix2 k s)) (d (ix2 k s))
          - HSub.hSub (α := EReal) (β := EReal) (d (ix2 k s)) (d (ix2 k s))) : EReal)) + w (ix2 0 s) := by
    simp only [tri]
    pointwise [k0_pay5]
  have t (k : Fin 512) (z : EReal) : tri r k * z = if r.val ≤ k.val then z else 0 := by
    rw [tri, show IntOp.cmpi CmpIPredicate.sge (BitVec.ofNat 32 k.val) (BitVec.ofNat 32 r.val)
      = IntOp.cmpi CmpIPredicate.sle (BitVec.ofNat 32 r.val) (BitVec.ofNat 32 k.val) from rfl, triangle r.isLt k.isLt]
    by_cases hk : r.val ≤ k.val
    · rw [if_pos hk, if_pos hk, one_mul]
    · rw [if_neg hk, if_neg hk, zero_mul]
  rw [e]
  simp only [hd, sub_zero, mul_zero, Finset.sum_const_zero, add_zero, t, ite_self]

theorem carry_at : k0_pay6 (F := Ideal) d w (ix2 0 s) = k0_pay5 (F := Ideal) d w (ix2 0 s) := by
  generalize hp : k0_pay5 (F := Ideal) d w = p
  unfold k0_pay6
  rw [hp]
  pointwise []

theorem carry_zero : k0_pay3 (F := Ideal) (ix2 0 s) = 0 := by
  rw [← Ideal.ofBits_zero .f32]
  pointwise [k0_pay3]

theorem grad_zero : k0_pay4 (F := Ideal) (ix2 0 s) = 0 := by
  rw [← Ideal.ofBits_zero .f32]
  pointwise [k0_pay4]

/-- The gates' gradient from the running sum. -/
theorem grad_at (p : FVec Ideal S512x128 .f32) : k0_pay1 (F := Ideal) p (k0_pay7 x b) k0_pay8 (ix2 r s)
    = p (ix2 r s) * gate (-(HAdd.hAdd (α := EReal) (β := EReal) (x (ix2 r s)) (b (ix2 0 s)))) := by
  rw [gate, ← zero_sub, ← zero_sub (HAdd.hAdd (α := EReal) (β := EReal) (x (ix2 r s)) (b (ix2 0 s))), ← Ideal.ofBits_one_f32, ← Ideal.ofBits_zero .f32]
  pointwise [k0_pay1, k0_pay7, k0_pay8]

/-- The bias' gradient: the block's column on top of what the point before left. -/
theorem bias_at (p q z : FVec Ideal S512x128 .f32) (u : Vec Ideal S1x128 .f32) : k0_pay2 (F := Ideal) p q z u (ix2 0 s)
    = u (ix2 0 s) + (∑ r : Fin 512, k0_pay1 (F := Ideal) p q z (ix2 r s) : EReal) := by
  generalize hp : k0_pay1 (F := Ideal) p q z = y
  unfold k0_pay2
  rw [hp]
  pointwise []

end
section
variable (c : Dev nD) (i : grid0.Coords) (a1 : Memref sig .tc .vmem S512x128 .f32) (h1 : a1.IsWhole)
  (a2 : Memref sig .tc .vmem S512x128 .f32) (h2 : a2.IsWhole) (a3 : Memref sig .tc .vmem S1x128 .f32) (h3 : a3.IsWhole)
  (a4 : Memref sig .tc .vmem S512x128 .f32) (h4 : a4.IsWhole) (a5 : Memref sig .tc .vmem S1x128 .f32) (h5 : a5.IsWhole)
  (a6 : Memref sig .tc .vmem S1x128 .f32) (h6 : a6.IsWhole) (d x : Vec Ideal S512x128 .f32) (b u w : Vec Ideal S1x128 .f32)

/-- What the body leaves at the first point, in its two results and in what it carries. -/
theorem first (c0 : cond0_0 i) : out0_A_3 c i a1 h1 a2 h2 a3 h3 a4 h4 a5 h5 a6 h6 c0 d x b
    = k0_pay1 (k0_pay5 d (k0_pay3 (F := Ideal))) (k0_pay7 x b) k0_pay8 := by
  unfold out0_A_3
  rw [View.read_writes_eq_canon _ _ _ (cover0_A_3 c i a1 h1 a2 h2 a3 h3 a4 h4 a5 h5 a6 h6 c0 d x b)]
  unfold kernelRun0_A
  dsimp only
  rw [View.canon_unit_zero hz]
  simp only [kernelRun0_A.sl.r, kernelRun0_A.sl.r_1, View.readAt_eq_ld, h1.read_unread, h2.read_unread, h3.read_unread,
    View.ld_unit_zero (S := S512x128) hz, View.ld_unit_zero (S := S1x128) hz]
  unfold kernelRun0_A.sl.v25
  unfold kernelRun0_A.sl.HS0_1
  exact congrArg (fun y => k0_pay1 (k0_pay5 d y) (k0_pay7 x b) k0_pay8) (View.readCov_unit_zero _ hz _ _)

theorem first_bias (c0 : cond0_0 i) : out0_A_4 c i a1 h1 a2 h2 a3 h3 a4 h4 a5 h5 a6 h6 c0 d x b
    = k0_pay2 (k0_pay5 d (k0_pay3 (F := Ideal))) (k0_pay7 x b) k0_pay8 (k0_pay4 (F := Ideal)) := by
  unfold out0_A_4
  rw [View.read_writes_eq_canon _ _ _ (cover0_A_4 c i a1 h1 a2 h2 a3 h3 a4 h4 a5 h5 a6 h6 c0 d x b)]
  unfold kernelRun0_A
  dsimp only
  refine (View.canon_cons_unit_zero hz _ _ _).trans ?_
  simp only [kernelRun0_A.sl.r, kernelRun0_A.sl.r_1, View.readAt_eq_ld, h1.read_unread, h2.read_unread, h3.read_unread,
    View.ld_unit_zero (S := S512x128) hz, View.ld_unit_zero (S := S1x128) hz]
  rw [show kernelRun0_A.sl.v25 c a6 = k0_pay3 (F := Ideal) by
      unfold kernelRun0_A.sl.v25
      unfold kernelRun0_A.sl.HS0_1
      exact View.readCov_unit_zero _ hz _ _,
    show kernelRun0_A.sl.v48 c a5 = k0_pay4 (F := Ideal) by
      unfold kernelRun0_A.sl.v48
      unfold kernelRun0_A.sl.H4_1
      exact View.readCov_unit_zero _ hz _ _]

theorem first_carry (c0 : cond0_0 i) : sout0_A_0 c i a1 h1 a2 h2 a3 h3 a4 h4 a5 h5 a6 h6 c0 d x b
    = k0_pay6 d (k0_pay3 (F := Ideal)) := by
  unfold sout0_A_0
  rw [View.read_writes_eq_canon _ _ _ (scover0_A_0 c i a1 h1 a2 h2 a3 h3 a4 h4 a5 h5 a6 h6 c0 d x b)]
  unfold kernelRun0_A
  dsimp only
  refine (View.canon_cons_unit_zero hz _ _ _).trans ?_
  simp only [kernelRun0_A.sl.r, kernelRun0_A.sl.r_1, View.readAt_eq_ld, h1.read_unread, h2.read_unread, h3.read_unread,
    View.ld_unit_zero (S := S512x128) hz, View.ld_unit_zero (S := S1x128) hz]
  unfold kernelRun0_A.sl.v25
  unfold kernelRun0_A.sl.HS0_1
  exact congrArg (k0_pay6 d) (View.readCov_unit_zero _ hz _ _)

/-- What it leaves at a later one. -/
theorem later (c0 : ¬cond0_0 i) : out0_B_3 c i a1 h1 a2 h2 a3 h3 a4 h4 a5 h5 a6 h6 c0 d x b u w
    = k0_pay1 (k0_pay5 d w) (k0_pay7 x b) k0_pay8 := by
  unfold out0_B_3
  rw [View.read_writes_eq_canon _ _ _ (cover0_B_3 c i a1 h1 a2 h2 a3 h3 a4 h4 a5 h5 a6 h6 c0 d x b u w)]
  unfold kernelRun0_B
  dsimp only
  rw [View.canon_unit_zero hz]
  simp only [kernelRun0_B.sl.r, kernelRun0_B.sl.r_1, View.readAt_eq_ld, h1.read_unread, h2.read_unread, h3.read_unread,
    h5.read_unread, h6.read_unread, View.ld_unit_zero (S := S512x128) hz, View.ld_unit_zero (S := S1x128) hz]

theorem later_bias (c0 : ¬cond0_0 i) : out0_B_4 c i a1 h1 a2 h2 a3 h3 a4 h4 a5 h5 a6 h6 c0 d x b u w
    = k0_pay2 (k0_pay5 d w) (k0_pay7 x b) k0_pay8 u := by
  unfold out0_B_4
  rw [View.read_writes_eq_canon _ _ _ (cover0_B_4 c i a1 h1 a2 h2 a3 h3 a4 h4 a5 h5 a6 h6 c0 d x b u w)]
  unfold kernelRun0_B
  dsimp only
  rw [View.canon_unit_zero hz]
  simp only [kernelRun0_B.sl.r, kernelRun0_B.sl.r_1, View.readAt_eq_ld, h1.read_unread, h2.read_unread, h3.read_unread,
    h5.read_unread, h6.read_unread, View.ld_unit_zero (S := S512x128) hz, View.ld_unit_zero (S := S1x128) hz]

theorem later_carry (c0 : ¬cond0_0 i) : sout0_B_0 c i a1 h1 a2 h2 a3 h3 a4 h4 a5 h5 a6 h6 c0 d x b u w = k0_pay6 d w := by
  unfold sout0_B_0
  rw [View.read_writes_eq_canon _ _ _ (scover0_B_0 c i a1 h1 a2 h2 a3 h3 a4 h4 a5 h5 a6 h6 c0 d x b u w)]
  unfold kernelRun0_B
  dsimp only
  rw [View.canon_unit_zero hz]
  simp only [kernelRun0_B.sl.r, kernelRun0_B.sl.r_1, View.readAt_eq_ld, h1.read_unread, h2.read_unread, h3.read_unread,
    h5.read_unread, h6.read_unread, View.ld_unit_zero (S := S512x128) hz, View.ld_unit_zero (S := S1x128) hz]

end

/-- Where each window's block lies at a point: the blocks are walked from the last. -/
theorem idx : ∀ t : Fin grid0.N, win0_0.index t = ![7 - t.val, 0] ∧ win0_1.index t = ![7 - t.val, 0] ∧ win0_2.index t = ![0, 0]
    ∧ win0_3.index t = ![7 - t.val, 0] ∧ win0_4.index t = ![0, 0] := by decide +kernel

theorem lt_N (t : Fin cfg0.N) : t.val < 8 := lt_of_lt_of_eq t.isLt N_0

/-- The row of an entry of a point's block. -/
abbrev row (t : Fin cfg0.N) (r : Fin 512) : Fin 4096 := ⟨(7 - t.val) * 512 + r.val, by omega⟩

theorem d_emb (t : Fin cfg0.N) (r : Fin 512) (s : Fin 128) : ((cfg0.win 0).blk t).view.emb (ix2 r s) = ix2 (row t r) s := by
  blk_ext [idx t]

theorem x_emb (t : Fin cfg0.N) (r : Fin 512) (s : Fin 128) : ((cfg0.win 1).blk t).view.emb (ix2 r s) = ix2 (row t r) s := by
  blk_ext [idx t]

theorem b_emb (t : Fin cfg0.N) (s : Fin 128) : ((cfg0.win 2).blk t).view.emb (ix2 (0 : Fin 1) s) = ix2 (0 : Fin 1) s := by
  blk_ext [idx t]

theorem g_emb (t : Fin cfg0.N) (r : Fin 512) (s : Fin 128) : ((cfg0.win 3).blk t).view.emb (ix2 r s) = ix2 (row t r) s := by
  blk_ext [idx t]

theorem db_emb (t : Fin cfg0.N) (s : Fin 128) : ((cfg0.win 4).blk t).view.emb (ix2 (0 : Fin 1) s) = ix2 (0 : Fin 1) s := by
  blk_ext [idx t]

variable (m : (ℓ : Loc nD τ sig) → Buf (Elt Ideal) ℓ) (c : Dev nD)

/-- The arguments. -/
abbrev A0 : (⟨S16x8x1x512, .f32⟩ : BufTy).Contents (Elt Ideal) := m ((c.tc : Thread nD τ).loc main_arg0)
abbrev A1 : (⟨S4096x128, .f32⟩ : BufTy).Contents (Elt Ideal) := m ((c.tc : Thread nD τ).loc main_arg1)
abbrev A2 : (⟨S16, .f32⟩ : BufTy).Contents (Elt Ideal) := m ((c.tc : Thread nD τ).loc main_arg2)

/-- The sums' gradient with a step in a row, and padded to the width of the gates; the bias padded likewise. -/
def steps : S4096x16.Idx → EReal :=
  transpose S4096x16 [1, 0] (shapeCast S16x4096 (A0 m c) Facts₀.shapeCasts_S16x8x1x512_S16x4096) Facts₀.transposes_S16x4096_S4096x16_1_0
def D : S4096x128.Idx → EReal :=
  pad S4096x128 ![0, 0] ![0, 112] ![0, 0] (steps m c) (fun _ => (((0#32).toInt : ℝ) : EReal)) Facts₀.pads_S4096x16_S4096x128_000_01120 Facts₀.h_S_
def bias : S128.Idx → EReal :=
  pad S128 ![0] ![112] ![0] (A2 m c) (fun _ => (((0#32).toInt : ℝ) : EReal)) Facts₀.pads_S16_S128_01120 Facts₀.h_S_

/-- A gate's argument, the sum from its row on, and the two gradients. -/
def pre (i : S4096x128.Idx) : EReal := A1 m c i + bias m c (ix1 (i 1))
def rev (i : S4096x128.Idx) : EReal := after (fun k => D m c (ix2 k (i 1))) (i 0).val
def grad (i : S4096x128.Idx) : EReal := rev m c i * gate (-pre m c i)
def db (i : S1x128.Idx) : EReal := ∑ r : Fin 4096, grad m c (ix2 r (i 1))

theorem D_at (r : Fin 4096) (s : Fin 128) : D m c (ix2 r s) = if h : s.val < 16 then steps m c (ix2 r ⟨s.val, h⟩) else 0 :=
  pad_at _ _ _ _ (fun _ => by simp) r s

theorem bias_col (s : Fin 128) : bias m c (ix1 s) = if h : s.val < 16 then A2 m c (ix1 ⟨s.val, h⟩) else 0 :=
  pad_vec _ _ _ _ (fun _ => by simp) s

theorem d_at (t : Fin cfg0.N) (r : Fin 512) (s : Fin 128) : (iblk m c 0 t : FVec Ideal S512x128 .f32) (ix2 r s)
    = D m c (ix2 (row t r) s) := by
  rw [← d_emb t r s, show D m c = V m c main_v2 by
    unfold V
    after_reads_simp
    rfl]
  rfl

theorem x_at (t : Fin cfg0.N) (r : Fin 512) (s : Fin 128) : (iblk m c 1 t : FVec Ideal S512x128 .f32) (ix2 r s)
    = A1 m c (ix2 (row t r) s) := by
  rw [← x_emb t r s, show A1 m c = V m c main_arg1 from (V_main_arg1 m c).symm]; rfl

theorem b_eq (s : Fin 128) : V m c main_v4 (ix2 (0 : Fin 1) s) = bias m c (ix1 s) := by
  rw [show V m c main_v4 = shapeCast S1x128 (bias m c) Facts₀.shapeCasts_S128_S1x128 by
    unfold V
    after_reads_simp
    rfl]
  pointwise []

theorem b_at (t : Fin cfg0.N) (s : Fin 128) : (iblk m c 2 t : FVec Ideal S1x128 .f32) (ix2 0 s) = bias m c (ix1 s) := by
  rw [← b_eq m c s]
  refine Eq.trans ?_ (congrArg (V m c main_v4) (b_emb t s))
  rfl

section
variable (hD : ∀ i, D m c i - D m c i = 0)
include hD

/-- The running sum at a point, over what the blocks after sum to. -/
theorem point (t : Fin cfg0.N) (w : Vec Ideal S1x128 .f32) (r : Fin 512) (s : Fin 128)
    (hw : w (ix2 0 s) = after (fun k => D m c (ix2 k s)) ((7 - t.val + 1) * 512)) :
    k0_pay5 (F := Ideal) (iblk m c 0 t) w (ix2 r s) = rev m c (ix2 (row t r) s) := by
  refine (body_at _ w r s fun k => ?_).trans ?_
  · rw [d_at]; exact hD _
  · rw [hw]
    refine Eq.trans (congrArg (· + _) (Finset.sum_congr rfl fun k _ => ?_))
      (after_tile (fun k => D m c (ix2 k s)) (7 - t.val) (by omega) r)
    rw [d_at]

/-- The gates' gradient at a point, and the point's part of the bias'. -/
theorem grad_point (t : Fin cfg0.N) (w : Vec Ideal S1x128 .f32) (r : Fin 512) (s : Fin 128)
    (hw : w (ix2 0 s) = after (fun k => D m c (ix2 k s)) ((7 - t.val + 1) * 512)) :
    k0_pay1 (F := Ideal) (k0_pay5 (iblk m c 0 t) w) (k0_pay7 (iblk m c 1 t) (iblk m c 2 t)) k0_pay8 (ix2 r s)
      = grad m c (ix2 (row t r) s) := by
  refine (grad_at _ _ r s _).trans ?_
  rw [point m c hD t w r s hw, x_at, b_at]
  rfl

theorem bias_point (t : Fin cfg0.N) (w u : Vec Ideal S1x128 .f32) (s : Fin 128)
    (hw : w (ix2 0 s) = after (fun k => D m c (ix2 k s)) ((7 - t.val + 1) * 512)) :
    k0_pay2 (F := Ideal) (k0_pay5 (iblk m c 0 t) w) (k0_pay7 (iblk m c 1 t) (iblk m c 2 t)) k0_pay8 u (ix2 0 s)
      = u (ix2 0 s) + (∑ r : Fin 512, grad m c (ix2 (row t r) s) : EReal) :=
  (bias_at s _ _ _ u).trans (congrArg (HAdd.hAdd (α := EReal) (β := EReal) (u (ix2 0 s)))
    (Finset.sum_congr rfl fun r _ => grad_point m c hD t w r s hw))

/-- Nothing is carried into the first point. -/
theorem none_after (t : Fin cfg0.N) (h : t.val % 8 = 0) (s : Fin 128) :
    k0_pay3 (F := Ideal) (ix2 0 s) = after (fun k => D m c (ix2 k s)) ((7 - t.val + 1) * 512) := by
  have hN := lt_N t
  rw [carry_zero, show (7 - t.val + 1) * 512 = 4096 by omega, after_end]

/-- What is carried after a point: the sum of the blocks so far. -/
theorem carried (s : Fin 128) (n : ℕ) (hn : n < cfg0.N) : (outsAt0 m c n hn).2.2 (ix2 0 s)
    = after (fun k => D m c (ix2 k s)) ((7 - n) * 512) := by
  have hN := lt_N ⟨n, hn⟩
  dsimp only at hN
  induction n with
  | zero =>
    rw [outsAt0_A m c ⟨0, hn⟩ rfl]
    dsimp only
    rw [first_carry, carry_at]
    exact point m c hD ⟨0, hn⟩ _ 0 s (none_after m c hD ⟨0, hn⟩ rfl s)
  | succ n ih =>
    rw [outsAt0_B m c ⟨n + 1, hn⟩ (by dsimp only; omega)]
    dsimp only
    rw [later_carry, carry_at]
    refine point m c hD ⟨n + 1, hn⟩ _ 0 s ((ih (Nat.lt_of_succ_lt hn) (by omega)).trans ?_)
    show _ = after _ ((7 - (n + 1) + 1) * 512)
    rw [show 7 - (n + 1) + 1 = 7 - n by omega]

/-- What a later point finds carried. -/
theorem found (t : Fin cfg0.N) (h : ¬t.val % 8 = 0) (hn : t.val - 1 < cfg0.N) (s : Fin 128) :
    (outsAt0 m c (t.val - 1) hn).2.2 (ix2 0 s) = after (fun k => D m c (ix2 k s)) ((7 - t.val + 1) * 512) := by
  have hN := lt_N t
  rw [carried m c hD s, show 7 - (t.val - 1) = 7 - t.val + 1 by omega]

/-- The arrays the call leaves. -/
theorem out_grad : (dats m 0 c).arrAt 3 cfg0.N = grad m c := by
  refine (dats m 0 c).arrAt_eq_of_covers 3 _ (by decide +kernel) fun t hf y => ?_
  blk_simp
  obtain ⟨r, s, rfl⟩ : ∃ (r : Fin 512) (s : Fin 128), y = ix2 r s := ⟨y 0, y 1, (ix2_eta y).symm⟩
  refine Eq.trans ?_ (congrArg (grad m c) (g_emb t r s).symm)
  rw [after0_3]
  by_cases h0 : t.val % 8 = 0
  · rw [outsAt0_A m c t h0]
    dsimp only
    rw [first]
    exact grad_point m c hD t _ r s (none_after m c hD t h0 s)
  · rw [outsAt0_B m c t h0]
    dsimp only
    rw [later]
    exact grad_point m c hD t _ r s (found m c hD t h0 _ s)

/-- The bias' gradient after a point: the sum over the blocks so far. -/
theorem acc (s : Fin 128) (n : ℕ) (hn : n < cfg0.N) : (outsAt0 m c n hn).2.1 (ix2 0 s)
    = ∑ k ∈ Finset.range (n + 1), if h : k < cfg0.N then ∑ r : Fin 512, grad m c (ix2 (row ⟨k, h⟩ r) s) else 0 := by
  induction n with
  | zero =>
    rw [Finset.sum_range_one, dif_pos hn, outsAt0_A m c ⟨0, hn⟩ rfl]
    dsimp only
    rw [first_bias]
    refine (bias_point m c hD ⟨0, hn⟩ _ _ s (none_after m c hD ⟨0, hn⟩ rfl s)).trans ?_
    rw [grad_zero, zero_add]
  | succ n ih =>
    have hN := lt_N ⟨n + 1, hn⟩
    have h0 : ¬(n + 1) % 8 = 0 := by dsimp only at hN; omega
    rw [Finset.sum_range_succ, dif_pos hn, ← ih (Nat.lt_of_succ_lt hn), outsAt0_B m c ⟨n + 1, hn⟩ h0]
    dsimp only
    rw [later_bias]
    exact bias_point m c hD ⟨n + 1, hn⟩ _ _ s (found m c hD ⟨n + 1, hn⟩ h0 _ s)

theorem out_db : (dats m 0 c).arrAt 4 cfg0.N = db m c := by
  refine (dats m 0 c).arrAt_eq_of_covers 4 _ (by decide +kernel) fun t hf y => ?_
  blk_simp
  obtain ⟨q, s, rfl⟩ : ∃ (q : Fin 1) (s : Fin 128), y = ix2 q s := ⟨y 0, y 1, (ix2_eta y).symm⟩
  obtain rfl := Subsingleton.elim q 0
  refine Eq.trans ?_ (congrArg (db m c) (db_emb t s).symm)
  have hN := lt_N t
  have h7 : t.val = 7 := by have := (flush0_4 t).mp hf; omega
  rw [after0_4]
  refine (acc m c hD s t.val t.isLt).trans ?_
  rw [h7, Finset.sum_range]
  refine Eq.trans ?_ (Fin.sum_univ_tiles 8 512 (by norm_num) (fun r : Fin 4096 => grad m c (ix2 r s))).symm
  refine Eq.trans ?_ (Equiv.sum_comp Fin.revPerm _)
  refine Finset.sum_congr rfl fun k _ => ?_
  rw [dif_pos (lt_of_lt_of_eq k.isLt N_0.symm)]
  refine Finset.sum_congr rfl fun r _ => congrArg (fun k => grad m c (ix2 k s)) (Fin.ext ?_)
  have e : (Fin.revPerm k).val = 8 - (k.val + 1) := Fin.val_rev k
  show (7 - k.val) * 512 + r.val = (Fin.revPerm k).val * 512 + r.val
  rw [e, show 8 - (k.val + 1) = 7 - k.val by omega]

end

/-- The gates' slope, as the reference writes it: through the softplus and its logarithm. -/
theorem slope_ref (y : EReal) : Ideal.exp ((if y = ⊤ then 0 else y)
      - (if max y 0 + Ideal.log (1 + Ideal.exp (-max (y - 0) (-(y - 0)))) = ⊤ then 0
        else max y 0 + Ideal.log (1 + Ideal.exp (-max (y - 0) (-(y - 0)))))) = gate y := by
  induction y with
  | bot =>
    have e : max (⊥ : EReal) 0 + Ideal.log (1 + Ideal.exp (-max ((⊥ : EReal) - 0) (-((⊥ : EReal) - 0)))) = 0 := by
      rw [max_eq_right bot_le, sub_zero, EReal.neg_bot, max_eq_right bot_le, EReal.neg_top, zero_add, Ideal.exp_bot, add_zero,
        ← EReal.coe_one, log_real one_pos, Real.log_one, EReal.coe_zero]
    rw [e, if_neg (by decide), if_neg (by decide), sub_zero, Ideal.exp_bot, gate_bot]
  | top =>
    have e : max (⊤ : EReal) 0 + Ideal.log (1 + Ideal.exp (-max ((⊤ : EReal) - 0) (-((⊤ : EReal) - 0)))) = ⊤ := by
      rw [max_eq_left (b := (0 : EReal)) le_top, sub_zero, EReal.neg_top, max_eq_left bot_le, EReal.neg_top, Ideal.exp_bot, add_zero,
        ← EReal.coe_one, log_real one_pos, Real.log_one, EReal.coe_zero, add_zero]
    rw [e, if_pos rfl, sub_zero, ← EReal.coe_zero, Ideal.exp_coe, Real.exp_zero, gate_top, EReal.coe_one]
  | coe y =>
    have e : max (y : EReal) 0 + Ideal.log (1 + Ideal.exp (-max ((y : EReal) - 0) (-((y : EReal) - 0))))
        = ((max y 0 + Real.log (1 + Real.exp (-max y (-y))) : ℝ) : EReal) := by
      rw [sub_zero, ← EReal.coe_neg, ← EReal.coe_zero, ← EReal.coe_strictMono.monotone.map_max,
        ← EReal.coe_strictMono.monotone.map_max, ← EReal.coe_neg, Ideal.exp_coe, ← EReal.coe_one, ← EReal.coe_add,
        log_real (by positivity), ← EReal.coe_add]
    rw [e, if_neg (EReal.coe_ne_top _), if_neg (EReal.coe_ne_top _), ← EReal.coe_sub, Ideal.exp_coe, gate_coe]
    refine congrArg _ ?_
    rcases le_total 0 y with h | h
    · rw [max_eq_left h, max_eq_left (show -y ≤ y by linarith), sub_add_cancel_left, Real.exp_neg, Real.exp_log (by positivity)]
    · rw [max_eq_right h, max_eq_right (show y ≤ -y by linarith), neg_neg, zero_add, Real.exp_sub, Real.exp_log (by positivity),
        Real.exp_neg]
      have := Real.exp_pos y
      field_simp
      ring

open CumBwdRefIdeal.Read

/-- A column of the sixteen in the width of the gates. -/
abbrev wide (s : Fin 16) : Fin 128 := ⟨s.val, by omega⟩

theorem ref_pre (r : Fin 4096) (s : Fin 16) : val_main_v3 (F := Ideal) (A1 m c) (A2 m c) (ix2 r s) = pre m c (ix2 r (wide s)) := by
  rw [val_main_v3_apply, val_main_v2_apply, val_main_v1_apply, val_main_v0_apply]
  unfold pre
  rw [show bias m c (ix1 (ix2 r (wide s) 1)) = A2 m c (ix1 s) from (bias_col m c (wide s)).trans (dif_pos s.isLt)]
  refine congrArg₂ (HAdd.hAdd (α := EReal) (β := EReal)) (congrArg (A1 m c) (funext fun a => ?_)) (congrArg (A2 m c) (funext fun a => ?_))
  · match a with
    | ⟨0, _⟩ => rfl
    | ⟨1, _⟩ => rfl
  · obtain rfl := Subsingleton.elim a 0
    rfl

theorem ref_slope (r : Fin 4096) (s : Fin 16) :
    val_main_v4_1 (F := Ideal) (A1 m c) (A2 m c) (ix2 r s) = gate (-pre m c (ix2 r (wide s))) := by
  have ty (y : EReal) (p q : EReal) :
      Scalar.select (FloatOps.cmpf (F := Ideal) (φ := .f32) .oeq y ⊤) p q = if y = ⊤ then p else q := by
    show Scalar.select (BitVec.ofBool (decide (y = ⊤))) p q = _
    by_cases h : y = ⊤
    · rw [decide_eq_true h, if_pos h]; rfl
    · rw [decide_eq_false h, if_neg h]; rfl
  have z (y : EReal) : FloatOps.cmpf (F := Ideal) (φ := .f32) .une y y = 0#1 := by
    show BitVec.ofBool (decide (y ≠ y)) = 0#1
    rw [decide_eq_false (fun h => h rfl)]; rfl
  have o : val_main_call0_v1_0 (F := Ideal) (A1 m c) (A2 m c) (ix2 r s)
      = max (-pre m c (ix2 r (wide s))) 0 + Ideal.log (1 + Ideal.exp (-max (-pre m c (ix2 r (wide s)) - 0) (-(-pre m c (ix2 r (wide s)) - 0)))) := by
    rw [← ref_pre m c r s, val_main_call0_v1_0_apply, val_main_call0_call0_v4_apply,
      val_main_call0_call0_v11_apply, val_main_call0_call0_v1_apply, val_main_call0_call0_v10_apply, val_main_call0_call0_v9_apply,
      val_main_call0_call0_v8_apply, val_main_call0_call0_v7_apply, val_main_call0_call0_v3_apply, val_main_call0_call0_v0_apply,
      val_main_call0_call0_v2_apply, val_main_call0_call0_cst_apply, val_main_call0_v0_apply]
    rw [z, ← Ideal.ofBits_zero .f32]
    rfl
  rw [← slope_ref, ← o, val_main_v4_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_v15_apply, val_main_call0_call0_v19_apply, val_main_call0_call0_cst_0_apply, val_main_call0_call0_cst_1_apply,
    val_main_call0_call0_cst_2_apply, val_main_call0_call0_cst_3_apply, val_main_call0_v0_apply, ref_pre, Ideal.ofBits_def,
    Ideal.ofBits_def, ofBits_inf, Ideal.ofBits_zero .f32, ty, ty]
  rfl

theorem ref_rev (r : Fin 4096) (s : Fin 16) : val_main_v8 (F := Ideal) (A0 m c) (ix2 r s) = rev m c (ix2 r (wide s)) := by
  unfold val_main_v8
  generalize hx : val_main_v7 (F := Ideal) (A0 m c) = x
  refine (windowed_down_add x _ _ _ ?_ r s).trans ?_
  · rw [val_main_call2_call0_v0_apply, val_main_call2_call0_cst_apply]
    exact Ideal.ofBits_zero .f32
  · refine congrArg (fun f => after f r.val) (funext fun k => ?_)
    rw [← hx]
    exact ((D_at m c k (wide s)).trans (dif_pos s.isLt)).symm

theorem ref_grad (r : Fin 4096) (s : Fin 16) :
    val_main_v9 (F := Ideal) (A0 m c) (A1 m c) (A2 m c) (ix2 r s) = grad m c (ix2 r (wide s)) := by
  rw [grad, ← ref_slope, ← ref_rev, val_main_v9_apply, val_main_call3_v1_apply, val_main_call3_v0_apply]
  refine (congrArg (fun y : EReal => -y) (EReal.neg_mul _ _)).trans (neg_neg _)

/-- The columns past the sixteenth have no gradient. -/
theorem grad_pad (r : Fin 4096) (s : Fin 128) (h : ¬s.val < 16) : grad m c (ix2 r s) = 0 := by
  have e : rev m c (ix2 r s) = 0 := by
    unfold rev after
    refine Finset.sum_eq_zero fun k _ => ?_
    by_cases hk : k < 4096
    · rw [dif_pos hk]
      exact (D_at m c _ s).trans (dif_neg h)
    · exact dif_neg hk
  rw [grad, e, zero_mul]

theorem ref_out : val_main_v13 (F := Ideal) (A0 m c) (A1 m c) (A2 m c) = grad m c := by
  funext i
  obtain ⟨r, s, rfl⟩ : ∃ (r : Fin 4096) (s : Fin 128), i = ix2 r s := ⟨i 0, i 1, (ix2_eta i).symm⟩
  unfold val_main_v13
  refine (pad_at _ _ _ _ (fun _ => ?_) r s).trans ?_
  · show (((0#32).toInt : ℝ) : EReal) = 0
    simp
  · by_cases h : s.val < 16
    · rw [dif_pos h, ref_grad]
    · rw [dif_neg h, grad_pad m c r s h]

theorem ref_db : val_main_v15 (F := Ideal) (A0 m c) (A1 m c) (A2 m c) = db m c := by
  funext i
  obtain ⟨q, s, rfl⟩ : ∃ (q : Fin 1) (s : Fin 128), i = ix2 q s := ⟨i 0, i 1, (ix2_eta i).symm⟩
  obtain rfl := Subsingleton.elim q 0
  rw [val_main_v15_apply, show (idx_main_v15 (ix2 0 s) : S128.Idx) = ix1 s from funext fun a => by
    obtain rfl := Subsingleton.elim a 0
    exact Fin.ext (by show 0 * 128 + s.val = s.val; omega)]
  unfold val_main_v14
  refine (pad_vec _ _ _ _ (fun _ => ?_) s).trans ?_
  · show (((0#32).toInt : ℝ) : EReal) = 0
    simp
  · by_cases h : s.val < 16
    · rw [dif_pos h, val_main_v12_apply, Fin.sum_univ_one, val_main_v11_apply, val_main_v10_apply, val_main_cst_apply,
        val_main_cst_0_apply, Ideal.ofBits_def, Ideal.ofBits_zero .f32, zero_add, zero_add]
      refine Finset.sum_congr rfl fun k _ => Eq.trans ?_ (ref_grad m c k ⟨s.val, h⟩)
      refine congrArg _ (funext fun a => ?_)
      match a with
      | ⟨0, _⟩ => rfl
      | ⟨1, _⟩ => exact Fin.ext (by show 0 * 16 + s.val = s.val; omega)
    · rw [dif_neg h]
      exact (Finset.sum_eq_zero fun k _ => grad_pad m c k s h).symm

/-- From real gradients of the sums the padded ones are real. -/
theorem D_real (h : ∀ i, A0 m c i = ((A0 m c i).toReal : EReal)) (i : S4096x128.Idx) : D m c i - D m c i = 0 := by
  obtain ⟨r, s, rfl⟩ : ∃ (r : Fin 4096) (s : Fin 128), i = ix2 r s := ⟨i 0, i 1, (ix2_eta i).symm⟩
  rw [D_at]
  by_cases hs : s.val < 16
  · rw [dif_pos hs, show steps m c = val_main_v7 (F := Ideal) (A0 m c) from rfl, val_main_v7_apply, val_main_v6_apply, h,
      ← EReal.coe_sub, sub_self, EReal.coe_zero]
  · rw [dif_neg hs, sub_zero]

/-- From arguments that agree, the sums' gradient real numbers, both programs end with the same two gradients and their
arguments unchanged. -/
theorem algebraic : Cert.algebraic_CumBwdIdeal_CumBwdRefIdeal_pre_finite_dcum := by
  intro m g m' g' hpre hagree
  refine ⟨fun c => grad m c, fun c => db m c,
    (θ_run defs _ _).mono (fun _ h c => ?_) (Value.run_blocks m g),
    (θ_run CumBwdRefIdeal.defs _ _).mono (fun _ h c => ?_) (CumBwdRefIdeal.Value.run (F := Ideal) m' g')⟩
  · obtain ⟨o3, o4, rest⟩ := h c
    have hD := D_real m c fun i => real_of_flag (congrFun (hpre c) i)
    exact ⟨o3.trans (out_grad m c hD), o4.trans (out_db m c hD), rest⟩
  · obtain ⟨a0, a1, a2⟩ := hagree c
    obtain ⟨o3, o4, rest⟩ := h c
    refine ⟨o3.trans ((val_main_v13_eq _ _).trans (Eq.trans ?_ (ref_out m c))),
      o4.trans ((val_main_v15_eq _ _).trans (Eq.trans ?_ (ref_db m c))), rest⟩
    · rw [a0, a1, a2]
    · rw [a0, a1, a2]

end Cert.CumBwdIdeal.Product

end
-- ==== Proof.CumFwd.Equation.lean ====
/-
  The forget gates' running sums: a block of 512 rows at a time by a product with a triangle of ones, on top of the last
  row of the block before.
-/
module

public import proofs.«01_k».proof.Defs
public import proofs.«01_k».proof.Proof.Common.Join
public import proofs.«01_k».proof.Proof.Common.Cumsum
public import proofs.«01_k».proof.Proof.Common.Sums
public import proofs.«01_k».proof.Proof.Gen.CumFwdIdeal.Value
public import proofs.«01_k».proof.Proof.Gen.CumFwdRefIdeal.Run
public import proofs.«01_k».proof.Proof.Gen.CumFwdRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.CumFwdIdeal.Product

open Idealize.ShloMosaic Idealize.ShloMosaic.TcCoe Idealize.SL.Sem
open Cert.CumFwdIdeal Cert.CumFwdIdeal.Gen Cert.Product Cert.Att

/-- The logarithm of a gate, as the call writes it. -/
def logGate (x : EReal) : EReal := min x 0 - Ideal.log (1 + Ideal.exp (0 - max x (-x)))

/-- A gate's logarithm is a real number where the gate is open. -/
theorem logGate_real {x : EReal} (h : x ≠ ⊥) : logGate x = ((logGate x).toReal : EReal) := by
  have e : ∃ l : ℝ, logGate x = (l : EReal) := by
    unfold logGate
    induction x with
    | bot => exact absurd rfl h
    | top =>
      refine ⟨0, ?_⟩
      rw [min_eq_right le_top, max_eq_left (by simp), sub_eq_add_neg 0 (⊤ : EReal), EReal.neg_top, zero_add, Ideal.exp_bot, add_zero,
        ← EReal.coe_one, log_real one_pos, Real.log_one, EReal.coe_zero, sub_zero]
    | coe x =>
      refine ⟨min x 0 - Real.log (1 + Real.exp (0 - max x (-x))), ?_⟩
      rw [← EReal.coe_neg, ← EReal.coe_zero, ← EReal.coe_strictMono.monotone.map_max, ← EReal.coe_strictMono.monotone.map_min, ← EReal.coe_sub, Ideal.exp_coe, ← EReal.coe_one,
        ← EReal.coe_add, log_real (by positivity), ← EReal.coe_sub]
  obtain ⟨l, hl⟩ := e
  rw [hl, EReal.toReal_coe]

theorem logGate_bot : logGate ⊥ = ⊥ := by
  unfold logGate
  rw [min_eq_left bot_le, sub_eq_add_neg, EReal.bot_add]

/-- A sum with minus infinity in it is minus infinity. -/
theorem sum_bot {ι : Type} [Fintype ι] [DecidableEq ι] (f : ι → EReal) (k : ι) (h : f k = ⊥) : ∑ i, f i = ⊥ := by
  rw [← Finset.sum_erase_add _ _ (Finset.mem_univ k), h, EReal.add_bot]

section
variable (x : Vec Ideal S512x128 .f32) (b w : Vec Ideal S1x128 .f32) (r : Fin 512) (s : Fin 128)

/-- An entry of the triangle of ones. -/
abbrev tri (k r : Fin 512) : EReal :=
  FloatOps.sitofp (F := Ideal) .f32 ((IntOp.cmpi CmpIPredicate.sle (BitVec.ofNat 32 k.val) (BitVec.ofNat 32 r.val)).setWidth 32)

/-- The body's entry: the logarithms of the block's rows up to the entry's, on top of what is carried. -/
theorem body_at : k0_pay3 (F := Ideal) x b w (ix2 r s)
    = (∑ k : Fin 512, if k.val ≤ r.val then logGate (x (ix2 k s) + b (ix2 0 s)) else 0) + w (ix2 0 s) := by
  have e : k0_pay3 (F := Ideal) x b w (ix2 r s)
      = ((∑ k : Fin 512, tri k r * logGate (x (ix2 k s) + b (ix2 0 s)))
        + (∑ k : Fin 512, tri k r * (logGate (x (ix2 k s) + b (ix2 0 s)) - logGate (x (ix2 k s) + b (ix2 0 s))))
        + (∑ k : Fin 512, tri k r * (logGate (x (ix2 k s) + b (ix2 0 s)) - logGate (x (ix2 k s) + b (ix2 0 s))
          - (logGate (x (ix2 k s) + b (ix2 0 s)) - logGate (x (ix2 k s) + b (ix2 0 s)))))) + w (ix2 0 s) := by
    simp only [logGate, tri]
    pointwise [k0_pay3]
    rfl
  have t (k : Fin 512) (z : EReal) : tri k r * z = if k.val ≤ r.val then z else 0 := by
    rw [tri, triangle k.isLt r.isLt]
    by_cases hk : k.val ≤ r.val
    · rw [if_pos hk, if_pos hk, one_mul]
    · rw [if_neg hk, if_neg hk, zero_mul]
  rw [e]
  simp only [t]
  by_cases h : ∃ k : Fin 512, k.val ≤ r.val ∧ x (ix2 k s) + b (ix2 0 s) = ⊥
  · obtain ⟨k, hk, hx⟩ := h
    rw [sum_bot (fun k : Fin 512 => if k.val ≤ r.val then logGate (x (ix2 k s) + b (ix2 0 s)) else 0) k
      ((if_pos hk).trans (by rw [hx, logGate_bot]))]
    simp only [EReal.bot_add]
  · have hL (k : Fin 512) (hk : k.val ≤ r.val) : logGate (x (ix2 k s) + b (ix2 0 s)) - logGate (x (ix2 k s) + b (ix2 0 s)) = 0 := by
      rw [logGate_real fun hx => h ⟨k, hk, hx⟩, ← EReal.coe_sub, sub_self, EReal.coe_zero]
    rw [Finset.sum_eq_zero (f := fun k : Fin 512 => if k.val ≤ r.val then
        logGate (x (ix2 k s) + b (ix2 0 s)) - logGate (x (ix2 k s) + b (ix2 0 s)) else 0) fun k _ => ?_,
      Finset.sum_eq_zero (f := fun k : Fin 512 => if k.val ≤ r.val then
        logGate (x (ix2 k s) + b (ix2 0 s)) - logGate (x (ix2 k s) + b (ix2 0 s))
          - (logGate (x (ix2 k s) + b (ix2 0 s)) - logGate (x (ix2 k s) + b (ix2 0 s))) else 0) fun k _ => ?_, add_zero, add_zero]
    · by_cases hk : k.val ≤ r.val
      · rw [if_pos hk, hL k hk, sub_zero]
      · exact if_neg hk
    · by_cases hk : k.val ≤ r.val
      · rw [if_pos hk, hL k hk]
      · exact if_neg hk

theorem carry_at (v : FVec Ideal S512x128 .f32) : k0_pay1 (F := Ideal) v (ix2 0 s) = v (ix2 511 s) := by
  pointwise [k0_pay1]

theorem start_at : k0_pay2 (F := Ideal) (ix2 0 s) = 0 := by
  rw [← Ideal.ofBits_zero .f32]
  pointwise [k0_pay2]

end
section
variable (c : Dev nD) (i : grid0.Coords) (a1 : Memref sig .tc .vmem S512x128 .f32) (h1 : a1.IsWhole)
  (a2 : Memref sig .tc .vmem S1x128 .f32) (h2 : a2.IsWhole) (a3 : Memref sig .tc .vmem S512x128 .f32) (h3 : a3.IsWhole)
  (a4 : Memref sig .tc .vmem S1x128 .f32) (h4 : a4.IsWhole) (x : Vec Ideal S512x128 .f32) (b : Vec Ideal S1x128 .f32)

/-- What the body leaves at the first point, in its result and in what it carries. -/
theorem first (c0 : cond0_0 i) : out0_A_2 c i a1 h1 a2 h2 a3 h3 a4 h4 c0 x b = k0_pay3 x b (k0_pay2 (F := Ideal)) := by
  unfold out0_A_2
  rw [View.read_writes_eq_canon _ _ _ (cover0_A_2 c i a1 h1 a2 h2 a3 h3 a4 h4 c0 x b)]
  unfold kernelRun0_A
  dsimp only
  rw [View.canon_unit_zero hz]
  simp only [kernelRun0_A.sl.r, View.readAt_eq_ld, h1.read_unread, h2.read_unread,
    View.ld_unit_zero (S := S512x128) hz, View.ld_unit_zero (S := S1x128) hz]
  unfold kernelRun0_A.sl.v38
  unfold kernelRun0_A.sl.HS0_1
  exact congrArg (k0_pay3 x b) (View.readCov_unit_zero _ hz _ _)

theorem first_carry (c0 : cond0_0 i) :
    sout0_A_0 c i a1 h1 a2 h2 a3 h3 a4 h4 c0 x b = k0_pay1 (k0_pay3 x b (k0_pay2 (F := Ideal))) := by
  unfold sout0_A_0
  rw [View.read_writes_eq_canon _ _ _ (scover0_A_0 c i a1 h1 a2 h2 a3 h3 a4 h4 c0 x b)]
  unfold kernelRun0_A
  dsimp only
  have e := first c i a1 h1 a2 h2 a3 h3 a4 h4 x b c0
  unfold out0_A_2 at e
  rw [View.read_writes_eq_canon _ _ _ (cover0_A_2 c i a1 h1 a2 h2 a3 h3 a4 h4 c0 x b)] at e
  unfold kernelRun0_A at e
  dsimp only at e
  rw [View.canon_unit_zero hz] at e
  rw [e]
  exact View.canon_cons_unit_zero hz _ _ _

theorem later (c0 : ¬cond0_0 i) (w : Vec Ideal S1x128 .f32) : out0_B_2 c i a1 h1 a2 h2 a3 h3 a4 h4 c0 x b w = k0_pay3 x b w := by
  unfold out0_B_2
  rw [View.read_writes_eq_canon _ _ _ (cover0_B_2 c i a1 h1 a2 h2 a3 h3 a4 h4 c0 x b w)]
  unfold kernelRun0_B
  dsimp only
  rw [View.canon_unit_zero hz]
  simp only [kernelRun0_B.sl.r, View.readAt_eq_ld, h1.read_unread, h2.read_unread, h4.read_unread,
    View.ld_unit_zero (S := S512x128) hz, View.ld_unit_zero (S := S1x128) hz]

theorem later_carry (c0 : ¬cond0_0 i) (w : Vec Ideal S1x128 .f32) :
    sout0_B_0 c i a1 h1 a2 h2 a3 h3 a4 h4 c0 x b w = k0_pay1 (k0_pay3 x b w) := by
  unfold sout0_B_0
  rw [View.read_writes_eq_canon _ _ _ (scover0_B_0 c i a1 h1 a2 h2 a3 h3 a4 h4 c0 x b w)]
  unfold kernelRun0_B
  dsimp only
  rw [View.canon_unit_zero hz]
  simp only [kernelRun0_B.sl.r, View.readAt_eq_ld, h1.read_unread, h2.read_unread, h4.read_unread,
    View.ld_unit_zero (S := S512x128) hz, View.ld_unit_zero (S := S1x128) hz]

end

/-- Where each window's block lies at a point. -/
theorem idx : ∀ t : Fin grid0.N, win0_0.index t = ![t.val, 0] ∧ win0_1.index t = ![0, 0] ∧ win0_2.index t = ![t.val, 0] := by
  decide +kernel

theorem lt_N (t : Fin cfg0.N) : t.val < 8 := lt_of_lt_of_eq t.isLt N_0

/-- The row of an entry of a point's block. -/
abbrev row (t : Fin cfg0.N) (r : Fin 512) : Fin 4096 := ⟨t.val * 512 + r.val, by have := lt_N t; omega⟩

theorem x_emb (t : Fin cfg0.N) (r : Fin 512) (s : Fin 128) : ((cfg0.win 0).blk t).view.emb (ix2 r s) = ix2 (row t r) s := by
  blk_ext [idx t]

theorem b_emb (t : Fin cfg0.N) (s : Fin 128) : ((cfg0.win 1).blk t).view.emb (ix2 (0 : Fin 1) s) = ix2 (0 : Fin 1) s := by
  blk_ext [idx t]

theorem o_emb (t : Fin cfg0.N) (r : Fin 512) (s : Fin 128) : ((cfg0.win 2).blk t).view.emb (ix2 r s) = ix2 (row t r) s := by
  blk_ext [idx t]

variable (m : (ℓ : Loc nD τ sig) → Buf (Elt Ideal) ℓ) (c : Dev nD)

/-- The arguments. -/
abbrev A0 : (⟨S4096x128, .f32⟩ : BufTy).Contents (Elt Ideal) := m ((c.tc : Thread nD τ).loc main_arg0)
abbrev A1 : (⟨S16, .f32⟩ : BufTy).Contents (Elt Ideal) := m ((c.tc : Thread nD τ).loc main_arg1)

/-- The bias padded to the width of the gates. -/
def bias : S128.Idx → EReal := pad S128 ![0] ![112] ![0] (A1 m c) (fun _ => (((0#32).toInt : ℝ) : EReal)) Facts₀.pads_S16_S128_01120 Facts₀.h_S_

/-- A gate's argument, and the logarithms' running sums. -/
def pre (i : S4096x128.Idx) : EReal := A0 m c i + bias m c (ix1 (i 1))
def sums (i : S4096x128.Idx) : EReal := upTo (fun k => logGate (pre m c (ix2 k (i 1)))) (i 0)

theorem x_at (t : Fin cfg0.N) (r : Fin 512) (s : Fin 128) : (iblk m c 0 t : FVec Ideal S512x128 .f32) (ix2 r s)
    = A0 m c (ix2 (row t r) s) := by
  rw [← x_emb t r s, show A0 m c = V m c main_arg0 from (V_main_arg0 m c).symm]; rfl

theorem b_eq (s : Fin 128) : V m c main_v1 (ix2 (0 : Fin 1) s) = bias m c (ix1 s) := by
  rw [show V m c main_v1 = shapeCast S1x128 (bias m c) Facts₀.shapeCasts_S128_S1x128 by
    unfold V
    after_reads_simp
    rfl]
  pointwise []

theorem b_at (t : Fin cfg0.N) (s : Fin 128) : (iblk m c 1 t : FVec Ideal S1x128 .f32) (ix2 0 s) = bias m c (ix1 s) := by
  rw [← b_eq m c s]
  refine Eq.trans ?_ (congrArg (V m c main_v1) (b_emb t s))
  rfl

/-- The body at a point, over what the blocks before sum to. -/
theorem point (t : Fin cfg0.N) (w : Vec Ideal S1x128 .f32) (r : Fin 512) (s : Fin 128)
    (hw : w (ix2 0 s) = before (fun k => logGate (pre m c (ix2 k s))) (t.val * 512)) :
    k0_pay3 (F := Ideal) (iblk m c 0 t) (iblk m c 1 t) w (ix2 r s) = sums m c (ix2 (row t r) s) := by
  have e : ∀ k, HAdd.hAdd (α := EReal) (β := EReal) ((iblk m c 0 t : FVec Ideal S512x128 .f32) (ix2 k s))
      ((iblk m c 1 t : FVec Ideal S1x128 .f32) (ix2 0 s)) = pre m c (ix2 (row t k) s) := fun k => by rw [x_at, b_at]; rfl
  refine (body_at _ _ w r s).trans ?_
  rw [hw]
  refine Eq.trans (congrArg (· + _) (Finset.sum_congr rfl fun k _ => ?_))
    (upTo_tile (fun k => logGate (pre m c (ix2 k s))) t.val (lt_N t) r)
  rw [e]

/-- What is carried after a point: the sum of the blocks so far. -/
theorem carried (s : Fin 128) (n : ℕ) (hn : n < cfg0.N) : (outsAt0 m c n hn).2 (ix2 0 s)
    = before (fun k => logGate (pre m c (ix2 k s))) ((n + 1) * 512) := by
  have hN := lt_N ⟨n, hn⟩
  dsimp only at hN
  induction n with
  | zero =>
    rw [outsAt0_A m c ⟨0, hn⟩ rfl]
    dsimp only
    rw [first_carry, carry_at, point m c ⟨0, hn⟩ _ 511 s (by rw [start_at, Nat.zero_mul, before_zero])]
    exact upTo_last _ 0 hN
  | succ n ih =>
    rw [outsAt0_B m c ⟨n + 1, hn⟩ (by dsimp only; omega)]
    dsimp only
    rw [later_carry, carry_at]
    exact (point m c ⟨n + 1, hn⟩ _ 511 s (ih (Nat.lt_of_succ_lt hn) (by omega))).trans (upTo_last _ (n + 1) hN)

/-- The array the call leaves. -/
theorem out : (dats m 0 c).arrAt 2 cfg0.N = sums m c := by
  refine (dats m 0 c).arrAt_eq_of_covers 2 _ (by decide +kernel) fun t hf y => ?_
  blk_simp
  obtain ⟨r, s, rfl⟩ : ∃ (r : Fin 512) (s : Fin 128), y = ix2 r s := ⟨y 0, y 1, (ix2_eta y).symm⟩
  refine Eq.trans ?_ (congrArg (sums m c) (o_emb t r s).symm)
  have hN := lt_N t
  rw [after0_2]
  by_cases h0 : t.val % 8 = 0
  · rw [outsAt0_A m c t h0]
    dsimp only
    rw [first]
    exact point m c t _ r s (by rw [start_at, show t.val = 0 by omega, Nat.zero_mul, before_zero])
  · rw [outsAt0_B m c t h0]
    dsimp only
    rw [later]
    refine point m c t _ r s ((carried m c s (t.val - 1) _).trans ?_)
    rw [Nat.sub_add_cancel (by omega)]

/-- The logarithm of a gate, as the reference writes it. -/
theorem logGate_ref (x : EReal) :
    -(max (-x) 0 + Ideal.log (1 + Ideal.exp (-max (-x - 0) (-(-x - 0))))) = logGate x := by
  unfold logGate
  induction x with
  | bot =>
    rw [min_eq_left bot_le, EReal.neg_bot, sub_zero, EReal.neg_top, max_eq_left (b := (0 : EReal)) le_top, max_eq_left bot_le, EReal.neg_top,
      Ideal.exp_bot, add_zero, ← EReal.coe_one, log_real one_pos, Real.log_one, EReal.coe_zero, add_zero, EReal.neg_top,
      sub_eq_add_neg, EReal.bot_add]
  | top =>
    rw [min_eq_right le_top, max_eq_left (a := (⊤ : EReal)) (by simp), sub_eq_add_neg 0 (⊤ : EReal), EReal.neg_top, sub_zero, EReal.neg_bot,
      max_eq_right bot_le, max_eq_right bot_le, EReal.neg_top, zero_add, zero_add, Ideal.exp_bot, add_zero,
      ← EReal.coe_one, log_real one_pos, Real.log_one, EReal.coe_zero, sub_zero, neg_zero]
  | coe x =>
    rw [sub_zero, neg_neg, max_comm (-(x : EReal)) (x : EReal), zero_sub, ← EReal.coe_neg, ← EReal.coe_zero,
      ← EReal.coe_strictMono.monotone.map_max, ← EReal.coe_strictMono.monotone.map_max, ← EReal.coe_strictMono.monotone.map_min,
      ← EReal.coe_neg, Ideal.exp_coe, ← EReal.coe_one, ← EReal.coe_add, log_real (by positivity), ← EReal.coe_add, ← EReal.coe_sub,
      ← EReal.coe_neg]
    refine congrArg _ ?_
    rw [neg_add, ← sub_eq_add_neg, ← min_neg_neg, neg_neg, neg_zero]

open CumFwdRefIdeal.Read

theorem ref_pre (i : S4096x128.Idx) : val_main_v3 (F := Ideal) (A0 m c) (A1 m c) i = pre m c i := by
  rw [val_main_v3_apply, val_main_v2_apply, val_main_v1_apply]
  refine congrArg (A0 m c i + ·) (congrArg (bias m c) (funext fun a => ?_))
  obtain rfl := Subsingleton.elim a 0
  rfl

theorem ref_log (i : S4096x128.Idx) :
    val_main_v4 (F := Ideal) (A0 m c) (A1 m c) i = logGate (pre m c i) := by
  rw [← logGate_ref, ← ref_pre m c i, val_main_v4_apply, val_main_call1_v1_apply, val_main_call1_call0_v4_apply,
    val_main_call1_call0_v11_apply, val_main_call1_call0_v1_apply, val_main_call1_call0_v10_apply, val_main_call1_call0_v9_apply,
    val_main_call1_call0_v8_apply, val_main_call1_call0_v7_apply, val_main_call1_call0_v3_apply, val_main_call1_call0_v0_apply,
    val_main_call1_call0_v2_apply, val_main_call1_call0_cst_apply, val_main_call1_v0_apply]
  have z (y : EReal) : FloatOps.cmpf (F := Ideal) (φ := .f32) .une y y = 0#1 := by
    show BitVec.ofBool (decide (y ≠ y)) = 0#1
    rw [decide_eq_false (fun h => h rfl)]; rfl
  rw [z, ← Ideal.ofBits_zero .f32]
  rfl

theorem ref_eq : val_main_v5 (F := Ideal) (A0 m c) (A1 m c) = sums m c := by
  funext i
  obtain ⟨r, s, rfl⟩ : ∃ (r : Fin 4096) (s : Fin 128), i = ix2 r s := ⟨i 0, i 1, (ix2_eta i).symm⟩
  unfold val_main_v5
  generalize hx : val_main_v4 (F := Ideal) (A0 m c) (A1 m c) = x
  refine (windowed_add x _ _ _ ?_ r s).trans ?_
  · rw [val_main_call2_call0_v0_apply, val_main_call2_call0_cst_apply]
    exact Ideal.ofBits_zero .f32
  · exact congrArg (fun f => upTo f r) (funext fun k => by rw [← hx]; exact ref_log m c _)

/-- From arguments that agree, both programs end with the logarithms' running sums and their arguments unchanged. -/
theorem algebraic : Cert.algebraic_CumFwdIdeal_CumFwdRefIdeal := by
  intro m g m' g' _ hagree
  refine ⟨fun c => sums m c,
    (θ_run defs _ _).mono (fun _ h c => ?_) (Value.run_blocks m g),
    (θ_run CumFwdRefIdeal.defs _ _).mono (fun _ h c => ?_) (CumFwdRefIdeal.Value.run (F := Ideal) m' g')⟩
  · obtain ⟨o2, rest⟩ := h c
    exact ⟨o2.trans (out m c), rest⟩
  · obtain ⟨a0, a1⟩ := hagree c
    obtain ⟨o5, rest⟩ := h c
    refine ⟨o5.trans ((val_main_v5_eq _ _).trans (Eq.trans ?_ (ref_eq m c))), rest⟩
    rw [a0, a1]

end Cert.CumFwdIdeal.Product

end
-- ==== Proof.MidNorms.Equation.lean ====
/-
  The norms between the layers: the state grown by the normalised result of the first layer, and the new state normalised
  twice, once with each of the next layers' gains.
-/
module

public import proofs.«01_k».proof.Defs
public import proofs.«01_k».proof.Proof.Common.Join
public import proofs.«01_k».proof.Proof.Gen.MidNormsIdeal.Value
public import proofs.«01_k».proof.Proof.Gen.MidNormsRefIdeal.Run
public import proofs.«01_k».proof.Proof.Gen.MidNormsRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.MidNormsIdeal.Product

open Idealize.ShloMosaic Idealize.ShloMosaic.TcCoe Idealize.SL.Sem
open Cert.MidNormsIdeal Cert.MidNormsIdeal.Gen Cert.Product

/-- The factor that normalises a row: one over the root of its mean square. -/
def rms (f : Fin 2048 → EReal) : EReal :=
  Ideal.rsqrt (Ideal.div (∑ k : Fin 2048, f k * f k) (Ideal.ofBits .f32 0x45000000#32) + Ideal.ofBits .f32 0x358637BD#32)

section
variable (h o : Vec Ideal S256x2048 .f32) (g k : Vec Ideal S1x2048 .f32) (r : Fin 256) (s : Fin 2048)

/-- The new state, the factor that normalises its rows, and the state normalised. -/
theorem state_at : k0_pay2 (F := Ideal) h o g (ix2 r s)
    = h (ix2 r s) + o (ix2 r s) * rms (fun k => o (ix2 r k)) * g (ix2 0 s) := by
  unfold rms
  pointwise [k0_pay2]

theorem factor_at : k0_pay3 (F := Ideal) h o g (ix2 r (0 : Fin 1)) = rms fun k => k0_pay2 (F := Ideal) h o g (ix2 r k) := by
  unfold rms
  pointwise [k0_pay3]

theorem norm_at : k0_pay5 (F := Ideal) h o g k (ix2 r s)
    = k0_pay2 (F := Ideal) h o g (ix2 r s) * k0_pay3 (F := Ideal) h o g (ix2 r (0 : Fin 1)) * k (ix2 0 s) := by
  pointwise [k0_pay5]

theorem norm_at' : k0_pay1 (F := Ideal) (k0_pay4 h o g k) (ix2 r s)
    = k0_pay2 (F := Ideal) h o g (ix2 r s) * k0_pay3 (F := Ideal) h o g (ix2 r (0 : Fin 1)) * k (ix2 0 s) := by
  pointwise [k0_pay1, k0_pay4]

/-- What the body leaves in the results' blocks. -/
theorem body_h (u v : Vec Ideal S1x2048 .f32) : out0_5 (F := Ideal) h o g u v = k0_pay2 (F := Ideal) h o g := by
  unfold out0_5
  rw [View.canon_unit_zero hz]
  simp only [View.ld_unit_zero (S := S256x2048) hz, View.ld_unit_zero (S := S1x2048) hz]

theorem body_u (u v : Vec Ideal S1x2048 .f32) : out0_6 (F := Ideal) h o g u v = k0_pay5 (F := Ideal) h o g u := by
  unfold out0_6
  rw [View.canon_unit_zero hz]
  simp only [View.ld_unit_zero (S := S256x2048) hz, View.ld_unit_zero (S := S1x2048) hz]

theorem body_v (u v : Vec Ideal S1x2048 .f32) : out0_7 (F := Ideal) h o g u v = k0_pay1 (F := Ideal) (k0_pay4 h o g v) := by
  unfold out0_7
  rw [View.canon_unit_zero hz]
  simp only [View.ld_unit_zero (S := S256x2048) hz, View.ld_unit_zero (S := S1x2048) hz]

end

/-- Where each window's block lies at a point. -/
theorem idx : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] := by decide +kernel

theorem lt_N (t : Fin cfg0.N) : t.val < 16 := lt_of_lt_of_eq t.isLt N_0

/-- The row of an entry of a point's block. -/
abbrev row (t : Fin cfg0.N) (r : Fin 256) : Fin 4096 := ⟨256 * t.val + r.val, by have := lt_N t; omega⟩

theorem h_emb (t : Fin cfg0.N) (r : Fin 256) (s : Fin 2048) : ((cfg0.win 0).blk t).view.emb (ix2 r s) = ix2 (row t r) s := by
  blk_ext [idx t]

theorem o_emb (t : Fin cfg0.N) (r : Fin 256) (s : Fin 2048) : ((cfg0.win 1).blk t).view.emb (ix2 r s) = ix2 (row t r) s := by
  blk_ext [idx t]

theorem g_emb (t : Fin cfg0.N) (s : Fin 2048) : ((cfg0.win 2).blk t).view.emb (ix2 (0 : Fin 1) s) = ix2 (0 : Fin 1) s := by
  blk_ext [idx t]

theorem u_emb (t : Fin cfg0.N) (s : Fin 2048) : ((cfg0.win 3).blk t).view.emb (ix2 (0 : Fin 1) s) = ix2 (0 : Fin 1) s := by
  blk_ext [idx t]

theorem v_emb (t : Fin cfg0.N) (s : Fin 2048) : ((cfg0.win 4).blk t).view.emb (ix2 (0 : Fin 1) s) = ix2 (0 : Fin 1) s := by
  blk_ext [idx t]

theorem h1_emb (t : Fin cfg0.N) (r : Fin 256) (s : Fin 2048) : ((cfg0.win 5).blk t).view.emb (ix2 r s) = ix2 (row t r) s := by
  blk_ext [idx t]

theorem nu_emb (t : Fin cfg0.N) (r : Fin 256) (s : Fin 2048) : ((cfg0.win 6).blk t).view.emb (ix2 r s) = ix2 (row t r) s := by
  blk_ext [idx t]

theorem nv_emb (t : Fin cfg0.N) (r : Fin 256) (s : Fin 2048) : ((cfg0.win 7).blk t).view.emb (ix2 r s) = ix2 (row t r) s := by
  blk_ext [idx t]

variable (m : (ℓ : Loc nD τ sig) → Buf (Elt Ideal) ℓ) (c : Dev nD)

/-- The arguments, which are the operands of the call. -/
abbrev A0 : (⟨S4096x2048, .f32⟩ : BufTy).Contents (Elt Ideal) := m ((c.tc : Thread nD τ).loc main_arg0)
abbrev A1 : (⟨S4096x2048, .f32⟩ : BufTy).Contents (Elt Ideal) := m ((c.tc : Thread nD τ).loc main_arg1)
abbrev A2 : (⟨S1x2048, .f32⟩ : BufTy).Contents (Elt Ideal) := m ((c.tc : Thread nD τ).loc main_arg2)
abbrev A3 : (⟨S1x2048, .f32⟩ : BufTy).Contents (Elt Ideal) := m ((c.tc : Thread nD τ).loc main_arg3)
abbrev A4 : (⟨S1x2048, .f32⟩ : BufTy).Contents (Elt Ideal) := m ((c.tc : Thread nD τ).loc main_arg4)

/-- An array's rows normalised, with a gain for each column. -/
def normed (x : S4096x2048.Idx → EReal) (g : S1x2048.Idx → EReal) : S4096x2048.Idx → EReal :=
  fun i => x i * rms (fun k => x (ix2 (i 0) k)) * g (ix2 0 (i 1))

/-- The new state. -/
def state : S4096x2048.Idx → EReal := fun i => A0 m c i + normed (A1 m c) (A2 m c) i

theorem h_at (t : Fin cfg0.N) (r : Fin 256) (s : Fin 2048) : (iblk m c 0 t : FVec Ideal S256x2048 .f32) (ix2 r s)
    = A0 m c (ix2 (row t r) s) := by
  rw [← h_emb t r s, show A0 m c = V m c main_arg0 from (V_main_arg0 m c).symm]; rfl

theorem o_at (t : Fin cfg0.N) (r : Fin 256) (s : Fin 2048) : (iblk m c 1 t : FVec Ideal S256x2048 .f32) (ix2 r s)
    = A1 m c (ix2 (row t r) s) := by
  rw [← o_emb t r s, show A1 m c = V m c main_arg1 from (V_main_arg1 m c).symm]; rfl

theorem g_at (t : Fin cfg0.N) (s : Fin 2048) : (iblk m c 2 t : FVec Ideal S1x2048 .f32) (ix2 0 s) = A2 m c (ix2 0 s) := by
  refine Eq.trans ?_ (congrArg (A2 m c) (g_emb t s))
  rw [show A2 m c = V m c main_arg2 from (V_main_arg2 m c).symm]; rfl

theorem u_at (t : Fin cfg0.N) (s : Fin 2048) : (iblk m c 3 t : FVec Ideal S1x2048 .f32) (ix2 0 s) = A3 m c (ix2 0 s) := by
  refine Eq.trans ?_ (congrArg (A3 m c) (u_emb t s))
  rw [show A3 m c = V m c main_arg3 from (V_main_arg3 m c).symm]; rfl

theorem v_at (t : Fin cfg0.N) (s : Fin 2048) : (iblk m c 4 t : FVec Ideal S1x2048 .f32) (ix2 0 s) = A4 m c (ix2 0 s) := by
  refine Eq.trans ?_ (congrArg (A4 m c) (v_emb t s))
  rw [show A4 m c = V m c main_arg4 from (V_main_arg4 m c).symm]; rfl

/-- The new state's entry in a point's block, and the factor of its row. -/
theorem blk_state (t : Fin cfg0.N) (r : Fin 256) (s : Fin 2048) :
    k0_pay2 (F := Ideal) (iblk m c 0 t) (iblk m c 1 t) (iblk m c 2 t) (ix2 r s) = state m c (ix2 (row t r) s) := by
  rw [state_at, h_at, o_at, g_at]
  refine congrArg (fun f => A0 m c (ix2 (row t r) s) + A1 m c (ix2 (row t r) s) * rms f * A2 m c (ix2 0 s)) ?_
  exact funext fun k => o_at m c t r k

theorem blk_factor (t : Fin cfg0.N) (r : Fin 256) :
    k0_pay3 (F := Ideal) (iblk m c 0 t) (iblk m c 1 t) (iblk m c 2 t) (ix2 r (0 : Fin 1))
      = rms fun k => state m c (ix2 (row t r) k) :=
  (factor_at _ _ _ r).trans (congrArg rms (funext fun k => blk_state m c t r k))

/-- The arrays the call leaves. -/
theorem out_h : (dats m 0 c).arrAt 5 cfg0.N = state m c := by
  refine (dats m 0 c).arrAt_eq_of_covers 5 _ (by decide +kernel) fun t hf y => ?_
  blk_simp
  obtain ⟨r, s, rfl⟩ : ∃ (r : Fin 256) (s : Fin 2048), y = ix2 r s := ⟨y 0, y 1, (ix2_eta y).symm⟩
  rw [after0_5, body_h]
  exact (blk_state m c t r s).trans (congrArg (state m c) (h1_emb t r s).symm)

theorem out_u : (dats m 0 c).arrAt 6 cfg0.N = normed (state m c) (A3 m c) := by
  refine (dats m 0 c).arrAt_eq_of_covers 6 _ (by decide +kernel) fun t hf y => ?_
  blk_simp
  obtain ⟨r, s, rfl⟩ : ∃ (r : Fin 256) (s : Fin 2048), y = ix2 r s := ⟨y 0, y 1, (ix2_eta y).symm⟩
  rw [after0_6, body_u]
  refine (norm_at _ _ _ _ r s).trans ?_
  refine Eq.trans ?_ (congrArg (normed (state m c) (A3 m c)) (nu_emb t r s).symm)
  rw [blk_state, blk_factor, u_at]
  rfl

theorem out_v : (dats m 0 c).arrAt 7 cfg0.N = normed (state m c) (A4 m c) := by
  refine (dats m 0 c).arrAt_eq_of_covers 7 _ (by decide +kernel) fun t hf y => ?_
  blk_simp
  obtain ⟨r, s, rfl⟩ : ∃ (r : Fin 256) (s : Fin 2048), y = ix2 r s := ⟨y 0, y 1, (ix2_eta y).symm⟩
  rw [after0_7, body_v]
  refine (norm_at' _ _ _ _ r s).trans ?_
  refine Eq.trans ?_ (congrArg (normed (state m c) (A4 m c)) (nv_emb t r s).symm)
  rw [blk_state, blk_factor, v_at]
  rfl

open MidNormsRefIdeal.Read

/-- The reference's row sums start at zero. -/
theorem zero_add_sum (f : Fin 2048 → EReal) : (FloatOps.ofBits (F := Ideal) .f32 0x00000000#32 : EReal) + ∑ k, f k = ∑ k, f k := by
  rw [Ideal.ofBits_def, Ideal.ofBits_zero .f32, zero_add]

/-- The reference's factors of a row, its state and its normed states. -/
theorem ref_factor (i : MidNormsRefIdeal.S4096x1.Idx) : val_main_v7 (F := Ideal) (A1 m c) i = rms fun k => A1 m c (ix2 (i 0) k) := by
  rw [val_main_v7_apply, val_main_v6_apply, val_main_v5_apply, val_main_v4_apply, val_main_v3_apply, val_main_v2_apply,
    val_main_v1_apply, val_main_cst_apply, zero_add_sum]
  refine congrArg (fun x : EReal => Ideal.rsqrt (Ideal.div x (Ideal.ofBits .f32 0x45000000#32) + Ideal.ofBits .f32 0x358637BD#32))
    (Finset.sum_congr rfl fun k _ => ?_)
  rw [val_main_v0_apply]
  exact congrArg (fun j => A1 m c j * A1 m c j) (funext fun a => match a with
      | ⟨0, _⟩ => rfl
      | ⟨1, _⟩ => rfl)

theorem ref_h : val_main_v12 (F := Ideal) (A0 m c) (A1 m c) (A2 m c) = state m c := by
  funext i
  have e : (idx_main_v10 i : S1x2048.Idx) = ix2 0 (i 1) := funext fun a => match a with
    | ⟨0, _⟩ => rfl
    | ⟨1, _⟩ => rfl
  rw [val_main_v12_apply, val_main_v11_apply, val_main_v10_apply, val_main_v9_apply, val_main_v8_apply, ref_factor, e]
  rfl

theorem ref_factor_u (i : MidNormsRefIdeal.S4096x1.Idx) :
    val_main_v20 (F := Ideal) (A0 m c) (A1 m c) (A2 m c) i = rms fun k => state m c (ix2 (i 0) k) := by
  rw [val_main_v20_apply, val_main_v19_apply, val_main_v18_apply, val_main_v17_apply, val_main_v16_apply, val_main_v15_apply,
    val_main_v14_apply, val_main_cst_2_apply, zero_add_sum]
  refine congrArg (fun x : EReal => Ideal.rsqrt (Ideal.div x (Ideal.ofBits .f32 0x45000000#32) + Ideal.ofBits .f32 0x358637BD#32))
    (Finset.sum_congr rfl fun k _ => ?_)
  rw [val_main_v13_apply, ref_h]
  exact congrArg (fun j => state m c j * state m c j) (funext fun a => match a with
      | ⟨0, _⟩ => rfl
      | ⟨1, _⟩ => rfl)

theorem ref_factor_v (i : MidNormsRefIdeal.S4096x1.Idx) :
    val_main_v33 (F := Ideal) (A0 m c) (A1 m c) (A2 m c) i = rms fun k => state m c (ix2 (i 0) k) :=
  ref_factor_u m c i

theorem ref_u : val_main_v25 (F := Ideal) (A0 m c) (A1 m c) (A2 m c) (A3 m c) = normed (state m c) (A3 m c) := by
  funext i
  have e : (idx_main_v23 i : S1x2048.Idx) = ix2 0 (i 1) := funext fun a => match a with
    | ⟨0, _⟩ => rfl
    | ⟨1, _⟩ => rfl
  rw [val_main_v25_apply, val_main_v24_apply, val_main_v23_apply, val_main_v22_apply, val_main_v21_apply, ref_factor_u, ref_h, e]
  rfl

theorem ref_v : val_main_v38 (F := Ideal) (A0 m c) (A1 m c) (A2 m c) (A4 m c) = normed (state m c) (A4 m c) := by
  funext i
  have e : (idx_main_v36 i : S1x2048.Idx) = ix2 0 (i 1) := funext fun a => match a with
    | ⟨0, _⟩ => rfl
    | ⟨1, _⟩ => rfl
  rw [val_main_v38_apply, val_main_v37_apply, val_main_v36_apply, val_main_v35_apply, val_main_v34_apply, ref_factor_v, ref_h, e]
  rfl

/-- From arguments that agree, both programs end with the same three arrays and their arguments unchanged. -/
theorem algebraic : Cert.algebraic_MidNormsIdeal_MidNormsRefIdeal := by
  intro m g m' g' _ hagree
  refine ⟨fun c => state m c, fun c => normed (state m c) (A3 m c), fun c => normed (state m c) (A4 m c),
    (θ_run defs _ _).mono (fun _ h c => ?_) (Value.run_blocks m g),
    (θ_run MidNormsRefIdeal.defs _ _).mono (fun _ h c => ?_) (MidNormsRefIdeal.Value.run (F := Ideal) m' g')⟩
  · obtain ⟨o5, o6, o7, rest⟩ := h c
    exact ⟨o5.trans (out_h m c), o6.trans (out_u m c), o7.trans (out_v m c), rest⟩
  · obtain ⟨a0, a1, a2, a3, a4⟩ := hagree c
    obtain ⟨o5, o6, o7, rest⟩ := h c
    refine ⟨o5.trans ((val_main_v12_eq _ _ _).trans (Eq.trans ?_ (ref_h m c))),
      o6.trans ((val_main_v25_eq _ _ _ _).trans (Eq.trans ?_ (ref_u m c))),
      o7.trans ((val_main_v38_eq _ _ _ _).trans (Eq.trans ?_ (ref_v m c))), rest⟩
    · rw [a0, a1, a2]
    · rw [a0, a1, a2, a3]
    · rw [a0, a1, a2, a4]

end Cert.MidNormsIdeal.Product

end
-- ==== Proof.LossHead.Equation.lean ====
/-
  The loss head: the loss of one device's rows, summed a block of 256 at a time, and its gradients in the last state, in the
  last layer's result and in the gain of the norm between them.
-/
module

public import proofs.«01_k».proof.Defs
public import proofs.«01_k».proof.Proof.Common.Join
public import proofs.«01_k».proof.Proof.Common.GeluSlope
public import proofs.«01_k».proof.Proof.Gen.LossHeadIdeal.Value
public import proofs.«01_k».proof.Proof.Gen.LossHeadRefIdeal.Run
public import proofs.«01_k».proof.Proof.Gen.LossHeadRefIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.LossHeadIdeal.Product

open Idealize.ShloMosaic Idealize.ShloMosaic.TcCoe Idealize.SL.Sem
open Cert.LossHeadIdeal Cert.LossHeadIdeal.Gen Cert.Product

/-- The factor that normalises a row: one over the root of its mean square. -/
def rms (f : Fin 2048 → EReal) : EReal :=
  Ideal.rsqrt (Ideal.div (∑ k : Fin 2048, f k * f k) (Ideal.ofBits .f32 0x45000000#32) + Ideal.ofBits .f32 0x358637BD#32)

/-- The numbers the programs hold: a row's length and one over it, two, minus a half and what is added to a mean square. -/
theorem ofBits_len : Ideal.ofBits .f32 0x45000000#32 = ((2048 : ℝ) : EReal) := by
  simp [Ideal.ofBits, Ideal.ieee, -EReal.coe_mul]
  norm_num

theorem ofBits_part : Ideal.ofBits .f32 0x3A000000#32 = ((1 / 2048 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_neg_half : Ideal.ofBits .f32 0xBF000000#32 = ((-1 / 2 : ℝ) : EReal) := by
  simp [Ideal.ofBits, Ideal.ieee, -EReal.coe_mul]
  norm_num

theorem ofBits_eps : Ideal.ofBits .f32 0x358637BD#32 = ((8796093 / 8796093022208 : ℝ) : EReal) := by
  simp [Ideal.ofBits, Ideal.ieee, -EReal.coe_mul]
  norm_num

/-- A square is not negative. -/
theorem square_nonneg (x : EReal) : 0 ≤ x * x := by
  induction x with
  | bot => simp
  | top => simp
  | coe x => exact_mod_cast mul_self_nonneg x

/-- A row's mean square with the small number added is positive. -/
theorem mean_pos (f : Fin 2048 → EReal) :
    0 < Ideal.div (∑ k : Fin 2048, f k * f k) (Ideal.ofBits .f32 0x45000000#32) + Ideal.ofBits .f32 0x358637BD#32 := by
  rw [ofBits_len, ofBits_eps, Ideal.div_coe (by norm_num)]
  have e : (0 : EReal) < ((8796093 / 8796093022208 : ℝ) : EReal) := by
    rw [← EReal.coe_zero, EReal.coe_lt_coe_iff]; norm_num
  have l : (0 : EReal) ≤ ((1 / 2048 : ℝ) : EReal) := by
    rw [← EReal.coe_zero, EReal.coe_le_coe_iff]; norm_num
  exact lt_of_lt_of_le e (le_add_of_nonneg_left (mul_nonneg (Finset.sum_nonneg fun k _ => square_nonneg (f k)) l))

/-- One over the root of a positive number, divided by the number, is its cube. -/
theorem cube {v : EReal} (h : 0 < v) : Ideal.div (Ideal.rsqrt v) v = Ideal.rsqrt v * Ideal.rsqrt v * Ideal.rsqrt v := by
  induction v with
  | bot => exact absurd h (by simp)
  | top => simp [Ideal.div]
  | coe x =>
    have hx : 0 < x := by exact_mod_cast h
    have e : 1 / x = (Real.sqrt x)⁻¹ * (Real.sqrt x)⁻¹ := by rw [← mul_inv, Real.mul_self_sqrt hx.le, one_div]
    rw [Ideal.rsqrt_coe, if_neg (not_lt.mpr hx.le), if_neg hx.ne', Ideal.div_coe hx.ne', e, ← EReal.coe_mul, ← EReal.coe_mul,
      ← EReal.coe_mul, ← mul_assoc]

/-- Minus a half of a number twice is minus the number. -/
theorem neg_halves (w : EReal) : ((-1 / 2 : ℝ) : EReal) * w + ((-1 / 2 : ℝ) : EReal) * w = -w := by
  have n : (-1 / 2 : ℝ) < 0 := by norm_num
  induction w with
  | bot => rw [EReal.coe_mul_bot_of_neg n]; simp
  | top => rw [EReal.coe_mul_top_of_neg n]; simp
  | coe w =>
    rw [← EReal.coe_mul, ← EReal.coe_add, ← EReal.coe_neg]
    congr 1
    ring

/-- The derivative through a row's mean square, as the chain rule leaves it and as one product. -/
theorem through_mean (d o s q r : EReal) :
    d * r + o * Ideal.div (s * (Ideal.ofBits .f32 0xBF000000#32 * q)) (Ideal.ofBits .f32 0x45000000#32)
        + Ideal.div (s * (Ideal.ofBits .f32 0xBF000000#32 * q)) (Ideal.ofBits .f32 0x45000000#32) * o
      = r * d - o * q * Ideal.div s (Ideal.ofBits .f32 0x45000000#32) := by
  rw [ofBits_len, ofBits_neg_half, Ideal.div_coe (by norm_num), Ideal.div_coe (by norm_num), sub_eq_add_neg, ← neg_halves,
    add_assoc, mul_comm d r]
  congr 2
  · ac_rfl
  · ac_rfl

/-- Half of a sum is the sum of the halves. -/
theorem half_sum {n : ℕ} (f : Fin n → EReal) :
    Ideal.ofBits .f32 0x3F000000#32 * ∑ k, f k = ∑ k, Ideal.ofBits .f32 0x3F000000#32 * f k := by
  have p : (0 : EReal) ≤ ((1 / 2 : ℝ) : EReal) := by
    rw [← EReal.coe_zero, EReal.coe_le_coe_iff]; norm_num
  rw [ofBits_half]
  induction n with
  | zero => simp
  | succ n ih =>
    rw [Fin.sum_univ_succ, Fin.sum_univ_succ, EReal.left_distrib_of_nonneg_of_ne_top p (EReal.coe_ne_top _), ih]

section
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S256x2048 .f32) (h3 : a3.IsWhole)
  (a4 : Memref sig .tc .vmem S1x2048 .f32) (h4 : a4.IsWhole) (a5 : Memref sig .tc .vmem S256x2048 .f32) (h5 : a5.IsWhole)
  (a6 : Memref sig .tc .vmem S256x2048 .bf16) (h6 : a6.IsWhole) (a7 : Memref sig .tc .vmem S1x128 .f32) (h7 : a7.IsWhole)
  (a8 : Memref sig .tc .vmem S1x2048 .f32) (h8 : a8.IsWhole)
  (h o t : Vec Ideal S256x2048 .f32) (g : Vec Ideal S1x2048 .f32)

/-- What the body leaves at the first point. -/
theorem first_h (c0 : cond0_0 i) (c1 : ¬cond0_1 i) (c2 : cond0_2 i) (c3 : ¬cond0_3 i) :
    out0_A_4 c i a1 h1 a2 h2 a3 h3 a4 h4 a5 h5 a6 h6 a7 h7 a8 h8 c0 c1 c2 c3 h o t g
      = k0_pay7 h o t g := by
  unfold out0_A_4
  rw [View.read_writes_eq_canon _ _ _ (cover0_A_4 c i a1 h1 a2 h2 a3 h3 a4 h4 a5 h5 a6 h6 a7 h7 a8 h8 c0 c1 c2 c3 h o t g)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5,
    kernelRun0_A.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

theorem first_o (c0 : cond0_0 i) (c1 : ¬cond0_1 i) (c2 : cond0_2 i) (c3 : ¬cond0_3 i) :
    out0_A_5 c i a1 h1 a2 h2 a3 h3 a4 h4 a5 h5 a6 h6 a7 h7 a8 h8 c0 c1 c2 c3 h o t g
      = k0_pay3 (k0_pay10 h o t g) (k0_pay11 o) (k0_pay12 h o t g) := by
  unfold out0_A_5
  rw [View.read_writes_eq_canon _ _ _ (cover0_A_5 c i a1 h1 a2 h2 a3 h3 a4 h4 a5 h5 a6 h6 a7 h7 a8 h8 c0 c1 c2 c3 h o t g)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5,
    kernelRun0_A.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

theorem first_l (c0 : cond0_0 i) (c1 : ¬cond0_1 i) (c2 : cond0_2 i) (c3 : ¬cond0_3 i) :
    out0_A_6 c i a1 h1 a2 h2 a3 h3 a4 h4 a5 h5 a6 h6 a7 h7 a8 h8 c0 c1 c2 c3 h o t g
      = k0_pay1 (k0_pay6 h o t g) := by
  unfold out0_A_6
  rw [View.read_writes_eq_canon _ _ _ (cover0_A_6 c i a1 h1 a2 h2 a3 h3 a4 h4 a5 h5 a6 h6 a7 h7 a8 h8 c0 c1 c2 c3 h o t g)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5,
    kernelRun0_A.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

theorem first_g (c0 : cond0_0 i) (c1 : ¬cond0_1 i) (c2 : cond0_2 i) (c3 : ¬cond0_3 i) :
    out0_A_7 c i a1 h1 a2 h2 a3 h3 a4 h4 a5 h5 a6 h6 a7 h7 a8 h8 c0 c1 c2 c3 h o t g
      = k0_pay2 o (k0_pay7 h o t g) (k0_pay8 o) := by
  unfold out0_A_7
  rw [View.read_writes_eq_canon _ _ _ (cover0_A_7 c i a1 h1 a2 h2 a3 h3 a4 h4 a5 h5 a6 h6 a7 h7 a8 h8 c0 c1 c2 c3 h o t g)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5,
    kernelRun0_A.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

/-- What it leaves at a later one: the same, the loss and the gain's gradient added to what the point before left. -/
theorem later_h (c0 : ¬cond0_0 i) (c1 : cond0_1 i) (c2 : ¬cond0_2 i) (c3 : cond0_3 i)
    (w : Vec Ideal S1x128 .f32) (v : Vec Ideal S1x2048 .f32) :
    out0_B_4 c i a1 h1 a2 h2 a3 h3 a4 h4 a5 h5 a6 h6 a7 h7 a8 h8 c0 c1 c2 c3 h o t g w v
      = k0_pay7 h o t g := by
  unfold out0_B_4
  rw [View.read_writes_eq_canon _ _ _ (cover0_B_4 c i a1 h1 a2 h2 a3 h3 a4 h4 a5 h5 a6 h6 a7 h7 a8 h8 c0 c1 c2 c3 h o t g w v)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5,
    kernelRun0_B.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

theorem later_o (c0 : ¬cond0_0 i) (c1 : cond0_1 i) (c2 : ¬cond0_2 i) (c3 : cond0_3 i)
    (w : Vec Ideal S1x128 .f32) (v : Vec Ideal S1x2048 .f32) :
    out0_B_5 c i a1 h1 a2 h2 a3 h3 a4 h4 a5 h5 a6 h6 a7 h7 a8 h8 c0 c1 c2 c3 h o t g w v
      = k0_pay3 (k0_pay10 h o t g) (k0_pay11 o) (k0_pay12 h o t g) := by
  unfold out0_B_5
  rw [View.read_writes_eq_canon _ _ _ (cover0_B_5 c i a1 h1 a2 h2 a3 h3 a4 h4 a5 h5 a6 h6 a7 h7 a8 h8 c0 c1 c2 c3 h o t g w v)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5,
    kernelRun0_B.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

theorem later_l (c0 : ¬cond0_0 i) (c1 : cond0_1 i) (c2 : ¬cond0_2 i) (c3 : cond0_3 i)
    (w : Vec Ideal S1x128 .f32) (v : Vec Ideal S1x2048 .f32) :
    out0_B_6 c i a1 h1 a2 h2 a3 h3 a4 h4 a5 h5 a6 h6 a7 h7 a8 h8 c0 c1 c2 c3 h o t g w v
      = k0_pay4 (k0_pay6 h o t g) w := by
  unfold out0_B_6
  rw [View.read_writes_eq_canon _ _ _ (cover0_B_6 c i a1 h1 a2 h2 a3 h3 a4 h4 a5 h5 a6 h6 a7 h7 a8 h8 c0 c1 c2 c3 h o t g w v)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5,
    kernelRun0_B.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

theorem later_g (c0 : ¬cond0_0 i) (c1 : cond0_1 i) (c2 : ¬cond0_2 i) (c3 : cond0_3 i)
    (w : Vec Ideal S1x128 .f32) (v : Vec Ideal S1x2048 .f32) :
    out0_B_7 c i a1 h1 a2 h2 a3 h3 a4 h4 a5 h5 a6 h6 a7 h7 a8 h8 c0 c1 c2 c3 h o t g w v
      = k0_pay5 o (k0_pay7 h o t g) (k0_pay8 o) v := by
  unfold out0_B_7
  rw [View.read_writes_eq_canon _ _ _ (cover0_B_7 c i a1 h1 a2 h2 a3 h3 a4 h4 a5 h5 a6 h6 a7 h7 a8 h8 c0 c1 c2 c3 h o t g w v)]
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5,
    kernelRun0_B.sl.r_6, View.readAt_eq_ld, h1.read_unread, h2.read_unread, h3.read_unread, h4.read_unread, h7.read_unread, h8.read_unread,
    View.ld_unit_zero (S := S256x2048) hz, View.ld_unit_zero (S := S1x2048) hz, View.ld_unit_zero (S := S1x128) hz]

/-- The distance to the target, the factor that normalises a row, and each result's entry. -/
theorem err_pay (r : Fin 256) (s : Fin 2048) : k0_pay6 (F := Ideal) h o t g (ix2 r s)
    = h (ix2 r s) + o (ix2 r s) * rms (fun k => o (ix2 r k)) * g (ix2 0 s) - t (ix2 r s) := by
  unfold rms
  pointwise [k0_pay6]

theorem factor_pay (r : Fin 256) : k0_pay8 (F := Ideal) o (ix2 r (0 : Fin 1)) = rms fun k => o (ix2 r k) := by
  unfold rms
  pointwise [k0_pay8]

theorem h_pay (r : Fin 256) (s : Fin 2048) : k0_pay7 (F := Ideal) h o t g (ix2 r s)
    = k0_pay6 (F := Ideal) h o t g (ix2 r s) * Ideal.ofBits .f32 0x3A000000#32 := rfl

theorem gain_pay (r : Fin 256) (s : Fin 2048) : k0_pay9 (F := Ideal) h o t g (ix2 r s)
    = k0_pay7 (F := Ideal) h o t g (ix2 r s) * g (ix2 0 s) := by
  pointwise [k0_pay9]

theorem o_pay (r : Fin 256) (s : Fin 2048) : k0_pay3 (F := Ideal) (k0_pay10 h o t g) (k0_pay11 o) (k0_pay12 h o t g) (ix2 r s)
    = k0_pay8 (F := Ideal) o (ix2 r (0 : Fin 1)) * k0_pay9 (F := Ideal) h o t g (ix2 r s)
      - o (ix2 r s) * (k0_pay8 (F := Ideal) o (ix2 r (0 : Fin 1)) * k0_pay8 (F := Ideal) o (ix2 r (0 : Fin 1))
          * k0_pay8 (F := Ideal) o (ix2 r (0 : Fin 1)))
        * Ideal.div (∑ k : Fin 2048, k0_pay9 (F := Ideal) h o t g (ix2 r k) * o (ix2 r k)) (Ideal.ofBits .f32 0x45000000#32) := by
  pointwise [k0_pay3, k0_pay10, k0_pay11, k0_pay12]

theorem g_pay (d : FVec Ideal S256x2048 .f32) (f : FVec Ideal S256x1 .f32) (s : Fin 2048) : k0_pay2 (F := Ideal) o d f (ix2 0 s)
    = ∑ r : Fin 256, d (ix2 r s) * (o (ix2 r s) * f (ix2 r (0 : Fin 1))) := by
  pointwise [k0_pay2]

theorem g_next (d : FVec Ideal S256x2048 .f32) (f : FVec Ideal S256x1 .f32) (v : Vec Ideal S1x2048 .f32) (s : Fin 2048) :
    k0_pay5 (F := Ideal) o d f v (ix2 0 s) = v (ix2 0 s) + k0_pay2 (F := Ideal) o d f (ix2 0 s) := by
  pointwise [k0_pay5]

theorem l_pay (e : FVec Ideal S256x2048 .f32) (s : Fin 128) : k0_pay1 (F := Ideal) e (ix2 0 s)
    = Ideal.ofBits .f32 0x3F000000#32
      * ∑ r : Fin 256, Ideal.div (∑ k : Fin 2048, e (ix2 r k) * e (ix2 r k)) (Ideal.ofBits .f32 0x45000000#32) := by
  pointwise [k0_pay1]

theorem l_next (e : FVec Ideal S256x2048 .f32) (w : Vec Ideal S1x128 .f32) (s : Fin 128) :
    k0_pay4 (F := Ideal) e w (ix2 0 s) = w (ix2 0 s) + k0_pay1 (F := Ideal) e (ix2 0 s) := by
  pointwise [k0_pay4]

end

/-- Where each window's block lies at a point. -/
theorem idx : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] := by decide +kernel

theorem lt_N (t : Fin cfg0.N) : t.val < 16 := lt_of_lt_of_eq t.isLt N_0

/-- The row of an entry of a point's block. -/
abbrev row (t : Fin cfg0.N) (r : Fin 256) : Fin 4096 := ⟨t.val * 256 + r.val, by have := lt_N t; omega⟩

theorem h_emb (t : Fin cfg0.N) (r : Fin 256) (s : Fin 2048) : ((cfg0.win 0).blk t).view.emb (ix2 r s) = ix2 (row t r) s := by
  blk_ext [idx t]

theorem o_emb (t : Fin cfg0.N) (r : Fin 256) (s : Fin 2048) : ((cfg0.win 1).blk t).view.emb (ix2 r s) = ix2 (row t r) s := by
  blk_ext [idx t]

theorem t_emb (t : Fin cfg0.N) (r : Fin 256) (s : Fin 2048) : ((cfg0.win 2).blk t).view.emb (ix2 r s) = ix2 (row t r) s := by
  blk_ext [idx t]

theorem dh_emb (t : Fin cfg0.N) (r : Fin 256) (s : Fin 2048) : ((cfg0.win 4).blk t).view.emb (ix2 r s) = ix2 (row t r) s := by
  blk_ext [idx t]

theorem do_emb (t : Fin cfg0.N) (r : Fin 256) (s : Fin 2048) : ((cfg0.win 5).blk t).view.emb (ix2 r s) = ix2 (row t r) s := by
  blk_ext [idx t]

theorem g_emb (t : Fin cfg0.N) (s : Fin 2048) : ((cfg0.win 3).blk t).view.emb (ix2 (0 : Fin 1) s) = ix2 (0 : Fin 1) s := by
  blk_ext [idx t]

theorem dg_emb (t : Fin cfg0.N) (s : Fin 2048) : ((cfg0.win 7).blk t).view.emb (ix2 (0 : Fin 1) s) = ix2 (0 : Fin 1) s := by
  blk_ext [idx t]

theorem l_emb (t : Fin cfg0.N) (s : Fin 128) : ((cfg0.win 6).blk t).view.emb (ix2 (0 : Fin 1) s) = ix2 (0 : Fin 1) s := by
  blk_ext [idx t]

variable (m : (ℓ : Loc nD τ sig) → Buf (Elt Ideal) ℓ) (c : Dev nD)

/-- The arguments, which are the operands of the call. -/
abbrev A0 : (⟨S4096x2048, .f32⟩ : BufTy).Contents (Elt Ideal) := m ((c.tc : Thread nD τ).loc main_arg0)
abbrev A1 : (⟨S4096x2048, .f32⟩ : BufTy).Contents (Elt Ideal) := m ((c.tc : Thread nD τ).loc main_arg1)
abbrev A2 : (⟨S4096x2048, .f32⟩ : BufTy).Contents (Elt Ideal) := m ((c.tc : Thread nD τ).loc main_arg2)
abbrev A3 : (⟨S1x2048, .f32⟩ : BufTy).Contents (Elt Ideal) := m ((c.tc : Thread nD τ).loc main_arg3)

/-- The factor of a row of the last layer's result, the distance to the target and the mean of its squares over a row. -/
def factor (r : Fin 4096) : EReal := rms fun k => A1 m c (ix2 r k)
def err (i : S4096x2048.Idx) : EReal := A0 m c i + A1 m c i * factor m c (i 0) * A3 m c (ix2 0 (i 1)) - A2 m c i
def mean (r : Fin 4096) : EReal :=
  Ideal.div (∑ k : Fin 2048, err m c (ix2 r k) * err m c (ix2 r k)) (Ideal.ofBits .f32 0x45000000#32)

/-- The gradient in the state, times the gain, the gradients in the layer's result and in the gain, and the loss. -/
def dh (i : S4096x2048.Idx) : EReal := err m c i * Ideal.ofBits .f32 0x3A000000#32
def dy (i : S4096x2048.Idx) : EReal := dh m c i * A3 m c (ix2 0 (i 1))
def dout (i : S4096x2048.Idx) : EReal :=
  factor m c (i 0) * dy m c i - A1 m c i * (factor m c (i 0) * factor m c (i 0) * factor m c (i 0))
    * Ideal.div (∑ k : Fin 2048, dy m c (ix2 (i 0) k) * A1 m c (ix2 (i 0) k)) (Ideal.ofBits .f32 0x45000000#32)
def dgain (i : S1x2048.Idx) : EReal := ∑ r : Fin 4096, dh m c (ix2 r (i 1)) * (A1 m c (ix2 r (i 1)) * factor m c r)
def loss (_ : S1x128.Idx) : EReal := Ideal.ofBits .f32 0x3F000000#32 * ∑ r : Fin 4096, mean m c r

theorem h_at (t : Fin cfg0.N) (r : Fin 256) (s : Fin 2048) : (iblk m c 0 t : FVec Ideal S256x2048 .f32) (ix2 r s)
    = A0 m c (ix2 (row t r) s) := by
  rw [← h_emb t r s, show A0 m c = V m c main_arg0 from (V_main_arg0 m c).symm]; rfl

theorem o_at (t : Fin cfg0.N) (r : Fin 256) (s : Fin 2048) : (iblk m c 1 t : FVec Ideal S256x2048 .f32) (ix2 r s)
    = A1 m c (ix2 (row t r) s) := by
  rw [← o_emb t r s, show A1 m c = V m c main_arg1 from (V_main_arg1 m c).symm]; rfl

theorem t_at (t : Fin cfg0.N) (r : Fin 256) (s : Fin 2048) : (iblk m c 2 t : FVec Ideal S256x2048 .f32) (ix2 r s)
    = A2 m c (ix2 (row t r) s) := by
  rw [← t_emb t r s, show A2 m c = V m c main_arg2 from (V_main_arg2 m c).symm]; rfl

theorem g_at (t : Fin cfg0.N) (s : Fin 2048) : (iblk m c 3 t : FVec Ideal S1x2048 .f32) (ix2 0 s) = A3 m c (ix2 0 s) := by
  refine Eq.trans ?_ (congrArg (A3 m c) (g_emb t s))
  rw [show A3 m c = V m c main_arg3 from (V_main_arg3 m c).symm]; rfl

/-- What the body makes at an entry of a point's block. -/
theorem row_at (t : Fin cfg0.N) (r : Fin 256) :
    (rms fun k => (iblk m c 1 t : FVec Ideal S256x2048 .f32) (ix2 r k)) = factor m c (row t r) :=
  congrArg rms (funext fun k => o_at m c t r k)

theorem factor_at (t : Fin cfg0.N) (r : Fin 256) :
    k0_pay8 (F := Ideal) (iblk m c 1 t) (ix2 r (0 : Fin 1)) = factor m c (row t r) :=
  (factor_pay _ r).trans (row_at m c t r)

theorem err_at (t : Fin cfg0.N) (r : Fin 256) (s : Fin 2048) :
    k0_pay6 (F := Ideal) (iblk m c 0 t) (iblk m c 1 t) (iblk m c 2 t) (iblk m c 3 t) (ix2 r s) = err m c (ix2 (row t r) s) := by
  rw [err_pay, row_at, h_at, o_at, t_at, g_at]
  rfl

theorem dh_at (t : Fin cfg0.N) (r : Fin 256) (s : Fin 2048) :
    k0_pay7 (F := Ideal) (iblk m c 0 t) (iblk m c 1 t) (iblk m c 2 t) (iblk m c 3 t) (ix2 r s) = dh m c (ix2 (row t r) s) := by
  rw [h_pay, err_at]
  rfl

theorem dy_at (t : Fin cfg0.N) (r : Fin 256) (s : Fin 2048) :
    k0_pay9 (F := Ideal) (iblk m c 0 t) (iblk m c 1 t) (iblk m c 2 t) (iblk m c 3 t) (ix2 r s) = dy m c (ix2 (row t r) s) := by
  rw [gain_pay, dh_at, g_at]
  rfl

theorem dout_at (t : Fin cfg0.N) (r : Fin 256) (s : Fin 2048) :
    k0_pay3 (F := Ideal) (k0_pay10 (iblk m c 0 t) (iblk m c 1 t) (iblk m c 2 t) (iblk m c 3 t)) (k0_pay11 (iblk m c 1 t))
      (k0_pay12 (iblk m c 0 t) (iblk m c 1 t) (iblk m c 2 t) (iblk m c 3 t)) (ix2 r s) = dout m c (ix2 (row t r) s) := by
  rw [o_pay, factor_at, dy_at, o_at]
  refine congrArg (fun x : EReal => factor m c (row t r) * dy m c (ix2 (row t r) s)
    - A1 m c (ix2 (row t r) s) * (factor m c (row t r) * factor m c (row t r) * factor m c (row t r))
      * Ideal.div x (Ideal.ofBits .f32 0x45000000#32)) (Finset.sum_congr rfl fun k _ => ?_)
  rw [dy_at, o_at]
  rfl

/-- A point's part of the gain's gradient and of the loss. -/
theorem gain_at (t : Fin cfg0.N) (s : Fin 2048) :
    k0_pay2 (F := Ideal) (iblk m c 1 t) (k0_pay7 (iblk m c 0 t) (iblk m c 1 t) (iblk m c 2 t) (iblk m c 3 t))
      (k0_pay8 (iblk m c 1 t)) (ix2 0 s)
      = ∑ r : Fin 256, dh m c (ix2 (row t r) s) * (A1 m c (ix2 (row t r) s) * factor m c (row t r)) := by
  refine (g_pay _ _ _ s).trans (Finset.sum_congr rfl fun r _ => ?_)
  rw [dh_at, factor_at, o_at]

theorem loss_at (t : Fin cfg0.N) (s : Fin 128) :
    k0_pay1 (F := Ideal) (k0_pay6 (iblk m c 0 t) (iblk m c 1 t) (iblk m c 2 t) (iblk m c 3 t)) (ix2 0 s)
      = ∑ r : Fin 256, Ideal.ofBits .f32 0x3F000000#32 * mean m c (row t r) := by
  refine (l_pay _ s).trans (Eq.trans ?_ (half_sum _))
  refine congrArg (Ideal.ofBits .f32 0x3F000000#32 * ·) (Finset.sum_congr rfl fun r _ => ?_)
  refine congrArg (Ideal.div · (Ideal.ofBits .f32 0x45000000#32)) (Finset.sum_congr rfl fun k _ => ?_)
  rw [err_at]

/-- The arrays the call leaves. -/
theorem out_h : (dats m 0 c).arrAt 4 cfg0.N = dh m c := by
  refine (dats m 0 c).arrAt_eq_of_covers 4 _ (by decide +kernel) fun t hf y => ?_
  blk_simp
  obtain ⟨r, s, rfl⟩ : ∃ (r : Fin 256) (s : Fin 2048), y = ix2 r s := ⟨y 0, y 1, (ix2_eta y).symm⟩
  have hN := lt_N t
  refine Eq.trans ?_ (congrArg (dh m c) (dh_emb t r s).symm)
  rw [after0_4]
  by_cases h : t.val % 16 = 0
  · rw [outsAt0_A m c t h (by omega) h (by omega)]
    dsimp only
    rw [first_h]; exact dh_at m c t r s
  · rw [outsAt0_B m c t h (by omega) h (by omega)]
    dsimp only
    rw [later_h]; exact dh_at m c t r s

theorem out_o : (dats m 0 c).arrAt 5 cfg0.N = dout m c := by
  refine (dats m 0 c).arrAt_eq_of_covers 5 _ (by decide +kernel) fun t hf y => ?_
  blk_simp
  obtain ⟨r, s, rfl⟩ : ∃ (r : Fin 256) (s : Fin 2048), y = ix2 r s := ⟨y 0, y 1, (ix2_eta y).symm⟩
  have hN := lt_N t
  refine Eq.trans ?_ (congrArg (dout m c) (do_emb t r s).symm)
  rw [after0_5]
  by_cases h : t.val % 16 = 0
  · rw [outsAt0_A m c t h (by omega) h (by omega)]
    dsimp only
    rw [first_o]; exact dout_at m c t r s
  · rw [outsAt0_B m c t h (by omega) h (by omega)]
    dsimp only
    rw [later_o]; exact dout_at m c t r s

/-- The gain's gradient after a point: the sum over the blocks so far. -/
theorem acc_g (s : Fin 2048) (n : ℕ) (hn : n < cfg0.N) : (outsAt0 m c n hn).2.2.2 (ix2 0 s)
    = ∑ k ∈ Finset.range (n + 1), if h : k < cfg0.N then
        ∑ r : Fin 256, dh m c (ix2 (row ⟨k, h⟩ r) s) * (A1 m c (ix2 (row ⟨k, h⟩ r) s) * factor m c (row ⟨k, h⟩ r)) else 0 := by
  induction n with
  | zero =>
    rw [Finset.sum_range_one, dif_pos hn, outsAt0_A m c ⟨0, hn⟩ rfl (by simp) rfl (by simp)]
    dsimp only
    rw [first_g]; exact gain_at m c ⟨0, hn⟩ s
  | succ n ih =>
    have hN := lt_N ⟨n + 1, hn⟩
    have h0 : ¬(n + 1) % 16 = 0 := by dsimp only at hN; omega
    rw [Finset.sum_range_succ, dif_pos hn, ← ih (Nat.lt_of_succ_lt hn),
      outsAt0_B m c ⟨n + 1, hn⟩ h0 (by dsimp only; omega) h0 (by dsimp only; omega)]
    dsimp only
    rw [later_g]
    exact (g_next _ _ _ _ s).trans (congrArg _ (gain_at m c ⟨n + 1, hn⟩ s))

theorem out_g : (dats m 0 c).arrAt 7 cfg0.N = dgain m c := by
  refine (dats m 0 c).arrAt_eq_of_covers 7 _ (by decide +kernel) fun t hf y => ?_
  blk_simp
  obtain ⟨q, s, rfl⟩ : ∃ (q : Fin 1) (s : Fin 2048), y = ix2 q s := ⟨y 0, y 1, (ix2_eta y).symm⟩
  obtain rfl := Subsingleton.elim q 0
  refine Eq.trans ?_ (congrArg (dgain m c) (dg_emb t s).symm)
  have hN := lt_N t
  have h15 : t.val = 15 := by have := (flush0_7 t).mp hf; omega
  rw [after0_7]
  refine (acc_g m c s t.val t.isLt).trans ?_
  rw [h15, Finset.sum_range]
  refine Eq.trans ?_ (Fin.sum_univ_tiles 16 256 (by norm_num) (fun r : Fin 4096 => dh m c (ix2 r s) * (A1 m c (ix2 r s) * factor m c r))).symm
  refine Finset.sum_congr rfl fun k _ => ?_
  rw [dif_pos (lt_of_lt_of_eq k.isLt N_0.symm)]

/-- The loss after a point: the sum over the blocks so far. -/
theorem acc_l (s : Fin 128) (n : ℕ) (hn : n < cfg0.N) : (outsAt0 m c n hn).2.2.1 (ix2 0 s)
    = ∑ k ∈ Finset.range (n + 1), if h : k < cfg0.N then
        ∑ r : Fin 256, Ideal.ofBits .f32 0x3F000000#32 * mean m c (row ⟨k, h⟩ r) else 0 := by
  induction n with
  | zero =>
    rw [Finset.sum_range_one, dif_pos hn, outsAt0_A m c ⟨0, hn⟩ rfl (by simp) rfl (by simp)]
    dsimp only
    rw [first_l]; exact loss_at m c ⟨0, hn⟩ s
  | succ n ih =>
    have hN := lt_N ⟨n + 1, hn⟩
    have h0 : ¬(n + 1) % 16 = 0 := by dsimp only at hN; omega
    rw [Finset.sum_range_succ, dif_pos hn, ← ih (Nat.lt_of_succ_lt hn),
      outsAt0_B m c ⟨n + 1, hn⟩ h0 (by dsimp only; omega) h0 (by dsimp only; omega)]
    dsimp only
    rw [later_l]
    exact (l_next _ _ s).trans (congrArg _ (loss_at m c ⟨n + 1, hn⟩ s))

theorem out_l : (dats m 0 c).arrAt 6 cfg0.N = loss m c := by
  refine (dats m 0 c).arrAt_eq_of_covers 6 _ (by decide +kernel) fun t hf y => ?_
  blk_simp
  obtain ⟨q, s, rfl⟩ : ∃ (q : Fin 1) (s : Fin 128), y = ix2 q s := ⟨y 0, y 1, (ix2_eta y).symm⟩
  obtain rfl := Subsingleton.elim q 0
  refine Eq.trans ?_ (congrArg (loss m c) (l_emb t s).symm)
  have hN := lt_N t
  have h15 : t.val = 15 := by have := (flush0_6 t).mp hf; omega
  rw [after0_6]
  refine (acc_l m c s t.val t.isLt).trans ?_
  rw [h15, Finset.sum_range]
  rw [loss, half_sum]
  refine Eq.trans ?_ (Fin.sum_univ_tiles 16 256 (by norm_num) (fun r : Fin 4096 => Ideal.ofBits .f32 0x3F000000#32 * mean m c r)).symm
  refine Finset.sum_congr rfl fun k _ => ?_
  rw [dif_pos (lt_of_lt_of_eq k.isLt N_0.symm)]

open LossHeadRefIdeal.Read

/-- The reference's sums start at zero. -/
theorem zero_add_sum {n : ℕ} (f : Fin n → EReal) : (FloatOps.ofBits (F := Ideal) .f32 0x00000000#32 : EReal) + ∑ k, f k = ∑ k, f k := by
  rw [Ideal.ofBits_def, Ideal.ofBits_zero .f32, zero_add]

/-- A sum over the entries of a column of numbers is the sum over its rows. -/
theorem sum_rows (f : LossHeadRefIdeal.S4096.Idx → EReal) : ∑ j, f j = ∑ r : Fin 4096, f (ix1 r) :=
  Fintype.sum_equiv ⟨fun j => j 0, fun r => ix1 r, fun j => funext fun a => match a with
    | ⟨0, _⟩ => rfl, fun r => rfl⟩ _ _ fun j => congrArg f (funext fun a => match a with
    | ⟨0, _⟩ => rfl)

/-- The reference's factor of a row, and the factor divided by what it is the root of. -/
theorem ref_factor (i : LossHeadRefIdeal.S4096x1.Idx) : val_main_v7 (F := Ideal) (A1 m c) i = factor m c (i 0) := by
  rw [val_main_v7_apply, val_main_v6_apply, val_main_v5_apply, val_main_v4_apply, val_main_v3_apply, val_main_v2_apply,
    val_main_v1_apply, val_main_cst_apply, zero_add_sum]
  refine congrArg (fun x : EReal => Ideal.rsqrt (Ideal.div x (Ideal.ofBits .f32 0x45000000#32) + Ideal.ofBits .f32 0x358637BD#32))
    (Finset.sum_congr rfl fun k _ => ?_)
  rw [val_main_v0_apply]
  exact congrArg (fun j => A1 m c j * A1 m c j) (funext fun a => match a with
      | ⟨0, _⟩ => rfl
      | ⟨1, _⟩ => rfl)

theorem ref_mean (i : LossHeadRefIdeal.S4096x1.Idx) : val_main_v6 (F := Ideal) (A1 m c) i
    = Ideal.div (∑ k : Fin 2048, A1 m c (ix2 (i 0) k) * A1 m c (ix2 (i 0) k)) (Ideal.ofBits .f32 0x45000000#32)
      + Ideal.ofBits .f32 0x358637BD#32 := by
  rw [val_main_v6_apply, val_main_v5_apply, val_main_v4_apply, val_main_v3_apply, val_main_v2_apply,
    val_main_v1_apply, val_main_cst_apply, zero_add_sum]
  refine congrArg (fun x : EReal => Ideal.div x (Ideal.ofBits .f32 0x45000000#32) + Ideal.ofBits .f32 0x358637BD#32)
    (Finset.sum_congr rfl fun k _ => ?_)
  rw [val_main_v0_apply]
  exact congrArg (fun j => A1 m c j * A1 m c j) (funext fun a => match a with
      | ⟨0, _⟩ => rfl
      | ⟨1, _⟩ => rfl)

theorem ref_cube (i : LossHeadRefIdeal.S4096x1.Idx) : val_main_v8 (F := Ideal) (A1 m c) i
    = factor m c (i 0) * factor m c (i 0) * factor m c (i 0) := by
  rw [val_main_v8_apply, ref_factor, ref_mean]
  exact cube (mean_pos _)

/-- Its normalised rows, its distance to the target and its gradient in the state. -/
theorem ref_norm (i : S4096x2048.Idx) : val_main_v12 (F := Ideal) (A1 m c) i = A1 m c i * factor m c (i 0) := by
  rw [val_main_v12_apply, val_main_v11_apply, ref_factor]
  rfl

theorem ref_err (i : S4096x2048.Idx) : val_main_v16 (F := Ideal) (A0 m c) (A1 m c) (A2 m c) (A3 m c) i = err m c i := by
  have e : (idx_main_v13 i : S1x2048.Idx) = ix2 0 (i 1) := funext fun a => match a with
    | ⟨0, _⟩ => rfl
    | ⟨1, _⟩ => rfl
  rw [val_main_v16_apply, val_main_v15_apply, val_main_v14_apply, val_main_v13_apply, ref_norm, e]
  rfl

theorem ref_h (i : S4096x2048.Idx) : val_main_v30 (F := Ideal) (A0 m c) (A1 m c) (A2 m c) (A3 m c) i = dh m c i := by
  have e : val_main_v30 (F := Ideal) (A0 m c) (A1 m c) (A2 m c) (A3 m c) i
      = Ideal.div (Ideal.ofBits .f32 0x3F000000#32 * Ideal.ofBits .f32 0x3F800000#32) (Ideal.ofBits .f32 0x45000000#32)
        * (Ideal.ofBits .f32 0x40000000#32 * err m c i) := by
    rw [← ref_err m c i, val_main_v30_apply, val_main_v29_apply, val_main_v28_apply, val_main_v27_apply, val_main_v26_apply,
      val_main_v19_apply, val_main_v18_apply]
    rfl
  rw [e, dh, ofBits_half, Cert.Att.ofBits_one, ofBits_len, ofBits_two, ofBits_part, Ideal.div_coe (by norm_num), ← EReal.coe_mul,
    ← EReal.coe_mul, ← mul_assoc, ← EReal.coe_mul, mul_comm (err m c i)]
  congr 2
  norm_num

theorem ref_dy (i : S4096x2048.Idx) : val_main_v35 (F := Ideal) (A0 m c) (A1 m c) (A2 m c) (A3 m c) i = dy m c i := by
  have e : (idx_main_v34 i : S1x2048.Idx) = ix2 0 (i 1) := funext fun a => match a with
    | ⟨0, _⟩ => rfl
    | ⟨1, _⟩ => rfl
  rw [val_main_v35_apply, val_main_v34_apply, ref_h, e]
  rfl

/-- What reaches a row through its mean square. -/
theorem ref_row (r : LossHeadRefIdeal.S4096.Idx) :
    val_main_v37 (F := Ideal) (A0 m c) (A1 m c) (A2 m c) (A3 m c) r
      = ∑ k : Fin 2048, dy m c (ix2 (r 0) k) * A1 m c (ix2 (r 0) k) := by
  rw [val_main_v37_apply, val_main_cst_12_apply, zero_add_sum]
  refine Finset.sum_congr rfl fun k _ => ?_
  have e : (idx_main_v37 r k : S4096x2048.Idx) = ix2 (r 0) k := funext fun a => match a with
    | ⟨0, _⟩ => rfl
    | ⟨1, _⟩ => rfl
  rw [val_main_v36_apply, ref_dy, e]
  exact mul_comm _ _

theorem ref_through (i : S4096x2048.Idx) : val_main_v45 (F := Ideal) (A0 m c) (A1 m c) (A2 m c) (A3 m c) i
    = Ideal.div ((∑ k : Fin 2048, dy m c (ix2 (i 0) k) * A1 m c (ix2 (i 0) k))
        * (Ideal.ofBits .f32 0xBF000000#32 * (factor m c (i 0) * factor m c (i 0) * factor m c (i 0))))
      (Ideal.ofBits .f32 0x45000000#32) := by
  rw [val_main_v45_apply, val_main_v44_apply, val_main_cst_14_apply, zero_add_sum, Fin.sum_univ_one, val_main_v43_apply,
    val_main_v42_apply, val_main_v41_apply, val_main_v38_apply, val_main_v10_apply, val_main_v9_apply, ref_cube, ref_row]
  have e : (idx_main_v38 (idx_main_v44 (idx_main_v45 i) 0) 0 : Fin 4096) = i 0 := Fin.ext (by
    show (i 0).val * 1 + 0 = (i 0).val
    omega)
  rw [e]
  rfl

/-- Its gradients in the layer's result and in the gain, and its loss. -/
theorem ref_o : val_main_v50 (F := Ideal) (A0 m c) (A1 m c) (A2 m c) (A3 m c) = dout m c := by
  funext i
  rw [val_main_v50_apply, val_main_v49_apply, val_main_v48_apply, val_main_v47_apply, val_main_v46_apply, val_main_v40_apply,
    val_main_v39_apply, ref_through, ref_dy, ref_factor]
  exact through_mean _ _ _ _ _

theorem ref_gain : val_main_v33 (F := Ideal) (A0 m c) (A1 m c) (A2 m c) (A3 m c) = dgain m c := by
  funext i
  rw [val_main_v33_apply, val_main_v32_apply, val_main_cst_11_apply, zero_add_sum]
  refine Finset.sum_congr rfl fun k _ => ?_
  have e : (idx_main_v32 (idx_main_v33 i) k : S4096x2048.Idx) = ix2 k (i 1) := funext fun a => match a with
    | ⟨0, _⟩ => rfl
    | ⟨1, _⟩ => Fin.ext (by
      have h : (i 0).val < 1 := (i 0).isLt
      show (i 0).val * 2048 + (i 1).val = (i 1).val
      omega)
  rw [val_main_v31_apply, ref_norm, ref_h, e]
  exact mul_comm _ _

theorem ref_loss : val_main_v51 (F := Ideal) (A0 m c) (A1 m c) (A2 m c) (A3 m c) = loss m c := by
  funext i
  rw [val_main_v51_apply, val_main_v24_apply, val_main_v23_apply, val_main_cst_6_apply, sum_rows, zero_add_sum]
  refine congrArg (Ideal.ofBits .f32 0x3F000000#32 * ·) (Finset.sum_congr rfl fun r _ => ?_)
  rw [val_main_v22_apply, val_main_v21_apply, val_main_v20_apply, val_main_cst_4_apply, zero_add_sum]
  refine congrArg (Ideal.div · (Ideal.ofBits .f32 0x45000000#32)) (Finset.sum_congr rfl fun k _ => ?_)
  have e : (idx_main_v20 (ix1 r) k : S4096x2048.Idx) = ix2 r k := funext fun a => match a with
    | ⟨0, _⟩ => rfl
    | ⟨1, _⟩ => rfl
  rw [val_main_v17_apply, ref_err, e]
  rfl

/-- From arguments that agree, both programs end with the same loss and gradients and their arguments unchanged. -/
theorem algebraic : Cert.algebraic_LossHeadIdeal_LossHeadRefIdeal := by
  intro m g m' g' _ hagree
  refine ⟨fun c => dh m c, fun c => dout m c, fun c => loss m c, fun c => dgain m c,
    (θ_run defs _ _).mono (fun _ h c => ?_) (Value.run_blocks m g),
    (θ_run LossHeadRefIdeal.defs _ _).mono (fun _ h c => ?_) (LossHeadRefIdeal.Value.run (F := Ideal) m' g')⟩
  · obtain ⟨o4, o5, o6, o7, rest⟩ := h c
    exact ⟨o4.trans (out_h m c), o5.trans (out_o m c), o6.trans (out_l m c), o7.trans (out_g m c), rest⟩
  · obtain ⟨a0, a1, a2, a3⟩ := hagree c
    obtain ⟨o4, o5, o6, o7, rest⟩ := h c
    refine ⟨o4.trans ((val_main_v30_eq _ _ _ _).trans (Eq.trans ?_ (funext fun i => ref_h m c i))),
      o5.trans ((val_main_v50_eq m' c).trans (Eq.trans ?_ (ref_o m c))),
      o6.trans ((val_main_v51_eq _ _ _ _).trans (Eq.trans ?_ (ref_loss m c))),
      o7.trans ((val_main_v33_eq _ _ _ _).trans (Eq.trans ?_ (ref_gain m c))), rest⟩
    · rw [a0, a1, a2, a3]
    · rw [a0, a1, a2, a3]
    · rw [a0, a1, a2, a3]
    · rw [a0, a1, a2, a3]

end Cert.LossHeadIdeal.Product

end
-- ==== Proof.lean ====
/- The proof of the certificate's claims about the forgetting attention, its gradient, the products of the
   training step, and calls between them: of each call the frames of the kernel, of its idealization and of the reference, the idealization's
   named constants where it has some, and the equality of the results over the extended reals. -/
module

public import proofs.«01_k».proof.Defs
public import proofs.«01_k».proof.Proof.KernelIdeal.Frame
public import proofs.«01_k».proof.Proof.Equation
public import proofs.«01_k».proof.Proof.Frames
public import proofs.«01_k».proof.Proof.Gen.Pre_finite_qk
public import proofs.«01_k».proof.Proof.Gen.Pre_finite_gate
public import proofs.«01_k».proof.Proof.Gen.Pre_finite_glu
public import proofs.«01_k».proof.Proof.Gen.Pre_finite_s5_gate
public import proofs.«01_k».proof.Proof.Gen.Pre_finite_dcum
public import proofs.«01_k».proof.Proof.AttFwdIdeal.Equation
public import proofs.«01_k».proof.Proof.OutDx.Equation
public import proofs.«01_k».proof.Proof.OutDw.Equation
public import proofs.«01_k».proof.Proof.InDx.Equation
public import proofs.«01_k».proof.Proof.InDw.Equation
public import proofs.«01_k».proof.Proof.KvDx.Equation
public import proofs.«01_k».proof.Proof.KvDw.Equation
public import proofs.«01_k».proof.Proof.SOutDx.Equation
public import proofs.«01_k».proof.Proof.SOutDw.Equation
public import proofs.«01_k».proof.Proof.GluDx.Equation
public import proofs.«01_k».proof.Proof.GluDw.Equation
public import proofs.«01_k».proof.Proof.FDx.Equation
public import proofs.«01_k».proof.Proof.FDw.Equation
public import proofs.«01_k».proof.Proof.SIn.Equation
public import proofs.«01_k».proof.Proof.Glu.Equation
public import proofs.«01_k».proof.Proof.SOut.Equation
public import proofs.«01_k».proof.Proof.FOut.Equation
public import proofs.«01_k».proof.Proof.FProj.Equation
public import proofs.«01_k».proof.Proof.GateBwd.Equation
public import proofs.«01_k».proof.Proof.CumBwd.Equation
public import proofs.«01_k».proof.Proof.CumFwd.Equation
public import proofs.«01_k».proof.Proof.MidNorms.Equation
public import proofs.«01_k».proof.Proof.LossHead.Equation
public import Idealize.ShloMosaic.Adequacy
public import Idealize.ShloMosaic.Init

@[expose] public section

noncomputable section

namespace Cert.Proof

open Idealize.ShloMosaic Idealize.SL.Sem

/-- The reference runs, and leaves its arguments and the counters as they were. -/
theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2.2.2.2, sem_eq_zero_of_no_sems (by decide) r.2⟩)
    (Cert.ReferenceIdeal.Value.run (F := Ideal) m ρ)

/-- So does the reference of the attention's forward call. -/
theorem frame_att (m : (ℓ : Loc Cert.AttFwdRefIdeal.nD Cert.AttFwdRefIdeal.τ Cert.AttFwdRefIdeal.sig) → Buf (Elt Ideal) ℓ)
    (ρ : Dev Cert.AttFwdRefIdeal.nD → PrngReg) :
    θ_run (Cert.AttFwdRefIdeal.defs (F := Ideal)) (onTc (τ := Cert.AttFwdRefIdeal.τ) (Cert.AttFwdRefIdeal.main (F := Ideal))) ⟨m, fun _ => 0, ρ⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2))
      ∧ r.2.sem = fun _ => 0) :=
  (θ_run Cert.AttFwdRefIdeal.defs _ _).mono
    (fun r h => ⟨fun c => (h c).2.2.2, sem_eq_zero_of_no_sems (by decide) r.2⟩)
    (Cert.AttFwdRefIdeal.Value.run (F := Ideal) m ρ)

theorem claim : Cert.Claim :=
  ⟨Cert.AttFwd.Gen.facts,
    Cert.AttFwdIdeal.Gen.facts,
    Cert.AttFwdRefIdeal.Gen.facts,
    Cert.OutDx.Gen.facts,
    Cert.OutDxIdeal.Gen.facts,
    Cert.OutDxRefIdeal.Gen.facts,
    Cert.OutDw.Gen.facts,
    Cert.OutDwIdeal.Gen.facts,
    Cert.OutDwRefIdeal.Gen.facts,
    Cert.InDx.Gen.facts,
    Cert.InDxIdeal.Gen.facts,
    Cert.InDxRefIdeal.Gen.facts,
    Cert.InDw.Gen.facts,
    Cert.InDwIdeal.Gen.facts,
    Cert.InDwRefIdeal.Gen.facts,
    Cert.KvDx.Gen.facts,
    Cert.KvDxIdeal.Gen.facts,
    Cert.KvDxRefIdeal.Gen.facts,
    Cert.KvDw.Gen.facts,
    Cert.KvDwIdeal.Gen.facts,
    Cert.KvDwRefIdeal.Gen.facts,
    Cert.SOutDx.Gen.facts,
    Cert.SOutDxIdeal.Gen.facts,
    Cert.SOutDxRefIdeal.Gen.facts,
    Cert.SOutDw.Gen.facts,
    Cert.SOutDwIdeal.Gen.facts,
    Cert.SOutDwRefIdeal.Gen.facts,
    Cert.GluDx.Gen.facts,
    Cert.GluDxIdeal.Gen.facts,
    Cert.GluDxRefIdeal.Gen.facts,
    Cert.GluDw.Gen.facts,
    Cert.GluDwIdeal.Gen.facts,
    Cert.GluDwRefIdeal.Gen.facts,
    Cert.FDx.Gen.facts,
    Cert.FDxIdeal.Gen.facts,
    Cert.FDxRefIdeal.Gen.facts,
    Cert.FDw.Gen.facts,
    Cert.FDwIdeal.Gen.facts,
    Cert.FDwRefIdeal.Gen.facts,
    Cert.SIn.Gen.facts,
    Cert.SInIdeal.Gen.facts,
    Cert.SInRefIdeal.Gen.facts,
    Cert.Glu.Gen.facts,
    Cert.GluIdeal.Gen.facts,
    Cert.GluRefIdeal.Gen.facts,
    Cert.SOut.Gen.facts,
    Cert.SOutIdeal.Gen.facts,
    Cert.SOutRefIdeal.Gen.facts,
    Cert.FOut.Gen.facts,
    Cert.FOutIdeal.Gen.facts,
    Cert.FOutRefIdeal.Gen.facts,
    Cert.FProj.Gen.facts,
    Cert.FProjIdeal.Gen.facts,
    Cert.FProjRefIdeal.Gen.facts,
    Cert.GateBwd.Gen.facts,
    Cert.GateBwdIdeal.Gen.facts,
    Cert.GateBwdRefIdeal.Gen.facts,
    Cert.CumBwd.Gen.facts,
    Cert.CumBwdIdeal.Gen.facts,
    Cert.CumBwdRefIdeal.Gen.facts,
    Cert.CumFwd.Gen.facts,
    Cert.CumFwdIdeal.Gen.facts,
    Cert.CumFwdRefIdeal.Gen.facts,
    Cert.MidNorms.Gen.facts,
    Cert.MidNormsIdeal.Gen.facts,
    Cert.MidNormsRefIdeal.Gen.facts,
    Cert.LossHead.Gen.facts,
    Cert.LossHeadIdeal.Gen.facts,
    Cert.LossHeadRefIdeal.Gen.facts,
    Cert.Kernel.Gen.facts,
    Cert.KernelIdeal.Gen.facts,
    Cert.ReferenceIdeal.Gen.facts,
    Cert.Pre_finite_qk.Gen.facts,
    Cert.Pre_finite_gate.Gen.facts,
    Cert.Pre_finite_glu.Gen.facts,
    Cert.Pre_finite_s5_gate.Gen.facts,
    Cert.Pre_finite_dcum.Gen.facts,
    Cert.Pre_finite.Gen.facts,
    Frames.AttFwd,
    fun m ρ _ => Cert.AttFwdIdeal.Body.frame m ρ,
    fun m ρ _ => Cert.AttFwdIdeal.Body.frame m ρ,
    fun m ρ _ => frame_att m ρ,
    fun m ρ _ => frame_att m ρ,
    Frames.OutDx,
    fun m ρ _ => Cert.OutDxIdeal.Gen.frame m ρ,
    fun m ρ _ => Cert.OutDxIdeal.Gen.frame m ρ,
    Frames.OutDxRef,
    fun m ρ _ => Frames.OutDxRef m ρ trivial,
    Frames.OutDw,
    fun m ρ _ => Cert.OutDwIdeal.Gen.frame m ρ,
    Frames.OutDwRef,
    Frames.InDx,
    fun m ρ _ => Cert.InDxIdeal.Gen.frame m ρ,
    Frames.InDxRef,
    Frames.InDw,
    fun m ρ _ => Cert.InDwIdeal.Gen.frame m ρ,
    Frames.InDwRef,
    Frames.KvDx,
    fun m ρ _ => Cert.KvDxIdeal.Gen.frame m ρ,
    Frames.KvDxRef,
    Frames.KvDw,
    fun m ρ _ => Cert.KvDwIdeal.Gen.frame m ρ,
    Frames.KvDwRef,
    Frames.SOutDx,
    fun m ρ _ => Cert.SOutDxIdeal.Gen.frame m ρ,
    Frames.SOutDxRef,
    Frames.SOutDw,
    fun m ρ _ => Cert.SOutDwIdeal.Gen.frame m ρ,
    Frames.SOutDwRef,
    Frames.GluDx,
    fun m ρ _ => Cert.GluDxIdeal.Gen.frame m ρ,
    fun m ρ _ => Cert.GluDxIdeal.Gen.frame m ρ,
    Frames.GluDxRef,
    fun m ρ _ => Frames.GluDxRef m ρ trivial,
    Frames.GluDw,
    fun m ρ _ => Cert.GluDwIdeal.Gen.frame m ρ,
    Frames.GluDwRef,
    Frames.FDx,
    fun m ρ _ => Cert.FDxIdeal.Gen.frame m ρ,
    Frames.FDxRef,
    Frames.FDw,
    fun m ρ _ => Cert.FDwIdeal.Gen.frame m ρ,
    Frames.FDwRef,
    Frames.SIn,
    fun m ρ _ => Cert.SInIdeal.Gen.frame m ρ,
    Frames.SInRef,
    Frames.Glu,
    fun m ρ _ => Cert.GluIdeal.Gen.frame m ρ,
    Frames.GluRef,
    Frames.SOut,
    fun m ρ _ => Cert.SOutIdeal.Gen.frame m ρ,
    Frames.SOutRef,
    Frames.FOut,
    fun m ρ _ => Cert.FOutIdeal.Gen.frame m ρ,
    Frames.FOutRef,
    Frames.FProj,
    fun m ρ _ => Cert.FProjIdeal.Gen.frame m ρ,
    Frames.FProjRef,
    Frames.GateBwd,
    fun m ρ _ => Cert.GateBwdIdeal.Gen.frame m ρ,
    fun m ρ _ => Cert.GateBwdIdeal.Gen.frame m ρ,
    Frames.GateBwdRef,
    fun m ρ _ => Frames.GateBwdRef m ρ trivial,
    Frames.CumBwd,
    fun m ρ _ => Cert.CumBwdIdeal.Gen.frame m ρ,
    fun m ρ _ => Cert.CumBwdIdeal.Gen.frame m ρ,
    Frames.CumBwdRef,
    fun m ρ _ => Frames.CumBwdRef m ρ trivial,
    Frames.CumFwd,
    fun m ρ _ => Cert.CumFwdIdeal.Gen.frame m ρ,
    Frames.CumFwdRef,
    Frames.MidNorms,
    fun m ρ _ => Cert.MidNormsIdeal.Gen.frame m ρ,
    Frames.MidNormsRef,
    Frames.LossHead,
    fun m ρ _ => Cert.LossHeadIdeal.Gen.frame m ρ,
    Frames.LossHeadRef,
    Frames.Kernel,
    fun m ρ _ => Cert.KernelIdeal.Body.frame m ρ,
    fun m ρ _ => Cert.KernelIdeal.Body.frame m ρ,
    fun m ρ _ => frame_ri m ρ,
    fun m ρ _ => frame_ri m ρ,
    IdealRules.named_const.statement Cert.AttFwdIdeal.κ "mask" .f32 0xF149F2CA#32 ⊥ rfl,
    Cert.AttFwdIdeal.Body.algebraic,
    trivial,
    Cert.OutDxIdeal.Product.algebraic,
    trivial,
    Cert.OutDwIdeal.Product.algebraic,
    trivial,
    Cert.InDxIdeal.Product.algebraic,
    trivial,
    Cert.InDwIdeal.Product.algebraic,
    trivial,
    Cert.KvDxIdeal.Product.algebraic,
    trivial,
    Cert.KvDwIdeal.Product.algebraic,
    trivial,
    Cert.SOutDxIdeal.Product.algebraic,
    trivial,
    Cert.SOutDwIdeal.Product.algebraic,
    ⟨IdealRules.named_const.statement Cert.GluDxIdeal.κ "cubic" .f32 0x3D372713#32 ((8943 / 200000 : ℝ) : EReal) rfl,
      IdealRules.named_const.statement Cert.GluDxIdeal.κ "slope" .f32 0x3E095D4F#32 ((26829 / 200000 : ℝ) : EReal) rfl⟩,
    Cert.GluDxIdeal.Product.algebraic,
    trivial,
    Cert.GluDwIdeal.Product.algebraic,
    trivial,
    Cert.FDxIdeal.Product.algebraic,
    trivial,
    Cert.FDwIdeal.Product.algebraic,
    trivial,
    Cert.SInIdeal.Product.algebraic,
    trivial,
    Cert.GluIdeal.Product.algebraic,
    trivial,
    Cert.SOutIdeal.Product.algebraic,
    trivial,
    Cert.FOutIdeal.Product.algebraic,
    trivial,
    Cert.FProjIdeal.Product.algebraic,
    trivial,
    Cert.GateBwdIdeal.Product.algebraic,
    trivial,
    Cert.CumBwdIdeal.Product.algebraic,
    trivial,
    Cert.CumFwdIdeal.Product.algebraic,
    trivial,
    Cert.MidNormsIdeal.Product.algebraic,
    trivial,
    Cert.LossHeadIdeal.Product.algebraic,
    IdealRules.named_const.statement Cert.KernelIdeal.κ "mask" .f32 0xF149F2CA#32 ⊥ rfl,
    Cert.Equation.algebraic⟩

end Cert.Proof

end
